-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelUpDw (m : (ℓ : Loc Cert.KernelUpDw.nD Cert.KernelUpDw.τ Cert.KernelUpDw.sig) → Buf (Elt Bits) ℓ) : Prop :=
  True

def Pre_KernelUpDwIdeal (m : (ℓ : Loc Cert.KernelUpDwIdeal.nD Cert.KernelUpDwIdeal.τ Cert.KernelUpDwIdeal.sig) → Buf (Elt Ideal) ℓ) : Prop :=
  True

def Pre_ReferenceUpDwIdeal (m : (ℓ : Loc Cert.ReferenceUpDwIdeal.nD Cert.ReferenceUpDwIdeal.τ Cert.ReferenceUpDwIdeal.sig) → Buf (Elt Ideal) ℓ) : Prop :=
  True

def Pre_KernelUpDx (m : (ℓ : Loc Cert.KernelUpDx.nD Cert.KernelUpDx.τ Cert.KernelUpDx.sig) → Buf (Elt Bits) ℓ) : Prop :=
  True

def Pre_KernelUpDxIdeal (m : (ℓ : Loc Cert.KernelUpDxIdeal.nD Cert.KernelUpDxIdeal.τ Cert.KernelUpDxIdeal.sig) → Buf (Elt Ideal) ℓ) : Prop :=
  True

def Pre_ReferenceUpDxIdeal (m : (ℓ : Loc Cert.ReferenceUpDxIdeal.nD Cert.ReferenceUpDxIdeal.τ Cert.ReferenceUpDxIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelDownDw (m : (ℓ : Loc Cert.KernelDownDw.nD Cert.KernelDownDw.τ Cert.KernelDownDw.sig) → Buf (Elt Bits) ℓ) : Prop :=
  True

def Pre_KernelDownDwIdeal (m : (ℓ : Loc Cert.KernelDownDwIdeal.nD Cert.KernelDownDwIdeal.τ Cert.KernelDownDwIdeal.sig) → Buf (Elt Ideal) ℓ) : Prop :=
  True

def Pre_ReferenceDownDwIdeal (m : (ℓ : Loc Cert.ReferenceDownDwIdeal.nD Cert.ReferenceDownDwIdeal.τ Cert.ReferenceDownDwIdeal.sig) → Buf (Elt Ideal) ℓ) : Prop :=
  True

def Pre_KernelDownDx (m : (ℓ : Loc Cert.KernelDownDx.nD Cert.KernelDownDx.τ Cert.KernelDownDx.sig) → Buf (Elt Bits) ℓ) : Prop :=
  True

def Pre_KernelDownDxIdeal (m : (ℓ : Loc Cert.KernelDownDxIdeal.nD Cert.KernelDownDxIdeal.τ Cert.KernelDownDxIdeal.sig) → Buf (Elt Ideal) ℓ) : Prop :=
  True

def Pre_ReferenceDownDxIdeal (m : (ℓ : Loc Cert.ReferenceDownDxIdeal.nD Cert.ReferenceDownDxIdeal.τ Cert.ReferenceDownDxIdeal.sig) → Buf (Elt Ideal) ℓ) : Prop :=
  True

def Pre_KernelUpFirst (m : (ℓ : Loc Cert.KernelUpFirst.nD Cert.KernelUpFirst.τ Cert.KernelUpFirst.sig) → Buf (Elt Bits) ℓ) : Prop :=
  True

def Pre_KernelUpFirstIdeal (m : (ℓ : Loc Cert.KernelUpFirstIdeal.nD Cert.KernelUpFirstIdeal.τ Cert.KernelUpFirstIdeal.sig) → Buf (Elt Ideal) ℓ) : Prop :=
  True

def Pre_ReferenceUpFirstIdeal (m : (ℓ : Loc Cert.ReferenceUpFirstIdeal.nD Cert.ReferenceUpFirstIdeal.τ Cert.ReferenceUpFirstIdeal.sig) → Buf (Elt Ideal) ℓ) : Prop :=
  True

def Pre_KernelUpFirstDw (m : (ℓ : Loc Cert.KernelUpFirstDw.nD Cert.KernelUpFirstDw.τ Cert.KernelUpFirstDw.sig) → Buf (Elt Bits) ℓ) : Prop :=
  True

def Pre_KernelUpFirstDwIdeal (m : (ℓ : Loc Cert.KernelUpFirstDwIdeal.nD Cert.KernelUpFirstDwIdeal.τ Cert.KernelUpFirstDwIdeal.sig) → Buf (Elt Ideal) ℓ) : Prop :=
  True

def Pre_ReferenceUpFirstDwIdeal (m : (ℓ : Loc Cert.ReferenceUpFirstDwIdeal.nD Cert.ReferenceUpFirstDwIdeal.τ Cert.ReferenceUpFirstDwIdeal.sig) → Buf (Elt Ideal) ℓ) : Prop :=
  True

def Pre_KernelUpFirstDx (m : (ℓ : Loc Cert.KernelUpFirstDx.nD Cert.KernelUpFirstDx.τ Cert.KernelUpFirstDx.sig) → Buf (Elt Bits) ℓ) : Prop :=
  True

def Pre_KernelUpFirstDxIdeal (m : (ℓ : Loc Cert.KernelUpFirstDxIdeal.nD Cert.KernelUpFirstDxIdeal.τ Cert.KernelUpFirstDxIdeal.sig) → Buf (Elt Ideal) ℓ) : Prop :=
  True

def Pre_ReferenceUpFirstDxIdeal (m : (ℓ : Loc Cert.ReferenceUpFirstDxIdeal.nD Cert.ReferenceUpFirstDxIdeal.τ Cert.ReferenceUpFirstDxIdeal.sig) → Buf (Elt Ideal) ℓ) : Prop :=
  True

def Pre_KernelDownFirst (m : (ℓ : Loc Cert.KernelDownFirst.nD Cert.KernelDownFirst.τ Cert.KernelDownFirst.sig) → Buf (Elt Bits) ℓ) : Prop :=
  True

def Pre_KernelDownFirstIdeal (m : (ℓ : Loc Cert.KernelDownFirstIdeal.nD Cert.KernelDownFirstIdeal.τ Cert.KernelDownFirstIdeal.sig) → Buf (Elt Ideal) ℓ) : Prop :=
  True

def Pre_ReferenceDownFirstIdeal (m : (ℓ : Loc Cert.ReferenceDownFirstIdeal.nD Cert.ReferenceDownFirstIdeal.τ Cert.ReferenceDownFirstIdeal.sig) → Buf (Elt Ideal) ℓ) : Prop :=
  True

def Pre_KernelDownFirstDw (m : (ℓ : Loc Cert.KernelDownFirstDw.nD Cert.KernelDownFirstDw.τ Cert.KernelDownFirstDw.sig) → Buf (Elt Bits) ℓ) : Prop :=
  True

def Pre_KernelDownFirstDwIdeal (m : (ℓ : Loc Cert.KernelDownFirstDwIdeal.nD Cert.KernelDownFirstDwIdeal.τ Cert.KernelDownFirstDwIdeal.sig) → Buf (Elt Ideal) ℓ) : Prop :=
  True

def Pre_ReferenceDownFirstDwIdeal (m : (ℓ : Loc Cert.ReferenceDownFirstDwIdeal.nD Cert.ReferenceDownFirstDwIdeal.τ Cert.ReferenceDownFirstDwIdeal.sig) → Buf (Elt Ideal) ℓ) : Prop :=
  True

def Pre_KernelDownFirstDx (m : (ℓ : Loc Cert.KernelDownFirstDx.nD Cert.KernelDownFirstDx.τ Cert.KernelDownFirstDx.sig) → Buf (Elt Bits) ℓ) : Prop :=
  True

def Pre_KernelDownFirstDxIdeal (m : (ℓ : Loc Cert.KernelDownFirstDxIdeal.nD Cert.KernelDownFirstDxIdeal.τ Cert.KernelDownFirstDxIdeal.sig) → Buf (Elt Ideal) ℓ) : Prop :=
  True

def Pre_ReferenceDownFirstDxIdeal (m : (ℓ : Loc Cert.ReferenceDownFirstDxIdeal.nD Cert.ReferenceDownFirstDxIdeal.τ Cert.ReferenceDownFirstDxIdeal.sig) → Buf (Elt Ideal) ℓ) : Prop :=
  True

def Pre_KernelCmIn (m : (ℓ : Loc Cert.KernelCmIn.nD Cert.KernelCmIn.τ Cert.KernelCmIn.sig) → Buf (Elt Bits) ℓ) : Prop :=
  True

def Pre_KernelCmInIdeal (m : (ℓ : Loc Cert.KernelCmInIdeal.nD Cert.KernelCmInIdeal.τ Cert.KernelCmInIdeal.sig) → Buf (Elt Ideal) ℓ) : Prop :=
  True

def Pre_ReferenceCmInIdeal (m : (ℓ : Loc Cert.ReferenceCmInIdeal.nD Cert.ReferenceCmInIdeal.τ Cert.ReferenceCmInIdeal.sig) → Buf (Elt Ideal) ℓ) : Prop :=
  True

def Pre_KernelCmInDw (m : (ℓ : Loc Cert.KernelCmInDw.nD Cert.KernelCmInDw.τ Cert.KernelCmInDw.sig) → Buf (Elt Bits) ℓ) : Prop :=
  True

def Pre_KernelCmInDwIdeal (m : (ℓ : Loc Cert.KernelCmInDwIdeal.nD Cert.KernelCmInDwIdeal.τ Cert.KernelCmInDwIdeal.sig) → Buf (Elt Ideal) ℓ) : Prop :=
  True

def Pre_ReferenceCmInDwIdeal (m : (ℓ : Loc Cert.ReferenceCmInDwIdeal.nD Cert.ReferenceCmInDwIdeal.τ Cert.ReferenceCmInDwIdeal.sig) → Buf (Elt Ideal) ℓ) : Prop :=
  True

def Pre_KernelCmInDx (m : (ℓ : Loc Cert.KernelCmInDx.nD Cert.KernelCmInDx.τ Cert.KernelCmInDx.sig) → Buf (Elt Bits) ℓ) : Prop :=
  True

def Pre_KernelCmInDxIdeal (m : (ℓ : Loc Cert.KernelCmInDxIdeal.nD Cert.KernelCmInDxIdeal.τ Cert.KernelCmInDxIdeal.sig) → Buf (Elt Ideal) ℓ) : Prop :=
  True

def Pre_ReferenceCmInDxIdeal (m : (ℓ : Loc Cert.ReferenceCmInDxIdeal.nD Cert.ReferenceCmInDxIdeal.τ Cert.ReferenceCmInDxIdeal.sig) → Buf (Elt Ideal) ℓ) : Prop :=
  True

def Pre_KernelCmOut (m : (ℓ : Loc Cert.KernelCmOut.nD Cert.KernelCmOut.τ Cert.KernelCmOut.sig) → Buf (Elt Bits) ℓ) : Prop :=
  True

def Pre_KernelCmOutIdeal (m : (ℓ : Loc Cert.KernelCmOutIdeal.nD Cert.KernelCmOutIdeal.τ Cert.KernelCmOutIdeal.sig) → Buf (Elt Ideal) ℓ) : Prop :=
  True

def Pre_ReferenceCmOutIdeal (m : (ℓ : Loc Cert.ReferenceCmOutIdeal.nD Cert.ReferenceCmOutIdeal.τ Cert.ReferenceCmOutIdeal.sig) → Buf (Elt Ideal) ℓ) : Prop :=
  True

def Pre_KernelCmOutDw (m : (ℓ : Loc Cert.KernelCmOutDw.nD Cert.KernelCmOutDw.τ Cert.KernelCmOutDw.sig) → Buf (Elt Bits) ℓ) : Prop :=
  True

def Pre_KernelCmOutDwIdeal (m : (ℓ : Loc Cert.KernelCmOutDwIdeal.nD Cert.KernelCmOutDwIdeal.τ Cert.KernelCmOutDwIdeal.sig) → Buf (Elt Ideal) ℓ) : Prop :=
  True

def Pre_ReferenceCmOutDwIdeal (m : (ℓ : Loc Cert.ReferenceCmOutDwIdeal.nD Cert.ReferenceCmOutDwIdeal.τ Cert.ReferenceCmOutDwIdeal.sig) → Buf (Elt Ideal) ℓ) : Prop :=
  True

def Pre_KernelCmOutDx (m : (ℓ : Loc Cert.KernelCmOutDx.nD Cert.KernelCmOutDx.τ Cert.KernelCmOutDx.sig) → Buf (Elt Bits) ℓ) : Prop :=
  True

def Pre_KernelCmOutDxIdeal (m : (ℓ : Loc Cert.KernelCmOutDxIdeal.nD Cert.KernelCmOutDxIdeal.τ Cert.KernelCmOutDxIdeal.sig) → Buf (Elt Ideal) ℓ) : Prop :=
  True

def Pre_ReferenceCmOutDxIdeal (m : (ℓ : Loc Cert.ReferenceCmOutDxIdeal.nD Cert.ReferenceCmOutDxIdeal.τ Cert.ReferenceCmOutDxIdeal.sig) → Buf (Elt Ideal) ℓ) : Prop :=
  True

def Pre_KernelCmInFirst (m : (ℓ : Loc Cert.KernelCmInFirst.nD Cert.KernelCmInFirst.τ Cert.KernelCmInFirst.sig) → Buf (Elt Bits) ℓ) : Prop :=
  True

def Pre_KernelCmInFirstIdeal (m : (ℓ : Loc Cert.KernelCmInFirstIdeal.nD Cert.KernelCmInFirstIdeal.τ Cert.KernelCmInFirstIdeal.sig) → Buf (Elt Ideal) ℓ) : Prop :=
  True

def Pre_ReferenceCmInFirstIdeal (m : (ℓ : Loc Cert.ReferenceCmInFirstIdeal.nD Cert.ReferenceCmInFirstIdeal.τ Cert.ReferenceCmInFirstIdeal.sig) → Buf (Elt Ideal) ℓ) : Prop :=
  True

def Pre_KernelCmInFirstDw (m : (ℓ : Loc Cert.KernelCmInFirstDw.nD Cert.KernelCmInFirstDw.τ Cert.KernelCmInFirstDw.sig) → Buf (Elt Bits) ℓ) : Prop :=
  True

def Pre_KernelCmInFirstDwIdeal (m : (ℓ : Loc Cert.KernelCmInFirstDwIdeal.nD Cert.KernelCmInFirstDwIdeal.τ Cert.KernelCmInFirstDwIdeal.sig) → Buf (Elt Ideal) ℓ) : Prop :=
  True

def Pre_ReferenceCmInFirstDwIdeal (m : (ℓ : Loc Cert.ReferenceCmInFirstDwIdeal.nD Cert.ReferenceCmInFirstDwIdeal.τ Cert.ReferenceCmInFirstDwIdeal.sig) → Buf (Elt Ideal) ℓ) : Prop :=
  True

def Pre_KernelCmInFirstDx (m : (ℓ : Loc Cert.KernelCmInFirstDx.nD Cert.KernelCmInFirstDx.τ Cert.KernelCmInFirstDx.sig) → Buf (Elt Bits) ℓ) : Prop :=
  True

def Pre_KernelCmInFirstDxIdeal (m : (ℓ : Loc Cert.KernelCmInFirstDxIdeal.nD Cert.KernelCmInFirstDxIdeal.τ Cert.KernelCmInFirstDxIdeal.sig) → Buf (Elt Ideal) ℓ) : Prop :=
  True

def Pre_ReferenceCmInFirstDxIdeal (m : (ℓ : Loc Cert.ReferenceCmInFirstDxIdeal.nD Cert.ReferenceCmInFirstDxIdeal.τ Cert.ReferenceCmInFirstDxIdeal.sig) → Buf (Elt Ideal) ℓ) : Prop :=
  True

def Pre_KernelCmOutFirst (m : (ℓ : Loc Cert.KernelCmOutFirst.nD Cert.KernelCmOutFirst.τ Cert.KernelCmOutFirst.sig) → Buf (Elt Bits) ℓ) : Prop :=
  True

def Pre_KernelCmOutFirstIdeal (m : (ℓ : Loc Cert.KernelCmOutFirstIdeal.nD Cert.KernelCmOutFirstIdeal.τ Cert.KernelCmOutFirstIdeal.sig) → Buf (Elt Ideal) ℓ) : Prop :=
  True

def Pre_ReferenceCmOutFirstIdeal (m : (ℓ : Loc Cert.ReferenceCmOutFirstIdeal.nD Cert.ReferenceCmOutFirstIdeal.τ Cert.ReferenceCmOutFirstIdeal.sig) → Buf (Elt Ideal) ℓ) : Prop :=
  True

def Pre_KernelCmOutFirstDw (m : (ℓ : Loc Cert.KernelCmOutFirstDw.nD Cert.KernelCmOutFirstDw.τ Cert.KernelCmOutFirstDw.sig) → Buf (Elt Bits) ℓ) : Prop :=
  True

def Pre_KernelCmOutFirstDwIdeal (m : (ℓ : Loc Cert.KernelCmOutFirstDwIdeal.nD Cert.KernelCmOutFirstDwIdeal.τ Cert.KernelCmOutFirstDwIdeal.sig) → Buf (Elt Ideal) ℓ) : Prop :=
  True

def Pre_ReferenceCmOutFirstDwIdeal (m : (ℓ : Loc Cert.ReferenceCmOutFirstDwIdeal.nD Cert.ReferenceCmOutFirstDwIdeal.τ Cert.ReferenceCmOutFirstDwIdeal.sig) → Buf (Elt Ideal) ℓ) : Prop :=
  True

def Pre_KernelCmOutFirstDx (m : (ℓ : Loc Cert.KernelCmOutFirstDx.nD Cert.KernelCmOutFirstDx.τ Cert.KernelCmOutFirstDx.sig) → Buf (Elt Bits) ℓ) : Prop :=
  True

def Pre_KernelCmOutFirstDxIdeal (m : (ℓ : Loc Cert.KernelCmOutFirstDxIdeal.nD Cert.KernelCmOutFirstDxIdeal.τ Cert.KernelCmOutFirstDxIdeal.sig) → Buf (Elt Ideal) ℓ) : Prop :=
  True

def Pre_ReferenceCmOutFirstDxIdeal (m : (ℓ : Loc Cert.ReferenceCmOutFirstDxIdeal.nD Cert.ReferenceCmOutFirstDxIdeal.τ Cert.ReferenceCmOutFirstDxIdeal.sig) → Buf (Elt Ideal) ℓ) : Prop :=
  True

def Pre_KernelQkv (m : (ℓ : Loc Cert.KernelQkv.nD Cert.KernelQkv.τ Cert.KernelQkv.sig) → Buf (Elt Bits) ℓ) : Prop :=
  True

def Pre_KernelQkvIdeal (m : (ℓ : Loc Cert.KernelQkvIdeal.nD Cert.KernelQkvIdeal.τ Cert.KernelQkvIdeal.sig) → Buf (Elt Ideal) ℓ) : Prop :=
  True

def Pre_ReferenceQkvIdeal (m : (ℓ : Loc Cert.ReferenceQkvIdeal.nD Cert.ReferenceQkvIdeal.τ Cert.ReferenceQkvIdeal.sig) → Buf (Elt Ideal) ℓ) : Prop :=
  True

def Pre_KernelQkvDw (m : (ℓ : Loc Cert.KernelQkvDw.nD Cert.KernelQkvDw.τ Cert.KernelQkvDw.sig) → Buf (Elt Bits) ℓ) : Prop :=
  True

def Pre_KernelQkvDwIdeal (m : (ℓ : Loc Cert.KernelQkvDwIdeal.nD Cert.KernelQkvDwIdeal.τ Cert.KernelQkvDwIdeal.sig) → Buf (Elt Ideal) ℓ) : Prop :=
  True

def Pre_ReferenceQkvDwIdeal (m : (ℓ : Loc Cert.ReferenceQkvDwIdeal.nD Cert.ReferenceQkvDwIdeal.τ Cert.ReferenceQkvDwIdeal.sig) → Buf (Elt Ideal) ℓ) : Prop :=
  True

def Pre_KernelQkvDx (m : (ℓ : Loc Cert.KernelQkvDx.nD Cert.KernelQkvDx.τ Cert.KernelQkvDx.sig) → Buf (Elt Bits) ℓ) : Prop :=
  True

def Pre_KernelQkvDxIdeal (m : (ℓ : Loc Cert.KernelQkvDxIdeal.nD Cert.KernelQkvDxIdeal.τ Cert.KernelQkvDxIdeal.sig) → Buf (Elt Ideal) ℓ) : Prop :=
  True

def Pre_ReferenceQkvDxIdeal (m : (ℓ : Loc Cert.ReferenceQkvDxIdeal.nD Cert.ReferenceQkvDxIdeal.τ Cert.ReferenceQkvDxIdeal.sig) → Buf (Elt Ideal) ℓ) : Prop :=
  True

def Pre_KernelGmIn (m : (ℓ : Loc Cert.KernelGmIn.nD Cert.KernelGmIn.τ Cert.KernelGmIn.sig) → Buf (Elt Bits) ℓ) : Prop :=
  True

def Pre_KernelGmInIdeal (m : (ℓ : Loc Cert.KernelGmInIdeal.nD Cert.KernelGmInIdeal.τ Cert.KernelGmInIdeal.sig) → Buf (Elt Ideal) ℓ) : Prop :=
  True

def Pre_ReferenceGmInIdeal (m : (ℓ : Loc Cert.ReferenceGmInIdeal.nD Cert.ReferenceGmInIdeal.τ Cert.ReferenceGmInIdeal.sig) → Buf (Elt Ideal) ℓ) : Prop :=
  True

def Pre_KernelGmInDw (m : (ℓ : Loc Cert.KernelGmInDw.nD Cert.KernelGmInDw.τ Cert.KernelGmInDw.sig) → Buf (Elt Bits) ℓ) : Prop :=
  True

def Pre_KernelGmInDwIdeal (m : (ℓ : Loc Cert.KernelGmInDwIdeal.nD Cert.KernelGmInDwIdeal.τ Cert.KernelGmInDwIdeal.sig) → Buf (Elt Ideal) ℓ) : Prop :=
  True

def Pre_ReferenceGmInDwIdeal (m : (ℓ : Loc Cert.ReferenceGmInDwIdeal.nD Cert.ReferenceGmInDwIdeal.τ Cert.ReferenceGmInDwIdeal.sig) → Buf (Elt Ideal) ℓ) : Prop :=
  True

def Pre_KernelGmInDx (m : (ℓ : Loc Cert.KernelGmInDx.nD Cert.KernelGmInDx.τ Cert.KernelGmInDx.sig) → Buf (Elt Bits) ℓ) : Prop :=
  True

def Pre_KernelGmInDxIdeal (m : (ℓ : Loc Cert.KernelGmInDxIdeal.nD Cert.KernelGmInDxIdeal.τ Cert.KernelGmInDxIdeal.sig) → Buf (Elt Ideal) ℓ) : Prop :=
  True

def Pre_ReferenceGmInDxIdeal (m : (ℓ : Loc Cert.ReferenceGmInDxIdeal.nD Cert.ReferenceGmInDxIdeal.τ Cert.ReferenceGmInDxIdeal.sig) → Buf (Elt Ideal) ℓ) : Prop :=
  True

def Pre_KernelGmOut (m : (ℓ : Loc Cert.KernelGmOut.nD Cert.KernelGmOut.τ Cert.KernelGmOut.sig) → Buf (Elt Bits) ℓ) : Prop :=
  True

def Pre_KernelGmOutIdeal (m : (ℓ : Loc Cert.KernelGmOutIdeal.nD Cert.KernelGmOutIdeal.τ Cert.KernelGmOutIdeal.sig) → Buf (Elt Ideal) ℓ) : Prop :=
  True

def Pre_ReferenceGmOutIdeal (m : (ℓ : Loc Cert.ReferenceGmOutIdeal.nD Cert.ReferenceGmOutIdeal.τ Cert.ReferenceGmOutIdeal.sig) → Buf (Elt Ideal) ℓ) : Prop :=
  True

def Pre_KernelGmOutDw (m : (ℓ : Loc Cert.KernelGmOutDw.nD Cert.KernelGmOutDw.τ Cert.KernelGmOutDw.sig) → Buf (Elt Bits) ℓ) : Prop :=
  True

def Pre_KernelGmOutDwIdeal (m : (ℓ : Loc Cert.KernelGmOutDwIdeal.nD Cert.KernelGmOutDwIdeal.τ Cert.KernelGmOutDwIdeal.sig) → Buf (Elt Ideal) ℓ) : Prop :=
  True

def Pre_ReferenceGmOutDwIdeal (m : (ℓ : Loc Cert.ReferenceGmOutDwIdeal.nD Cert.ReferenceGmOutDwIdeal.τ Cert.ReferenceGmOutDwIdeal.sig) → Buf (Elt Ideal) ℓ) : Prop :=
  True

def Pre_KernelGmOutDx (m : (ℓ : Loc Cert.KernelGmOutDx.nD Cert.KernelGmOutDx.τ Cert.KernelGmOutDx.sig) → Buf (Elt Bits) ℓ) : Prop :=
  True

def Pre_KernelGmOutDxIdeal (m : (ℓ : Loc Cert.KernelGmOutDxIdeal.nD Cert.KernelGmOutDxIdeal.τ Cert.KernelGmOutDxIdeal.sig) → Buf (Elt Ideal) ℓ) : Prop :=
  True

def Pre_ReferenceGmOutDxIdeal (m : (ℓ : Loc Cert.ReferenceGmOutDxIdeal.nD Cert.ReferenceGmOutDxIdeal.τ Cert.ReferenceGmOutDxIdeal.sig) → Buf (Elt Ideal) ℓ) : Prop :=
  True

def Pre_KernelAttnOutDx (m : (ℓ : Loc Cert.KernelAttnOutDx.nD Cert.KernelAttnOutDx.τ Cert.KernelAttnOutDx.sig) → Buf (Elt Bits) ℓ) : Prop :=
  True

def Pre_KernelAttnOutDxIdeal (m : (ℓ : Loc Cert.KernelAttnOutDxIdeal.nD Cert.KernelAttnOutDxIdeal.τ Cert.KernelAttnOutDxIdeal.sig) → Buf (Elt Ideal) ℓ) : Prop :=
  True

def Pre_ReferenceAttnOutDxIdeal (m : (ℓ : Loc Cert.ReferenceAttnOutDxIdeal.nD Cert.ReferenceAttnOutDxIdeal.τ Cert.ReferenceAttnOutDxIdeal.sig) → Buf (Elt Ideal) ℓ) : Prop :=
  True

def Pre_KernelPre (m : (ℓ : Loc Cert.KernelPre.nD Cert.KernelPre.τ Cert.KernelPre.sig) → Buf (Elt Bits) ℓ) : Prop :=
  True

def Pre_KernelPreIdeal (m : (ℓ : Loc Cert.KernelPreIdeal.nD Cert.KernelPreIdeal.τ Cert.KernelPreIdeal.sig) → Buf (Elt Ideal) ℓ) : Prop :=
  True

def Pre_ReferencePreIdeal (m : (ℓ : Loc Cert.ReferencePreIdeal.nD Cert.ReferencePreIdeal.τ Cert.ReferencePreIdeal.sig) → Buf (Elt Ideal) ℓ) : Prop :=
  True

def Pre_KernelPost (m : (ℓ : Loc Cert.KernelPost.nD Cert.KernelPost.τ Cert.KernelPost.sig) → Buf (Elt Bits) ℓ) : Prop :=
  True

def Pre_KernelPostIdeal (m : (ℓ : Loc Cert.KernelPostIdeal.nD Cert.KernelPostIdeal.τ Cert.KernelPostIdeal.sig) → Buf (Elt Ideal) ℓ) : Prop :=
  True

def Pre_ReferencePostIdeal (m : (ℓ : Loc Cert.ReferencePostIdeal.nD Cert.ReferencePostIdeal.τ Cert.ReferencePostIdeal.sig) → Buf (Elt Ideal) ℓ) : Prop :=
  True

def Pre_KernelLnSilu (m : (ℓ : Loc Cert.KernelLnSilu.nD Cert.KernelLnSilu.τ Cert.KernelLnSilu.sig) → Buf (Elt Bits) ℓ) : Prop :=
  True

def Pre_KernelLnSiluIdeal (m : (ℓ : Loc Cert.KernelLnSiluIdeal.nD Cert.KernelLnSiluIdeal.τ Cert.KernelLnSiluIdeal.sig) → Buf (Elt Ideal) ℓ) : Prop :=
  True

def Pre_ReferenceLnSiluIdeal (m : (ℓ : Loc Cert.ReferenceLnSiluIdeal.nD Cert.ReferenceLnSiluIdeal.τ Cert.ReferenceLnSiluIdeal.sig) → Buf (Elt Ideal) ℓ) : Prop :=
  True

def Pre_KernelGmlp (m : (ℓ : Loc Cert.KernelGmlp.nD Cert.KernelGmlp.τ Cert.KernelGmlp.sig) → Buf (Elt Bits) ℓ) : Prop :=
  True

def Pre_KernelGmlpIdeal (m : (ℓ : Loc Cert.KernelGmlpIdeal.nD Cert.KernelGmlpIdeal.τ Cert.KernelGmlpIdeal.sig) → Buf (Elt Ideal) ℓ) : Prop :=
  True

def Pre_ReferenceGmlpIdeal (m : (ℓ : Loc Cert.ReferenceGmlpIdeal.nD Cert.ReferenceGmlpIdeal.τ Cert.ReferenceGmlpIdeal.sig) → Buf (Elt Ideal) ℓ) : Prop :=
  True

def Pre_KernelRope (m : (ℓ : Loc Cert.KernelRope.nD Cert.KernelRope.τ Cert.KernelRope.sig) → Buf (Elt Bits) ℓ) : Prop :=
  True

def Pre_KernelRopeIdeal (m : (ℓ : Loc Cert.KernelRopeIdeal.nD Cert.KernelRopeIdeal.τ Cert.KernelRopeIdeal.sig) → Buf (Elt Ideal) ℓ) : Prop :=
  True

def Pre_ReferenceRopeIdeal (m : (ℓ : Loc Cert.ReferenceRopeIdeal.nD Cert.ReferenceRopeIdeal.τ Cert.ReferenceRopeIdeal.sig) → Buf (Elt Ideal) ℓ) : Prop :=
  True

def Pre_KernelAda (m : (ℓ : Loc Cert.KernelAda.nD Cert.KernelAda.τ Cert.KernelAda.sig) → Buf (Elt Bits) ℓ) : Prop :=
  True

def Pre_KernelAdaIdeal (m : (ℓ : Loc Cert.KernelAdaIdeal.nD Cert.KernelAdaIdeal.τ Cert.KernelAdaIdeal.sig) → Buf (Elt Ideal) ℓ) : Prop :=
  True

def Pre_ReferenceAdaIdeal (m : (ℓ : Loc Cert.ReferenceAdaIdeal.nD Cert.ReferenceAdaIdeal.τ Cert.ReferenceAdaIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelUpDw [hKernelUpDw : Cert.KernelUpDw.Facts] : Prop :=
  ∀ (m : (ℓ : Loc Cert.KernelUpDw.nD Cert.KernelUpDw.τ Cert.KernelUpDw.sig) → Buf (Elt Bits) ℓ) (g : Dev Cert.KernelUpDw.nD → PrngReg), Pre_KernelUpDw m →
    θ_run (Cert.KernelUpDw.defs (F := Bits)) (onTc (τ := Cert.KernelUpDw.τ) (Cert.KernelUpDw.main (F := Bits))) ⟨m, fun _ => 0, g⟩ (fun r => (∀ c : Dev Cert.KernelUpDw.nD,
      r.2.mem ((c.tc : Thread Cert.KernelUpDw.nD Cert.KernelUpDw.τ).loc Cert.KernelUpDw.main_arg0) = m ((c.tc : Thread Cert.KernelUpDw.nD Cert.KernelUpDw.τ).loc Cert.KernelUpDw.main_arg0)
      ∧ r.2.mem ((c.tc : Thread Cert.KernelUpDw.nD Cert.KernelUpDw.τ).loc Cert.KernelUpDw.main_arg1) = m ((c.tc : Thread Cert.KernelUpDw.nD Cert.KernelUpDw.τ).loc Cert.KernelUpDw.main_arg1))
      ∧ r.2.sem = fun _ => 0)

def quiescent_KernelUpDwIdeal [hKernelUpDwIdeal : Cert.KernelUpDwIdeal.Facts] : Prop :=
  ∀ (m : (ℓ : Loc Cert.KernelUpDwIdeal.nD Cert.KernelUpDwIdeal.τ Cert.KernelUpDwIdeal.sig) → Buf (Elt Ideal) ℓ) (g : Dev Cert.KernelUpDwIdeal.nD → PrngReg), Pre_KernelUpDwIdeal m →
    θ_run (Cert.KernelUpDwIdeal.defs (F := Ideal)) (onTc (τ := Cert.KernelUpDwIdeal.τ) (Cert.KernelUpDwIdeal.main (F := Ideal))) ⟨m, fun _ => 0, g⟩ (fun r => (∀ c : Dev Cert.KernelUpDwIdeal.nD,
      r.2.mem ((c.tc : Thread Cert.KernelUpDwIdeal.nD Cert.KernelUpDwIdeal.τ).loc Cert.KernelUpDwIdeal.main_arg0) = m ((c.tc : Thread Cert.KernelUpDwIdeal.nD Cert.KernelUpDwIdeal.τ).loc Cert.KernelUpDwIdeal.main_arg0)
      ∧ r.2.mem ((c.tc : Thread Cert.KernelUpDwIdeal.nD Cert.KernelUpDwIdeal.τ).loc Cert.KernelUpDwIdeal.main_arg1) = m ((c.tc : Thread Cert.KernelUpDwIdeal.nD Cert.KernelUpDwIdeal.τ).loc Cert.KernelUpDwIdeal.main_arg1))
      ∧ r.2.sem = fun _ => 0)

def quiescent_ReferenceUpDwIdeal [hReferenceUpDwIdeal : Cert.ReferenceUpDwIdeal.Facts] : Prop :=
  ∀ (m : (ℓ : Loc Cert.ReferenceUpDwIdeal.nD Cert.ReferenceUpDwIdeal.τ Cert.ReferenceUpDwIdeal.sig) → Buf (Elt Ideal) ℓ) (g : Dev Cert.ReferenceUpDwIdeal.nD → PrngReg), Pre_ReferenceUpDwIdeal m →
    θ_run (Cert.ReferenceUpDwIdeal.defs (F := Ideal)) (onTc (τ := Cert.ReferenceUpDwIdeal.τ) (Cert.ReferenceUpDwIdeal.main (F := Ideal))) ⟨m, fun _ => 0, g⟩ (fun r => (∀ c : Dev Cert.ReferenceUpDwIdeal.nD,
      r.2.mem ((c.tc : Thread Cert.ReferenceUpDwIdeal.nD Cert.ReferenceUpDwIdeal.τ).loc Cert.ReferenceUpDwIdeal.main_arg0) = m ((c.tc : Thread Cert.ReferenceUpDwIdeal.nD Cert.ReferenceUpDwIdeal.τ).loc Cert.ReferenceUpDwIdeal.main_arg0)
      ∧ r.2.mem ((c.tc : Thread Cert.ReferenceUpDwIdeal.nD Cert.ReferenceUpDwIdeal.τ).loc Cert.ReferenceUpDwIdeal.main_arg1) = m ((c.tc : Thread Cert.ReferenceUpDwIdeal.nD Cert.ReferenceUpDwIdeal.τ).loc Cert.ReferenceUpDwIdeal.main_arg1))
      ∧ r.2.sem = fun _ => 0)

def quiescent_KernelUpDx [hKernelUpDx : Cert.KernelUpDx.Facts] : Prop :=
  ∀ (m : (ℓ : Loc Cert.KernelUpDx.nD Cert.KernelUpDx.τ Cert.KernelUpDx.sig) → Buf (Elt Bits) ℓ) (g : Dev Cert.KernelUpDx.nD → PrngReg), Pre_KernelUpDx m →
    θ_run (Cert.KernelUpDx.defs (F := Bits)) (onTc (τ := Cert.KernelUpDx.τ) (Cert.KernelUpDx.main (F := Bits))) ⟨m, fun _ => 0, g⟩ (fun r => (∀ c : Dev Cert.KernelUpDx.nD,
      r.2.mem ((c.tc : Thread Cert.KernelUpDx.nD Cert.KernelUpDx.τ).loc Cert.KernelUpDx.main_arg0) = m ((c.tc : Thread Cert.KernelUpDx.nD Cert.KernelUpDx.τ).loc Cert.KernelUpDx.main_arg0)
      ∧ r.2.mem ((c.tc : Thread Cert.KernelUpDx.nD Cert.KernelUpDx.τ).loc Cert.KernelUpDx.main_arg1) = m ((c.tc : Thread Cert.KernelUpDx.nD Cert.KernelUpDx.τ).loc Cert.KernelUpDx.main_arg1))
      ∧ r.2.sem = fun _ => 0)

def quiescent_KernelUpDxIdeal [hKernelUpDxIdeal : Cert.KernelUpDxIdeal.Facts] : Prop :=
  ∀ (m : (ℓ : Loc Cert.KernelUpDxIdeal.nD Cert.KernelUpDxIdeal.τ Cert.KernelUpDxIdeal.sig) → Buf (Elt Ideal) ℓ) (g : Dev Cert.KernelUpDxIdeal.nD → PrngReg), Pre_KernelUpDxIdeal m →
    θ_run (Cert.KernelUpDxIdeal.defs (F := Ideal)) (onTc (τ := Cert.KernelUpDxIdeal.τ) (Cert.KernelUpDxIdeal.main (F := Ideal))) ⟨m, fun _ => 0, g⟩ (fun r => (∀ c : Dev Cert.KernelUpDxIdeal.nD,
      r.2.mem ((c.tc : Thread Cert.KernelUpDxIdeal.nD Cert.KernelUpDxIdeal.τ).loc Cert.KernelUpDxIdeal.main_arg0) = m ((c.tc : Thread Cert.KernelUpDxIdeal.nD Cert.KernelUpDxIdeal.τ).loc Cert.KernelUpDxIdeal.main_arg0)
      ∧ r.2.mem ((c.tc : Thread Cert.KernelUpDxIdeal.nD Cert.KernelUpDxIdeal.τ).loc Cert.KernelUpDxIdeal.main_arg1) = m ((c.tc : Thread Cert.KernelUpDxIdeal.nD Cert.KernelUpDxIdeal.τ).loc Cert.KernelUpDxIdeal.main_arg1))
      ∧ r.2.sem = fun _ => 0)

def quiescent_ReferenceUpDxIdeal [hReferenceUpDxIdeal : Cert.ReferenceUpDxIdeal.Facts] : Prop :=
  ∀ (m : (ℓ : Loc Cert.ReferenceUpDxIdeal.nD Cert.ReferenceUpDxIdeal.τ Cert.ReferenceUpDxIdeal.sig) → Buf (Elt Ideal) ℓ) (g : Dev Cert.ReferenceUpDxIdeal.nD → PrngReg), Pre_ReferenceUpDxIdeal m →
    θ_run (Cert.ReferenceUpDxIdeal.defs (F := Ideal)) (onTc (τ := Cert.ReferenceUpDxIdeal.τ) (Cert.ReferenceUpDxIdeal.main (F := Ideal))) ⟨m, fun _ => 0, g⟩ (fun r => (∀ c : Dev Cert.ReferenceUpDxIdeal.nD,
      r.2.mem ((c.tc : Thread Cert.ReferenceUpDxIdeal.nD Cert.ReferenceUpDxIdeal.τ).loc Cert.ReferenceUpDxIdeal.main_arg0) = m ((c.tc : Thread Cert.ReferenceUpDxIdeal.nD Cert.ReferenceUpDxIdeal.τ).loc Cert.ReferenceUpDxIdeal.main_arg0)
      ∧ r.2.mem ((c.tc : Thread Cert.ReferenceUpDxIdeal.nD Cert.ReferenceUpDxIdeal.τ).loc Cert.ReferenceUpDxIdeal.main_arg1) = m ((c.tc : Thread Cert.ReferenceUpDxIdeal.nD Cert.ReferenceUpDxIdeal.τ).loc Cert.ReferenceUpDxIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelDownDw [hKernelDownDw : Cert.KernelDownDw.Facts] : Prop :=
  ∀ (m : (ℓ : Loc Cert.KernelDownDw.nD Cert.KernelDownDw.τ Cert.KernelDownDw.sig) → Buf (Elt Bits) ℓ) (g : Dev Cert.KernelDownDw.nD → PrngReg), Pre_KernelDownDw m →
    θ_run (Cert.KernelDownDw.defs (F := Bits)) (onTc (τ := Cert.KernelDownDw.τ) (Cert.KernelDownDw.main (F := Bits))) ⟨m, fun _ => 0, g⟩ (fun r => (∀ c : Dev Cert.KernelDownDw.nD,
      r.2.mem ((c.tc : Thread Cert.KernelDownDw.nD Cert.KernelDownDw.τ).loc Cert.KernelDownDw.main_arg0) = m ((c.tc : Thread Cert.KernelDownDw.nD Cert.KernelDownDw.τ).loc Cert.KernelDownDw.main_arg0)
      ∧ r.2.mem ((c.tc : Thread Cert.KernelDownDw.nD Cert.KernelDownDw.τ).loc Cert.KernelDownDw.main_arg1) = m ((c.tc : Thread Cert.KernelDownDw.nD Cert.KernelDownDw.τ).loc Cert.KernelDownDw.main_arg1))
      ∧ r.2.sem = fun _ => 0)

def quiescent_KernelDownDwIdeal [hKernelDownDwIdeal : Cert.KernelDownDwIdeal.Facts] : Prop :=
  ∀ (m : (ℓ : Loc Cert.KernelDownDwIdeal.nD Cert.KernelDownDwIdeal.τ Cert.KernelDownDwIdeal.sig) → Buf (Elt Ideal) ℓ) (g : Dev Cert.KernelDownDwIdeal.nD → PrngReg), Pre_KernelDownDwIdeal m →
    θ_run (Cert.KernelDownDwIdeal.defs (F := Ideal)) (onTc (τ := Cert.KernelDownDwIdeal.τ) (Cert.KernelDownDwIdeal.main (F := Ideal))) ⟨m, fun _ => 0, g⟩ (fun r => (∀ c : Dev Cert.KernelDownDwIdeal.nD,
      r.2.mem ((c.tc : Thread Cert.KernelDownDwIdeal.nD Cert.KernelDownDwIdeal.τ).loc Cert.KernelDownDwIdeal.main_arg0) = m ((c.tc : Thread Cert.KernelDownDwIdeal.nD Cert.KernelDownDwIdeal.τ).loc Cert.KernelDownDwIdeal.main_arg0)
      ∧ r.2.mem ((c.tc : Thread Cert.KernelDownDwIdeal.nD Cert.KernelDownDwIdeal.τ).loc Cert.KernelDownDwIdeal.main_arg1) = m ((c.tc : Thread Cert.KernelDownDwIdeal.nD Cert.KernelDownDwIdeal.τ).loc Cert.KernelDownDwIdeal.main_arg1))
      ∧ r.2.sem = fun _ => 0)

def quiescent_ReferenceDownDwIdeal [hReferenceDownDwIdeal : Cert.ReferenceDownDwIdeal.Facts] : Prop :=
  ∀ (m : (ℓ : Loc Cert.ReferenceDownDwIdeal.nD Cert.ReferenceDownDwIdeal.τ Cert.ReferenceDownDwIdeal.sig) → Buf (Elt Ideal) ℓ) (g : Dev Cert.ReferenceDownDwIdeal.nD → PrngReg), Pre_ReferenceDownDwIdeal m →
    θ_run (Cert.ReferenceDownDwIdeal.defs (F := Ideal)) (onTc (τ := Cert.ReferenceDownDwIdeal.τ) (Cert.ReferenceDownDwIdeal.main (F := Ideal))) ⟨m, fun _ => 0, g⟩ (fun r => (∀ c : Dev Cert.ReferenceDownDwIdeal.nD,
      r.2.mem ((c.tc : Thread Cert.ReferenceDownDwIdeal.nD Cert.ReferenceDownDwIdeal.τ).loc Cert.ReferenceDownDwIdeal.main_arg0) = m ((c.tc : Thread Cert.ReferenceDownDwIdeal.nD Cert.ReferenceDownDwIdeal.τ).loc Cert.ReferenceDownDwIdeal.main_arg0)
      ∧ r.2.mem ((c.tc : Thread Cert.ReferenceDownDwIdeal.nD Cert.ReferenceDownDwIdeal.τ).loc Cert.ReferenceDownDwIdeal.main_arg1) = m ((c.tc : Thread Cert.ReferenceDownDwIdeal.nD Cert.ReferenceDownDwIdeal.τ).loc Cert.ReferenceDownDwIdeal.main_arg1))
      ∧ r.2.sem = fun _ => 0)

def quiescent_KernelDownDx [hKernelDownDx : Cert.KernelDownDx.Facts] : Prop :=
  ∀ (m : (ℓ : Loc Cert.KernelDownDx.nD Cert.KernelDownDx.τ Cert.KernelDownDx.sig) → Buf (Elt Bits) ℓ) (g : Dev Cert.KernelDownDx.nD → PrngReg), Pre_KernelDownDx m →
    θ_run (Cert.KernelDownDx.defs (F := Bits)) (onTc (τ := Cert.KernelDownDx.τ) (Cert.KernelDownDx.main (F := Bits))) ⟨m, fun _ => 0, g⟩ (fun r => (∀ c : Dev Cert.KernelDownDx.nD,
      r.2.mem ((c.tc : Thread Cert.KernelDownDx.nD Cert.KernelDownDx.τ).loc Cert.KernelDownDx.main_arg0) = m ((c.tc : Thread Cert.KernelDownDx.nD Cert.KernelDownDx.τ).loc Cert.KernelDownDx.main_arg0)
      ∧ r.2.mem ((c.tc : Thread Cert.KernelDownDx.nD Cert.KernelDownDx.τ).loc Cert.KernelDownDx.main_arg1) = m ((c.tc : Thread Cert.KernelDownDx.nD Cert.KernelDownDx.τ).loc Cert.KernelDownDx.main_arg1))
      ∧ r.2.sem = fun _ => 0)

def quiescent_KernelDownDxIdeal [hKernelDownDxIdeal : Cert.KernelDownDxIdeal.Facts] : Prop :=
  ∀ (m : (ℓ : Loc Cert.KernelDownDxIdeal.nD Cert.KernelDownDxIdeal.τ Cert.KernelDownDxIdeal.sig) → Buf (Elt Ideal) ℓ) (g : Dev Cert.KernelDownDxIdeal.nD → PrngReg), Pre_KernelDownDxIdeal m →
    θ_run (Cert.KernelDownDxIdeal.defs (F := Ideal)) (onTc (τ := Cert.KernelDownDxIdeal.τ) (Cert.KernelDownDxIdeal.main (F := Ideal))) ⟨m, fun _ => 0, g⟩ (fun r => (∀ c : Dev Cert.KernelDownDxIdeal.nD,
      r.2.mem ((c.tc : Thread Cert.KernelDownDxIdeal.nD Cert.KernelDownDxIdeal.τ).loc Cert.KernelDownDxIdeal.main_arg0) = m ((c.tc : Thread Cert.KernelDownDxIdeal.nD Cert.KernelDownDxIdeal.τ).loc Cert.KernelDownDxIdeal.main_arg0)
      ∧ r.2.mem ((c.tc : Thread Cert.KernelDownDxIdeal.nD Cert.KernelDownDxIdeal.τ).loc Cert.KernelDownDxIdeal.main_arg1) = m ((c.tc : Thread Cert.KernelDownDxIdeal.nD Cert.KernelDownDxIdeal.τ).loc Cert.KernelDownDxIdeal.main_arg1))
      ∧ r.2.sem = fun _ => 0)

def quiescent_ReferenceDownDxIdeal [hReferenceDownDxIdeal : Cert.ReferenceDownDxIdeal.Facts] : Prop :=
  ∀ (m : (ℓ : Loc Cert.ReferenceDownDxIdeal.nD Cert.ReferenceDownDxIdeal.τ Cert.ReferenceDownDxIdeal.sig) → Buf (Elt Ideal) ℓ) (g : Dev Cert.ReferenceDownDxIdeal.nD → PrngReg), Pre_ReferenceDownDxIdeal m →
    θ_run (Cert.ReferenceDownDxIdeal.defs (F := Ideal)) (onTc (τ := Cert.ReferenceDownDxIdeal.τ) (Cert.ReferenceDownDxIdeal.main (F := Ideal))) ⟨m, fun _ => 0, g⟩ (fun r => (∀ c : Dev Cert.ReferenceDownDxIdeal.nD,
      r.2.mem ((c.tc : Thread Cert.ReferenceDownDxIdeal.nD Cert.ReferenceDownDxIdeal.τ).loc Cert.ReferenceDownDxIdeal.main_arg0) = m ((c.tc : Thread Cert.ReferenceDownDxIdeal.nD Cert.ReferenceDownDxIdeal.τ).loc Cert.ReferenceDownDxIdeal.main_arg0)
      ∧ r.2.mem ((c.tc : Thread Cert.ReferenceDownDxIdeal.nD Cert.ReferenceDownDxIdeal.τ).loc Cert.ReferenceDownDxIdeal.main_arg1) = m ((c.tc : Thread Cert.ReferenceDownDxIdeal.nD Cert.ReferenceDownDxIdeal.τ).loc Cert.ReferenceDownDxIdeal.main_arg1))
      ∧ r.2.sem = fun _ => 0)

def quiescent_KernelUpFirst [hKernelUpFirst : Cert.KernelUpFirst.Facts] : Prop :=
  ∀ (m : (ℓ : Loc Cert.KernelUpFirst.nD Cert.KernelUpFirst.τ Cert.KernelUpFirst.sig) → Buf (Elt Bits) ℓ) (g : Dev Cert.KernelUpFirst.nD → PrngReg), Pre_KernelUpFirst m →
    θ_run (Cert.KernelUpFirst.defs (F := Bits)) (onTc (τ := Cert.KernelUpFirst.τ) (Cert.KernelUpFirst.main (F := Bits))) ⟨m, fun _ => 0, g⟩ (fun r => (∀ c : Dev Cert.KernelUpFirst.nD,
      r.2.mem ((c.tc : Thread Cert.KernelUpFirst.nD Cert.KernelUpFirst.τ).loc Cert.KernelUpFirst.main_arg0) = m ((c.tc : Thread Cert.KernelUpFirst.nD Cert.KernelUpFirst.τ).loc Cert.KernelUpFirst.main_arg0)
      ∧ r.2.mem ((c.tc : Thread Cert.KernelUpFirst.nD Cert.KernelUpFirst.τ).loc Cert.KernelUpFirst.main_arg1) = m ((c.tc : Thread Cert.KernelUpFirst.nD Cert.KernelUpFirst.τ).loc Cert.KernelUpFirst.main_arg1))
      ∧ r.2.sem = fun _ => 0)

def quiescent_KernelUpFirstIdeal [hKernelUpFirstIdeal : Cert.KernelUpFirstIdeal.Facts] : Prop :=
  ∀ (m : (ℓ : Loc Cert.KernelUpFirstIdeal.nD Cert.KernelUpFirstIdeal.τ Cert.KernelUpFirstIdeal.sig) → Buf (Elt Ideal) ℓ) (g : Dev Cert.KernelUpFirstIdeal.nD → PrngReg), Pre_KernelUpFirstIdeal m →
    θ_run (Cert.KernelUpFirstIdeal.defs (F := Ideal)) (onTc (τ := Cert.KernelUpFirstIdeal.τ) (Cert.KernelUpFirstIdeal.main (F := Ideal))) ⟨m, fun _ => 0, g⟩ (fun r => (∀ c : Dev Cert.KernelUpFirstIdeal.nD,
      r.2.mem ((c.tc : Thread Cert.KernelUpFirstIdeal.nD Cert.KernelUpFirstIdeal.τ).loc Cert.KernelUpFirstIdeal.main_arg0) = m ((c.tc : Thread Cert.KernelUpFirstIdeal.nD Cert.KernelUpFirstIdeal.τ).loc Cert.KernelUpFirstIdeal.main_arg0)
      ∧ r.2.mem ((c.tc : Thread Cert.KernelUpFirstIdeal.nD Cert.KernelUpFirstIdeal.τ).loc Cert.KernelUpFirstIdeal.main_arg1) = m ((c.tc : Thread Cert.KernelUpFirstIdeal.nD Cert.KernelUpFirstIdeal.τ).loc Cert.KernelUpFirstIdeal.main_arg1))
      ∧ r.2.sem = fun _ => 0)

def quiescent_ReferenceUpFirstIdeal [hReferenceUpFirstIdeal : Cert.ReferenceUpFirstIdeal.Facts] : Prop :=
  ∀ (m : (ℓ : Loc Cert.ReferenceUpFirstIdeal.nD Cert.ReferenceUpFirstIdeal.τ Cert.ReferenceUpFirstIdeal.sig) → Buf (Elt Ideal) ℓ) (g : Dev Cert.ReferenceUpFirstIdeal.nD → PrngReg), Pre_ReferenceUpFirstIdeal m →
    θ_run (Cert.ReferenceUpFirstIdeal.defs (F := Ideal)) (onTc (τ := Cert.ReferenceUpFirstIdeal.τ) (Cert.ReferenceUpFirstIdeal.main (F := Ideal))) ⟨m, fun _ => 0, g⟩ (fun r => (∀ c : Dev Cert.ReferenceUpFirstIdeal.nD,
      r.2.mem ((c.tc : Thread Cert.ReferenceUpFirstIdeal.nD Cert.ReferenceUpFirstIdeal.τ).loc Cert.ReferenceUpFirstIdeal.main_arg0) = m ((c.tc : Thread Cert.ReferenceUpFirstIdeal.nD Cert.ReferenceUpFirstIdeal.τ).loc Cert.ReferenceUpFirstIdeal.main_arg0)
      ∧ r.2.mem ((c.tc : Thread Cert.ReferenceUpFirstIdeal.nD Cert.ReferenceUpFirstIdeal.τ).loc Cert.ReferenceUpFirstIdeal.main_arg1) = m ((c.tc : Thread Cert.ReferenceUpFirstIdeal.nD Cert.ReferenceUpFirstIdeal.τ).loc Cert.ReferenceUpFirstIdeal.main_arg1))
      ∧ r.2.sem = fun _ => 0)

def quiescent_KernelUpFirstDw [hKernelUpFirstDw : Cert.KernelUpFirstDw.Facts] : Prop :=
  ∀ (m : (ℓ : Loc Cert.KernelUpFirstDw.nD Cert.KernelUpFirstDw.τ Cert.KernelUpFirstDw.sig) → Buf (Elt Bits) ℓ) (g : Dev Cert.KernelUpFirstDw.nD → PrngReg), Pre_KernelUpFirstDw m →
    θ_run (Cert.KernelUpFirstDw.defs (F := Bits)) (onTc (τ := Cert.KernelUpFirstDw.τ) (Cert.KernelUpFirstDw.main (F := Bits))) ⟨m, fun _ => 0, g⟩ (fun r => (∀ c : Dev Cert.KernelUpFirstDw.nD,
      r.2.mem ((c.tc : Thread Cert.KernelUpFirstDw.nD Cert.KernelUpFirstDw.τ).loc Cert.KernelUpFirstDw.main_arg0) = m ((c.tc : Thread Cert.KernelUpFirstDw.nD Cert.KernelUpFirstDw.τ).loc Cert.KernelUpFirstDw.main_arg0)
      ∧ r.2.mem ((c.tc : Thread Cert.KernelUpFirstDw.nD Cert.KernelUpFirstDw.τ).loc Cert.KernelUpFirstDw.main_arg1) = m ((c.tc : Thread Cert.KernelUpFirstDw.nD Cert.KernelUpFirstDw.τ).loc Cert.KernelUpFirstDw.main_arg1))
      ∧ r.2.sem = fun _ => 0)

def quiescent_KernelUpFirstDwIdeal [hKernelUpFirstDwIdeal : Cert.KernelUpFirstDwIdeal.Facts] : Prop :=
  ∀ (m : (ℓ : Loc Cert.KernelUpFirstDwIdeal.nD Cert.KernelUpFirstDwIdeal.τ Cert.KernelUpFirstDwIdeal.sig) → Buf (Elt Ideal) ℓ) (g : Dev Cert.KernelUpFirstDwIdeal.nD → PrngReg), Pre_KernelUpFirstDwIdeal m →
    θ_run (Cert.KernelUpFirstDwIdeal.defs (F := Ideal)) (onTc (τ := Cert.KernelUpFirstDwIdeal.τ) (Cert.KernelUpFirstDwIdeal.main (F := Ideal))) ⟨m, fun _ => 0, g⟩ (fun r => (∀ c : Dev Cert.KernelUpFirstDwIdeal.nD,
      r.2.mem ((c.tc : Thread Cert.KernelUpFirstDwIdeal.nD Cert.KernelUpFirstDwIdeal.τ).loc Cert.KernelUpFirstDwIdeal.main_arg0) = m ((c.tc : Thread Cert.KernelUpFirstDwIdeal.nD Cert.KernelUpFirstDwIdeal.τ).loc Cert.KernelUpFirstDwIdeal.main_arg0)
      ∧ r.2.mem ((c.tc : Thread Cert.KernelUpFirstDwIdeal.nD Cert.KernelUpFirstDwIdeal.τ).loc Cert.KernelUpFirstDwIdeal.main_arg1) = m ((c.tc : Thread Cert.KernelUpFirstDwIdeal.nD Cert.KernelUpFirstDwIdeal.τ).loc Cert.KernelUpFirstDwIdeal.main_arg1))
      ∧ r.2.sem = fun _ => 0)

def quiescent_ReferenceUpFirstDwIdeal [hReferenceUpFirstDwIdeal : Cert.ReferenceUpFirstDwIdeal.Facts] : Prop :=
  ∀ (m : (ℓ : Loc Cert.ReferenceUpFirstDwIdeal.nD Cert.ReferenceUpFirstDwIdeal.τ Cert.ReferenceUpFirstDwIdeal.sig) → Buf (Elt Ideal) ℓ) (g : Dev Cert.ReferenceUpFirstDwIdeal.nD → PrngReg), Pre_ReferenceUpFirstDwIdeal m →
    θ_run (Cert.ReferenceUpFirstDwIdeal.defs (F := Ideal)) (onTc (τ := Cert.ReferenceUpFirstDwIdeal.τ) (Cert.ReferenceUpFirstDwIdeal.main (F := Ideal))) ⟨m, fun _ => 0, g⟩ (fun r => (∀ c : Dev Cert.ReferenceUpFirstDwIdeal.nD,
      r.2.mem ((c.tc : Thread Cert.ReferenceUpFirstDwIdeal.nD Cert.ReferenceUpFirstDwIdeal.τ).loc Cert.ReferenceUpFirstDwIdeal.main_arg0) = m ((c.tc : Thread Cert.ReferenceUpFirstDwIdeal.nD Cert.ReferenceUpFirstDwIdeal.τ).loc Cert.ReferenceUpFirstDwIdeal.main_arg0)
      ∧ r.2.mem ((c.tc : Thread Cert.ReferenceUpFirstDwIdeal.nD Cert.ReferenceUpFirstDwIdeal.τ).loc Cert.ReferenceUpFirstDwIdeal.main_arg1) = m ((c.tc : Thread Cert.ReferenceUpFirstDwIdeal.nD Cert.ReferenceUpFirstDwIdeal.τ).loc Cert.ReferenceUpFirstDwIdeal.main_arg1))
      ∧ r.2.sem = fun _ => 0)

def quiescent_KernelUpFirstDx [hKernelUpFirstDx : Cert.KernelUpFirstDx.Facts] : Prop :=
  ∀ (m : (ℓ : Loc Cert.KernelUpFirstDx.nD Cert.KernelUpFirstDx.τ Cert.KernelUpFirstDx.sig) → Buf (Elt Bits) ℓ) (g : Dev Cert.KernelUpFirstDx.nD → PrngReg), Pre_KernelUpFirstDx m →
    θ_run (Cert.KernelUpFirstDx.defs (F := Bits)) (onTc (τ := Cert.KernelUpFirstDx.τ) (Cert.KernelUpFirstDx.main (F := Bits))) ⟨m, fun _ => 0, g⟩ (fun r => (∀ c : Dev Cert.KernelUpFirstDx.nD,
      r.2.mem ((c.tc : Thread Cert.KernelUpFirstDx.nD Cert.KernelUpFirstDx.τ).loc Cert.KernelUpFirstDx.main_arg0) = m ((c.tc : Thread Cert.KernelUpFirstDx.nD Cert.KernelUpFirstDx.τ).loc Cert.KernelUpFirstDx.main_arg0)
      ∧ r.2.mem ((c.tc : Thread Cert.KernelUpFirstDx.nD Cert.KernelUpFirstDx.τ).loc Cert.KernelUpFirstDx.main_arg1) = m ((c.tc : Thread Cert.KernelUpFirstDx.nD Cert.KernelUpFirstDx.τ).loc Cert.KernelUpFirstDx.main_arg1))
      ∧ r.2.sem = fun _ => 0)

def quiescent_KernelUpFirstDxIdeal [hKernelUpFirstDxIdeal : Cert.KernelUpFirstDxIdeal.Facts] : Prop :=
  ∀ (m : (ℓ : Loc Cert.KernelUpFirstDxIdeal.nD Cert.KernelUpFirstDxIdeal.τ Cert.KernelUpFirstDxIdeal.sig) → Buf (Elt Ideal) ℓ) (g : Dev Cert.KernelUpFirstDxIdeal.nD → PrngReg), Pre_KernelUpFirstDxIdeal m →
    θ_run (Cert.KernelUpFirstDxIdeal.defs (F := Ideal)) (onTc (τ := Cert.KernelUpFirstDxIdeal.τ) (Cert.KernelUpFirstDxIdeal.main (F := Ideal))) ⟨m, fun _ => 0, g⟩ (fun r => (∀ c : Dev Cert.KernelUpFirstDxIdeal.nD,
      r.2.mem ((c.tc : Thread Cert.KernelUpFirstDxIdeal.nD Cert.KernelUpFirstDxIdeal.τ).loc Cert.KernelUpFirstDxIdeal.main_arg0) = m ((c.tc : Thread Cert.KernelUpFirstDxIdeal.nD Cert.KernelUpFirstDxIdeal.τ).loc Cert.KernelUpFirstDxIdeal.main_arg0)
      ∧ r.2.mem ((c.tc : Thread Cert.KernelUpFirstDxIdeal.nD Cert.KernelUpFirstDxIdeal.τ).loc Cert.KernelUpFirstDxIdeal.main_arg1) = m ((c.tc : Thread Cert.KernelUpFirstDxIdeal.nD Cert.KernelUpFirstDxIdeal.τ).loc Cert.KernelUpFirstDxIdeal.main_arg1))
      ∧ r.2.sem = fun _ => 0)

def quiescent_ReferenceUpFirstDxIdeal [hReferenceUpFirstDxIdeal : Cert.ReferenceUpFirstDxIdeal.Facts] : Prop :=
  ∀ (m : (ℓ : Loc Cert.ReferenceUpFirstDxIdeal.nD Cert.ReferenceUpFirstDxIdeal.τ Cert.ReferenceUpFirstDxIdeal.sig) → Buf (Elt Ideal) ℓ) (g : Dev Cert.ReferenceUpFirstDxIdeal.nD → PrngReg), Pre_ReferenceUpFirstDxIdeal m →
    θ_run (Cert.ReferenceUpFirstDxIdeal.defs (F := Ideal)) (onTc (τ := Cert.ReferenceUpFirstDxIdeal.τ) (Cert.ReferenceUpFirstDxIdeal.main (F := Ideal))) ⟨m, fun _ => 0, g⟩ (fun r => (∀ c : Dev Cert.ReferenceUpFirstDxIdeal.nD,
      r.2.mem ((c.tc : Thread Cert.ReferenceUpFirstDxIdeal.nD Cert.ReferenceUpFirstDxIdeal.τ).loc Cert.ReferenceUpFirstDxIdeal.main_arg0) = m ((c.tc : Thread Cert.ReferenceUpFirstDxIdeal.nD Cert.ReferenceUpFirstDxIdeal.τ).loc Cert.ReferenceUpFirstDxIdeal.main_arg0)
      ∧ r.2.mem ((c.tc : Thread Cert.ReferenceUpFirstDxIdeal.nD Cert.ReferenceUpFirstDxIdeal.τ).loc Cert.ReferenceUpFirstDxIdeal.main_arg1) = m ((c.tc : Thread Cert.ReferenceUpFirstDxIdeal.nD Cert.ReferenceUpFirstDxIdeal.τ).loc Cert.ReferenceUpFirstDxIdeal.main_arg1))
      ∧ r.2.sem = fun _ => 0)

def quiescent_KernelDownFirst [hKernelDownFirst : Cert.KernelDownFirst.Facts] : Prop :=
  ∀ (m : (ℓ : Loc Cert.KernelDownFirst.nD Cert.KernelDownFirst.τ Cert.KernelDownFirst.sig) → Buf (Elt Bits) ℓ) (g : Dev Cert.KernelDownFirst.nD → PrngReg), Pre_KernelDownFirst m →
    θ_run (Cert.KernelDownFirst.defs (F := Bits)) (onTc (τ := Cert.KernelDownFirst.τ) (Cert.KernelDownFirst.main (F := Bits))) ⟨m, fun _ => 0, g⟩ (fun r => (∀ c : Dev Cert.KernelDownFirst.nD,
      r.2.mem ((c.tc : Thread Cert.KernelDownFirst.nD Cert.KernelDownFirst.τ).loc Cert.KernelDownFirst.main_arg0) = m ((c.tc : Thread Cert.KernelDownFirst.nD Cert.KernelDownFirst.τ).loc Cert.KernelDownFirst.main_arg0)
      ∧ r.2.mem ((c.tc : Thread Cert.KernelDownFirst.nD Cert.KernelDownFirst.τ).loc Cert.KernelDownFirst.main_arg1) = m ((c.tc : Thread Cert.KernelDownFirst.nD Cert.KernelDownFirst.τ).loc Cert.KernelDownFirst.main_arg1))
      ∧ r.2.sem = fun _ => 0)

def quiescent_KernelDownFirstIdeal [hKernelDownFirstIdeal : Cert.KernelDownFirstIdeal.Facts] : Prop :=
  ∀ (m : (ℓ : Loc Cert.KernelDownFirstIdeal.nD Cert.KernelDownFirstIdeal.τ Cert.KernelDownFirstIdeal.sig) → Buf (Elt Ideal) ℓ) (g : Dev Cert.KernelDownFirstIdeal.nD → PrngReg), Pre_KernelDownFirstIdeal m →
    θ_run (Cert.KernelDownFirstIdeal.defs (F := Ideal)) (onTc (τ := Cert.KernelDownFirstIdeal.τ) (Cert.KernelDownFirstIdeal.main (F := Ideal))) ⟨m, fun _ => 0, g⟩ (fun r => (∀ c : Dev Cert.KernelDownFirstIdeal.nD,
      r.2.mem ((c.tc : Thread Cert.KernelDownFirstIdeal.nD Cert.KernelDownFirstIdeal.τ).loc Cert.KernelDownFirstIdeal.main_arg0) = m ((c.tc : Thread Cert.KernelDownFirstIdeal.nD Cert.KernelDownFirstIdeal.τ).loc Cert.KernelDownFirstIdeal.main_arg0)
      ∧ r.2.mem ((c.tc : Thread Cert.KernelDownFirstIdeal.nD Cert.KernelDownFirstIdeal.τ).loc Cert.KernelDownFirstIdeal.main_arg1) = m ((c.tc : Thread Cert.KernelDownFirstIdeal.nD Cert.KernelDownFirstIdeal.τ).loc Cert.KernelDownFirstIdeal.main_arg1))
      ∧ r.2.sem = fun _ => 0)

def quiescent_ReferenceDownFirstIdeal [hReferenceDownFirstIdeal : Cert.ReferenceDownFirstIdeal.Facts] : Prop :=
  ∀ (m : (ℓ : Loc Cert.ReferenceDownFirstIdeal.nD Cert.ReferenceDownFirstIdeal.τ Cert.ReferenceDownFirstIdeal.sig) → Buf (Elt Ideal) ℓ) (g : Dev Cert.ReferenceDownFirstIdeal.nD → PrngReg), Pre_ReferenceDownFirstIdeal m →
    θ_run (Cert.ReferenceDownFirstIdeal.defs (F := Ideal)) (onTc (τ := Cert.ReferenceDownFirstIdeal.τ) (Cert.ReferenceDownFirstIdeal.main (F := Ideal))) ⟨m, fun _ => 0, g⟩ (fun r => (∀ c : Dev Cert.ReferenceDownFirstIdeal.nD,
      r.2.mem ((c.tc : Thread Cert.ReferenceDownFirstIdeal.nD Cert.ReferenceDownFirstIdeal.τ).loc Cert.ReferenceDownFirstIdeal.main_arg0) = m ((c.tc : Thread Cert.ReferenceDownFirstIdeal.nD Cert.ReferenceDownFirstIdeal.τ).loc Cert.ReferenceDownFirstIdeal.main_arg0)
      ∧ r.2.mem ((c.tc : Thread Cert.ReferenceDownFirstIdeal.nD Cert.ReferenceDownFirstIdeal.τ).loc Cert.ReferenceDownFirstIdeal.main_arg1) = m ((c.tc : Thread Cert.ReferenceDownFirstIdeal.nD Cert.ReferenceDownFirstIdeal.τ).loc Cert.ReferenceDownFirstIdeal.main_arg1))
      ∧ r.2.sem = fun _ => 0)

def quiescent_KernelDownFirstDw [hKernelDownFirstDw : Cert.KernelDownFirstDw.Facts] : Prop :=
  ∀ (m : (ℓ : Loc Cert.KernelDownFirstDw.nD Cert.KernelDownFirstDw.τ Cert.KernelDownFirstDw.sig) → Buf (Elt Bits) ℓ) (g : Dev Cert.KernelDownFirstDw.nD → PrngReg), Pre_KernelDownFirstDw m →
    θ_run (Cert.KernelDownFirstDw.defs (F := Bits)) (onTc (τ := Cert.KernelDownFirstDw.τ) (Cert.KernelDownFirstDw.main (F := Bits))) ⟨m, fun _ => 0, g⟩ (fun r => (∀ c : Dev Cert.KernelDownFirstDw.nD,
      r.2.mem ((c.tc : Thread Cert.KernelDownFirstDw.nD Cert.KernelDownFirstDw.τ).loc Cert.KernelDownFirstDw.main_arg0) = m ((c.tc : Thread Cert.KernelDownFirstDw.nD Cert.KernelDownFirstDw.τ).loc Cert.KernelDownFirstDw.main_arg0)
      ∧ r.2.mem ((c.tc : Thread Cert.KernelDownFirstDw.nD Cert.KernelDownFirstDw.τ).loc Cert.KernelDownFirstDw.main_arg1) = m ((c.tc : Thread Cert.KernelDownFirstDw.nD Cert.KernelDownFirstDw.τ).loc Cert.KernelDownFirstDw.main_arg1))
      ∧ r.2.sem = fun _ => 0)

def quiescent_KernelDownFirstDwIdeal [hKernelDownFirstDwIdeal : Cert.KernelDownFirstDwIdeal.Facts] : Prop :=
  ∀ (m : (ℓ : Loc Cert.KernelDownFirstDwIdeal.nD Cert.KernelDownFirstDwIdeal.τ Cert.KernelDownFirstDwIdeal.sig) → Buf (Elt Ideal) ℓ) (g : Dev Cert.KernelDownFirstDwIdeal.nD → PrngReg), Pre_KernelDownFirstDwIdeal m →
    θ_run (Cert.KernelDownFirstDwIdeal.defs (F := Ideal)) (onTc (τ := Cert.KernelDownFirstDwIdeal.τ) (Cert.KernelDownFirstDwIdeal.main (F := Ideal))) ⟨m, fun _ => 0, g⟩ (fun r => (∀ c : Dev Cert.KernelDownFirstDwIdeal.nD,
      r.2.mem ((c.tc : Thread Cert.KernelDownFirstDwIdeal.nD Cert.KernelDownFirstDwIdeal.τ).loc Cert.KernelDownFirstDwIdeal.main_arg0) = m ((c.tc : Thread Cert.KernelDownFirstDwIdeal.nD Cert.KernelDownFirstDwIdeal.τ).loc Cert.KernelDownFirstDwIdeal.main_arg0)
      ∧ r.2.mem ((c.tc : Thread Cert.KernelDownFirstDwIdeal.nD Cert.KernelDownFirstDwIdeal.τ).loc Cert.KernelDownFirstDwIdeal.main_arg1) = m ((c.tc : Thread Cert.KernelDownFirstDwIdeal.nD Cert.KernelDownFirstDwIdeal.τ).loc Cert.KernelDownFirstDwIdeal.main_arg1))
      ∧ r.2.sem = fun _ => 0)

def quiescent_ReferenceDownFirstDwIdeal [hReferenceDownFirstDwIdeal : Cert.ReferenceDownFirstDwIdeal.Facts] : Prop :=
  ∀ (m : (ℓ : Loc Cert.ReferenceDownFirstDwIdeal.nD Cert.ReferenceDownFirstDwIdeal.τ Cert.ReferenceDownFirstDwIdeal.sig) → Buf (Elt Ideal) ℓ) (g : Dev Cert.ReferenceDownFirstDwIdeal.nD → PrngReg), Pre_ReferenceDownFirstDwIdeal m →
    θ_run (Cert.ReferenceDownFirstDwIdeal.defs (F := Ideal)) (onTc (τ := Cert.ReferenceDownFirstDwIdeal.τ) (Cert.ReferenceDownFirstDwIdeal.main (F := Ideal))) ⟨m, fun _ => 0, g⟩ (fun r => (∀ c : Dev Cert.ReferenceDownFirstDwIdeal.nD,
      r.2.mem ((c.tc : Thread Cert.ReferenceDownFirstDwIdeal.nD Cert.ReferenceDownFirstDwIdeal.τ).loc Cert.ReferenceDownFirstDwIdeal.main_arg0) = m ((c.tc : Thread Cert.ReferenceDownFirstDwIdeal.nD Cert.ReferenceDownFirstDwIdeal.τ).loc Cert.ReferenceDownFirstDwIdeal.main_arg0)
      ∧ r.2.mem ((c.tc : Thread Cert.ReferenceDownFirstDwIdeal.nD Cert.ReferenceDownFirstDwIdeal.τ).loc Cert.ReferenceDownFirstDwIdeal.main_arg1) = m ((c.tc : Thread Cert.ReferenceDownFirstDwIdeal.nD Cert.ReferenceDownFirstDwIdeal.τ).loc Cert.ReferenceDownFirstDwIdeal.main_arg1))
      ∧ r.2.sem = fun _ => 0)

def quiescent_KernelDownFirstDx [hKernelDownFirstDx : Cert.KernelDownFirstDx.Facts] : Prop :=
  ∀ (m : (ℓ : Loc Cert.KernelDownFirstDx.nD Cert.KernelDownFirstDx.τ Cert.KernelDownFirstDx.sig) → Buf (Elt Bits) ℓ) (g : Dev Cert.KernelDownFirstDx.nD → PrngReg), Pre_KernelDownFirstDx m →
    θ_run (Cert.KernelDownFirstDx.defs (F := Bits)) (onTc (τ := Cert.KernelDownFirstDx.τ) (Cert.KernelDownFirstDx.main (F := Bits))) ⟨m, fun _ => 0, g⟩ (fun r => (∀ c : Dev Cert.KernelDownFirstDx.nD,
      r.2.mem ((c.tc : Thread Cert.KernelDownFirstDx.nD Cert.KernelDownFirstDx.τ).loc Cert.KernelDownFirstDx.main_arg0) = m ((c.tc : Thread Cert.KernelDownFirstDx.nD Cert.KernelDownFirstDx.τ).loc Cert.KernelDownFirstDx.main_arg0)
      ∧ r.2.mem ((c.tc : Thread Cert.KernelDownFirstDx.nD Cert.KernelDownFirstDx.τ).loc Cert.KernelDownFirstDx.main_arg1) = m ((c.tc : Thread Cert.KernelDownFirstDx.nD Cert.KernelDownFirstDx.τ).loc Cert.KernelDownFirstDx.main_arg1))
      ∧ r.2.sem = fun _ => 0)

def quiescent_KernelDownFirstDxIdeal [hKernelDownFirstDxIdeal : Cert.KernelDownFirstDxIdeal.Facts] : Prop :=
  ∀ (m : (ℓ : Loc Cert.KernelDownFirstDxIdeal.nD Cert.KernelDownFirstDxIdeal.τ Cert.KernelDownFirstDxIdeal.sig) → Buf (Elt Ideal) ℓ) (g : Dev Cert.KernelDownFirstDxIdeal.nD → PrngReg), Pre_KernelDownFirstDxIdeal m →
    θ_run (Cert.KernelDownFirstDxIdeal.defs (F := Ideal)) (onTc (τ := Cert.KernelDownFirstDxIdeal.τ) (Cert.KernelDownFirstDxIdeal.main (F := Ideal))) ⟨m, fun _ => 0, g⟩ (fun r => (∀ c : Dev Cert.KernelDownFirstDxIdeal.nD,
      r.2.mem ((c.tc : Thread Cert.KernelDownFirstDxIdeal.nD Cert.KernelDownFirstDxIdeal.τ).loc Cert.KernelDownFirstDxIdeal.main_arg0) = m ((c.tc : Thread Cert.KernelDownFirstDxIdeal.nD Cert.KernelDownFirstDxIdeal.τ).loc Cert.KernelDownFirstDxIdeal.main_arg0)
      ∧ r.2.mem ((c.tc : Thread Cert.KernelDownFirstDxIdeal.nD Cert.KernelDownFirstDxIdeal.τ).loc Cert.KernelDownFirstDxIdeal.main_arg1) = m ((c.tc : Thread Cert.KernelDownFirstDxIdeal.nD Cert.KernelDownFirstDxIdeal.τ).loc Cert.KernelDownFirstDxIdeal.main_arg1))
      ∧ r.2.sem = fun _ => 0)

def quiescent_ReferenceDownFirstDxIdeal [hReferenceDownFirstDxIdeal : Cert.ReferenceDownFirstDxIdeal.Facts] : Prop :=
  ∀ (m : (ℓ : Loc Cert.ReferenceDownFirstDxIdeal.nD Cert.ReferenceDownFirstDxIdeal.τ Cert.ReferenceDownFirstDxIdeal.sig) → Buf (Elt Ideal) ℓ) (g : Dev Cert.ReferenceDownFirstDxIdeal.nD → PrngReg), Pre_ReferenceDownFirstDxIdeal m →
    θ_run (Cert.ReferenceDownFirstDxIdeal.defs (F := Ideal)) (onTc (τ := Cert.ReferenceDownFirstDxIdeal.τ) (Cert.ReferenceDownFirstDxIdeal.main (F := Ideal))) ⟨m, fun _ => 0, g⟩ (fun r => (∀ c : Dev Cert.ReferenceDownFirstDxIdeal.nD,
      r.2.mem ((c.tc : Thread Cert.ReferenceDownFirstDxIdeal.nD Cert.ReferenceDownFirstDxIdeal.τ).loc Cert.ReferenceDownFirstDxIdeal.main_arg0) = m ((c.tc : Thread Cert.ReferenceDownFirstDxIdeal.nD Cert.ReferenceDownFirstDxIdeal.τ).loc Cert.ReferenceDownFirstDxIdeal.main_arg0)
      ∧ r.2.mem ((c.tc : Thread Cert.ReferenceDownFirstDxIdeal.nD Cert.ReferenceDownFirstDxIdeal.τ).loc Cert.ReferenceDownFirstDxIdeal.main_arg1) = m ((c.tc : Thread Cert.ReferenceDownFirstDxIdeal.nD Cert.ReferenceDownFirstDxIdeal.τ).loc Cert.ReferenceDownFirstDxIdeal.main_arg1))
      ∧ r.2.sem = fun _ => 0)

def quiescent_KernelCmIn [hKernelCmIn : Cert.KernelCmIn.Facts] : Prop :=
  ∀ (m : (ℓ : Loc Cert.KernelCmIn.nD Cert.KernelCmIn.τ Cert.KernelCmIn.sig) → Buf (Elt Bits) ℓ) (g : Dev Cert.KernelCmIn.nD → PrngReg), Pre_KernelCmIn m →
    θ_run (Cert.KernelCmIn.defs (F := Bits)) (onTc (τ := Cert.KernelCmIn.τ) (Cert.KernelCmIn.main (F := Bits))) ⟨m, fun _ => 0, g⟩ (fun r => (∀ c : Dev Cert.KernelCmIn.nD,
      r.2.mem ((c.tc : Thread Cert.KernelCmIn.nD Cert.KernelCmIn.τ).loc Cert.KernelCmIn.main_arg0) = m ((c.tc : Thread Cert.KernelCmIn.nD Cert.KernelCmIn.τ).loc Cert.KernelCmIn.main_arg0)
      ∧ r.2.mem ((c.tc : Thread Cert.KernelCmIn.nD Cert.KernelCmIn.τ).loc Cert.KernelCmIn.main_arg1) = m ((c.tc : Thread Cert.KernelCmIn.nD Cert.KernelCmIn.τ).loc Cert.KernelCmIn.main_arg1))
      ∧ r.2.sem = fun _ => 0)

def quiescent_KernelCmInIdeal [hKernelCmInIdeal : Cert.KernelCmInIdeal.Facts] : Prop :=
  ∀ (m : (ℓ : Loc Cert.KernelCmInIdeal.nD Cert.KernelCmInIdeal.τ Cert.KernelCmInIdeal.sig) → Buf (Elt Ideal) ℓ) (g : Dev Cert.KernelCmInIdeal.nD → PrngReg), Pre_KernelCmInIdeal m →
    θ_run (Cert.KernelCmInIdeal.defs (F := Ideal)) (onTc (τ := Cert.KernelCmInIdeal.τ) (Cert.KernelCmInIdeal.main (F := Ideal))) ⟨m, fun _ => 0, g⟩ (fun r => (∀ c : Dev Cert.KernelCmInIdeal.nD,
      r.2.mem ((c.tc : Thread Cert.KernelCmInIdeal.nD Cert.KernelCmInIdeal.τ).loc Cert.KernelCmInIdeal.main_arg0) = m ((c.tc : Thread Cert.KernelCmInIdeal.nD Cert.KernelCmInIdeal.τ).loc Cert.KernelCmInIdeal.main_arg0)
      ∧ r.2.mem ((c.tc : Thread Cert.KernelCmInIdeal.nD Cert.KernelCmInIdeal.τ).loc Cert.KernelCmInIdeal.main_arg1) = m ((c.tc : Thread Cert.KernelCmInIdeal.nD Cert.KernelCmInIdeal.τ).loc Cert.KernelCmInIdeal.main_arg1))
      ∧ r.2.sem = fun _ => 0)

def quiescent_ReferenceCmInIdeal [hReferenceCmInIdeal : Cert.ReferenceCmInIdeal.Facts] : Prop :=
  ∀ (m : (ℓ : Loc Cert.ReferenceCmInIdeal.nD Cert.ReferenceCmInIdeal.τ Cert.ReferenceCmInIdeal.sig) → Buf (Elt Ideal) ℓ) (g : Dev Cert.ReferenceCmInIdeal.nD → PrngReg), Pre_ReferenceCmInIdeal m →
    θ_run (Cert.ReferenceCmInIdeal.defs (F := Ideal)) (onTc (τ := Cert.ReferenceCmInIdeal.τ) (Cert.ReferenceCmInIdeal.main (F := Ideal))) ⟨m, fun _ => 0, g⟩ (fun r => (∀ c : Dev Cert.ReferenceCmInIdeal.nD,
      r.2.mem ((c.tc : Thread Cert.ReferenceCmInIdeal.nD Cert.ReferenceCmInIdeal.τ).loc Cert.ReferenceCmInIdeal.main_arg0) = m ((c.tc : Thread Cert.ReferenceCmInIdeal.nD Cert.ReferenceCmInIdeal.τ).loc Cert.ReferenceCmInIdeal.main_arg0)
      ∧ r.2.mem ((c.tc : Thread Cert.ReferenceCmInIdeal.nD Cert.ReferenceCmInIdeal.τ).loc Cert.ReferenceCmInIdeal.main_arg1) = m ((c.tc : Thread Cert.ReferenceCmInIdeal.nD Cert.ReferenceCmInIdeal.τ).loc Cert.ReferenceCmInIdeal.main_arg1))
      ∧ r.2.sem = fun _ => 0)

def quiescent_KernelCmInDw [hKernelCmInDw : Cert.KernelCmInDw.Facts] : Prop :=
  ∀ (m : (ℓ : Loc Cert.KernelCmInDw.nD Cert.KernelCmInDw.τ Cert.KernelCmInDw.sig) → Buf (Elt Bits) ℓ) (g : Dev Cert.KernelCmInDw.nD → PrngReg), Pre_KernelCmInDw m →
    θ_run (Cert.KernelCmInDw.defs (F := Bits)) (onTc (τ := Cert.KernelCmInDw.τ) (Cert.KernelCmInDw.main (F := Bits))) ⟨m, fun _ => 0, g⟩ (fun r => (∀ c : Dev Cert.KernelCmInDw.nD,
      r.2.mem ((c.tc : Thread Cert.KernelCmInDw.nD Cert.KernelCmInDw.τ).loc Cert.KernelCmInDw.main_arg0) = m ((c.tc : Thread Cert.KernelCmInDw.nD Cert.KernelCmInDw.τ).loc Cert.KernelCmInDw.main_arg0)
      ∧ r.2.mem ((c.tc : Thread Cert.KernelCmInDw.nD Cert.KernelCmInDw.τ).loc Cert.KernelCmInDw.main_arg1) = m ((c.tc : Thread Cert.KernelCmInDw.nD Cert.KernelCmInDw.τ).loc Cert.KernelCmInDw.main_arg1))
      ∧ r.2.sem = fun _ => 0)

def quiescent_KernelCmInDwIdeal [hKernelCmInDwIdeal : Cert.KernelCmInDwIdeal.Facts] : Prop :=
  ∀ (m : (ℓ : Loc Cert.KernelCmInDwIdeal.nD Cert.KernelCmInDwIdeal.τ Cert.KernelCmInDwIdeal.sig) → Buf (Elt Ideal) ℓ) (g : Dev Cert.KernelCmInDwIdeal.nD → PrngReg), Pre_KernelCmInDwIdeal m →
    θ_run (Cert.KernelCmInDwIdeal.defs (F := Ideal)) (onTc (τ := Cert.KernelCmInDwIdeal.τ) (Cert.KernelCmInDwIdeal.main (F := Ideal))) ⟨m, fun _ => 0, g⟩ (fun r => (∀ c : Dev Cert.KernelCmInDwIdeal.nD,
      r.2.mem ((c.tc : Thread Cert.KernelCmInDwIdeal.nD Cert.KernelCmInDwIdeal.τ).loc Cert.KernelCmInDwIdeal.main_arg0) = m ((c.tc : Thread Cert.KernelCmInDwIdeal.nD Cert.KernelCmInDwIdeal.τ).loc Cert.KernelCmInDwIdeal.main_arg0)
      ∧ r.2.mem ((c.tc : Thread Cert.KernelCmInDwIdeal.nD Cert.KernelCmInDwIdeal.τ).loc Cert.KernelCmInDwIdeal.main_arg1) = m ((c.tc : Thread Cert.KernelCmInDwIdeal.nD Cert.KernelCmInDwIdeal.τ).loc Cert.KernelCmInDwIdeal.main_arg1))
      ∧ r.2.sem = fun _ => 0)

def quiescent_ReferenceCmInDwIdeal [hReferenceCmInDwIdeal : Cert.ReferenceCmInDwIdeal.Facts] : Prop :=
  ∀ (m : (ℓ : Loc Cert.ReferenceCmInDwIdeal.nD Cert.ReferenceCmInDwIdeal.τ Cert.ReferenceCmInDwIdeal.sig) → Buf (Elt Ideal) ℓ) (g : Dev Cert.ReferenceCmInDwIdeal.nD → PrngReg), Pre_ReferenceCmInDwIdeal m →
    θ_run (Cert.ReferenceCmInDwIdeal.defs (F := Ideal)) (onTc (τ := Cert.ReferenceCmInDwIdeal.τ) (Cert.ReferenceCmInDwIdeal.main (F := Ideal))) ⟨m, fun _ => 0, g⟩ (fun r => (∀ c : Dev Cert.ReferenceCmInDwIdeal.nD,
      r.2.mem ((c.tc : Thread Cert.ReferenceCmInDwIdeal.nD Cert.ReferenceCmInDwIdeal.τ).loc Cert.ReferenceCmInDwIdeal.main_arg0) = m ((c.tc : Thread Cert.ReferenceCmInDwIdeal.nD Cert.ReferenceCmInDwIdeal.τ).loc Cert.ReferenceCmInDwIdeal.main_arg0)
      ∧ r.2.mem ((c.tc : Thread Cert.ReferenceCmInDwIdeal.nD Cert.ReferenceCmInDwIdeal.τ).loc Cert.ReferenceCmInDwIdeal.main_arg1) = m ((c.tc : Thread Cert.ReferenceCmInDwIdeal.nD Cert.ReferenceCmInDwIdeal.τ).loc Cert.ReferenceCmInDwIdeal.main_arg1))
      ∧ r.2.sem = fun _ => 0)

def quiescent_KernelCmInDx [hKernelCmInDx : Cert.KernelCmInDx.Facts] : Prop :=
  ∀ (m : (ℓ : Loc Cert.KernelCmInDx.nD Cert.KernelCmInDx.τ Cert.KernelCmInDx.sig) → Buf (Elt Bits) ℓ) (g : Dev Cert.KernelCmInDx.nD → PrngReg), Pre_KernelCmInDx m →
    θ_run (Cert.KernelCmInDx.defs (F := Bits)) (onTc (τ := Cert.KernelCmInDx.τ) (Cert.KernelCmInDx.main (F := Bits))) ⟨m, fun _ => 0, g⟩ (fun r => (∀ c : Dev Cert.KernelCmInDx.nD,
      r.2.mem ((c.tc : Thread Cert.KernelCmInDx.nD Cert.KernelCmInDx.τ).loc Cert.KernelCmInDx.main_arg0) = m ((c.tc : Thread Cert.KernelCmInDx.nD Cert.KernelCmInDx.τ).loc Cert.KernelCmInDx.main_arg0)
      ∧ r.2.mem ((c.tc : Thread Cert.KernelCmInDx.nD Cert.KernelCmInDx.τ).loc Cert.KernelCmInDx.main_arg1) = m ((c.tc : Thread Cert.KernelCmInDx.nD Cert.KernelCmInDx.τ).loc Cert.KernelCmInDx.main_arg1))
      ∧ r.2.sem = fun _ => 0)

def quiescent_KernelCmInDxIdeal [hKernelCmInDxIdeal : Cert.KernelCmInDxIdeal.Facts] : Prop :=
  ∀ (m : (ℓ : Loc Cert.KernelCmInDxIdeal.nD Cert.KernelCmInDxIdeal.τ Cert.KernelCmInDxIdeal.sig) → Buf (Elt Ideal) ℓ) (g : Dev Cert.KernelCmInDxIdeal.nD → PrngReg), Pre_KernelCmInDxIdeal m →
    θ_run (Cert.KernelCmInDxIdeal.defs (F := Ideal)) (onTc (τ := Cert.KernelCmInDxIdeal.τ) (Cert.KernelCmInDxIdeal.main (F := Ideal))) ⟨m, fun _ => 0, g⟩ (fun r => (∀ c : Dev Cert.KernelCmInDxIdeal.nD,
      r.2.mem ((c.tc : Thread Cert.KernelCmInDxIdeal.nD Cert.KernelCmInDxIdeal.τ).loc Cert.KernelCmInDxIdeal.main_arg0) = m ((c.tc : Thread Cert.KernelCmInDxIdeal.nD Cert.KernelCmInDxIdeal.τ).loc Cert.KernelCmInDxIdeal.main_arg0)
      ∧ r.2.mem ((c.tc : Thread Cert.KernelCmInDxIdeal.nD Cert.KernelCmInDxIdeal.τ).loc Cert.KernelCmInDxIdeal.main_arg1) = m ((c.tc : Thread Cert.KernelCmInDxIdeal.nD Cert.KernelCmInDxIdeal.τ).loc Cert.KernelCmInDxIdeal.main_arg1))
      ∧ r.2.sem = fun _ => 0)

def quiescent_ReferenceCmInDxIdeal [hReferenceCmInDxIdeal : Cert.ReferenceCmInDxIdeal.Facts] : Prop :=
  ∀ (m : (ℓ : Loc Cert.ReferenceCmInDxIdeal.nD Cert.ReferenceCmInDxIdeal.τ Cert.ReferenceCmInDxIdeal.sig) → Buf (Elt Ideal) ℓ) (g : Dev Cert.ReferenceCmInDxIdeal.nD → PrngReg), Pre_ReferenceCmInDxIdeal m →
    θ_run (Cert.ReferenceCmInDxIdeal.defs (F := Ideal)) (onTc (τ := Cert.ReferenceCmInDxIdeal.τ) (Cert.ReferenceCmInDxIdeal.main (F := Ideal))) ⟨m, fun _ => 0, g⟩ (fun r => (∀ c : Dev Cert.ReferenceCmInDxIdeal.nD,
      r.2.mem ((c.tc : Thread Cert.ReferenceCmInDxIdeal.nD Cert.ReferenceCmInDxIdeal.τ).loc Cert.ReferenceCmInDxIdeal.main_arg0) = m ((c.tc : Thread Cert.ReferenceCmInDxIdeal.nD Cert.ReferenceCmInDxIdeal.τ).loc Cert.ReferenceCmInDxIdeal.main_arg0)
      ∧ r.2.mem ((c.tc : Thread Cert.ReferenceCmInDxIdeal.nD Cert.ReferenceCmInDxIdeal.τ).loc Cert.ReferenceCmInDxIdeal.main_arg1) = m ((c.tc : Thread Cert.ReferenceCmInDxIdeal.nD Cert.ReferenceCmInDxIdeal.τ).loc Cert.ReferenceCmInDxIdeal.main_arg1))
      ∧ r.2.sem = fun _ => 0)

def quiescent_KernelCmOut [hKernelCmOut : Cert.KernelCmOut.Facts] : Prop :=
  ∀ (m : (ℓ : Loc Cert.KernelCmOut.nD Cert.KernelCmOut.τ Cert.KernelCmOut.sig) → Buf (Elt Bits) ℓ) (g : Dev Cert.KernelCmOut.nD → PrngReg), Pre_KernelCmOut m →
    θ_run (Cert.KernelCmOut.defs (F := Bits)) (onTc (τ := Cert.KernelCmOut.τ) (Cert.KernelCmOut.main (F := Bits))) ⟨m, fun _ => 0, g⟩ (fun r => (∀ c : Dev Cert.KernelCmOut.nD,
      r.2.mem ((c.tc : Thread Cert.KernelCmOut.nD Cert.KernelCmOut.τ).loc Cert.KernelCmOut.main_arg0) = m ((c.tc : Thread Cert.KernelCmOut.nD Cert.KernelCmOut.τ).loc Cert.KernelCmOut.main_arg0)
      ∧ r.2.mem ((c.tc : Thread Cert.KernelCmOut.nD Cert.KernelCmOut.τ).loc Cert.KernelCmOut.main_arg1) = m ((c.tc : Thread Cert.KernelCmOut.nD Cert.KernelCmOut.τ).loc Cert.KernelCmOut.main_arg1))
      ∧ r.2.sem = fun _ => 0)

def quiescent_KernelCmOutIdeal [hKernelCmOutIdeal : Cert.KernelCmOutIdeal.Facts] : Prop :=
  ∀ (m : (ℓ : Loc Cert.KernelCmOutIdeal.nD Cert.KernelCmOutIdeal.τ Cert.KernelCmOutIdeal.sig) → Buf (Elt Ideal) ℓ) (g : Dev Cert.KernelCmOutIdeal.nD → PrngReg), Pre_KernelCmOutIdeal m →
    θ_run (Cert.KernelCmOutIdeal.defs (F := Ideal)) (onTc (τ := Cert.KernelCmOutIdeal.τ) (Cert.KernelCmOutIdeal.main (F := Ideal))) ⟨m, fun _ => 0, g⟩ (fun r => (∀ c : Dev Cert.KernelCmOutIdeal.nD,
      r.2.mem ((c.tc : Thread Cert.KernelCmOutIdeal.nD Cert.KernelCmOutIdeal.τ).loc Cert.KernelCmOutIdeal.main_arg0) = m ((c.tc : Thread Cert.KernelCmOutIdeal.nD Cert.KernelCmOutIdeal.τ).loc Cert.KernelCmOutIdeal.main_arg0)
      ∧ r.2.mem ((c.tc : Thread Cert.KernelCmOutIdeal.nD Cert.KernelCmOutIdeal.τ).loc Cert.KernelCmOutIdeal.main_arg1) = m ((c.tc : Thread Cert.KernelCmOutIdeal.nD Cert.KernelCmOutIdeal.τ).loc Cert.KernelCmOutIdeal.main_arg1))
      ∧ r.2.sem = fun _ => 0)

def quiescent_ReferenceCmOutIdeal [hReferenceCmOutIdeal : Cert.ReferenceCmOutIdeal.Facts] : Prop :=
  ∀ (m : (ℓ : Loc Cert.ReferenceCmOutIdeal.nD Cert.ReferenceCmOutIdeal.τ Cert.ReferenceCmOutIdeal.sig) → Buf (Elt Ideal) ℓ) (g : Dev Cert.ReferenceCmOutIdeal.nD → PrngReg), Pre_ReferenceCmOutIdeal m →
    θ_run (Cert.ReferenceCmOutIdeal.defs (F := Ideal)) (onTc (τ := Cert.ReferenceCmOutIdeal.τ) (Cert.ReferenceCmOutIdeal.main (F := Ideal))) ⟨m, fun _ => 0, g⟩ (fun r => (∀ c : Dev Cert.ReferenceCmOutIdeal.nD,
      r.2.mem ((c.tc : Thread Cert.ReferenceCmOutIdeal.nD Cert.ReferenceCmOutIdeal.τ).loc Cert.ReferenceCmOutIdeal.main_arg0) = m ((c.tc : Thread Cert.ReferenceCmOutIdeal.nD Cert.ReferenceCmOutIdeal.τ).loc Cert.ReferenceCmOutIdeal.main_arg0)
      ∧ r.2.mem ((c.tc : Thread Cert.ReferenceCmOutIdeal.nD Cert.ReferenceCmOutIdeal.τ).loc Cert.ReferenceCmOutIdeal.main_arg1) = m ((c.tc : Thread Cert.ReferenceCmOutIdeal.nD Cert.ReferenceCmOutIdeal.τ).loc Cert.ReferenceCmOutIdeal.main_arg1))
      ∧ r.2.sem = fun _ => 0)

def quiescent_KernelCmOutDw [hKernelCmOutDw : Cert.KernelCmOutDw.Facts] : Prop :=
  ∀ (m : (ℓ : Loc Cert.KernelCmOutDw.nD Cert.KernelCmOutDw.τ Cert.KernelCmOutDw.sig) → Buf (Elt Bits) ℓ) (g : Dev Cert.KernelCmOutDw.nD → PrngReg), Pre_KernelCmOutDw m →
    θ_run (Cert.KernelCmOutDw.defs (F := Bits)) (onTc (τ := Cert.KernelCmOutDw.τ) (Cert.KernelCmOutDw.main (F := Bits))) ⟨m, fun _ => 0, g⟩ (fun r => (∀ c : Dev Cert.KernelCmOutDw.nD,
      r.2.mem ((c.tc : Thread Cert.KernelCmOutDw.nD Cert.KernelCmOutDw.τ).loc Cert.KernelCmOutDw.main_arg0) = m ((c.tc : Thread Cert.KernelCmOutDw.nD Cert.KernelCmOutDw.τ).loc Cert.KernelCmOutDw.main_arg0)
      ∧ r.2.mem ((c.tc : Thread Cert.KernelCmOutDw.nD Cert.KernelCmOutDw.τ).loc Cert.KernelCmOutDw.main_arg1) = m ((c.tc : Thread Cert.KernelCmOutDw.nD Cert.KernelCmOutDw.τ).loc Cert.KernelCmOutDw.main_arg1))
      ∧ r.2.sem = fun _ => 0)

def quiescent_KernelCmOutDwIdeal [hKernelCmOutDwIdeal : Cert.KernelCmOutDwIdeal.Facts] : Prop :=
  ∀ (m : (ℓ : Loc Cert.KernelCmOutDwIdeal.nD Cert.KernelCmOutDwIdeal.τ Cert.KernelCmOutDwIdeal.sig) → Buf (Elt Ideal) ℓ) (g : Dev Cert.KernelCmOutDwIdeal.nD → PrngReg), Pre_KernelCmOutDwIdeal m →
    θ_run (Cert.KernelCmOutDwIdeal.defs (F := Ideal)) (onTc (τ := Cert.KernelCmOutDwIdeal.τ) (Cert.KernelCmOutDwIdeal.main (F := Ideal))) ⟨m, fun _ => 0, g⟩ (fun r => (∀ c : Dev Cert.KernelCmOutDwIdeal.nD,
      r.2.mem ((c.tc : Thread Cert.KernelCmOutDwIdeal.nD Cert.KernelCmOutDwIdeal.τ).loc Cert.KernelCmOutDwIdeal.main_arg0) = m ((c.tc : Thread Cert.KernelCmOutDwIdeal.nD Cert.KernelCmOutDwIdeal.τ).loc Cert.KernelCmOutDwIdeal.main_arg0)
      ∧ r.2.mem ((c.tc : Thread Cert.KernelCmOutDwIdeal.nD Cert.KernelCmOutDwIdeal.τ).loc Cert.KernelCmOutDwIdeal.main_arg1) = m ((c.tc : Thread Cert.KernelCmOutDwIdeal.nD Cert.KernelCmOutDwIdeal.τ).loc Cert.KernelCmOutDwIdeal.main_arg1))
      ∧ r.2.sem = fun _ => 0)

def quiescent_ReferenceCmOutDwIdeal [hReferenceCmOutDwIdeal : Cert.ReferenceCmOutDwIdeal.Facts] : Prop :=
  ∀ (m : (ℓ : Loc Cert.ReferenceCmOutDwIdeal.nD Cert.ReferenceCmOutDwIdeal.τ Cert.ReferenceCmOutDwIdeal.sig) → Buf (Elt Ideal) ℓ) (g : Dev Cert.ReferenceCmOutDwIdeal.nD → PrngReg), Pre_ReferenceCmOutDwIdeal m →
    θ_run (Cert.ReferenceCmOutDwIdeal.defs (F := Ideal)) (onTc (τ := Cert.ReferenceCmOutDwIdeal.τ) (Cert.ReferenceCmOutDwIdeal.main (F := Ideal))) ⟨m, fun _ => 0, g⟩ (fun r => (∀ c : Dev Cert.ReferenceCmOutDwIdeal.nD,
      r.2.mem ((c.tc : Thread Cert.ReferenceCmOutDwIdeal.nD Cert.ReferenceCmOutDwIdeal.τ).loc Cert.ReferenceCmOutDwIdeal.main_arg0) = m ((c.tc : Thread Cert.ReferenceCmOutDwIdeal.nD Cert.ReferenceCmOutDwIdeal.τ).loc Cert.ReferenceCmOutDwIdeal.main_arg0)
      ∧ r.2.mem ((c.tc : Thread Cert.ReferenceCmOutDwIdeal.nD Cert.ReferenceCmOutDwIdeal.τ).loc Cert.ReferenceCmOutDwIdeal.main_arg1) = m ((c.tc : Thread Cert.ReferenceCmOutDwIdeal.nD Cert.ReferenceCmOutDwIdeal.τ).loc Cert.ReferenceCmOutDwIdeal.main_arg1))
      ∧ r.2.sem = fun _ => 0)

def quiescent_KernelCmOutDx [hKernelCmOutDx : Cert.KernelCmOutDx.Facts] : Prop :=
  ∀ (m : (ℓ : Loc Cert.KernelCmOutDx.nD Cert.KernelCmOutDx.τ Cert.KernelCmOutDx.sig) → Buf (Elt Bits) ℓ) (g : Dev Cert.KernelCmOutDx.nD → PrngReg), Pre_KernelCmOutDx m →
    θ_run (Cert.KernelCmOutDx.defs (F := Bits)) (onTc (τ := Cert.KernelCmOutDx.τ) (Cert.KernelCmOutDx.main (F := Bits))) ⟨m, fun _ => 0, g⟩ (fun r => (∀ c : Dev Cert.KernelCmOutDx.nD,
      r.2.mem ((c.tc : Thread Cert.KernelCmOutDx.nD Cert.KernelCmOutDx.τ).loc Cert.KernelCmOutDx.main_arg0) = m ((c.tc : Thread Cert.KernelCmOutDx.nD Cert.KernelCmOutDx.τ).loc Cert.KernelCmOutDx.main_arg0)
      ∧ r.2.mem ((c.tc : Thread Cert.KernelCmOutDx.nD Cert.KernelCmOutDx.τ).loc Cert.KernelCmOutDx.main_arg1) = m ((c.tc : Thread Cert.KernelCmOutDx.nD Cert.KernelCmOutDx.τ).loc Cert.KernelCmOutDx.main_arg1))
      ∧ r.2.sem = fun _ => 0)

def quiescent_KernelCmOutDxIdeal [hKernelCmOutDxIdeal : Cert.KernelCmOutDxIdeal.Facts] : Prop :=
  ∀ (m : (ℓ : Loc Cert.KernelCmOutDxIdeal.nD Cert.KernelCmOutDxIdeal.τ Cert.KernelCmOutDxIdeal.sig) → Buf (Elt Ideal) ℓ) (g : Dev Cert.KernelCmOutDxIdeal.nD → PrngReg), Pre_KernelCmOutDxIdeal m →
    θ_run (Cert.KernelCmOutDxIdeal.defs (F := Ideal)) (onTc (τ := Cert.KernelCmOutDxIdeal.τ) (Cert.KernelCmOutDxIdeal.main (F := Ideal))) ⟨m, fun _ => 0, g⟩ (fun r => (∀ c : Dev Cert.KernelCmOutDxIdeal.nD,
      r.2.mem ((c.tc : Thread Cert.KernelCmOutDxIdeal.nD Cert.KernelCmOutDxIdeal.τ).loc Cert.KernelCmOutDxIdeal.main_arg0) = m ((c.tc : Thread Cert.KernelCmOutDxIdeal.nD Cert.KernelCmOutDxIdeal.τ).loc Cert.KernelCmOutDxIdeal.main_arg0)
      ∧ r.2.mem ((c.tc : Thread Cert.KernelCmOutDxIdeal.nD Cert.KernelCmOutDxIdeal.τ).loc Cert.KernelCmOutDxIdeal.main_arg1) = m ((c.tc : Thread Cert.KernelCmOutDxIdeal.nD Cert.KernelCmOutDxIdeal.τ).loc Cert.KernelCmOutDxIdeal.main_arg1))
      ∧ r.2.sem = fun _ => 0)

def quiescent_ReferenceCmOutDxIdeal [hReferenceCmOutDxIdeal : Cert.ReferenceCmOutDxIdeal.Facts] : Prop :=
  ∀ (m : (ℓ : Loc Cert.ReferenceCmOutDxIdeal.nD Cert.ReferenceCmOutDxIdeal.τ Cert.ReferenceCmOutDxIdeal.sig) → Buf (Elt Ideal) ℓ) (g : Dev Cert.ReferenceCmOutDxIdeal.nD → PrngReg), Pre_ReferenceCmOutDxIdeal m →
    θ_run (Cert.ReferenceCmOutDxIdeal.defs (F := Ideal)) (onTc (τ := Cert.ReferenceCmOutDxIdeal.τ) (Cert.ReferenceCmOutDxIdeal.main (F := Ideal))) ⟨m, fun _ => 0, g⟩ (fun r => (∀ c : Dev Cert.ReferenceCmOutDxIdeal.nD,
      r.2.mem ((c.tc : Thread Cert.ReferenceCmOutDxIdeal.nD Cert.ReferenceCmOutDxIdeal.τ).loc Cert.ReferenceCmOutDxIdeal.main_arg0) = m ((c.tc : Thread Cert.ReferenceCmOutDxIdeal.nD Cert.ReferenceCmOutDxIdeal.τ).loc Cert.ReferenceCmOutDxIdeal.main_arg0)
      ∧ r.2.mem ((c.tc : Thread Cert.ReferenceCmOutDxIdeal.nD Cert.ReferenceCmOutDxIdeal.τ).loc Cert.ReferenceCmOutDxIdeal.main_arg1) = m ((c.tc : Thread Cert.ReferenceCmOutDxIdeal.nD Cert.ReferenceCmOutDxIdeal.τ).loc Cert.ReferenceCmOutDxIdeal.main_arg1))
      ∧ r.2.sem = fun _ => 0)

def quiescent_KernelCmInFirst [hKernelCmInFirst : Cert.KernelCmInFirst.Facts] : Prop :=
  ∀ (m : (ℓ : Loc Cert.KernelCmInFirst.nD Cert.KernelCmInFirst.τ Cert.KernelCmInFirst.sig) → Buf (Elt Bits) ℓ) (g : Dev Cert.KernelCmInFirst.nD → PrngReg), Pre_KernelCmInFirst m →
    θ_run (Cert.KernelCmInFirst.defs (F := Bits)) (onTc (τ := Cert.KernelCmInFirst.τ) (Cert.KernelCmInFirst.main (F := Bits))) ⟨m, fun _ => 0, g⟩ (fun r => (∀ c : Dev Cert.KernelCmInFirst.nD,
      r.2.mem ((c.tc : Thread Cert.KernelCmInFirst.nD Cert.KernelCmInFirst.τ).loc Cert.KernelCmInFirst.main_arg0) = m ((c.tc : Thread Cert.KernelCmInFirst.nD Cert.KernelCmInFirst.τ).loc Cert.KernelCmInFirst.main_arg0)
      ∧ r.2.mem ((c.tc : Thread Cert.KernelCmInFirst.nD Cert.KernelCmInFirst.τ).loc Cert.KernelCmInFirst.main_arg1) = m ((c.tc : Thread Cert.KernelCmInFirst.nD Cert.KernelCmInFirst.τ).loc Cert.KernelCmInFirst.main_arg1))
      ∧ r.2.sem = fun _ => 0)

def quiescent_KernelCmInFirstIdeal [hKernelCmInFirstIdeal : Cert.KernelCmInFirstIdeal.Facts] : Prop :=
  ∀ (m : (ℓ : Loc Cert.KernelCmInFirstIdeal.nD Cert.KernelCmInFirstIdeal.τ Cert.KernelCmInFirstIdeal.sig) → Buf (Elt Ideal) ℓ) (g : Dev Cert.KernelCmInFirstIdeal.nD → PrngReg), Pre_KernelCmInFirstIdeal m →
    θ_run (Cert.KernelCmInFirstIdeal.defs (F := Ideal)) (onTc (τ := Cert.KernelCmInFirstIdeal.τ) (Cert.KernelCmInFirstIdeal.main (F := Ideal))) ⟨m, fun _ => 0, g⟩ (fun r => (∀ c : Dev Cert.KernelCmInFirstIdeal.nD,
      r.2.mem ((c.tc : Thread Cert.KernelCmInFirstIdeal.nD Cert.KernelCmInFirstIdeal.τ).loc Cert.KernelCmInFirstIdeal.main_arg0) = m ((c.tc : Thread Cert.KernelCmInFirstIdeal.nD Cert.KernelCmInFirstIdeal.τ).loc Cert.KernelCmInFirstIdeal.main_arg0)
      ∧ r.2.mem ((c.tc : Thread Cert.KernelCmInFirstIdeal.nD Cert.KernelCmInFirstIdeal.τ).loc Cert.KernelCmInFirstIdeal.main_arg1) = m ((c.tc : Thread Cert.KernelCmInFirstIdeal.nD Cert.KernelCmInFirstIdeal.τ).loc Cert.KernelCmInFirstIdeal.main_arg1))
      ∧ r.2.sem = fun _ => 0)

def quiescent_ReferenceCmInFirstIdeal [hReferenceCmInFirstIdeal : Cert.ReferenceCmInFirstIdeal.Facts] : Prop :=
  ∀ (m : (ℓ : Loc Cert.ReferenceCmInFirstIdeal.nD Cert.ReferenceCmInFirstIdeal.τ Cert.ReferenceCmInFirstIdeal.sig) → Buf (Elt Ideal) ℓ) (g : Dev Cert.ReferenceCmInFirstIdeal.nD → PrngReg), Pre_ReferenceCmInFirstIdeal m →
    θ_run (Cert.ReferenceCmInFirstIdeal.defs (F := Ideal)) (onTc (τ := Cert.ReferenceCmInFirstIdeal.τ) (Cert.ReferenceCmInFirstIdeal.main (F := Ideal))) ⟨m, fun _ => 0, g⟩ (fun r => (∀ c : Dev Cert.ReferenceCmInFirstIdeal.nD,
      r.2.mem ((c.tc : Thread Cert.ReferenceCmInFirstIdeal.nD Cert.ReferenceCmInFirstIdeal.τ).loc Cert.ReferenceCmInFirstIdeal.main_arg0) = m ((c.tc : Thread Cert.ReferenceCmInFirstIdeal.nD Cert.ReferenceCmInFirstIdeal.τ).loc Cert.ReferenceCmInFirstIdeal.main_arg0)
      ∧ r.2.mem ((c.tc : Thread Cert.ReferenceCmInFirstIdeal.nD Cert.ReferenceCmInFirstIdeal.τ).loc Cert.ReferenceCmInFirstIdeal.main_arg1) = m ((c.tc : Thread Cert.ReferenceCmInFirstIdeal.nD Cert.ReferenceCmInFirstIdeal.τ).loc Cert.ReferenceCmInFirstIdeal.main_arg1))
      ∧ r.2.sem = fun _ => 0)

def quiescent_KernelCmInFirstDw [hKernelCmInFirstDw : Cert.KernelCmInFirstDw.Facts] : Prop :=
  ∀ (m : (ℓ : Loc Cert.KernelCmInFirstDw.nD Cert.KernelCmInFirstDw.τ Cert.KernelCmInFirstDw.sig) → Buf (Elt Bits) ℓ) (g : Dev Cert.KernelCmInFirstDw.nD → PrngReg), Pre_KernelCmInFirstDw m →
    θ_run (Cert.KernelCmInFirstDw.defs (F := Bits)) (onTc (τ := Cert.KernelCmInFirstDw.τ) (Cert.KernelCmInFirstDw.main (F := Bits))) ⟨m, fun _ => 0, g⟩ (fun r => (∀ c : Dev Cert.KernelCmInFirstDw.nD,
      r.2.mem ((c.tc : Thread Cert.KernelCmInFirstDw.nD Cert.KernelCmInFirstDw.τ).loc Cert.KernelCmInFirstDw.main_arg0) = m ((c.tc : Thread Cert.KernelCmInFirstDw.nD Cert.KernelCmInFirstDw.τ).loc Cert.KernelCmInFirstDw.main_arg0)
      ∧ r.2.mem ((c.tc : Thread Cert.KernelCmInFirstDw.nD Cert.KernelCmInFirstDw.τ).loc Cert.KernelCmInFirstDw.main_arg1) = m ((c.tc : Thread Cert.KernelCmInFirstDw.nD Cert.KernelCmInFirstDw.τ).loc Cert.KernelCmInFirstDw.main_arg1))
      ∧ r.2.sem = fun _ => 0)

def quiescent_KernelCmInFirstDwIdeal [hKernelCmInFirstDwIdeal : Cert.KernelCmInFirstDwIdeal.Facts] : Prop :=
  ∀ (m : (ℓ : Loc Cert.KernelCmInFirstDwIdeal.nD Cert.KernelCmInFirstDwIdeal.τ Cert.KernelCmInFirstDwIdeal.sig) → Buf (Elt Ideal) ℓ) (g : Dev Cert.KernelCmInFirstDwIdeal.nD → PrngReg), Pre_KernelCmInFirstDwIdeal m →
    θ_run (Cert.KernelCmInFirstDwIdeal.defs (F := Ideal)) (onTc (τ := Cert.KernelCmInFirstDwIdeal.τ) (Cert.KernelCmInFirstDwIdeal.main (F := Ideal))) ⟨m, fun _ => 0, g⟩ (fun r => (∀ c : Dev Cert.KernelCmInFirstDwIdeal.nD,
      r.2.mem ((c.tc : Thread Cert.KernelCmInFirstDwIdeal.nD Cert.KernelCmInFirstDwIdeal.τ).loc Cert.KernelCmInFirstDwIdeal.main_arg0) = m ((c.tc : Thread Cert.KernelCmInFirstDwIdeal.nD Cert.KernelCmInFirstDwIdeal.τ).loc Cert.KernelCmInFirstDwIdeal.main_arg0)
      ∧ r.2.mem ((c.tc : Thread Cert.KernelCmInFirstDwIdeal.nD Cert.KernelCmInFirstDwIdeal.τ).loc Cert.KernelCmInFirstDwIdeal.main_arg1) = m ((c.tc : Thread Cert.KernelCmInFirstDwIdeal.nD Cert.KernelCmInFirstDwIdeal.τ).loc Cert.KernelCmInFirstDwIdeal.main_arg1))
      ∧ r.2.sem = fun _ => 0)

def quiescent_ReferenceCmInFirstDwIdeal [hReferenceCmInFirstDwIdeal : Cert.ReferenceCmInFirstDwIdeal.Facts] : Prop :=
  ∀ (m : (ℓ : Loc Cert.ReferenceCmInFirstDwIdeal.nD Cert.ReferenceCmInFirstDwIdeal.τ Cert.ReferenceCmInFirstDwIdeal.sig) → Buf (Elt Ideal) ℓ) (g : Dev Cert.ReferenceCmInFirstDwIdeal.nD → PrngReg), Pre_ReferenceCmInFirstDwIdeal m →
    θ_run (Cert.ReferenceCmInFirstDwIdeal.defs (F := Ideal)) (onTc (τ := Cert.ReferenceCmInFirstDwIdeal.τ) (Cert.ReferenceCmInFirstDwIdeal.main (F := Ideal))) ⟨m, fun _ => 0, g⟩ (fun r => (∀ c : Dev Cert.ReferenceCmInFirstDwIdeal.nD,
      r.2.mem ((c.tc : Thread Cert.ReferenceCmInFirstDwIdeal.nD Cert.ReferenceCmInFirstDwIdeal.τ).loc Cert.ReferenceCmInFirstDwIdeal.main_arg0) = m ((c.tc : Thread Cert.ReferenceCmInFirstDwIdeal.nD Cert.ReferenceCmInFirstDwIdeal.τ).loc Cert.ReferenceCmInFirstDwIdeal.main_arg0)
      ∧ r.2.mem ((c.tc : Thread Cert.ReferenceCmInFirstDwIdeal.nD Cert.ReferenceCmInFirstDwIdeal.τ).loc Cert.ReferenceCmInFirstDwIdeal.main_arg1) = m ((c.tc : Thread Cert.ReferenceCmInFirstDwIdeal.nD Cert.ReferenceCmInFirstDwIdeal.τ).loc Cert.ReferenceCmInFirstDwIdeal.main_arg1))
      ∧ r.2.sem = fun _ => 0)

def quiescent_KernelCmInFirstDx [hKernelCmInFirstDx : Cert.KernelCmInFirstDx.Facts] : Prop :=
  ∀ (m : (ℓ : Loc Cert.KernelCmInFirstDx.nD Cert.KernelCmInFirstDx.τ Cert.KernelCmInFirstDx.sig) → Buf (Elt Bits) ℓ) (g : Dev Cert.KernelCmInFirstDx.nD → PrngReg), Pre_KernelCmInFirstDx m →
    θ_run (Cert.KernelCmInFirstDx.defs (F := Bits)) (onTc (τ := Cert.KernelCmInFirstDx.τ) (Cert.KernelCmInFirstDx.main (F := Bits))) ⟨m, fun _ => 0, g⟩ (fun r => (∀ c : Dev Cert.KernelCmInFirstDx.nD,
      r.2.mem ((c.tc : Thread Cert.KernelCmInFirstDx.nD Cert.KernelCmInFirstDx.τ).loc Cert.KernelCmInFirstDx.main_arg0) = m ((c.tc : Thread Cert.KernelCmInFirstDx.nD Cert.KernelCmInFirstDx.τ).loc Cert.KernelCmInFirstDx.main_arg0)
      ∧ r.2.mem ((c.tc : Thread Cert.KernelCmInFirstDx.nD Cert.KernelCmInFirstDx.τ).loc Cert.KernelCmInFirstDx.main_arg1) = m ((c.tc : Thread Cert.KernelCmInFirstDx.nD Cert.KernelCmInFirstDx.τ).loc Cert.KernelCmInFirstDx.main_arg1))
      ∧ r.2.sem = fun _ => 0)

def quiescent_KernelCmInFirstDxIdeal [hKernelCmInFirstDxIdeal : Cert.KernelCmInFirstDxIdeal.Facts] : Prop :=
  ∀ (m : (ℓ : Loc Cert.KernelCmInFirstDxIdeal.nD Cert.KernelCmInFirstDxIdeal.τ Cert.KernelCmInFirstDxIdeal.sig) → Buf (Elt Ideal) ℓ) (g : Dev Cert.KernelCmInFirstDxIdeal.nD → PrngReg), Pre_KernelCmInFirstDxIdeal m →
    θ_run (Cert.KernelCmInFirstDxIdeal.defs (F := Ideal)) (onTc (τ := Cert.KernelCmInFirstDxIdeal.τ) (Cert.KernelCmInFirstDxIdeal.main (F := Ideal))) ⟨m, fun _ => 0, g⟩ (fun r => (∀ c : Dev Cert.KernelCmInFirstDxIdeal.nD,
      r.2.mem ((c.tc : Thread Cert.KernelCmInFirstDxIdeal.nD Cert.KernelCmInFirstDxIdeal.τ).loc Cert.KernelCmInFirstDxIdeal.main_arg0) = m ((c.tc : Thread Cert.KernelCmInFirstDxIdeal.nD Cert.KernelCmInFirstDxIdeal.τ).loc Cert.KernelCmInFirstDxIdeal.main_arg0)
      ∧ r.2.mem ((c.tc : Thread Cert.KernelCmInFirstDxIdeal.nD Cert.KernelCmInFirstDxIdeal.τ).loc Cert.KernelCmInFirstDxIdeal.main_arg1) = m ((c.tc : Thread Cert.KernelCmInFirstDxIdeal.nD Cert.KernelCmInFirstDxIdeal.τ).loc Cert.KernelCmInFirstDxIdeal.main_arg1))
      ∧ r.2.sem = fun _ => 0)

def quiescent_ReferenceCmInFirstDxIdeal [hReferenceCmInFirstDxIdeal : Cert.ReferenceCmInFirstDxIdeal.Facts] : Prop :=
  ∀ (m : (ℓ : Loc Cert.ReferenceCmInFirstDxIdeal.nD Cert.ReferenceCmInFirstDxIdeal.τ Cert.ReferenceCmInFirstDxIdeal.sig) → Buf (Elt Ideal) ℓ) (g : Dev Cert.ReferenceCmInFirstDxIdeal.nD → PrngReg), Pre_ReferenceCmInFirstDxIdeal m →
    θ_run (Cert.ReferenceCmInFirstDxIdeal.defs (F := Ideal)) (onTc (τ := Cert.ReferenceCmInFirstDxIdeal.τ) (Cert.ReferenceCmInFirstDxIdeal.main (F := Ideal))) ⟨m, fun _ => 0, g⟩ (fun r => (∀ c : Dev Cert.ReferenceCmInFirstDxIdeal.nD,
      r.2.mem ((c.tc : Thread Cert.ReferenceCmInFirstDxIdeal.nD Cert.ReferenceCmInFirstDxIdeal.τ).loc Cert.ReferenceCmInFirstDxIdeal.main_arg0) = m ((c.tc : Thread Cert.ReferenceCmInFirstDxIdeal.nD Cert.ReferenceCmInFirstDxIdeal.τ).loc Cert.ReferenceCmInFirstDxIdeal.main_arg0)
      ∧ r.2.mem ((c.tc : Thread Cert.ReferenceCmInFirstDxIdeal.nD Cert.ReferenceCmInFirstDxIdeal.τ).loc Cert.ReferenceCmInFirstDxIdeal.main_arg1) = m ((c.tc : Thread Cert.ReferenceCmInFirstDxIdeal.nD Cert.ReferenceCmInFirstDxIdeal.τ).loc Cert.ReferenceCmInFirstDxIdeal.main_arg1))
      ∧ r.2.sem = fun _ => 0)

def quiescent_KernelCmOutFirst [hKernelCmOutFirst : Cert.KernelCmOutFirst.Facts] : Prop :=
  ∀ (m : (ℓ : Loc Cert.KernelCmOutFirst.nD Cert.KernelCmOutFirst.τ Cert.KernelCmOutFirst.sig) → Buf (Elt Bits) ℓ) (g : Dev Cert.KernelCmOutFirst.nD → PrngReg), Pre_KernelCmOutFirst m →
    θ_run (Cert.KernelCmOutFirst.defs (F := Bits)) (onTc (τ := Cert.KernelCmOutFirst.τ) (Cert.KernelCmOutFirst.main (F := Bits))) ⟨m, fun _ => 0, g⟩ (fun r => (∀ c : Dev Cert.KernelCmOutFirst.nD,
      r.2.mem ((c.tc : Thread Cert.KernelCmOutFirst.nD Cert.KernelCmOutFirst.τ).loc Cert.KernelCmOutFirst.main_arg0) = m ((c.tc : Thread Cert.KernelCmOutFirst.nD Cert.KernelCmOutFirst.τ).loc Cert.KernelCmOutFirst.main_arg0)
      ∧ r.2.mem ((c.tc : Thread Cert.KernelCmOutFirst.nD Cert.KernelCmOutFirst.τ).loc Cert.KernelCmOutFirst.main_arg1) = m ((c.tc : Thread Cert.KernelCmOutFirst.nD Cert.KernelCmOutFirst.τ).loc Cert.KernelCmOutFirst.main_arg1))
      ∧ r.2.sem = fun _ => 0)

def quiescent_KernelCmOutFirstIdeal [hKernelCmOutFirstIdeal : Cert.KernelCmOutFirstIdeal.Facts] : Prop :=
  ∀ (m : (ℓ : Loc Cert.KernelCmOutFirstIdeal.nD Cert.KernelCmOutFirstIdeal.τ Cert.KernelCmOutFirstIdeal.sig) → Buf (Elt Ideal) ℓ) (g : Dev Cert.KernelCmOutFirstIdeal.nD → PrngReg), Pre_KernelCmOutFirstIdeal m →
    θ_run (Cert.KernelCmOutFirstIdeal.defs (F := Ideal)) (onTc (τ := Cert.KernelCmOutFirstIdeal.τ) (Cert.KernelCmOutFirstIdeal.main (F := Ideal))) ⟨m, fun _ => 0, g⟩ (fun r => (∀ c : Dev Cert.KernelCmOutFirstIdeal.nD,
      r.2.mem ((c.tc : Thread Cert.KernelCmOutFirstIdeal.nD Cert.KernelCmOutFirstIdeal.τ).loc Cert.KernelCmOutFirstIdeal.main_arg0) = m ((c.tc : Thread Cert.KernelCmOutFirstIdeal.nD Cert.KernelCmOutFirstIdeal.τ).loc Cert.KernelCmOutFirstIdeal.main_arg0)
      ∧ r.2.mem ((c.tc : Thread Cert.KernelCmOutFirstIdeal.nD Cert.KernelCmOutFirstIdeal.τ).loc Cert.KernelCmOutFirstIdeal.main_arg1) = m ((c.tc : Thread Cert.KernelCmOutFirstIdeal.nD Cert.KernelCmOutFirstIdeal.τ).loc Cert.KernelCmOutFirstIdeal.main_arg1))
      ∧ r.2.sem = fun _ => 0)

def quiescent_ReferenceCmOutFirstIdeal [hReferenceCmOutFirstIdeal : Cert.ReferenceCmOutFirstIdeal.Facts] : Prop :=
  ∀ (m : (ℓ : Loc Cert.ReferenceCmOutFirstIdeal.nD Cert.ReferenceCmOutFirstIdeal.τ Cert.ReferenceCmOutFirstIdeal.sig) → Buf (Elt Ideal) ℓ) (g : Dev Cert.ReferenceCmOutFirstIdeal.nD → PrngReg), Pre_ReferenceCmOutFirstIdeal m →
    θ_run (Cert.ReferenceCmOutFirstIdeal.defs (F := Ideal)) (onTc (τ := Cert.ReferenceCmOutFirstIdeal.τ) (Cert.ReferenceCmOutFirstIdeal.main (F := Ideal))) ⟨m, fun _ => 0, g⟩ (fun r => (∀ c : Dev Cert.ReferenceCmOutFirstIdeal.nD,
      r.2.mem ((c.tc : Thread Cert.ReferenceCmOutFirstIdeal.nD Cert.ReferenceCmOutFirstIdeal.τ).loc Cert.ReferenceCmOutFirstIdeal.main_arg0) = m ((c.tc : Thread Cert.ReferenceCmOutFirstIdeal.nD Cert.ReferenceCmOutFirstIdeal.τ).loc Cert.ReferenceCmOutFirstIdeal.main_arg0)
      ∧ r.2.mem ((c.tc : Thread Cert.ReferenceCmOutFirstIdeal.nD Cert.ReferenceCmOutFirstIdeal.τ).loc Cert.ReferenceCmOutFirstIdeal.main_arg1) = m ((c.tc : Thread Cert.ReferenceCmOutFirstIdeal.nD Cert.ReferenceCmOutFirstIdeal.τ).loc Cert.ReferenceCmOutFirstIdeal.main_arg1))
      ∧ r.2.sem = fun _ => 0)

def quiescent_KernelCmOutFirstDw [hKernelCmOutFirstDw : Cert.KernelCmOutFirstDw.Facts] : Prop :=
  ∀ (m : (ℓ : Loc Cert.KernelCmOutFirstDw.nD Cert.KernelCmOutFirstDw.τ Cert.KernelCmOutFirstDw.sig) → Buf (Elt Bits) ℓ) (g : Dev Cert.KernelCmOutFirstDw.nD → PrngReg), Pre_KernelCmOutFirstDw m →
    θ_run (Cert.KernelCmOutFirstDw.defs (F := Bits)) (onTc (τ := Cert.KernelCmOutFirstDw.τ) (Cert.KernelCmOutFirstDw.main (F := Bits))) ⟨m, fun _ => 0, g⟩ (fun r => (∀ c : Dev Cert.KernelCmOutFirstDw.nD,
      r.2.mem ((c.tc : Thread Cert.KernelCmOutFirstDw.nD Cert.KernelCmOutFirstDw.τ).loc Cert.KernelCmOutFirstDw.main_arg0) = m ((c.tc : Thread Cert.KernelCmOutFirstDw.nD Cert.KernelCmOutFirstDw.τ).loc Cert.KernelCmOutFirstDw.main_arg0)
      ∧ r.2.mem ((c.tc : Thread Cert.KernelCmOutFirstDw.nD Cert.KernelCmOutFirstDw.τ).loc Cert.KernelCmOutFirstDw.main_arg1) = m ((c.tc : Thread Cert.KernelCmOutFirstDw.nD Cert.KernelCmOutFirstDw.τ).loc Cert.KernelCmOutFirstDw.main_arg1))
      ∧ r.2.sem = fun _ => 0)

def quiescent_KernelCmOutFirstDwIdeal [hKernelCmOutFirstDwIdeal : Cert.KernelCmOutFirstDwIdeal.Facts] : Prop :=
  ∀ (m : (ℓ : Loc Cert.KernelCmOutFirstDwIdeal.nD Cert.KernelCmOutFirstDwIdeal.τ Cert.KernelCmOutFirstDwIdeal.sig) → Buf (Elt Ideal) ℓ) (g : Dev Cert.KernelCmOutFirstDwIdeal.nD → PrngReg), Pre_KernelCmOutFirstDwIdeal m →
    θ_run (Cert.KernelCmOutFirstDwIdeal.defs (F := Ideal)) (onTc (τ := Cert.KernelCmOutFirstDwIdeal.τ) (Cert.KernelCmOutFirstDwIdeal.main (F := Ideal))) ⟨m, fun _ => 0, g⟩ (fun r => (∀ c : Dev Cert.KernelCmOutFirstDwIdeal.nD,
      r.2.mem ((c.tc : Thread Cert.KernelCmOutFirstDwIdeal.nD Cert.KernelCmOutFirstDwIdeal.τ).loc Cert.KernelCmOutFirstDwIdeal.main_arg0) = m ((c.tc : Thread Cert.KernelCmOutFirstDwIdeal.nD Cert.KernelCmOutFirstDwIdeal.τ).loc Cert.KernelCmOutFirstDwIdeal.main_arg0)
      ∧ r.2.mem ((c.tc : Thread Cert.KernelCmOutFirstDwIdeal.nD Cert.KernelCmOutFirstDwIdeal.τ).loc Cert.KernelCmOutFirstDwIdeal.main_arg1) = m ((c.tc : Thread Cert.KernelCmOutFirstDwIdeal.nD Cert.KernelCmOutFirstDwIdeal.τ).loc Cert.KernelCmOutFirstDwIdeal.main_arg1))
      ∧ r.2.sem = fun _ => 0)

def quiescent_ReferenceCmOutFirstDwIdeal [hReferenceCmOutFirstDwIdeal : Cert.ReferenceCmOutFirstDwIdeal.Facts] : Prop :=
  ∀ (m : (ℓ : Loc Cert.ReferenceCmOutFirstDwIdeal.nD Cert.ReferenceCmOutFirstDwIdeal.τ Cert.ReferenceCmOutFirstDwIdeal.sig) → Buf (Elt Ideal) ℓ) (g : Dev Cert.ReferenceCmOutFirstDwIdeal.nD → PrngReg), Pre_ReferenceCmOutFirstDwIdeal m →
    θ_run (Cert.ReferenceCmOutFirstDwIdeal.defs (F := Ideal)) (onTc (τ := Cert.ReferenceCmOutFirstDwIdeal.τ) (Cert.ReferenceCmOutFirstDwIdeal.main (F := Ideal))) ⟨m, fun _ => 0, g⟩ (fun r => (∀ c : Dev Cert.ReferenceCmOutFirstDwIdeal.nD,
      r.2.mem ((c.tc : Thread Cert.ReferenceCmOutFirstDwIdeal.nD Cert.ReferenceCmOutFirstDwIdeal.τ).loc Cert.ReferenceCmOutFirstDwIdeal.main_arg0) = m ((c.tc : Thread Cert.ReferenceCmOutFirstDwIdeal.nD Cert.ReferenceCmOutFirstDwIdeal.τ).loc Cert.ReferenceCmOutFirstDwIdeal.main_arg0)
      ∧ r.2.mem ((c.tc : Thread Cert.ReferenceCmOutFirstDwIdeal.nD Cert.ReferenceCmOutFirstDwIdeal.τ).loc Cert.ReferenceCmOutFirstDwIdeal.main_arg1) = m ((c.tc : Thread Cert.ReferenceCmOutFirstDwIdeal.nD Cert.ReferenceCmOutFirstDwIdeal.τ).loc Cert.ReferenceCmOutFirstDwIdeal.main_arg1))
      ∧ r.2.sem = fun _ => 0)

def quiescent_KernelCmOutFirstDx [hKernelCmOutFirstDx : Cert.KernelCmOutFirstDx.Facts] : Prop :=
  ∀ (m : (ℓ : Loc Cert.KernelCmOutFirstDx.nD Cert.KernelCmOutFirstDx.τ Cert.KernelCmOutFirstDx.sig) → Buf (Elt Bits) ℓ) (g : Dev Cert.KernelCmOutFirstDx.nD → PrngReg), Pre_KernelCmOutFirstDx m →
    θ_run (Cert.KernelCmOutFirstDx.defs (F := Bits)) (onTc (τ := Cert.KernelCmOutFirstDx.τ) (Cert.KernelCmOutFirstDx.main (F := Bits))) ⟨m, fun _ => 0, g⟩ (fun r => (∀ c : Dev Cert.KernelCmOutFirstDx.nD,
      r.2.mem ((c.tc : Thread Cert.KernelCmOutFirstDx.nD Cert.KernelCmOutFirstDx.τ).loc Cert.KernelCmOutFirstDx.main_arg0) = m ((c.tc : Thread Cert.KernelCmOutFirstDx.nD Cert.KernelCmOutFirstDx.τ).loc Cert.KernelCmOutFirstDx.main_arg0)
      ∧ r.2.mem ((c.tc : Thread Cert.KernelCmOutFirstDx.nD Cert.KernelCmOutFirstDx.τ).loc Cert.KernelCmOutFirstDx.main_arg1) = m ((c.tc : Thread Cert.KernelCmOutFirstDx.nD Cert.KernelCmOutFirstDx.τ).loc Cert.KernelCmOutFirstDx.main_arg1))
      ∧ r.2.sem = fun _ => 0)

def quiescent_KernelCmOutFirstDxIdeal [hKernelCmOutFirstDxIdeal : Cert.KernelCmOutFirstDxIdeal.Facts] : Prop :=
  ∀ (m : (ℓ : Loc Cert.KernelCmOutFirstDxIdeal.nD Cert.KernelCmOutFirstDxIdeal.τ Cert.KernelCmOutFirstDxIdeal.sig) → Buf (Elt Ideal) ℓ) (g : Dev Cert.KernelCmOutFirstDxIdeal.nD → PrngReg), Pre_KernelCmOutFirstDxIdeal m →
    θ_run (Cert.KernelCmOutFirstDxIdeal.defs (F := Ideal)) (onTc (τ := Cert.KernelCmOutFirstDxIdeal.τ) (Cert.KernelCmOutFirstDxIdeal.main (F := Ideal))) ⟨m, fun _ => 0, g⟩ (fun r => (∀ c : Dev Cert.KernelCmOutFirstDxIdeal.nD,
      r.2.mem ((c.tc : Thread Cert.KernelCmOutFirstDxIdeal.nD Cert.KernelCmOutFirstDxIdeal.τ).loc Cert.KernelCmOutFirstDxIdeal.main_arg0) = m ((c.tc : Thread Cert.KernelCmOutFirstDxIdeal.nD Cert.KernelCmOutFirstDxIdeal.τ).loc Cert.KernelCmOutFirstDxIdeal.main_arg0)
      ∧ r.2.mem ((c.tc : Thread Cert.KernelCmOutFirstDxIdeal.nD Cert.KernelCmOutFirstDxIdeal.τ).loc Cert.KernelCmOutFirstDxIdeal.main_arg1) = m ((c.tc : Thread Cert.KernelCmOutFirstDxIdeal.nD Cert.KernelCmOutFirstDxIdeal.τ).loc Cert.KernelCmOutFirstDxIdeal.main_arg1))
      ∧ r.2.sem = fun _ => 0)

def quiescent_ReferenceCmOutFirstDxIdeal [hReferenceCmOutFirstDxIdeal : Cert.ReferenceCmOutFirstDxIdeal.Facts] : Prop :=
  ∀ (m : (ℓ : Loc Cert.ReferenceCmOutFirstDxIdeal.nD Cert.ReferenceCmOutFirstDxIdeal.τ Cert.ReferenceCmOutFirstDxIdeal.sig) → Buf (Elt Ideal) ℓ) (g : Dev Cert.ReferenceCmOutFirstDxIdeal.nD → PrngReg), Pre_ReferenceCmOutFirstDxIdeal m →
    θ_run (Cert.ReferenceCmOutFirstDxIdeal.defs (F := Ideal)) (onTc (τ := Cert.ReferenceCmOutFirstDxIdeal.τ) (Cert.ReferenceCmOutFirstDxIdeal.main (F := Ideal))) ⟨m, fun _ => 0, g⟩ (fun r => (∀ c : Dev Cert.ReferenceCmOutFirstDxIdeal.nD,
      r.2.mem ((c.tc : Thread Cert.ReferenceCmOutFirstDxIdeal.nD Cert.ReferenceCmOutFirstDxIdeal.τ).loc Cert.ReferenceCmOutFirstDxIdeal.main_arg0) = m ((c.tc : Thread Cert.ReferenceCmOutFirstDxIdeal.nD Cert.ReferenceCmOutFirstDxIdeal.τ).loc Cert.ReferenceCmOutFirstDxIdeal.main_arg0)
      ∧ r.2.mem ((c.tc : Thread Cert.ReferenceCmOutFirstDxIdeal.nD Cert.ReferenceCmOutFirstDxIdeal.τ).loc Cert.ReferenceCmOutFirstDxIdeal.main_arg1) = m ((c.tc : Thread Cert.ReferenceCmOutFirstDxIdeal.nD Cert.ReferenceCmOutFirstDxIdeal.τ).loc Cert.ReferenceCmOutFirstDxIdeal.main_arg1))
      ∧ r.2.sem = fun _ => 0)

def quiescent_KernelQkv [hKernelQkv : Cert.KernelQkv.Facts] : Prop :=
  ∀ (m : (ℓ : Loc Cert.KernelQkv.nD Cert.KernelQkv.τ Cert.KernelQkv.sig) → Buf (Elt Bits) ℓ) (g : Dev Cert.KernelQkv.nD → PrngReg), Pre_KernelQkv m →
    θ_run (Cert.KernelQkv.defs (F := Bits)) (onTc (τ := Cert.KernelQkv.τ) (Cert.KernelQkv.main (F := Bits))) ⟨m, fun _ => 0, g⟩ (fun r => (∀ c : Dev Cert.KernelQkv.nD,
      r.2.mem ((c.tc : Thread Cert.KernelQkv.nD Cert.KernelQkv.τ).loc Cert.KernelQkv.main_arg0) = m ((c.tc : Thread Cert.KernelQkv.nD Cert.KernelQkv.τ).loc Cert.KernelQkv.main_arg0)
      ∧ r.2.mem ((c.tc : Thread Cert.KernelQkv.nD Cert.KernelQkv.τ).loc Cert.KernelQkv.main_arg1) = m ((c.tc : Thread Cert.KernelQkv.nD Cert.KernelQkv.τ).loc Cert.KernelQkv.main_arg1))
      ∧ r.2.sem = fun _ => 0)

def quiescent_KernelQkvIdeal [hKernelQkvIdeal : Cert.KernelQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg), Pre_KernelQkvIdeal m →
    θ_run (Cert.KernelQkvIdeal.defs (F := Ideal)) (onTc (τ := Cert.KernelQkvIdeal.τ) (Cert.KernelQkvIdeal.main (F := Ideal))) ⟨m, fun _ => 0, g⟩ (fun r => (∀ c : Dev Cert.KernelQkvIdeal.nD,
      r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
      ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1))
      ∧ r.2.sem = fun _ => 0)

def quiescent_ReferenceQkvIdeal [hReferenceQkvIdeal : Cert.ReferenceQkvIdeal.Facts] : Prop :=
  ∀ (m : (ℓ : Loc Cert.ReferenceQkvIdeal.nD Cert.ReferenceQkvIdeal.τ Cert.ReferenceQkvIdeal.sig) → Buf (Elt Ideal) ℓ) (g : Dev Cert.ReferenceQkvIdeal.nD → PrngReg), Pre_ReferenceQkvIdeal m →
    θ_run (Cert.ReferenceQkvIdeal.defs (F := Ideal)) (onTc (τ := Cert.ReferenceQkvIdeal.τ) (Cert.ReferenceQkvIdeal.main (F := Ideal))) ⟨m, fun _ => 0, g⟩ (fun r => (∀ c : Dev Cert.ReferenceQkvIdeal.nD,
      r.2.mem ((c.tc : Thread Cert.ReferenceQkvIdeal.nD Cert.ReferenceQkvIdeal.τ).loc Cert.ReferenceQkvIdeal.main_arg0) = m ((c.tc : Thread Cert.ReferenceQkvIdeal.nD Cert.ReferenceQkvIdeal.τ).loc Cert.ReferenceQkvIdeal.main_arg0)
      ∧ r.2.mem ((c.tc : Thread Cert.ReferenceQkvIdeal.nD Cert.ReferenceQkvIdeal.τ).loc Cert.ReferenceQkvIdeal.main_arg1) = m ((c.tc : Thread Cert.ReferenceQkvIdeal.nD Cert.ReferenceQkvIdeal.τ).loc Cert.ReferenceQkvIdeal.main_arg1))
      ∧ r.2.sem = fun _ => 0)

def quiescent_KernelQkvDw [hKernelQkvDw : Cert.KernelQkvDw.Facts] : Prop :=
  ∀ (m : (ℓ : Loc Cert.KernelQkvDw.nD Cert.KernelQkvDw.τ Cert.KernelQkvDw.sig) → Buf (Elt Bits) ℓ) (g : Dev Cert.KernelQkvDw.nD → PrngReg), Pre_KernelQkvDw m →
    θ_run (Cert.KernelQkvDw.defs (F := Bits)) (onTc (τ := Cert.KernelQkvDw.τ) (Cert.KernelQkvDw.main (F := Bits))) ⟨m, fun _ => 0, g⟩ (fun r => (∀ c : Dev Cert.KernelQkvDw.nD,
      r.2.mem ((c.tc : Thread Cert.KernelQkvDw.nD Cert.KernelQkvDw.τ).loc Cert.KernelQkvDw.main_arg0) = m ((c.tc : Thread Cert.KernelQkvDw.nD Cert.KernelQkvDw.τ).loc Cert.KernelQkvDw.main_arg0)
      ∧ r.2.mem ((c.tc : Thread Cert.KernelQkvDw.nD Cert.KernelQkvDw.τ).loc Cert.KernelQkvDw.main_arg1) = m ((c.tc : Thread Cert.KernelQkvDw.nD Cert.KernelQkvDw.τ).loc Cert.KernelQkvDw.main_arg1))
      ∧ r.2.sem = fun _ => 0)

def quiescent_KernelQkvDwIdeal [hKernelQkvDwIdeal : Cert.KernelQkvDwIdeal.Facts] : Prop :=
  ∀ (m : (ℓ : Loc Cert.KernelQkvDwIdeal.nD Cert.KernelQkvDwIdeal.τ Cert.KernelQkvDwIdeal.sig) → Buf (Elt Ideal) ℓ) (g : Dev Cert.KernelQkvDwIdeal.nD → PrngReg), Pre_KernelQkvDwIdeal m →
    θ_run (Cert.KernelQkvDwIdeal.defs (F := Ideal)) (onTc (τ := Cert.KernelQkvDwIdeal.τ) (Cert.KernelQkvDwIdeal.main (F := Ideal))) ⟨m, fun _ => 0, g⟩ (fun r => (∀ c : Dev Cert.KernelQkvDwIdeal.nD,
      r.2.mem ((c.tc : Thread Cert.KernelQkvDwIdeal.nD Cert.KernelQkvDwIdeal.τ).loc Cert.KernelQkvDwIdeal.main_arg0) = m ((c.tc : Thread Cert.KernelQkvDwIdeal.nD Cert.KernelQkvDwIdeal.τ).loc Cert.KernelQkvDwIdeal.main_arg0)
      ∧ r.2.mem ((c.tc : Thread Cert.KernelQkvDwIdeal.nD Cert.KernelQkvDwIdeal.τ).loc Cert.KernelQkvDwIdeal.main_arg1) = m ((c.tc : Thread Cert.KernelQkvDwIdeal.nD Cert.KernelQkvDwIdeal.τ).loc Cert.KernelQkvDwIdeal.main_arg1))
      ∧ r.2.sem = fun _ => 0)

def quiescent_ReferenceQkvDwIdeal [hReferenceQkvDwIdeal : Cert.ReferenceQkvDwIdeal.Facts] : Prop :=
  ∀ (m : (ℓ : Loc Cert.ReferenceQkvDwIdeal.nD Cert.ReferenceQkvDwIdeal.τ Cert.ReferenceQkvDwIdeal.sig) → Buf (Elt Ideal) ℓ) (g : Dev Cert.ReferenceQkvDwIdeal.nD → PrngReg), Pre_ReferenceQkvDwIdeal m →
    θ_run (Cert.ReferenceQkvDwIdeal.defs (F := Ideal)) (onTc (τ := Cert.ReferenceQkvDwIdeal.τ) (Cert.ReferenceQkvDwIdeal.main (F := Ideal))) ⟨m, fun _ => 0, g⟩ (fun r => (∀ c : Dev Cert.ReferenceQkvDwIdeal.nD,
      r.2.mem ((c.tc : Thread Cert.ReferenceQkvDwIdeal.nD Cert.ReferenceQkvDwIdeal.τ).loc Cert.ReferenceQkvDwIdeal.main_arg0) = m ((c.tc : Thread Cert.ReferenceQkvDwIdeal.nD Cert.ReferenceQkvDwIdeal.τ).loc Cert.ReferenceQkvDwIdeal.main_arg0)
      ∧ r.2.mem ((c.tc : Thread Cert.ReferenceQkvDwIdeal.nD Cert.ReferenceQkvDwIdeal.τ).loc Cert.ReferenceQkvDwIdeal.main_arg1) = m ((c.tc : Thread Cert.ReferenceQkvDwIdeal.nD Cert.ReferenceQkvDwIdeal.τ).loc Cert.ReferenceQkvDwIdeal.main_arg1))
      ∧ r.2.sem = fun _ => 0)

def quiescent_KernelQkvDx [hKernelQkvDx : Cert.KernelQkvDx.Facts] : Prop :=
  ∀ (m : (ℓ : Loc Cert.KernelQkvDx.nD Cert.KernelQkvDx.τ Cert.KernelQkvDx.sig) → Buf (Elt Bits) ℓ) (g : Dev Cert.KernelQkvDx.nD → PrngReg), Pre_KernelQkvDx m →
    θ_run (Cert.KernelQkvDx.defs (F := Bits)) (onTc (τ := Cert.KernelQkvDx.τ) (Cert.KernelQkvDx.main (F := Bits))) ⟨m, fun _ => 0, g⟩ (fun r => (∀ c : Dev Cert.KernelQkvDx.nD,
      r.2.mem ((c.tc : Thread Cert.KernelQkvDx.nD Cert.KernelQkvDx.τ).loc Cert.KernelQkvDx.main_arg0) = m ((c.tc : Thread Cert.KernelQkvDx.nD Cert.KernelQkvDx.τ).loc Cert.KernelQkvDx.main_arg0)
      ∧ r.2.mem ((c.tc : Thread Cert.KernelQkvDx.nD Cert.KernelQkvDx.τ).loc Cert.KernelQkvDx.main_arg1) = m ((c.tc : Thread Cert.KernelQkvDx.nD Cert.KernelQkvDx.τ).loc Cert.KernelQkvDx.main_arg1))
      ∧ r.2.sem = fun _ => 0)

def quiescent_KernelQkvDxIdeal [hKernelQkvDxIdeal : Cert.KernelQkvDxIdeal.Facts] : Prop :=
  ∀ (m : (ℓ : Loc Cert.KernelQkvDxIdeal.nD Cert.KernelQkvDxIdeal.τ Cert.KernelQkvDxIdeal.sig) → Buf (Elt Ideal) ℓ) (g : Dev Cert.KernelQkvDxIdeal.nD → PrngReg), Pre_KernelQkvDxIdeal m →
    θ_run (Cert.KernelQkvDxIdeal.defs (F := Ideal)) (onTc (τ := Cert.KernelQkvDxIdeal.τ) (Cert.KernelQkvDxIdeal.main (F := Ideal))) ⟨m, fun _ => 0, g⟩ (fun r => (∀ c : Dev Cert.KernelQkvDxIdeal.nD,
      r.2.mem ((c.tc : Thread Cert.KernelQkvDxIdeal.nD Cert.KernelQkvDxIdeal.τ).loc Cert.KernelQkvDxIdeal.main_arg0) = m ((c.tc : Thread Cert.KernelQkvDxIdeal.nD Cert.KernelQkvDxIdeal.τ).loc Cert.KernelQkvDxIdeal.main_arg0)
      ∧ r.2.mem ((c.tc : Thread Cert.KernelQkvDxIdeal.nD Cert.KernelQkvDxIdeal.τ).loc Cert.KernelQkvDxIdeal.main_arg1) = m ((c.tc : Thread Cert.KernelQkvDxIdeal.nD Cert.KernelQkvDxIdeal.τ).loc Cert.KernelQkvDxIdeal.main_arg1))
      ∧ r.2.sem = fun _ => 0)

def quiescent_ReferenceQkvDxIdeal [hReferenceQkvDxIdeal : Cert.ReferenceQkvDxIdeal.Facts] : Prop :=
  ∀ (m : (ℓ : Loc Cert.ReferenceQkvDxIdeal.nD Cert.ReferenceQkvDxIdeal.τ Cert.ReferenceQkvDxIdeal.sig) → Buf (Elt Ideal) ℓ) (g : Dev Cert.ReferenceQkvDxIdeal.nD → PrngReg), Pre_ReferenceQkvDxIdeal m →
    θ_run (Cert.ReferenceQkvDxIdeal.defs (F := Ideal)) (onTc (τ := Cert.ReferenceQkvDxIdeal.τ) (Cert.ReferenceQkvDxIdeal.main (F := Ideal))) ⟨m, fun _ => 0, g⟩ (fun r => (∀ c : Dev Cert.ReferenceQkvDxIdeal.nD,
      r.2.mem ((c.tc : Thread Cert.ReferenceQkvDxIdeal.nD Cert.ReferenceQkvDxIdeal.τ).loc Cert.ReferenceQkvDxIdeal.main_arg0) = m ((c.tc : Thread Cert.ReferenceQkvDxIdeal.nD Cert.ReferenceQkvDxIdeal.τ).loc Cert.ReferenceQkvDxIdeal.main_arg0)
      ∧ r.2.mem ((c.tc : Thread Cert.ReferenceQkvDxIdeal.nD Cert.ReferenceQkvDxIdeal.τ).loc Cert.ReferenceQkvDxIdeal.main_arg1) = m ((c.tc : Thread Cert.ReferenceQkvDxIdeal.nD Cert.ReferenceQkvDxIdeal.τ).loc Cert.ReferenceQkvDxIdeal.main_arg1))
      ∧ r.2.sem = fun _ => 0)

def quiescent_KernelGmIn [hKernelGmIn : Cert.KernelGmIn.Facts] : Prop :=
  ∀ (m : (ℓ : Loc Cert.KernelGmIn.nD Cert.KernelGmIn.τ Cert.KernelGmIn.sig) → Buf (Elt Bits) ℓ) (g : Dev Cert.KernelGmIn.nD → PrngReg), Pre_KernelGmIn m →
    θ_run (Cert.KernelGmIn.defs (F := Bits)) (onTc (τ := Cert.KernelGmIn.τ) (Cert.KernelGmIn.main (F := Bits))) ⟨m, fun _ => 0, g⟩ (fun r => (∀ c : Dev Cert.KernelGmIn.nD,
      r.2.mem ((c.tc : Thread Cert.KernelGmIn.nD Cert.KernelGmIn.τ).loc Cert.KernelGmIn.main_arg0) = m ((c.tc : Thread Cert.KernelGmIn.nD Cert.KernelGmIn.τ).loc Cert.KernelGmIn.main_arg0)
      ∧ r.2.mem ((c.tc : Thread Cert.KernelGmIn.nD Cert.KernelGmIn.τ).loc Cert.KernelGmIn.main_arg1) = m ((c.tc : Thread Cert.KernelGmIn.nD Cert.KernelGmIn.τ).loc Cert.KernelGmIn.main_arg1))
      ∧ r.2.sem = fun _ => 0)

def quiescent_KernelGmInIdeal [hKernelGmInIdeal : Cert.KernelGmInIdeal.Facts] : Prop :=
  ∀ (m : (ℓ : Loc Cert.KernelGmInIdeal.nD Cert.KernelGmInIdeal.τ Cert.KernelGmInIdeal.sig) → Buf (Elt Ideal) ℓ) (g : Dev Cert.KernelGmInIdeal.nD → PrngReg), Pre_KernelGmInIdeal m →
    θ_run (Cert.KernelGmInIdeal.defs (F := Ideal)) (onTc (τ := Cert.KernelGmInIdeal.τ) (Cert.KernelGmInIdeal.main (F := Ideal))) ⟨m, fun _ => 0, g⟩ (fun r => (∀ c : Dev Cert.KernelGmInIdeal.nD,
      r.2.mem ((c.tc : Thread Cert.KernelGmInIdeal.nD Cert.KernelGmInIdeal.τ).loc Cert.KernelGmInIdeal.main_arg0) = m ((c.tc : Thread Cert.KernelGmInIdeal.nD Cert.KernelGmInIdeal.τ).loc Cert.KernelGmInIdeal.main_arg0)
      ∧ r.2.mem ((c.tc : Thread Cert.KernelGmInIdeal.nD Cert.KernelGmInIdeal.τ).loc Cert.KernelGmInIdeal.main_arg1) = m ((c.tc : Thread Cert.KernelGmInIdeal.nD Cert.KernelGmInIdeal.τ).loc Cert.KernelGmInIdeal.main_arg1))
      ∧ r.2.sem = fun _ => 0)

def quiescent_ReferenceGmInIdeal [hReferenceGmInIdeal : Cert.ReferenceGmInIdeal.Facts] : Prop :=
  ∀ (m : (ℓ : Loc Cert.ReferenceGmInIdeal.nD Cert.ReferenceGmInIdeal.τ Cert.ReferenceGmInIdeal.sig) → Buf (Elt Ideal) ℓ) (g : Dev Cert.ReferenceGmInIdeal.nD → PrngReg), Pre_ReferenceGmInIdeal m →
    θ_run (Cert.ReferenceGmInIdeal.defs (F := Ideal)) (onTc (τ := Cert.ReferenceGmInIdeal.τ) (Cert.ReferenceGmInIdeal.main (F := Ideal))) ⟨m, fun _ => 0, g⟩ (fun r => (∀ c : Dev Cert.ReferenceGmInIdeal.nD,
      r.2.mem ((c.tc : Thread Cert.ReferenceGmInIdeal.nD Cert.ReferenceGmInIdeal.τ).loc Cert.ReferenceGmInIdeal.main_arg0) = m ((c.tc : Thread Cert.ReferenceGmInIdeal.nD Cert.ReferenceGmInIdeal.τ).loc Cert.ReferenceGmInIdeal.main_arg0)
      ∧ r.2.mem ((c.tc : Thread Cert.ReferenceGmInIdeal.nD Cert.ReferenceGmInIdeal.τ).loc Cert.ReferenceGmInIdeal.main_arg1) = m ((c.tc : Thread Cert.ReferenceGmInIdeal.nD Cert.ReferenceGmInIdeal.τ).loc Cert.ReferenceGmInIdeal.main_arg1))
      ∧ r.2.sem = fun _ => 0)

def quiescent_KernelGmInDw [hKernelGmInDw : Cert.KernelGmInDw.Facts] : Prop :=
  ∀ (m : (ℓ : Loc Cert.KernelGmInDw.nD Cert.KernelGmInDw.τ Cert.KernelGmInDw.sig) → Buf (Elt Bits) ℓ) (g : Dev Cert.KernelGmInDw.nD → PrngReg), Pre_KernelGmInDw m →
    θ_run (Cert.KernelGmInDw.defs (F := Bits)) (onTc (τ := Cert.KernelGmInDw.τ) (Cert.KernelGmInDw.main (F := Bits))) ⟨m, fun _ => 0, g⟩ (fun r => (∀ c : Dev Cert.KernelGmInDw.nD,
      r.2.mem ((c.tc : Thread Cert.KernelGmInDw.nD Cert.KernelGmInDw.τ).loc Cert.KernelGmInDw.main_arg0) = m ((c.tc : Thread Cert.KernelGmInDw.nD Cert.KernelGmInDw.τ).loc Cert.KernelGmInDw.main_arg0)
      ∧ r.2.mem ((c.tc : Thread Cert.KernelGmInDw.nD Cert.KernelGmInDw.τ).loc Cert.KernelGmInDw.main_arg1) = m ((c.tc : Thread Cert.KernelGmInDw.nD Cert.KernelGmInDw.τ).loc Cert.KernelGmInDw.main_arg1))
      ∧ r.2.sem = fun _ => 0)

def quiescent_KernelGmInDwIdeal [hKernelGmInDwIdeal : Cert.KernelGmInDwIdeal.Facts] : Prop :=
  ∀ (m : (ℓ : Loc Cert.KernelGmInDwIdeal.nD Cert.KernelGmInDwIdeal.τ Cert.KernelGmInDwIdeal.sig) → Buf (Elt Ideal) ℓ) (g : Dev Cert.KernelGmInDwIdeal.nD → PrngReg), Pre_KernelGmInDwIdeal m →
    θ_run (Cert.KernelGmInDwIdeal.defs (F := Ideal)) (onTc (τ := Cert.KernelGmInDwIdeal.τ) (Cert.KernelGmInDwIdeal.main (F := Ideal))) ⟨m, fun _ => 0, g⟩ (fun r => (∀ c : Dev Cert.KernelGmInDwIdeal.nD,
      r.2.mem ((c.tc : Thread Cert.KernelGmInDwIdeal.nD Cert.KernelGmInDwIdeal.τ).loc Cert.KernelGmInDwIdeal.main_arg0) = m ((c.tc : Thread Cert.KernelGmInDwIdeal.nD Cert.KernelGmInDwIdeal.τ).loc Cert.KernelGmInDwIdeal.main_arg0)
      ∧ r.2.mem ((c.tc : Thread Cert.KernelGmInDwIdeal.nD Cert.KernelGmInDwIdeal.τ).loc Cert.KernelGmInDwIdeal.main_arg1) = m ((c.tc : Thread Cert.KernelGmInDwIdeal.nD Cert.KernelGmInDwIdeal.τ).loc Cert.KernelGmInDwIdeal.main_arg1))
      ∧ r.2.sem = fun _ => 0)

def quiescent_ReferenceGmInDwIdeal [hReferenceGmInDwIdeal : Cert.ReferenceGmInDwIdeal.Facts] : Prop :=
  ∀ (m : (ℓ : Loc Cert.ReferenceGmInDwIdeal.nD Cert.ReferenceGmInDwIdeal.τ Cert.ReferenceGmInDwIdeal.sig) → Buf (Elt Ideal) ℓ) (g : Dev Cert.ReferenceGmInDwIdeal.nD → PrngReg), Pre_ReferenceGmInDwIdeal m →
    θ_run (Cert.ReferenceGmInDwIdeal.defs (F := Ideal)) (onTc (τ := Cert.ReferenceGmInDwIdeal.τ) (Cert.ReferenceGmInDwIdeal.main (F := Ideal))) ⟨m, fun _ => 0, g⟩ (fun r => (∀ c : Dev Cert.ReferenceGmInDwIdeal.nD,
      r.2.mem ((c.tc : Thread Cert.ReferenceGmInDwIdeal.nD Cert.ReferenceGmInDwIdeal.τ).loc Cert.ReferenceGmInDwIdeal.main_arg0) = m ((c.tc : Thread Cert.ReferenceGmInDwIdeal.nD Cert.ReferenceGmInDwIdeal.τ).loc Cert.ReferenceGmInDwIdeal.main_arg0)
      ∧ r.2.mem ((c.tc : Thread Cert.ReferenceGmInDwIdeal.nD Cert.ReferenceGmInDwIdeal.τ).loc Cert.ReferenceGmInDwIdeal.main_arg1) = m ((c.tc : Thread Cert.ReferenceGmInDwIdeal.nD Cert.ReferenceGmInDwIdeal.τ).loc Cert.ReferenceGmInDwIdeal.main_arg1))
      ∧ r.2.sem = fun _ => 0)

def quiescent_KernelGmInDx [hKernelGmInDx : Cert.KernelGmInDx.Facts] : Prop :=
  ∀ (m : (ℓ : Loc Cert.KernelGmInDx.nD Cert.KernelGmInDx.τ Cert.KernelGmInDx.sig) → Buf (Elt Bits) ℓ) (g : Dev Cert.KernelGmInDx.nD → PrngReg), Pre_KernelGmInDx m →
    θ_run (Cert.KernelGmInDx.defs (F := Bits)) (onTc (τ := Cert.KernelGmInDx.τ) (Cert.KernelGmInDx.main (F := Bits))) ⟨m, fun _ => 0, g⟩ (fun r => (∀ c : Dev Cert.KernelGmInDx.nD,
      r.2.mem ((c.tc : Thread Cert.KernelGmInDx.nD Cert.KernelGmInDx.τ).loc Cert.KernelGmInDx.main_arg0) = m ((c.tc : Thread Cert.KernelGmInDx.nD Cert.KernelGmInDx.τ).loc Cert.KernelGmInDx.main_arg0)
      ∧ r.2.mem ((c.tc : Thread Cert.KernelGmInDx.nD Cert.KernelGmInDx.τ).loc Cert.KernelGmInDx.main_arg1) = m ((c.tc : Thread Cert.KernelGmInDx.nD Cert.KernelGmInDx.τ).loc Cert.KernelGmInDx.main_arg1))
      ∧ r.2.sem = fun _ => 0)

def quiescent_KernelGmInDxIdeal [hKernelGmInDxIdeal : Cert.KernelGmInDxIdeal.Facts] : Prop :=
  ∀ (m : (ℓ : Loc Cert.KernelGmInDxIdeal.nD Cert.KernelGmInDxIdeal.τ Cert.KernelGmInDxIdeal.sig) → Buf (Elt Ideal) ℓ) (g : Dev Cert.KernelGmInDxIdeal.nD → PrngReg), Pre_KernelGmInDxIdeal m →
    θ_run (Cert.KernelGmInDxIdeal.defs (F := Ideal)) (onTc (τ := Cert.KernelGmInDxIdeal.τ) (Cert.KernelGmInDxIdeal.main (F := Ideal))) ⟨m, fun _ => 0, g⟩ (fun r => (∀ c : Dev Cert.KernelGmInDxIdeal.nD,
      r.2.mem ((c.tc : Thread Cert.KernelGmInDxIdeal.nD Cert.KernelGmInDxIdeal.τ).loc Cert.KernelGmInDxIdeal.main_arg0) = m ((c.tc : Thread Cert.KernelGmInDxIdeal.nD Cert.KernelGmInDxIdeal.τ).loc Cert.KernelGmInDxIdeal.main_arg0)
      ∧ r.2.mem ((c.tc : Thread Cert.KernelGmInDxIdeal.nD Cert.KernelGmInDxIdeal.τ).loc Cert.KernelGmInDxIdeal.main_arg1) = m ((c.tc : Thread Cert.KernelGmInDxIdeal.nD Cert.KernelGmInDxIdeal.τ).loc Cert.KernelGmInDxIdeal.main_arg1))
      ∧ r.2.sem = fun _ => 0)

def quiescent_ReferenceGmInDxIdeal [hReferenceGmInDxIdeal : Cert.ReferenceGmInDxIdeal.Facts] : Prop :=
  ∀ (m : (ℓ : Loc Cert.ReferenceGmInDxIdeal.nD Cert.ReferenceGmInDxIdeal.τ Cert.ReferenceGmInDxIdeal.sig) → Buf (Elt Ideal) ℓ) (g : Dev Cert.ReferenceGmInDxIdeal.nD → PrngReg), Pre_ReferenceGmInDxIdeal m →
    θ_run (Cert.ReferenceGmInDxIdeal.defs (F := Ideal)) (onTc (τ := Cert.ReferenceGmInDxIdeal.τ) (Cert.ReferenceGmInDxIdeal.main (F := Ideal))) ⟨m, fun _ => 0, g⟩ (fun r => (∀ c : Dev Cert.ReferenceGmInDxIdeal.nD,
      r.2.mem ((c.tc : Thread Cert.ReferenceGmInDxIdeal.nD Cert.ReferenceGmInDxIdeal.τ).loc Cert.ReferenceGmInDxIdeal.main_arg0) = m ((c.tc : Thread Cert.ReferenceGmInDxIdeal.nD Cert.ReferenceGmInDxIdeal.τ).loc Cert.ReferenceGmInDxIdeal.main_arg0)
      ∧ r.2.mem ((c.tc : Thread Cert.ReferenceGmInDxIdeal.nD Cert.ReferenceGmInDxIdeal.τ).loc Cert.ReferenceGmInDxIdeal.main_arg1) = m ((c.tc : Thread Cert.ReferenceGmInDxIdeal.nD Cert.ReferenceGmInDxIdeal.τ).loc Cert.ReferenceGmInDxIdeal.main_arg1))
      ∧ r.2.sem = fun _ => 0)

def quiescent_KernelGmOut [hKernelGmOut : Cert.KernelGmOut.Facts] : Prop :=
  ∀ (m : (ℓ : Loc Cert.KernelGmOut.nD Cert.KernelGmOut.τ Cert.KernelGmOut.sig) → Buf (Elt Bits) ℓ) (g : Dev Cert.KernelGmOut.nD → PrngReg), Pre_KernelGmOut m →
    θ_run (Cert.KernelGmOut.defs (F := Bits)) (onTc (τ := Cert.KernelGmOut.τ) (Cert.KernelGmOut.main (F := Bits))) ⟨m, fun _ => 0, g⟩ (fun r => (∀ c : Dev Cert.KernelGmOut.nD,
      r.2.mem ((c.tc : Thread Cert.KernelGmOut.nD Cert.KernelGmOut.τ).loc Cert.KernelGmOut.main_arg0) = m ((c.tc : Thread Cert.KernelGmOut.nD Cert.KernelGmOut.τ).loc Cert.KernelGmOut.main_arg0)
      ∧ r.2.mem ((c.tc : Thread Cert.KernelGmOut.nD Cert.KernelGmOut.τ).loc Cert.KernelGmOut.main_arg1) = m ((c.tc : Thread Cert.KernelGmOut.nD Cert.KernelGmOut.τ).loc Cert.KernelGmOut.main_arg1))
      ∧ r.2.sem = fun _ => 0)

def quiescent_KernelGmOutIdeal [hKernelGmOutIdeal : Cert.KernelGmOutIdeal.Facts] : Prop :=
  ∀ (m : (ℓ : Loc Cert.KernelGmOutIdeal.nD Cert.KernelGmOutIdeal.τ Cert.KernelGmOutIdeal.sig) → Buf (Elt Ideal) ℓ) (g : Dev Cert.KernelGmOutIdeal.nD → PrngReg), Pre_KernelGmOutIdeal m →
    θ_run (Cert.KernelGmOutIdeal.defs (F := Ideal)) (onTc (τ := Cert.KernelGmOutIdeal.τ) (Cert.KernelGmOutIdeal.main (F := Ideal))) ⟨m, fun _ => 0, g⟩ (fun r => (∀ c : Dev Cert.KernelGmOutIdeal.nD,
      r.2.mem ((c.tc : Thread Cert.KernelGmOutIdeal.nD Cert.KernelGmOutIdeal.τ).loc Cert.KernelGmOutIdeal.main_arg0) = m ((c.tc : Thread Cert.KernelGmOutIdeal.nD Cert.KernelGmOutIdeal.τ).loc Cert.KernelGmOutIdeal.main_arg0)
      ∧ r.2.mem ((c.tc : Thread Cert.KernelGmOutIdeal.nD Cert.KernelGmOutIdeal.τ).loc Cert.KernelGmOutIdeal.main_arg1) = m ((c.tc : Thread Cert.KernelGmOutIdeal.nD Cert.KernelGmOutIdeal.τ).loc Cert.KernelGmOutIdeal.main_arg1))
      ∧ r.2.sem = fun _ => 0)

def quiescent_ReferenceGmOutIdeal [hReferenceGmOutIdeal : Cert.ReferenceGmOutIdeal.Facts] : Prop :=
  ∀ (m : (ℓ : Loc Cert.ReferenceGmOutIdeal.nD Cert.ReferenceGmOutIdeal.τ Cert.ReferenceGmOutIdeal.sig) → Buf (Elt Ideal) ℓ) (g : Dev Cert.ReferenceGmOutIdeal.nD → PrngReg), Pre_ReferenceGmOutIdeal m →
    θ_run (Cert.ReferenceGmOutIdeal.defs (F := Ideal)) (onTc (τ := Cert.ReferenceGmOutIdeal.τ) (Cert.ReferenceGmOutIdeal.main (F := Ideal))) ⟨m, fun _ => 0, g⟩ (fun r => (∀ c : Dev Cert.ReferenceGmOutIdeal.nD,
      r.2.mem ((c.tc : Thread Cert.ReferenceGmOutIdeal.nD Cert.ReferenceGmOutIdeal.τ).loc Cert.ReferenceGmOutIdeal.main_arg0) = m ((c.tc : Thread Cert.ReferenceGmOutIdeal.nD Cert.ReferenceGmOutIdeal.τ).loc Cert.ReferenceGmOutIdeal.main_arg0)
      ∧ r.2.mem ((c.tc : Thread Cert.ReferenceGmOutIdeal.nD Cert.ReferenceGmOutIdeal.τ).loc Cert.ReferenceGmOutIdeal.main_arg1) = m ((c.tc : Thread Cert.ReferenceGmOutIdeal.nD Cert.ReferenceGmOutIdeal.τ).loc Cert.ReferenceGmOutIdeal.main_arg1))
      ∧ r.2.sem = fun _ => 0)

def quiescent_KernelGmOutDw [hKernelGmOutDw : Cert.KernelGmOutDw.Facts] : Prop :=
  ∀ (m : (ℓ : Loc Cert.KernelGmOutDw.nD Cert.KernelGmOutDw.τ Cert.KernelGmOutDw.sig) → Buf (Elt Bits) ℓ) (g : Dev Cert.KernelGmOutDw.nD → PrngReg), Pre_KernelGmOutDw m →
    θ_run (Cert.KernelGmOutDw.defs (F := Bits)) (onTc (τ := Cert.KernelGmOutDw.τ) (Cert.KernelGmOutDw.main (F := Bits))) ⟨m, fun _ => 0, g⟩ (fun r => (∀ c : Dev Cert.KernelGmOutDw.nD,
      r.2.mem ((c.tc : Thread Cert.KernelGmOutDw.nD Cert.KernelGmOutDw.τ).loc Cert.KernelGmOutDw.main_arg0) = m ((c.tc : Thread Cert.KernelGmOutDw.nD Cert.KernelGmOutDw.τ).loc Cert.KernelGmOutDw.main_arg0)
      ∧ r.2.mem ((c.tc : Thread Cert.KernelGmOutDw.nD Cert.KernelGmOutDw.τ).loc Cert.KernelGmOutDw.main_arg1) = m ((c.tc : Thread Cert.KernelGmOutDw.nD Cert.KernelGmOutDw.τ).loc Cert.KernelGmOutDw.main_arg1))
      ∧ r.2.sem = fun _ => 0)

def quiescent_KernelGmOutDwIdeal [hKernelGmOutDwIdeal : Cert.KernelGmOutDwIdeal.Facts] : Prop :=
  ∀ (m : (ℓ : Loc Cert.KernelGmOutDwIdeal.nD Cert.KernelGmOutDwIdeal.τ Cert.KernelGmOutDwIdeal.sig) → Buf (Elt Ideal) ℓ) (g : Dev Cert.KernelGmOutDwIdeal.nD → PrngReg), Pre_KernelGmOutDwIdeal m →
    θ_run (Cert.KernelGmOutDwIdeal.defs (F := Ideal)) (onTc (τ := Cert.KernelGmOutDwIdeal.τ) (Cert.KernelGmOutDwIdeal.main (F := Ideal))) ⟨m, fun _ => 0, g⟩ (fun r => (∀ c : Dev Cert.KernelGmOutDwIdeal.nD,
      r.2.mem ((c.tc : Thread Cert.KernelGmOutDwIdeal.nD Cert.KernelGmOutDwIdeal.τ).loc Cert.KernelGmOutDwIdeal.main_arg0) = m ((c.tc : Thread Cert.KernelGmOutDwIdeal.nD Cert.KernelGmOutDwIdeal.τ).loc Cert.KernelGmOutDwIdeal.main_arg0)
      ∧ r.2.mem ((c.tc : Thread Cert.KernelGmOutDwIdeal.nD Cert.KernelGmOutDwIdeal.τ).loc Cert.KernelGmOutDwIdeal.main_arg1) = m ((c.tc : Thread Cert.KernelGmOutDwIdeal.nD Cert.KernelGmOutDwIdeal.τ).loc Cert.KernelGmOutDwIdeal.main_arg1))
      ∧ r.2.sem = fun _ => 0)

def quiescent_ReferenceGmOutDwIdeal [hReferenceGmOutDwIdeal : Cert.ReferenceGmOutDwIdeal.Facts] : Prop :=
  ∀ (m : (ℓ : Loc Cert.ReferenceGmOutDwIdeal.nD Cert.ReferenceGmOutDwIdeal.τ Cert.ReferenceGmOutDwIdeal.sig) → Buf (Elt Ideal) ℓ) (g : Dev Cert.ReferenceGmOutDwIdeal.nD → PrngReg), Pre_ReferenceGmOutDwIdeal m →
    θ_run (Cert.ReferenceGmOutDwIdeal.defs (F := Ideal)) (onTc (τ := Cert.ReferenceGmOutDwIdeal.τ) (Cert.ReferenceGmOutDwIdeal.main (F := Ideal))) ⟨m, fun _ => 0, g⟩ (fun r => (∀ c : Dev Cert.ReferenceGmOutDwIdeal.nD,
      r.2.mem ((c.tc : Thread Cert.ReferenceGmOutDwIdeal.nD Cert.ReferenceGmOutDwIdeal.τ).loc Cert.ReferenceGmOutDwIdeal.main_arg0) = m ((c.tc : Thread Cert.ReferenceGmOutDwIdeal.nD Cert.ReferenceGmOutDwIdeal.τ).loc Cert.ReferenceGmOutDwIdeal.main_arg0)
      ∧ r.2.mem ((c.tc : Thread Cert.ReferenceGmOutDwIdeal.nD Cert.ReferenceGmOutDwIdeal.τ).loc Cert.ReferenceGmOutDwIdeal.main_arg1) = m ((c.tc : Thread Cert.ReferenceGmOutDwIdeal.nD Cert.ReferenceGmOutDwIdeal.τ).loc Cert.ReferenceGmOutDwIdeal.main_arg1))
      ∧ r.2.sem = fun _ => 0)

def quiescent_KernelGmOutDx [hKernelGmOutDx : Cert.KernelGmOutDx.Facts] : Prop :=
  ∀ (m : (ℓ : Loc Cert.KernelGmOutDx.nD Cert.KernelGmOutDx.τ Cert.KernelGmOutDx.sig) → Buf (Elt Bits) ℓ) (g : Dev Cert.KernelGmOutDx.nD → PrngReg), Pre_KernelGmOutDx m →
    θ_run (Cert.KernelGmOutDx.defs (F := Bits)) (onTc (τ := Cert.KernelGmOutDx.τ) (Cert.KernelGmOutDx.main (F := Bits))) ⟨m, fun _ => 0, g⟩ (fun r => (∀ c : Dev Cert.KernelGmOutDx.nD,
      r.2.mem ((c.tc : Thread Cert.KernelGmOutDx.nD Cert.KernelGmOutDx.τ).loc Cert.KernelGmOutDx.main_arg0) = m ((c.tc : Thread Cert.KernelGmOutDx.nD Cert.KernelGmOutDx.τ).loc Cert.KernelGmOutDx.main_arg0)
      ∧ r.2.mem ((c.tc : Thread Cert.KernelGmOutDx.nD Cert.KernelGmOutDx.τ).loc Cert.KernelGmOutDx.main_arg1) = m ((c.tc : Thread Cert.KernelGmOutDx.nD Cert.KernelGmOutDx.τ).loc Cert.KernelGmOutDx.main_arg1))
      ∧ r.2.sem = fun _ => 0)

def quiescent_KernelGmOutDxIdeal [hKernelGmOutDxIdeal : Cert.KernelGmOutDxIdeal.Facts] : Prop :=
  ∀ (m : (ℓ : Loc Cert.KernelGmOutDxIdeal.nD Cert.KernelGmOutDxIdeal.τ Cert.KernelGmOutDxIdeal.sig) → Buf (Elt Ideal) ℓ) (g : Dev Cert.KernelGmOutDxIdeal.nD → PrngReg), Pre_KernelGmOutDxIdeal m →
    θ_run (Cert.KernelGmOutDxIdeal.defs (F := Ideal)) (onTc (τ := Cert.KernelGmOutDxIdeal.τ) (Cert.KernelGmOutDxIdeal.main (F := Ideal))) ⟨m, fun _ => 0, g⟩ (fun r => (∀ c : Dev Cert.KernelGmOutDxIdeal.nD,
      r.2.mem ((c.tc : Thread Cert.KernelGmOutDxIdeal.nD Cert.KernelGmOutDxIdeal.τ).loc Cert.KernelGmOutDxIdeal.main_arg0) = m ((c.tc : Thread Cert.KernelGmOutDxIdeal.nD Cert.KernelGmOutDxIdeal.τ).loc Cert.KernelGmOutDxIdeal.main_arg0)
      ∧ r.2.mem ((c.tc : Thread Cert.KernelGmOutDxIdeal.nD Cert.KernelGmOutDxIdeal.τ).loc Cert.KernelGmOutDxIdeal.main_arg1) = m ((c.tc : Thread Cert.KernelGmOutDxIdeal.nD Cert.KernelGmOutDxIdeal.τ).loc Cert.KernelGmOutDxIdeal.main_arg1))
      ∧ r.2.sem = fun _ => 0)

def quiescent_ReferenceGmOutDxIdeal [hReferenceGmOutDxIdeal : Cert.ReferenceGmOutDxIdeal.Facts] : Prop :=
  ∀ (m : (ℓ : Loc Cert.ReferenceGmOutDxIdeal.nD Cert.ReferenceGmOutDxIdeal.τ Cert.ReferenceGmOutDxIdeal.sig) → Buf (Elt Ideal) ℓ) (g : Dev Cert.ReferenceGmOutDxIdeal.nD → PrngReg), Pre_ReferenceGmOutDxIdeal m →
    θ_run (Cert.ReferenceGmOutDxIdeal.defs (F := Ideal)) (onTc (τ := Cert.ReferenceGmOutDxIdeal.τ) (Cert.ReferenceGmOutDxIdeal.main (F := Ideal))) ⟨m, fun _ => 0, g⟩ (fun r => (∀ c : Dev Cert.ReferenceGmOutDxIdeal.nD,
      r.2.mem ((c.tc : Thread Cert.ReferenceGmOutDxIdeal.nD Cert.ReferenceGmOutDxIdeal.τ).loc Cert.ReferenceGmOutDxIdeal.main_arg0) = m ((c.tc : Thread Cert.ReferenceGmOutDxIdeal.nD Cert.ReferenceGmOutDxIdeal.τ).loc Cert.ReferenceGmOutDxIdeal.main_arg0)
      ∧ r.2.mem ((c.tc : Thread Cert.ReferenceGmOutDxIdeal.nD Cert.ReferenceGmOutDxIdeal.τ).loc Cert.ReferenceGmOutDxIdeal.main_arg1) = m ((c.tc : Thread Cert.ReferenceGmOutDxIdeal.nD Cert.ReferenceGmOutDxIdeal.τ).loc Cert.ReferenceGmOutDxIdeal.main_arg1))
      ∧ r.2.sem = fun _ => 0)

def quiescent_KernelAttnOutDx [hKernelAttnOutDx : Cert.KernelAttnOutDx.Facts] : Prop :=
  ∀ (m : (ℓ : Loc Cert.KernelAttnOutDx.nD Cert.KernelAttnOutDx.τ Cert.KernelAttnOutDx.sig) → Buf (Elt Bits) ℓ) (g : Dev Cert.KernelAttnOutDx.nD → PrngReg), Pre_KernelAttnOutDx m →
    θ_run (Cert.KernelAttnOutDx.defs (F := Bits)) (onTc (τ := Cert.KernelAttnOutDx.τ) (Cert.KernelAttnOutDx.main (F := Bits))) ⟨m, fun _ => 0, g⟩ (fun r => (∀ c : Dev Cert.KernelAttnOutDx.nD,
      r.2.mem ((c.tc : Thread Cert.KernelAttnOutDx.nD Cert.KernelAttnOutDx.τ).loc Cert.KernelAttnOutDx.main_arg0) = m ((c.tc : Thread Cert.KernelAttnOutDx.nD Cert.KernelAttnOutDx.τ).loc Cert.KernelAttnOutDx.main_arg0)
      ∧ r.2.mem ((c.tc : Thread Cert.KernelAttnOutDx.nD Cert.KernelAttnOutDx.τ).loc Cert.KernelAttnOutDx.main_arg1) = m ((c.tc : Thread Cert.KernelAttnOutDx.nD Cert.KernelAttnOutDx.τ).loc Cert.KernelAttnOutDx.main_arg1))
      ∧ r.2.sem = fun _ => 0)

def quiescent_KernelAttnOutDxIdeal [hKernelAttnOutDxIdeal : Cert.KernelAttnOutDxIdeal.Facts] : Prop :=
  ∀ (m : (ℓ : Loc Cert.KernelAttnOutDxIdeal.nD Cert.KernelAttnOutDxIdeal.τ Cert.KernelAttnOutDxIdeal.sig) → Buf (Elt Ideal) ℓ) (g : Dev Cert.KernelAttnOutDxIdeal.nD → PrngReg), Pre_KernelAttnOutDxIdeal m →
    θ_run (Cert.KernelAttnOutDxIdeal.defs (F := Ideal)) (onTc (τ := Cert.KernelAttnOutDxIdeal.τ) (Cert.KernelAttnOutDxIdeal.main (F := Ideal))) ⟨m, fun _ => 0, g⟩ (fun r => (∀ c : Dev Cert.KernelAttnOutDxIdeal.nD,
      r.2.mem ((c.tc : Thread Cert.KernelAttnOutDxIdeal.nD Cert.KernelAttnOutDxIdeal.τ).loc Cert.KernelAttnOutDxIdeal.main_arg0) = m ((c.tc : Thread Cert.KernelAttnOutDxIdeal.nD Cert.KernelAttnOutDxIdeal.τ).loc Cert.KernelAttnOutDxIdeal.main_arg0)
      ∧ r.2.mem ((c.tc : Thread Cert.KernelAttnOutDxIdeal.nD Cert.KernelAttnOutDxIdeal.τ).loc Cert.KernelAttnOutDxIdeal.main_arg1) = m ((c.tc : Thread Cert.KernelAttnOutDxIdeal.nD Cert.KernelAttnOutDxIdeal.τ).loc Cert.KernelAttnOutDxIdeal.main_arg1))
      ∧ r.2.sem = fun _ => 0)

def quiescent_ReferenceAttnOutDxIdeal [hReferenceAttnOutDxIdeal : Cert.ReferenceAttnOutDxIdeal.Facts] : Prop :=
  ∀ (m : (ℓ : Loc Cert.ReferenceAttnOutDxIdeal.nD Cert.ReferenceAttnOutDxIdeal.τ Cert.ReferenceAttnOutDxIdeal.sig) → Buf (Elt Ideal) ℓ) (g : Dev Cert.ReferenceAttnOutDxIdeal.nD → PrngReg), Pre_ReferenceAttnOutDxIdeal m →
    θ_run (Cert.ReferenceAttnOutDxIdeal.defs (F := Ideal)) (onTc (τ := Cert.ReferenceAttnOutDxIdeal.τ) (Cert.ReferenceAttnOutDxIdeal.main (F := Ideal))) ⟨m, fun _ => 0, g⟩ (fun r => (∀ c : Dev Cert.ReferenceAttnOutDxIdeal.nD,
      r.2.mem ((c.tc : Thread Cert.ReferenceAttnOutDxIdeal.nD Cert.ReferenceAttnOutDxIdeal.τ).loc Cert.ReferenceAttnOutDxIdeal.main_arg0) = m ((c.tc : Thread Cert.ReferenceAttnOutDxIdeal.nD Cert.ReferenceAttnOutDxIdeal.τ).loc Cert.ReferenceAttnOutDxIdeal.main_arg0)
      ∧ r.2.mem ((c.tc : Thread Cert.ReferenceAttnOutDxIdeal.nD Cert.ReferenceAttnOutDxIdeal.τ).loc Cert.ReferenceAttnOutDxIdeal.main_arg1) = m ((c.tc : Thread Cert.ReferenceAttnOutDxIdeal.nD Cert.ReferenceAttnOutDxIdeal.τ).loc Cert.ReferenceAttnOutDxIdeal.main_arg1))
      ∧ r.2.sem = fun _ => 0)

def quiescent_KernelPre [hKernelPre : Cert.KernelPre.Facts] : Prop :=
  ∀ (m : (ℓ : Loc Cert.KernelPre.nD Cert.KernelPre.τ Cert.KernelPre.sig) → Buf (Elt Bits) ℓ) (g : Dev Cert.KernelPre.nD → PrngReg), Pre_KernelPre m →
    θ_run (Cert.KernelPre.defs (F := Bits)) (onTc (τ := Cert.KernelPre.τ) (Cert.KernelPre.main (F := Bits))) ⟨m, fun _ => 0, g⟩ (fun r => (∀ c : Dev Cert.KernelPre.nD,
      r.2.mem ((c.tc : Thread Cert.KernelPre.nD Cert.KernelPre.τ).loc Cert.KernelPre.main_arg0) = m ((c.tc : Thread Cert.KernelPre.nD Cert.KernelPre.τ).loc Cert.KernelPre.main_arg0)
      ∧ r.2.mem ((c.tc : Thread Cert.KernelPre.nD Cert.KernelPre.τ).loc Cert.KernelPre.main_arg1) = m ((c.tc : Thread Cert.KernelPre.nD Cert.KernelPre.τ).loc Cert.KernelPre.main_arg1)
      ∧ r.2.mem ((c.tc : Thread Cert.KernelPre.nD Cert.KernelPre.τ).loc Cert.KernelPre.main_arg2) = m ((c.tc : Thread Cert.KernelPre.nD Cert.KernelPre.τ).loc Cert.KernelPre.main_arg2))
      ∧ r.2.sem = fun _ => 0)

def quiescent_KernelPreIdeal [hKernelPreIdeal : Cert.KernelPreIdeal.Facts] : Prop :=
  ∀ (m : (ℓ : Loc Cert.KernelPreIdeal.nD Cert.KernelPreIdeal.τ Cert.KernelPreIdeal.sig) → Buf (Elt Ideal) ℓ) (g : Dev Cert.KernelPreIdeal.nD → PrngReg), Pre_KernelPreIdeal m →
    θ_run (Cert.KernelPreIdeal.defs (F := Ideal)) (onTc (τ := Cert.KernelPreIdeal.τ) (Cert.KernelPreIdeal.main (F := Ideal))) ⟨m, fun _ => 0, g⟩ (fun r => (∀ c : Dev Cert.KernelPreIdeal.nD,
      r.2.mem ((c.tc : Thread Cert.KernelPreIdeal.nD Cert.KernelPreIdeal.τ).loc Cert.KernelPreIdeal.main_arg0) = m ((c.tc : Thread Cert.KernelPreIdeal.nD Cert.KernelPreIdeal.τ).loc Cert.KernelPreIdeal.main_arg0)
      ∧ r.2.mem ((c.tc : Thread Cert.KernelPreIdeal.nD Cert.KernelPreIdeal.τ).loc Cert.KernelPreIdeal.main_arg1) = m ((c.tc : Thread Cert.KernelPreIdeal.nD Cert.KernelPreIdeal.τ).loc Cert.KernelPreIdeal.main_arg1)
      ∧ r.2.mem ((c.tc : Thread Cert.KernelPreIdeal.nD Cert.KernelPreIdeal.τ).loc Cert.KernelPreIdeal.main_arg2) = m ((c.tc : Thread Cert.KernelPreIdeal.nD Cert.KernelPreIdeal.τ).loc Cert.KernelPreIdeal.main_arg2))
      ∧ r.2.sem = fun _ => 0)

def quiescent_ReferencePreIdeal [hReferencePreIdeal : Cert.ReferencePreIdeal.Facts] : Prop :=
  ∀ (m : (ℓ : Loc Cert.ReferencePreIdeal.nD Cert.ReferencePreIdeal.τ Cert.ReferencePreIdeal.sig) → Buf (Elt Ideal) ℓ) (g : Dev Cert.ReferencePreIdeal.nD → PrngReg), Pre_ReferencePreIdeal m →
    θ_run (Cert.ReferencePreIdeal.defs (F := Ideal)) (onTc (τ := Cert.ReferencePreIdeal.τ) (Cert.ReferencePreIdeal.main (F := Ideal))) ⟨m, fun _ => 0, g⟩ (fun r => (∀ c : Dev Cert.ReferencePreIdeal.nD,
      r.2.mem ((c.tc : Thread Cert.ReferencePreIdeal.nD Cert.ReferencePreIdeal.τ).loc Cert.ReferencePreIdeal.main_arg0) = m ((c.tc : Thread Cert.ReferencePreIdeal.nD Cert.ReferencePreIdeal.τ).loc Cert.ReferencePreIdeal.main_arg0)
      ∧ r.2.mem ((c.tc : Thread Cert.ReferencePreIdeal.nD Cert.ReferencePreIdeal.τ).loc Cert.ReferencePreIdeal.main_arg1) = m ((c.tc : Thread Cert.ReferencePreIdeal.nD Cert.ReferencePreIdeal.τ).loc Cert.ReferencePreIdeal.main_arg1)
      ∧ r.2.mem ((c.tc : Thread Cert.ReferencePreIdeal.nD Cert.ReferencePreIdeal.τ).loc Cert.ReferencePreIdeal.main_arg2) = m ((c.tc : Thread Cert.ReferencePreIdeal.nD Cert.ReferencePreIdeal.τ).loc Cert.ReferencePreIdeal.main_arg2))
      ∧ r.2.sem = fun _ => 0)

def quiescent_KernelPost [hKernelPost : Cert.KernelPost.Facts] : Prop :=
  ∀ (m : (ℓ : Loc Cert.KernelPost.nD Cert.KernelPost.τ Cert.KernelPost.sig) → Buf (Elt Bits) ℓ) (g : Dev Cert.KernelPost.nD → PrngReg), Pre_KernelPost m →
    θ_run (Cert.KernelPost.defs (F := Bits)) (onTc (τ := Cert.KernelPost.τ) (Cert.KernelPost.main (F := Bits))) ⟨m, fun _ => 0, g⟩ (fun r => (∀ c : Dev Cert.KernelPost.nD,
      r.2.mem ((c.tc : Thread Cert.KernelPost.nD Cert.KernelPost.τ).loc Cert.KernelPost.main_arg0) = m ((c.tc : Thread Cert.KernelPost.nD Cert.KernelPost.τ).loc Cert.KernelPost.main_arg0)
      ∧ r.2.mem ((c.tc : Thread Cert.KernelPost.nD Cert.KernelPost.τ).loc Cert.KernelPost.main_arg1) = m ((c.tc : Thread Cert.KernelPost.nD Cert.KernelPost.τ).loc Cert.KernelPost.main_arg1)
      ∧ r.2.mem ((c.tc : Thread Cert.KernelPost.nD Cert.KernelPost.τ).loc Cert.KernelPost.main_arg2) = m ((c.tc : Thread Cert.KernelPost.nD Cert.KernelPost.τ).loc Cert.KernelPost.main_arg2)
      ∧ r.2.mem ((c.tc : Thread Cert.KernelPost.nD Cert.KernelPost.τ).loc Cert.KernelPost.main_arg3) = m ((c.tc : Thread Cert.KernelPost.nD Cert.KernelPost.τ).loc Cert.KernelPost.main_arg3))
      ∧ r.2.sem = fun _ => 0)

def quiescent_KernelPostIdeal [hKernelPostIdeal : Cert.KernelPostIdeal.Facts] : Prop :=
  ∀ (m : (ℓ : Loc Cert.KernelPostIdeal.nD Cert.KernelPostIdeal.τ Cert.KernelPostIdeal.sig) → Buf (Elt Ideal) ℓ) (g : Dev Cert.KernelPostIdeal.nD → PrngReg), Pre_KernelPostIdeal m →
    θ_run (Cert.KernelPostIdeal.defs (F := Ideal)) (onTc (τ := Cert.KernelPostIdeal.τ) (Cert.KernelPostIdeal.main (F := Ideal))) ⟨m, fun _ => 0, g⟩ (fun r => (∀ c : Dev Cert.KernelPostIdeal.nD,
      r.2.mem ((c.tc : Thread Cert.KernelPostIdeal.nD Cert.KernelPostIdeal.τ).loc Cert.KernelPostIdeal.main_arg0) = m ((c.tc : Thread Cert.KernelPostIdeal.nD Cert.KernelPostIdeal.τ).loc Cert.KernelPostIdeal.main_arg0)
      ∧ r.2.mem ((c.tc : Thread Cert.KernelPostIdeal.nD Cert.KernelPostIdeal.τ).loc Cert.KernelPostIdeal.main_arg1) = m ((c.tc : Thread Cert.KernelPostIdeal.nD Cert.KernelPostIdeal.τ).loc Cert.KernelPostIdeal.main_arg1)
      ∧ r.2.mem ((c.tc : Thread Cert.KernelPostIdeal.nD Cert.KernelPostIdeal.τ).loc Cert.KernelPostIdeal.main_arg2) = m ((c.tc : Thread Cert.KernelPostIdeal.nD Cert.KernelPostIdeal.τ).loc Cert.KernelPostIdeal.main_arg2)
      ∧ r.2.mem ((c.tc : Thread Cert.KernelPostIdeal.nD Cert.KernelPostIdeal.τ).loc Cert.KernelPostIdeal.main_arg3) = m ((c.tc : Thread Cert.KernelPostIdeal.nD Cert.KernelPostIdeal.τ).loc Cert.KernelPostIdeal.main_arg3))
      ∧ r.2.sem = fun _ => 0)

def quiescent_ReferencePostIdeal [hReferencePostIdeal : Cert.ReferencePostIdeal.Facts] : Prop :=
  ∀ (m : (ℓ : Loc Cert.ReferencePostIdeal.nD Cert.ReferencePostIdeal.τ Cert.ReferencePostIdeal.sig) → Buf (Elt Ideal) ℓ) (g : Dev Cert.ReferencePostIdeal.nD → PrngReg), Pre_ReferencePostIdeal m →
    θ_run (Cert.ReferencePostIdeal.defs (F := Ideal)) (onTc (τ := Cert.ReferencePostIdeal.τ) (Cert.ReferencePostIdeal.main (F := Ideal))) ⟨m, fun _ => 0, g⟩ (fun r => (∀ c : Dev Cert.ReferencePostIdeal.nD,
      r.2.mem ((c.tc : Thread Cert.ReferencePostIdeal.nD Cert.ReferencePostIdeal.τ).loc Cert.ReferencePostIdeal.main_arg0) = m ((c.tc : Thread Cert.ReferencePostIdeal.nD Cert.ReferencePostIdeal.τ).loc Cert.ReferencePostIdeal.main_arg0)
      ∧ r.2.mem ((c.tc : Thread Cert.ReferencePostIdeal.nD Cert.ReferencePostIdeal.τ).loc Cert.ReferencePostIdeal.main_arg1) = m ((c.tc : Thread Cert.ReferencePostIdeal.nD Cert.ReferencePostIdeal.τ).loc Cert.ReferencePostIdeal.main_arg1)
      ∧ r.2.mem ((c.tc : Thread Cert.ReferencePostIdeal.nD Cert.ReferencePostIdeal.τ).loc Cert.ReferencePostIdeal.main_arg2) = m ((c.tc : Thread Cert.ReferencePostIdeal.nD Cert.ReferencePostIdeal.τ).loc Cert.ReferencePostIdeal.main_arg2)
      ∧ r.2.mem ((c.tc : Thread Cert.ReferencePostIdeal.nD Cert.ReferencePostIdeal.τ).loc Cert.ReferencePostIdeal.main_arg3) = m ((c.tc : Thread Cert.ReferencePostIdeal.nD Cert.ReferencePostIdeal.τ).loc Cert.ReferencePostIdeal.main_arg3))
      ∧ r.2.sem = fun _ => 0)

def quiescent_KernelLnSilu [hKernelLnSilu : Cert.KernelLnSilu.Facts] : Prop :=
  ∀ (m : (ℓ : Loc Cert.KernelLnSilu.nD Cert.KernelLnSilu.τ Cert.KernelLnSilu.sig) → Buf (Elt Bits) ℓ) (g : Dev Cert.KernelLnSilu.nD → PrngReg), Pre_KernelLnSilu m →
    θ_run (Cert.KernelLnSilu.defs (F := Bits)) (onTc (τ := Cert.KernelLnSilu.τ) (Cert.KernelLnSilu.main (F := Bits))) ⟨m, fun _ => 0, g⟩ (fun r => (∀ c : Dev Cert.KernelLnSilu.nD,
      r.2.mem ((c.tc : Thread Cert.KernelLnSilu.nD Cert.KernelLnSilu.τ).loc Cert.KernelLnSilu.main_arg0) = m ((c.tc : Thread Cert.KernelLnSilu.nD Cert.KernelLnSilu.τ).loc Cert.KernelLnSilu.main_arg0)
      ∧ r.2.mem ((c.tc : Thread Cert.KernelLnSilu.nD Cert.KernelLnSilu.τ).loc Cert.KernelLnSilu.main_arg1) = m ((c.tc : Thread Cert.KernelLnSilu.nD Cert.KernelLnSilu.τ).loc Cert.KernelLnSilu.main_arg1)
      ∧ r.2.mem ((c.tc : Thread Cert.KernelLnSilu.nD Cert.KernelLnSilu.τ).loc Cert.KernelLnSilu.main_arg2) = m ((c.tc : Thread Cert.KernelLnSilu.nD Cert.KernelLnSilu.τ).loc Cert.KernelLnSilu.main_arg2))
      ∧ r.2.sem = fun _ => 0)

def quiescent_KernelLnSiluIdeal [hKernelLnSiluIdeal : Cert.KernelLnSiluIdeal.Facts] : Prop :=
  ∀ (m : (ℓ : Loc Cert.KernelLnSiluIdeal.nD Cert.KernelLnSiluIdeal.τ Cert.KernelLnSiluIdeal.sig) → Buf (Elt Ideal) ℓ) (g : Dev Cert.KernelLnSiluIdeal.nD → PrngReg), Pre_KernelLnSiluIdeal m →
    θ_run (Cert.KernelLnSiluIdeal.defs (F := Ideal)) (onTc (τ := Cert.KernelLnSiluIdeal.τ) (Cert.KernelLnSiluIdeal.main (F := Ideal))) ⟨m, fun _ => 0, g⟩ (fun r => (∀ c : Dev Cert.KernelLnSiluIdeal.nD,
      r.2.mem ((c.tc : Thread Cert.KernelLnSiluIdeal.nD Cert.KernelLnSiluIdeal.τ).loc Cert.KernelLnSiluIdeal.main_arg0) = m ((c.tc : Thread Cert.KernelLnSiluIdeal.nD Cert.KernelLnSiluIdeal.τ).loc Cert.KernelLnSiluIdeal.main_arg0)
      ∧ r.2.mem ((c.tc : Thread Cert.KernelLnSiluIdeal.nD Cert.KernelLnSiluIdeal.τ).loc Cert.KernelLnSiluIdeal.main_arg1) = m ((c.tc : Thread Cert.KernelLnSiluIdeal.nD Cert.KernelLnSiluIdeal.τ).loc Cert.KernelLnSiluIdeal.main_arg1)
      ∧ r.2.mem ((c.tc : Thread Cert.KernelLnSiluIdeal.nD Cert.KernelLnSiluIdeal.τ).loc Cert.KernelLnSiluIdeal.main_arg2) = m ((c.tc : Thread Cert.KernelLnSiluIdeal.nD Cert.KernelLnSiluIdeal.τ).loc Cert.KernelLnSiluIdeal.main_arg2))
      ∧ r.2.sem = fun _ => 0)

def quiescent_ReferenceLnSiluIdeal [hReferenceLnSiluIdeal : Cert.ReferenceLnSiluIdeal.Facts] : Prop :=
  ∀ (m : (ℓ : Loc Cert.ReferenceLnSiluIdeal.nD Cert.ReferenceLnSiluIdeal.τ Cert.ReferenceLnSiluIdeal.sig) → Buf (Elt Ideal) ℓ) (g : Dev Cert.ReferenceLnSiluIdeal.nD → PrngReg), Pre_ReferenceLnSiluIdeal m →
    θ_run (Cert.ReferenceLnSiluIdeal.defs (F := Ideal)) (onTc (τ := Cert.ReferenceLnSiluIdeal.τ) (Cert.ReferenceLnSiluIdeal.main (F := Ideal))) ⟨m, fun _ => 0, g⟩ (fun r => (∀ c : Dev Cert.ReferenceLnSiluIdeal.nD,
      r.2.mem ((c.tc : Thread Cert.ReferenceLnSiluIdeal.nD Cert.ReferenceLnSiluIdeal.τ).loc Cert.ReferenceLnSiluIdeal.main_arg0) = m ((c.tc : Thread Cert.ReferenceLnSiluIdeal.nD Cert.ReferenceLnSiluIdeal.τ).loc Cert.ReferenceLnSiluIdeal.main_arg0)
      ∧ r.2.mem ((c.tc : Thread Cert.ReferenceLnSiluIdeal.nD Cert.ReferenceLnSiluIdeal.τ).loc Cert.ReferenceLnSiluIdeal.main_arg1) = m ((c.tc : Thread Cert.ReferenceLnSiluIdeal.nD Cert.ReferenceLnSiluIdeal.τ).loc Cert.ReferenceLnSiluIdeal.main_arg1)
      ∧ r.2.mem ((c.tc : Thread Cert.ReferenceLnSiluIdeal.nD Cert.ReferenceLnSiluIdeal.τ).loc Cert.ReferenceLnSiluIdeal.main_arg2) = m ((c.tc : Thread Cert.ReferenceLnSiluIdeal.nD Cert.ReferenceLnSiluIdeal.τ).loc Cert.ReferenceLnSiluIdeal.main_arg2))
      ∧ r.2.sem = fun _ => 0)

def quiescent_KernelGmlp [hKernelGmlp : Cert.KernelGmlp.Facts] : Prop :=
  ∀ (m : (ℓ : Loc Cert.KernelGmlp.nD Cert.KernelGmlp.τ Cert.KernelGmlp.sig) → Buf (Elt Bits) ℓ) (g : Dev Cert.KernelGmlp.nD → PrngReg), Pre_KernelGmlp m →
    θ_run (Cert.KernelGmlp.defs (F := Bits)) (onTc (τ := Cert.KernelGmlp.τ) (Cert.KernelGmlp.main (F := Bits))) ⟨m, fun _ => 0, g⟩ (fun r => (∀ c : Dev Cert.KernelGmlp.nD,
      r.2.mem ((c.tc : Thread Cert.KernelGmlp.nD Cert.KernelGmlp.τ).loc Cert.KernelGmlp.main_arg0) = m ((c.tc : Thread Cert.KernelGmlp.nD Cert.KernelGmlp.τ).loc Cert.KernelGmlp.main_arg0)
      ∧ r.2.mem ((c.tc : Thread Cert.KernelGmlp.nD Cert.KernelGmlp.τ).loc Cert.KernelGmlp.main_arg1) = m ((c.tc : Thread Cert.KernelGmlp.nD Cert.KernelGmlp.τ).loc Cert.KernelGmlp.main_arg1)
      ∧ r.2.mem ((c.tc : Thread Cert.KernelGmlp.nD Cert.KernelGmlp.τ).loc Cert.KernelGmlp.main_arg2) = m ((c.tc : Thread Cert.KernelGmlp.nD Cert.KernelGmlp.τ).loc Cert.KernelGmlp.main_arg2)
      ∧ r.2.mem ((c.tc : Thread Cert.KernelGmlp.nD Cert.KernelGmlp.τ).loc Cert.KernelGmlp.main_arg3) = m ((c.tc : Thread Cert.KernelGmlp.nD Cert.KernelGmlp.τ).loc Cert.KernelGmlp.main_arg3)
      ∧ r.2.mem ((c.tc : Thread Cert.KernelGmlp.nD Cert.KernelGmlp.τ).loc Cert.KernelGmlp.main_arg4) = m ((c.tc : Thread Cert.KernelGmlp.nD Cert.KernelGmlp.τ).loc Cert.KernelGmlp.main_arg4)
      ∧ r.2.mem ((c.tc : Thread Cert.KernelGmlp.nD Cert.KernelGmlp.τ).loc Cert.KernelGmlp.main_arg5) = m ((c.tc : Thread Cert.KernelGmlp.nD Cert.KernelGmlp.τ).loc Cert.KernelGmlp.main_arg5))
      ∧ r.2.sem = fun _ => 0)

def quiescent_KernelGmlpIdeal [hKernelGmlpIdeal : Cert.KernelGmlpIdeal.Facts] : Prop :=
  ∀ (m : (ℓ : Loc Cert.KernelGmlpIdeal.nD Cert.KernelGmlpIdeal.τ Cert.KernelGmlpIdeal.sig) → Buf (Elt Ideal) ℓ) (g : Dev Cert.KernelGmlpIdeal.nD → PrngReg), Pre_KernelGmlpIdeal m →
    θ_run (Cert.KernelGmlpIdeal.defs (F := Ideal)) (onTc (τ := Cert.KernelGmlpIdeal.τ) (Cert.KernelGmlpIdeal.main (F := Ideal))) ⟨m, fun _ => 0, g⟩ (fun r => (∀ c : Dev Cert.KernelGmlpIdeal.nD,
      r.2.mem ((c.tc : Thread Cert.KernelGmlpIdeal.nD Cert.KernelGmlpIdeal.τ).loc Cert.KernelGmlpIdeal.main_arg0) = m ((c.tc : Thread Cert.KernelGmlpIdeal.nD Cert.KernelGmlpIdeal.τ).loc Cert.KernelGmlpIdeal.main_arg0)
      ∧ r.2.mem ((c.tc : Thread Cert.KernelGmlpIdeal.nD Cert.KernelGmlpIdeal.τ).loc Cert.KernelGmlpIdeal.main_arg1) = m ((c.tc : Thread Cert.KernelGmlpIdeal.nD Cert.KernelGmlpIdeal.τ).loc Cert.KernelGmlpIdeal.main_arg1)
      ∧ r.2.mem ((c.tc : Thread Cert.KernelGmlpIdeal.nD Cert.KernelGmlpIdeal.τ).loc Cert.KernelGmlpIdeal.main_arg2) = m ((c.tc : Thread Cert.KernelGmlpIdeal.nD Cert.KernelGmlpIdeal.τ).loc Cert.KernelGmlpIdeal.main_arg2)
      ∧ r.2.mem ((c.tc : Thread Cert.KernelGmlpIdeal.nD Cert.KernelGmlpIdeal.τ).loc Cert.KernelGmlpIdeal.main_arg3) = m ((c.tc : Thread Cert.KernelGmlpIdeal.nD Cert.KernelGmlpIdeal.τ).loc Cert.KernelGmlpIdeal.main_arg3)
      ∧ r.2.mem ((c.tc : Thread Cert.KernelGmlpIdeal.nD Cert.KernelGmlpIdeal.τ).loc Cert.KernelGmlpIdeal.main_arg4) = m ((c.tc : Thread Cert.KernelGmlpIdeal.nD Cert.KernelGmlpIdeal.τ).loc Cert.KernelGmlpIdeal.main_arg4)
      ∧ r.2.mem ((c.tc : Thread Cert.KernelGmlpIdeal.nD Cert.KernelGmlpIdeal.τ).loc Cert.KernelGmlpIdeal.main_arg5) = m ((c.tc : Thread Cert.KernelGmlpIdeal.nD Cert.KernelGmlpIdeal.τ).loc Cert.KernelGmlpIdeal.main_arg5))
      ∧ r.2.sem = fun _ => 0)

def quiescent_ReferenceGmlpIdeal [hReferenceGmlpIdeal : Cert.ReferenceGmlpIdeal.Facts] : Prop :=
  ∀ (m : (ℓ : Loc Cert.ReferenceGmlpIdeal.nD Cert.ReferenceGmlpIdeal.τ Cert.ReferenceGmlpIdeal.sig) → Buf (Elt Ideal) ℓ) (g : Dev Cert.ReferenceGmlpIdeal.nD → PrngReg), Pre_ReferenceGmlpIdeal m →
    θ_run (Cert.ReferenceGmlpIdeal.defs (F := Ideal)) (onTc (τ := Cert.ReferenceGmlpIdeal.τ) (Cert.ReferenceGmlpIdeal.main (F := Ideal))) ⟨m, fun _ => 0, g⟩ (fun r => (∀ c : Dev Cert.ReferenceGmlpIdeal.nD,
      r.2.mem ((c.tc : Thread Cert.ReferenceGmlpIdeal.nD Cert.ReferenceGmlpIdeal.τ).loc Cert.ReferenceGmlpIdeal.main_arg0) = m ((c.tc : Thread Cert.ReferenceGmlpIdeal.nD Cert.ReferenceGmlpIdeal.τ).loc Cert.ReferenceGmlpIdeal.main_arg0)
      ∧ r.2.mem ((c.tc : Thread Cert.ReferenceGmlpIdeal.nD Cert.ReferenceGmlpIdeal.τ).loc Cert.ReferenceGmlpIdeal.main_arg1) = m ((c.tc : Thread Cert.ReferenceGmlpIdeal.nD Cert.ReferenceGmlpIdeal.τ).loc Cert.ReferenceGmlpIdeal.main_arg1)
      ∧ r.2.mem ((c.tc : Thread Cert.ReferenceGmlpIdeal.nD Cert.ReferenceGmlpIdeal.τ).loc Cert.ReferenceGmlpIdeal.main_arg2) = m ((c.tc : Thread Cert.ReferenceGmlpIdeal.nD Cert.ReferenceGmlpIdeal.τ).loc Cert.ReferenceGmlpIdeal.main_arg2)
      ∧ r.2.mem ((c.tc : Thread Cert.ReferenceGmlpIdeal.nD Cert.ReferenceGmlpIdeal.τ).loc Cert.ReferenceGmlpIdeal.main_arg3) = m ((c.tc : Thread Cert.ReferenceGmlpIdeal.nD Cert.ReferenceGmlpIdeal.τ).loc Cert.ReferenceGmlpIdeal.main_arg3)
      ∧ r.2.mem ((c.tc : Thread Cert.ReferenceGmlpIdeal.nD Cert.ReferenceGmlpIdeal.τ).loc Cert.ReferenceGmlpIdeal.main_arg4) = m ((c.tc : Thread Cert.ReferenceGmlpIdeal.nD Cert.ReferenceGmlpIdeal.τ).loc Cert.ReferenceGmlpIdeal.main_arg4)
      ∧ r.2.mem ((c.tc : Thread Cert.ReferenceGmlpIdeal.nD Cert.ReferenceGmlpIdeal.τ).loc Cert.ReferenceGmlpIdeal.main_arg5) = m ((c.tc : Thread Cert.ReferenceGmlpIdeal.nD Cert.ReferenceGmlpIdeal.τ).loc Cert.ReferenceGmlpIdeal.main_arg5))
      ∧ r.2.sem = fun _ => 0)

def quiescent_KernelRope [hKernelRope : Cert.KernelRope.Facts] : Prop :=
  ∀ (m : (ℓ : Loc Cert.KernelRope.nD Cert.KernelRope.τ Cert.KernelRope.sig) → Buf (Elt Bits) ℓ) (g : Dev Cert.KernelRope.nD → PrngReg), Pre_KernelRope m →
    θ_run (Cert.KernelRope.defs (F := Bits)) (onTc (τ := Cert.KernelRope.τ) (Cert.KernelRope.main (F := Bits))) ⟨m, fun _ => 0, g⟩ (fun r => (∀ c : Dev Cert.KernelRope.nD,
      r.2.mem ((c.tc : Thread Cert.KernelRope.nD Cert.KernelRope.τ).loc Cert.KernelRope.main_arg0) = m ((c.tc : Thread Cert.KernelRope.nD Cert.KernelRope.τ).loc Cert.KernelRope.main_arg0)
      ∧ r.2.mem ((c.tc : Thread Cert.KernelRope.nD Cert.KernelRope.τ).loc Cert.KernelRope.main_arg1) = m ((c.tc : Thread Cert.KernelRope.nD Cert.KernelRope.τ).loc Cert.KernelRope.main_arg1)
      ∧ r.2.mem ((c.tc : Thread Cert.KernelRope.nD Cert.KernelRope.τ).loc Cert.KernelRope.main_arg2) = m ((c.tc : Thread Cert.KernelRope.nD Cert.KernelRope.τ).loc Cert.KernelRope.main_arg2))
      ∧ r.2.sem = fun _ => 0)

def quiescent_KernelRopeIdeal [hKernelRopeIdeal : Cert.KernelRopeIdeal.Facts] : Prop :=
  ∀ (m : (ℓ : Loc Cert.KernelRopeIdeal.nD Cert.KernelRopeIdeal.τ Cert.KernelRopeIdeal.sig) → Buf (Elt Ideal) ℓ) (g : Dev Cert.KernelRopeIdeal.nD → PrngReg), Pre_KernelRopeIdeal m →
    θ_run (Cert.KernelRopeIdeal.defs (F := Ideal)) (onTc (τ := Cert.KernelRopeIdeal.τ) (Cert.KernelRopeIdeal.main (F := Ideal))) ⟨m, fun _ => 0, g⟩ (fun r => (∀ c : Dev Cert.KernelRopeIdeal.nD,
      r.2.mem ((c.tc : Thread Cert.KernelRopeIdeal.nD Cert.KernelRopeIdeal.τ).loc Cert.KernelRopeIdeal.main_arg0) = m ((c.tc : Thread Cert.KernelRopeIdeal.nD Cert.KernelRopeIdeal.τ).loc Cert.KernelRopeIdeal.main_arg0)
      ∧ r.2.mem ((c.tc : Thread Cert.KernelRopeIdeal.nD Cert.KernelRopeIdeal.τ).loc Cert.KernelRopeIdeal.main_arg1) = m ((c.tc : Thread Cert.KernelRopeIdeal.nD Cert.KernelRopeIdeal.τ).loc Cert.KernelRopeIdeal.main_arg1)
      ∧ r.2.mem ((c.tc : Thread Cert.KernelRopeIdeal.nD Cert.KernelRopeIdeal.τ).loc Cert.KernelRopeIdeal.main_arg2) = m ((c.tc : Thread Cert.KernelRopeIdeal.nD Cert.KernelRopeIdeal.τ).loc Cert.KernelRopeIdeal.main_arg2))
      ∧ r.2.sem = fun _ => 0)

def quiescent_ReferenceRopeIdeal [hReferenceRopeIdeal : Cert.ReferenceRopeIdeal.Facts] : Prop :=
  ∀ (m : (ℓ : Loc Cert.ReferenceRopeIdeal.nD Cert.ReferenceRopeIdeal.τ Cert.ReferenceRopeIdeal.sig) → Buf (Elt Ideal) ℓ) (g : Dev Cert.ReferenceRopeIdeal.nD → PrngReg), Pre_ReferenceRopeIdeal m →
    θ_run (Cert.ReferenceRopeIdeal.defs (F := Ideal)) (onTc (τ := Cert.ReferenceRopeIdeal.τ) (Cert.ReferenceRopeIdeal.main (F := Ideal))) ⟨m, fun _ => 0, g⟩ (fun r => (∀ c : Dev Cert.ReferenceRopeIdeal.nD,
      r.2.mem ((c.tc : Thread Cert.ReferenceRopeIdeal.nD Cert.ReferenceRopeIdeal.τ).loc Cert.ReferenceRopeIdeal.main_arg0) = m ((c.tc : Thread Cert.ReferenceRopeIdeal.nD Cert.ReferenceRopeIdeal.τ).loc Cert.ReferenceRopeIdeal.main_arg0)
      ∧ r.2.mem ((c.tc : Thread Cert.ReferenceRopeIdeal.nD Cert.ReferenceRopeIdeal.τ).loc Cert.ReferenceRopeIdeal.main_arg1) = m ((c.tc : Thread Cert.ReferenceRopeIdeal.nD Cert.ReferenceRopeIdeal.τ).loc Cert.ReferenceRopeIdeal.main_arg1)
      ∧ r.2.mem ((c.tc : Thread Cert.ReferenceRopeIdeal.nD Cert.ReferenceRopeIdeal.τ).loc Cert.ReferenceRopeIdeal.main_arg2) = m ((c.tc : Thread Cert.ReferenceRopeIdeal.nD Cert.ReferenceRopeIdeal.τ).loc Cert.ReferenceRopeIdeal.main_arg2))
      ∧ r.2.sem = fun _ => 0)

def quiescent_KernelAda [hKernelAda : Cert.KernelAda.Facts] : Prop :=
  ∀ (m : (ℓ : Loc Cert.KernelAda.nD Cert.KernelAda.τ Cert.KernelAda.sig) → Buf (Elt Bits) ℓ) (g : Dev Cert.KernelAda.nD → PrngReg), Pre_KernelAda m →
    θ_run (Cert.KernelAda.defs (F := Bits)) (onTc (τ := Cert.KernelAda.τ) (Cert.KernelAda.main (F := Bits))) ⟨m, fun _ => 0, g⟩ (fun r => (∀ c : Dev Cert.KernelAda.nD,
      r.2.mem ((c.tc : Thread Cert.KernelAda.nD Cert.KernelAda.τ).loc Cert.KernelAda.main_arg0) = m ((c.tc : Thread Cert.KernelAda.nD Cert.KernelAda.τ).loc Cert.KernelAda.main_arg0)
      ∧ r.2.mem ((c.tc : Thread Cert.KernelAda.nD Cert.KernelAda.τ).loc Cert.KernelAda.main_arg1) = m ((c.tc : Thread Cert.KernelAda.nD Cert.KernelAda.τ).loc Cert.KernelAda.main_arg1)
      ∧ r.2.mem ((c.tc : Thread Cert.KernelAda.nD Cert.KernelAda.τ).loc Cert.KernelAda.main_arg2) = m ((c.tc : Thread Cert.KernelAda.nD Cert.KernelAda.τ).loc Cert.KernelAda.main_arg2))
      ∧ r.2.sem = fun _ => 0)

def quiescent_KernelAdaIdeal [hKernelAdaIdeal : Cert.KernelAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg), Pre_KernelAdaIdeal m →
    θ_run (Cert.KernelAdaIdeal.defs (F := Ideal)) (onTc (τ := Cert.KernelAdaIdeal.τ) (Cert.KernelAdaIdeal.main (F := Ideal))) ⟨m, fun _ => 0, g⟩ (fun r => (∀ c : Dev Cert.KernelAdaIdeal.nD,
      r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
      ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1)
      ∧ r.2.mem ((c.tc : Thread Cert.KernelAdaIdeal.nD Cert.KernelAdaIdeal.τ).loc Cert.KernelAdaIdeal.main_arg2) = m ((c.tc : Thread Cert.KernelAdaIdeal.nD Cert.KernelAdaIdeal.τ).loc Cert.KernelAdaIdeal.main_arg2))
      ∧ r.2.sem = fun _ => 0)

def quiescent_ReferenceAdaIdeal [hReferenceAdaIdeal : Cert.ReferenceAdaIdeal.Facts] : Prop :=
  ∀ (m : (ℓ : Loc Cert.ReferenceAdaIdeal.nD Cert.ReferenceAdaIdeal.τ Cert.ReferenceAdaIdeal.sig) → Buf (Elt Ideal) ℓ) (g : Dev Cert.ReferenceAdaIdeal.nD → PrngReg), Pre_ReferenceAdaIdeal m →
    θ_run (Cert.ReferenceAdaIdeal.defs (F := Ideal)) (onTc (τ := Cert.ReferenceAdaIdeal.τ) (Cert.ReferenceAdaIdeal.main (F := Ideal))) ⟨m, fun _ => 0, g⟩ (fun r => (∀ c : Dev Cert.ReferenceAdaIdeal.nD,
      r.2.mem ((c.tc : Thread Cert.ReferenceAdaIdeal.nD Cert.ReferenceAdaIdeal.τ).loc Cert.ReferenceAdaIdeal.main_arg0) = m ((c.tc : Thread Cert.ReferenceAdaIdeal.nD Cert.ReferenceAdaIdeal.τ).loc Cert.ReferenceAdaIdeal.main_arg0)
      ∧ r.2.mem ((c.tc : Thread Cert.ReferenceAdaIdeal.nD Cert.ReferenceAdaIdeal.τ).loc Cert.ReferenceAdaIdeal.main_arg1) = m ((c.tc : Thread Cert.ReferenceAdaIdeal.nD Cert.ReferenceAdaIdeal.τ).loc Cert.ReferenceAdaIdeal.main_arg1)
      ∧ r.2.mem ((c.tc : Thread Cert.ReferenceAdaIdeal.nD Cert.ReferenceAdaIdeal.τ).loc Cert.ReferenceAdaIdeal.main_arg2) = m ((c.tc : Thread Cert.ReferenceAdaIdeal.nD Cert.ReferenceAdaIdeal.τ).loc Cert.ReferenceAdaIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v16_0)) (v2 : (c : Dev Cert.KernelIdeal.nD) → Buf (Elt Ideal) ((c.tc : Thread Cert.KernelIdeal.nD Cert.KernelIdeal.τ).loc Cert.KernelIdeal.main_v16_1)) (v3 : (c : Dev Cert.KernelIdeal.nD) → Buf (Elt Ideal) ((c.tc : Thread Cert.KernelIdeal.nD Cert.KernelIdeal.τ).loc Cert.KernelIdeal.main_v15_1)) (v4 : (c : Dev Cert.KernelIdeal.nD) → Buf (Elt Ideal) ((c.tc : Thread Cert.KernelIdeal.nD Cert.KernelIdeal.τ).loc Cert.KernelIdeal.main_v15_2)) (v5 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v16_0) = v1 c
          ∧ r.2.mem ((c.tc : Thread Cert.KernelIdeal.nD Cert.KernelIdeal.τ).loc Cert.KernelIdeal.main_v16_1) = v2 c
          ∧ r.2.mem ((c.tc : Thread Cert.KernelIdeal.nD Cert.KernelIdeal.τ).loc Cert.KernelIdeal.main_v15_1) = v3 c
          ∧ r.2.mem ((c.tc : Thread Cert.KernelIdeal.nD Cert.KernelIdeal.τ).loc Cert.KernelIdeal.main_v15_2) = v4 c
          ∧ r.2.mem ((c.tc : Thread Cert.KernelIdeal.nD Cert.KernelIdeal.τ).loc Cert.KernelIdeal.main_v19) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v263) = v0 c
          ∧ r.2.mem ((c.tc : Thread Cert.ReferenceIdeal.nD Cert.ReferenceIdeal.τ).loc Cert.ReferenceIdeal.main_v265) = v1 c
          ∧ r.2.mem ((c.tc : Thread Cert.ReferenceIdeal.nD Cert.ReferenceIdeal.τ).loc Cert.ReferenceIdeal.main_v267) = v2 c
          ∧ r.2.mem ((c.tc : Thread Cert.ReferenceIdeal.nD Cert.ReferenceIdeal.τ).loc Cert.ReferenceIdeal.main_v269) = v3 c
          ∧ r.2.mem ((c.tc : Thread Cert.ReferenceIdeal.nD Cert.ReferenceIdeal.τ).loc Cert.ReferenceIdeal.main_v271) = v4 c
          ∧ r.2.mem ((c.tc : Thread Cert.ReferenceIdeal.nD Cert.ReferenceIdeal.τ).loc Cert.ReferenceIdeal.main_v256) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v0)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v2) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelUpDw_KernelUpDwIdeal : Prop :=
  True

def algebraic_KernelUpDwIdeal_ReferenceUpDwIdeal [hKernelUpDwIdeal : Cert.KernelUpDwIdeal.Facts] [hReferenceUpDwIdeal : Cert.ReferenceUpDwIdeal.Facts] : Prop :=
  ∀ (m : (ℓ : Loc Cert.KernelUpDwIdeal.nD Cert.KernelUpDwIdeal.τ Cert.KernelUpDwIdeal.sig) → Buf (Elt Ideal) ℓ) (g : Dev Cert.KernelUpDwIdeal.nD → PrngReg)
    (m' : (ℓ : Loc Cert.ReferenceUpDwIdeal.nD Cert.ReferenceUpDwIdeal.τ Cert.ReferenceUpDwIdeal.sig) → Buf (Elt Ideal) ℓ) (g' : Dev Cert.ReferenceUpDwIdeal.nD → PrngReg), Pre_KernelUpDwIdeal m →
    (∀ c : Dev Cert.KernelUpDwIdeal.nD,
      m' ((c.tc : Thread Cert.ReferenceUpDwIdeal.nD Cert.ReferenceUpDwIdeal.τ).loc Cert.ReferenceUpDwIdeal.main_arg0) = m ((c.tc : Thread Cert.KernelUpDwIdeal.nD Cert.KernelUpDwIdeal.τ).loc Cert.KernelUpDwIdeal.main_arg0)
      ∧ m' ((c.tc : Thread Cert.ReferenceUpDwIdeal.nD Cert.ReferenceUpDwIdeal.τ).loc Cert.ReferenceUpDwIdeal.main_arg1) = m ((c.tc : Thread Cert.KernelUpDwIdeal.nD Cert.KernelUpDwIdeal.τ).loc Cert.KernelUpDwIdeal.main_arg1)) →
    ∃ (v0 : (c : Dev Cert.KernelUpDwIdeal.nD) → Buf (Elt Ideal) ((c.tc : Thread Cert.KernelUpDwIdeal.nD Cert.KernelUpDwIdeal.τ).loc Cert.KernelUpDwIdeal.main_v0)),
      θ_run (Cert.KernelUpDwIdeal.defs (F := Ideal)) (onTc (τ := Cert.KernelUpDwIdeal.τ) (Cert.KernelUpDwIdeal.main (F := Ideal))) ⟨m, fun _ => 0, g⟩ (fun r => ∀ c : Dev Cert.KernelUpDwIdeal.nD,
          r.2.mem ((c.tc : Thread Cert.KernelUpDwIdeal.nD Cert.KernelUpDwIdeal.τ).loc Cert.KernelUpDwIdeal.main_v0) = v0 c
          ∧ r.2.mem ((c.tc : Thread Cert.KernelUpDwIdeal.nD Cert.KernelUpDwIdeal.τ).loc Cert.KernelUpDwIdeal.main_arg0) = m ((c.tc : Thread Cert.KernelUpDwIdeal.nD Cert.KernelUpDwIdeal.τ).loc Cert.KernelUpDwIdeal.main_arg0)
          ∧ r.2.mem ((c.tc : Thread Cert.KernelUpDwIdeal.nD Cert.KernelUpDwIdeal.τ).loc Cert.KernelUpDwIdeal.main_arg1) = m ((c.tc : Thread Cert.KernelUpDwIdeal.nD Cert.KernelUpDwIdeal.τ).loc Cert.KernelUpDwIdeal.main_arg1))
      ∧ θ_run (Cert.ReferenceUpDwIdeal.defs (F := Ideal)) (onTc (τ := Cert.ReferenceUpDwIdeal.τ) (Cert.ReferenceUpDwIdeal.main (F := Ideal))) ⟨m', fun _ => 0, g'⟩ (fun r => ∀ c : Dev Cert.ReferenceUpDwIdeal.nD,
          r.2.mem ((c.tc : Thread Cert.ReferenceUpDwIdeal.nD Cert.ReferenceUpDwIdeal.τ).loc Cert.ReferenceUpDwIdeal.main_v6) = v0 c
          ∧ r.2.mem ((c.tc : Thread Cert.ReferenceUpDwIdeal.nD Cert.ReferenceUpDwIdeal.τ).loc Cert.ReferenceUpDwIdeal.main_arg0) = m' ((c.tc : Thread Cert.ReferenceUpDwIdeal.nD Cert.ReferenceUpDwIdeal.τ).loc Cert.ReferenceUpDwIdeal.main_arg0)
          ∧ r.2.mem ((c.tc : Thread Cert.ReferenceUpDwIdeal.nD Cert.ReferenceUpDwIdeal.τ).loc Cert.ReferenceUpDwIdeal.main_arg1) = m' ((c.tc : Thread Cert.ReferenceUpDwIdeal.nD Cert.ReferenceUpDwIdeal.τ).loc Cert.ReferenceUpDwIdeal.main_arg1))

def preserves_KernelUpDx_KernelUpDxIdeal : Prop :=
  True

def algebraic_KernelUpDxIdeal_ReferenceUpDxIdeal [hKernelUpDxIdeal : Cert.KernelUpDxIdeal.Facts] [hReferenceUpDxIdeal : Cert.ReferenceUpDxIdeal.Facts] : Prop :=
  ∀ (m : (ℓ : Loc Cert.KernelUpDxIdeal.nD Cert.KernelUpDxIdeal.τ Cert.KernelUpDxIdeal.sig) → Buf (Elt Ideal) ℓ) (g : Dev Cert.KernelUpDxIdeal.nD → PrngReg)
    (m' : (ℓ : Loc Cert.ReferenceUpDxIdeal.nD Cert.ReferenceUpDxIdeal.τ Cert.ReferenceUpDxIdeal.sig) → Buf (Elt Ideal) ℓ) (g' : Dev Cert.ReferenceUpDxIdeal.nD → PrngReg), Pre_KernelUpDxIdeal m →
    (∀ c : Dev Cert.KernelUpDxIdeal.nD,
      m' ((c.tc : Thread Cert.ReferenceUpDxIdeal.nD Cert.ReferenceUpDxIdeal.τ).loc Cert.ReferenceUpDxIdeal.main_arg0) = m ((c.tc : Thread Cert.KernelUpDxIdeal.nD Cert.KernelUpDxIdeal.τ).loc Cert.KernelUpDxIdeal.main_arg0)
      ∧ m' ((c.tc : Thread Cert.ReferenceUpDxIdeal.nD Cert.ReferenceUpDxIdeal.τ).loc Cert.ReferenceUpDxIdeal.main_arg1) = m ((c.tc : Thread Cert.KernelUpDxIdeal.nD Cert.KernelUpDxIdeal.τ).loc Cert.KernelUpDxIdeal.main_arg1)) →
    ∃ (v0 : (c : Dev Cert.KernelUpDxIdeal.nD) → Buf (Elt Ideal) ((c.tc : Thread Cert.KernelUpDxIdeal.nD Cert.KernelUpDxIdeal.τ).loc Cert.KernelUpDxIdeal.main_v0)),
      θ_run (Cert.KernelUpDxIdeal.defs (F := Ideal)) (onTc (τ := Cert.KernelUpDxIdeal.τ) (Cert.KernelUpDxIdeal.main (F := Ideal))) ⟨m, fun _ => 0, g⟩ (fun r => ∀ c : Dev Cert.KernelUpDxIdeal.nD,
          r.2.mem ((c.tc : Thread Cert.KernelUpDxIdeal.nD Cert.KernelUpDxIdeal.τ).loc Cert.KernelUpDxIdeal.main_v0) = v0 c
          ∧ r.2.mem ((c.tc : Thread Cert.KernelUpDxIdeal.nD Cert.KernelUpDxIdeal.τ).loc Cert.KernelUpDxIdeal.main_arg0) = m ((c.tc : Thread Cert.KernelUpDxIdeal.nD Cert.KernelUpDxIdeal.τ).loc Cert.KernelUpDxIdeal.main_arg0)
          ∧ r.2.mem ((c.tc : Thread Cert.KernelUpDxIdeal.nD Cert.KernelUpDxIdeal.τ).loc Cert.KernelUpDxIdeal.main_arg1) = m ((c.tc : Thread Cert.KernelUpDxIdeal.nD Cert.KernelUpDxIdeal.τ).loc Cert.KernelUpDxIdeal.main_arg1))
      ∧ θ_run (Cert.ReferenceUpDxIdeal.defs (F := Ideal)) (onTc (τ := Cert.ReferenceUpDxIdeal.τ) (Cert.ReferenceUpDxIdeal.main (F := Ideal))) ⟨m', fun _ => 0, g'⟩ (fun r => ∀ c : Dev Cert.ReferenceUpDxIdeal.nD,
          r.2.mem ((c.tc : Thread Cert.ReferenceUpDxIdeal.nD Cert.ReferenceUpDxIdeal.τ).loc Cert.ReferenceUpDxIdeal.main_v4) = v0 c
          ∧ r.2.mem ((c.tc : Thread Cert.ReferenceUpDxIdeal.nD Cert.ReferenceUpDxIdeal.τ).loc Cert.ReferenceUpDxIdeal.main_arg0) = m' ((c.tc : Thread Cert.ReferenceUpDxIdeal.nD Cert.ReferenceUpDxIdeal.τ).loc Cert.ReferenceUpDxIdeal.main_arg0)
          ∧ r.2.mem ((c.tc : Thread Cert.ReferenceUpDxIdeal.nD Cert.ReferenceUpDxIdeal.τ).loc Cert.ReferenceUpDxIdeal.main_arg1) = m' ((c.tc : Thread Cert.ReferenceUpDxIdeal.nD Cert.ReferenceUpDxIdeal.τ).loc Cert.ReferenceUpDxIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v2) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelDownDw_KernelDownDwIdeal : Prop :=
  True

def algebraic_KernelDownDwIdeal_ReferenceDownDwIdeal [hKernelDownDwIdeal : Cert.KernelDownDwIdeal.Facts] [hReferenceDownDwIdeal : Cert.ReferenceDownDwIdeal.Facts] : Prop :=
  ∀ (m : (ℓ : Loc Cert.KernelDownDwIdeal.nD Cert.KernelDownDwIdeal.τ Cert.KernelDownDwIdeal.sig) → Buf (Elt Ideal) ℓ) (g : Dev Cert.KernelDownDwIdeal.nD → PrngReg)
    (m' : (ℓ : Loc Cert.ReferenceDownDwIdeal.nD Cert.ReferenceDownDwIdeal.τ Cert.ReferenceDownDwIdeal.sig) → Buf (Elt Ideal) ℓ) (g' : Dev Cert.ReferenceDownDwIdeal.nD → PrngReg), Pre_KernelDownDwIdeal m →
    (∀ c : Dev Cert.KernelDownDwIdeal.nD,
      m' ((c.tc : Thread Cert.ReferenceDownDwIdeal.nD Cert.ReferenceDownDwIdeal.τ).loc Cert.ReferenceDownDwIdeal.main_arg0) = m ((c.tc : Thread Cert.KernelDownDwIdeal.nD Cert.KernelDownDwIdeal.τ).loc Cert.KernelDownDwIdeal.main_arg0)
      ∧ m' ((c.tc : Thread Cert.ReferenceDownDwIdeal.nD Cert.ReferenceDownDwIdeal.τ).loc Cert.ReferenceDownDwIdeal.main_arg1) = m ((c.tc : Thread Cert.KernelDownDwIdeal.nD Cert.KernelDownDwIdeal.τ).loc Cert.KernelDownDwIdeal.main_arg1)) →
    ∃ (v0 : (c : Dev Cert.KernelDownDwIdeal.nD) → Buf (Elt Ideal) ((c.tc : Thread Cert.KernelDownDwIdeal.nD Cert.KernelDownDwIdeal.τ).loc Cert.KernelDownDwIdeal.main_v0)),
      θ_run (Cert.KernelDownDwIdeal.defs (F := Ideal)) (onTc (τ := Cert.KernelDownDwIdeal.τ) (Cert.KernelDownDwIdeal.main (F := Ideal))) ⟨m, fun _ => 0, g⟩ (fun r => ∀ c : Dev Cert.KernelDownDwIdeal.nD,
          r.2.mem ((c.tc : Thread Cert.KernelDownDwIdeal.nD Cert.KernelDownDwIdeal.τ).loc Cert.KernelDownDwIdeal.main_v0) = v0 c
          ∧ r.2.mem ((c.tc : Thread Cert.KernelDownDwIdeal.nD Cert.KernelDownDwIdeal.τ).loc Cert.KernelDownDwIdeal.main_arg0) = m ((c.tc : Thread Cert.KernelDownDwIdeal.nD Cert.KernelDownDwIdeal.τ).loc Cert.KernelDownDwIdeal.main_arg0)
          ∧ r.2.mem ((c.tc : Thread Cert.KernelDownDwIdeal.nD Cert.KernelDownDwIdeal.τ).loc Cert.KernelDownDwIdeal.main_arg1) = m ((c.tc : Thread Cert.KernelDownDwIdeal.nD Cert.KernelDownDwIdeal.τ).loc Cert.KernelDownDwIdeal.main_arg1))
      ∧ θ_run (Cert.ReferenceDownDwIdeal.defs (F := Ideal)) (onTc (τ := Cert.ReferenceDownDwIdeal.τ) (Cert.ReferenceDownDwIdeal.main (F := Ideal))) ⟨m', fun _ => 0, g'⟩ (fun r => ∀ c : Dev Cert.ReferenceDownDwIdeal.nD,
          r.2.mem ((c.tc : Thread Cert.ReferenceDownDwIdeal.nD Cert.ReferenceDownDwIdeal.τ).loc Cert.ReferenceDownDwIdeal.main_v6) = v0 c
          ∧ r.2.mem ((c.tc : Thread Cert.ReferenceDownDwIdeal.nD Cert.ReferenceDownDwIdeal.τ).loc Cert.ReferenceDownDwIdeal.main_arg0) = m' ((c.tc : Thread Cert.ReferenceDownDwIdeal.nD Cert.ReferenceDownDwIdeal.τ).loc Cert.ReferenceDownDwIdeal.main_arg0)
          ∧ r.2.mem ((c.tc : Thread Cert.ReferenceDownDwIdeal.nD Cert.ReferenceDownDwIdeal.τ).loc Cert.ReferenceDownDwIdeal.main_arg1) = m' ((c.tc : Thread Cert.ReferenceDownDwIdeal.nD Cert.ReferenceDownDwIdeal.τ).loc Cert.ReferenceDownDwIdeal.main_arg1))

def preserves_KernelDownDx_KernelDownDxIdeal : Prop :=
  True

def algebraic_KernelDownDxIdeal_ReferenceDownDxIdeal [hKernelDownDxIdeal : Cert.KernelDownDxIdeal.Facts] [hReferenceDownDxIdeal : Cert.ReferenceDownDxIdeal.Facts] : Prop :=
  ∀ (m : (ℓ : Loc Cert.KernelDownDxIdeal.nD Cert.KernelDownDxIdeal.τ Cert.KernelDownDxIdeal.sig) → Buf (Elt Ideal) ℓ) (g : Dev Cert.KernelDownDxIdeal.nD → PrngReg)
    (m' : (ℓ : Loc Cert.ReferenceDownDxIdeal.nD Cert.ReferenceDownDxIdeal.τ Cert.ReferenceDownDxIdeal.sig) → Buf (Elt Ideal) ℓ) (g' : Dev Cert.ReferenceDownDxIdeal.nD → PrngReg), Pre_KernelDownDxIdeal m →
    (∀ c : Dev Cert.KernelDownDxIdeal.nD,
      m' ((c.tc : Thread Cert.ReferenceDownDxIdeal.nD Cert.ReferenceDownDxIdeal.τ).loc Cert.ReferenceDownDxIdeal.main_arg0) = m ((c.tc : Thread Cert.KernelDownDxIdeal.nD Cert.KernelDownDxIdeal.τ).loc Cert.KernelDownDxIdeal.main_arg0)
      ∧ m' ((c.tc : Thread Cert.ReferenceDownDxIdeal.nD Cert.ReferenceDownDxIdeal.τ).loc Cert.ReferenceDownDxIdeal.main_arg1) = m ((c.tc : Thread Cert.KernelDownDxIdeal.nD Cert.KernelDownDxIdeal.τ).loc Cert.KernelDownDxIdeal.main_arg1)) →
    ∃ (v0 : (c : Dev Cert.KernelDownDxIdeal.nD) → Buf (Elt Ideal) ((c.tc : Thread Cert.KernelDownDxIdeal.nD Cert.KernelDownDxIdeal.τ).loc Cert.KernelDownDxIdeal.main_v0)),
      θ_run (Cert.KernelDownDxIdeal.defs (F := Ideal)) (onTc (τ := Cert.KernelDownDxIdeal.τ) (Cert.KernelDownDxIdeal.main (F := Ideal))) ⟨m, fun _ => 0, g⟩ (fun r => ∀ c : Dev Cert.KernelDownDxIdeal.nD,
          r.2.mem ((c.tc : Thread Cert.KernelDownDxIdeal.nD Cert.KernelDownDxIdeal.τ).loc Cert.KernelDownDxIdeal.main_v0) = v0 c
          ∧ r.2.mem ((c.tc : Thread Cert.KernelDownDxIdeal.nD Cert.KernelDownDxIdeal.τ).loc Cert.KernelDownDxIdeal.main_arg0) = m ((c.tc : Thread Cert.KernelDownDxIdeal.nD Cert.KernelDownDxIdeal.τ).loc Cert.KernelDownDxIdeal.main_arg0)
          ∧ r.2.mem ((c.tc : Thread Cert.KernelDownDxIdeal.nD Cert.KernelDownDxIdeal.τ).loc Cert.KernelDownDxIdeal.main_arg1) = m ((c.tc : Thread Cert.KernelDownDxIdeal.nD Cert.KernelDownDxIdeal.τ).loc Cert.KernelDownDxIdeal.main_arg1))
      ∧ θ_run (Cert.ReferenceDownDxIdeal.defs (F := Ideal)) (onTc (τ := Cert.ReferenceDownDxIdeal.τ) (Cert.ReferenceDownDxIdeal.main (F := Ideal))) ⟨m', fun _ => 0, g'⟩ (fun r => ∀ c : Dev Cert.ReferenceDownDxIdeal.nD,
          r.2.mem ((c.tc : Thread Cert.ReferenceDownDxIdeal.nD Cert.ReferenceDownDxIdeal.τ).loc Cert.ReferenceDownDxIdeal.main_v4) = v0 c
          ∧ r.2.mem ((c.tc : Thread Cert.ReferenceDownDxIdeal.nD Cert.ReferenceDownDxIdeal.τ).loc Cert.ReferenceDownDxIdeal.main_arg0) = m' ((c.tc : Thread Cert.ReferenceDownDxIdeal.nD Cert.ReferenceDownDxIdeal.τ).loc Cert.ReferenceDownDxIdeal.main_arg0)
          ∧ r.2.mem ((c.tc : Thread Cert.ReferenceDownDxIdeal.nD Cert.ReferenceDownDxIdeal.τ).loc Cert.ReferenceDownDxIdeal.main_arg1) = m' ((c.tc : Thread Cert.ReferenceDownDxIdeal.nD Cert.ReferenceDownDxIdeal.τ).loc Cert.ReferenceDownDxIdeal.main_arg1))

def preserves_KernelUpFirst_KernelUpFirstIdeal : Prop :=
  True

def algebraic_KernelUpFirstIdeal_ReferenceUpFirstIdeal [hKernelUpFirstIdeal : Cert.KernelUpFirstIdeal.Facts] [hReferenceUpFirstIdeal : Cert.ReferenceUpFirstIdeal.Facts] : Prop :=
  ∀ (m : (ℓ : Loc Cert.KernelUpFirstIdeal.nD Cert.KernelUpFirstIdeal.τ Cert.KernelUpFirstIdeal.sig) → Buf (Elt Ideal) ℓ) (g : Dev Cert.KernelUpFirstIdeal.nD → PrngReg)
    (m' : (ℓ : Loc Cert.ReferenceUpFirstIdeal.nD Cert.ReferenceUpFirstIdeal.τ Cert.ReferenceUpFirstIdeal.sig) → Buf (Elt Ideal) ℓ) (g' : Dev Cert.ReferenceUpFirstIdeal.nD → PrngReg), Pre_KernelUpFirstIdeal m →
    (∀ c : Dev Cert.KernelUpFirstIdeal.nD,
      m' ((c.tc : Thread Cert.ReferenceUpFirstIdeal.nD Cert.ReferenceUpFirstIdeal.τ).loc Cert.ReferenceUpFirstIdeal.main_arg0) = m ((c.tc : Thread Cert.KernelUpFirstIdeal.nD Cert.KernelUpFirstIdeal.τ).loc Cert.KernelUpFirstIdeal.main_arg0)
      ∧ m' ((c.tc : Thread Cert.ReferenceUpFirstIdeal.nD Cert.ReferenceUpFirstIdeal.τ).loc Cert.ReferenceUpFirstIdeal.main_arg1) = m ((c.tc : Thread Cert.KernelUpFirstIdeal.nD Cert.KernelUpFirstIdeal.τ).loc Cert.KernelUpFirstIdeal.main_arg1)) →
    ∃ (v0 : (c : Dev Cert.KernelUpFirstIdeal.nD) → Buf (Elt Ideal) ((c.tc : Thread Cert.KernelUpFirstIdeal.nD Cert.KernelUpFirstIdeal.τ).loc Cert.KernelUpFirstIdeal.main_v0)),
      θ_run (Cert.KernelUpFirstIdeal.defs (F := Ideal)) (onTc (τ := Cert.KernelUpFirstIdeal.τ) (Cert.KernelUpFirstIdeal.main (F := Ideal))) ⟨m, fun _ => 0, g⟩ (fun r => ∀ c : Dev Cert.KernelUpFirstIdeal.nD,
          r.2.mem ((c.tc : Thread Cert.KernelUpFirstIdeal.nD Cert.KernelUpFirstIdeal.τ).loc Cert.KernelUpFirstIdeal.main_v0) = v0 c
          ∧ r.2.mem ((c.tc : Thread Cert.KernelUpFirstIdeal.nD Cert.KernelUpFirstIdeal.τ).loc Cert.KernelUpFirstIdeal.main_arg0) = m ((c.tc : Thread Cert.KernelUpFirstIdeal.nD Cert.KernelUpFirstIdeal.τ).loc Cert.KernelUpFirstIdeal.main_arg0)
          ∧ r.2.mem ((c.tc : Thread Cert.KernelUpFirstIdeal.nD Cert.KernelUpFirstIdeal.τ).loc Cert.KernelUpFirstIdeal.main_arg1) = m ((c.tc : Thread Cert.KernelUpFirstIdeal.nD Cert.KernelUpFirstIdeal.τ).loc Cert.KernelUpFirstIdeal.main_arg1))
      ∧ θ_run (Cert.ReferenceUpFirstIdeal.defs (F := Ideal)) (onTc (τ := Cert.ReferenceUpFirstIdeal.τ) (Cert.ReferenceUpFirstIdeal.main (F := Ideal))) ⟨m', fun _ => 0, g'⟩ (fun r => ∀ c : Dev Cert.ReferenceUpFirstIdeal.nD,
          r.2.mem ((c.tc : Thread Cert.ReferenceUpFirstIdeal.nD Cert.ReferenceUpFirstIdeal.τ).loc Cert.ReferenceUpFirstIdeal.main_v2) = v0 c
          ∧ r.2.mem ((c.tc : Thread Cert.ReferenceUpFirstIdeal.nD Cert.ReferenceUpFirstIdeal.τ).loc Cert.ReferenceUpFirstIdeal.main_arg0) = m' ((c.tc : Thread Cert.ReferenceUpFirstIdeal.nD Cert.ReferenceUpFirstIdeal.τ).loc Cert.ReferenceUpFirstIdeal.main_arg0)
          ∧ r.2.mem ((c.tc : Thread Cert.ReferenceUpFirstIdeal.nD Cert.ReferenceUpFirstIdeal.τ).loc Cert.ReferenceUpFirstIdeal.main_arg1) = m' ((c.tc : Thread Cert.ReferenceUpFirstIdeal.nD Cert.ReferenceUpFirstIdeal.τ).loc Cert.ReferenceUpFirstIdeal.main_arg1))

def preserves_KernelUpFirstDw_KernelUpFirstDwIdeal : Prop :=
  True

def algebraic_KernelUpFirstDwIdeal_ReferenceUpFirstDwIdeal [hKernelUpFirstDwIdeal : Cert.KernelUpFirstDwIdeal.Facts] [hReferenceUpFirstDwIdeal : Cert.ReferenceUpFirstDwIdeal.Facts] : Prop :=
  ∀ (m : (ℓ : Loc Cert.KernelUpFirstDwIdeal.nD Cert.KernelUpFirstDwIdeal.τ Cert.KernelUpFirstDwIdeal.sig) → Buf (Elt Ideal) ℓ) (g : Dev Cert.KernelUpFirstDwIdeal.nD → PrngReg)
    (m' : (ℓ : Loc Cert.ReferenceUpFirstDwIdeal.nD Cert.ReferenceUpFirstDwIdeal.τ Cert.ReferenceUpFirstDwIdeal.sig) → Buf (Elt Ideal) ℓ) (g' : Dev Cert.ReferenceUpFirstDwIdeal.nD → PrngReg), Pre_KernelUpFirstDwIdeal m →
    (∀ c : Dev Cert.KernelUpFirstDwIdeal.nD,
      m' ((c.tc : Thread Cert.ReferenceUpFirstDwIdeal.nD Cert.ReferenceUpFirstDwIdeal.τ).loc Cert.ReferenceUpFirstDwIdeal.main_arg0) = m ((c.tc : Thread Cert.KernelUpFirstDwIdeal.nD Cert.KernelUpFirstDwIdeal.τ).loc Cert.KernelUpFirstDwIdeal.main_arg0)
      ∧ m' ((c.tc : Thread Cert.ReferenceUpFirstDwIdeal.nD Cert.ReferenceUpFirstDwIdeal.τ).loc Cert.ReferenceUpFirstDwIdeal.main_arg1) = m ((c.tc : Thread Cert.KernelUpFirstDwIdeal.nD Cert.KernelUpFirstDwIdeal.τ).loc Cert.KernelUpFirstDwIdeal.main_arg1)) →
    ∃ (v0 : (c : Dev Cert.KernelUpFirstDwIdeal.nD) → Buf (Elt Ideal) ((c.tc : Thread Cert.KernelUpFirstDwIdeal.nD Cert.KernelUpFirstDwIdeal.τ).loc Cert.KernelUpFirstDwIdeal.main_v0)),
      θ_run (Cert.KernelUpFirstDwIdeal.defs (F := Ideal)) (onTc (τ := Cert.KernelUpFirstDwIdeal.τ) (Cert.KernelUpFirstDwIdeal.main (F := Ideal))) ⟨m, fun _ => 0, g⟩ (fun r => ∀ c : Dev Cert.KernelUpFirstDwIdeal.nD,
          r.2.mem ((c.tc : Thread Cert.KernelUpFirstDwIdeal.nD Cert.KernelUpFirstDwIdeal.τ).loc Cert.KernelUpFirstDwIdeal.main_v0) = v0 c
          ∧ r.2.mem ((c.tc : Thread Cert.KernelUpFirstDwIdeal.nD Cert.KernelUpFirstDwIdeal.τ).loc Cert.KernelUpFirstDwIdeal.main_arg0) = m ((c.tc : Thread Cert.KernelUpFirstDwIdeal.nD Cert.KernelUpFirstDwIdeal.τ).loc Cert.KernelUpFirstDwIdeal.main_arg0)
          ∧ r.2.mem ((c.tc : Thread Cert.KernelUpFirstDwIdeal.nD Cert.KernelUpFirstDwIdeal.τ).loc Cert.KernelUpFirstDwIdeal.main_arg1) = m ((c.tc : Thread Cert.KernelUpFirstDwIdeal.nD Cert.KernelUpFirstDwIdeal.τ).loc Cert.KernelUpFirstDwIdeal.main_arg1))
      ∧ θ_run (Cert.ReferenceUpFirstDwIdeal.defs (F := Ideal)) (onTc (τ := Cert.ReferenceUpFirstDwIdeal.τ) (Cert.ReferenceUpFirstDwIdeal.main (F := Ideal))) ⟨m', fun _ => 0, g'⟩ (fun r => ∀ c : Dev Cert.ReferenceUpFirstDwIdeal.nD,
          r.2.mem ((c.tc : Thread Cert.ReferenceUpFirstDwIdeal.nD Cert.ReferenceUpFirstDwIdeal.τ).loc Cert.ReferenceUpFirstDwIdeal.main_v6) = v0 c
          ∧ r.2.mem ((c.tc : Thread Cert.ReferenceUpFirstDwIdeal.nD Cert.ReferenceUpFirstDwIdeal.τ).loc Cert.ReferenceUpFirstDwIdeal.main_arg0) = m' ((c.tc : Thread Cert.ReferenceUpFirstDwIdeal.nD Cert.ReferenceUpFirstDwIdeal.τ).loc Cert.ReferenceUpFirstDwIdeal.main_arg0)
          ∧ r.2.mem ((c.tc : Thread Cert.ReferenceUpFirstDwIdeal.nD Cert.ReferenceUpFirstDwIdeal.τ).loc Cert.ReferenceUpFirstDwIdeal.main_arg1) = m' ((c.tc : Thread Cert.ReferenceUpFirstDwIdeal.nD Cert.ReferenceUpFirstDwIdeal.τ).loc Cert.ReferenceUpFirstDwIdeal.main_arg1))

def preserves_KernelUpFirstDx_KernelUpFirstDxIdeal : Prop :=
  True

def algebraic_KernelUpFirstDxIdeal_ReferenceUpFirstDxIdeal [hKernelUpFirstDxIdeal : Cert.KernelUpFirstDxIdeal.Facts] [hReferenceUpFirstDxIdeal : Cert.ReferenceUpFirstDxIdeal.Facts] : Prop :=
  ∀ (m : (ℓ : Loc Cert.KernelUpFirstDxIdeal.nD Cert.KernelUpFirstDxIdeal.τ Cert.KernelUpFirstDxIdeal.sig) → Buf (Elt Ideal) ℓ) (g : Dev Cert.KernelUpFirstDxIdeal.nD → PrngReg)
    (m' : (ℓ : Loc Cert.ReferenceUpFirstDxIdeal.nD Cert.ReferenceUpFirstDxIdeal.τ Cert.ReferenceUpFirstDxIdeal.sig) → Buf (Elt Ideal) ℓ) (g' : Dev Cert.ReferenceUpFirstDxIdeal.nD → PrngReg), Pre_KernelUpFirstDxIdeal m →
    (∀ c : Dev Cert.KernelUpFirstDxIdeal.nD,
      m' ((c.tc : Thread Cert.ReferenceUpFirstDxIdeal.nD Cert.ReferenceUpFirstDxIdeal.τ).loc Cert.ReferenceUpFirstDxIdeal.main_arg0) = m ((c.tc : Thread Cert.KernelUpFirstDxIdeal.nD Cert.KernelUpFirstDxIdeal.τ).loc Cert.KernelUpFirstDxIdeal.main_arg0)
      ∧ m' ((c.tc : Thread Cert.ReferenceUpFirstDxIdeal.nD Cert.ReferenceUpFirstDxIdeal.τ).loc Cert.ReferenceUpFirstDxIdeal.main_arg1) = m ((c.tc : Thread Cert.KernelUpFirstDxIdeal.nD Cert.KernelUpFirstDxIdeal.τ).loc Cert.KernelUpFirstDxIdeal.main_arg1)) →
    ∃ (v0 : (c : Dev Cert.KernelUpFirstDxIdeal.nD) → Buf (Elt Ideal) ((c.tc : Thread Cert.KernelUpFirstDxIdeal.nD Cert.KernelUpFirstDxIdeal.τ).loc Cert.KernelUpFirstDxIdeal.main_v0)),
      θ_run (Cert.KernelUpFirstDxIdeal.defs (F := Ideal)) (onTc (τ := Cert.KernelUpFirstDxIdeal.τ) (Cert.KernelUpFirstDxIdeal.main (F := Ideal))) ⟨m, fun _ => 0, g⟩ (fun r => ∀ c : Dev Cert.KernelUpFirstDxIdeal.nD,
          r.2.mem ((c.tc : Thread Cert.KernelUpFirstDxIdeal.nD Cert.KernelUpFirstDxIdeal.τ).loc Cert.KernelUpFirstDxIdeal.main_v0) = v0 c
          ∧ r.2.mem ((c.tc : Thread Cert.KernelUpFirstDxIdeal.nD Cert.KernelUpFirstDxIdeal.τ).loc Cert.KernelUpFirstDxIdeal.main_arg0) = m ((c.tc : Thread Cert.KernelUpFirstDxIdeal.nD Cert.KernelUpFirstDxIdeal.τ).loc Cert.KernelUpFirstDxIdeal.main_arg0)
          ∧ r.2.mem ((c.tc : Thread Cert.KernelUpFirstDxIdeal.nD Cert.KernelUpFirstDxIdeal.τ).loc Cert.KernelUpFirstDxIdeal.main_arg1) = m ((c.tc : Thread Cert.KernelUpFirstDxIdeal.nD Cert.KernelUpFirstDxIdeal.τ).loc Cert.KernelUpFirstDxIdeal.main_arg1))
      ∧ θ_run (Cert.ReferenceUpFirstDxIdeal.defs (F := Ideal)) (onTc (τ := Cert.ReferenceUpFirstDxIdeal.τ) (Cert.ReferenceUpFirstDxIdeal.main (F := Ideal))) ⟨m', fun _ => 0, g'⟩ (fun r => ∀ c : Dev Cert.ReferenceUpFirstDxIdeal.nD,
          r.2.mem ((c.tc : Thread Cert.ReferenceUpFirstDxIdeal.nD Cert.ReferenceUpFirstDxIdeal.τ).loc Cert.ReferenceUpFirstDxIdeal.main_v4) = v0 c
          ∧ r.2.mem ((c.tc : Thread Cert.ReferenceUpFirstDxIdeal.nD Cert.ReferenceUpFirstDxIdeal.τ).loc Cert.ReferenceUpFirstDxIdeal.main_arg0) = m' ((c.tc : Thread Cert.ReferenceUpFirstDxIdeal.nD Cert.ReferenceUpFirstDxIdeal.τ).loc Cert.ReferenceUpFirstDxIdeal.main_arg0)
          ∧ r.2.mem ((c.tc : Thread Cert.ReferenceUpFirstDxIdeal.nD Cert.ReferenceUpFirstDxIdeal.τ).loc Cert.ReferenceUpFirstDxIdeal.main_arg1) = m' ((c.tc : Thread Cert.ReferenceUpFirstDxIdeal.nD Cert.ReferenceUpFirstDxIdeal.τ).loc Cert.ReferenceUpFirstDxIdeal.main_arg1))

def preserves_KernelDownFirst_KernelDownFirstIdeal : Prop :=
  True

def algebraic_KernelDownFirstIdeal_ReferenceDownFirstIdeal [hKernelDownFirstIdeal : Cert.KernelDownFirstIdeal.Facts] [hReferenceDownFirstIdeal : Cert.ReferenceDownFirstIdeal.Facts] : Prop :=
  ∀ (m : (ℓ : Loc Cert.KernelDownFirstIdeal.nD Cert.KernelDownFirstIdeal.τ Cert.KernelDownFirstIdeal.sig) → Buf (Elt Ideal) ℓ) (g : Dev Cert.KernelDownFirstIdeal.nD → PrngReg)
    (m' : (ℓ : Loc Cert.ReferenceDownFirstIdeal.nD Cert.ReferenceDownFirstIdeal.τ Cert.ReferenceDownFirstIdeal.sig) → Buf (Elt Ideal) ℓ) (g' : Dev Cert.ReferenceDownFirstIdeal.nD → PrngReg), Pre_KernelDownFirstIdeal m →
    (∀ c : Dev Cert.KernelDownFirstIdeal.nD,
      m' ((c.tc : Thread Cert.ReferenceDownFirstIdeal.nD Cert.ReferenceDownFirstIdeal.τ).loc Cert.ReferenceDownFirstIdeal.main_arg0) = m ((c.tc : Thread Cert.KernelDownFirstIdeal.nD Cert.KernelDownFirstIdeal.τ).loc Cert.KernelDownFirstIdeal.main_arg0)
      ∧ m' ((c.tc : Thread Cert.ReferenceDownFirstIdeal.nD Cert.ReferenceDownFirstIdeal.τ).loc Cert.ReferenceDownFirstIdeal.main_arg1) = m ((c.tc : Thread Cert.KernelDownFirstIdeal.nD Cert.KernelDownFirstIdeal.τ).loc Cert.KernelDownFirstIdeal.main_arg1)) →
    ∃ (v0 : (c : Dev Cert.KernelDownFirstIdeal.nD) → Buf (Elt Ideal) ((c.tc : Thread Cert.KernelDownFirstIdeal.nD Cert.KernelDownFirstIdeal.τ).loc Cert.KernelDownFirstIdeal.main_v0)),
      θ_run (Cert.KernelDownFirstIdeal.defs (F := Ideal)) (onTc (τ := Cert.KernelDownFirstIdeal.τ) (Cert.KernelDownFirstIdeal.main (F := Ideal))) ⟨m, fun _ => 0, g⟩ (fun r => ∀ c : Dev Cert.KernelDownFirstIdeal.nD,
          r.2.mem ((c.tc : Thread Cert.KernelDownFirstIdeal.nD Cert.KernelDownFirstIdeal.τ).loc Cert.KernelDownFirstIdeal.main_v0) = v0 c
          ∧ r.2.mem ((c.tc : Thread Cert.KernelDownFirstIdeal.nD Cert.KernelDownFirstIdeal.τ).loc Cert.KernelDownFirstIdeal.main_arg0) = m ((c.tc : Thread Cert.KernelDownFirstIdeal.nD Cert.KernelDownFirstIdeal.τ).loc Cert.KernelDownFirstIdeal.main_arg0)
          ∧ r.2.mem ((c.tc : Thread Cert.KernelDownFirstIdeal.nD Cert.KernelDownFirstIdeal.τ).loc Cert.KernelDownFirstIdeal.main_arg1) = m ((c.tc : Thread Cert.KernelDownFirstIdeal.nD Cert.KernelDownFirstIdeal.τ).loc Cert.KernelDownFirstIdeal.main_arg1))
      ∧ θ_run (Cert.ReferenceDownFirstIdeal.defs (F := Ideal)) (onTc (τ := Cert.ReferenceDownFirstIdeal.τ) (Cert.ReferenceDownFirstIdeal.main (F := Ideal))) ⟨m', fun _ => 0, g'⟩ (fun r => ∀ c : Dev Cert.ReferenceDownFirstIdeal.nD,
          r.2.mem ((c.tc : Thread Cert.ReferenceDownFirstIdeal.nD Cert.ReferenceDownFirstIdeal.τ).loc Cert.ReferenceDownFirstIdeal.main_v2) = v0 c
          ∧ r.2.mem ((c.tc : Thread Cert.ReferenceDownFirstIdeal.nD Cert.ReferenceDownFirstIdeal.τ).loc Cert.ReferenceDownFirstIdeal.main_arg0) = m' ((c.tc : Thread Cert.ReferenceDownFirstIdeal.nD Cert.ReferenceDownFirstIdeal.τ).loc Cert.ReferenceDownFirstIdeal.main_arg0)
          ∧ r.2.mem ((c.tc : Thread Cert.ReferenceDownFirstIdeal.nD Cert.ReferenceDownFirstIdeal.τ).loc Cert.ReferenceDownFirstIdeal.main_arg1) = m' ((c.tc : Thread Cert.ReferenceDownFirstIdeal.nD Cert.ReferenceDownFirstIdeal.τ).loc Cert.ReferenceDownFirstIdeal.main_arg1))

def preserves_KernelDownFirstDw_KernelDownFirstDwIdeal : Prop :=
  True

def algebraic_KernelDownFirstDwIdeal_ReferenceDownFirstDwIdeal [hKernelDownFirstDwIdeal : Cert.KernelDownFirstDwIdeal.Facts] [hReferenceDownFirstDwIdeal : Cert.ReferenceDownFirstDwIdeal.Facts] : Prop :=
  ∀ (m : (ℓ : Loc Cert.KernelDownFirstDwIdeal.nD Cert.KernelDownFirstDwIdeal.τ Cert.KernelDownFirstDwIdeal.sig) → Buf (Elt Ideal) ℓ) (g : Dev Cert.KernelDownFirstDwIdeal.nD → PrngReg)
    (m' : (ℓ : Loc Cert.ReferenceDownFirstDwIdeal.nD Cert.ReferenceDownFirstDwIdeal.τ Cert.ReferenceDownFirstDwIdeal.sig) → Buf (Elt Ideal) ℓ) (g' : Dev Cert.ReferenceDownFirstDwIdeal.nD → PrngReg), Pre_KernelDownFirstDwIdeal m →
    (∀ c : Dev Cert.KernelDownFirstDwIdeal.nD,
      m' ((c.tc : Thread Cert.ReferenceDownFirstDwIdeal.nD Cert.ReferenceDownFirstDwIdeal.τ).loc Cert.ReferenceDownFirstDwIdeal.main_arg0) = m ((c.tc : Thread Cert.KernelDownFirstDwIdeal.nD Cert.KernelDownFirstDwIdeal.τ).loc Cert.KernelDownFirstDwIdeal.main_arg0)
      ∧ m' ((c.tc : Thread Cert.ReferenceDownFirstDwIdeal.nD Cert.ReferenceDownFirstDwIdeal.τ).loc Cert.ReferenceDownFirstDwIdeal.main_arg1) = m ((c.tc : Thread Cert.KernelDownFirstDwIdeal.nD Cert.KernelDownFirstDwIdeal.τ).loc Cert.KernelDownFirstDwIdeal.main_arg1)) →
    ∃ (v0 : (c : Dev Cert.KernelDownFirstDwIdeal.nD) → Buf (Elt Ideal) ((c.tc : Thread Cert.KernelDownFirstDwIdeal.nD Cert.KernelDownFirstDwIdeal.τ).loc Cert.KernelDownFirstDwIdeal.main_v0)),
      θ_run (Cert.KernelDownFirstDwIdeal.defs (F := Ideal)) (onTc (τ := Cert.KernelDownFirstDwIdeal.τ) (Cert.KernelDownFirstDwIdeal.main (F := Ideal))) ⟨m, fun _ => 0, g⟩ (fun r => ∀ c : Dev Cert.KernelDownFirstDwIdeal.nD,
          r.2.mem ((c.tc : Thread Cert.KernelDownFirstDwIdeal.nD Cert.KernelDownFirstDwIdeal.τ).loc Cert.KernelDownFirstDwIdeal.main_v0) = v0 c
          ∧ r.2.mem ((c.tc : Thread Cert.KernelDownFirstDwIdeal.nD Cert.KernelDownFirstDwIdeal.τ).loc Cert.KernelDownFirstDwIdeal.main_arg0) = m ((c.tc : Thread Cert.KernelDownFirstDwIdeal.nD Cert.KernelDownFirstDwIdeal.τ).loc Cert.KernelDownFirstDwIdeal.main_arg0)
          ∧ r.2.mem ((c.tc : Thread Cert.KernelDownFirstDwIdeal.nD Cert.KernelDownFirstDwIdeal.τ).loc Cert.KernelDownFirstDwIdeal.main_arg1) = m ((c.tc : Thread Cert.KernelDownFirstDwIdeal.nD Cert.KernelDownFirstDwIdeal.τ).loc Cert.KernelDownFirstDwIdeal.main_arg1))
      ∧ θ_run (Cert.ReferenceDownFirstDwIdeal.defs (F := Ideal)) (onTc (τ := Cert.ReferenceDownFirstDwIdeal.τ) (Cert.ReferenceDownFirstDwIdeal.main (F := Ideal))) ⟨m', fun _ => 0, g'⟩ (fun r => ∀ c : Dev Cert.ReferenceDownFirstDwIdeal.nD,
          r.2.mem ((c.tc : Thread Cert.ReferenceDownFirstDwIdeal.nD Cert.ReferenceDownFirstDwIdeal.τ).loc Cert.ReferenceDownFirstDwIdeal.main_v6) = v0 c
          ∧ r.2.mem ((c.tc : Thread Cert.ReferenceDownFirstDwIdeal.nD Cert.ReferenceDownFirstDwIdeal.τ).loc Cert.ReferenceDownFirstDwIdeal.main_arg0) = m' ((c.tc : Thread Cert.ReferenceDownFirstDwIdeal.nD Cert.ReferenceDownFirstDwIdeal.τ).loc Cert.ReferenceDownFirstDwIdeal.main_arg0)
          ∧ r.2.mem ((c.tc : Thread Cert.ReferenceDownFirstDwIdeal.nD Cert.ReferenceDownFirstDwIdeal.τ).loc Cert.ReferenceDownFirstDwIdeal.main_arg1) = m' ((c.tc : Thread Cert.ReferenceDownFirstDwIdeal.nD Cert.ReferenceDownFirstDwIdeal.τ).loc Cert.ReferenceDownFirstDwIdeal.main_arg1))

def preserves_KernelDownFirstDx_KernelDownFirstDxIdeal : Prop :=
  True

def algebraic_KernelDownFirstDxIdeal_ReferenceDownFirstDxIdeal [hKernelDownFirstDxIdeal : Cert.KernelDownFirstDxIdeal.Facts] [hReferenceDownFirstDxIdeal : Cert.ReferenceDownFirstDxIdeal.Facts] : Prop :=
  ∀ (m : (ℓ : Loc Cert.KernelDownFirstDxIdeal.nD Cert.KernelDownFirstDxIdeal.τ Cert.KernelDownFirstDxIdeal.sig) → Buf (Elt Ideal) ℓ) (g : Dev Cert.KernelDownFirstDxIdeal.nD → PrngReg)
    (m' : (ℓ : Loc Cert.ReferenceDownFirstDxIdeal.nD Cert.ReferenceDownFirstDxIdeal.τ Cert.ReferenceDownFirstDxIdeal.sig) → Buf (Elt Ideal) ℓ) (g' : Dev Cert.ReferenceDownFirstDxIdeal.nD → PrngReg), Pre_KernelDownFirstDxIdeal m →
    (∀ c : Dev Cert.KernelDownFirstDxIdeal.nD,
      m' ((c.tc : Thread Cert.ReferenceDownFirstDxIdeal.nD Cert.ReferenceDownFirstDxIdeal.τ).loc Cert.ReferenceDownFirstDxIdeal.main_arg0) = m ((c.tc : Thread Cert.KernelDownFirstDxIdeal.nD Cert.KernelDownFirstDxIdeal.τ).loc Cert.KernelDownFirstDxIdeal.main_arg0)
      ∧ m' ((c.tc : Thread Cert.ReferenceDownFirstDxIdeal.nD Cert.ReferenceDownFirstDxIdeal.τ).loc Cert.ReferenceDownFirstDxIdeal.main_arg1) = m ((c.tc : Thread Cert.KernelDownFirstDxIdeal.nD Cert.KernelDownFirstDxIdeal.τ).loc Cert.KernelDownFirstDxIdeal.main_arg1)) →
    ∃ (v0 : (c : Dev Cert.KernelDownFirstDxIdeal.nD) → Buf (Elt Ideal) ((c.tc : Thread Cert.KernelDownFirstDxIdeal.nD Cert.KernelDownFirstDxIdeal.τ).loc Cert.KernelDownFirstDxIdeal.main_v0)),
      θ_run (Cert.KernelDownFirstDxIdeal.defs (F := Ideal)) (onTc (τ := Cert.KernelDownFirstDxIdeal.τ) (Cert.KernelDownFirstDxIdeal.main (F := Ideal))) ⟨m, fun _ => 0, g⟩ (fun r => ∀ c : Dev Cert.KernelDownFirstDxIdeal.nD,
          r.2.mem ((c.tc : Thread Cert.KernelDownFirstDxIdeal.nD Cert.KernelDownFirstDxIdeal.τ).loc Cert.KernelDownFirstDxIdeal.main_v0) = v0 c
          ∧ r.2.mem ((c.tc : Thread Cert.KernelDownFirstDxIdeal.nD Cert.KernelDownFirstDxIdeal.τ).loc Cert.KernelDownFirstDxIdeal.main_arg0) = m ((c.tc : Thread Cert.KernelDownFirstDxIdeal.nD Cert.KernelDownFirstDxIdeal.τ).loc Cert.KernelDownFirstDxIdeal.main_arg0)
          ∧ r.2.mem ((c.tc : Thread Cert.KernelDownFirstDxIdeal.nD Cert.KernelDownFirstDxIdeal.τ).loc Cert.KernelDownFirstDxIdeal.main_arg1) = m ((c.tc : Thread Cert.KernelDownFirstDxIdeal.nD Cert.KernelDownFirstDxIdeal.τ).loc Cert.KernelDownFirstDxIdeal.main_arg1))
      ∧ θ_run (Cert.ReferenceDownFirstDxIdeal.defs (F := Ideal)) (onTc (τ := Cert.ReferenceDownFirstDxIdeal.τ) (Cert.ReferenceDownFirstDxIdeal.main (F := Ideal))) ⟨m', fun _ => 0, g'⟩ (fun r => ∀ c : Dev Cert.ReferenceDownFirstDxIdeal.nD,
          r.2.mem ((c.tc : Thread Cert.ReferenceDownFirstDxIdeal.nD Cert.ReferenceDownFirstDxIdeal.τ).loc Cert.ReferenceDownFirstDxIdeal.main_v4) = v0 c
          ∧ r.2.mem ((c.tc : Thread Cert.ReferenceDownFirstDxIdeal.nD Cert.ReferenceDownFirstDxIdeal.τ).loc Cert.ReferenceDownFirstDxIdeal.main_arg0) = m' ((c.tc : Thread Cert.ReferenceDownFirstDxIdeal.nD Cert.ReferenceDownFirstDxIdeal.τ).loc Cert.ReferenceDownFirstDxIdeal.main_arg0)
          ∧ r.2.mem ((c.tc : Thread Cert.ReferenceDownFirstDxIdeal.nD Cert.ReferenceDownFirstDxIdeal.τ).loc Cert.ReferenceDownFirstDxIdeal.main_arg1) = m' ((c.tc : Thread Cert.ReferenceDownFirstDxIdeal.nD Cert.ReferenceDownFirstDxIdeal.τ).loc Cert.ReferenceDownFirstDxIdeal.main_arg1))

def preserves_KernelCmIn_KernelCmInIdeal : Prop :=
  True

def algebraic_KernelCmInIdeal_ReferenceCmInIdeal [hKernelCmInIdeal : Cert.KernelCmInIdeal.Facts] [hReferenceCmInIdeal : Cert.ReferenceCmInIdeal.Facts] : Prop :=
  ∀ (m : (ℓ : Loc Cert.KernelCmInIdeal.nD Cert.KernelCmInIdeal.τ Cert.KernelCmInIdeal.sig) → Buf (Elt Ideal) ℓ) (g : Dev Cert.KernelCmInIdeal.nD → PrngReg)
    (m' : (ℓ : Loc Cert.ReferenceCmInIdeal.nD Cert.ReferenceCmInIdeal.τ Cert.ReferenceCmInIdeal.sig) → Buf (Elt Ideal) ℓ) (g' : Dev Cert.ReferenceCmInIdeal.nD → PrngReg), Pre_KernelCmInIdeal m →
    (∀ c : Dev Cert.KernelCmInIdeal.nD,
      m' ((c.tc : Thread Cert.ReferenceCmInIdeal.nD Cert.ReferenceCmInIdeal.τ).loc Cert.ReferenceCmInIdeal.main_arg0) = m ((c.tc : Thread Cert.KernelCmInIdeal.nD Cert.KernelCmInIdeal.τ).loc Cert.KernelCmInIdeal.main_arg0)
      ∧ m' ((c.tc : Thread Cert.ReferenceCmInIdeal.nD Cert.ReferenceCmInIdeal.τ).loc Cert.ReferenceCmInIdeal.main_arg1) = m ((c.tc : Thread Cert.KernelCmInIdeal.nD Cert.KernelCmInIdeal.τ).loc Cert.KernelCmInIdeal.main_arg1)) →
    ∃ (v0 : (c : Dev Cert.KernelCmInIdeal.nD) → Buf (Elt Ideal) ((c.tc : Thread Cert.KernelCmInIdeal.nD Cert.KernelCmInIdeal.τ).loc Cert.KernelCmInIdeal.main_v0)),
      θ_run (Cert.KernelCmInIdeal.defs (F := Ideal)) (onTc (τ := Cert.KernelCmInIdeal.τ) (Cert.KernelCmInIdeal.main (F := Ideal))) ⟨m, fun _ => 0, g⟩ (fun r => ∀ c : Dev Cert.KernelCmInIdeal.nD,
          r.2.mem ((c.tc : Thread Cert.KernelCmInIdeal.nD Cert.KernelCmInIdeal.τ).loc Cert.KernelCmInIdeal.main_v0) = v0 c
          ∧ r.2.mem ((c.tc : Thread Cert.KernelCmInIdeal.nD Cert.KernelCmInIdeal.τ).loc Cert.KernelCmInIdeal.main_arg0) = m ((c.tc : Thread Cert.KernelCmInIdeal.nD Cert.KernelCmInIdeal.τ).loc Cert.KernelCmInIdeal.main_arg0)
          ∧ r.2.mem ((c.tc : Thread Cert.KernelCmInIdeal.nD Cert.KernelCmInIdeal.τ).loc Cert.KernelCmInIdeal.main_arg1) = m ((c.tc : Thread Cert.KernelCmInIdeal.nD Cert.KernelCmInIdeal.τ).loc Cert.KernelCmInIdeal.main_arg1))
      ∧ θ_run (Cert.ReferenceCmInIdeal.defs (F := Ideal)) (onTc (τ := Cert.ReferenceCmInIdeal.τ) (Cert.ReferenceCmInIdeal.main (F := Ideal))) ⟨m', fun _ => 0, g'⟩ (fun r => ∀ c : Dev Cert.ReferenceCmInIdeal.nD,
          r.2.mem ((c.tc : Thread Cert.ReferenceCmInIdeal.nD Cert.ReferenceCmInIdeal.τ).loc Cert.ReferenceCmInIdeal.main_v2) = v0 c
          ∧ r.2.mem ((c.tc : Thread Cert.ReferenceCmInIdeal.nD Cert.ReferenceCmInIdeal.τ).loc Cert.ReferenceCmInIdeal.main_arg0) = m' ((c.tc : Thread Cert.ReferenceCmInIdeal.nD Cert.ReferenceCmInIdeal.τ).loc Cert.ReferenceCmInIdeal.main_arg0)
          ∧ r.2.mem ((c.tc : Thread Cert.ReferenceCmInIdeal.nD Cert.ReferenceCmInIdeal.τ).loc Cert.ReferenceCmInIdeal.main_arg1) = m' ((c.tc : Thread Cert.ReferenceCmInIdeal.nD Cert.ReferenceCmInIdeal.τ).loc Cert.ReferenceCmInIdeal.main_arg1))

def preserves_KernelCmInDw_KernelCmInDwIdeal : Prop :=
  True

def algebraic_KernelCmInDwIdeal_ReferenceCmInDwIdeal [hKernelCmInDwIdeal : Cert.KernelCmInDwIdeal.Facts] [hReferenceCmInDwIdeal : Cert.ReferenceCmInDwIdeal.Facts] : Prop :=
  ∀ (m : (ℓ : Loc Cert.KernelCmInDwIdeal.nD Cert.KernelCmInDwIdeal.τ Cert.KernelCmInDwIdeal.sig) → Buf (Elt Ideal) ℓ) (g : Dev Cert.KernelCmInDwIdeal.nD → PrngReg)
    (m' : (ℓ : Loc Cert.ReferenceCmInDwIdeal.nD Cert.ReferenceCmInDwIdeal.τ Cert.ReferenceCmInDwIdeal.sig) → Buf (Elt Ideal) ℓ) (g' : Dev Cert.ReferenceCmInDwIdeal.nD → PrngReg), Pre_KernelCmInDwIdeal m →
    (∀ c : Dev Cert.KernelCmInDwIdeal.nD,
      m' ((c.tc : Thread Cert.ReferenceCmInDwIdeal.nD Cert.ReferenceCmInDwIdeal.τ).loc Cert.ReferenceCmInDwIdeal.main_arg0) = m ((c.tc : Thread Cert.KernelCmInDwIdeal.nD Cert.KernelCmInDwIdeal.τ).loc Cert.KernelCmInDwIdeal.main_arg0)
      ∧ m' ((c.tc : Thread Cert.ReferenceCmInDwIdeal.nD Cert.ReferenceCmInDwIdeal.τ).loc Cert.ReferenceCmInDwIdeal.main_arg1) = m ((c.tc : Thread Cert.KernelCmInDwIdeal.nD Cert.KernelCmInDwIdeal.τ).loc Cert.KernelCmInDwIdeal.main_arg1)) →
    ∃ (v0 : (c : Dev Cert.KernelCmInDwIdeal.nD) → Buf (Elt Ideal) ((c.tc : Thread Cert.KernelCmInDwIdeal.nD Cert.KernelCmInDwIdeal.τ).loc Cert.KernelCmInDwIdeal.main_v0)),
      θ_run (Cert.KernelCmInDwIdeal.defs (F := Ideal)) (onTc (τ := Cert.KernelCmInDwIdeal.τ) (Cert.KernelCmInDwIdeal.main (F := Ideal))) ⟨m, fun _ => 0, g⟩ (fun r => ∀ c : Dev Cert.KernelCmInDwIdeal.nD,
          r.2.mem ((c.tc : Thread Cert.KernelCmInDwIdeal.nD Cert.KernelCmInDwIdeal.τ).loc Cert.KernelCmInDwIdeal.main_v0) = v0 c
          ∧ r.2.mem ((c.tc : Thread Cert.KernelCmInDwIdeal.nD Cert.KernelCmInDwIdeal.τ).loc Cert.KernelCmInDwIdeal.main_arg0) = m ((c.tc : Thread Cert.KernelCmInDwIdeal.nD Cert.KernelCmInDwIdeal.τ).loc Cert.KernelCmInDwIdeal.main_arg0)
          ∧ r.2.mem ((c.tc : Thread Cert.KernelCmInDwIdeal.nD Cert.KernelCmInDwIdeal.τ).loc Cert.KernelCmInDwIdeal.main_arg1) = m ((c.tc : Thread Cert.KernelCmInDwIdeal.nD Cert.KernelCmInDwIdeal.τ).loc Cert.KernelCmInDwIdeal.main_arg1))
      ∧ θ_run (Cert.ReferenceCmInDwIdeal.defs (F := Ideal)) (onTc (τ := Cert.ReferenceCmInDwIdeal.τ) (Cert.ReferenceCmInDwIdeal.main (F := Ideal))) ⟨m', fun _ => 0, g'⟩ (fun r => ∀ c : Dev Cert.ReferenceCmInDwIdeal.nD,
          r.2.mem ((c.tc : Thread Cert.ReferenceCmInDwIdeal.nD Cert.ReferenceCmInDwIdeal.τ).loc Cert.ReferenceCmInDwIdeal.main_v6) = v0 c
          ∧ r.2.mem ((c.tc : Thread Cert.ReferenceCmInDwIdeal.nD Cert.ReferenceCmInDwIdeal.τ).loc Cert.ReferenceCmInDwIdeal.main_arg0) = m' ((c.tc : Thread Cert.ReferenceCmInDwIdeal.nD Cert.ReferenceCmInDwIdeal.τ).loc Cert.ReferenceCmInDwIdeal.main_arg0)
          ∧ r.2.mem ((c.tc : Thread Cert.ReferenceCmInDwIdeal.nD Cert.ReferenceCmInDwIdeal.τ).loc Cert.ReferenceCmInDwIdeal.main_arg1) = m' ((c.tc : Thread Cert.ReferenceCmInDwIdeal.nD Cert.ReferenceCmInDwIdeal.τ).loc Cert.ReferenceCmInDwIdeal.main_arg1))

def preserves_KernelCmInDx_KernelCmInDxIdeal : Prop :=
  True

def algebraic_KernelCmInDxIdeal_ReferenceCmInDxIdeal [hKernelCmInDxIdeal : Cert.KernelCmInDxIdeal.Facts] [hReferenceCmInDxIdeal : Cert.ReferenceCmInDxIdeal.Facts] : Prop :=
  ∀ (m : (ℓ : Loc Cert.KernelCmInDxIdeal.nD Cert.KernelCmInDxIdeal.τ Cert.KernelCmInDxIdeal.sig) → Buf (Elt Ideal) ℓ) (g : Dev Cert.KernelCmInDxIdeal.nD → PrngReg)
    (m' : (ℓ : Loc Cert.ReferenceCmInDxIdeal.nD Cert.ReferenceCmInDxIdeal.τ Cert.ReferenceCmInDxIdeal.sig) → Buf (Elt Ideal) ℓ) (g' : Dev Cert.ReferenceCmInDxIdeal.nD → PrngReg), Pre_KernelCmInDxIdeal m →
    (∀ c : Dev Cert.KernelCmInDxIdeal.nD,
      m' ((c.tc : Thread Cert.ReferenceCmInDxIdeal.nD Cert.ReferenceCmInDxIdeal.τ).loc Cert.ReferenceCmInDxIdeal.main_arg0) = m ((c.tc : Thread Cert.KernelCmInDxIdeal.nD Cert.KernelCmInDxIdeal.τ).loc Cert.KernelCmInDxIdeal.main_arg0)
      ∧ m' ((c.tc : Thread Cert.ReferenceCmInDxIdeal.nD Cert.ReferenceCmInDxIdeal.τ).loc Cert.ReferenceCmInDxIdeal.main_arg1) = m ((c.tc : Thread Cert.KernelCmInDxIdeal.nD Cert.KernelCmInDxIdeal.τ).loc Cert.KernelCmInDxIdeal.main_arg1)) →
    ∃ (v0 : (c : Dev Cert.KernelCmInDxIdeal.nD) → Buf (Elt Ideal) ((c.tc : Thread Cert.KernelCmInDxIdeal.nD Cert.KernelCmInDxIdeal.τ).loc Cert.KernelCmInDxIdeal.main_v0)),
      θ_run (Cert.KernelCmInDxIdeal.defs (F := Ideal)) (onTc (τ := Cert.KernelCmInDxIdeal.τ) (Cert.KernelCmInDxIdeal.main (F := Ideal))) ⟨m, fun _ => 0, g⟩ (fun r => ∀ c : Dev Cert.KernelCmInDxIdeal.nD,
          r.2.mem ((c.tc : Thread Cert.KernelCmInDxIdeal.nD Cert.KernelCmInDxIdeal.τ).loc Cert.KernelCmInDxIdeal.main_v0) = v0 c
          ∧ r.2.mem ((c.tc : Thread Cert.KernelCmInDxIdeal.nD Cert.KernelCmInDxIdeal.τ).loc Cert.KernelCmInDxIdeal.main_arg0) = m ((c.tc : Thread Cert.KernelCmInDxIdeal.nD Cert.KernelCmInDxIdeal.τ).loc Cert.KernelCmInDxIdeal.main_arg0)
          ∧ r.2.mem ((c.tc : Thread Cert.KernelCmInDxIdeal.nD Cert.KernelCmInDxIdeal.τ).loc Cert.KernelCmInDxIdeal.main_arg1) = m ((c.tc : Thread Cert.KernelCmInDxIdeal.nD Cert.KernelCmInDxIdeal.τ).loc Cert.KernelCmInDxIdeal.main_arg1))
      ∧ θ_run (Cert.ReferenceCmInDxIdeal.defs (F := Ideal)) (onTc (τ := Cert.ReferenceCmInDxIdeal.τ) (Cert.ReferenceCmInDxIdeal.main (F := Ideal))) ⟨m', fun _ => 0, g'⟩ (fun r => ∀ c : Dev Cert.ReferenceCmInDxIdeal.nD,
          r.2.mem ((c.tc : Thread Cert.ReferenceCmInDxIdeal.nD Cert.ReferenceCmInDxIdeal.τ).loc Cert.ReferenceCmInDxIdeal.main_v4) = v0 c
          ∧ r.2.mem ((c.tc : Thread Cert.ReferenceCmInDxIdeal.nD Cert.ReferenceCmInDxIdeal.τ).loc Cert.ReferenceCmInDxIdeal.main_arg0) = m' ((c.tc : Thread Cert.ReferenceCmInDxIdeal.nD Cert.ReferenceCmInDxIdeal.τ).loc Cert.ReferenceCmInDxIdeal.main_arg0)
          ∧ r.2.mem ((c.tc : Thread Cert.ReferenceCmInDxIdeal.nD Cert.ReferenceCmInDxIdeal.τ).loc Cert.ReferenceCmInDxIdeal.main_arg1) = m' ((c.tc : Thread Cert.ReferenceCmInDxIdeal.nD Cert.ReferenceCmInDxIdeal.τ).loc Cert.ReferenceCmInDxIdeal.main_arg1))

def preserves_KernelCmOut_KernelCmOutIdeal : Prop :=
  True

def algebraic_KernelCmOutIdeal_ReferenceCmOutIdeal [hKernelCmOutIdeal : Cert.KernelCmOutIdeal.Facts] [hReferenceCmOutIdeal : Cert.ReferenceCmOutIdeal.Facts] : Prop :=
  ∀ (m : (ℓ : Loc Cert.KernelCmOutIdeal.nD Cert.KernelCmOutIdeal.τ Cert.KernelCmOutIdeal.sig) → Buf (Elt Ideal) ℓ) (g : Dev Cert.KernelCmOutIdeal.nD → PrngReg)
    (m' : (ℓ : Loc Cert.ReferenceCmOutIdeal.nD Cert.ReferenceCmOutIdeal.τ Cert.ReferenceCmOutIdeal.sig) → Buf (Elt Ideal) ℓ) (g' : Dev Cert.ReferenceCmOutIdeal.nD → PrngReg), Pre_KernelCmOutIdeal m →
    (∀ c : Dev Cert.KernelCmOutIdeal.nD,
      m' ((c.tc : Thread Cert.ReferenceCmOutIdeal.nD Cert.ReferenceCmOutIdeal.τ).loc Cert.ReferenceCmOutIdeal.main_arg0) = m ((c.tc : Thread Cert.KernelCmOutIdeal.nD Cert.KernelCmOutIdeal.τ).loc Cert.KernelCmOutIdeal.main_arg0)
      ∧ m' ((c.tc : Thread Cert.ReferenceCmOutIdeal.nD Cert.ReferenceCmOutIdeal.τ).loc Cert.ReferenceCmOutIdeal.main_arg1) = m ((c.tc : Thread Cert.KernelCmOutIdeal.nD Cert.KernelCmOutIdeal.τ).loc Cert.KernelCmOutIdeal.main_arg1)) →
    ∃ (v0 : (c : Dev Cert.KernelCmOutIdeal.nD) → Buf (Elt Ideal) ((c.tc : Thread Cert.KernelCmOutIdeal.nD Cert.KernelCmOutIdeal.τ).loc Cert.KernelCmOutIdeal.main_v0)),
      θ_run (Cert.KernelCmOutIdeal.defs (F := Ideal)) (onTc (τ := Cert.KernelCmOutIdeal.τ) (Cert.KernelCmOutIdeal.main (F := Ideal))) ⟨m, fun _ => 0, g⟩ (fun r => ∀ c : Dev Cert.KernelCmOutIdeal.nD,
          r.2.mem ((c.tc : Thread Cert.KernelCmOutIdeal.nD Cert.KernelCmOutIdeal.τ).loc Cert.KernelCmOutIdeal.main_v0) = v0 c
          ∧ r.2.mem ((c.tc : Thread Cert.KernelCmOutIdeal.nD Cert.KernelCmOutIdeal.τ).loc Cert.KernelCmOutIdeal.main_arg0) = m ((c.tc : Thread Cert.KernelCmOutIdeal.nD Cert.KernelCmOutIdeal.τ).loc Cert.KernelCmOutIdeal.main_arg0)
          ∧ r.2.mem ((c.tc : Thread Cert.KernelCmOutIdeal.nD Cert.KernelCmOutIdeal.τ).loc Cert.KernelCmOutIdeal.main_arg1) = m ((c.tc : Thread Cert.KernelCmOutIdeal.nD Cert.KernelCmOutIdeal.τ).loc Cert.KernelCmOutIdeal.main_arg1))
      ∧ θ_run (Cert.ReferenceCmOutIdeal.defs (F := Ideal)) (onTc (τ := Cert.ReferenceCmOutIdeal.τ) (Cert.ReferenceCmOutIdeal.main (F := Ideal))) ⟨m', fun _ => 0, g'⟩ (fun r => ∀ c : Dev Cert.ReferenceCmOutIdeal.nD,
          r.2.mem ((c.tc : Thread Cert.ReferenceCmOutIdeal.nD Cert.ReferenceCmOutIdeal.τ).loc Cert.ReferenceCmOutIdeal.main_v2) = v0 c
          ∧ r.2.mem ((c.tc : Thread Cert.ReferenceCmOutIdeal.nD Cert.ReferenceCmOutIdeal.τ).loc Cert.ReferenceCmOutIdeal.main_arg0) = m' ((c.tc : Thread Cert.ReferenceCmOutIdeal.nD Cert.ReferenceCmOutIdeal.τ).loc Cert.ReferenceCmOutIdeal.main_arg0)
          ∧ r.2.mem ((c.tc : Thread Cert.ReferenceCmOutIdeal.nD Cert.ReferenceCmOutIdeal.τ).loc Cert.ReferenceCmOutIdeal.main_arg1) = m' ((c.tc : Thread Cert.ReferenceCmOutIdeal.nD Cert.ReferenceCmOutIdeal.τ).loc Cert.ReferenceCmOutIdeal.main_arg1))

def preserves_KernelCmOutDw_KernelCmOutDwIdeal : Prop :=
  True

def algebraic_KernelCmOutDwIdeal_ReferenceCmOutDwIdeal [hKernelCmOutDwIdeal : Cert.KernelCmOutDwIdeal.Facts] [hReferenceCmOutDwIdeal : Cert.ReferenceCmOutDwIdeal.Facts] : Prop :=
  ∀ (m : (ℓ : Loc Cert.KernelCmOutDwIdeal.nD Cert.KernelCmOutDwIdeal.τ Cert.KernelCmOutDwIdeal.sig) → Buf (Elt Ideal) ℓ) (g : Dev Cert.KernelCmOutDwIdeal.nD → PrngReg)
    (m' : (ℓ : Loc Cert.ReferenceCmOutDwIdeal.nD Cert.ReferenceCmOutDwIdeal.τ Cert.ReferenceCmOutDwIdeal.sig) → Buf (Elt Ideal) ℓ) (g' : Dev Cert.ReferenceCmOutDwIdeal.nD → PrngReg), Pre_KernelCmOutDwIdeal m →
    (∀ c : Dev Cert.KernelCmOutDwIdeal.nD,
      m' ((c.tc : Thread Cert.ReferenceCmOutDwIdeal.nD Cert.ReferenceCmOutDwIdeal.τ).loc Cert.ReferenceCmOutDwIdeal.main_arg0) = m ((c.tc : Thread Cert.KernelCmOutDwIdeal.nD Cert.KernelCmOutDwIdeal.τ).loc Cert.KernelCmOutDwIdeal.main_arg0)
      ∧ m' ((c.tc : Thread Cert.ReferenceCmOutDwIdeal.nD Cert.ReferenceCmOutDwIdeal.τ).loc Cert.ReferenceCmOutDwIdeal.main_arg1) = m ((c.tc : Thread Cert.KernelCmOutDwIdeal.nD Cert.KernelCmOutDwIdeal.τ).loc Cert.KernelCmOutDwIdeal.main_arg1)) →
    ∃ (v0 : (c : Dev Cert.KernelCmOutDwIdeal.nD) → Buf (Elt Ideal) ((c.tc : Thread Cert.KernelCmOutDwIdeal.nD Cert.KernelCmOutDwIdeal.τ).loc Cert.KernelCmOutDwIdeal.main_v0)),
      θ_run (Cert.KernelCmOutDwIdeal.defs (F := Ideal)) (onTc (τ := Cert.KernelCmOutDwIdeal.τ) (Cert.KernelCmOutDwIdeal.main (F := Ideal))) ⟨m, fun _ => 0, g⟩ (fun r => ∀ c : Dev Cert.KernelCmOutDwIdeal.nD,
          r.2.mem ((c.tc : Thread Cert.KernelCmOutDwIdeal.nD Cert.KernelCmOutDwIdeal.τ).loc Cert.KernelCmOutDwIdeal.main_v0) = v0 c
          ∧ r.2.mem ((c.tc : Thread Cert.KernelCmOutDwIdeal.nD Cert.KernelCmOutDwIdeal.τ).loc Cert.KernelCmOutDwIdeal.main_arg0) = m ((c.tc : Thread Cert.KernelCmOutDwIdeal.nD Cert.KernelCmOutDwIdeal.τ).loc Cert.KernelCmOutDwIdeal.main_arg0)
          ∧ r.2.mem ((c.tc : Thread Cert.KernelCmOutDwIdeal.nD Cert.KernelCmOutDwIdeal.τ).loc Cert.KernelCmOutDwIdeal.main_arg1) = m ((c.tc : Thread Cert.KernelCmOutDwIdeal.nD Cert.KernelCmOutDwIdeal.τ).loc Cert.KernelCmOutDwIdeal.main_arg1))
      ∧ θ_run (Cert.ReferenceCmOutDwIdeal.defs (F := Ideal)) (onTc (τ := Cert.ReferenceCmOutDwIdeal.τ) (Cert.ReferenceCmOutDwIdeal.main (F := Ideal))) ⟨m', fun _ => 0, g'⟩ (fun r => ∀ c : Dev Cert.ReferenceCmOutDwIdeal.nD,
          r.2.mem ((c.tc : Thread Cert.ReferenceCmOutDwIdeal.nD Cert.ReferenceCmOutDwIdeal.τ).loc Cert.ReferenceCmOutDwIdeal.main_v6) = v0 c
          ∧ r.2.mem ((c.tc : Thread Cert.ReferenceCmOutDwIdeal.nD Cert.ReferenceCmOutDwIdeal.τ).loc Cert.ReferenceCmOutDwIdeal.main_arg0) = m' ((c.tc : Thread Cert.ReferenceCmOutDwIdeal.nD Cert.ReferenceCmOutDwIdeal.τ).loc Cert.ReferenceCmOutDwIdeal.main_arg0)
          ∧ r.2.mem ((c.tc : Thread Cert.ReferenceCmOutDwIdeal.nD Cert.ReferenceCmOutDwIdeal.τ).loc Cert.ReferenceCmOutDwIdeal.main_arg1) = m' ((c.tc : Thread Cert.ReferenceCmOutDwIdeal.nD Cert.ReferenceCmOutDwIdeal.τ).loc Cert.ReferenceCmOutDwIdeal.main_arg1))

def preserves_KernelCmOutDx_KernelCmOutDxIdeal : Prop :=
  True

def algebraic_KernelCmOutDxIdeal_ReferenceCmOutDxIdeal [hKernelCmOutDxIdeal : Cert.KernelCmOutDxIdeal.Facts] [hReferenceCmOutDxIdeal : Cert.ReferenceCmOutDxIdeal.Facts] : Prop :=
  ∀ (m : (ℓ : Loc Cert.KernelCmOutDxIdeal.nD Cert.KernelCmOutDxIdeal.τ Cert.KernelCmOutDxIdeal.sig) → Buf (Elt Ideal) ℓ) (g : Dev Cert.KernelCmOutDxIdeal.nD → PrngReg)
    (m' : (ℓ : Loc Cert.ReferenceCmOutDxIdeal.nD Cert.ReferenceCmOutDxIdeal.τ Cert.ReferenceCmOutDxIdeal.sig) → Buf (Elt Ideal) ℓ) (g' : Dev Cert.ReferenceCmOutDxIdeal.nD → PrngReg), Pre_KernelCmOutDxIdeal m →
    (∀ c : Dev Cert.KernelCmOutDxIdeal.nD,
      m' ((c.tc : Thread Cert.ReferenceCmOutDxIdeal.nD Cert.ReferenceCmOutDxIdeal.τ).loc Cert.ReferenceCmOutDxIdeal.main_arg0) = m ((c.tc : Thread Cert.KernelCmOutDxIdeal.nD Cert.KernelCmOutDxIdeal.τ).loc Cert.KernelCmOutDxIdeal.main_arg0)
      ∧ m' ((c.tc : Thread Cert.ReferenceCmOutDxIdeal.nD Cert.ReferenceCmOutDxIdeal.τ).loc Cert.ReferenceCmOutDxIdeal.main_arg1) = m ((c.tc : Thread Cert.KernelCmOutDxIdeal.nD Cert.KernelCmOutDxIdeal.τ).loc Cert.KernelCmOutDxIdeal.main_arg1)) →
    ∃ (v0 : (c : Dev Cert.KernelCmOutDxIdeal.nD) → Buf (Elt Ideal) ((c.tc : Thread Cert.KernelCmOutDxIdeal.nD Cert.KernelCmOutDxIdeal.τ).loc Cert.KernelCmOutDxIdeal.main_v0)),
      θ_run (Cert.KernelCmOutDxIdeal.defs (F := Ideal)) (onTc (τ := Cert.KernelCmOutDxIdeal.τ) (Cert.KernelCmOutDxIdeal.main (F := Ideal))) ⟨m, fun _ => 0, g⟩ (fun r => ∀ c : Dev Cert.KernelCmOutDxIdeal.nD,
          r.2.mem ((c.tc : Thread Cert.KernelCmOutDxIdeal.nD Cert.KernelCmOutDxIdeal.τ).loc Cert.KernelCmOutDxIdeal.main_v0) = v0 c
          ∧ r.2.mem ((c.tc : Thread Cert.KernelCmOutDxIdeal.nD Cert.KernelCmOutDxIdeal.τ).loc Cert.KernelCmOutDxIdeal.main_arg0) = m ((c.tc : Thread Cert.KernelCmOutDxIdeal.nD Cert.KernelCmOutDxIdeal.τ).loc Cert.KernelCmOutDxIdeal.main_arg0)
          ∧ r.2.mem ((c.tc : Thread Cert.KernelCmOutDxIdeal.nD Cert.KernelCmOutDxIdeal.τ).loc Cert.KernelCmOutDxIdeal.main_arg1) = m ((c.tc : Thread Cert.KernelCmOutDxIdeal.nD Cert.KernelCmOutDxIdeal.τ).loc Cert.KernelCmOutDxIdeal.main_arg1))
      ∧ θ_run (Cert.ReferenceCmOutDxIdeal.defs (F := Ideal)) (onTc (τ := Cert.ReferenceCmOutDxIdeal.τ) (Cert.ReferenceCmOutDxIdeal.main (F := Ideal))) ⟨m', fun _ => 0, g'⟩ (fun r => ∀ c : Dev Cert.ReferenceCmOutDxIdeal.nD,
          r.2.mem ((c.tc : Thread Cert.ReferenceCmOutDxIdeal.nD Cert.ReferenceCmOutDxIdeal.τ).loc Cert.ReferenceCmOutDxIdeal.main_v4) = v0 c
          ∧ r.2.mem ((c.tc : Thread Cert.ReferenceCmOutDxIdeal.nD Cert.ReferenceCmOutDxIdeal.τ).loc Cert.ReferenceCmOutDxIdeal.main_arg0) = m' ((c.tc : Thread Cert.ReferenceCmOutDxIdeal.nD Cert.ReferenceCmOutDxIdeal.τ).loc Cert.ReferenceCmOutDxIdeal.main_arg0)
          ∧ r.2.mem ((c.tc : Thread Cert.ReferenceCmOutDxIdeal.nD Cert.ReferenceCmOutDxIdeal.τ).loc Cert.ReferenceCmOutDxIdeal.main_arg1) = m' ((c.tc : Thread Cert.ReferenceCmOutDxIdeal.nD Cert.ReferenceCmOutDxIdeal.τ).loc Cert.ReferenceCmOutDxIdeal.main_arg1))

def preserves_KernelCmInFirst_KernelCmInFirstIdeal : Prop :=
  True

def algebraic_KernelCmInFirstIdeal_ReferenceCmInFirstIdeal [hKernelCmInFirstIdeal : Cert.KernelCmInFirstIdeal.Facts] [hReferenceCmInFirstIdeal : Cert.ReferenceCmInFirstIdeal.Facts] : Prop :=
  ∀ (m : (ℓ : Loc Cert.KernelCmInFirstIdeal.nD Cert.KernelCmInFirstIdeal.τ Cert.KernelCmInFirstIdeal.sig) → Buf (Elt Ideal) ℓ) (g : Dev Cert.KernelCmInFirstIdeal.nD → PrngReg)
    (m' : (ℓ : Loc Cert.ReferenceCmInFirstIdeal.nD Cert.ReferenceCmInFirstIdeal.τ Cert.ReferenceCmInFirstIdeal.sig) → Buf (Elt Ideal) ℓ) (g' : Dev Cert.ReferenceCmInFirstIdeal.nD → PrngReg), Pre_KernelCmInFirstIdeal m →
    (∀ c : Dev Cert.KernelCmInFirstIdeal.nD,
      m' ((c.tc : Thread Cert.ReferenceCmInFirstIdeal.nD Cert.ReferenceCmInFirstIdeal.τ).loc Cert.ReferenceCmInFirstIdeal.main_arg0) = m ((c.tc : Thread Cert.KernelCmInFirstIdeal.nD Cert.KernelCmInFirstIdeal.τ).loc Cert.KernelCmInFirstIdeal.main_arg0)
      ∧ m' ((c.tc : Thread Cert.ReferenceCmInFirstIdeal.nD Cert.ReferenceCmInFirstIdeal.τ).loc Cert.ReferenceCmInFirstIdeal.main_arg1) = m ((c.tc : Thread Cert.KernelCmInFirstIdeal.nD Cert.KernelCmInFirstIdeal.τ).loc Cert.KernelCmInFirstIdeal.main_arg1)) →
    ∃ (v0 : (c : Dev Cert.KernelCmInFirstIdeal.nD) → Buf (Elt Ideal) ((c.tc : Thread Cert.KernelCmInFirstIdeal.nD Cert.KernelCmInFirstIdeal.τ).loc Cert.KernelCmInFirstIdeal.main_v0)),
      θ_run (Cert.KernelCmInFirstIdeal.defs (F := Ideal)) (onTc (τ := Cert.KernelCmInFirstIdeal.τ) (Cert.KernelCmInFirstIdeal.main (F := Ideal))) ⟨m, fun _ => 0, g⟩ (fun r => ∀ c : Dev Cert.KernelCmInFirstIdeal.nD,
          r.2.mem ((c.tc : Thread Cert.KernelCmInFirstIdeal.nD Cert.KernelCmInFirstIdeal.τ).loc Cert.KernelCmInFirstIdeal.main_v0) = v0 c
          ∧ r.2.mem ((c.tc : Thread Cert.KernelCmInFirstIdeal.nD Cert.KernelCmInFirstIdeal.τ).loc Cert.KernelCmInFirstIdeal.main_arg0) = m ((c.tc : Thread Cert.KernelCmInFirstIdeal.nD Cert.KernelCmInFirstIdeal.τ).loc Cert.KernelCmInFirstIdeal.main_arg0)
          ∧ r.2.mem ((c.tc : Thread Cert.KernelCmInFirstIdeal.nD Cert.KernelCmInFirstIdeal.τ).loc Cert.KernelCmInFirstIdeal.main_arg1) = m ((c.tc : Thread Cert.KernelCmInFirstIdeal.nD Cert.KernelCmInFirstIdeal.τ).loc Cert.KernelCmInFirstIdeal.main_arg1))
      ∧ θ_run (Cert.ReferenceCmInFirstIdeal.defs (F := Ideal)) (onTc (τ := Cert.ReferenceCmInFirstIdeal.τ) (Cert.ReferenceCmInFirstIdeal.main (F := Ideal))) ⟨m', fun _ => 0, g'⟩ (fun r => ∀ c : Dev Cert.ReferenceCmInFirstIdeal.nD,
          r.2.mem ((c.tc : Thread Cert.ReferenceCmInFirstIdeal.nD Cert.ReferenceCmInFirstIdeal.τ).loc Cert.ReferenceCmInFirstIdeal.main_v2) = v0 c
          ∧ r.2.mem ((c.tc : Thread Cert.ReferenceCmInFirstIdeal.nD Cert.ReferenceCmInFirstIdeal.τ).loc Cert.ReferenceCmInFirstIdeal.main_arg0) = m' ((c.tc : Thread Cert.ReferenceCmInFirstIdeal.nD Cert.ReferenceCmInFirstIdeal.τ).loc Cert.ReferenceCmInFirstIdeal.main_arg0)
          ∧ r.2.mem ((c.tc : Thread Cert.ReferenceCmInFirstIdeal.nD Cert.ReferenceCmInFirstIdeal.τ).loc Cert.ReferenceCmInFirstIdeal.main_arg1) = m' ((c.tc : Thread Cert.ReferenceCmInFirstIdeal.nD Cert.ReferenceCmInFirstIdeal.τ).loc Cert.ReferenceCmInFirstIdeal.main_arg1))

def preserves_KernelCmInFirstDw_KernelCmInFirstDwIdeal : Prop :=
  True

def algebraic_KernelCmInFirstDwIdeal_ReferenceCmInFirstDwIdeal [hKernelCmInFirstDwIdeal : Cert.KernelCmInFirstDwIdeal.Facts] [hReferenceCmInFirstDwIdeal : Cert.ReferenceCmInFirstDwIdeal.Facts] : Prop :=
  ∀ (m : (ℓ : Loc Cert.KernelCmInFirstDwIdeal.nD Cert.KernelCmInFirstDwIdeal.τ Cert.KernelCmInFirstDwIdeal.sig) → Buf (Elt Ideal) ℓ) (g : Dev Cert.KernelCmInFirstDwIdeal.nD → PrngReg)
    (m' : (ℓ : Loc Cert.ReferenceCmInFirstDwIdeal.nD Cert.ReferenceCmInFirstDwIdeal.τ Cert.ReferenceCmInFirstDwIdeal.sig) → Buf (Elt Ideal) ℓ) (g' : Dev Cert.ReferenceCmInFirstDwIdeal.nD → PrngReg), Pre_KernelCmInFirstDwIdeal m →
    (∀ c : Dev Cert.KernelCmInFirstDwIdeal.nD,
      m' ((c.tc : Thread Cert.ReferenceCmInFirstDwIdeal.nD Cert.ReferenceCmInFirstDwIdeal.τ).loc Cert.ReferenceCmInFirstDwIdeal.main_arg0) = m ((c.tc : Thread Cert.KernelCmInFirstDwIdeal.nD Cert.KernelCmInFirstDwIdeal.τ).loc Cert.KernelCmInFirstDwIdeal.main_arg0)
      ∧ m' ((c.tc : Thread Cert.ReferenceCmInFirstDwIdeal.nD Cert.ReferenceCmInFirstDwIdeal.τ).loc Cert.ReferenceCmInFirstDwIdeal.main_arg1) = m ((c.tc : Thread Cert.KernelCmInFirstDwIdeal.nD Cert.KernelCmInFirstDwIdeal.τ).loc Cert.KernelCmInFirstDwIdeal.main_arg1)) →
    ∃ (v0 : (c : Dev Cert.KernelCmInFirstDwIdeal.nD) → Buf (Elt Ideal) ((c.tc : Thread Cert.KernelCmInFirstDwIdeal.nD Cert.KernelCmInFirstDwIdeal.τ).loc Cert.KernelCmInFirstDwIdeal.main_v0)),
      θ_run (Cert.KernelCmInFirstDwIdeal.defs (F := Ideal)) (onTc (τ := Cert.KernelCmInFirstDwIdeal.τ) (Cert.KernelCmInFirstDwIdeal.main (F := Ideal))) ⟨m, fun _ => 0, g⟩ (fun r => ∀ c : Dev Cert.KernelCmInFirstDwIdeal.nD,
          r.2.mem ((c.tc : Thread Cert.KernelCmInFirstDwIdeal.nD Cert.KernelCmInFirstDwIdeal.τ).loc Cert.KernelCmInFirstDwIdeal.main_v0) = v0 c
          ∧ r.2.mem ((c.tc : Thread Cert.KernelCmInFirstDwIdeal.nD Cert.KernelCmInFirstDwIdeal.τ).loc Cert.KernelCmInFirstDwIdeal.main_arg0) = m ((c.tc : Thread Cert.KernelCmInFirstDwIdeal.nD Cert.KernelCmInFirstDwIdeal.τ).loc Cert.KernelCmInFirstDwIdeal.main_arg0)
          ∧ r.2.mem ((c.tc : Thread Cert.KernelCmInFirstDwIdeal.nD Cert.KernelCmInFirstDwIdeal.τ).loc Cert.KernelCmInFirstDwIdeal.main_arg1) = m ((c.tc : Thread Cert.KernelCmInFirstDwIdeal.nD Cert.KernelCmInFirstDwIdeal.τ).loc Cert.KernelCmInFirstDwIdeal.main_arg1))
      ∧ θ_run (Cert.ReferenceCmInFirstDwIdeal.defs (F := Ideal)) (onTc (τ := Cert.ReferenceCmInFirstDwIdeal.τ) (Cert.ReferenceCmInFirstDwIdeal.main (F := Ideal))) ⟨m', fun _ => 0, g'⟩ (fun r => ∀ c : Dev Cert.ReferenceCmInFirstDwIdeal.nD,
          r.2.mem ((c.tc : Thread Cert.ReferenceCmInFirstDwIdeal.nD Cert.ReferenceCmInFirstDwIdeal.τ).loc Cert.ReferenceCmInFirstDwIdeal.main_v6) = v0 c
          ∧ r.2.mem ((c.tc : Thread Cert.ReferenceCmInFirstDwIdeal.nD Cert.ReferenceCmInFirstDwIdeal.τ).loc Cert.ReferenceCmInFirstDwIdeal.main_arg0) = m' ((c.tc : Thread Cert.ReferenceCmInFirstDwIdeal.nD Cert.ReferenceCmInFirstDwIdeal.τ).loc Cert.ReferenceCmInFirstDwIdeal.main_arg0)
          ∧ r.2.mem ((c.tc : Thread Cert.ReferenceCmInFirstDwIdeal.nD Cert.ReferenceCmInFirstDwIdeal.τ).loc Cert.ReferenceCmInFirstDwIdeal.main_arg1) = m' ((c.tc : Thread Cert.ReferenceCmInFirstDwIdeal.nD Cert.ReferenceCmInFirstDwIdeal.τ).loc Cert.ReferenceCmInFirstDwIdeal.main_arg1))

def preserves_KernelCmInFirstDx_KernelCmInFirstDxIdeal : Prop :=
  True

def algebraic_KernelCmInFirstDxIdeal_ReferenceCmInFirstDxIdeal [hKernelCmInFirstDxIdeal : Cert.KernelCmInFirstDxIdeal.Facts] [hReferenceCmInFirstDxIdeal : Cert.ReferenceCmInFirstDxIdeal.Facts] : Prop :=
  ∀ (m : (ℓ : Loc Cert.KernelCmInFirstDxIdeal.nD Cert.KernelCmInFirstDxIdeal.τ Cert.KernelCmInFirstDxIdeal.sig) → Buf (Elt Ideal) ℓ) (g : Dev Cert.KernelCmInFirstDxIdeal.nD → PrngReg)
    (m' : (ℓ : Loc Cert.ReferenceCmInFirstDxIdeal.nD Cert.ReferenceCmInFirstDxIdeal.τ Cert.ReferenceCmInFirstDxIdeal.sig) → Buf (Elt Ideal) ℓ) (g' : Dev Cert.ReferenceCmInFirstDxIdeal.nD → PrngReg), Pre_KernelCmInFirstDxIdeal m →
    (∀ c : Dev Cert.KernelCmInFirstDxIdeal.nD,
      m' ((c.tc : Thread Cert.ReferenceCmInFirstDxIdeal.nD Cert.ReferenceCmInFirstDxIdeal.τ).loc Cert.ReferenceCmInFirstDxIdeal.main_arg0) = m ((c.tc : Thread Cert.KernelCmInFirstDxIdeal.nD Cert.KernelCmInFirstDxIdeal.τ).loc Cert.KernelCmInFirstDxIdeal.main_arg0)
      ∧ m' ((c.tc : Thread Cert.ReferenceCmInFirstDxIdeal.nD Cert.ReferenceCmInFirstDxIdeal.τ).loc Cert.ReferenceCmInFirstDxIdeal.main_arg1) = m ((c.tc : Thread Cert.KernelCmInFirstDxIdeal.nD Cert.KernelCmInFirstDxIdeal.τ).loc Cert.KernelCmInFirstDxIdeal.main_arg1)) →
    ∃ (v0 : (c : Dev Cert.KernelCmInFirstDxIdeal.nD) → Buf (Elt Ideal) ((c.tc : Thread Cert.KernelCmInFirstDxIdeal.nD Cert.KernelCmInFirstDxIdeal.τ).loc Cert.KernelCmInFirstDxIdeal.main_v0)),
      θ_run (Cert.KernelCmInFirstDxIdeal.defs (F := Ideal)) (onTc (τ := Cert.KernelCmInFirstDxIdeal.τ) (Cert.KernelCmInFirstDxIdeal.main (F := Ideal))) ⟨m, fun _ => 0, g⟩ (fun r => ∀ c : Dev Cert.KernelCmInFirstDxIdeal.nD,
          r.2.mem ((c.tc : Thread Cert.KernelCmInFirstDxIdeal.nD Cert.KernelCmInFirstDxIdeal.τ).loc Cert.KernelCmInFirstDxIdeal.main_v0) = v0 c
          ∧ r.2.mem ((c.tc : Thread Cert.KernelCmInFirstDxIdeal.nD Cert.KernelCmInFirstDxIdeal.τ).loc Cert.KernelCmInFirstDxIdeal.main_arg0) = m ((c.tc : Thread Cert.KernelCmInFirstDxIdeal.nD Cert.KernelCmInFirstDxIdeal.τ).loc Cert.KernelCmInFirstDxIdeal.main_arg0)
          ∧ r.2.mem ((c.tc : Thread Cert.KernelCmInFirstDxIdeal.nD Cert.KernelCmInFirstDxIdeal.τ).loc Cert.KernelCmInFirstDxIdeal.main_arg1) = m ((c.tc : Thread Cert.KernelCmInFirstDxIdeal.nD Cert.KernelCmInFirstDxIdeal.τ).loc Cert.KernelCmInFirstDxIdeal.main_arg1))
      ∧ θ_run (Cert.ReferenceCmInFirstDxIdeal.defs (F := Ideal)) (onTc (τ := Cert.ReferenceCmInFirstDxIdeal.τ) (Cert.ReferenceCmInFirstDxIdeal.main (F := Ideal))) ⟨m', fun _ => 0, g'⟩ (fun r => ∀ c : Dev Cert.ReferenceCmInFirstDxIdeal.nD,
          r.2.mem ((c.tc : Thread Cert.ReferenceCmInFirstDxIdeal.nD Cert.ReferenceCmInFirstDxIdeal.τ).loc Cert.ReferenceCmInFirstDxIdeal.main_v4) = v0 c
          ∧ r.2.mem ((c.tc : Thread Cert.ReferenceCmInFirstDxIdeal.nD Cert.ReferenceCmInFirstDxIdeal.τ).loc Cert.ReferenceCmInFirstDxIdeal.main_arg0) = m' ((c.tc : Thread Cert.ReferenceCmInFirstDxIdeal.nD Cert.ReferenceCmInFirstDxIdeal.τ).loc Cert.ReferenceCmInFirstDxIdeal.main_arg0)
          ∧ r.2.mem ((c.tc : Thread Cert.ReferenceCmInFirstDxIdeal.nD Cert.ReferenceCmInFirstDxIdeal.τ).loc Cert.ReferenceCmInFirstDxIdeal.main_arg1) = m' ((c.tc : Thread Cert.ReferenceCmInFirstDxIdeal.nD Cert.ReferenceCmInFirstDxIdeal.τ).loc Cert.ReferenceCmInFirstDxIdeal.main_arg1))

def preserves_KernelCmOutFirst_KernelCmOutFirstIdeal : Prop :=
  True

def algebraic_KernelCmOutFirstIdeal_ReferenceCmOutFirstIdeal [hKernelCmOutFirstIdeal : Cert.KernelCmOutFirstIdeal.Facts] [hReferenceCmOutFirstIdeal : Cert.ReferenceCmOutFirstIdeal.Facts] : Prop :=
  ∀ (m : (ℓ : Loc Cert.KernelCmOutFirstIdeal.nD Cert.KernelCmOutFirstIdeal.τ Cert.KernelCmOutFirstIdeal.sig) → Buf (Elt Ideal) ℓ) (g : Dev Cert.KernelCmOutFirstIdeal.nD → PrngReg)
    (m' : (ℓ : Loc Cert.ReferenceCmOutFirstIdeal.nD Cert.ReferenceCmOutFirstIdeal.τ Cert.ReferenceCmOutFirstIdeal.sig) → Buf (Elt Ideal) ℓ) (g' : Dev Cert.ReferenceCmOutFirstIdeal.nD → PrngReg), Pre_KernelCmOutFirstIdeal m →
    (∀ c : Dev Cert.KernelCmOutFirstIdeal.nD,
      m' ((c.tc : Thread Cert.ReferenceCmOutFirstIdeal.nD Cert.ReferenceCmOutFirstIdeal.τ).loc Cert.ReferenceCmOutFirstIdeal.main_arg0) = m ((c.tc : Thread Cert.KernelCmOutFirstIdeal.nD Cert.KernelCmOutFirstIdeal.τ).loc Cert.KernelCmOutFirstIdeal.main_arg0)
      ∧ m' ((c.tc : Thread Cert.ReferenceCmOutFirstIdeal.nD Cert.ReferenceCmOutFirstIdeal.τ).loc Cert.ReferenceCmOutFirstIdeal.main_arg1) = m ((c.tc : Thread Cert.KernelCmOutFirstIdeal.nD Cert.KernelCmOutFirstIdeal.τ).loc Cert.KernelCmOutFirstIdeal.main_arg1)) →
    ∃ (v0 : (c : Dev Cert.KernelCmOutFirstIdeal.nD) → Buf (Elt Ideal) ((c.tc : Thread Cert.KernelCmOutFirstIdeal.nD Cert.KernelCmOutFirstIdeal.τ).loc Cert.KernelCmOutFirstIdeal.main_v0)),
      θ_run (Cert.KernelCmOutFirstIdeal.defs (F := Ideal)) (onTc (τ := Cert.KernelCmOutFirstIdeal.τ) (Cert.KernelCmOutFirstIdeal.main (F := Ideal))) ⟨m, fun _ => 0, g⟩ (fun r => ∀ c : Dev Cert.KernelCmOutFirstIdeal.nD,
          r.2.mem ((c.tc : Thread Cert.KernelCmOutFirstIdeal.nD Cert.KernelCmOutFirstIdeal.τ).loc Cert.KernelCmOutFirstIdeal.main_v0) = v0 c
          ∧ r.2.mem ((c.tc : Thread Cert.KernelCmOutFirstIdeal.nD Cert.KernelCmOutFirstIdeal.τ).loc Cert.KernelCmOutFirstIdeal.main_arg0) = m ((c.tc : Thread Cert.KernelCmOutFirstIdeal.nD Cert.KernelCmOutFirstIdeal.τ).loc Cert.KernelCmOutFirstIdeal.main_arg0)
          ∧ r.2.mem ((c.tc : Thread Cert.KernelCmOutFirstIdeal.nD Cert.KernelCmOutFirstIdeal.τ).loc Cert.KernelCmOutFirstIdeal.main_arg1) = m ((c.tc : Thread Cert.KernelCmOutFirstIdeal.nD Cert.KernelCmOutFirstIdeal.τ).loc Cert.KernelCmOutFirstIdeal.main_arg1))
      ∧ θ_run (Cert.ReferenceCmOutFirstIdeal.defs (F := Ideal)) (onTc (τ := Cert.ReferenceCmOutFirstIdeal.τ) (Cert.ReferenceCmOutFirstIdeal.main (F := Ideal))) ⟨m', fun _ => 0, g'⟩ (fun r => ∀ c : Dev Cert.ReferenceCmOutFirstIdeal.nD,
          r.2.mem ((c.tc : Thread Cert.ReferenceCmOutFirstIdeal.nD Cert.ReferenceCmOutFirstIdeal.τ).loc Cert.ReferenceCmOutFirstIdeal.main_v2) = v0 c
          ∧ r.2.mem ((c.tc : Thread Cert.ReferenceCmOutFirstIdeal.nD Cert.ReferenceCmOutFirstIdeal.τ).loc Cert.ReferenceCmOutFirstIdeal.main_arg0) = m' ((c.tc : Thread Cert.ReferenceCmOutFirstIdeal.nD Cert.ReferenceCmOutFirstIdeal.τ).loc Cert.ReferenceCmOutFirstIdeal.main_arg0)
          ∧ r.2.mem ((c.tc : Thread Cert.ReferenceCmOutFirstIdeal.nD Cert.ReferenceCmOutFirstIdeal.τ).loc Cert.ReferenceCmOutFirstIdeal.main_arg1) = m' ((c.tc : Thread Cert.ReferenceCmOutFirstIdeal.nD Cert.ReferenceCmOutFirstIdeal.τ).loc Cert.ReferenceCmOutFirstIdeal.main_arg1))

def preserves_KernelCmOutFirstDw_KernelCmOutFirstDwIdeal : Prop :=
  True

def algebraic_KernelCmOutFirstDwIdeal_ReferenceCmOutFirstDwIdeal [hKernelCmOutFirstDwIdeal : Cert.KernelCmOutFirstDwIdeal.Facts] [hReferenceCmOutFirstDwIdeal : Cert.ReferenceCmOutFirstDwIdeal.Facts] : Prop :=
  ∀ (m : (ℓ : Loc Cert.KernelCmOutFirstDwIdeal.nD Cert.KernelCmOutFirstDwIdeal.τ Cert.KernelCmOutFirstDwIdeal.sig) → Buf (Elt Ideal) ℓ) (g : Dev Cert.KernelCmOutFirstDwIdeal.nD → PrngReg)
    (m' : (ℓ : Loc Cert.ReferenceCmOutFirstDwIdeal.nD Cert.ReferenceCmOutFirstDwIdeal.τ Cert.ReferenceCmOutFirstDwIdeal.sig) → Buf (Elt Ideal) ℓ) (g' : Dev Cert.ReferenceCmOutFirstDwIdeal.nD → PrngReg), Pre_KernelCmOutFirstDwIdeal m →
    (∀ c : Dev Cert.KernelCmOutFirstDwIdeal.nD,
      m' ((c.tc : Thread Cert.ReferenceCmOutFirstDwIdeal.nD Cert.ReferenceCmOutFirstDwIdeal.τ).loc Cert.ReferenceCmOutFirstDwIdeal.main_arg0) = m ((c.tc : Thread Cert.KernelCmOutFirstDwIdeal.nD Cert.KernelCmOutFirstDwIdeal.τ).loc Cert.KernelCmOutFirstDwIdeal.main_arg0)
      ∧ m' ((c.tc : Thread Cert.ReferenceCmOutFirstDwIdeal.nD Cert.ReferenceCmOutFirstDwIdeal.τ).loc Cert.ReferenceCmOutFirstDwIdeal.main_arg1) = m ((c.tc : Thread Cert.KernelCmOutFirstDwIdeal.nD Cert.KernelCmOutFirstDwIdeal.τ).loc Cert.KernelCmOutFirstDwIdeal.main_arg1)) →
    ∃ (v0 : (c : Dev Cert.KernelCmOutFirstDwIdeal.nD) → Buf (Elt Ideal) ((c.tc : Thread Cert.KernelCmOutFirstDwIdeal.nD Cert.KernelCmOutFirstDwIdeal.τ).loc Cert.KernelCmOutFirstDwIdeal.main_v0)),
      θ_run (Cert.KernelCmOutFirstDwIdeal.defs (F := Ideal)) (onTc (τ := Cert.KernelCmOutFirstDwIdeal.τ) (Cert.KernelCmOutFirstDwIdeal.main (F := Ideal))) ⟨m, fun _ => 0, g⟩ (fun r => ∀ c : Dev Cert.KernelCmOutFirstDwIdeal.nD,
          r.2.mem ((c.tc : Thread Cert.KernelCmOutFirstDwIdeal.nD Cert.KernelCmOutFirstDwIdeal.τ).loc Cert.KernelCmOutFirstDwIdeal.main_v0) = v0 c
          ∧ r.2.mem ((c.tc : Thread Cert.KernelCmOutFirstDwIdeal.nD Cert.KernelCmOutFirstDwIdeal.τ).loc Cert.KernelCmOutFirstDwIdeal.main_arg0) = m ((c.tc : Thread Cert.KernelCmOutFirstDwIdeal.nD Cert.KernelCmOutFirstDwIdeal.τ).loc Cert.KernelCmOutFirstDwIdeal.main_arg0)
          ∧ r.2.mem ((c.tc : Thread Cert.KernelCmOutFirstDwIdeal.nD Cert.KernelCmOutFirstDwIdeal.τ).loc Cert.KernelCmOutFirstDwIdeal.main_arg1) = m ((c.tc : Thread Cert.KernelCmOutFirstDwIdeal.nD Cert.KernelCmOutFirstDwIdeal.τ).loc Cert.KernelCmOutFirstDwIdeal.main_arg1))
      ∧ θ_run (Cert.ReferenceCmOutFirstDwIdeal.defs (F := Ideal)) (onTc (τ := Cert.ReferenceCmOutFirstDwIdeal.τ) (Cert.ReferenceCmOutFirstDwIdeal.main (F := Ideal))) ⟨m', fun _ => 0, g'⟩ (fun r => ∀ c : Dev Cert.ReferenceCmOutFirstDwIdeal.nD,
          r.2.mem ((c.tc : Thread Cert.ReferenceCmOutFirstDwIdeal.nD Cert.ReferenceCmOutFirstDwIdeal.τ).loc Cert.ReferenceCmOutFirstDwIdeal.main_v6) = v0 c
          ∧ r.2.mem ((c.tc : Thread Cert.ReferenceCmOutFirstDwIdeal.nD Cert.ReferenceCmOutFirstDwIdeal.τ).loc Cert.ReferenceCmOutFirstDwIdeal.main_arg0) = m' ((c.tc : Thread Cert.ReferenceCmOutFirstDwIdeal.nD Cert.ReferenceCmOutFirstDwIdeal.τ).loc Cert.ReferenceCmOutFirstDwIdeal.main_arg0)
          ∧ r.2.mem ((c.tc : Thread Cert.ReferenceCmOutFirstDwIdeal.nD Cert.ReferenceCmOutFirstDwIdeal.τ).loc Cert.ReferenceCmOutFirstDwIdeal.main_arg1) = m' ((c.tc : Thread Cert.ReferenceCmOutFirstDwIdeal.nD Cert.ReferenceCmOutFirstDwIdeal.τ).loc Cert.ReferenceCmOutFirstDwIdeal.main_arg1))

def preserves_KernelCmOutFirstDx_KernelCmOutFirstDxIdeal : Prop :=
  True

def algebraic_KernelCmOutFirstDxIdeal_ReferenceCmOutFirstDxIdeal [hKernelCmOutFirstDxIdeal : Cert.KernelCmOutFirstDxIdeal.Facts] [hReferenceCmOutFirstDxIdeal : Cert.ReferenceCmOutFirstDxIdeal.Facts] : Prop :=
  ∀ (m : (ℓ : Loc Cert.KernelCmOutFirstDxIdeal.nD Cert.KernelCmOutFirstDxIdeal.τ Cert.KernelCmOutFirstDxIdeal.sig) → Buf (Elt Ideal) ℓ) (g : Dev Cert.KernelCmOutFirstDxIdeal.nD → PrngReg)
    (m' : (ℓ : Loc Cert.ReferenceCmOutFirstDxIdeal.nD Cert.ReferenceCmOutFirstDxIdeal.τ Cert.ReferenceCmOutFirstDxIdeal.sig) → Buf (Elt Ideal) ℓ) (g' : Dev Cert.ReferenceCmOutFirstDxIdeal.nD → PrngReg), Pre_KernelCmOutFirstDxIdeal m →
    (∀ c : Dev Cert.KernelCmOutFirstDxIdeal.nD,
      m' ((c.tc : Thread Cert.ReferenceCmOutFirstDxIdeal.nD Cert.ReferenceCmOutFirstDxIdeal.τ).loc Cert.ReferenceCmOutFirstDxIdeal.main_arg0) = m ((c.tc : Thread Cert.KernelCmOutFirstDxIdeal.nD Cert.KernelCmOutFirstDxIdeal.τ).loc Cert.KernelCmOutFirstDxIdeal.main_arg0)
      ∧ m' ((c.tc : Thread Cert.ReferenceCmOutFirstDxIdeal.nD Cert.ReferenceCmOutFirstDxIdeal.τ).loc Cert.ReferenceCmOutFirstDxIdeal.main_arg1) = m ((c.tc : Thread Cert.KernelCmOutFirstDxIdeal.nD Cert.KernelCmOutFirstDxIdeal.τ).loc Cert.KernelCmOutFirstDxIdeal.main_arg1)) →
    ∃ (v0 : (c : Dev Cert.KernelCmOutFirstDxIdeal.nD) → Buf (Elt Ideal) ((c.tc : Thread Cert.KernelCmOutFirstDxIdeal.nD Cert.KernelCmOutFirstDxIdeal.τ).loc Cert.KernelCmOutFirstDxIdeal.main_v0)),
      θ_run (Cert.KernelCmOutFirstDxIdeal.defs (F := Ideal)) (onTc (τ := Cert.KernelCmOutFirstDxIdeal.τ) (Cert.KernelCmOutFirstDxIdeal.main (F := Ideal))) ⟨m, fun _ => 0, g⟩ (fun r => ∀ c : Dev Cert.KernelCmOutFirstDxIdeal.nD,
          r.2.mem ((c.tc : Thread Cert.KernelCmOutFirstDxIdeal.nD Cert.KernelCmOutFirstDxIdeal.τ).loc Cert.KernelCmOutFirstDxIdeal.main_v0) = v0 c
          ∧ r.2.mem ((c.tc : Thread Cert.KernelCmOutFirstDxIdeal.nD Cert.KernelCmOutFirstDxIdeal.τ).loc Cert.KernelCmOutFirstDxIdeal.main_arg0) = m ((c.tc : Thread Cert.KernelCmOutFirstDxIdeal.nD Cert.KernelCmOutFirstDxIdeal.τ).loc Cert.KernelCmOutFirstDxIdeal.main_arg0)
          ∧ r.2.mem ((c.tc : Thread Cert.KernelCmOutFirstDxIdeal.nD Cert.KernelCmOutFirstDxIdeal.τ).loc Cert.KernelCmOutFirstDxIdeal.main_arg1) = m ((c.tc : Thread Cert.KernelCmOutFirstDxIdeal.nD Cert.KernelCmOutFirstDxIdeal.τ).loc Cert.KernelCmOutFirstDxIdeal.main_arg1))
      ∧ θ_run (Cert.ReferenceCmOutFirstDxIdeal.defs (F := Ideal)) (onTc (τ := Cert.ReferenceCmOutFirstDxIdeal.τ) (Cert.ReferenceCmOutFirstDxIdeal.main (F := Ideal))) ⟨m', fun _ => 0, g'⟩ (fun r => ∀ c : Dev Cert.ReferenceCmOutFirstDxIdeal.nD,
          r.2.mem ((c.tc : Thread Cert.ReferenceCmOutFirstDxIdeal.nD Cert.ReferenceCmOutFirstDxIdeal.τ).loc Cert.ReferenceCmOutFirstDxIdeal.main_v4) = v0 c
          ∧ r.2.mem ((c.tc : Thread Cert.ReferenceCmOutFirstDxIdeal.nD Cert.ReferenceCmOutFirstDxIdeal.τ).loc Cert.ReferenceCmOutFirstDxIdeal.main_arg0) = m' ((c.tc : Thread Cert.ReferenceCmOutFirstDxIdeal.nD Cert.ReferenceCmOutFirstDxIdeal.τ).loc Cert.ReferenceCmOutFirstDxIdeal.main_arg0)
          ∧ r.2.mem ((c.tc : Thread Cert.ReferenceCmOutFirstDxIdeal.nD Cert.ReferenceCmOutFirstDxIdeal.τ).loc Cert.ReferenceCmOutFirstDxIdeal.main_arg1) = m' ((c.tc : Thread Cert.ReferenceCmOutFirstDxIdeal.nD Cert.ReferenceCmOutFirstDxIdeal.τ).loc Cert.ReferenceCmOutFirstDxIdeal.main_arg1))

def preserves_KernelQkv_KernelQkvIdeal : Prop :=
  True

def algebraic_KernelQkvIdeal_ReferenceQkvIdeal [hKernelQkvIdeal : Cert.KernelQkvIdeal.Facts] [hReferenceQkvIdeal : Cert.ReferenceQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg)
    (m' : (ℓ : Loc Cert.ReferenceQkvIdeal.nD Cert.ReferenceQkvIdeal.τ Cert.ReferenceQkvIdeal.sig) → Buf (Elt Ideal) ℓ) (g' : Dev Cert.ReferenceQkvIdeal.nD → PrngReg), Pre_KernelQkvIdeal m →
    (∀ c : Dev Cert.KernelQkvIdeal.nD,
      m' ((c.tc : Thread Cert.ReferenceQkvIdeal.nD Cert.ReferenceQkvIdeal.τ).loc Cert.ReferenceQkvIdeal.main_arg0) = m ((c.tc : Thread Cert.KernelQkvIdeal.nD Cert.KernelQkvIdeal.τ).loc Cert.KernelQkvIdeal.main_arg0)
      ∧ m' ((c.tc : Thread Cert.ReferenceQkvIdeal.nD Cert.ReferenceQkvIdeal.τ).loc Cert.ReferenceQkvIdeal.main_arg1) = m ((c.tc : Thread Cert.KernelQkvIdeal.nD Cert.KernelQkvIdeal.τ).loc Cert.KernelQkvIdeal.main_arg1)) →
    ∃ (v0 : (c : Dev Cert.KernelQkvIdeal.nD) → Buf (Elt Ideal) ((c.tc : Thread Cert.KernelQkvIdeal.nD Cert.KernelQkvIdeal.τ).loc Cert.KernelQkvIdeal.main_v0)),
      θ_run (Cert.KernelQkvIdeal.defs (F := Ideal)) (onTc (τ := Cert.KernelQkvIdeal.τ) (Cert.KernelQkvIdeal.main (F := Ideal))) ⟨m, fun _ => 0, g⟩ (fun r => ∀ c : Dev Cert.KernelQkvIdeal.nD,
          r.2.mem ((c.tc : Thread Cert.KernelQkvIdeal.nD Cert.KernelQkvIdeal.τ).loc Cert.KernelQkvIdeal.main_v0) = v0 c
          ∧ r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
          ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1))
      ∧ θ_run (Cert.ReferenceQkvIdeal.defs (F := Ideal)) (onTc (τ := Cert.ReferenceQkvIdeal.τ) (Cert.ReferenceQkvIdeal.main (F := Ideal))) ⟨m', fun _ => 0, g'⟩ (fun r => ∀ c : Dev Cert.ReferenceQkvIdeal.nD,
          r.2.mem ((c.tc : Thread Cert.ReferenceQkvIdeal.nD Cert.ReferenceQkvIdeal.τ).loc Cert.ReferenceQkvIdeal.main_v2) = v0 c
          ∧ r.2.mem ((c.tc : Thread Cert.ReferenceQkvIdeal.nD Cert.ReferenceQkvIdeal.τ).loc Cert.ReferenceQkvIdeal.main_arg0) = m' ((c.tc : Thread Cert.ReferenceQkvIdeal.nD Cert.ReferenceQkvIdeal.τ).loc Cert.ReferenceQkvIdeal.main_arg0)
          ∧ r.2.mem ((c.tc : Thread Cert.ReferenceQkvIdeal.nD Cert.ReferenceQkvIdeal.τ).loc Cert.ReferenceQkvIdeal.main_arg1) = m' ((c.tc : Thread Cert.ReferenceQkvIdeal.nD Cert.ReferenceQkvIdeal.τ).loc Cert.ReferenceQkvIdeal.main_arg1))

def preserves_KernelQkvDw_KernelQkvDwIdeal : Prop :=
  True

def algebraic_KernelQkvDwIdeal_ReferenceQkvDwIdeal [hKernelQkvDwIdeal : Cert.KernelQkvDwIdeal.Facts] [hReferenceQkvDwIdeal : Cert.ReferenceQkvDwIdeal.Facts] : Prop :=
  ∀ (m : (ℓ : Loc Cert.KernelQkvDwIdeal.nD Cert.KernelQkvDwIdeal.τ Cert.KernelQkvDwIdeal.sig) → Buf (Elt Ideal) ℓ) (g : Dev Cert.KernelQkvDwIdeal.nD → PrngReg)
    (m' : (ℓ : Loc Cert.ReferenceQkvDwIdeal.nD Cert.ReferenceQkvDwIdeal.τ Cert.ReferenceQkvDwIdeal.sig) → Buf (Elt Ideal) ℓ) (g' : Dev Cert.ReferenceQkvDwIdeal.nD → PrngReg), Pre_KernelQkvDwIdeal m →
    (∀ c : Dev Cert.KernelQkvDwIdeal.nD,
      m' ((c.tc : Thread Cert.ReferenceQkvDwIdeal.nD Cert.ReferenceQkvDwIdeal.τ).loc Cert.ReferenceQkvDwIdeal.main_arg0) = m ((c.tc : Thread Cert.KernelQkvDwIdeal.nD Cert.KernelQkvDwIdeal.τ).loc Cert.KernelQkvDwIdeal.main_arg0)
      ∧ m' ((c.tc : Thread Cert.ReferenceQkvDwIdeal.nD Cert.ReferenceQkvDwIdeal.τ).loc Cert.ReferenceQkvDwIdeal.main_arg1) = m ((c.tc : Thread Cert.KernelQkvDwIdeal.nD Cert.KernelQkvDwIdeal.τ).loc Cert.KernelQkvDwIdeal.main_arg1)) →
    ∃ (v0 : (c : Dev Cert.KernelQkvDwIdeal.nD) → Buf (Elt Ideal) ((c.tc : Thread Cert.KernelQkvDwIdeal.nD Cert.KernelQkvDwIdeal.τ).loc Cert.KernelQkvDwIdeal.main_v0)),
      θ_run (Cert.KernelQkvDwIdeal.defs (F := Ideal)) (onTc (τ := Cert.KernelQkvDwIdeal.τ) (Cert.KernelQkvDwIdeal.main (F := Ideal))) ⟨m, fun _ => 0, g⟩ (fun r => ∀ c : Dev Cert.KernelQkvDwIdeal.nD,
          r.2.mem ((c.tc : Thread Cert.KernelQkvDwIdeal.nD Cert.KernelQkvDwIdeal.τ).loc Cert.KernelQkvDwIdeal.main_v0) = v0 c
          ∧ r.2.mem ((c.tc : Thread Cert.KernelQkvDwIdeal.nD Cert.KernelQkvDwIdeal.τ).loc Cert.KernelQkvDwIdeal.main_arg0) = m ((c.tc : Thread Cert.KernelQkvDwIdeal.nD Cert.KernelQkvDwIdeal.τ).loc Cert.KernelQkvDwIdeal.main_arg0)
          ∧ r.2.mem ((c.tc : Thread Cert.KernelQkvDwIdeal.nD Cert.KernelQkvDwIdeal.τ).loc Cert.KernelQkvDwIdeal.main_arg1) = m ((c.tc : Thread Cert.KernelQkvDwIdeal.nD Cert.KernelQkvDwIdeal.τ).loc Cert.KernelQkvDwIdeal.main_arg1))
      ∧ θ_run (Cert.ReferenceQkvDwIdeal.defs (F := Ideal)) (onTc (τ := Cert.ReferenceQkvDwIdeal.τ) (Cert.ReferenceQkvDwIdeal.main (F := Ideal))) ⟨m', fun _ => 0, g'⟩ (fun r => ∀ c : Dev Cert.ReferenceQkvDwIdeal.nD,
          r.2.mem ((c.tc : Thread Cert.ReferenceQkvDwIdeal.nD Cert.ReferenceQkvDwIdeal.τ).loc Cert.ReferenceQkvDwIdeal.main_v6) = v0 c
          ∧ r.2.mem ((c.tc : Thread Cert.ReferenceQkvDwIdeal.nD Cert.ReferenceQkvDwIdeal.τ).loc Cert.ReferenceQkvDwIdeal.main_arg0) = m' ((c.tc : Thread Cert.ReferenceQkvDwIdeal.nD Cert.ReferenceQkvDwIdeal.τ).loc Cert.ReferenceQkvDwIdeal.main_arg0)
          ∧ r.2.mem ((c.tc : Thread Cert.ReferenceQkvDwIdeal.nD Cert.ReferenceQkvDwIdeal.τ).loc Cert.ReferenceQkvDwIdeal.main_arg1) = m' ((c.tc : Thread Cert.ReferenceQkvDwIdeal.nD Cert.ReferenceQkvDwIdeal.τ).loc Cert.ReferenceQkvDwIdeal.main_arg1))

def preserves_KernelQkvDx_KernelQkvDxIdeal : Prop :=
  True

def algebraic_KernelQkvDxIdeal_ReferenceQkvDxIdeal [hKernelQkvDxIdeal : Cert.KernelQkvDxIdeal.Facts] [hReferenceQkvDxIdeal : Cert.ReferenceQkvDxIdeal.Facts] : Prop :=
  ∀ (m : (ℓ : Loc Cert.KernelQkvDxIdeal.nD Cert.KernelQkvDxIdeal.τ Cert.KernelQkvDxIdeal.sig) → Buf (Elt Ideal) ℓ) (g : Dev Cert.KernelQkvDxIdeal.nD → PrngReg)
    (m' : (ℓ : Loc Cert.ReferenceQkvDxIdeal.nD Cert.ReferenceQkvDxIdeal.τ Cert.ReferenceQkvDxIdeal.sig) → Buf (Elt Ideal) ℓ) (g' : Dev Cert.ReferenceQkvDxIdeal.nD → PrngReg), Pre_KernelQkvDxIdeal m →
    (∀ c : Dev Cert.KernelQkvDxIdeal.nD,
      m' ((c.tc : Thread Cert.ReferenceQkvDxIdeal.nD Cert.ReferenceQkvDxIdeal.τ).loc Cert.ReferenceQkvDxIdeal.main_arg0) = m ((c.tc : Thread Cert.KernelQkvDxIdeal.nD Cert.KernelQkvDxIdeal.τ).loc Cert.KernelQkvDxIdeal.main_arg0)
      ∧ m' ((c.tc : Thread Cert.ReferenceQkvDxIdeal.nD Cert.ReferenceQkvDxIdeal.τ).loc Cert.ReferenceQkvDxIdeal.main_arg1) = m ((c.tc : Thread Cert.KernelQkvDxIdeal.nD Cert.KernelQkvDxIdeal.τ).loc Cert.KernelQkvDxIdeal.main_arg1)) →
    ∃ (v0 : (c : Dev Cert.KernelQkvDxIdeal.nD) → Buf (Elt Ideal) ((c.tc : Thread Cert.KernelQkvDxIdeal.nD Cert.KernelQkvDxIdeal.τ).loc Cert.KernelQkvDxIdeal.main_v0)),
      θ_run (Cert.KernelQkvDxIdeal.defs (F := Ideal)) (onTc (τ := Cert.KernelQkvDxIdeal.τ) (Cert.KernelQkvDxIdeal.main (F := Ideal))) ⟨m, fun _ => 0, g⟩ (fun r => ∀ c : Dev Cert.KernelQkvDxIdeal.nD,
          r.2.mem ((c.tc : Thread Cert.KernelQkvDxIdeal.nD Cert.KernelQkvDxIdeal.τ).loc Cert.KernelQkvDxIdeal.main_v0) = v0 c
          ∧ r.2.mem ((c.tc : Thread Cert.KernelQkvDxIdeal.nD Cert.KernelQkvDxIdeal.τ).loc Cert.KernelQkvDxIdeal.main_arg0) = m ((c.tc : Thread Cert.KernelQkvDxIdeal.nD Cert.KernelQkvDxIdeal.τ).loc Cert.KernelQkvDxIdeal.main_arg0)
          ∧ r.2.mem ((c.tc : Thread Cert.KernelQkvDxIdeal.nD Cert.KernelQkvDxIdeal.τ).loc Cert.KernelQkvDxIdeal.main_arg1) = m ((c.tc : Thread Cert.KernelQkvDxIdeal.nD Cert.KernelQkvDxIdeal.τ).loc Cert.KernelQkvDxIdeal.main_arg1))
      ∧ θ_run (Cert.ReferenceQkvDxIdeal.defs (F := Ideal)) (onTc (τ := Cert.ReferenceQkvDxIdeal.τ) (Cert.ReferenceQkvDxIdeal.main (F := Ideal))) ⟨m', fun _ => 0, g'⟩ (fun r => ∀ c : Dev Cert.ReferenceQkvDxIdeal.nD,
          r.2.mem ((c.tc : Thread Cert.ReferenceQkvDxIdeal.nD Cert.ReferenceQkvDxIdeal.τ).loc Cert.ReferenceQkvDxIdeal.main_v4) = v0 c
          ∧ r.2.mem ((c.tc : Thread Cert.ReferenceQkvDxIdeal.nD Cert.ReferenceQkvDxIdeal.τ).loc Cert.ReferenceQkvDxIdeal.main_arg0) = m' ((c.tc : Thread Cert.ReferenceQkvDxIdeal.nD Cert.ReferenceQkvDxIdeal.τ).loc Cert.ReferenceQkvDxIdeal.main_arg0)
          ∧ r.2.mem ((c.tc : Thread Cert.ReferenceQkvDxIdeal.nD Cert.ReferenceQkvDxIdeal.τ).loc Cert.ReferenceQkvDxIdeal.main_arg1) = m' ((c.tc : Thread Cert.ReferenceQkvDxIdeal.nD Cert.ReferenceQkvDxIdeal.τ).loc Cert.ReferenceQkvDxIdeal.main_arg1))

def preserves_KernelGmIn_KernelGmInIdeal : Prop :=
  True

def algebraic_KernelGmInIdeal_ReferenceGmInIdeal [hKernelGmInIdeal : Cert.KernelGmInIdeal.Facts] [hReferenceGmInIdeal : Cert.ReferenceGmInIdeal.Facts] : Prop :=
  ∀ (m : (ℓ : Loc Cert.KernelGmInIdeal.nD Cert.KernelGmInIdeal.τ Cert.KernelGmInIdeal.sig) → Buf (Elt Ideal) ℓ) (g : Dev Cert.KernelGmInIdeal.nD → PrngReg)
    (m' : (ℓ : Loc Cert.ReferenceGmInIdeal.nD Cert.ReferenceGmInIdeal.τ Cert.ReferenceGmInIdeal.sig) → Buf (Elt Ideal) ℓ) (g' : Dev Cert.ReferenceGmInIdeal.nD → PrngReg), Pre_KernelGmInIdeal m →
    (∀ c : Dev Cert.KernelGmInIdeal.nD,
      m' ((c.tc : Thread Cert.ReferenceGmInIdeal.nD Cert.ReferenceGmInIdeal.τ).loc Cert.ReferenceGmInIdeal.main_arg0) = m ((c.tc : Thread Cert.KernelGmInIdeal.nD Cert.KernelGmInIdeal.τ).loc Cert.KernelGmInIdeal.main_arg0)
      ∧ m' ((c.tc : Thread Cert.ReferenceGmInIdeal.nD Cert.ReferenceGmInIdeal.τ).loc Cert.ReferenceGmInIdeal.main_arg1) = m ((c.tc : Thread Cert.KernelGmInIdeal.nD Cert.KernelGmInIdeal.τ).loc Cert.KernelGmInIdeal.main_arg1)) →
    ∃ (v0 : (c : Dev Cert.KernelGmInIdeal.nD) → Buf (Elt Ideal) ((c.tc : Thread Cert.KernelGmInIdeal.nD Cert.KernelGmInIdeal.τ).loc Cert.KernelGmInIdeal.main_v0)),
      θ_run (Cert.KernelGmInIdeal.defs (F := Ideal)) (onTc (τ := Cert.KernelGmInIdeal.τ) (Cert.KernelGmInIdeal.main (F := Ideal))) ⟨m, fun _ => 0, g⟩ (fun r => ∀ c : Dev Cert.KernelGmInIdeal.nD,
          r.2.mem ((c.tc : Thread Cert.KernelGmInIdeal.nD Cert.KernelGmInIdeal.τ).loc Cert.KernelGmInIdeal.main_v0) = v0 c
          ∧ r.2.mem ((c.tc : Thread Cert.KernelGmInIdeal.nD Cert.KernelGmInIdeal.τ).loc Cert.KernelGmInIdeal.main_arg0) = m ((c.tc : Thread Cert.KernelGmInIdeal.nD Cert.KernelGmInIdeal.τ).loc Cert.KernelGmInIdeal.main_arg0)
          ∧ r.2.mem ((c.tc : Thread Cert.KernelGmInIdeal.nD Cert.KernelGmInIdeal.τ).loc Cert.KernelGmInIdeal.main_arg1) = m ((c.tc : Thread Cert.KernelGmInIdeal.nD Cert.KernelGmInIdeal.τ).loc Cert.KernelGmInIdeal.main_arg1))
      ∧ θ_run (Cert.ReferenceGmInIdeal.defs (F := Ideal)) (onTc (τ := Cert.ReferenceGmInIdeal.τ) (Cert.ReferenceGmInIdeal.main (F := Ideal))) ⟨m', fun _ => 0, g'⟩ (fun r => ∀ c : Dev Cert.ReferenceGmInIdeal.nD,
          r.2.mem ((c.tc : Thread Cert.ReferenceGmInIdeal.nD Cert.ReferenceGmInIdeal.τ).loc Cert.ReferenceGmInIdeal.main_v2) = v0 c
          ∧ r.2.mem ((c.tc : Thread Cert.ReferenceGmInIdeal.nD Cert.ReferenceGmInIdeal.τ).loc Cert.ReferenceGmInIdeal.main_arg0) = m' ((c.tc : Thread Cert.ReferenceGmInIdeal.nD Cert.ReferenceGmInIdeal.τ).loc Cert.ReferenceGmInIdeal.main_arg0)
          ∧ r.2.mem ((c.tc : Thread Cert.ReferenceGmInIdeal.nD Cert.ReferenceGmInIdeal.τ).loc Cert.ReferenceGmInIdeal.main_arg1) = m' ((c.tc : Thread Cert.ReferenceGmInIdeal.nD Cert.ReferenceGmInIdeal.τ).loc Cert.ReferenceGmInIdeal.main_arg1))

def preserves_KernelGmInDw_KernelGmInDwIdeal : Prop :=
  True

def algebraic_KernelGmInDwIdeal_ReferenceGmInDwIdeal [hKernelGmInDwIdeal : Cert.KernelGmInDwIdeal.Facts] [hReferenceGmInDwIdeal : Cert.ReferenceGmInDwIdeal.Facts] : Prop :=
  ∀ (m : (ℓ : Loc Cert.KernelGmInDwIdeal.nD Cert.KernelGmInDwIdeal.τ Cert.KernelGmInDwIdeal.sig) → Buf (Elt Ideal) ℓ) (g : Dev Cert.KernelGmInDwIdeal.nD → PrngReg)
    (m' : (ℓ : Loc Cert.ReferenceGmInDwIdeal.nD Cert.ReferenceGmInDwIdeal.τ Cert.ReferenceGmInDwIdeal.sig) → Buf (Elt Ideal) ℓ) (g' : Dev Cert.ReferenceGmInDwIdeal.nD → PrngReg), Pre_KernelGmInDwIdeal m →
    (∀ c : Dev Cert.KernelGmInDwIdeal.nD,
      m' ((c.tc : Thread Cert.ReferenceGmInDwIdeal.nD Cert.ReferenceGmInDwIdeal.τ).loc Cert.ReferenceGmInDwIdeal.main_arg0) = m ((c.tc : Thread Cert.KernelGmInDwIdeal.nD Cert.KernelGmInDwIdeal.τ).loc Cert.KernelGmInDwIdeal.main_arg0)
      ∧ m' ((c.tc : Thread Cert.ReferenceGmInDwIdeal.nD Cert.ReferenceGmInDwIdeal.τ).loc Cert.ReferenceGmInDwIdeal.main_arg1) = m ((c.tc : Thread Cert.KernelGmInDwIdeal.nD Cert.KernelGmInDwIdeal.τ).loc Cert.KernelGmInDwIdeal.main_arg1)) →
    ∃ (v0 : (c : Dev Cert.KernelGmInDwIdeal.nD) → Buf (Elt Ideal) ((c.tc : Thread Cert.KernelGmInDwIdeal.nD Cert.KernelGmInDwIdeal.τ).loc Cert.KernelGmInDwIdeal.main_v0)),
      θ_run (Cert.KernelGmInDwIdeal.defs (F := Ideal)) (onTc (τ := Cert.KernelGmInDwIdeal.τ) (Cert.KernelGmInDwIdeal.main (F := Ideal))) ⟨m, fun _ => 0, g⟩ (fun r => ∀ c : Dev Cert.KernelGmInDwIdeal.nD,
          r.2.mem ((c.tc : Thread Cert.KernelGmInDwIdeal.nD Cert.KernelGmInDwIdeal.τ).loc Cert.KernelGmInDwIdeal.main_v0) = v0 c
          ∧ r.2.mem ((c.tc : Thread Cert.KernelGmInDwIdeal.nD Cert.KernelGmInDwIdeal.τ).loc Cert.KernelGmInDwIdeal.main_arg0) = m ((c.tc : Thread Cert.KernelGmInDwIdeal.nD Cert.KernelGmInDwIdeal.τ).loc Cert.KernelGmInDwIdeal.main_arg0)
          ∧ r.2.mem ((c.tc : Thread Cert.KernelGmInDwIdeal.nD Cert.KernelGmInDwIdeal.τ).loc Cert.KernelGmInDwIdeal.main_arg1) = m ((c.tc : Thread Cert.KernelGmInDwIdeal.nD Cert.KernelGmInDwIdeal.τ).loc Cert.KernelGmInDwIdeal.main_arg1))
      ∧ θ_run (Cert.ReferenceGmInDwIdeal.defs (F := Ideal)) (onTc (τ := Cert.ReferenceGmInDwIdeal.τ) (Cert.ReferenceGmInDwIdeal.main (F := Ideal))) ⟨m', fun _ => 0, g'⟩ (fun r => ∀ c : Dev Cert.ReferenceGmInDwIdeal.nD,
          r.2.mem ((c.tc : Thread Cert.ReferenceGmInDwIdeal.nD Cert.ReferenceGmInDwIdeal.τ).loc Cert.ReferenceGmInDwIdeal.main_v6) = v0 c
          ∧ r.2.mem ((c.tc : Thread Cert.ReferenceGmInDwIdeal.nD Cert.ReferenceGmInDwIdeal.τ).loc Cert.ReferenceGmInDwIdeal.main_arg0) = m' ((c.tc : Thread Cert.ReferenceGmInDwIdeal.nD Cert.ReferenceGmInDwIdeal.τ).loc Cert.ReferenceGmInDwIdeal.main_arg0)
          ∧ r.2.mem ((c.tc : Thread Cert.ReferenceGmInDwIdeal.nD Cert.ReferenceGmInDwIdeal.τ).loc Cert.ReferenceGmInDwIdeal.main_arg1) = m' ((c.tc : Thread Cert.ReferenceGmInDwIdeal.nD Cert.ReferenceGmInDwIdeal.τ).loc Cert.ReferenceGmInDwIdeal.main_arg1))

def preserves_KernelGmInDx_KernelGmInDxIdeal : Prop :=
  True

def algebraic_KernelGmInDxIdeal_ReferenceGmInDxIdeal [hKernelGmInDxIdeal : Cert.KernelGmInDxIdeal.Facts] [hReferenceGmInDxIdeal : Cert.ReferenceGmInDxIdeal.Facts] : Prop :=
  ∀ (m : (ℓ : Loc Cert.KernelGmInDxIdeal.nD Cert.KernelGmInDxIdeal.τ Cert.KernelGmInDxIdeal.sig) → Buf (Elt Ideal) ℓ) (g : Dev Cert.KernelGmInDxIdeal.nD → PrngReg)
    (m' : (ℓ : Loc Cert.ReferenceGmInDxIdeal.nD Cert.ReferenceGmInDxIdeal.τ Cert.ReferenceGmInDxIdeal.sig) → Buf (Elt Ideal) ℓ) (g' : Dev Cert.ReferenceGmInDxIdeal.nD → PrngReg), Pre_KernelGmInDxIdeal m →
    (∀ c : Dev Cert.KernelGmInDxIdeal.nD,
      m' ((c.tc : Thread Cert.ReferenceGmInDxIdeal.nD Cert.ReferenceGmInDxIdeal.τ).loc Cert.ReferenceGmInDxIdeal.main_arg0) = m ((c.tc : Thread Cert.KernelGmInDxIdeal.nD Cert.KernelGmInDxIdeal.τ).loc Cert.KernelGmInDxIdeal.main_arg0)
      ∧ m' ((c.tc : Thread Cert.ReferenceGmInDxIdeal.nD Cert.ReferenceGmInDxIdeal.τ).loc Cert.ReferenceGmInDxIdeal.main_arg1) = m ((c.tc : Thread Cert.KernelGmInDxIdeal.nD Cert.KernelGmInDxIdeal.τ).loc Cert.KernelGmInDxIdeal.main_arg1)) →
    ∃ (v0 : (c : Dev Cert.KernelGmInDxIdeal.nD) → Buf (Elt Ideal) ((c.tc : Thread Cert.KernelGmInDxIdeal.nD Cert.KernelGmInDxIdeal.τ).loc Cert.KernelGmInDxIdeal.main_v0)),
      θ_run (Cert.KernelGmInDxIdeal.defs (F := Ideal)) (onTc (τ := Cert.KernelGmInDxIdeal.τ) (Cert.KernelGmInDxIdeal.main (F := Ideal))) ⟨m, fun _ => 0, g⟩ (fun r => ∀ c : Dev Cert.KernelGmInDxIdeal.nD,
          r.2.mem ((c.tc : Thread Cert.KernelGmInDxIdeal.nD Cert.KernelGmInDxIdeal.τ).loc Cert.KernelGmInDxIdeal.main_v0) = v0 c
          ∧ r.2.mem ((c.tc : Thread Cert.KernelGmInDxIdeal.nD Cert.KernelGmInDxIdeal.τ).loc Cert.KernelGmInDxIdeal.main_arg0) = m ((c.tc : Thread Cert.KernelGmInDxIdeal.nD Cert.KernelGmInDxIdeal.τ).loc Cert.KernelGmInDxIdeal.main_arg0)
          ∧ r.2.mem ((c.tc : Thread Cert.KernelGmInDxIdeal.nD Cert.KernelGmInDxIdeal.τ).loc Cert.KernelGmInDxIdeal.main_arg1) = m ((c.tc : Thread Cert.KernelGmInDxIdeal.nD Cert.KernelGmInDxIdeal.τ).loc Cert.KernelGmInDxIdeal.main_arg1))
      ∧ θ_run (Cert.ReferenceGmInDxIdeal.defs (F := Ideal)) (onTc (τ := Cert.ReferenceGmInDxIdeal.τ) (Cert.ReferenceGmInDxIdeal.main (F := Ideal))) ⟨m', fun _ => 0, g'⟩ (fun r => ∀ c : Dev Cert.ReferenceGmInDxIdeal.nD,
          r.2.mem ((c.tc : Thread Cert.ReferenceGmInDxIdeal.nD Cert.ReferenceGmInDxIdeal.τ).loc Cert.ReferenceGmInDxIdeal.main_v4) = v0 c
          ∧ r.2.mem ((c.tc : Thread Cert.ReferenceGmInDxIdeal.nD Cert.ReferenceGmInDxIdeal.τ).loc Cert.ReferenceGmInDxIdeal.main_arg0) = m' ((c.tc : Thread Cert.ReferenceGmInDxIdeal.nD Cert.ReferenceGmInDxIdeal.τ).loc Cert.ReferenceGmInDxIdeal.main_arg0)
          ∧ r.2.mem ((c.tc : Thread Cert.ReferenceGmInDxIdeal.nD Cert.ReferenceGmInDxIdeal.τ).loc Cert.ReferenceGmInDxIdeal.main_arg1) = m' ((c.tc : Thread Cert.ReferenceGmInDxIdeal.nD Cert.ReferenceGmInDxIdeal.τ).loc Cert.ReferenceGmInDxIdeal.main_arg1))

def preserves_KernelGmOut_KernelGmOutIdeal : Prop :=
  True

def algebraic_KernelGmOutIdeal_ReferenceGmOutIdeal [hKernelGmOutIdeal : Cert.KernelGmOutIdeal.Facts] [hReferenceGmOutIdeal : Cert.ReferenceGmOutIdeal.Facts] : Prop :=
  ∀ (m : (ℓ : Loc Cert.KernelGmOutIdeal.nD Cert.KernelGmOutIdeal.τ Cert.KernelGmOutIdeal.sig) → Buf (Elt Ideal) ℓ) (g : Dev Cert.KernelGmOutIdeal.nD → PrngReg)
    (m' : (ℓ : Loc Cert.ReferenceGmOutIdeal.nD Cert.ReferenceGmOutIdeal.τ Cert.ReferenceGmOutIdeal.sig) → Buf (Elt Ideal) ℓ) (g' : Dev Cert.ReferenceGmOutIdeal.nD → PrngReg), Pre_KernelGmOutIdeal m →
    (∀ c : Dev Cert.KernelGmOutIdeal.nD,
      m' ((c.tc : Thread Cert.ReferenceGmOutIdeal.nD Cert.ReferenceGmOutIdeal.τ).loc Cert.ReferenceGmOutIdeal.main_arg0) = m ((c.tc : Thread Cert.KernelGmOutIdeal.nD Cert.KernelGmOutIdeal.τ).loc Cert.KernelGmOutIdeal.main_arg0)
      ∧ m' ((c.tc : Thread Cert.ReferenceGmOutIdeal.nD Cert.ReferenceGmOutIdeal.τ).loc Cert.ReferenceGmOutIdeal.main_arg1) = m ((c.tc : Thread Cert.KernelGmOutIdeal.nD Cert.KernelGmOutIdeal.τ).loc Cert.KernelGmOutIdeal.main_arg1)) →
    ∃ (v0 : (c : Dev Cert.KernelGmOutIdeal.nD) → Buf (Elt Ideal) ((c.tc : Thread Cert.KernelGmOutIdeal.nD Cert.KernelGmOutIdeal.τ).loc Cert.KernelGmOutIdeal.main_v0)),
      θ_run (Cert.KernelGmOutIdeal.defs (F := Ideal)) (onTc (τ := Cert.KernelGmOutIdeal.τ) (Cert.KernelGmOutIdeal.main (F := Ideal))) ⟨m, fun _ => 0, g⟩ (fun r => ∀ c : Dev Cert.KernelGmOutIdeal.nD,
          r.2.mem ((c.tc : Thread Cert.KernelGmOutIdeal.nD Cert.KernelGmOutIdeal.τ).loc Cert.KernelGmOutIdeal.main_v0) = v0 c
          ∧ r.2.mem ((c.tc : Thread Cert.KernelGmOutIdeal.nD Cert.KernelGmOutIdeal.τ).loc Cert.KernelGmOutIdeal.main_arg0) = m ((c.tc : Thread Cert.KernelGmOutIdeal.nD Cert.KernelGmOutIdeal.τ).loc Cert.KernelGmOutIdeal.main_arg0)
          ∧ r.2.mem ((c.tc : Thread Cert.KernelGmOutIdeal.nD Cert.KernelGmOutIdeal.τ).loc Cert.KernelGmOutIdeal.main_arg1) = m ((c.tc : Thread Cert.KernelGmOutIdeal.nD Cert.KernelGmOutIdeal.τ).loc Cert.KernelGmOutIdeal.main_arg1))
      ∧ θ_run (Cert.ReferenceGmOutIdeal.defs (F := Ideal)) (onTc (τ := Cert.ReferenceGmOutIdeal.τ) (Cert.ReferenceGmOutIdeal.main (F := Ideal))) ⟨m', fun _ => 0, g'⟩ (fun r => ∀ c : Dev Cert.ReferenceGmOutIdeal.nD,
          r.2.mem ((c.tc : Thread Cert.ReferenceGmOutIdeal.nD Cert.ReferenceGmOutIdeal.τ).loc Cert.ReferenceGmOutIdeal.main_v2) = v0 c
          ∧ r.2.mem ((c.tc : Thread Cert.ReferenceGmOutIdeal.nD Cert.ReferenceGmOutIdeal.τ).loc Cert.ReferenceGmOutIdeal.main_arg0) = m' ((c.tc : Thread Cert.ReferenceGmOutIdeal.nD Cert.ReferenceGmOutIdeal.τ).loc Cert.ReferenceGmOutIdeal.main_arg0)
          ∧ r.2.mem ((c.tc : Thread Cert.ReferenceGmOutIdeal.nD Cert.ReferenceGmOutIdeal.τ).loc Cert.ReferenceGmOutIdeal.main_arg1) = m' ((c.tc : Thread Cert.ReferenceGmOutIdeal.nD Cert.ReferenceGmOutIdeal.τ).loc Cert.ReferenceGmOutIdeal.main_arg1))

def preserves_KernelGmOutDw_KernelGmOutDwIdeal : Prop :=
  True

def algebraic_KernelGmOutDwIdeal_ReferenceGmOutDwIdeal [hKernelGmOutDwIdeal : Cert.KernelGmOutDwIdeal.Facts] [hReferenceGmOutDwIdeal : Cert.ReferenceGmOutDwIdeal.Facts] : Prop :=
  ∀ (m : (ℓ : Loc Cert.KernelGmOutDwIdeal.nD Cert.KernelGmOutDwIdeal.τ Cert.KernelGmOutDwIdeal.sig) → Buf (Elt Ideal) ℓ) (g : Dev Cert.KernelGmOutDwIdeal.nD → PrngReg)
    (m' : (ℓ : Loc Cert.ReferenceGmOutDwIdeal.nD Cert.ReferenceGmOutDwIdeal.τ Cert.ReferenceGmOutDwIdeal.sig) → Buf (Elt Ideal) ℓ) (g' : Dev Cert.ReferenceGmOutDwIdeal.nD → PrngReg), Pre_KernelGmOutDwIdeal m →
    (∀ c : Dev Cert.KernelGmOutDwIdeal.nD,
      m' ((c.tc : Thread Cert.ReferenceGmOutDwIdeal.nD Cert.ReferenceGmOutDwIdeal.τ).loc Cert.ReferenceGmOutDwIdeal.main_arg0) = m ((c.tc : Thread Cert.KernelGmOutDwIdeal.nD Cert.KernelGmOutDwIdeal.τ).loc Cert.KernelGmOutDwIdeal.main_arg0)
      ∧ m' ((c.tc : Thread Cert.ReferenceGmOutDwIdeal.nD Cert.ReferenceGmOutDwIdeal.τ).loc Cert.ReferenceGmOutDwIdeal.main_arg1) = m ((c.tc : Thread Cert.KernelGmOutDwIdeal.nD Cert.KernelGmOutDwIdeal.τ).loc Cert.KernelGmOutDwIdeal.main_arg1)) →
    ∃ (v0 : (c : Dev Cert.KernelGmOutDwIdeal.nD) → Buf (Elt Ideal) ((c.tc : Thread Cert.KernelGmOutDwIdeal.nD Cert.KernelGmOutDwIdeal.τ).loc Cert.KernelGmOutDwIdeal.main_v0)),
      θ_run (Cert.KernelGmOutDwIdeal.defs (F := Ideal)) (onTc (τ := Cert.KernelGmOutDwIdeal.τ) (Cert.KernelGmOutDwIdeal.main (F := Ideal))) ⟨m, fun _ => 0, g⟩ (fun r => ∀ c : Dev Cert.KernelGmOutDwIdeal.nD,
          r.2.mem ((c.tc : Thread Cert.KernelGmOutDwIdeal.nD Cert.KernelGmOutDwIdeal.τ).loc Cert.KernelGmOutDwIdeal.main_v0) = v0 c
          ∧ r.2.mem ((c.tc : Thread Cert.KernelGmOutDwIdeal.nD Cert.KernelGmOutDwIdeal.τ).loc Cert.KernelGmOutDwIdeal.main_arg0) = m ((c.tc : Thread Cert.KernelGmOutDwIdeal.nD Cert.KernelGmOutDwIdeal.τ).loc Cert.KernelGmOutDwIdeal.main_arg0)
          ∧ r.2.mem ((c.tc : Thread Cert.KernelGmOutDwIdeal.nD Cert.KernelGmOutDwIdeal.τ).loc Cert.KernelGmOutDwIdeal.main_arg1) = m ((c.tc : Thread Cert.KernelGmOutDwIdeal.nD Cert.KernelGmOutDwIdeal.τ).loc Cert.KernelGmOutDwIdeal.main_arg1))
      ∧ θ_run (Cert.ReferenceGmOutDwIdeal.defs (F := Ideal)) (onTc (τ := Cert.ReferenceGmOutDwIdeal.τ) (Cert.ReferenceGmOutDwIdeal.main (F := Ideal))) ⟨m', fun _ => 0, g'⟩ (fun r => ∀ c : Dev Cert.ReferenceGmOutDwIdeal.nD,
          r.2.mem ((c.tc : Thread Cert.ReferenceGmOutDwIdeal.nD Cert.ReferenceGmOutDwIdeal.τ).loc Cert.ReferenceGmOutDwIdeal.main_v6) = v0 c
          ∧ r.2.mem ((c.tc : Thread Cert.ReferenceGmOutDwIdeal.nD Cert.ReferenceGmOutDwIdeal.τ).loc Cert.ReferenceGmOutDwIdeal.main_arg0) = m' ((c.tc : Thread Cert.ReferenceGmOutDwIdeal.nD Cert.ReferenceGmOutDwIdeal.τ).loc Cert.ReferenceGmOutDwIdeal.main_arg0)
          ∧ r.2.mem ((c.tc : Thread Cert.ReferenceGmOutDwIdeal.nD Cert.ReferenceGmOutDwIdeal.τ).loc Cert.ReferenceGmOutDwIdeal.main_arg1) = m' ((c.tc : Thread Cert.ReferenceGmOutDwIdeal.nD Cert.ReferenceGmOutDwIdeal.τ).loc Cert.ReferenceGmOutDwIdeal.main_arg1))

def preserves_KernelGmOutDx_KernelGmOutDxIdeal : Prop :=
  True

def algebraic_KernelGmOutDxIdeal_ReferenceGmOutDxIdeal [hKernelGmOutDxIdeal : Cert.KernelGmOutDxIdeal.Facts] [hReferenceGmOutDxIdeal : Cert.ReferenceGmOutDxIdeal.Facts] : Prop :=
  ∀ (m : (ℓ : Loc Cert.KernelGmOutDxIdeal.nD Cert.KernelGmOutDxIdeal.τ Cert.KernelGmOutDxIdeal.sig) → Buf (Elt Ideal) ℓ) (g : Dev Cert.KernelGmOutDxIdeal.nD → PrngReg)
    (m' : (ℓ : Loc Cert.ReferenceGmOutDxIdeal.nD Cert.ReferenceGmOutDxIdeal.τ Cert.ReferenceGmOutDxIdeal.sig) → Buf (Elt Ideal) ℓ) (g' : Dev Cert.ReferenceGmOutDxIdeal.nD → PrngReg), Pre_KernelGmOutDxIdeal m →
    (∀ c : Dev Cert.KernelGmOutDxIdeal.nD,
      m' ((c.tc : Thread Cert.ReferenceGmOutDxIdeal.nD Cert.ReferenceGmOutDxIdeal.τ).loc Cert.ReferenceGmOutDxIdeal.main_arg0) = m ((c.tc : Thread Cert.KernelGmOutDxIdeal.nD Cert.KernelGmOutDxIdeal.τ).loc Cert.KernelGmOutDxIdeal.main_arg0)
      ∧ m' ((c.tc : Thread Cert.ReferenceGmOutDxIdeal.nD Cert.ReferenceGmOutDxIdeal.τ).loc Cert.ReferenceGmOutDxIdeal.main_arg1) = m ((c.tc : Thread Cert.KernelGmOutDxIdeal.nD Cert.KernelGmOutDxIdeal.τ).loc Cert.KernelGmOutDxIdeal.main_arg1)) →
    ∃ (v0 : (c : Dev Cert.KernelGmOutDxIdeal.nD) → Buf (Elt Ideal) ((c.tc : Thread Cert.KernelGmOutDxIdeal.nD Cert.KernelGmOutDxIdeal.τ).loc Cert.KernelGmOutDxIdeal.main_v0)),
      θ_run (Cert.KernelGmOutDxIdeal.defs (F := Ideal)) (onTc (τ := Cert.KernelGmOutDxIdeal.τ) (Cert.KernelGmOutDxIdeal.main (F := Ideal))) ⟨m, fun _ => 0, g⟩ (fun r => ∀ c : Dev Cert.KernelGmOutDxIdeal.nD,
          r.2.mem ((c.tc : Thread Cert.KernelGmOutDxIdeal.nD Cert.KernelGmOutDxIdeal.τ).loc Cert.KernelGmOutDxIdeal.main_v0) = v0 c
          ∧ r.2.mem ((c.tc : Thread Cert.KernelGmOutDxIdeal.nD Cert.KernelGmOutDxIdeal.τ).loc Cert.KernelGmOutDxIdeal.main_arg0) = m ((c.tc : Thread Cert.KernelGmOutDxIdeal.nD Cert.KernelGmOutDxIdeal.τ).loc Cert.KernelGmOutDxIdeal.main_arg0)
          ∧ r.2.mem ((c.tc : Thread Cert.KernelGmOutDxIdeal.nD Cert.KernelGmOutDxIdeal.τ).loc Cert.KernelGmOutDxIdeal.main_arg1) = m ((c.tc : Thread Cert.KernelGmOutDxIdeal.nD Cert.KernelGmOutDxIdeal.τ).loc Cert.KernelGmOutDxIdeal.main_arg1))
      ∧ θ_run (Cert.ReferenceGmOutDxIdeal.defs (F := Ideal)) (onTc (τ := Cert.ReferenceGmOutDxIdeal.τ) (Cert.ReferenceGmOutDxIdeal.main (F := Ideal))) ⟨m', fun _ => 0, g'⟩ (fun r => ∀ c : Dev Cert.ReferenceGmOutDxIdeal.nD,
          r.2.mem ((c.tc : Thread Cert.ReferenceGmOutDxIdeal.nD Cert.ReferenceGmOutDxIdeal.τ).loc Cert.ReferenceGmOutDxIdeal.main_v4) = v0 c
          ∧ r.2.mem ((c.tc : Thread Cert.ReferenceGmOutDxIdeal.nD Cert.ReferenceGmOutDxIdeal.τ).loc Cert.ReferenceGmOutDxIdeal.main_arg0) = m' ((c.tc : Thread Cert.ReferenceGmOutDxIdeal.nD Cert.ReferenceGmOutDxIdeal.τ).loc Cert.ReferenceGmOutDxIdeal.main_arg0)
          ∧ r.2.mem ((c.tc : Thread Cert.ReferenceGmOutDxIdeal.nD Cert.ReferenceGmOutDxIdeal.τ).loc Cert.ReferenceGmOutDxIdeal.main_arg1) = m' ((c.tc : Thread Cert.ReferenceGmOutDxIdeal.nD Cert.ReferenceGmOutDxIdeal.τ).loc Cert.ReferenceGmOutDxIdeal.main_arg1))

def preserves_KernelAttnOutDx_KernelAttnOutDxIdeal : Prop :=
  True

def algebraic_KernelAttnOutDxIdeal_ReferenceAttnOutDxIdeal [hKernelAttnOutDxIdeal : Cert.KernelAttnOutDxIdeal.Facts] [hReferenceAttnOutDxIdeal : Cert.ReferenceAttnOutDxIdeal.Facts] : Prop :=
  ∀ (m : (ℓ : Loc Cert.KernelAttnOutDxIdeal.nD Cert.KernelAttnOutDxIdeal.τ Cert.KernelAttnOutDxIdeal.sig) → Buf (Elt Ideal) ℓ) (g : Dev Cert.KernelAttnOutDxIdeal.nD → PrngReg)
    (m' : (ℓ : Loc Cert.ReferenceAttnOutDxIdeal.nD Cert.ReferenceAttnOutDxIdeal.τ Cert.ReferenceAttnOutDxIdeal.sig) → Buf (Elt Ideal) ℓ) (g' : Dev Cert.ReferenceAttnOutDxIdeal.nD → PrngReg), Pre_KernelAttnOutDxIdeal m →
    (∀ c : Dev Cert.KernelAttnOutDxIdeal.nD,
      m' ((c.tc : Thread Cert.ReferenceAttnOutDxIdeal.nD Cert.ReferenceAttnOutDxIdeal.τ).loc Cert.ReferenceAttnOutDxIdeal.main_arg0) = m ((c.tc : Thread Cert.KernelAttnOutDxIdeal.nD Cert.KernelAttnOutDxIdeal.τ).loc Cert.KernelAttnOutDxIdeal.main_arg0)
      ∧ m' ((c.tc : Thread Cert.ReferenceAttnOutDxIdeal.nD Cert.ReferenceAttnOutDxIdeal.τ).loc Cert.ReferenceAttnOutDxIdeal.main_arg1) = m ((c.tc : Thread Cert.KernelAttnOutDxIdeal.nD Cert.KernelAttnOutDxIdeal.τ).loc Cert.KernelAttnOutDxIdeal.main_arg1)) →
    ∃ (v0 : (c : Dev Cert.KernelAttnOutDxIdeal.nD) → Buf (Elt Ideal) ((c.tc : Thread Cert.KernelAttnOutDxIdeal.nD Cert.KernelAttnOutDxIdeal.τ).loc Cert.KernelAttnOutDxIdeal.main_v0)),
      θ_run (Cert.KernelAttnOutDxIdeal.defs (F := Ideal)) (onTc (τ := Cert.KernelAttnOutDxIdeal.τ) (Cert.KernelAttnOutDxIdeal.main (F := Ideal))) ⟨m, fun _ => 0, g⟩ (fun r => ∀ c : Dev Cert.KernelAttnOutDxIdeal.nD,
          r.2.mem ((c.tc : Thread Cert.KernelAttnOutDxIdeal.nD Cert.KernelAttnOutDxIdeal.τ).loc Cert.KernelAttnOutDxIdeal.main_v0) = v0 c
          ∧ r.2.mem ((c.tc : Thread Cert.KernelAttnOutDxIdeal.nD Cert.KernelAttnOutDxIdeal.τ).loc Cert.KernelAttnOutDxIdeal.main_arg0) = m ((c.tc : Thread Cert.KernelAttnOutDxIdeal.nD Cert.KernelAttnOutDxIdeal.τ).loc Cert.KernelAttnOutDxIdeal.main_arg0)
          ∧ r.2.mem ((c.tc : Thread Cert.KernelAttnOutDxIdeal.nD Cert.KernelAttnOutDxIdeal.τ).loc Cert.KernelAttnOutDxIdeal.main_arg1) = m ((c.tc : Thread Cert.KernelAttnOutDxIdeal.nD Cert.KernelAttnOutDxIdeal.τ).loc Cert.KernelAttnOutDxIdeal.main_arg1))
      ∧ θ_run (Cert.ReferenceAttnOutDxIdeal.defs (F := Ideal)) (onTc (τ := Cert.ReferenceAttnOutDxIdeal.τ) (Cert.ReferenceAttnOutDxIdeal.main (F := Ideal))) ⟨m', fun _ => 0, g'⟩ (fun r => ∀ c : Dev Cert.ReferenceAttnOutDxIdeal.nD,
          r.2.mem ((c.tc : Thread Cert.ReferenceAttnOutDxIdeal.nD Cert.ReferenceAttnOutDxIdeal.τ).loc Cert.ReferenceAttnOutDxIdeal.main_v5) = v0 c
          ∧ r.2.mem ((c.tc : Thread Cert.ReferenceAttnOutDxIdeal.nD Cert.ReferenceAttnOutDxIdeal.τ).loc Cert.ReferenceAttnOutDxIdeal.main_arg0) = m' ((c.tc : Thread Cert.ReferenceAttnOutDxIdeal.nD Cert.ReferenceAttnOutDxIdeal.τ).loc Cert.ReferenceAttnOutDxIdeal.main_arg0)
          ∧ r.2.mem ((c.tc : Thread Cert.ReferenceAttnOutDxIdeal.nD Cert.ReferenceAttnOutDxIdeal.τ).loc Cert.ReferenceAttnOutDxIdeal.main_arg1) = m' ((c.tc : Thread Cert.ReferenceAttnOutDxIdeal.nD Cert.ReferenceAttnOutDxIdeal.τ).loc Cert.ReferenceAttnOutDxIdeal.main_arg1))

def preserves_KernelPre_KernelPreIdeal : Prop :=
  True

def algebraic_KernelPreIdeal_ReferencePreIdeal [hKernelPreIdeal : Cert.KernelPreIdeal.Facts] [hReferencePreIdeal : Cert.ReferencePreIdeal.Facts] : Prop :=
  ∀ (m : (ℓ : Loc Cert.KernelPreIdeal.nD Cert.KernelPreIdeal.τ Cert.KernelPreIdeal.sig) → Buf (Elt Ideal) ℓ) (g : Dev Cert.KernelPreIdeal.nD → PrngReg)
    (m' : (ℓ : Loc Cert.ReferencePreIdeal.nD Cert.ReferencePreIdeal.τ Cert.ReferencePreIdeal.sig) → Buf (Elt Ideal) ℓ) (g' : Dev Cert.ReferencePreIdeal.nD → PrngReg), Pre_KernelPreIdeal m →
    (∀ c : Dev Cert.KernelPreIdeal.nD,
      m' ((c.tc : Thread Cert.ReferencePreIdeal.nD Cert.ReferencePreIdeal.τ).loc Cert.ReferencePreIdeal.main_arg0) = m ((c.tc : Thread Cert.KernelPreIdeal.nD Cert.KernelPreIdeal.τ).loc Cert.KernelPreIdeal.main_arg0)
      ∧ m' ((c.tc : Thread Cert.ReferencePreIdeal.nD Cert.ReferencePreIdeal.τ).loc Cert.ReferencePreIdeal.main_arg1) = m ((c.tc : Thread Cert.KernelPreIdeal.nD Cert.KernelPreIdeal.τ).loc Cert.KernelPreIdeal.main_arg1)
      ∧ m' ((c.tc : Thread Cert.ReferencePreIdeal.nD Cert.ReferencePreIdeal.τ).loc Cert.ReferencePreIdeal.main_arg2) = m ((c.tc : Thread Cert.KernelPreIdeal.nD Cert.KernelPreIdeal.τ).loc Cert.KernelPreIdeal.main_arg2)) →
    ∃ (v0 : (c : Dev Cert.KernelPreIdeal.nD) → Buf (Elt Ideal) ((c.tc : Thread Cert.KernelPreIdeal.nD Cert.KernelPreIdeal.τ).loc Cert.KernelPreIdeal.main_v2)),
      θ_run (Cert.KernelPreIdeal.defs (F := Ideal)) (onTc (τ := Cert.KernelPreIdeal.τ) (Cert.KernelPreIdeal.main (F := Ideal))) ⟨m, fun _ => 0, g⟩ (fun r => ∀ c : Dev Cert.KernelPreIdeal.nD,
          r.2.mem ((c.tc : Thread Cert.KernelPreIdeal.nD Cert.KernelPreIdeal.τ).loc Cert.KernelPreIdeal.main_v2) = v0 c
          ∧ r.2.mem ((c.tc : Thread Cert.KernelPreIdeal.nD Cert.KernelPreIdeal.τ).loc Cert.KernelPreIdeal.main_arg0) = m ((c.tc : Thread Cert.KernelPreIdeal.nD Cert.KernelPreIdeal.τ).loc Cert.KernelPreIdeal.main_arg0)
          ∧ r.2.mem ((c.tc : Thread Cert.KernelPreIdeal.nD Cert.KernelPreIdeal.τ).loc Cert.KernelPreIdeal.main_arg1) = m ((c.tc : Thread Cert.KernelPreIdeal.nD Cert.KernelPreIdeal.τ).loc Cert.KernelPreIdeal.main_arg1)
          ∧ r.2.mem ((c.tc : Thread Cert.KernelPreIdeal.nD Cert.KernelPreIdeal.τ).loc Cert.KernelPreIdeal.main_arg2) = m ((c.tc : Thread Cert.KernelPreIdeal.nD Cert.KernelPreIdeal.τ).loc Cert.KernelPreIdeal.main_arg2))
      ∧ θ_run (Cert.ReferencePreIdeal.defs (F := Ideal)) (onTc (τ := Cert.ReferencePreIdeal.τ) (Cert.ReferencePreIdeal.main (F := Ideal))) ⟨m', fun _ => 0, g'⟩ (fun r => ∀ c : Dev Cert.ReferencePreIdeal.nD,
          r.2.mem ((c.tc : Thread Cert.ReferencePreIdeal.nD Cert.ReferencePreIdeal.τ).loc Cert.ReferencePreIdeal.main_v25) = v0 c
          ∧ r.2.mem ((c.tc : Thread Cert.ReferencePreIdeal.nD Cert.ReferencePreIdeal.τ).loc Cert.ReferencePreIdeal.main_arg0) = m' ((c.tc : Thread Cert.ReferencePreIdeal.nD Cert.ReferencePreIdeal.τ).loc Cert.ReferencePreIdeal.main_arg0)
          ∧ r.2.mem ((c.tc : Thread Cert.ReferencePreIdeal.nD Cert.ReferencePreIdeal.τ).loc Cert.ReferencePreIdeal.main_arg1) = m' ((c.tc : Thread Cert.ReferencePreIdeal.nD Cert.ReferencePreIdeal.τ).loc Cert.ReferencePreIdeal.main_arg1)
          ∧ r.2.mem ((c.tc : Thread Cert.ReferencePreIdeal.nD Cert.ReferencePreIdeal.τ).loc Cert.ReferencePreIdeal.main_arg2) = m' ((c.tc : Thread Cert.ReferencePreIdeal.nD Cert.ReferencePreIdeal.τ).loc Cert.ReferencePreIdeal.main_arg2))

def preserves_KernelPost_KernelPostIdeal : Prop :=
  True

def algebraic_KernelPostIdeal_ReferencePostIdeal [hKernelPostIdeal : Cert.KernelPostIdeal.Facts] [hReferencePostIdeal : Cert.ReferencePostIdeal.Facts] : Prop :=
  ∀ (m : (ℓ : Loc Cert.KernelPostIdeal.nD Cert.KernelPostIdeal.τ Cert.KernelPostIdeal.sig) → Buf (Elt Ideal) ℓ) (g : Dev Cert.KernelPostIdeal.nD → PrngReg)
    (m' : (ℓ : Loc Cert.ReferencePostIdeal.nD Cert.ReferencePostIdeal.τ Cert.ReferencePostIdeal.sig) → Buf (Elt Ideal) ℓ) (g' : Dev Cert.ReferencePostIdeal.nD → PrngReg), Pre_KernelPostIdeal m →
    (∀ c : Dev Cert.KernelPostIdeal.nD,
      m' ((c.tc : Thread Cert.ReferencePostIdeal.nD Cert.ReferencePostIdeal.τ).loc Cert.ReferencePostIdeal.main_arg0) = m ((c.tc : Thread Cert.KernelPostIdeal.nD Cert.KernelPostIdeal.τ).loc Cert.KernelPostIdeal.main_arg0)
      ∧ m' ((c.tc : Thread Cert.ReferencePostIdeal.nD Cert.ReferencePostIdeal.τ).loc Cert.ReferencePostIdeal.main_arg1) = m ((c.tc : Thread Cert.KernelPostIdeal.nD Cert.KernelPostIdeal.τ).loc Cert.KernelPostIdeal.main_arg1)
      ∧ m' ((c.tc : Thread Cert.ReferencePostIdeal.nD Cert.ReferencePostIdeal.τ).loc Cert.ReferencePostIdeal.main_arg2) = m ((c.tc : Thread Cert.KernelPostIdeal.nD Cert.KernelPostIdeal.τ).loc Cert.KernelPostIdeal.main_arg2)
      ∧ m' ((c.tc : Thread Cert.ReferencePostIdeal.nD Cert.ReferencePostIdeal.τ).loc Cert.ReferencePostIdeal.main_arg3) = m ((c.tc : Thread Cert.KernelPostIdeal.nD Cert.KernelPostIdeal.τ).loc Cert.KernelPostIdeal.main_arg3)) →
    ∃ (v0 : (c : Dev Cert.KernelPostIdeal.nD) → Buf (Elt Ideal) ((c.tc : Thread Cert.KernelPostIdeal.nD Cert.KernelPostIdeal.τ).loc Cert.KernelPostIdeal.main_v3)),
      θ_run (Cert.KernelPostIdeal.defs (F := Ideal)) (onTc (τ := Cert.KernelPostIdeal.τ) (Cert.KernelPostIdeal.main (F := Ideal))) ⟨m, fun _ => 0, g⟩ (fun r => ∀ c : Dev Cert.KernelPostIdeal.nD,
          r.2.mem ((c.tc : Thread Cert.KernelPostIdeal.nD Cert.KernelPostIdeal.τ).loc Cert.KernelPostIdeal.main_v3) = v0 c
          ∧ r.2.mem ((c.tc : Thread Cert.KernelPostIdeal.nD Cert.KernelPostIdeal.τ).loc Cert.KernelPostIdeal.main_arg0) = m ((c.tc : Thread Cert.KernelPostIdeal.nD Cert.KernelPostIdeal.τ).loc Cert.KernelPostIdeal.main_arg0)
          ∧ r.2.mem ((c.tc : Thread Cert.KernelPostIdeal.nD Cert.KernelPostIdeal.τ).loc Cert.KernelPostIdeal.main_arg1) = m ((c.tc : Thread Cert.KernelPostIdeal.nD Cert.KernelPostIdeal.τ).loc Cert.KernelPostIdeal.main_arg1)
          ∧ r.2.mem ((c.tc : Thread Cert.KernelPostIdeal.nD Cert.KernelPostIdeal.τ).loc Cert.KernelPostIdeal.main_arg2) = m ((c.tc : Thread Cert.KernelPostIdeal.nD Cert.KernelPostIdeal.τ).loc Cert.KernelPostIdeal.main_arg2)
          ∧ r.2.mem ((c.tc : Thread Cert.KernelPostIdeal.nD Cert.KernelPostIdeal.τ).loc Cert.KernelPostIdeal.main_arg3) = m ((c.tc : Thread Cert.KernelPostIdeal.nD Cert.KernelPostIdeal.τ).loc Cert.KernelPostIdeal.main_arg3))
      ∧ θ_run (Cert.ReferencePostIdeal.defs (F := Ideal)) (onTc (τ := Cert.ReferencePostIdeal.τ) (Cert.ReferencePostIdeal.main (F := Ideal))) ⟨m', fun _ => 0, g'⟩ (fun r => ∀ c : Dev Cert.ReferencePostIdeal.nD,
          r.2.mem ((c.tc : Thread Cert.ReferencePostIdeal.nD Cert.ReferencePostIdeal.τ).loc Cert.ReferencePostIdeal.main_v18) = v0 c
          ∧ r.2.mem ((c.tc : Thread Cert.ReferencePostIdeal.nD Cert.ReferencePostIdeal.τ).loc Cert.ReferencePostIdeal.main_arg0) = m' ((c.tc : Thread Cert.ReferencePostIdeal.nD Cert.ReferencePostIdeal.τ).loc Cert.ReferencePostIdeal.main_arg0)
          ∧ r.2.mem ((c.tc : Thread Cert.ReferencePostIdeal.nD Cert.ReferencePostIdeal.τ).loc Cert.ReferencePostIdeal.main_arg1) = m' ((c.tc : Thread Cert.ReferencePostIdeal.nD Cert.ReferencePostIdeal.τ).loc Cert.ReferencePostIdeal.main_arg1)
          ∧ r.2.mem ((c.tc : Thread Cert.ReferencePostIdeal.nD Cert.ReferencePostIdeal.τ).loc Cert.ReferencePostIdeal.main_arg2) = m' ((c.tc : Thread Cert.ReferencePostIdeal.nD Cert.ReferencePostIdeal.τ).loc Cert.ReferencePostIdeal.main_arg2)
          ∧ r.2.mem ((c.tc : Thread Cert.ReferencePostIdeal.nD Cert.ReferencePostIdeal.τ).loc Cert.ReferencePostIdeal.main_arg3) = m' ((c.tc : Thread Cert.ReferencePostIdeal.nD Cert.ReferencePostIdeal.τ).loc Cert.ReferencePostIdeal.main_arg3))

def preserves_KernelLnSilu_KernelLnSiluIdeal : Prop :=
  True

def algebraic_KernelLnSiluIdeal_ReferenceLnSiluIdeal [hKernelLnSiluIdeal : Cert.KernelLnSiluIdeal.Facts] [hReferenceLnSiluIdeal : Cert.ReferenceLnSiluIdeal.Facts] : Prop :=
  ∀ (m : (ℓ : Loc Cert.KernelLnSiluIdeal.nD Cert.KernelLnSiluIdeal.τ Cert.KernelLnSiluIdeal.sig) → Buf (Elt Ideal) ℓ) (g : Dev Cert.KernelLnSiluIdeal.nD → PrngReg)
    (m' : (ℓ : Loc Cert.ReferenceLnSiluIdeal.nD Cert.ReferenceLnSiluIdeal.τ Cert.ReferenceLnSiluIdeal.sig) → Buf (Elt Ideal) ℓ) (g' : Dev Cert.ReferenceLnSiluIdeal.nD → PrngReg), Pre_KernelLnSiluIdeal m →
    (∀ c : Dev Cert.KernelLnSiluIdeal.nD,
      m' ((c.tc : Thread Cert.ReferenceLnSiluIdeal.nD Cert.ReferenceLnSiluIdeal.τ).loc Cert.ReferenceLnSiluIdeal.main_arg0) = m ((c.tc : Thread Cert.KernelLnSiluIdeal.nD Cert.KernelLnSiluIdeal.τ).loc Cert.KernelLnSiluIdeal.main_arg0)
      ∧ m' ((c.tc : Thread Cert.ReferenceLnSiluIdeal.nD Cert.ReferenceLnSiluIdeal.τ).loc Cert.ReferenceLnSiluIdeal.main_arg1) = m ((c.tc : Thread Cert.KernelLnSiluIdeal.nD Cert.KernelLnSiluIdeal.τ).loc Cert.KernelLnSiluIdeal.main_arg1)
      ∧ m' ((c.tc : Thread Cert.ReferenceLnSiluIdeal.nD Cert.ReferenceLnSiluIdeal.τ).loc Cert.ReferenceLnSiluIdeal.main_arg2) = m ((c.tc : Thread Cert.KernelLnSiluIdeal.nD Cert.KernelLnSiluIdeal.τ).loc Cert.KernelLnSiluIdeal.main_arg2)) →
    ∃ (v0 : (c : Dev Cert.KernelLnSiluIdeal.nD) → Buf (Elt Ideal) ((c.tc : Thread Cert.KernelLnSiluIdeal.nD Cert.KernelLnSiluIdeal.τ).loc Cert.KernelLnSiluIdeal.main_v2)),
      θ_run (Cert.KernelLnSiluIdeal.defs (F := Ideal)) (onTc (τ := Cert.KernelLnSiluIdeal.τ) (Cert.KernelLnSiluIdeal.main (F := Ideal))) ⟨m, fun _ => 0, g⟩ (fun r => ∀ c : Dev Cert.KernelLnSiluIdeal.nD,
          r.2.mem ((c.tc : Thread Cert.KernelLnSiluIdeal.nD Cert.KernelLnSiluIdeal.τ).loc Cert.KernelLnSiluIdeal.main_v2) = v0 c
          ∧ r.2.mem ((c.tc : Thread Cert.KernelLnSiluIdeal.nD Cert.KernelLnSiluIdeal.τ).loc Cert.KernelLnSiluIdeal.main_arg0) = m ((c.tc : Thread Cert.KernelLnSiluIdeal.nD Cert.KernelLnSiluIdeal.τ).loc Cert.KernelLnSiluIdeal.main_arg0)
          ∧ r.2.mem ((c.tc : Thread Cert.KernelLnSiluIdeal.nD Cert.KernelLnSiluIdeal.τ).loc Cert.KernelLnSiluIdeal.main_arg1) = m ((c.tc : Thread Cert.KernelLnSiluIdeal.nD Cert.KernelLnSiluIdeal.τ).loc Cert.KernelLnSiluIdeal.main_arg1)
          ∧ r.2.mem ((c.tc : Thread Cert.KernelLnSiluIdeal.nD Cert.KernelLnSiluIdeal.τ).loc Cert.KernelLnSiluIdeal.main_arg2) = m ((c.tc : Thread Cert.KernelLnSiluIdeal.nD Cert.KernelLnSiluIdeal.τ).loc Cert.KernelLnSiluIdeal.main_arg2))
      ∧ θ_run (Cert.ReferenceLnSiluIdeal.defs (F := Ideal)) (onTc (τ := Cert.ReferenceLnSiluIdeal.τ) (Cert.ReferenceLnSiluIdeal.main (F := Ideal))) ⟨m', fun _ => 0, g'⟩ (fun r => ∀ c : Dev Cert.ReferenceLnSiluIdeal.nD,
          r.2.mem ((c.tc : Thread Cert.ReferenceLnSiluIdeal.nD Cert.ReferenceLnSiluIdeal.τ).loc Cert.ReferenceLnSiluIdeal.main_v25) = v0 c
          ∧ r.2.mem ((c.tc : Thread Cert.ReferenceLnSiluIdeal.nD Cert.ReferenceLnSiluIdeal.τ).loc Cert.ReferenceLnSiluIdeal.main_arg0) = m' ((c.tc : Thread Cert.ReferenceLnSiluIdeal.nD Cert.ReferenceLnSiluIdeal.τ).loc Cert.ReferenceLnSiluIdeal.main_arg0)
          ∧ r.2.mem ((c.tc : Thread Cert.ReferenceLnSiluIdeal.nD Cert.ReferenceLnSiluIdeal.τ).loc Cert.ReferenceLnSiluIdeal.main_arg1) = m' ((c.tc : Thread Cert.ReferenceLnSiluIdeal.nD Cert.ReferenceLnSiluIdeal.τ).loc Cert.ReferenceLnSiluIdeal.main_arg1)
          ∧ r.2.mem ((c.tc : Thread Cert.ReferenceLnSiluIdeal.nD Cert.ReferenceLnSiluIdeal.τ).loc Cert.ReferenceLnSiluIdeal.main_arg2) = m' ((c.tc : Thread Cert.ReferenceLnSiluIdeal.nD Cert.ReferenceLnSiluIdeal.τ).loc Cert.ReferenceLnSiluIdeal.main_arg2))

def preserves_KernelGmlp_KernelGmlpIdeal : Prop :=
  True

def algebraic_KernelGmlpIdeal_ReferenceGmlpIdeal [hKernelGmlpIdeal : Cert.KernelGmlpIdeal.Facts] [hReferenceGmlpIdeal : Cert.ReferenceGmlpIdeal.Facts] : Prop :=
  ∀ (m : (ℓ : Loc Cert.KernelGmlpIdeal.nD Cert.KernelGmlpIdeal.τ Cert.KernelGmlpIdeal.sig) → Buf (Elt Ideal) ℓ) (g : Dev Cert.KernelGmlpIdeal.nD → PrngReg)
    (m' : (ℓ : Loc Cert.ReferenceGmlpIdeal.nD Cert.ReferenceGmlpIdeal.τ Cert.ReferenceGmlpIdeal.sig) → Buf (Elt Ideal) ℓ) (g' : Dev Cert.ReferenceGmlpIdeal.nD → PrngReg), Pre_KernelGmlpIdeal m →
    (∀ c : Dev Cert.KernelGmlpIdeal.nD,
      m' ((c.tc : Thread Cert.ReferenceGmlpIdeal.nD Cert.ReferenceGmlpIdeal.τ).loc Cert.ReferenceGmlpIdeal.main_arg0) = m ((c.tc : Thread Cert.KernelGmlpIdeal.nD Cert.KernelGmlpIdeal.τ).loc Cert.KernelGmlpIdeal.main_arg0)
      ∧ m' ((c.tc : Thread Cert.ReferenceGmlpIdeal.nD Cert.ReferenceGmlpIdeal.τ).loc Cert.ReferenceGmlpIdeal.main_arg1) = m ((c.tc : Thread Cert.KernelGmlpIdeal.nD Cert.KernelGmlpIdeal.τ).loc Cert.KernelGmlpIdeal.main_arg1)
      ∧ m' ((c.tc : Thread Cert.ReferenceGmlpIdeal.nD Cert.ReferenceGmlpIdeal.τ).loc Cert.ReferenceGmlpIdeal.main_arg2) = m ((c.tc : Thread Cert.KernelGmlpIdeal.nD Cert.KernelGmlpIdeal.τ).loc Cert.KernelGmlpIdeal.main_arg2)
      ∧ m' ((c.tc : Thread Cert.ReferenceGmlpIdeal.nD Cert.ReferenceGmlpIdeal.τ).loc Cert.ReferenceGmlpIdeal.main_arg3) = m ((c.tc : Thread Cert.KernelGmlpIdeal.nD Cert.KernelGmlpIdeal.τ).loc Cert.KernelGmlpIdeal.main_arg3)
      ∧ m' ((c.tc : Thread Cert.ReferenceGmlpIdeal.nD Cert.ReferenceGmlpIdeal.τ).loc Cert.ReferenceGmlpIdeal.main_arg4) = m ((c.tc : Thread Cert.KernelGmlpIdeal.nD Cert.KernelGmlpIdeal.τ).loc Cert.KernelGmlpIdeal.main_arg4)
      ∧ m' ((c.tc : Thread Cert.ReferenceGmlpIdeal.nD Cert.ReferenceGmlpIdeal.τ).loc Cert.ReferenceGmlpIdeal.main_arg5) = m ((c.tc : Thread Cert.KernelGmlpIdeal.nD Cert.KernelGmlpIdeal.τ).loc Cert.KernelGmlpIdeal.main_arg5)) →
    ∃ (v0 : (c : Dev Cert.KernelGmlpIdeal.nD) → Buf (Elt Ideal) ((c.tc : Thread Cert.KernelGmlpIdeal.nD Cert.KernelGmlpIdeal.τ).loc Cert.KernelGmlpIdeal.main_v5)),
      θ_run (Cert.KernelGmlpIdeal.defs (F := Ideal)) (onTc (τ := Cert.KernelGmlpIdeal.τ) (Cert.KernelGmlpIdeal.main (F := Ideal))) ⟨m, fun _ => 0, g⟩ (fun r => ∀ c : Dev Cert.KernelGmlpIdeal.nD,
          r.2.mem ((c.tc : Thread Cert.KernelGmlpIdeal.nD Cert.KernelGmlpIdeal.τ).loc Cert.KernelGmlpIdeal.main_v5) = v0 c
          ∧ r.2.mem ((c.tc : Thread Cert.KernelGmlpIdeal.nD Cert.KernelGmlpIdeal.τ).loc Cert.KernelGmlpIdeal.main_arg0) = m ((c.tc : Thread Cert.KernelGmlpIdeal.nD Cert.KernelGmlpIdeal.τ).loc Cert.KernelGmlpIdeal.main_arg0)
          ∧ r.2.mem ((c.tc : Thread Cert.KernelGmlpIdeal.nD Cert.KernelGmlpIdeal.τ).loc Cert.KernelGmlpIdeal.main_arg1) = m ((c.tc : Thread Cert.KernelGmlpIdeal.nD Cert.KernelGmlpIdeal.τ).loc Cert.KernelGmlpIdeal.main_arg1)
          ∧ r.2.mem ((c.tc : Thread Cert.KernelGmlpIdeal.nD Cert.KernelGmlpIdeal.τ).loc Cert.KernelGmlpIdeal.main_arg2) = m ((c.tc : Thread Cert.KernelGmlpIdeal.nD Cert.KernelGmlpIdeal.τ).loc Cert.KernelGmlpIdeal.main_arg2)
          ∧ r.2.mem ((c.tc : Thread Cert.KernelGmlpIdeal.nD Cert.KernelGmlpIdeal.τ).loc Cert.KernelGmlpIdeal.main_arg3) = m ((c.tc : Thread Cert.KernelGmlpIdeal.nD Cert.KernelGmlpIdeal.τ).loc Cert.KernelGmlpIdeal.main_arg3)
          ∧ r.2.mem ((c.tc : Thread Cert.KernelGmlpIdeal.nD Cert.KernelGmlpIdeal.τ).loc Cert.KernelGmlpIdeal.main_arg4) = m ((c.tc : Thread Cert.KernelGmlpIdeal.nD Cert.KernelGmlpIdeal.τ).loc Cert.KernelGmlpIdeal.main_arg4)
          ∧ r.2.mem ((c.tc : Thread Cert.KernelGmlpIdeal.nD Cert.KernelGmlpIdeal.τ).loc Cert.KernelGmlpIdeal.main_arg5) = m ((c.tc : Thread Cert.KernelGmlpIdeal.nD Cert.KernelGmlpIdeal.τ).loc Cert.KernelGmlpIdeal.main_arg5))
      ∧ θ_run (Cert.ReferenceGmlpIdeal.defs (F := Ideal)) (onTc (τ := Cert.ReferenceGmlpIdeal.τ) (Cert.ReferenceGmlpIdeal.main (F := Ideal))) ⟨m', fun _ => 0, g'⟩ (fun r => ∀ c : Dev Cert.ReferenceGmlpIdeal.nD,
          r.2.mem ((c.tc : Thread Cert.ReferenceGmlpIdeal.nD Cert.ReferenceGmlpIdeal.τ).loc Cert.ReferenceGmlpIdeal.main_v51) = v0 c
          ∧ r.2.mem ((c.tc : Thread Cert.ReferenceGmlpIdeal.nD Cert.ReferenceGmlpIdeal.τ).loc Cert.ReferenceGmlpIdeal.main_arg0) = m' ((c.tc : Thread Cert.ReferenceGmlpIdeal.nD Cert.ReferenceGmlpIdeal.τ).loc Cert.ReferenceGmlpIdeal.main_arg0)
          ∧ r.2.mem ((c.tc : Thread Cert.ReferenceGmlpIdeal.nD Cert.ReferenceGmlpIdeal.τ).loc Cert.ReferenceGmlpIdeal.main_arg1) = m' ((c.tc : Thread Cert.ReferenceGmlpIdeal.nD Cert.ReferenceGmlpIdeal.τ).loc Cert.ReferenceGmlpIdeal.main_arg1)
          ∧ r.2.mem ((c.tc : Thread Cert.ReferenceGmlpIdeal.nD Cert.ReferenceGmlpIdeal.τ).loc Cert.ReferenceGmlpIdeal.main_arg2) = m' ((c.tc : Thread Cert.ReferenceGmlpIdeal.nD Cert.ReferenceGmlpIdeal.τ).loc Cert.ReferenceGmlpIdeal.main_arg2)
          ∧ r.2.mem ((c.tc : Thread Cert.ReferenceGmlpIdeal.nD Cert.ReferenceGmlpIdeal.τ).loc Cert.ReferenceGmlpIdeal.main_arg3) = m' ((c.tc : Thread Cert.ReferenceGmlpIdeal.nD Cert.ReferenceGmlpIdeal.τ).loc Cert.ReferenceGmlpIdeal.main_arg3)
          ∧ r.2.mem ((c.tc : Thread Cert.ReferenceGmlpIdeal.nD Cert.ReferenceGmlpIdeal.τ).loc Cert.ReferenceGmlpIdeal.main_arg4) = m' ((c.tc : Thread Cert.ReferenceGmlpIdeal.nD Cert.ReferenceGmlpIdeal.τ).loc Cert.ReferenceGmlpIdeal.main_arg4)
          ∧ r.2.mem ((c.tc : Thread Cert.ReferenceGmlpIdeal.nD Cert.ReferenceGmlpIdeal.τ).loc Cert.ReferenceGmlpIdeal.main_arg5) = m' ((c.tc : Thread Cert.ReferenceGmlpIdeal.nD Cert.ReferenceGmlpIdeal.τ).loc Cert.ReferenceGmlpIdeal.main_arg5))

def preserves_KernelRope_KernelRopeIdeal : Prop :=
  True

def algebraic_KernelRopeIdeal_ReferenceRopeIdeal [hKernelRopeIdeal : Cert.KernelRopeIdeal.Facts] [hReferenceRopeIdeal : Cert.ReferenceRopeIdeal.Facts] : Prop :=
  ∀ (m : (ℓ : Loc Cert.KernelRopeIdeal.nD Cert.KernelRopeIdeal.τ Cert.KernelRopeIdeal.sig) → Buf (Elt Ideal) ℓ) (g : Dev Cert.KernelRopeIdeal.nD → PrngReg)
    (m' : (ℓ : Loc Cert.ReferenceRopeIdeal.nD Cert.ReferenceRopeIdeal.τ Cert.ReferenceRopeIdeal.sig) → Buf (Elt Ideal) ℓ) (g' : Dev Cert.ReferenceRopeIdeal.nD → PrngReg), Pre_KernelRopeIdeal m →
    (∀ c : Dev Cert.KernelRopeIdeal.nD,
      m' ((c.tc : Thread Cert.ReferenceRopeIdeal.nD Cert.ReferenceRopeIdeal.τ).loc Cert.ReferenceRopeIdeal.main_arg0) = m ((c.tc : Thread Cert.KernelRopeIdeal.nD Cert.KernelRopeIdeal.τ).loc Cert.KernelRopeIdeal.main_arg0)
      ∧ m' ((c.tc : Thread Cert.ReferenceRopeIdeal.nD Cert.ReferenceRopeIdeal.τ).loc Cert.ReferenceRopeIdeal.main_arg1) = m ((c.tc : Thread Cert.KernelRopeIdeal.nD Cert.KernelRopeIdeal.τ).loc Cert.KernelRopeIdeal.main_arg1)
      ∧ m' ((c.tc : Thread Cert.ReferenceRopeIdeal.nD Cert.ReferenceRopeIdeal.τ).loc Cert.ReferenceRopeIdeal.main_arg2) = m ((c.tc : Thread Cert.KernelRopeIdeal.nD Cert.KernelRopeIdeal.τ).loc Cert.KernelRopeIdeal.main_arg2)) →
    ∃ (v0 : (c : Dev Cert.KernelRopeIdeal.nD) → Buf (Elt Ideal) ((c.tc : Thread Cert.KernelRopeIdeal.nD Cert.KernelRopeIdeal.τ).loc Cert.KernelRopeIdeal.main_v6_0)) (v1 : (c : Dev Cert.KernelRopeIdeal.nD) → Buf (Elt Ideal) ((c.tc : Thread Cert.KernelRopeIdeal.nD Cert.KernelRopeIdeal.τ).loc Cert.KernelRopeIdeal.main_v6_1)),
      θ_run (Cert.KernelRopeIdeal.defs (F := Ideal)) (onTc (τ := Cert.KernelRopeIdeal.τ) (Cert.KernelRopeIdeal.main (F := Ideal))) ⟨m, fun _ => 0, g⟩ (fun r => ∀ c : Dev Cert.KernelRopeIdeal.nD,
          r.2.mem ((c.tc : Thread Cert.KernelRopeIdeal.nD Cert.KernelRopeIdeal.τ).loc Cert.KernelRopeIdeal.main_v6_0) = v0 c
          ∧ r.2.mem ((c.tc : Thread Cert.KernelRopeIdeal.nD Cert.KernelRopeIdeal.τ).loc Cert.KernelRopeIdeal.main_v6_1) = v1 c
          ∧ r.2.mem ((c.tc : Thread Cert.KernelRopeIdeal.nD Cert.KernelRopeIdeal.τ).loc Cert.KernelRopeIdeal.main_arg0) = m ((c.tc : Thread Cert.KernelRopeIdeal.nD Cert.KernelRopeIdeal.τ).loc Cert.KernelRopeIdeal.main_arg0)
          ∧ r.2.mem ((c.tc : Thread Cert.KernelRopeIdeal.nD Cert.KernelRopeIdeal.τ).loc Cert.KernelRopeIdeal.main_arg1) = m ((c.tc : Thread Cert.KernelRopeIdeal.nD Cert.KernelRopeIdeal.τ).loc Cert.KernelRopeIdeal.main_arg1)
          ∧ r.2.mem ((c.tc : Thread Cert.KernelRopeIdeal.nD Cert.KernelRopeIdeal.τ).loc Cert.KernelRopeIdeal.main_arg2) = m ((c.tc : Thread Cert.KernelRopeIdeal.nD Cert.KernelRopeIdeal.τ).loc Cert.KernelRopeIdeal.main_arg2))
      ∧ θ_run (Cert.ReferenceRopeIdeal.defs (F := Ideal)) (onTc (τ := Cert.ReferenceRopeIdeal.τ) (Cert.ReferenceRopeIdeal.main (F := Ideal))) ⟨m', fun _ => 0, g'⟩ (fun r => ∀ c : Dev Cert.ReferenceRopeIdeal.nD,
          r.2.mem ((c.tc : Thread Cert.ReferenceRopeIdeal.nD Cert.ReferenceRopeIdeal.τ).loc Cert.ReferenceRopeIdeal.main_v45) = v0 c
          ∧ r.2.mem ((c.tc : Thread Cert.ReferenceRopeIdeal.nD Cert.ReferenceRopeIdeal.τ).loc Cert.ReferenceRopeIdeal.main_v46) = v1 c
          ∧ r.2.mem ((c.tc : Thread Cert.ReferenceRopeIdeal.nD Cert.ReferenceRopeIdeal.τ).loc Cert.ReferenceRopeIdeal.main_arg0) = m' ((c.tc : Thread Cert.ReferenceRopeIdeal.nD Cert.ReferenceRopeIdeal.τ).loc Cert.ReferenceRopeIdeal.main_arg0)
          ∧ r.2.mem ((c.tc : Thread Cert.ReferenceRopeIdeal.nD Cert.ReferenceRopeIdeal.τ).loc Cert.ReferenceRopeIdeal.main_arg1) = m' ((c.tc : Thread Cert.ReferenceRopeIdeal.nD Cert.ReferenceRopeIdeal.τ).loc Cert.ReferenceRopeIdeal.main_arg1)
          ∧ r.2.mem ((c.tc : Thread Cert.ReferenceRopeIdeal.nD Cert.ReferenceRopeIdeal.τ).loc Cert.ReferenceRopeIdeal.main_arg2) = m' ((c.tc : Thread Cert.ReferenceRopeIdeal.nD Cert.ReferenceRopeIdeal.τ).loc Cert.ReferenceRopeIdeal.main_arg2))

def preserves_KernelAda_KernelAdaIdeal : Prop :=
  True

def algebraic_KernelAdaIdeal_ReferenceAdaIdeal [hKernelAdaIdeal : Cert.KernelAdaIdeal.Facts] [hReferenceAdaIdeal : Cert.ReferenceAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg)
    (m' : (ℓ : Loc Cert.ReferenceAdaIdeal.nD Cert.ReferenceAdaIdeal.τ Cert.ReferenceAdaIdeal.sig) → Buf (Elt Ideal) ℓ) (g' : Dev Cert.ReferenceAdaIdeal.nD → PrngReg), Pre_KernelAdaIdeal m →
    (∀ c : Dev Cert.KernelAdaIdeal.nD,
      m' ((c.tc : Thread Cert.ReferenceAdaIdeal.nD Cert.ReferenceAdaIdeal.τ).loc Cert.ReferenceAdaIdeal.main_arg0) = m ((c.tc : Thread Cert.KernelAdaIdeal.nD Cert.KernelAdaIdeal.τ).loc Cert.KernelAdaIdeal.main_arg0)
      ∧ m' ((c.tc : Thread Cert.ReferenceAdaIdeal.nD Cert.ReferenceAdaIdeal.τ).loc Cert.ReferenceAdaIdeal.main_arg1) = m ((c.tc : Thread Cert.KernelAdaIdeal.nD Cert.KernelAdaIdeal.τ).loc Cert.KernelAdaIdeal.main_arg1)
      ∧ m' ((c.tc : Thread Cert.ReferenceAdaIdeal.nD Cert.ReferenceAdaIdeal.τ).loc Cert.ReferenceAdaIdeal.main_arg2) = m ((c.tc : Thread Cert.KernelAdaIdeal.nD Cert.KernelAdaIdeal.τ).loc Cert.KernelAdaIdeal.main_arg2)) →
    ∃ (v0 : (c : Dev Cert.KernelAdaIdeal.nD) → Buf (Elt Ideal) ((c.tc : Thread Cert.KernelAdaIdeal.nD Cert.KernelAdaIdeal.τ).loc Cert.KernelAdaIdeal.main_v1)),
      θ_run (Cert.KernelAdaIdeal.defs (F := Ideal)) (onTc (τ := Cert.KernelAdaIdeal.τ) (Cert.KernelAdaIdeal.main (F := Ideal))) ⟨m, fun _ => 0, g⟩ (fun r => ∀ c : Dev Cert.KernelAdaIdeal.nD,
          r.2.mem ((c.tc : Thread Cert.KernelAdaIdeal.nD Cert.KernelAdaIdeal.τ).loc Cert.KernelAdaIdeal.main_v1) = v0 c
          ∧ r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
          ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1)
          ∧ r.2.mem ((c.tc : Thread Cert.KernelAdaIdeal.nD Cert.KernelAdaIdeal.τ).loc Cert.KernelAdaIdeal.main_arg2) = m ((c.tc : Thread Cert.KernelAdaIdeal.nD Cert.KernelAdaIdeal.τ).loc Cert.KernelAdaIdeal.main_arg2))
      ∧ θ_run (Cert.ReferenceAdaIdeal.defs (F := Ideal)) (onTc (τ := Cert.ReferenceAdaIdeal.τ) (Cert.ReferenceAdaIdeal.main (F := Ideal))) ⟨m', fun _ => 0, g'⟩ (fun r => ∀ c : Dev Cert.ReferenceAdaIdeal.nD,
          r.2.mem ((c.tc : Thread Cert.ReferenceAdaIdeal.nD Cert.ReferenceAdaIdeal.τ).loc Cert.ReferenceAdaIdeal.main_v40) = v0 c
          ∧ r.2.mem ((c.tc : Thread Cert.ReferenceAdaIdeal.nD Cert.ReferenceAdaIdeal.τ).loc Cert.ReferenceAdaIdeal.main_arg0) = m' ((c.tc : Thread Cert.ReferenceAdaIdeal.nD Cert.ReferenceAdaIdeal.τ).loc Cert.ReferenceAdaIdeal.main_arg0)
          ∧ r.2.mem ((c.tc : Thread Cert.ReferenceAdaIdeal.nD Cert.ReferenceAdaIdeal.τ).loc Cert.ReferenceAdaIdeal.main_arg1) = m' ((c.tc : Thread Cert.ReferenceAdaIdeal.nD Cert.ReferenceAdaIdeal.τ).loc Cert.ReferenceAdaIdeal.main_arg1)
          ∧ r.2.mem ((c.tc : Thread Cert.ReferenceAdaIdeal.nD Cert.ReferenceAdaIdeal.τ).loc Cert.ReferenceAdaIdeal.main_arg2) = m' ((c.tc : Thread Cert.ReferenceAdaIdeal.nD Cert.ReferenceAdaIdeal.τ).loc Cert.ReferenceAdaIdeal.main_arg2))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hKernelUpDw : Cert.KernelUpDw.Facts) (hKernelUpDwIdeal : Cert.KernelUpDwIdeal.Facts) (hReferenceUpDwIdeal : Cert.ReferenceUpDwIdeal.Facts) (hKernelUpDx : Cert.KernelUpDx.Facts) (hKernelUpDxIdeal : Cert.KernelUpDxIdeal.Facts) (hReferenceUpDxIdeal : Cert.ReferenceUpDxIdeal.Facts) (hKernelDown : Cert.KernelDown.Facts) (hKernelDownIdeal : Cert.KernelDownIdeal.Facts) (hReferenceDownIdeal : Cert.ReferenceDownIdeal.Facts) (hKernelDownDw : Cert.KernelDownDw.Facts) (hKernelDownDwIdeal : Cert.KernelDownDwIdeal.Facts) (hReferenceDownDwIdeal : Cert.ReferenceDownDwIdeal.Facts) (hKernelDownDx : Cert.KernelDownDx.Facts) (hKernelDownDxIdeal : Cert.KernelDownDxIdeal.Facts) (hReferenceDownDxIdeal : Cert.ReferenceDownDxIdeal.Facts) (hKernelUpFirst : Cert.KernelUpFirst.Facts) (hKernelUpFirstIdeal : Cert.KernelUpFirstIdeal.Facts) (hReferenceUpFirstIdeal : Cert.ReferenceUpFirstIdeal.Facts) (hKernelUpFirstDw : Cert.KernelUpFirstDw.Facts) (hKernelUpFirstDwIdeal : Cert.KernelUpFirstDwIdeal.Facts) (hReferenceUpFirstDwIdeal : Cert.ReferenceUpFirstDwIdeal.Facts) (hKernelUpFirstDx : Cert.KernelUpFirstDx.Facts) (hKernelUpFirstDxIdeal : Cert.KernelUpFirstDxIdeal.Facts) (hReferenceUpFirstDxIdeal : Cert.ReferenceUpFirstDxIdeal.Facts) (hKernelDownFirst : Cert.KernelDownFirst.Facts) (hKernelDownFirstIdeal : Cert.KernelDownFirstIdeal.Facts) (hReferenceDownFirstIdeal : Cert.ReferenceDownFirstIdeal.Facts) (hKernelDownFirstDw : Cert.KernelDownFirstDw.Facts) (hKernelDownFirstDwIdeal : Cert.KernelDownFirstDwIdeal.Facts) (hReferenceDownFirstDwIdeal : Cert.ReferenceDownFirstDwIdeal.Facts) (hKernelDownFirstDx : Cert.KernelDownFirstDx.Facts) (hKernelDownFirstDxIdeal : Cert.KernelDownFirstDxIdeal.Facts) (hReferenceDownFirstDxIdeal : Cert.ReferenceDownFirstDxIdeal.Facts) (hKernelCmIn : Cert.KernelCmIn.Facts) (hKernelCmInIdeal : Cert.KernelCmInIdeal.Facts) (hReferenceCmInIdeal : Cert.ReferenceCmInIdeal.Facts) (hKernelCmInDw : Cert.KernelCmInDw.Facts) (hKernelCmInDwIdeal : Cert.KernelCmInDwIdeal.Facts) (hReferenceCmInDwIdeal : Cert.ReferenceCmInDwIdeal.Facts) (hKernelCmInDx : Cert.KernelCmInDx.Facts) (hKernelCmInDxIdeal : Cert.KernelCmInDxIdeal.Facts) (hReferenceCmInDxIdeal : Cert.ReferenceCmInDxIdeal.Facts) (hKernelCmOut : Cert.KernelCmOut.Facts) (hKernelCmOutIdeal : Cert.KernelCmOutIdeal.Facts) (hReferenceCmOutIdeal : Cert.ReferenceCmOutIdeal.Facts) (hKernelCmOutDw : Cert.KernelCmOutDw.Facts) (hKernelCmOutDwIdeal : Cert.KernelCmOutDwIdeal.Facts) (hReferenceCmOutDwIdeal : Cert.ReferenceCmOutDwIdeal.Facts) (hKernelCmOutDx : Cert.KernelCmOutDx.Facts) (hKernelCmOutDxIdeal : Cert.KernelCmOutDxIdeal.Facts) (hReferenceCmOutDxIdeal : Cert.ReferenceCmOutDxIdeal.Facts) (hKernelCmInFirst : Cert.KernelCmInFirst.Facts) (hKernelCmInFirstIdeal : Cert.KernelCmInFirstIdeal.Facts) (hReferenceCmInFirstIdeal : Cert.ReferenceCmInFirstIdeal.Facts) (hKernelCmInFirstDw : Cert.KernelCmInFirstDw.Facts) (hKernelCmInFirstDwIdeal : Cert.KernelCmInFirstDwIdeal.Facts) (hReferenceCmInFirstDwIdeal : Cert.ReferenceCmInFirstDwIdeal.Facts) (hKernelCmInFirstDx : Cert.KernelCmInFirstDx.Facts) (hKernelCmInFirstDxIdeal : Cert.KernelCmInFirstDxIdeal.Facts) (hReferenceCmInFirstDxIdeal : Cert.ReferenceCmInFirstDxIdeal.Facts) (hKernelCmOutFirst : Cert.KernelCmOutFirst.Facts) (hKernelCmOutFirstIdeal : Cert.KernelCmOutFirstIdeal.Facts) (hReferenceCmOutFirstIdeal : Cert.ReferenceCmOutFirstIdeal.Facts) (hKernelCmOutFirstDw : Cert.KernelCmOutFirstDw.Facts) (hKernelCmOutFirstDwIdeal : Cert.KernelCmOutFirstDwIdeal.Facts) (hReferenceCmOutFirstDwIdeal : Cert.ReferenceCmOutFirstDwIdeal.Facts) (hKernelCmOutFirstDx : Cert.KernelCmOutFirstDx.Facts) (hKernelCmOutFirstDxIdeal : Cert.KernelCmOutFirstDxIdeal.Facts) (hReferenceCmOutFirstDxIdeal : Cert.ReferenceCmOutFirstDxIdeal.Facts) (hKernelQkv : Cert.KernelQkv.Facts) (hKernelQkvIdeal : Cert.KernelQkvIdeal.Facts) (hReferenceQkvIdeal : Cert.ReferenceQkvIdeal.Facts) (hKernelQkvDw : Cert.KernelQkvDw.Facts) (hKernelQkvDwIdeal : Cert.KernelQkvDwIdeal.Facts) (hReferenceQkvDwIdeal : Cert.ReferenceQkvDwIdeal.Facts) (hKernelQkvDx : Cert.KernelQkvDx.Facts) (hKernelQkvDxIdeal : Cert.KernelQkvDxIdeal.Facts) (hReferenceQkvDxIdeal : Cert.ReferenceQkvDxIdeal.Facts) (hKernelGmIn : Cert.KernelGmIn.Facts) (hKernelGmInIdeal : Cert.KernelGmInIdeal.Facts) (hReferenceGmInIdeal : Cert.ReferenceGmInIdeal.Facts) (hKernelGmInDw : Cert.KernelGmInDw.Facts) (hKernelGmInDwIdeal : Cert.KernelGmInDwIdeal.Facts) (hReferenceGmInDwIdeal : Cert.ReferenceGmInDwIdeal.Facts) (hKernelGmInDx : Cert.KernelGmInDx.Facts) (hKernelGmInDxIdeal : Cert.KernelGmInDxIdeal.Facts) (hReferenceGmInDxIdeal : Cert.ReferenceGmInDxIdeal.Facts) (hKernelGmOut : Cert.KernelGmOut.Facts) (hKernelGmOutIdeal : Cert.KernelGmOutIdeal.Facts) (hReferenceGmOutIdeal : Cert.ReferenceGmOutIdeal.Facts) (hKernelGmOutDw : Cert.KernelGmOutDw.Facts) (hKernelGmOutDwIdeal : Cert.KernelGmOutDwIdeal.Facts) (hReferenceGmOutDwIdeal : Cert.ReferenceGmOutDwIdeal.Facts) (hKernelGmOutDx : Cert.KernelGmOutDx.Facts) (hKernelGmOutDxIdeal : Cert.KernelGmOutDxIdeal.Facts) (hReferenceGmOutDxIdeal : Cert.ReferenceGmOutDxIdeal.Facts) (hKernelAttnOutDx : Cert.KernelAttnOutDx.Facts) (hKernelAttnOutDxIdeal : Cert.KernelAttnOutDxIdeal.Facts) (hReferenceAttnOutDxIdeal : Cert.ReferenceAttnOutDxIdeal.Facts) (hKernelPre : Cert.KernelPre.Facts) (hKernelPreIdeal : Cert.KernelPreIdeal.Facts) (hReferencePreIdeal : Cert.ReferencePreIdeal.Facts) (hKernelPost : Cert.KernelPost.Facts) (hKernelPostIdeal : Cert.KernelPostIdeal.Facts) (hReferencePostIdeal : Cert.ReferencePostIdeal.Facts) (hKernelLnSilu : Cert.KernelLnSilu.Facts) (hKernelLnSiluIdeal : Cert.KernelLnSiluIdeal.Facts) (hReferenceLnSiluIdeal : Cert.ReferenceLnSiluIdeal.Facts) (hKernelGmlp : Cert.KernelGmlp.Facts) (hKernelGmlpIdeal : Cert.KernelGmlpIdeal.Facts) (hReferenceGmlpIdeal : Cert.ReferenceGmlpIdeal.Facts) (hKernelRope : Cert.KernelRope.Facts) (hKernelRopeIdeal : Cert.KernelRopeIdeal.Facts) (hReferenceRopeIdeal : Cert.ReferenceRopeIdeal.Facts) (hKernelAda : Cert.KernelAda.Facts) (hKernelAdaIdeal : Cert.KernelAdaIdeal.Facts) (hReferenceAdaIdeal : Cert.ReferenceAdaIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelUpDw (hKernelUpDw := hKernelUpDw)
    ∧ quiescent_KernelUpDwIdeal (hKernelUpDwIdeal := hKernelUpDwIdeal)
    ∧ quiescent_ReferenceUpDwIdeal (hReferenceUpDwIdeal := hReferenceUpDwIdeal)
    ∧ quiescent_KernelUpDx (hKernelUpDx := hKernelUpDx)
    ∧ quiescent_KernelUpDxIdeal (hKernelUpDxIdeal := hKernelUpDxIdeal)
    ∧ quiescent_ReferenceUpDxIdeal (hReferenceUpDxIdeal := hReferenceUpDxIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelDownDw (hKernelDownDw := hKernelDownDw)
    ∧ quiescent_KernelDownDwIdeal (hKernelDownDwIdeal := hKernelDownDwIdeal)
    ∧ quiescent_ReferenceDownDwIdeal (hReferenceDownDwIdeal := hReferenceDownDwIdeal)
    ∧ quiescent_KernelDownDx (hKernelDownDx := hKernelDownDx)
    ∧ quiescent_KernelDownDxIdeal (hKernelDownDxIdeal := hKernelDownDxIdeal)
    ∧ quiescent_ReferenceDownDxIdeal (hReferenceDownDxIdeal := hReferenceDownDxIdeal)
    ∧ quiescent_KernelUpFirst (hKernelUpFirst := hKernelUpFirst)
    ∧ quiescent_KernelUpFirstIdeal (hKernelUpFirstIdeal := hKernelUpFirstIdeal)
    ∧ quiescent_ReferenceUpFirstIdeal (hReferenceUpFirstIdeal := hReferenceUpFirstIdeal)
    ∧ quiescent_KernelUpFirstDw (hKernelUpFirstDw := hKernelUpFirstDw)
    ∧ quiescent_KernelUpFirstDwIdeal (hKernelUpFirstDwIdeal := hKernelUpFirstDwIdeal)
    ∧ quiescent_ReferenceUpFirstDwIdeal (hReferenceUpFirstDwIdeal := hReferenceUpFirstDwIdeal)
    ∧ quiescent_KernelUpFirstDx (hKernelUpFirstDx := hKernelUpFirstDx)
    ∧ quiescent_KernelUpFirstDxIdeal (hKernelUpFirstDxIdeal := hKernelUpFirstDxIdeal)
    ∧ quiescent_ReferenceUpFirstDxIdeal (hReferenceUpFirstDxIdeal := hReferenceUpFirstDxIdeal)
    ∧ quiescent_KernelDownFirst (hKernelDownFirst := hKernelDownFirst)
    ∧ quiescent_KernelDownFirstIdeal (hKernelDownFirstIdeal := hKernelDownFirstIdeal)
    ∧ quiescent_ReferenceDownFirstIdeal (hReferenceDownFirstIdeal := hReferenceDownFirstIdeal)
    ∧ quiescent_KernelDownFirstDw (hKernelDownFirstDw := hKernelDownFirstDw)
    ∧ quiescent_KernelDownFirstDwIdeal (hKernelDownFirstDwIdeal := hKernelDownFirstDwIdeal)
    ∧ quiescent_ReferenceDownFirstDwIdeal (hReferenceDownFirstDwIdeal := hReferenceDownFirstDwIdeal)
    ∧ quiescent_KernelDownFirstDx (hKernelDownFirstDx := hKernelDownFirstDx)
    ∧ quiescent_KernelDownFirstDxIdeal (hKernelDownFirstDxIdeal := hKernelDownFirstDxIdeal)
    ∧ quiescent_ReferenceDownFirstDxIdeal (hReferenceDownFirstDxIdeal := hReferenceDownFirstDxIdeal)
    ∧ quiescent_KernelCmIn (hKernelCmIn := hKernelCmIn)
    ∧ quiescent_KernelCmInIdeal (hKernelCmInIdeal := hKernelCmInIdeal)
    ∧ quiescent_ReferenceCmInIdeal (hReferenceCmInIdeal := hReferenceCmInIdeal)
    ∧ quiescent_KernelCmInDw (hKernelCmInDw := hKernelCmInDw)
    ∧ quiescent_KernelCmInDwIdeal (hKernelCmInDwIdeal := hKernelCmInDwIdeal)
    ∧ quiescent_ReferenceCmInDwIdeal (hReferenceCmInDwIdeal := hReferenceCmInDwIdeal)
    ∧ quiescent_KernelCmInDx (hKernelCmInDx := hKernelCmInDx)
    ∧ quiescent_KernelCmInDxIdeal (hKernelCmInDxIdeal := hKernelCmInDxIdeal)
    ∧ quiescent_ReferenceCmInDxIdeal (hReferenceCmInDxIdeal := hReferenceCmInDxIdeal)
    ∧ quiescent_KernelCmOut (hKernelCmOut := hKernelCmOut)
    ∧ quiescent_KernelCmOutIdeal (hKernelCmOutIdeal := hKernelCmOutIdeal)
    ∧ quiescent_ReferenceCmOutIdeal (hReferenceCmOutIdeal := hReferenceCmOutIdeal)
    ∧ quiescent_KernelCmOutDw (hKernelCmOutDw := hKernelCmOutDw)
    ∧ quiescent_KernelCmOutDwIdeal (hKernelCmOutDwIdeal := hKernelCmOutDwIdeal)
    ∧ quiescent_ReferenceCmOutDwIdeal (hReferenceCmOutDwIdeal := hReferenceCmOutDwIdeal)
    ∧ quiescent_KernelCmOutDx (hKernelCmOutDx := hKernelCmOutDx)
    ∧ quiescent_KernelCmOutDxIdeal (hKernelCmOutDxIdeal := hKernelCmOutDxIdeal)
    ∧ quiescent_ReferenceCmOutDxIdeal (hReferenceCmOutDxIdeal := hReferenceCmOutDxIdeal)
    ∧ quiescent_KernelCmInFirst (hKernelCmInFirst := hKernelCmInFirst)
    ∧ quiescent_KernelCmInFirstIdeal (hKernelCmInFirstIdeal := hKernelCmInFirstIdeal)
    ∧ quiescent_ReferenceCmInFirstIdeal (hReferenceCmInFirstIdeal := hReferenceCmInFirstIdeal)
    ∧ quiescent_KernelCmInFirstDw (hKernelCmInFirstDw := hKernelCmInFirstDw)
    ∧ quiescent_KernelCmInFirstDwIdeal (hKernelCmInFirstDwIdeal := hKernelCmInFirstDwIdeal)
    ∧ quiescent_ReferenceCmInFirstDwIdeal (hReferenceCmInFirstDwIdeal := hReferenceCmInFirstDwIdeal)
    ∧ quiescent_KernelCmInFirstDx (hKernelCmInFirstDx := hKernelCmInFirstDx)
    ∧ quiescent_KernelCmInFirstDxIdeal (hKernelCmInFirstDxIdeal := hKernelCmInFirstDxIdeal)
    ∧ quiescent_ReferenceCmInFirstDxIdeal (hReferenceCmInFirstDxIdeal := hReferenceCmInFirstDxIdeal)
    ∧ quiescent_KernelCmOutFirst (hKernelCmOutFirst := hKernelCmOutFirst)
    ∧ quiescent_KernelCmOutFirstIdeal (hKernelCmOutFirstIdeal := hKernelCmOutFirstIdeal)
    ∧ quiescent_ReferenceCmOutFirstIdeal (hReferenceCmOutFirstIdeal := hReferenceCmOutFirstIdeal)
    ∧ quiescent_KernelCmOutFirstDw (hKernelCmOutFirstDw := hKernelCmOutFirstDw)
    ∧ quiescent_KernelCmOutFirstDwIdeal (hKernelCmOutFirstDwIdeal := hKernelCmOutFirstDwIdeal)
    ∧ quiescent_ReferenceCmOutFirstDwIdeal (hReferenceCmOutFirstDwIdeal := hReferenceCmOutFirstDwIdeal)
    ∧ quiescent_KernelCmOutFirstDx (hKernelCmOutFirstDx := hKernelCmOutFirstDx)
    ∧ quiescent_KernelCmOutFirstDxIdeal (hKernelCmOutFirstDxIdeal := hKernelCmOutFirstDxIdeal)
    ∧ quiescent_ReferenceCmOutFirstDxIdeal (hReferenceCmOutFirstDxIdeal := hReferenceCmOutFirstDxIdeal)
    ∧ quiescent_KernelQkv (hKernelQkv := hKernelQkv)
    ∧ quiescent_KernelQkvIdeal (hKernelQkvIdeal := hKernelQkvIdeal)
    ∧ quiescent_ReferenceQkvIdeal (hReferenceQkvIdeal := hReferenceQkvIdeal)
    ∧ quiescent_KernelQkvDw (hKernelQkvDw := hKernelQkvDw)
    ∧ quiescent_KernelQkvDwIdeal (hKernelQkvDwIdeal := hKernelQkvDwIdeal)
    ∧ quiescent_ReferenceQkvDwIdeal (hReferenceQkvDwIdeal := hReferenceQkvDwIdeal)
    ∧ quiescent_KernelQkvDx (hKernelQkvDx := hKernelQkvDx)
    ∧ quiescent_KernelQkvDxIdeal (hKernelQkvDxIdeal := hKernelQkvDxIdeal)
    ∧ quiescent_ReferenceQkvDxIdeal (hReferenceQkvDxIdeal := hReferenceQkvDxIdeal)
    ∧ quiescent_KernelGmIn (hKernelGmIn := hKernelGmIn)
    ∧ quiescent_KernelGmInIdeal (hKernelGmInIdeal := hKernelGmInIdeal)
    ∧ quiescent_ReferenceGmInIdeal (hReferenceGmInIdeal := hReferenceGmInIdeal)
    ∧ quiescent_KernelGmInDw (hKernelGmInDw := hKernelGmInDw)
    ∧ quiescent_KernelGmInDwIdeal (hKernelGmInDwIdeal := hKernelGmInDwIdeal)
    ∧ quiescent_ReferenceGmInDwIdeal (hReferenceGmInDwIdeal := hReferenceGmInDwIdeal)
    ∧ quiescent_KernelGmInDx (hKernelGmInDx := hKernelGmInDx)
    ∧ quiescent_KernelGmInDxIdeal (hKernelGmInDxIdeal := hKernelGmInDxIdeal)
    ∧ quiescent_ReferenceGmInDxIdeal (hReferenceGmInDxIdeal := hReferenceGmInDxIdeal)
    ∧ quiescent_KernelGmOut (hKernelGmOut := hKernelGmOut)
    ∧ quiescent_KernelGmOutIdeal (hKernelGmOutIdeal := hKernelGmOutIdeal)
    ∧ quiescent_ReferenceGmOutIdeal (hReferenceGmOutIdeal := hReferenceGmOutIdeal)
    ∧ quiescent_KernelGmOutDw (hKernelGmOutDw := hKernelGmOutDw)
    ∧ quiescent_KernelGmOutDwIdeal (hKernelGmOutDwIdeal := hKernelGmOutDwIdeal)
    ∧ quiescent_ReferenceGmOutDwIdeal (hReferenceGmOutDwIdeal := hReferenceGmOutDwIdeal)
    ∧ quiescent_KernelGmOutDx (hKernelGmOutDx := hKernelGmOutDx)
    ∧ quiescent_KernelGmOutDxIdeal (hKernelGmOutDxIdeal := hKernelGmOutDxIdeal)
    ∧ quiescent_ReferenceGmOutDxIdeal (hReferenceGmOutDxIdeal := hReferenceGmOutDxIdeal)
    ∧ quiescent_KernelAttnOutDx (hKernelAttnOutDx := hKernelAttnOutDx)
    ∧ quiescent_KernelAttnOutDxIdeal (hKernelAttnOutDxIdeal := hKernelAttnOutDxIdeal)
    ∧ quiescent_ReferenceAttnOutDxIdeal (hReferenceAttnOutDxIdeal := hReferenceAttnOutDxIdeal)
    ∧ quiescent_KernelPre (hKernelPre := hKernelPre)
    ∧ quiescent_KernelPreIdeal (hKernelPreIdeal := hKernelPreIdeal)
    ∧ quiescent_ReferencePreIdeal (hReferencePreIdeal := hReferencePreIdeal)
    ∧ quiescent_KernelPost (hKernelPost := hKernelPost)
    ∧ quiescent_KernelPostIdeal (hKernelPostIdeal := hKernelPostIdeal)
    ∧ quiescent_ReferencePostIdeal (hReferencePostIdeal := hReferencePostIdeal)
    ∧ quiescent_KernelLnSilu (hKernelLnSilu := hKernelLnSilu)
    ∧ quiescent_KernelLnSiluIdeal (hKernelLnSiluIdeal := hKernelLnSiluIdeal)
    ∧ quiescent_ReferenceLnSiluIdeal (hReferenceLnSiluIdeal := hReferenceLnSiluIdeal)
    ∧ quiescent_KernelGmlp (hKernelGmlp := hKernelGmlp)
    ∧ quiescent_KernelGmlpIdeal (hKernelGmlpIdeal := hKernelGmlpIdeal)
    ∧ quiescent_ReferenceGmlpIdeal (hReferenceGmlpIdeal := hReferenceGmlpIdeal)
    ∧ quiescent_KernelRope (hKernelRope := hKernelRope)
    ∧ quiescent_KernelRopeIdeal (hKernelRopeIdeal := hKernelRopeIdeal)
    ∧ quiescent_ReferenceRopeIdeal (hReferenceRopeIdeal := hReferenceRopeIdeal)
    ∧ quiescent_KernelAda (hKernelAda := hKernelAda)
    ∧ quiescent_KernelAdaIdeal (hKernelAdaIdeal := hKernelAdaIdeal)
    ∧ quiescent_ReferenceAdaIdeal (hReferenceAdaIdeal := hReferenceAdaIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelUp_KernelUpIdeal
    ∧ algebraic_KernelUpIdeal_ReferenceUpIdeal (hKernelUpIdeal := hKernelUpIdeal) (hReferenceUpIdeal := hReferenceUpIdeal)
    ∧ preserves_KernelUpDw_KernelUpDwIdeal
    ∧ algebraic_KernelUpDwIdeal_ReferenceUpDwIdeal (hKernelUpDwIdeal := hKernelUpDwIdeal) (hReferenceUpDwIdeal := hReferenceUpDwIdeal)
    ∧ preserves_KernelUpDx_KernelUpDxIdeal
    ∧ algebraic_KernelUpDxIdeal_ReferenceUpDxIdeal (hKernelUpDxIdeal := hKernelUpDxIdeal) (hReferenceUpDxIdeal := hReferenceUpDxIdeal)
    ∧ preserves_KernelDown_KernelDownIdeal
    ∧ algebraic_KernelDownIdeal_ReferenceDownIdeal (hKernelDownIdeal := hKernelDownIdeal) (hReferenceDownIdeal := hReferenceDownIdeal)
    ∧ preserves_KernelDownDw_KernelDownDwIdeal
    ∧ algebraic_KernelDownDwIdeal_ReferenceDownDwIdeal (hKernelDownDwIdeal := hKernelDownDwIdeal) (hReferenceDownDwIdeal := hReferenceDownDwIdeal)
    ∧ preserves_KernelDownDx_KernelDownDxIdeal
    ∧ algebraic_KernelDownDxIdeal_ReferenceDownDxIdeal (hKernelDownDxIdeal := hKernelDownDxIdeal) (hReferenceDownDxIdeal := hReferenceDownDxIdeal)
    ∧ preserves_KernelUpFirst_KernelUpFirstIdeal
    ∧ algebraic_KernelUpFirstIdeal_ReferenceUpFirstIdeal (hKernelUpFirstIdeal := hKernelUpFirstIdeal) (hReferenceUpFirstIdeal := hReferenceUpFirstIdeal)
    ∧ preserves_KernelUpFirstDw_KernelUpFirstDwIdeal
    ∧ algebraic_KernelUpFirstDwIdeal_ReferenceUpFirstDwIdeal (hKernelUpFirstDwIdeal := hKernelUpFirstDwIdeal) (hReferenceUpFirstDwIdeal := hReferenceUpFirstDwIdeal)
    ∧ preserves_KernelUpFirstDx_KernelUpFirstDxIdeal
    ∧ algebraic_KernelUpFirstDxIdeal_ReferenceUpFirstDxIdeal (hKernelUpFirstDxIdeal := hKernelUpFirstDxIdeal) (hReferenceUpFirstDxIdeal := hReferenceUpFirstDxIdeal)
    ∧ preserves_KernelDownFirst_KernelDownFirstIdeal
    ∧ algebraic_KernelDownFirstIdeal_ReferenceDownFirstIdeal (hKernelDownFirstIdeal := hKernelDownFirstIdeal) (hReferenceDownFirstIdeal := hReferenceDownFirstIdeal)
    ∧ preserves_KernelDownFirstDw_KernelDownFirstDwIdeal
    ∧ algebraic_KernelDownFirstDwIdeal_ReferenceDownFirstDwIdeal (hKernelDownFirstDwIdeal := hKernelDownFirstDwIdeal) (hReferenceDownFirstDwIdeal := hReferenceDownFirstDwIdeal)
    ∧ preserves_KernelDownFirstDx_KernelDownFirstDxIdeal
    ∧ algebraic_KernelDownFirstDxIdeal_ReferenceDownFirstDxIdeal (hKernelDownFirstDxIdeal := hKernelDownFirstDxIdeal) (hReferenceDownFirstDxIdeal := hReferenceDownFirstDxIdeal)
    ∧ preserves_KernelCmIn_KernelCmInIdeal
    ∧ algebraic_KernelCmInIdeal_ReferenceCmInIdeal (hKernelCmInIdeal := hKernelCmInIdeal) (hReferenceCmInIdeal := hReferenceCmInIdeal)
    ∧ preserves_KernelCmInDw_KernelCmInDwIdeal
    ∧ algebraic_KernelCmInDwIdeal_ReferenceCmInDwIdeal (hKernelCmInDwIdeal := hKernelCmInDwIdeal) (hReferenceCmInDwIdeal := hReferenceCmInDwIdeal)
    ∧ preserves_KernelCmInDx_KernelCmInDxIdeal
    ∧ algebraic_KernelCmInDxIdeal_ReferenceCmInDxIdeal (hKernelCmInDxIdeal := hKernelCmInDxIdeal) (hReferenceCmInDxIdeal := hReferenceCmInDxIdeal)
    ∧ preserves_KernelCmOut_KernelCmOutIdeal
    ∧ algebraic_KernelCmOutIdeal_ReferenceCmOutIdeal (hKernelCmOutIdeal := hKernelCmOutIdeal) (hReferenceCmOutIdeal := hReferenceCmOutIdeal)
    ∧ preserves_KernelCmOutDw_KernelCmOutDwIdeal
    ∧ algebraic_KernelCmOutDwIdeal_ReferenceCmOutDwIdeal (hKernelCmOutDwIdeal := hKernelCmOutDwIdeal) (hReferenceCmOutDwIdeal := hReferenceCmOutDwIdeal)
    ∧ preserves_KernelCmOutDx_KernelCmOutDxIdeal
    ∧ algebraic_KernelCmOutDxIdeal_ReferenceCmOutDxIdeal (hKernelCmOutDxIdeal := hKernelCmOutDxIdeal) (hReferenceCmOutDxIdeal := hReferenceCmOutDxIdeal)
    ∧ preserves_KernelCmInFirst_KernelCmInFirstIdeal
    ∧ algebraic_KernelCmInFirstIdeal_ReferenceCmInFirstIdeal (hKernelCmInFirstIdeal := hKernelCmInFirstIdeal) (hReferenceCmInFirstIdeal := hReferenceCmInFirstIdeal)
    ∧ preserves_KernelCmInFirstDw_KernelCmInFirstDwIdeal
    ∧ algebraic_KernelCmInFirstDwIdeal_ReferenceCmInFirstDwIdeal (hKernelCmInFirstDwIdeal := hKernelCmInFirstDwIdeal) (hReferenceCmInFirstDwIdeal := hReferenceCmInFirstDwIdeal)
    ∧ preserves_KernelCmInFirstDx_KernelCmInFirstDxIdeal
    ∧ algebraic_KernelCmInFirstDxIdeal_ReferenceCmInFirstDxIdeal (hKernelCmInFirstDxIdeal := hKernelCmInFirstDxIdeal) (hReferenceCmInFirstDxIdeal := hReferenceCmInFirstDxIdeal)
    ∧ preserves_KernelCmOutFirst_KernelCmOutFirstIdeal
    ∧ algebraic_KernelCmOutFirstIdeal_ReferenceCmOutFirstIdeal (hKernelCmOutFirstIdeal := hKernelCmOutFirstIdeal) (hReferenceCmOutFirstIdeal := hReferenceCmOutFirstIdeal)
    ∧ preserves_KernelCmOutFirstDw_KernelCmOutFirstDwIdeal
    ∧ algebraic_KernelCmOutFirstDwIdeal_ReferenceCmOutFirstDwIdeal (hKernelCmOutFirstDwIdeal := hKernelCmOutFirstDwIdeal) (hReferenceCmOutFirstDwIdeal := hReferenceCmOutFirstDwIdeal)
    ∧ preserves_KernelCmOutFirstDx_KernelCmOutFirstDxIdeal
    ∧ algebraic_KernelCmOutFirstDxIdeal_ReferenceCmOutFirstDxIdeal (hKernelCmOutFirstDxIdeal := hKernelCmOutFirstDxIdeal) (hReferenceCmOutFirstDxIdeal := hReferenceCmOutFirstDxIdeal)
    ∧ preserves_KernelQkv_KernelQkvIdeal
    ∧ algebraic_KernelQkvIdeal_ReferenceQkvIdeal (hKernelQkvIdeal := hKernelQkvIdeal) (hReferenceQkvIdeal := hReferenceQkvIdeal)
    ∧ preserves_KernelQkvDw_KernelQkvDwIdeal
    ∧ algebraic_KernelQkvDwIdeal_ReferenceQkvDwIdeal (hKernelQkvDwIdeal := hKernelQkvDwIdeal) (hReferenceQkvDwIdeal := hReferenceQkvDwIdeal)
    ∧ preserves_KernelQkvDx_KernelQkvDxIdeal
    ∧ algebraic_KernelQkvDxIdeal_ReferenceQkvDxIdeal (hKernelQkvDxIdeal := hKernelQkvDxIdeal) (hReferenceQkvDxIdeal := hReferenceQkvDxIdeal)
    ∧ preserves_KernelGmIn_KernelGmInIdeal
    ∧ algebraic_KernelGmInIdeal_ReferenceGmInIdeal (hKernelGmInIdeal := hKernelGmInIdeal) (hReferenceGmInIdeal := hReferenceGmInIdeal)
    ∧ preserves_KernelGmInDw_KernelGmInDwIdeal
    ∧ algebraic_KernelGmInDwIdeal_ReferenceGmInDwIdeal (hKernelGmInDwIdeal := hKernelGmInDwIdeal) (hReferenceGmInDwIdeal := hReferenceGmInDwIdeal)
    ∧ preserves_KernelGmInDx_KernelGmInDxIdeal
    ∧ algebraic_KernelGmInDxIdeal_ReferenceGmInDxIdeal (hKernelGmInDxIdeal := hKernelGmInDxIdeal) (hReferenceGmInDxIdeal := hReferenceGmInDxIdeal)
    ∧ preserves_KernelGmOut_KernelGmOutIdeal
    ∧ algebraic_KernelGmOutIdeal_ReferenceGmOutIdeal (hKernelGmOutIdeal := hKernelGmOutIdeal) (hReferenceGmOutIdeal := hReferenceGmOutIdeal)
    ∧ preserves_KernelGmOutDw_KernelGmOutDwIdeal
    ∧ algebraic_KernelGmOutDwIdeal_ReferenceGmOutDwIdeal (hKernelGmOutDwIdeal := hKernelGmOutDwIdeal) (hReferenceGmOutDwIdeal := hReferenceGmOutDwIdeal)
    ∧ preserves_KernelGmOutDx_KernelGmOutDxIdeal
    ∧ algebraic_KernelGmOutDxIdeal_ReferenceGmOutDxIdeal (hKernelGmOutDxIdeal := hKernelGmOutDxIdeal) (hReferenceGmOutDxIdeal := hReferenceGmOutDxIdeal)
    ∧ preserves_KernelAttnOutDx_KernelAttnOutDxIdeal
    ∧ algebraic_KernelAttnOutDxIdeal_ReferenceAttnOutDxIdeal (hKernelAttnOutDxIdeal := hKernelAttnOutDxIdeal) (hReferenceAttnOutDxIdeal := hReferenceAttnOutDxIdeal)
    ∧ preserves_KernelPre_KernelPreIdeal
    ∧ algebraic_KernelPreIdeal_ReferencePreIdeal (hKernelPreIdeal := hKernelPreIdeal) (hReferencePreIdeal := hReferencePreIdeal)
    ∧ preserves_KernelPost_KernelPostIdeal
    ∧ algebraic_KernelPostIdeal_ReferencePostIdeal (hKernelPostIdeal := hKernelPostIdeal) (hReferencePostIdeal := hReferencePostIdeal)
    ∧ preserves_KernelLnSilu_KernelLnSiluIdeal
    ∧ algebraic_KernelLnSiluIdeal_ReferenceLnSiluIdeal (hKernelLnSiluIdeal := hKernelLnSiluIdeal) (hReferenceLnSiluIdeal := hReferenceLnSiluIdeal)
    ∧ preserves_KernelGmlp_KernelGmlpIdeal
    ∧ algebraic_KernelGmlpIdeal_ReferenceGmlpIdeal (hKernelGmlpIdeal := hKernelGmlpIdeal) (hReferenceGmlpIdeal := hReferenceGmlpIdeal)
    ∧ preserves_KernelRope_KernelRopeIdeal
    ∧ algebraic_KernelRopeIdeal_ReferenceRopeIdeal (hKernelRopeIdeal := hKernelRopeIdeal) (hReferenceRopeIdeal := hReferenceRopeIdeal)
    ∧ preserves_KernelAda_KernelAdaIdeal
    ∧ algebraic_KernelAdaIdeal_ReferenceAdaIdeal (hKernelAdaIdeal := hKernelAdaIdeal) (hReferenceAdaIdeal := hReferenceAdaIdeal)
-- ==== Pre_finite.lean ====
abbrev S2048x1024 : Shape := ⟨2, ![2048, 1024]⟩
abbrev S2048x256 : Shape := ⟨2, ![2048, 256]⟩
abbrev S256x256 : Shape := ⟨2, ![256, 256]⟩
abbrev S16 : Shape := ⟨1, ![16]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  bcast_S_S2048x256 : S_.BroadcastsInDim S2048x256 (![] : Fin 0 → Fin S2048x256.rank)
  bcast_S_S256x256 : S_.BroadcastsInDim S256x256 (![] : Fin 0 → Fin S256x256.rank)
  bcast_S_S16 : S_.BroadcastsInDim S16 (![] : Fin 0 → Fin S16.rank)

variable [Facts]

def fn_part1 {F : FTy → Type} [FloatOps F] (main_arg5 : FVec F S16 .f32) (main_arg6 : FVec F S2048x1024 .bf16) (main_v3 : IVec S2048x1024 1) (main_v7 : IVec S2048x256 1) (main_v11 : IVec S2048x256 1) (main_v15 : IVec S256x256 1) (main_v17 : FVec F S256x256 .f32) (main_v18 : FVec F S256x256 .f32) : IVec S2048x1024 1 × IVec S2048x256 1 × IVec S2048x256 1 × IVec S256x256 1 × IVec S256x256 1 × IVec S16 1 × IVec S2048x1024 1 :=
  let main_v19 : IVec S256x256 1 := cmpf .olt main_v17 main_v18
  let main_v20 : FVec F S16 .f32 := Host.absf main_arg5
  let main_cst_4 : FVec F S_ .f32 := constant S_ .f32 0x7F800000#32
  let main_v21 : FVec F S16 .f32 := broadcastInDim S16 ![] bcast_S_S16 main_cst_4
  let main_v22 : IVec S16 1 := cmpf .olt main_v20 main_v21
  let main_v23 : FVec F S2048x1024 .f32 := (extf .f32 · bitsLt_bf16_f32) main_arg6
  let main_v24 : FVec F S2048x1024 .f32 := Host.absf main_v23
  let main_cst_5 : FVec F S_ .f32 := constant S_ .f32 0x7F800000#32
  let main_v25 : FVec F S2048x1024 .f32 := broadcastInDim S2048x1024 ![] bcast_S_S2048x1024 main_cst_5
  let main_v26 : IVec S2048x1024 1 := cmpf .olt main_v24 main_v25
  (main_v3, main_v7, main_v11, main_v15, main_v19, main_v22, main_v26)

def fn {F : FTy → Type} [FloatOps F] (main_arg0 : FVec F S2048x1024 .bf16) (main_arg1 : FVec F S2048x256 .bf16) (main_arg2 : FVec F S2048x256 .bf16) (main_arg3 : FVec F S256x256 .bf16) (main_arg4 : FVec F S256x256 .bf16) (main_arg5 : FVec F S16 .f32) (main_arg6 : FVec F S2048x1024 .bf16) : IVec S2048x1024 1 × IVec S2048x256 1 × IVec S2048x256 1 × IVec S256x256 1 × IVec S256x256 1 × IVec S16 1 × IVec S2048x1024 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_v4 : FVec F S2048x256 .f32 := (extf .f32 · bitsLt_bf16_f32) main_arg1
  let main_v5 : FVec F S2048x256 .f32 := Host.absf main_v4
  let main_cst_0 : FVec F S_ .f32 := constant S_ .f32 0x7F800000#32
  let main_v6 : FVec F S2048x256 .f32 := broadcastInDim S2048x256 ![] bcast_S_S2048x256 main_cst_0
  let main_v7 : IVec S2048x256 1 := cmpf .olt main_v5 main_v6
  let main_v8 : FVec F S2048x256 .f32 := (extf .f32 · bitsLt_bf16_f32) main_arg2
  let main_v9 : FVec F S2048x256 .f32 := Host.absf main_v8
  let main_cst_1 : FVec F S_ .f32 := constant S_ .f32 0x7F800000#32
  let main_v10 : FVec F S2048x256 .f32 := broadcastInDim S2048x256 ![] bcast_S_S2048x256 main_cst_1
  let main_v11 : IVec S2048x256 1 := cmpf .olt main_v9 main_v10
  let main_v12 : FVec F S256x256 .f32 := (extf .f32 · bitsLt_bf16_f32) main_arg3
  let main_v13 : FVec F S256x256 .f32 := Host.absf main_v12
  let main_cst_2 : FVec F S_ .f32 := constant S_ .f32 0x7F800000#32
  let main_v14 : FVec F S256x256 .f32 := broadcastInDim S256x256 ![] bcast_S_S256x256 main_cst_2
  let main_v15 : IVec S256x256 1 := cmpf .olt main_v13 main_v14
  let main_v16 : FVec F S256x256 .f32 := (extf .f32 · bitsLt_bf16_f32) main_arg4
  let main_v17 : FVec F S256x256 .f32 := Host.absf main_v16
  let main_cst_3 : FVec F S_ .f32 := constant S_ .f32 0x7F800000#32
  let main_v18 : FVec F S256x256 .f32 := broadcastInDim S256x256 ![] bcast_S_S256x256 main_cst_3
  fn_part1 (F := F) main_arg5 main_arg6 main_v3 main_v7 main_v11 main_v15 main_v17 main_v18
-- ==== Kernel.lean ====
abbrev S2048x1024 : Shape := ⟨2, ![2048, 1024]⟩
abbrev S2048x256 : Shape := ⟨2, ![2048, 256]⟩
abbrev S256x256 : Shape := ⟨2, ![256, 256]⟩
abbrev S16 : Shape := ⟨1, ![16]⟩
abbrev S2048x16x64 : Shape := ⟨3, ![2048, 16, 64]⟩
abbrev S16x2048x64 : Shape := ⟨3, ![16, 2048, 64]⟩
abbrev S4x4x2048x64 : Shape := ⟨4, ![4, 4, 2048, 64]⟩
abbrev S2048x4x64 : Shape := ⟨3, ![2048, 4, 64]⟩
abbrev S4x2048x64 : Shape := ⟨3, ![4, 2048, 64]⟩
abbrev S256x4x64 : Shape := ⟨3, ![256, 4, 64]⟩
abbrev S4x256x64 : Shape := ⟨3, ![4, 256, 64]⟩
abbrev S4x4x2048x1 : Shape := ⟨4, ![4, 4, 2048, 1]⟩
abbrev S1x4x128x64 : Shape := ⟨4, ![1, 4, 128, 64]⟩
abbrev S1x128x64 : Shape := ⟨3, ![1, 128, 64]⟩
abbrev S1x256x64 : Shape := ⟨3, ![1, 256, 64]⟩
abbrev S1x4x128x1 : Shape := ⟨4, ![1, 4, 128, 1]⟩
abbrev S128x64 : Shape := ⟨2, ![128, 64]⟩
abbrev S384x64 : Shape := ⟨2, ![384, 64]⟩
abbrev S128x384 : Shape := ⟨2, ![128, 384]⟩
abbrev S1x1x128x64 : Shape := ⟨4, ![1, 1, 128, 64]⟩
abbrev S256x64 : Shape := ⟨2, ![256, 64]⟩
abbrev S128x256 : Shape := ⟨2, ![128, 256]⟩
abbrev S1 : Shape := ⟨1, ![1]⟩
abbrev S128 : Shape := ⟨1, ![128]⟩
abbrev S128x1 : Shape := ⟨2, ![128, 1]⟩
abbrev S1x1x128x1 : Shape := ⟨4, ![1, 1, 128, 1]⟩
abbrev S4x8x128 : Shape := ⟨3, ![4, 8, 128]⟩
abbrev S1x8x128 : Shape := ⟨3, ![1, 8, 128]⟩
abbrev S8x128 : Shape := ⟨2, ![8, 128]⟩
abbrev S1x1x128 : Shape := ⟨3, ![1, 1, 128]⟩
abbrev S1x128 : Shape := ⟨2, ![1, 128]⟩
abbrev S1x1 : Shape := ⟨2, ![1, 1]⟩
abbrev S128x128 : Shape := ⟨2, ![128, 128]⟩
abbrev S4x4x1 : Shape := ⟨3, ![4, 4, 1]⟩
abbrev S4x4 : Shape := ⟨2, ![4, 4]⟩

abbrev nBuf : Space → Nat
  | .hbm => 32
  | .vmem => 86
  | .smem => 2
  | _ => 0

abbrev bufTy : (tb : Table) → Fin (tcTables nBuf tb) → BufTy
  | .hbm, ⟨0, _⟩ => ⟨S2048x1024, .bf16⟩
  | .hbm, ⟨1, _⟩ => ⟨S2048x256, .bf16⟩
  | .hbm, ⟨2, _⟩ => ⟨S2048x256, .bf16⟩
  | .hbm, ⟨3, _⟩ => ⟨S256x256, .bf16⟩
  | .hbm, ⟨4, _⟩ => ⟨S256x256, .bf16⟩
  | .hbm, ⟨5, _⟩ => ⟨S16, .f32⟩
  | .hbm, ⟨6, _⟩ => ⟨S2048x1024, .bf16⟩
  | .hbm, ⟨7, _⟩ => ⟨S2048x16x64, .bf16⟩
  | .hbm, ⟨8, _⟩ => ⟨S16x2048x64, .bf16⟩
  | .hbm, ⟨9, _⟩ => ⟨S4x4x2048x64, .bf16⟩
  | .hbm, ⟨10, _⟩ => ⟨S2048x4x64, .bf16⟩
  | .hbm, ⟨11, _⟩ => ⟨S4x2048x64, .bf16⟩
  | .hbm, ⟨12, _⟩ => ⟨S2048x4x64, .bf16⟩
  | .hbm, ⟨13, _⟩ => ⟨S4x2048x64, .bf16⟩
  | .hbm, ⟨14, _⟩ => ⟨S256x4x64, .bf16⟩
  | .hbm, ⟨15, _⟩ => ⟨S4x256x64, .bf16⟩
  | .hbm, ⟨16, _⟩ => ⟨S256x4x64, .bf16⟩
  | .hbm, ⟨17, _⟩ => ⟨S4x256x64, .bf16⟩
  | .hbm, ⟨18, _⟩ => ⟨S4x4x2048x64, .f32⟩
  | .hbm, ⟨19, _⟩ => ⟨S4x4x2048x1, .f32⟩
  | .hbm, ⟨20, _⟩ => ⟨S2048x16x64, .bf16⟩
  | .hbm, ⟨21, _⟩ => ⟨S16x2048x64, .bf16⟩
  | .hbm, ⟨22, _⟩ => ⟨S4x4x2048x64, .bf16⟩
  | .hbm, ⟨23, _⟩ => ⟨S4x4x2048x64, .f32⟩
  | .hbm, ⟨24, _⟩ => ⟨S4x256x64, .f32⟩
  | .hbm, ⟨25, _⟩ => ⟨S4x256x64, .f32⟩
  | .hbm, ⟨26, _⟩ => ⟨S4x8x128, .f32⟩
  | .hbm, ⟨27, _⟩ => ⟨S4x2048x64, .f32⟩
  | .hbm, ⟨28, _⟩ => ⟨S4x2048x64, .f32⟩
  | .hbm, ⟨29, _⟩ => ⟨S4x4x1, .f32⟩
  | .hbm, ⟨30, _⟩ => ⟨S4x4, .f32⟩
  | .hbm, ⟨31, _⟩ => ⟨S16, .f32⟩
  | .local _ .vmem, ⟨0, _⟩ => ⟨S1x4x128x64, .bf16⟩
  | .local _ .vmem, ⟨1, _⟩ => ⟨S1x4x128x64, .bf16⟩
  | .local _ .vmem, ⟨2, _⟩ => ⟨S1x128x64, .bf16⟩
  | .local _ .vmem, ⟨3, _⟩ => ⟨S1x128x64, .bf16⟩
  | .local _ .vmem, ⟨4, _⟩ => ⟨S1x128x64, .bf16⟩
  | .local _ .vmem, ⟨5, _⟩ => ⟨S1x128x64, .bf16⟩
  | .local _ .vmem, ⟨6, _⟩ => ⟨S1x128x64, .bf16⟩
  | .local _ .vmem, ⟨7, _⟩ => ⟨S1x128x64, .bf16⟩
  | .local _ .vmem, ⟨8, _⟩ => ⟨S1x128x64, .bf16⟩
  | .local _ .vmem, ⟨9, _⟩ => ⟨S1x128x64, .bf16⟩
  | .local _ .vmem, ⟨10, _⟩ => ⟨S1x128x64, .bf16⟩
  | .local _ .vmem, ⟨11, _⟩ => ⟨S1x128x64, .bf16⟩
  | .local _ .vmem, ⟨12, _⟩ => ⟨S1x128x64, .bf16⟩
  | .local _ .vmem, ⟨13, _⟩ => ⟨S1x128x64, .bf16⟩
  | .local _ .vmem, ⟨14, _⟩ => ⟨S1x256x64, .bf16⟩
  | .local _ .vmem, ⟨15, _⟩ => ⟨S1x256x64, .bf16⟩
  | .local _ .vmem, ⟨16, _⟩ => ⟨S1x256x64, .bf16⟩
  | .local _ .vmem, ⟨17, _⟩ => ⟨S1x256x64, .bf16⟩
  | .local _ .vmem, ⟨18, _⟩ => ⟨S1x4x128x64, .f32⟩
  | .local _ .vmem, ⟨19, _⟩ => ⟨S1x4x128x64, .f32⟩
  | .local _ .vmem, ⟨20, _⟩ => ⟨S1x4x128x1, .f32⟩
  | .local _ .vmem, ⟨21, _⟩ => ⟨S1x4x128x1, .f32⟩
  | .local _ .vmem, ⟨22, _⟩ => ⟨S1x4x128x64, .bf16⟩
  | .local _ .vmem, ⟨23, _⟩ => ⟨S1x4x128x64, .bf16⟩
  | .local _ .vmem, ⟨24, _⟩ => ⟨S1x128x64, .bf16⟩
  | .local _ .vmem, ⟨25, _⟩ => ⟨S1x128x64, .bf16⟩
  | .local _ .vmem, ⟨26, _⟩ => ⟨S1x128x64, .bf16⟩
  | .local _ .vmem, ⟨27, _⟩ => ⟨S1x128x64, .bf16⟩
  | .local _ .vmem, ⟨28, _⟩ => ⟨S1x128x64, .bf16⟩
  | .local _ .vmem, ⟨29, _⟩ => ⟨S1x128x64, .bf16⟩
  | .local _ .vmem, ⟨30, _⟩ => ⟨S1x128x64, .bf16⟩
  | .local _ .vmem, ⟨31, _⟩ => ⟨S1x128x64, .bf16⟩
  | .local _ .vmem, ⟨32, _⟩ => ⟨S1x128x64, .bf16⟩
  | .local _ .vmem, ⟨33, _⟩ => ⟨S1x128x64, .bf16⟩
  | .local _ .vmem, ⟨34, _⟩ => ⟨S1x128x64, .bf16⟩
  | .local _ .vmem, ⟨35, _⟩ => ⟨S1x128x64, .bf16⟩
  | .local _ .vmem, ⟨36, _⟩ => ⟨S1x256x64, .bf16⟩
  | .local _ .vmem, ⟨37, _⟩ => ⟨S1x256x64, .bf16⟩
  | .local _ .vmem, ⟨38, _⟩ => ⟨S1x256x64, .bf16⟩
  | .local _ .vmem, ⟨39, _⟩ => ⟨S1x256x64, .bf16⟩
  | .local _ .vmem, ⟨40, _⟩ => ⟨S1x4x128x64, .f32⟩
  | .local _ .vmem, ⟨41, _⟩ => ⟨S1x4x128x64, .f32⟩
  | .local _ .vmem, ⟨42, _⟩ => ⟨S1x4x128x64, .bf16⟩
  | .local _ .vmem, ⟨43, _⟩ => ⟨S1x4x128x64, .bf16⟩
  | .local _ .vmem, ⟨44, _⟩ => ⟨S1x4x128x1, .f32⟩
  | .local _ .vmem, ⟨45, _⟩ => ⟨S1x4x128x1, .f32⟩
  | .local _ .vmem, ⟨46, _⟩ => ⟨S1x4x128x64, .f32⟩
  | .local _ .vmem, ⟨47, _⟩ => ⟨S1x4x128x64, .f32⟩
  | .local _ .vmem, ⟨48, _⟩ => ⟨S1x256x64, .f32⟩
  | .local _ .vmem, ⟨49, _⟩ => ⟨S1x256x64, .f32⟩
  | .local _ .vmem, ⟨50, _⟩ => ⟨S1x256x64, .f32⟩
  | .local _ .vmem, ⟨51, _⟩ => ⟨S1x256x64, .f32⟩
  | .local _ .vmem, ⟨52, _⟩ => ⟨S1x8x128, .f32⟩
  | .local _ .vmem, ⟨53, _⟩ => ⟨S1x8x128, .f32⟩
  | .local _ .vmem, ⟨54, _⟩ => ⟨S1x4x128x64, .bf16⟩
  | .local _ .vmem, ⟨55, _⟩ => ⟨S1x4x128x64, .bf16⟩
  | .local _ .vmem, ⟨56, _⟩ => ⟨S1x4x128x64, .bf16⟩
  | .local _ .vmem, ⟨57, _⟩ => ⟨S1x4x128x64, .bf16⟩
  | .local _ .vmem, ⟨58, _⟩ => ⟨S1x4x128x64, .bf16⟩
  | .local _ .vmem, ⟨59, _⟩ => ⟨S1x4x128x64, .bf16⟩
  | .local _ .vmem, ⟨60, _⟩ => ⟨S1x4x128x64, .bf16⟩
  | .local _ .vmem, ⟨61, _⟩ => ⟨S1x4x128x64, .bf16⟩
  | .local _ .vmem, ⟨62, _⟩ => ⟨S1x4x128x64, .bf16⟩
  | .local _ .vmem, ⟨63, _⟩ => ⟨S1x4x128x64, .bf16⟩
  | .local _ .vmem, ⟨64, _⟩ => ⟨S1x4x128x64, .bf16⟩
  | .local _ .vmem, ⟨65, _⟩ => ⟨S1x4x128x64, .bf16⟩
  | .local _ .vmem, ⟨66, _⟩ => ⟨S1x4x128x64, .f32⟩
  | .local _ .vmem, ⟨67, _⟩ => ⟨S1x4x128x64, .f32⟩
  | .local _ .vmem, ⟨68, _⟩ => ⟨S1x4x128x64, .f32⟩
  | .local _ .vmem, ⟨69, _⟩ => ⟨S1x4x128x64, .f32⟩
  | .local _ .vmem, ⟨70, _⟩ => ⟨S1x4x128x64, .f32⟩
  | .local _ .vmem, ⟨71, _⟩ => ⟨S1x4x128x64, .f32⟩
  | .local _ .vmem, ⟨72, _⟩ => ⟨S1x4x128x1, .f32⟩
  | .local _ .vmem, ⟨73, _⟩ => ⟨S1x4x128x1, .f32⟩
  | .local _ .vmem, ⟨74, _⟩ => ⟨S1x4x128x1, .f32⟩
  | .local _ .vmem, ⟨75, _⟩ => ⟨S1x4x128x1, .f32⟩
  | .local _ .vmem, ⟨76, _⟩ => ⟨S1x4x128x1, .f32⟩
  | .local _ .vmem, ⟨77, _⟩ => ⟨S1x4x128x1, .f32⟩
  | .local _ .vmem, ⟨78, _⟩ => ⟨S1x128x64, .bf16⟩
  | .local _ .vmem, ⟨79, _⟩ => ⟨S1x128x64, .bf16⟩
  | .local _ .vmem, ⟨80, _⟩ => ⟨S1x128x64, .bf16⟩
  | .local _ .vmem, ⟨81, _⟩ => ⟨S1x128x64, .bf16⟩
  | .local _ .vmem, ⟨82, _⟩ => ⟨S1x128x64, .f32⟩
  | .local _ .vmem, ⟨83, _⟩ => ⟨S1x128x64, .f32⟩
  | .local _ .vmem, ⟨84, _⟩ => ⟨S1x128x64, .f32⟩
  | .local _ .vmem, ⟨85, _⟩ => ⟨S1x128x64, .f32⟩
  | .local _ .smem, ⟨0, _⟩ => ⟨S16, .f32⟩
  | .local _ .smem, ⟨1, _⟩ => ⟨S16, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 88 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | _ => false

abbrev sig : RefSig :=
  ofTc nBuf bufTy 0 88 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v15_2 : Ref sig .tc := ⟨.hbm, 25, rfl⟩
abbrev main_v15_3 : Ref sig .tc := ⟨.hbm, 26, rfl⟩
abbrev main_v16_0 : Ref sig .tc := ⟨.hbm, 27, rfl⟩
abbrev main_v16_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg4_1 : Ref sig .tc := ⟨.vmem, 29, rfl⟩
abbrev cc1_stg5_0 : Ref sig .tc := ⟨.vmem, 30, rfl⟩
abbrev cc1_stg5_1 : Ref sig .tc := ⟨.vmem, 31, rfl⟩
abbrev cc1_stg6_0 : Ref sig .tc := ⟨.vmem, 32, rfl⟩
abbrev cc1_stg6_1 : Ref sig .tc := ⟨.vmem, 33, rfl⟩
abbrev cc1_stg7_0 : Ref sig .tc := ⟨.vmem, 34, rfl⟩
abbrev cc1_stg7_1 : Ref sig .tc := ⟨.vmem, 35, rfl⟩
abbrev cc1_stg8_0 : Ref sig .tc := ⟨.vmem, 36, rfl⟩
abbrev cc1_stg8_1 : Ref sig .tc := ⟨.vmem, 37, rfl⟩
abbrev cc1_stg9_0 : Ref sig .tc := ⟨.vmem, 38, rfl⟩
abbrev cc1_stg9_1 : Ref sig .tc := ⟨.vmem, 39, rfl⟩
abbrev cc1_stg10_0 : Ref sig .tc := ⟨.vmem, 40, rfl⟩
abbrev cc1_stg10_1 : Ref sig .tc := ⟨.vmem, 41, rfl⟩
abbrev cc1_stg11_0 : Ref sig .tc := ⟨.vmem, 42, rfl⟩
abbrev cc1_stg11_1 : Ref sig .tc := ⟨.vmem, 43, rfl⟩
abbrev cc1_stg12_0 : Ref sig .tc := ⟨.vmem, 44, rfl⟩
abbrev cc1_stg12_1 : Ref sig .tc := ⟨.vmem, 45, rfl⟩
abbrev cc1_stg13_0 : Ref sig .tc := ⟨.vmem, 46, rfl⟩
abbrev cc1_stg13_1 : Ref sig .tc := ⟨.vmem, 47, rfl⟩
abbrev cc1_stg14_0 : Ref sig .tc := ⟨.vmem, 48, rfl⟩
abbrev cc1_stg14_1 : Ref sig .tc := ⟨.vmem, 49, rfl⟩
abbrev cc1_stg15_0 : Ref sig .tc := ⟨.vmem, 50, rfl⟩
abbrev cc1_stg15_1 : Ref sig .tc := ⟨.vmem, 51, rfl⟩
abbrev cc1_stg16_0 : Ref sig .tc := ⟨.vmem, 52, rfl⟩
abbrev cc1_stg16_1 : Ref sig .tc := ⟨.vmem, 53, rfl⟩
abbrev cc2_stg0_0 : Ref sig .tc := ⟨.vmem, 54, rfl⟩
abbrev cc2_stg0_1 : Ref sig .tc := ⟨.vmem, 55, rfl⟩
abbrev cc2_stg1_0 : Ref sig .tc := ⟨.vmem, 56, rfl⟩
abbrev cc2_stg1_1 : Ref sig .tc := ⟨.vmem, 57, rfl⟩
abbrev cc2_stg2_0 : Ref sig .tc := ⟨.vmem, 58, rfl⟩
abbrev cc2_stg2_1 : Ref sig .tc := ⟨.vmem, 59, rfl⟩
abbrev cc2_stg3_0 : Ref sig .tc := ⟨.vmem, 60, rfl⟩
abbrev cc2_stg3_1 : Ref sig .tc := ⟨.vmem, 61, rfl⟩
abbrev cc2_stg4_0 : Ref sig .tc := ⟨.vmem, 62, rfl⟩
abbrev cc2_stg4_1 : Ref sig .tc := ⟨.vmem, 63, rfl⟩
abbrev cc2_stg5_0 : Ref sig .tc := ⟨.vmem, 64, rfl⟩
abbrev cc2_stg5_1 : Ref sig .tc := ⟨.vmem, 65, rfl⟩
abbrev cc2_stg6_0 : Ref sig .tc := ⟨.vmem, 66, rfl⟩
abbrev cc2_stg6_1 : Ref sig .tc := ⟨.vmem, 67, rfl⟩
abbrev cc2_stg7_0 : Ref sig .tc := ⟨.vmem, 68, rfl⟩
abbrev cc2_stg7_1 : Ref sig .tc := ⟨.vmem, 69, rfl⟩
abbrev cc2_stg8_0 : Ref sig .tc := ⟨.vmem, 70, rfl⟩
abbrev cc2_stg8_1 : Ref sig .tc := ⟨.vmem, 71, rfl⟩
abbrev cc2_stg9_0 : Ref sig .tc := ⟨.vmem, 72, rfl⟩
abbrev cc2_stg9_1 : Ref sig .tc := ⟨.vmem, 73, rfl⟩
abbrev cc2_stg10_0 : Ref sig .tc := ⟨.vmem, 74, rfl⟩
abbrev cc2_stg10_1 : Ref sig .tc := ⟨.vmem, 75, rfl⟩
abbrev cc2_stg11_0 : Ref sig .tc := ⟨.vmem, 76, rfl⟩
abbrev cc2_stg11_1 : Ref sig .tc := ⟨.vmem, 77, rfl⟩
abbrev cc2_stg12_0 : Ref sig .tc := ⟨.vmem, 78, rfl⟩
abbrev cc2_stg12_1 : Ref sig .tc := ⟨.vmem, 79, rfl⟩
abbrev cc2_stg13_0 : Ref sig .tc := ⟨.vmem, 80, rfl⟩
abbrev cc2_stg13_1 : Ref sig .tc := ⟨.vmem, 81, rfl⟩
abbrev cc2_stg14_0 : Ref sig .tc := ⟨.vmem, 82, rfl⟩
abbrev cc2_stg14_1 : Ref sig .tc := ⟨.vmem, 83, rfl⟩
abbrev cc2_stg15_0 : Ref sig .tc := ⟨.vmem, 84, rfl⟩
abbrev cc2_stg15_1 : Ref sig .tc := ⟨.vmem, 85, rfl⟩
abbrev cc0_stg0_0 : Ref sig .tc := ⟨.smem, 0, rfl⟩
abbrev cc1_stg0_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc1_sem0_0 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem4_1 : DmaSem sig := 31
abbrev cc1_sem5_0 : DmaSem sig := 32
abbrev cc1_sem5_1 : DmaSem sig := 33
abbrev cc1_sem6_0 : DmaSem sig := 34
abbrev cc1_sem6_1 : DmaSem sig := 35
abbrev cc1_sem7_0 : DmaSem sig := 36
abbrev cc1_sem7_1 : DmaSem sig := 37
abbrev cc1_sem8_0 : DmaSem sig := 38
abbrev cc1_sem8_1 : DmaSem sig := 39
abbrev cc1_sem9_0 : DmaSem sig := 40
abbrev cc1_sem9_1 : DmaSem sig := 41
abbrev cc1_sem10_0 : DmaSem sig := 42
abbrev cc1_sem10_1 : DmaSem sig := 43
abbrev cc1_sem11_0 : DmaSem sig := 44
abbrev cc1_sem11_1 : DmaSem sig := 45
abbrev cc1_sem12_0 : DmaSem sig := 46
abbrev cc1_sem12_1 : DmaSem sig := 47
abbrev cc1_sem13_0 : DmaSem sig := 48
abbrev cc1_sem13_1 : DmaSem sig := 49
abbrev cc1_sem14_0 : DmaSem sig := 50
abbrev cc1_sem14_1 : DmaSem sig := 51
abbrev cc1_sem15_0 : DmaSem sig := 52
abbrev cc1_sem15_1 : DmaSem sig := 53
abbrev cc1_sem16_0 : DmaSem sig := 54
abbrev cc1_sem16_1 : DmaSem sig := 55
abbrev cc2_sem0_0 : DmaSem sig := 56
abbrev cc2_sem0_1 : DmaSem sig := 57
abbrev cc2_sem1_0 : DmaSem sig := 58
abbrev cc2_sem1_1 : DmaSem sig := 59
abbrev cc2_sem2_0 : DmaSem sig := 60
abbrev cc2_sem2_1 : DmaSem sig := 61
abbrev cc2_sem3_0 : DmaSem sig := 62
abbrev cc2_sem3_1 : DmaSem sig := 63
abbrev cc2_sem4_0 : DmaSem sig := 64
abbrev cc2_sem4_1 : DmaSem sig := 65
abbrev cc2_sem5_0 : DmaSem sig := 66
abbrev cc2_sem5_1 : DmaSem sig := 67
abbrev cc2_sem6_0 : DmaSem sig := 68
abbrev cc2_sem6_1 : DmaSem sig := 69
abbrev cc2_sem7_0 : DmaSem sig := 70
abbrev cc2_sem7_1 : DmaSem sig := 71
abbrev cc2_sem8_0 : DmaSem sig := 72
abbrev cc2_sem8_1 : DmaSem sig := 73
abbrev cc2_sem9_0 : DmaSem sig := 74
abbrev cc2_sem9_1 : DmaSem sig := 75
abbrev cc2_sem10_0 : DmaSem sig := 76
abbrev cc2_sem10_1 : DmaSem sig := 77
abbrev cc2_sem11_0 : DmaSem sig := 78
abbrev cc2_sem11_1 : DmaSem sig := 79
abbrev cc2_sem12_0 : DmaSem sig := 80
abbrev cc2_sem12_1 : DmaSem sig := 81
abbrev cc2_sem13_0 : DmaSem sig := 82
abbrev cc2_sem13_1 : DmaSem sig := 83
abbrev cc2_sem14_0 : DmaSem sig := 84
abbrev cc2_sem14_1 : DmaSem sig := 85
abbrev cc2_sem15_0 : DmaSem sig := 86
abbrev cc2_sem15_1 : DmaSem sig := 87

abbrev nD : Nat := 1
abbrev τ : Topo := Topo.v7x

variable {F : FTy → Type} [FloatOps F]

abbrev grid0 : Pipeline.Grid := ⟨2, ![4, 16], ![false, false]⟩

def k0_off1 (i : grid0.Coords) (c0_i32_30 : BitVec 32) : Fin 1 → Nat :=
  let arg0 : BitVec 32 := BitVec.ofNat 32 (i 0).val
  let c4_i32 : BitVec 32 := 4#32
  let v44 : BitVec 32 := Scalar.muli arg0 c4_i32
  let v45 : BitVec 32 := Scalar.addi v44 c0_i32_30
  let v46 : Index := Scalar.indexCast v45
  ![v46.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4x128x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x4x128x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x128x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev grid1 : Pipeline.Grid := ⟨2, ![4, 16], ![false, false]⟩

def k1_off1 (i : grid1.Coords) (c0_i32_75 : BitVec 32) : Fin 1 → Nat :=
  let arg0 : BitVec 32 := BitVec.ofNat 32 (i 0).val
  let c4_i32 : BitVec 32 := 4#32
  let v103 : BitVec 32 := Scalar.muli arg0 c4_i32
  let v104 : BitVec 32 := Scalar.addi v103 c0_i32_75
  let v105 : Index := Scalar.indexCast v104
  ![v105.toNat]
def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c0_i32 : BitVec 32 := 0#32
  let c0_i32_0 : BitVec 32 := 0#32
  ![arg0.toNat, v1.toNat, c0_i32.toNat]

def cc1_transform_5 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c0_i32 : BitVec 32 := 0#32
  let c0_i32_0 : BitVec 32 := 0#32
  ![arg0.toNat, v1.toNat, c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_11 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_12 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_13 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_14 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_15 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_16 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .smem S16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x4x128x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x128x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x128x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x128x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x128x64 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x128x64 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x256x64 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x256x64 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S1x4x128x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S1x4x128x64 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S1x4x128x1 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S1x4x128x64 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 2 → Memref sig .tc .vmem S1x256x64 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, false]

abbrev stage1_15 : Fin 2 → Memref sig .tc .vmem S1x256x64 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, false]

abbrev stage1_16 : Fin 2 → Memref sig .tc .vmem S1x8x128 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true, false]

abbrev grid2 : Pipeline.Grid := ⟨2, ![4, 16], ![false, false]⟩

def cc2_transform_0 (i : grid2.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, c0_i32_0.toNat, v1.toNat, c0_i32_1.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_2 (i : grid2.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c0_i32 : BitVec 32 := 0#32
  let c0_i32_0 : BitVec 32 := 0#32
  let c0_i32_1 : BitVec 32 := 0#32
  ![arg0.toNat, c0_i32.toNat, v1.toNat, c0_i32_0.toNat]

def cc2_transform_3 (i : grid2.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, c0_i32_0.toNat, v1.toNat, c0_i32_1.toNat]

def cc2_transform_4 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_5 (i : grid2.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c0_i32 : BitVec 32 := 0#32
  let c0_i32_0 : BitVec 32 := 0#32
  let c0_i32_1 : BitVec 32 := 0#32
  ![arg0.toNat, c0_i32.toNat, v1.toNat, c0_i32_0.toNat]

def cc2_transform_6 (i : grid2.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, c0_i32_0.toNat, v1.toNat, c0_i32_1.toNat]

def cc2_transform_7 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_8 (i : grid2.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c0_i32 : BitVec 32 := 0#32
  let c0_i32_0 : BitVec 32 := 0#32
  let c0_i32_1 : BitVec 32 := 0#32
  ![arg0.toNat, c0_i32.toNat, v1.toNat, c0_i32_0.toNat]

def cc2_transform_9 (i : grid2.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, c0_i32_0.toNat, v1.toNat, c0_i32_1.toNat]

def cc2_transform_10 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_11 (i : grid2.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c0_i32 : BitVec 32 := 0#32
  let c0_i32_0 : BitVec 32 := 0#32
  let c0_i32_1 : BitVec 32 := 0#32
  ![arg0.toNat, c0_i32.toNat, v1.toNat, c0_i32_0.toNat]

def cc2_transform_12 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_13 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_14 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_15 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x4x128x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x4x128x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x4x128x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x4x128x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x4x128x64 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x4x128x64 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1x4x128x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S1x4x128x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 2 → Memref sig .tc .vmem S1x4x128x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev stage2_9 : Fin 2 → Memref sig .tc .vmem S1x4x128x1 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]

abbrev stage2_10 : Fin 2 → Memref sig .tc .vmem S1x4x128x1 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, true]

abbrev stage2_11 : Fin 2 → Memref sig .tc .vmem S1x4x128x1 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true, true]

abbrev stage2_12 : Fin 2 → Memref sig .tc .vmem S1x128x64 .bf16 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true, true]

abbrev stage2_13 : Fin 2 → Memref sig .tc .vmem S1x128x64 .bf16 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true, true]

abbrev stage2_14 : Fin 2 → Memref sig .tc .vmem S1x128x64 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true, true]

abbrev stage2_15 : Fin 2 → Memref sig .tc .vmem S1x128x64 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true, true]
-- ==== KernelIdeal.lean ====
variable {F : FTy → Type} [FloatOps F] [Named F]
def κ : String → Option EReal := fun
  | "mask" => some ⊥
  | _ => none
-- ==== ReferenceIdeal.lean ====
abbrev S2048x1024 : Shape := ⟨2, ![2048, 1024]⟩
abbrev S2048x256 : Shape := ⟨2, ![2048, 256]⟩
abbrev S256x256 : Shape := ⟨2, ![256, 256]⟩
abbrev S16 : Shape := ⟨1, ![16]⟩
abbrev S2048x4x64 : Shape := ⟨3, ![2048, 4, 64]⟩
abbrev S256x4x64 : Shape := ⟨3, ![256, 4, 64]⟩
abbrev S4x4 : Shape := ⟨2, ![4, 4]⟩
abbrev S_ : Shape := ⟨0, ![]⟩
abbrev S128x4x64 : Shape := ⟨3, ![128, 4, 64]⟩
abbrev S2304x4x64 : Shape := ⟨3, ![2304, 4, 64]⟩
abbrev S18x128x4x64 : Shape := ⟨4, ![18, 128, 4, 64]⟩
abbrev S16x128x4x64 : Shape := ⟨4, ![16, 128, 4, 64]⟩
abbrev S16x384x4x64 : Shape := ⟨4, ![16, 384, 4, 64]⟩
abbrev S16x128x4x4x64 : Shape := ⟨5, ![16, 128, 4, 4, 64]⟩
abbrev S16x4x384x128x4 : Shape := ⟨5, ![16, 4, 384, 128, 4]⟩
abbrev S16x4x4x128x384 : Shape := ⟨5, ![16, 4, 4, 128, 384]⟩
abbrev S4x256x16x128x4 : Shape := ⟨5, ![4, 256, 16, 128, 4]⟩
abbrev S16x4x4x128x256 : Shape := ⟨5, ![16, 4, 4, 128, 256]⟩
abbrev S128 : Shape := ⟨1, ![128]⟩
abbrev S128x1 : Shape := ⟨2, ![128, 1]⟩
abbrev S384 : Shape := ⟨1, ![384]⟩
abbrev S1x384 : Shape := ⟨2, ![1, 384]⟩
abbrev S128x384 : Shape := ⟨2, ![128, 384]⟩
abbrev S16x1 : Shape := ⟨2, ![16, 1]⟩
abbrev S16x384 : Shape := ⟨2, ![16, 384]⟩
abbrev S1x128x384 : Shape := ⟨3, ![1, 128, 384]⟩
abbrev S16x1x384 : Shape := ⟨3, ![16, 1, 384]⟩
abbrev S16x128x384 : Shape := ⟨3, ![16, 128, 384]⟩
abbrev S16x1x1x128x384 : Shape := ⟨5, ![16, 1, 1, 128, 384]⟩
abbrev S1x4x4x1x1 : Shape := ⟨5, ![1, 4, 4, 1, 1]⟩
abbrev S16x4x4x128 : Shape := ⟨4, ![16, 4, 4, 128]⟩
abbrev S16x4x4x128x1 : Shape := ⟨5, ![16, 4, 4, 128, 1]⟩
abbrev S16x4x64x4x128 : Shape := ⟨5, ![16, 4, 64, 4, 128]⟩
abbrev S4x64x16x4x128 : Shape := ⟨5, ![4, 64, 16, 4, 128]⟩
abbrev S4x16x4x128x256 : Shape := ⟨5, ![4, 16, 4, 128, 256]⟩
abbrev S4x64x256 : Shape := ⟨3, ![4, 64, 256]⟩
abbrev S16x4x64x384 : Shape := ⟨4, ![16, 4, 64, 384]⟩
abbrev S4x4x1 : Shape := ⟨3, ![4, 4, 1]⟩
abbrev S4x16x128x4x64 : Shape := ⟨5, ![4, 16, 128, 4, 64]⟩
abbrev S4x256x64 : Shape := ⟨3, ![4, 256, 64]⟩
abbrev S16x4x128x4x64 : Shape := ⟨5, ![16, 4, 128, 4, 64]⟩
abbrev S16x4x384x64 : Shape := ⟨4, ![16, 4, 384, 64]⟩
abbrev S2048x16x64 : Shape := ⟨3, ![2048, 16, 64]⟩
abbrev S16x2048x64 : Shape := ⟨3, ![16, 2048, 64]⟩
abbrev S4x4x2048x64 : Shape := ⟨4, ![4, 4, 2048, 64]⟩
abbrev S4x2048x64 : Shape := ⟨3, ![4, 2048, 64]⟩

abbrev nBuf : Space → Nat
  | .hbm => 339
  | .vmem => 0
  | .smem => 0
  | _ => 0

abbrev hbmTy0_0 (i : Nat) : BufTy := match i % 128 with
  | 0 => ⟨S2048x1024, .bf16⟩
  | 1 => ⟨S2048x256, .bf16⟩
  | 2 => ⟨S2048x256, .bf16⟩
  | 3 => ⟨S256x256, .bf16⟩
  | 4 => ⟨S256x256, .bf16⟩
  | 5 => ⟨S16, .f32⟩
  | 6 => ⟨S2048x1024, .bf16⟩
  | 7 => ⟨S2048x1024, .f32⟩
  | 8 => ⟨S2048x256, .f32⟩
  | 9 => ⟨S2048x256, .f32⟩
  | 10 => ⟨S256x256, .f32⟩
  | 11 => ⟨S256x256, .f32⟩
  | 12 => ⟨S2048x4x64, .f32⟩
  | 13 => ⟨S2048x4x64, .f32⟩
  | 14 => ⟨S256x4x64, .f32⟩
  | 15 => ⟨S256x4x64, .f32⟩
  | 16 => ⟨S4x4, .f32⟩
  | 17 => ⟨S_, .f32⟩
  | 18 => ⟨S128x4x64, .f32⟩
  | 19 => ⟨S2304x4x64, .f32⟩
  | 20 => ⟨S_, .f32⟩
  | 21 => ⟨S128x4x64, .f32⟩
  | 22 => ⟨S_, .f32⟩
  | 23 => ⟨S128x4x64, .f32⟩
  | 24 => ⟨S18x128x4x64, .f32⟩
  | 25 => ⟨S2304x4x64, .f32⟩
  | 26 => ⟨S_, .f32⟩
  | 27 => ⟨S128x4x64, .f32⟩
  | 28 => ⟨S_, .f32⟩
  | 29 => ⟨S128x4x64, .f32⟩
  | 30 => ⟨S18x128x4x64, .f32⟩
  | 31 => ⟨S16x128x4x64, .f32⟩
  | 32 => ⟨S16x128x4x64, .f32⟩
  | 33 => ⟨S16x128x4x64, .f32⟩
  | 34 => ⟨S16x384x4x64, .f32⟩
  | 35 => ⟨S16x128x4x64, .f32⟩
  | 36 => ⟨S16x128x4x64, .f32⟩
  | 37 => ⟨S16x128x4x64, .f32⟩
  | 38 => ⟨S16x384x4x64, .f32⟩
  | 39 => ⟨S16x128x4x4x64, .f32⟩
  | 40 => ⟨S16x4x384x128x4, .f32⟩
  | 41 => ⟨S16x4x4x128x384, .f32⟩
  | 42 => ⟨S_, .f32⟩
  | 43 => ⟨S16x4x4x128x384, .f32⟩
  | 44 => ⟨S16x4x4x128x384, .f32⟩
  | 45 => ⟨S4x256x16x128x4, .f32⟩
  | 46 => ⟨S16x4x4x128x256, .f32⟩
  | 47 => ⟨S_, .f32⟩
  | 48 => ⟨S16x4x4x128x256, .f32⟩
  | 49 => ⟨S16x4x4x128x256, .f32⟩
  | 50 => ⟨S128, .i32⟩
  | 51 => ⟨S128x1, .i32⟩
  | 52 => ⟨S_, .i32⟩
  | 53 => ⟨S128x1, .i32⟩
  | 54 => ⟨S128x1, .i32⟩
  | 55 => ⟨S384, .i32⟩
  | 56 => ⟨S1x384, .i32⟩
  | 57 => ⟨S128x384, .i32⟩
  | 58 => ⟨S128x384, .i32⟩
  | 59 => ⟨S128x384, .i32⟩
  | 60 => ⟨S128x384, .i32⟩
  | 61 => ⟨S_, .i32⟩
  | 62 => ⟨S128x384, .i32⟩
  | 63 => ⟨S128x384, .i1⟩
  | 64 => ⟨S16, .i32⟩
  | 65 => ⟨S16x1, .i32⟩
  | 66 => ⟨S_, .i32⟩
  | 67 => ⟨S16x1, .i32⟩
  | 68 => ⟨S16x1, .i32⟩
  | 69 => ⟨S_, .i32⟩
  | 70 => ⟨S16x1, .i32⟩
  | 71 => ⟨S16x1, .i32⟩
  | 72 => ⟨S384, .i32⟩
  | 73 => ⟨S1x384, .i32⟩
  | 74 => ⟨S16x384, .i32⟩
  | 75 => ⟨S16x384, .i32⟩
  | 76 => ⟨S16x384, .i32⟩
  | 77 => ⟨S_, .i32⟩
  | 78 => ⟨S16x384, .i32⟩
  | 79 => ⟨S16x384, .i1⟩
  | 80 => ⟨S_, .i32⟩
  | 81 => ⟨S16x384, .i32⟩
  | 82 => ⟨S16x384, .i1⟩
  | 83 => ⟨S16x384, .i1⟩
  | 84 => ⟨S1x128x384, .i1⟩
  | 85 => ⟨S16x1x384, .i1⟩
  | 86 => ⟨S16x128x384, .i1⟩
  | 87 => ⟨S16x128x384, .i1⟩
  | 88 => ⟨S16x128x384, .i1⟩
  | 89 => ⟨S16x1x1x128x384, .i1⟩
  | 90 => ⟨S_, .f32⟩
  | 91 => ⟨S16x4x4x128x384, .i1⟩
  | 92 => ⟨S16x4x4x128x384, .f32⟩
  | 93 => ⟨S16x4x4x128x384, .f32⟩
  | 94 => ⟨S_, .f32⟩
  | 95 => ⟨S16x4x4x128x384, .f32⟩
  | 96 => ⟨S1x4x4x1x1, .f32⟩
  | 97 => ⟨S_, .f32⟩
  | 98 => ⟨S16x4x4x128, .f32⟩
  | 99 => ⟨S16x4x4x128x1, .f32⟩
  | 100 => ⟨S16x4x4x128x384, .f32⟩
  | 101 => ⟨S16x4x4x128x384, .i1⟩
  | 102 => ⟨S16x4x4x128x384, .f32⟩
  | 103 => ⟨S_, .f32⟩
  | 104 => ⟨S16x4x4x128, .f32⟩
  | 105 => ⟨S16x4x4x128x1, .f32⟩
  | 106 => ⟨S_, .f32⟩
  | 107 => ⟨S16x4x4x128, .f32⟩
  | 108 => ⟨S16x4x4x128x1, .f32⟩
  | 109 => ⟨S16x4x4x128x256, .f32⟩
  | 110 => ⟨S16x4x4x128x256, .i1⟩
  | 111 => ⟨S16x4x4x128x256, .f32⟩
  | 112 => ⟨S_, .f32⟩
  | 113 => ⟨S16x4x4x128, .f32⟩
  | 114 => ⟨S16x4x4x128x1, .f32⟩
  | 115 => ⟨S16x4x4x128x1, .f32⟩
  | 116 => ⟨S16x4x4x128x1, .i1⟩
  | 117 => ⟨S16x4x4x128x1, .i1⟩
  | 118 => ⟨S_, .f32⟩
  | 119 => ⟨S16x4x4x128x1, .f32⟩
  | 120 => ⟨S_, .f32⟩
  | 121 => ⟨S16x4x4x128x1, .f32⟩
  | 122 => ⟨S_, .f32⟩
  | 123 => ⟨S16x4x4x128x1, .f32⟩
  | 124 => ⟨S16x4x4x128x1, .f32⟩
  | 125 => ⟨S16x4x4x128x1, .f32⟩
  | 126 => ⟨S16x4x4x128x1, .i1⟩
  | 127 => ⟨S16x4x4x128x1, .i1⟩
  | _ => ⟨S2048x1024, .bf16⟩

abbrev hbmTy0_1 (i : Nat) : BufTy := match i % 128 with
  | 0 => ⟨S_, .f32⟩
  | 1 => ⟨S16x4x4x128x1, .f32⟩
  | 2 => ⟨S_, .f32⟩
  | 3 => ⟨S16x4x4x128x1, .f32⟩
  | 4 => ⟨S_, .f32⟩
  | 5 => ⟨S16x4x4x128x1, .f32⟩
  | 6 => ⟨S16x4x4x128x1, .f32⟩
  | 7 => ⟨S16x4x4x128x1, .f32⟩
  | 8 => ⟨S16x4x4x128x1, .f32⟩
  | 9 => ⟨S16x4x4x128x1, .f32⟩
  | 10 => ⟨S16x4x4x128x1, .f32⟩
  | 11 => ⟨S16x4x4x128x1, .i1⟩
  | 12 => ⟨S16x4x4x128x1, .f32⟩
  | 13 => ⟨S16x4x4x128x1, .i1⟩
  | 14 => ⟨S_, .f32⟩
  | 15 => ⟨S16x4x4x128x1, .f32⟩
  | 16 => ⟨S_, .f32⟩
  | 17 => ⟨S16x4x4x128x1, .f32⟩
  | 18 => ⟨S_, .f32⟩
  | 19 => ⟨S16x4x4x128x1, .f32⟩
  | 20 => ⟨S16x4x4x128x1, .f32⟩
  | 21 => ⟨S16x4x4x128x1, .f32⟩
  | 22 => ⟨S16x4x4x128x1, .f32⟩
  | 23 => ⟨S16x4x4x128x1, .i1⟩
  | 24 => ⟨S16x4x4x128x1, .f32⟩
  | 25 => ⟨S16x4x4x128x1, .i1⟩
  | 26 => ⟨S_, .f32⟩
  | 27 => ⟨S16x4x4x128x1, .f32⟩
  | 28 => ⟨S_, .f32⟩
  | 29 => ⟨S16x4x4x128x1, .f32⟩
  | 30 => ⟨S_, .f32⟩
  | 31 => ⟨S16x4x4x128x1, .f32⟩
  | 32 => ⟨S16x4x4x128x1, .f32⟩
  | 33 => ⟨S16x4x4x128x1, .f32⟩
  | 34 => ⟨S16x4x4x128x384, .f32⟩
  | 35 => ⟨S16x4x4x128x384, .f32⟩
  | 36 => ⟨S16x4x4x128x384, .f32⟩
  | 37 => ⟨S16x4x4x128x256, .f32⟩
  | 38 => ⟨S16x4x4x128x256, .f32⟩
  | 39 => ⟨S16x4x4x128x256, .f32⟩
  | 40 => ⟨S_, .f32⟩
  | 41 => ⟨S16x4x4x128, .f32⟩
  | 42 => ⟨S16x4x4x128x1, .f32⟩
  | 43 => ⟨S_, .f32⟩
  | 44 => ⟨S16x4x4x128, .f32⟩
  | 45 => ⟨S16x4x4x128x1, .f32⟩
  | 46 => ⟨S16x4x4x128x1, .f32⟩
  | 47 => ⟨S16x4x4x128x1, .f32⟩
  | 48 => ⟨S16x4x4x128x1, .f32⟩
  | 49 => ⟨S16x4x4x128x1, .f32⟩
  | 50 => ⟨S16x4x4x128x1, .f32⟩
  | 51 => ⟨S_, .f32⟩
  | 52 => ⟨S16x4x4x128x1, .f32⟩
  | 53 => ⟨S16x4x4x128x1, .f32⟩
  | 54 => ⟨S16x4x4x128x1, .f32⟩
  | 55 => ⟨S_, .f32⟩
  | 56 => ⟨S16x4x4x128x1, .f32⟩
  | 57 => ⟨S16x4x4x128x1, .f32⟩
  | 58 => ⟨S16x4x4x128x384, .f32⟩
  | 59 => ⟨S16x4x4x128x384, .f32⟩
  | 60 => ⟨S16x4x64x4x128, .f32⟩
  | 61 => ⟨S16x128x4x4x64, .f32⟩
  | 62 => ⟨S16x4x4x128x256, .f32⟩
  | 63 => ⟨S16x4x4x128x256, .f32⟩
  | 64 => ⟨S4x64x16x4x128, .f32⟩
  | 65 => ⟨S16x128x4x4x64, .f32⟩
  | 66 => ⟨S16x128x4x4x64, .f32⟩
  | 67 => ⟨S2048x1024, .f32⟩
  | 68 => ⟨S2048x1024, .f32⟩
  | 69 => ⟨S16x128x4x4x64, .f32⟩
  | 70 => ⟨S4x64x16x4x128, .f32⟩
  | 71 => ⟨S4x16x4x128x256, .f32⟩
  | 72 => ⟨S16x4x4x128x256, .f32⟩
  | 73 => ⟨S4x64x256, .f32⟩
  | 74 => ⟨S256x4x64, .f32⟩
  | 75 => ⟨S16x4x4x128x256, .f32⟩
  | 76 => ⟨S_, .f32⟩
  | 77 => ⟨S16x4x4x128, .f32⟩
  | 78 => ⟨S16x4x4x128x1, .f32⟩
  | 79 => ⟨S16x4x4x128x256, .f32⟩
  | 80 => ⟨S16x4x4x128x256, .f32⟩
  | 81 => ⟨S16x4x64x4x128, .f32⟩
  | 82 => ⟨S16x4x4x128x384, .f32⟩
  | 83 => ⟨S16x4x64x384, .f32⟩
  | 84 => ⟨S16x384x4x64, .f32⟩
  | 85 => ⟨S16x4x4x128x384, .f32⟩
  | 86 => ⟨S_, .f32⟩
  | 87 => ⟨S16x4x4x128, .f32⟩
  | 88 => ⟨S16x4x4x128x1, .f32⟩
  | 89 => ⟨S16x4x4x128x1, .f32⟩
  | 90 => ⟨S16x4x4x128x384, .f32⟩
  | 91 => ⟨S16x4x4x128x384, .f32⟩
  | 92 => ⟨S16x4x4x128x1, .f32⟩
  | 93 => ⟨S_, .f32⟩
  | 94 => ⟨S16x4x4x128x1, .f32⟩
  | 95 => ⟨S16x4x4x128x1, .f32⟩
  | 96 => ⟨S16x4x4x128x1, .f32⟩
  | 97 => ⟨S16x4x4x128x1, .f32⟩
  | 98 => ⟨S_, .f32⟩
  | 99 => ⟨S4x4x1, .f32⟩
  | 100 => ⟨S1x4x4x1x1, .f32⟩
  | 101 => ⟨S16x4x4x128x1, .f32⟩
  | 102 => ⟨S_, .f32⟩
  | 103 => ⟨S16x4x4x128, .f32⟩
  | 104 => ⟨S16x4x4x128x256, .f32⟩
  | 105 => ⟨S16x4x4x128x256, .f32⟩
  | 106 => ⟨S_, .f32⟩
  | 107 => ⟨S16x4x4x128, .f32⟩
  | 108 => ⟨S16x4x4x128x384, .f32⟩
  | 109 => ⟨S16x4x4x128x384, .f32⟩
  | 110 => ⟨S16x4x4x128x256, .f32⟩
  | 111 => ⟨S16x4x4x128x256, .f32⟩
  | 112 => ⟨S_, .f32⟩
  | 113 => ⟨S16x4x4x128, .f32⟩
  | 114 => ⟨S16x4x4x128x1, .f32⟩
  | 115 => ⟨S16x4x4x128x1, .f32⟩
  | 116 => ⟨S16x4x4x128x384, .f32⟩
  | 117 => ⟨S16x4x4x128x384, .f32⟩
  | 118 => ⟨S_, .f32⟩
  | 119 => ⟨S16x4x4x128, .f32⟩
  | 120 => ⟨S16x4x4x128x1, .f32⟩
  | 121 => ⟨S16x4x4x128x1, .f32⟩
  | 122 => ⟨S16x4x4x128x1, .f32⟩
  | 123 => ⟨S_, .f32⟩
  | 124 => ⟨S4x4x1, .f32⟩
  | 125 => ⟨S1x4x4x1x1, .f32⟩
  | 126 => ⟨S1x4x4x1x1, .f32⟩
  | 127 => ⟨S16x4x4x128x1, .f32⟩
  | _ => ⟨S2048x1024, .bf16⟩

abbrev hbmTy0_2 (i : Nat) : BufTy := match i % 128 with
  | 0 => ⟨S16x4x4x128x1, .f32⟩
  | 1 => ⟨S16x4x4x128x1, .f32⟩
  | 2 => ⟨S_, .f32⟩
  | 3 => ⟨S16x4x4x128, .f32⟩
  | 4 => ⟨S16x4x4x128, .f32⟩
  | 5 => ⟨S16x4x4x128x256, .f32⟩
  | 6 => ⟨S16x4x4x128x256, .f32⟩
  | 7 => ⟨S16x4x4x128x256, .f32⟩
  | 8 => ⟨S_, .f32⟩
  | 9 => ⟨S16x4x4x128, .f32⟩
  | 10 => ⟨S16x4x4x128, .f32⟩
  | 11 => ⟨S16x4x4x128x384, .f32⟩
  | 12 => ⟨S16x4x4x128x384, .f32⟩
  | 13 => ⟨S16x4x4x128x384, .f32⟩
  | 14 => ⟨S_, .f32⟩
  | 15 => ⟨S4x4, .f32⟩
  | 16 => ⟨S_, .f32⟩
  | 17 => ⟨S16x4x4x128x384, .f32⟩
  | 18 => ⟨S16x4x4x128x384, .f32⟩
  | 19 => ⟨S_, .f32⟩
  | 20 => ⟨S16x4x4x128x256, .f32⟩
  | 21 => ⟨S16x4x4x128x256, .f32⟩
  | 22 => ⟨S4x256x16x128x4, .f32⟩
  | 23 => ⟨S4x16x128x4x64, .f32⟩
  | 24 => ⟨S16x128x4x4x64, .f32⟩
  | 25 => ⟨S4x256x64, .f32⟩
  | 26 => ⟨S256x4x64, .f32⟩
  | 27 => ⟨S_, .f32⟩
  | 28 => ⟨S16x4x4x128x384, .f32⟩
  | 29 => ⟨S16x4x4x128x384, .f32⟩
  | 30 => ⟨S16x4x384x128x4, .f32⟩
  | 31 => ⟨S16x4x128x4x64, .f32⟩
  | 32 => ⟨S16x128x4x4x64, .f32⟩
  | 33 => ⟨S16x128x4x4x64, .f32⟩
  | 34 => ⟨S16x4x384x64, .f32⟩
  | 35 => ⟨S16x384x4x64, .f32⟩
  | 36 => ⟨S2048x1024, .f32⟩
  | 37 => ⟨S16x128x4x64, .f32⟩
  | 38 => ⟨S16x128x4x64, .f32⟩
  | 39 => ⟨S16x128x4x64, .f32⟩
  | 40 => ⟨S_, .f32⟩
  | 41 => ⟨S18x128x4x64, .f32⟩
  | 42 => ⟨S_, .f32⟩
  | 43 => ⟨S18x128x4x64, .f32⟩
  | 44 => ⟨S18x128x4x64, .f32⟩
  | 45 => ⟨S_, .f32⟩
  | 46 => ⟨S18x128x4x64, .f32⟩
  | 47 => ⟨S18x128x4x64, .f32⟩
  | 48 => ⟨S16x128x4x64, .f32⟩
  | 49 => ⟨S16x128x4x64, .f32⟩
  | 50 => ⟨S16x128x4x64, .f32⟩
  | 51 => ⟨S_, .f32⟩
  | 52 => ⟨S18x128x4x64, .f32⟩
  | 53 => ⟨S_, .f32⟩
  | 54 => ⟨S18x128x4x64, .f32⟩
  | 55 => ⟨S18x128x4x64, .f32⟩
  | 56 => ⟨S_, .f32⟩
  | 57 => ⟨S18x128x4x64, .f32⟩
  | 58 => ⟨S18x128x4x64, .f32⟩
  | 59 => ⟨S2304x4x64, .f32⟩
  | 60 => ⟨S128x4x64, .f32⟩
  | 61 => ⟨S2048x4x64, .f32⟩
  | 62 => ⟨S128x4x64, .f32⟩
  | 63 => ⟨S2304x4x64, .f32⟩
  | 64 => ⟨S128x4x64, .f32⟩
  | 65 => ⟨S2048x4x64, .f32⟩
  | 66 => ⟨S128x4x64, .f32⟩
  | 67 => ⟨S16, .f32⟩
  | 68 => ⟨S256x256, .f32⟩
  | 69 => ⟨S256x256, .f32⟩
  | 70 => ⟨S2048x256, .f32⟩
  | 71 => ⟨S2048x256, .f32⟩
  | 72 => ⟨S2048x16x64, .f32⟩
  | 73 => ⟨S16x2048x64, .f32⟩
  | 74 => ⟨S4x4x2048x64, .f32⟩
  | 75 => ⟨S2048x4x64, .f32⟩
  | 76 => ⟨S4x2048x64, .f32⟩
  | 77 => ⟨S2048x4x64, .f32⟩
  | 78 => ⟨S4x2048x64, .f32⟩
  | 79 => ⟨S256x4x64, .f32⟩
  | 80 => ⟨S4x256x64, .f32⟩
  | 81 => ⟨S256x4x64, .f32⟩
  | 82 => ⟨S4x256x64, .f32⟩
  | _ => ⟨S2048x1024, .bf16⟩

abbrev hbmTy (i : Nat) : BufTy := match i / 128 with
  | 0 => hbmTy0_0 i
  | 1 => hbmTy0_1 i
  | 2 => hbmTy0_2 i
  | _ => ⟨S2048x1024, .bf16⟩

abbrev bufTy : (tb : Table) → Fin (tcTables nBuf tb) → BufTy
  | .hbm, ⟨i, _⟩ => hbmTy i
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_6 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_c_7 : Ref sig .tc := ⟨.hbm, 66, rfl⟩
abbrev main_v50 : Ref sig .tc := ⟨.hbm, 67, rfl⟩
abbrev main_v51 : Ref sig .tc := ⟨.hbm, 68, rfl⟩
abbrev main_c_8 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_c_9 : Ref sig .tc := ⟨.hbm, 77, rfl⟩
abbrev main_v59 : Ref sig .tc := ⟨.hbm, 78, rfl⟩
abbrev main_v60 : Ref sig .tc := ⟨.hbm, 79, rfl⟩
abbrev main_c_10 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_11 : Ref sig .tc := ⟨.hbm, 90, rfl⟩
abbrev main_v70_1 : Ref sig .tc := ⟨.hbm, 91, rfl⟩
abbrev main_call0_v1 : Ref sig .tc := ⟨.hbm, 92, rfl⟩
abbrev main_v70_0 : Ref sig .tc := ⟨.hbm, 93, rfl⟩
abbrev main_call0_cst : Ref sig .tc := ⟨.hbm, 94, rfl⟩
abbrev main_v70_2 : Ref sig .tc := ⟨.hbm, 95, rfl⟩
abbrev main_v71 : Ref sig .tc := ⟨.hbm, 96, rfl⟩
abbrev main_cst_12 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_13 : Ref sig .tc := ⟨.hbm, 103, rfl⟩
abbrev main_v77 : Ref sig .tc := ⟨.hbm, 104, rfl⟩
abbrev main_v78 : Ref sig .tc := ⟨.hbm, 105, rfl⟩
abbrev main_cst_14 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_15 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_16 : Ref sig .tc := ⟨.hbm, 118, rfl⟩
abbrev main_v89 : Ref sig .tc := ⟨.hbm, 119, rfl⟩
abbrev main_cst_17 : Ref sig .tc := ⟨.hbm, 120, rfl⟩
abbrev main_v90 : Ref sig .tc := ⟨.hbm, 121, rfl⟩
abbrev main_cst_18 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_19 : Ref sig .tc := ⟨.hbm, 128, rfl⟩
abbrev main_v96 : Ref sig .tc := ⟨.hbm, 129, rfl⟩
abbrev main_cst_20 : Ref sig .tc := ⟨.hbm, 130, rfl⟩
abbrev main_v97 : Ref sig .tc := ⟨.hbm, 131, rfl⟩
abbrev main_cst_21 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_cst_22 : Ref sig .tc := ⟨.hbm, 142, rfl⟩
abbrev main_v107 : Ref sig .tc := ⟨.hbm, 143, rfl⟩
abbrev main_cst_23 : Ref sig .tc := ⟨.hbm, 144, rfl⟩
abbrev main_v108 : Ref sig .tc := ⟨.hbm, 145, rfl⟩
abbrev main_cst_24 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_cst_25 : Ref sig .tc := ⟨.hbm, 154, rfl⟩
abbrev main_v116 : Ref sig .tc := ⟨.hbm, 155, rfl⟩
abbrev main_cst_26 : Ref sig .tc := ⟨.hbm, 156, rfl⟩
abbrev main_v117 : Ref sig .tc := ⟨.hbm, 157, rfl⟩
abbrev main_cst_27 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_cst_28 : Ref sig .tc := ⟨.hbm, 168, rfl⟩
abbrev main_v127 : Ref sig .tc := ⟨.hbm, 169, rfl⟩
abbrev main_v128 : Ref sig .tc := ⟨.hbm, 170, rfl⟩
abbrev main_cst_29 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_cst_30 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_cst_31 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_cst_32 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_cst_33 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_cst_34 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_cst_35 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_cst_36 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_cst_37 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_cst_38 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_cst_39 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_cst_40 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_cst_41 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_cst_42 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_cst_43 : Ref sig .tc := ⟨.hbm, 270, rfl⟩
abbrev main_v214 : Ref sig .tc := ⟨.hbm, 271, rfl⟩
abbrev main_call1_cst : Ref sig .tc := ⟨.hbm, 272, rfl⟩
abbrev main_call1_v0 : Ref sig .tc := ⟨.hbm, 273, rfl⟩
abbrev main_v215 : Ref sig .tc := ⟨.hbm, 274, rfl⟩
abbrev main_cst_44 : Ref sig .tc := ⟨.hbm, 275, rfl⟩
abbrev main_v216 : Ref sig .tc := ⟨.hbm, 276, rfl⟩
abbrev main_v217 : Ref sig .tc := ⟨.hbm, 277, rfl⟩
abbrev main_v218 : Ref sig .tc := ⟨.hbm, 278, rfl⟩
abbrev main_v219 : Ref sig .tc := ⟨.hbm, 279, rfl⟩
abbrev main_v220 : Ref sig .tc := ⟨.hbm, 280, rfl⟩
abbrev main_v221 : Ref sig .tc := ⟨.hbm, 281, rfl⟩
abbrev main_v222 : Ref sig .tc := ⟨.hbm, 282, rfl⟩
abbrev main_cst_45 : Ref sig .tc := ⟨.hbm, 283, rfl⟩
abbrev main_v223 : Ref sig .tc := ⟨.hbm, 284, rfl⟩
abbrev main_v224 : Ref sig .tc := ⟨.hbm, 285, rfl⟩
abbrev main_v225 : Ref sig .tc := ⟨.hbm, 286, rfl⟩
abbrev main_v226 : Ref sig .tc := ⟨.hbm, 287, rfl⟩
abbrev main_v227 : Ref sig .tc := ⟨.hbm, 288, rfl⟩
abbrev main_v228 : Ref sig .tc := ⟨.hbm, 289, rfl⟩
abbrev main_v229 : Ref sig .tc := ⟨.hbm, 290, rfl⟩
abbrev main_v230 : Ref sig .tc := ⟨.hbm, 291, rfl⟩
abbrev main_v231 : Ref sig .tc := ⟨.hbm, 292, rfl⟩
abbrev main_v232 : Ref sig .tc := ⟨.hbm, 293, rfl⟩
abbrev main_v233 : Ref sig .tc := ⟨.hbm, 294, rfl⟩
abbrev main_v234 : Ref sig .tc := ⟨.hbm, 295, rfl⟩
abbrev main_cst_46 : Ref sig .tc := ⟨.hbm, 296, rfl⟩
abbrev main_v235 : Ref sig .tc := ⟨.hbm, 297, rfl⟩
abbrev main_cst_47 : Ref sig .tc := ⟨.hbm, 298, rfl⟩
abbrev main_v236 : Ref sig .tc := ⟨.hbm, 299, rfl⟩
abbrev main_v237 : Ref sig .tc := ⟨.hbm, 300, rfl⟩
abbrev main_cst_48 : Ref sig .tc := ⟨.hbm, 301, rfl⟩
abbrev main_v238 : Ref sig .tc := ⟨.hbm, 302, rfl⟩
abbrev main_v239 : Ref sig .tc := ⟨.hbm, 303, rfl⟩
abbrev main_v240 : Ref sig .tc := ⟨.hbm, 304, rfl⟩
abbrev main_v241 : Ref sig .tc := ⟨.hbm, 305, rfl⟩
abbrev main_v242 : Ref sig .tc := ⟨.hbm, 306, rfl⟩
abbrev main_cst_49 : Ref sig .tc := ⟨.hbm, 307, rfl⟩
abbrev main_v243 : Ref sig .tc := ⟨.hbm, 308, rfl⟩
abbrev main_cst_50 : Ref sig .tc := ⟨.hbm, 309, rfl⟩
abbrev main_v244 : Ref sig .tc := ⟨.hbm, 310, rfl⟩
abbrev main_v245 : Ref sig .tc := ⟨.hbm, 311, rfl⟩
abbrev main_cst_51 : Ref sig .tc := ⟨.hbm, 312, rfl⟩
abbrev main_v246 : Ref sig .tc := ⟨.hbm, 313, rfl⟩
abbrev main_v247 : Ref sig .tc := ⟨.hbm, 314, rfl⟩
abbrev main_v248 : Ref sig .tc := ⟨.hbm, 315, rfl⟩
abbrev main_v249 : Ref sig .tc := ⟨.hbm, 316, rfl⟩
abbrev main_v250 : Ref sig .tc := ⟨.hbm, 317, rfl⟩
abbrev main_v251 : Ref sig .tc := ⟨.hbm, 318, rfl⟩
abbrev main_v252 : Ref sig .tc := ⟨.hbm, 319, rfl⟩
abbrev main_v253 : Ref sig .tc := ⟨.hbm, 320, rfl⟩
abbrev main_v254 : Ref sig .tc := ⟨.hbm, 321, rfl⟩
abbrev main_v255 : Ref sig .tc := ⟨.hbm, 322, rfl⟩
abbrev main_v256 : Ref sig .tc := ⟨.hbm, 323, rfl⟩
abbrev main_v257 : Ref sig .tc := ⟨.hbm, 324, rfl⟩
abbrev main_v258 : Ref sig .tc := ⟨.hbm, 325, rfl⟩
abbrev main_v259 : Ref sig .tc := ⟨.hbm, 326, rfl⟩
abbrev main_v260 : Ref sig .tc := ⟨.hbm, 327, rfl⟩
abbrev main_v261 : Ref sig .tc := ⟨.hbm, 328, rfl⟩
abbrev main_v262 : Ref sig .tc := ⟨.hbm, 329, rfl⟩
abbrev main_v263 : Ref sig .tc := ⟨.hbm, 330, rfl⟩
abbrev main_v264 : Ref sig .tc := ⟨.hbm, 331, rfl⟩
abbrev main_v265 : Ref sig .tc := ⟨.hbm, 332, rfl⟩
abbrev main_v266 : Ref sig .tc := ⟨.hbm, 333, rfl⟩
abbrev main_v267 : Ref sig .tc := ⟨.hbm, 334, rfl⟩
abbrev main_v268 : Ref sig .tc := ⟨.hbm, 335, rfl⟩
abbrev main_v269 : Ref sig .tc := ⟨.hbm, 336, rfl⟩
abbrev main_v270 : Ref sig .tc := ⟨.hbm, 337, rfl⟩
abbrev main_v271 : Ref sig .tc := ⟨.hbm, 338, rfl⟩

abbrev nD : Nat := 1
abbrev τ : Topo := Topo.v7x

variable {F : FTy → Type} [FloatOps F]
-- ==== KernelUp.lean ====
abbrev S2048x1024 : Shape := ⟨2, ![2048, 1024]⟩
abbrev S1024x5632 : Shape := ⟨2, ![1024, 5632]⟩
abbrev S2048x5632 : Shape := ⟨2, ![2048, 5632]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .bf16⟩
  | .hbm, ⟨2, _⟩ => ⟨S2048x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelUpIdeal.lean ====
abbrev S2048x1024 : Shape := ⟨2, ![2048, 1024]⟩
abbrev S1024x5632 : Shape := ⟨2, ![1024, 5632]⟩
abbrev S2048x5632 : Shape := ⟨2, ![2048, 5632]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .bf16⟩
  | .hbm, ⟨2, _⟩ => ⟨S2048x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpIdeal.lean ====
abbrev S2048x1024 : Shape := ⟨2, ![2048, 1024]⟩
abbrev S1024x5632 : Shape := ⟨2, ![1024, 5632]⟩
abbrev S2048x5632 : Shape := ⟨2, ![2048, 5632]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .bf16⟩
  | .hbm, ⟨2, _⟩ => ⟨S2048x1024, .f32⟩
  | .hbm, ⟨3, _⟩ => ⟨S1024x5632, .f32⟩
  | .hbm, ⟨4, _⟩ => ⟨S2048x5632, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelUpDw.lean ====
abbrev S2048x1024 : Shape := ⟨2, ![2048, 1024]⟩
abbrev S2048x5632 : Shape := ⟨2, ![2048, 5632]⟩
abbrev S1024x5632 : Shape := ⟨2, ![1024, 5632]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2048x5632, .bf16⟩
  | .hbm, ⟨2, _⟩ => ⟨S1024x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelUpDwIdeal.lean ====
abbrev S2048x1024 : Shape := ⟨2, ![2048, 1024]⟩
abbrev S2048x5632 : Shape := ⟨2, ![2048, 5632]⟩
abbrev S1024x5632 : Shape := ⟨2, ![1024, 5632]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2048x5632, .bf16⟩
  | .hbm, ⟨2, _⟩ => ⟨S1024x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpDwIdeal.lean ====
abbrev S2048x1024 : Shape := ⟨2, ![2048, 1024]⟩
abbrev S2048x5632 : Shape := ⟨2, ![2048, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x5632, .bf16⟩
  | .hbm, ⟨2, _⟩ => ⟨S_, .f32⟩
  | .hbm, ⟨3, _⟩ => ⟨S1024x5632, .f32⟩
  | .hbm, ⟨4, _⟩ => ⟨S2048x1024, .f32⟩
  | .hbm, ⟨5, _⟩ => ⟨S2048x5632, .f32⟩
  | .hbm, ⟨6, _⟩ => ⟨S2048x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelUpDx.lean ====
abbrev S2048x5632 : Shape := ⟨2, ![2048, 5632]⟩
abbrev S1024x5632 : Shape := ⟨2, ![1024, 5632]⟩
abbrev S2048x1024 : Shape := ⟨2, ![2048, 1024]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S1024x5632, .bf16⟩
  | .hbm, ⟨2, _⟩ => ⟨S2048x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelUpDxIdeal.lean ====
abbrev S2048x5632 : Shape := ⟨2, ![2048, 5632]⟩
abbrev S1024x5632 : Shape := ⟨2, ![1024, 5632]⟩
abbrev S2048x1024 : Shape := ⟨2, ![2048, 1024]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S1024x5632, .bf16⟩
  | .hbm, ⟨2, _⟩ => ⟨S2048x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpDxIdeal.lean ====
abbrev S2048x5632 : Shape := ⟨2, ![2048, 5632]⟩
abbrev S1024x5632 : Shape := ⟨2, ![1024, 5632]⟩
abbrev S_ : Shape := ⟨0, ![]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S1024x5632, .bf16⟩
  | .hbm, ⟨2, _⟩ => ⟨S_, .f32⟩
  | .hbm, ⟨3, _⟩ => ⟨S2048x1024, .f32⟩
  | .hbm, ⟨4, _⟩ => ⟨S1024x5632, .f32⟩
  | .hbm, ⟨5, _⟩ => ⟨S2048x5632, .f32⟩
  | .hbm, ⟨6, _⟩ => ⟨S2048x5632, .f32⟩
  | .hbm, ⟨7, _⟩ => ⟨S2048x1024, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelDown.lean ====
abbrev S2048x2816 : Shape := ⟨2, ![2048, 2816]⟩
abbrev S2816x1024 : Shape := ⟨2, ![2816, 1024]⟩
abbrev S2048x1024 : Shape := ⟨2, ![2048, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelDownIdeal.lean ====
abbrev S2048x2816 : Shape := ⟨2, ![2048, 2816]⟩
abbrev S2816x1024 : Shape := ⟨2, ![2816, 1024]⟩
abbrev S2048x1024 : Shape := ⟨2, ![2048, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownIdeal.lean ====
abbrev S2048x2816 : Shape := ⟨2, ![2048, 2816]⟩
abbrev S2816x1024 : Shape := ⟨2, ![2816, 1024]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x2816, .f32⟩
  | .hbm, ⟨3, _⟩ => ⟨S2816x1024, .f32⟩
  | .hbm, ⟨4, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelDownDw.lean ====
abbrev S2048x2816 : Shape := ⟨2, ![2048, 2816]⟩
abbrev S2048x1024 : Shape := ⟨2, ![2048, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelDownDwIdeal.lean ====
abbrev S2048x2816 : Shape := ⟨2, ![2048, 2816]⟩
abbrev S2048x1024 : Shape := ⟨2, ![2048, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownDwIdeal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S_, .f32⟩
  | .hbm, ⟨3, _⟩ => ⟨S2816x1024, .f32⟩
  | .hbm, ⟨4, _⟩ => ⟨S2048x2816, .f32⟩
  | .hbm, ⟨5, _⟩ => ⟨S2048x1024, .f32⟩
  | .hbm, ⟨6, _⟩ => ⟨S2048x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDownDx.lean ====
abbrev S2048x1024 : Shape := ⟨2, ![2048, 1024]⟩
abbrev S2816x1024 : Shape := ⟨2, ![2816, 1024]⟩
abbrev S2048x2816 : Shape := ⟨2, ![2048, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S2048x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelDownDxIdeal.lean ====
abbrev S2048x1024 : Shape := ⟨2, ![2048, 1024]⟩
abbrev S2816x1024 : Shape := ⟨2, ![2816, 1024]⟩
abbrev S2048x2816 : Shape := ⟨2, ![2048, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S2048x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownDxIdeal.lean ====
abbrev S2048x1024 : Shape := ⟨2, ![2048, 1024]⟩
abbrev S2816x1024 : Shape := ⟨2, ![2816, 1024]⟩
abbrev S_ : Shape := ⟨0, ![]⟩
abbrev S2048x2816 : Shape := ⟨2, ![2048, 2816]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S_, .f32⟩
  | .hbm, ⟨3, _⟩ => ⟨S2048x2816, .f32⟩
  | .hbm, ⟨4, _⟩ => ⟨S2816x1024, .f32⟩
  | .hbm, ⟨5, _⟩ => ⟨S2048x1024, .f32⟩
  | .hbm, ⟨6, _⟩ => ⟨S2048x1024, .f32⟩
  | .hbm, ⟨7, _⟩ => ⟨S2048x2816, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelUpFirst.lean ====
abbrev S2304x1024 : Shape := ⟨2, ![2304, 1024]⟩
abbrev S1024x5632 : Shape := ⟨2, ![1024, 5632]⟩
abbrev S2304x5632 : Shape := ⟨2, ![2304, 5632]⟩
abbrev S1152x1024 : Shape := ⟨2, ![1152, 1024]⟩
abbrev S1024x1408 : Shape := ⟨2, ![1024, 1408]⟩
abbrev S1152x1408 : Shape := ⟨2, ![1152, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2304x1024, .bf16⟩
  | .hbm, ⟨1, _⟩ => ⟨S1024x5632, .bf16⟩
  | .hbm, ⟨2, _⟩ => ⟨S2304x5632, .f32⟩
  | .local _ .vmem, ⟨0, _⟩ => ⟨S1152x1024, .bf16⟩
  | .local _ .vmem, ⟨1, _⟩ => ⟨S1152x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1152x1408, .f32⟩
  | .local _ .vmem, ⟨5, _⟩ => ⟨S1152x1408, .f32⟩
  | .local _ .vmem, ⟨6, _⟩ => ⟨S1152x1408, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelUpFirstIdeal.lean ====
abbrev S2304x1024 : Shape := ⟨2, ![2304, 1024]⟩
abbrev S1024x5632 : Shape := ⟨2, ![1024, 5632]⟩
abbrev S2304x5632 : Shape := ⟨2, ![2304, 5632]⟩
abbrev S1152x1024 : Shape := ⟨2, ![1152, 1024]⟩
abbrev S1024x1408 : Shape := ⟨2, ![1024, 1408]⟩
abbrev S1152x1408 : Shape := ⟨2, ![1152, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2304x1024, .bf16⟩
  | .hbm, ⟨1, _⟩ => ⟨S1024x5632, .bf16⟩
  | .hbm, ⟨2, _⟩ => ⟨S2304x5632, .f32⟩
  | .local _ .vmem, ⟨0, _⟩ => ⟨S1152x1024, .bf16⟩
  | .local _ .vmem, ⟨1, _⟩ => ⟨S1152x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1152x1408, .f32⟩
  | .local _ .vmem, ⟨5, _⟩ => ⟨S1152x1408, .f32⟩
  | .local _ .vmem, ⟨6, _⟩ => ⟨S1152x1408, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpFirstIdeal.lean ====
abbrev S2304x1024 : Shape := ⟨2, ![2304, 1024]⟩
abbrev S1024x5632 : Shape := ⟨2, ![1024, 5632]⟩
abbrev S2304x5632 : Shape := ⟨2, ![2304, 5632]⟩

abbrev nBuf : Space → Nat
  | .hbm => 5
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S1024x5632, .bf16⟩
  | .hbm, ⟨2, _⟩ => ⟨S2304x1024, .f32⟩
  | .hbm, ⟨3, _⟩ => ⟨S1024x5632, .f32⟩
  | .hbm, ⟨4, _⟩ => ⟨S2304x5632, .f32⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelUpFirstDw.lean ====
abbrev S2304x1024 : Shape := ⟨2, ![2304, 1024]⟩
abbrev S2304x5632 : Shape := ⟨2, ![2304, 5632]⟩
abbrev S1024x5632 : Shape := ⟨2, ![1024, 5632]⟩
abbrev S1152x1024 : Shape := ⟨2, ![1152, 1024]⟩
abbrev S1152x1408 : Shape := ⟨2, ![1152, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2304x1024, .bf16⟩
  | .hbm, ⟨1, _⟩ => ⟨S2304x5632, .bf16⟩
  | .hbm, ⟨2, _⟩ => ⟨S1024x5632, .bf16⟩
  | .local _ .vmem, ⟨0, _⟩ => ⟨S1152x1024, .bf16⟩
  | .local _ .vmem, ⟨1, _⟩ => ⟨S1152x1024, .bf16⟩
  | .local _ .vmem, ⟨2, _⟩ => ⟨S1152x1408, .bf16⟩
  | .local _ .vmem, ⟨3, _⟩ => ⟨S1152x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelUpFirstDwIdeal.lean ====
abbrev S2304x1024 : Shape := ⟨2, ![2304, 1024]⟩
abbrev S2304x5632 : Shape := ⟨2, ![2304, 5632]⟩
abbrev S1024x5632 : Shape := ⟨2, ![1024, 5632]⟩
abbrev S1152x1024 : Shape := ⟨2, ![1152, 1024]⟩
abbrev S1152x1408 : Shape := ⟨2, ![1152, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2304x1024, .bf16⟩
  | .hbm, ⟨1, _⟩ => ⟨S2304x5632, .bf16⟩
  | .hbm, ⟨2, _⟩ => ⟨S1024x5632, .bf16⟩
  | .local _ .vmem, ⟨0, _⟩ => ⟨S1152x1024, .bf16⟩
  | .local _ .vmem, ⟨1, _⟩ => ⟨S1152x1024, .bf16⟩
  | .local _ .vmem, ⟨2, _⟩ => ⟨S1152x1408, .bf16⟩
  | .local _ .vmem, ⟨3, _⟩ => ⟨S1152x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpFirstDwIdeal.lean ====
abbrev S2304x1024 : Shape := ⟨2, ![2304, 1024]⟩
abbrev S2304x5632 : Shape := ⟨2, ![2304, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S2304x5632, .bf16⟩
  | .hbm, ⟨2, _⟩ => ⟨S_, .f32⟩
  | .hbm, ⟨3, _⟩ => ⟨S1024x5632, .f32⟩
  | .hbm, ⟨4, _⟩ => ⟨S2304x1024, .f32⟩
  | .hbm, ⟨5, _⟩ => ⟨S2304x5632, .f32⟩
  | .hbm, ⟨6, _⟩ => ⟨S2304x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelUpFirstDx.lean ====
abbrev S2304x5632 : Shape := ⟨2, ![2304, 5632]⟩
abbrev S1024x5632 : Shape := ⟨2, ![1024, 5632]⟩
abbrev S2304x1024 : Shape := ⟨2, ![2304, 1024]⟩
abbrev S1152x1408 : Shape := ⟨2, ![1152, 1408]⟩
abbrev S1024x1408 : Shape := ⟨2, ![1024, 1408]⟩
abbrev S1152x1024 : Shape := ⟨2, ![1152, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x5632, .bf16⟩
  | .hbm, ⟨1, _⟩ => ⟨S1024x5632, .bf16⟩
  | .hbm, ⟨2, _⟩ => ⟨S2304x1024, .f32⟩
  | .local _ .vmem, ⟨0, _⟩ => ⟨S1152x1408, .bf16⟩
  | .local _ .vmem, ⟨1, _⟩ => ⟨S1152x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1152x1024, .f32⟩
  | .local _ .vmem, ⟨5, _⟩ => ⟨S1152x1024, .f32⟩
  | .local _ .vmem, ⟨6, _⟩ => ⟨S1152x1024, .f32⟩
  | _, _ => ⟨S2304x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelUpFirstDxIdeal.lean ====
abbrev S2304x5632 : Shape := ⟨2, ![2304, 5632]⟩
abbrev S1024x5632 : Shape := ⟨2, ![1024, 5632]⟩
abbrev S2304x1024 : Shape := ⟨2, ![2304, 1024]⟩
abbrev S1152x1408 : Shape := ⟨2, ![1152, 1408]⟩
abbrev S1024x1408 : Shape := ⟨2, ![1024, 1408]⟩
abbrev S1152x1024 : Shape := ⟨2, ![1152, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x5632, .bf16⟩
  | .hbm, ⟨1, _⟩ => ⟨S1024x5632, .bf16⟩
  | .hbm, ⟨2, _⟩ => ⟨S2304x1024, .f32⟩
  | .local _ .vmem, ⟨0, _⟩ => ⟨S1152x1408, .bf16⟩
  | .local _ .vmem, ⟨1, _⟩ => ⟨S1152x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1152x1024, .f32⟩
  | .local _ .vmem, ⟨5, _⟩ => ⟨S1152x1024, .f32⟩
  | .local _ .vmem, ⟨6, _⟩ => ⟨S1152x1024, .f32⟩
  | _, _ => ⟨S2304x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpFirstDxIdeal.lean ====
abbrev S2304x5632 : Shape := ⟨2, ![2304, 5632]⟩
abbrev S1024x5632 : Shape := ⟨2, ![1024, 5632]⟩
abbrev S_ : Shape := ⟨0, ![]⟩
abbrev S2304x1024 : Shape := ⟨2, ![2304, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2304x5632, .bf16⟩
  | .hbm, ⟨1, _⟩ => ⟨S1024x5632, .bf16⟩
  | .hbm, ⟨2, _⟩ => ⟨S_, .f32⟩
  | .hbm, ⟨3, _⟩ => ⟨S2304x1024, .f32⟩
  | .hbm, ⟨4, _⟩ => ⟨S1024x5632, .f32⟩
  | .hbm, ⟨5, _⟩ => ⟨S2304x5632, .f32⟩
  | .hbm, ⟨6, _⟩ => ⟨S2304x5632, .f32⟩
  | .hbm, ⟨7, _⟩ => ⟨S2304x1024, .f32⟩
  | _, _ => ⟨S2304x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelDownFirst.lean ====
abbrev S2304x2816 : Shape := ⟨2, ![2304, 2816]⟩
abbrev S2816x1024 : Shape := ⟨2, ![2816, 1024]⟩
abbrev S2304x1024 : Shape := ⟨2, ![2304, 1024]⟩
abbrev S1152x1408 : Shape := ⟨2, ![1152, 1408]⟩
abbrev S1408x1024 : Shape := ⟨2, ![1408, 1024]⟩
abbrev S1152x1024 : Shape := ⟨2, ![1152, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x2816, .bf16⟩
  | .hbm, ⟨1, _⟩ => ⟨S2816x1024, .bf16⟩
  | .hbm, ⟨2, _⟩ => ⟨S2304x1024, .f32⟩
  | .local _ .vmem, ⟨0, _⟩ => ⟨S1152x1408, .bf16⟩
  | .local _ .vmem, ⟨1, _⟩ => ⟨S1152x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1152x1024, .f32⟩
  | .local _ .vmem, ⟨5, _⟩ => ⟨S1152x1024, .f32⟩
  | .local _ .vmem, ⟨6, _⟩ => ⟨S1152x1024, .f32⟩
  | _, _ => ⟨S2304x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelDownFirstIdeal.lean ====
abbrev S2304x2816 : Shape := ⟨2, ![2304, 2816]⟩
abbrev S2816x1024 : Shape := ⟨2, ![2816, 1024]⟩
abbrev S2304x1024 : Shape := ⟨2, ![2304, 1024]⟩
abbrev S1152x1408 : Shape := ⟨2, ![1152, 1408]⟩
abbrev S1408x1024 : Shape := ⟨2, ![1408, 1024]⟩
abbrev S1152x1024 : Shape := ⟨2, ![1152, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x2816, .bf16⟩
  | .hbm, ⟨1, _⟩ => ⟨S2816x1024, .bf16⟩
  | .hbm, ⟨2, _⟩ => ⟨S2304x1024, .f32⟩
  | .local _ .vmem, ⟨0, _⟩ => ⟨S1152x1408, .bf16⟩
  | .local _ .vmem, ⟨1, _⟩ => ⟨S1152x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1152x1024, .f32⟩
  | .local _ .vmem, ⟨5, _⟩ => ⟨S1152x1024, .f32⟩
  | .local _ .vmem, ⟨6, _⟩ => ⟨S1152x1024, .f32⟩
  | _, _ => ⟨S2304x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownFirstIdeal.lean ====
abbrev S2304x2816 : Shape := ⟨2, ![2304, 2816]⟩
abbrev S2816x1024 : Shape := ⟨2, ![2816, 1024]⟩
abbrev S2304x1024 : Shape := ⟨2, ![2304, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2304x2816, .bf16⟩
  | .hbm, ⟨1, _⟩ => ⟨S2816x1024, .bf16⟩
  | .hbm, ⟨2, _⟩ => ⟨S2304x2816, .f32⟩
  | .hbm, ⟨3, _⟩ => ⟨S2816x1024, .f32⟩
  | .hbm, ⟨4, _⟩ => ⟨S2304x1024, .f32⟩
  | _, _ => ⟨S2304x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelDownFirstDw.lean ====
abbrev S2304x2816 : Shape := ⟨2, ![2304, 2816]⟩
abbrev S2304x1024 : Shape := ⟨2, ![2304, 1024]⟩
abbrev S2816x1024 : Shape := ⟨2, ![2816, 1024]⟩
abbrev S1152x1408 : Shape := ⟨2, ![1152, 1408]⟩
abbrev S1152x1024 : Shape := ⟨2, ![1152, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x2816, .bf16⟩
  | .hbm, ⟨1, _⟩ => ⟨S2304x1024, .bf16⟩
  | .hbm, ⟨2, _⟩ => ⟨S2816x1024, .bf16⟩
  | .local _ .vmem, ⟨0, _⟩ => ⟨S1152x1408, .bf16⟩
  | .local _ .vmem, ⟨1, _⟩ => ⟨S1152x1408, .bf16⟩
  | .local _ .vmem, ⟨2, _⟩ => ⟨S1152x1024, .bf16⟩
  | .local _ .vmem, ⟨3, _⟩ => ⟨S1152x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S2304x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelDownFirstDwIdeal.lean ====
abbrev S2304x2816 : Shape := ⟨2, ![2304, 2816]⟩
abbrev S2304x1024 : Shape := ⟨2, ![2304, 1024]⟩
abbrev S2816x1024 : Shape := ⟨2, ![2816, 1024]⟩
abbrev S1152x1408 : Shape := ⟨2, ![1152, 1408]⟩
abbrev S1152x1024 : Shape := ⟨2, ![1152, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x2816, .bf16⟩
  | .hbm, ⟨1, _⟩ => ⟨S2304x1024, .bf16⟩
  | .hbm, ⟨2, _⟩ => ⟨S2816x1024, .bf16⟩
  | .local _ .vmem, ⟨0, _⟩ => ⟨S1152x1408, .bf16⟩
  | .local _ .vmem, ⟨1, _⟩ => ⟨S1152x1408, .bf16⟩
  | .local _ .vmem, ⟨2, _⟩ => ⟨S1152x1024, .bf16⟩
  | .local _ .vmem, ⟨3, _⟩ => ⟨S1152x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S2304x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownFirstDwIdeal.lean ====
abbrev S2304x2816 : Shape := ⟨2, ![2304, 2816]⟩
abbrev S2304x1024 : Shape := ⟨2, ![2304, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S2304x2816, .bf16⟩
  | .hbm, ⟨1, _⟩ => ⟨S2304x1024, .bf16⟩
  | .hbm, ⟨2, _⟩ => ⟨S_, .f32⟩
  | .hbm, ⟨3, _⟩ => ⟨S2816x1024, .f32⟩
  | .hbm, ⟨4, _⟩ => ⟨S2304x2816, .f32⟩
  | .hbm, ⟨5, _⟩ => ⟨S2304x1024, .f32⟩
  | .hbm, ⟨6, _⟩ => ⟨S2304x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S2304x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDownFirstDx.lean ====
abbrev S2304x1024 : Shape := ⟨2, ![2304, 1024]⟩
abbrev S2816x1024 : Shape := ⟨2, ![2816, 1024]⟩
abbrev S2304x2816 : Shape := ⟨2, ![2304, 2816]⟩
abbrev S1152x1024 : Shape := ⟨2, ![1152, 1024]⟩
abbrev S1408x1024 : Shape := ⟨2, ![1408, 1024]⟩
abbrev S1152x1408 : Shape := ⟨2, ![1152, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2304x1024, .bf16⟩
  | .hbm, ⟨1, _⟩ => ⟨S2816x1024, .bf16⟩
  | .hbm, ⟨2, _⟩ => ⟨S2304x2816, .f32⟩
  | .local _ .vmem, ⟨0, _⟩ => ⟨S1152x1024, .bf16⟩
  | .local _ .vmem, ⟨1, _⟩ => ⟨S1152x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1152x1408, .f32⟩
  | .local _ .vmem, ⟨5, _⟩ => ⟨S1152x1408, .f32⟩
  | .local _ .vmem, ⟨6, _⟩ => ⟨S1152x1408, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelDownFirstDxIdeal.lean ====
abbrev S2304x1024 : Shape := ⟨2, ![2304, 1024]⟩
abbrev S2816x1024 : Shape := ⟨2, ![2816, 1024]⟩
abbrev S2304x2816 : Shape := ⟨2, ![2304, 2816]⟩
abbrev S1152x1024 : Shape := ⟨2, ![1152, 1024]⟩
abbrev S1408x1024 : Shape := ⟨2, ![1408, 1024]⟩
abbrev S1152x1408 : Shape := ⟨2, ![1152, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2304x1024, .bf16⟩
  | .hbm, ⟨1, _⟩ => ⟨S2816x1024, .bf16⟩
  | .hbm, ⟨2, _⟩ => ⟨S2304x2816, .f32⟩
  | .local _ .vmem, ⟨0, _⟩ => ⟨S1152x1024, .bf16⟩
  | .local _ .vmem, ⟨1, _⟩ => ⟨S1152x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1152x1408, .f32⟩
  | .local _ .vmem, ⟨5, _⟩ => ⟨S1152x1408, .f32⟩
  | .local _ .vmem, ⟨6, _⟩ => ⟨S1152x1408, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownFirstDxIdeal.lean ====
abbrev S2304x1024 : Shape := ⟨2, ![2304, 1024]⟩
abbrev S2816x1024 : Shape := ⟨2, ![2816, 1024]⟩
abbrev S_ : Shape := ⟨0, ![]⟩
abbrev S2304x2816 : Shape := ⟨2, ![2304, 2816]⟩

abbrev nBuf : Space → Nat
  | .hbm => 8
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S2816x1024, .bf16⟩
  | .hbm, ⟨2, _⟩ => ⟨S_, .f32⟩
  | .hbm, ⟨3, _⟩ => ⟨S2304x2816, .f32⟩
  | .hbm, ⟨4, _⟩ => ⟨S2816x1024, .f32⟩
  | .hbm, ⟨5, _⟩ => ⟨S2304x1024, .f32⟩
  | .hbm, ⟨6, _⟩ => ⟨S2304x1024, .f32⟩
  | .hbm, ⟨7, _⟩ => ⟨S2304x2816, .f32⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelCmIn.lean ====
abbrev S2048x1024 : Shape := ⟨2, ![2048, 1024]⟩
abbrev S1024x2048 : Shape := ⟨2, ![1024, 2048]⟩
abbrev S2048x2048 : Shape := ⟨2, ![2048, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelCmInIdeal.lean ====
abbrev S2048x1024 : Shape := ⟨2, ![2048, 1024]⟩
abbrev S1024x2048 : Shape := ⟨2, ![1024, 2048]⟩
abbrev S2048x2048 : Shape := ⟨2, ![2048, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceCmInIdeal.lean ====
abbrev S2048x1024 : Shape := ⟨2, ![2048, 1024]⟩
abbrev S1024x2048 : Shape := ⟨2, ![1024, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S2048x1024, .f32⟩
  | .hbm, ⟨3, _⟩ => ⟨S1024x2048, .f32⟩
  | .hbm, ⟨4, _⟩ => ⟨S2048x2048, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelCmInDw.lean ====
abbrev S2048x1024 : Shape := ⟨2, ![2048, 1024]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S1024x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelCmInDwIdeal.lean ====
abbrev S2048x1024 : Shape := ⟨2, ![2048, 1024]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S1024x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceCmInDwIdeal.lean ====
abbrev S2048x1024 : Shape := ⟨2, ![2048, 1024]⟩
abbrev S2048x2048 : Shape := ⟨2, ![2048, 2048]⟩
abbrev S_ : Shape := ⟨0, ![]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S_, .f32⟩
  | .hbm, ⟨3, _⟩ => ⟨S1024x2048, .f32⟩
  | .hbm, ⟨4, _⟩ => ⟨S2048x1024, .f32⟩
  | .hbm, ⟨5, _⟩ => ⟨S2048x2048, .f32⟩
  | .hbm, ⟨6, _⟩ => ⟨S2048x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelCmInDx.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S1024x2048, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelCmInDxIdeal.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S1024x2048, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceCmInDxIdeal.lean ====
abbrev S2048x2048 : Shape := ⟨2, ![2048, 2048]⟩
abbrev S1024x2048 : Shape := ⟨2, ![1024, 2048]⟩
abbrev S_ : Shape := ⟨0, ![]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1024x2048, .bf16⟩
  | .hbm, ⟨2, _⟩ => ⟨S_, .f32⟩
  | .hbm, ⟨3, _⟩ => ⟨S2048x1024, .f32⟩
  | .hbm, ⟨4, _⟩ => ⟨S1024x2048, .f32⟩
  | .hbm, ⟨5, _⟩ => ⟨S2048x2048, .f32⟩
  | .hbm, ⟨6, _⟩ => ⟨S2048x2048, .f32⟩
  | .hbm, ⟨7, _⟩ => ⟨S2048x1024, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelCmOut.lean ====
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelCmOutIdeal.lean ====
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceCmOutIdeal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024x1024, .f32⟩
  | .hbm, ⟨4, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelCmOutDw.lean ====
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== KernelCmOutDwIdeal.lean ====
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceCmOutDwIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelCmOutDx.lean ====
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelCmOutDxIdeal.lean ====
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceCmOutDxIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S_, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelCmInFirst.lean ====
abbrev S2304x1024 : Shape := ⟨2, ![2304, 1024]⟩
abbrev S1024x2048 : Shape := ⟨2, ![1024, 2048]⟩
abbrev S2304x2048 : Shape := ⟨2, ![2304, 2048]⟩
abbrev S1152x1024 : Shape := ⟨2, ![1152, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x1024, .bf16⟩
  | .hbm, ⟨1, _⟩ => ⟨S1024x2048, .bf16⟩
  | .hbm, ⟨2, _⟩ => ⟨S2304x2048, .f32⟩
  | .local _ .vmem, ⟨0, _⟩ => ⟨S1152x1024, .bf16⟩
  | .local _ .vmem, ⟨1, _⟩ => ⟨S1152x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1152x1024, .f32⟩
  | .local _ .vmem, ⟨5, _⟩ => ⟨S1152x1024, .f32⟩
  | .local _ .vmem, ⟨6, _⟩ => ⟨S1152x1024, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelCmInFirstIdeal.lean ====
abbrev S2304x1024 : Shape := ⟨2, ![2304, 1024]⟩
abbrev S1024x2048 : Shape := ⟨2, ![1024, 2048]⟩
abbrev S2304x2048 : Shape := ⟨2, ![2304, 2048]⟩
abbrev S1152x1024 : Shape := ⟨2, ![1152, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x1024, .bf16⟩
  | .hbm, ⟨1, _⟩ => ⟨S1024x2048, .bf16⟩
  | .hbm, ⟨2, _⟩ => ⟨S2304x2048, .f32⟩
  | .local _ .vmem, ⟨0, _⟩ => ⟨S1152x1024, .bf16⟩
  | .local _ .vmem, ⟨1, _⟩ => ⟨S1152x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1152x1024, .f32⟩
  | .local _ .vmem, ⟨5, _⟩ => ⟨S1152x1024, .f32⟩
  | .local _ .vmem, ⟨6, _⟩ => ⟨S1152x1024, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceCmInFirstIdeal.lean ====
abbrev S2304x1024 : Shape := ⟨2, ![2304, 1024]⟩
abbrev S1024x2048 : Shape := ⟨2, ![1024, 2048]⟩
abbrev S2304x2048 : Shape := ⟨2, ![2304, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S1024x2048, .bf16⟩
  | .hbm, ⟨2, _⟩ => ⟨S2304x1024, .f32⟩
  | .hbm, ⟨3, _⟩ => ⟨S1024x2048, .f32⟩
  | .hbm, ⟨4, _⟩ => ⟨S2304x2048, .f32⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelCmInFirstDw.lean ====
abbrev S2304x1024 : Shape := ⟨2, ![2304, 1024]⟩
abbrev S2304x2048 : Shape := ⟨2, ![2304, 2048]⟩
abbrev S1024x2048 : Shape := ⟨2, ![1024, 2048]⟩
abbrev S1152x1024 : Shape := ⟨2, ![1152, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x1024, .bf16⟩
  | .hbm, ⟨1, _⟩ => ⟨S2304x2048, .bf16⟩
  | .hbm, ⟨2, _⟩ => ⟨S1024x2048, .bf16⟩
  | .local _ .vmem, ⟨0, _⟩ => ⟨S1152x1024, .bf16⟩
  | .local _ .vmem, ⟨1, _⟩ => ⟨S1152x1024, .bf16⟩
  | .local _ .vmem, ⟨2, _⟩ => ⟨S1152x1024, .bf16⟩
  | .local _ .vmem, ⟨3, _⟩ => ⟨S1152x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelCmInFirstDwIdeal.lean ====
abbrev S2304x1024 : Shape := ⟨2, ![2304, 1024]⟩
abbrev S2304x2048 : Shape := ⟨2, ![2304, 2048]⟩
abbrev S1024x2048 : Shape := ⟨2, ![1024, 2048]⟩
abbrev S1152x1024 : Shape := ⟨2, ![1152, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x1024, .bf16⟩
  | .hbm, ⟨1, _⟩ => ⟨S2304x2048, .bf16⟩
  | .hbm, ⟨2, _⟩ => ⟨S1024x2048, .bf16⟩
  | .local _ .vmem, ⟨0, _⟩ => ⟨S1152x1024, .bf16⟩
  | .local _ .vmem, ⟨1, _⟩ => ⟨S1152x1024, .bf16⟩
  | .local _ .vmem, ⟨2, _⟩ => ⟨S1152x1024, .bf16⟩
  | .local _ .vmem, ⟨3, _⟩ => ⟨S1152x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceCmInFirstDwIdeal.lean ====
abbrev S2304x1024 : Shape := ⟨2, ![2304, 1024]⟩
abbrev S2304x2048 : Shape := ⟨2, ![2304, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S2304x2048, .bf16⟩
  | .hbm, ⟨2, _⟩ => ⟨S_, .f32⟩
  | .hbm, ⟨3, _⟩ => ⟨S1024x2048, .f32⟩
  | .hbm, ⟨4, _⟩ => ⟨S2304x1024, .f32⟩
  | .hbm, ⟨5, _⟩ => ⟨S2304x2048, .f32⟩
  | .hbm, ⟨6, _⟩ => ⟨S2304x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelCmInFirstDx.lean ====
abbrev S2304x2048 : Shape := ⟨2, ![2304, 2048]⟩
abbrev S1024x2048 : Shape := ⟨2, ![1024, 2048]⟩
abbrev S2304x1024 : Shape := ⟨2, ![2304, 1024]⟩
abbrev S1152x1024 : Shape := ⟨2, ![1152, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x2048, .bf16⟩
  | .hbm, ⟨1, _⟩ => ⟨S1024x2048, .bf16⟩
  | .hbm, ⟨2, _⟩ => ⟨S2304x1024, .f32⟩
  | .local _ .vmem, ⟨0, _⟩ => ⟨S1152x1024, .bf16⟩
  | .local _ .vmem, ⟨1, _⟩ => ⟨S1152x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1152x1024, .f32⟩
  | .local _ .vmem, ⟨5, _⟩ => ⟨S1152x1024, .f32⟩
  | .local _ .vmem, ⟨6, _⟩ => ⟨S1152x1024, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelCmInFirstDxIdeal.lean ====
abbrev S2304x2048 : Shape := ⟨2, ![2304, 2048]⟩
abbrev S1024x2048 : Shape := ⟨2, ![1024, 2048]⟩
abbrev S2304x1024 : Shape := ⟨2, ![2304, 1024]⟩
abbrev S1152x1024 : Shape := ⟨2, ![1152, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x2048, .bf16⟩
  | .hbm, ⟨1, _⟩ => ⟨S1024x2048, .bf16⟩
  | .hbm, ⟨2, _⟩ => ⟨S2304x1024, .f32⟩
  | .local _ .vmem, ⟨0, _⟩ => ⟨S1152x1024, .bf16⟩
  | .local _ .vmem, ⟨1, _⟩ => ⟨S1152x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1152x1024, .f32⟩
  | .local _ .vmem, ⟨5, _⟩ => ⟨S1152x1024, .f32⟩
  | .local _ .vmem, ⟨6, _⟩ => ⟨S1152x1024, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceCmInFirstDxIdeal.lean ====
abbrev S2304x2048 : Shape := ⟨2, ![2304, 2048]⟩
abbrev S1024x2048 : Shape := ⟨2, ![1024, 2048]⟩
abbrev S_ : Shape := ⟨0, ![]⟩
abbrev S2304x1024 : Shape := ⟨2, ![2304, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S1024x2048, .bf16⟩
  | .hbm, ⟨2, _⟩ => ⟨S_, .f32⟩
  | .hbm, ⟨3, _⟩ => ⟨S2304x1024, .f32⟩
  | .hbm, ⟨4, _⟩ => ⟨S1024x2048, .f32⟩
  | .hbm, ⟨5, _⟩ => ⟨S2304x2048, .f32⟩
  | .hbm, ⟨6, _⟩ => ⟨S2304x2048, .f32⟩
  | .hbm, ⟨7, _⟩ => ⟨S2304x1024, .f32⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelCmOutFirst.lean ====
abbrev S2304x1024 : Shape := ⟨2, ![2304, 1024]⟩
abbrev S1024x1024 : Shape := ⟨2, ![1024, 1024]⟩
abbrev S1152x1024 : Shape := ⟨2, ![1152, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2304x1024, .bf16⟩
  | .hbm, ⟨1, _⟩ => ⟨S1024x1024, .bf16⟩
  | .hbm, ⟨2, _⟩ => ⟨S2304x1024, .f32⟩
  | .local _ .vmem, ⟨0, _⟩ => ⟨S1152x1024, .bf16⟩
  | .local _ .vmem, ⟨1, _⟩ => ⟨S1152x1024, .bf16⟩
  | .local _ .vmem, ⟨2, _⟩ => ⟨S1024x1024, .bf16⟩
  | .local _ .vmem, ⟨3, _⟩ => ⟨S1152x1024, .f32⟩
  | .local _ .vmem, ⟨4, _⟩ => ⟨S1152x1024, .f32⟩
  | .local _ .vmem, ⟨5, _⟩ => ⟨S1152x1024, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1152x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelCmOutFirstIdeal.lean ====
abbrev S2304x1024 : Shape := ⟨2, ![2304, 1024]⟩
abbrev S1024x1024 : Shape := ⟨2, ![1024, 1024]⟩
abbrev S1152x1024 : Shape := ⟨2, ![1152, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2304x1024, .bf16⟩
  | .hbm, ⟨1, _⟩ => ⟨S1024x1024, .bf16⟩
  | .hbm, ⟨2, _⟩ => ⟨S2304x1024, .f32⟩
  | .local _ .vmem, ⟨0, _⟩ => ⟨S1152x1024, .bf16⟩
  | .local _ .vmem, ⟨1, _⟩ => ⟨S1152x1024, .bf16⟩
  | .local _ .vmem, ⟨2, _⟩ => ⟨S1024x1024, .bf16⟩
  | .local _ .vmem, ⟨3, _⟩ => ⟨S1152x1024, .f32⟩
  | .local _ .vmem, ⟨4, _⟩ => ⟨S1152x1024, .f32⟩
  | .local _ .vmem, ⟨5, _⟩ => ⟨S1152x1024, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1152x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceCmOutFirstIdeal.lean ====
abbrev S2304x1024 : Shape := ⟨2, ![2304, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S1024x1024, .bf16⟩
  | .hbm, ⟨2, _⟩ => ⟨S2304x1024, .f32⟩
  | .hbm, ⟨3, _⟩ => ⟨S1024x1024, .f32⟩
  | .hbm, ⟨4, _⟩ => ⟨S2304x1024, .f32⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelCmOutFirstDw.lean ====
abbrev S2304x1024 : Shape := ⟨2, ![2304, 1024]⟩
abbrev S1024x1024 : Shape := ⟨2, ![1024, 1024]⟩
abbrev S1152x1024 : Shape := ⟨2, ![1152, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2304x1024, .bf16⟩
  | .hbm, ⟨1, _⟩ => ⟨S2304x1024, .bf16⟩
  | .hbm, ⟨2, _⟩ => ⟨S1024x1024, .bf16⟩
  | .local _ .vmem, ⟨0, _⟩ => ⟨S1152x1024, .bf16⟩
  | .local _ .vmem, ⟨1, _⟩ => ⟨S1152x1024, .bf16⟩
  | .local _ .vmem, ⟨2, _⟩ => ⟨S1152x1024, .bf16⟩
  | .local _ .vmem, ⟨3, _⟩ => ⟨S1152x1024, .bf16⟩
  | .local _ .vmem, ⟨4, _⟩ => ⟨S1024x1024, .bf16⟩
  | .local _ .vmem, ⟨5, _⟩ => ⟨S1024x1024, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== KernelCmOutFirstDwIdeal.lean ====
abbrev S2304x1024 : Shape := ⟨2, ![2304, 1024]⟩
abbrev S1024x1024 : Shape := ⟨2, ![1024, 1024]⟩
abbrev S1152x1024 : Shape := ⟨2, ![1152, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2304x1024, .bf16⟩
  | .hbm, ⟨1, _⟩ => ⟨S2304x1024, .bf16⟩
  | .hbm, ⟨2, _⟩ => ⟨S1024x1024, .bf16⟩
  | .local _ .vmem, ⟨0, _⟩ => ⟨S1152x1024, .bf16⟩
  | .local _ .vmem, ⟨1, _⟩ => ⟨S1152x1024, .bf16⟩
  | .local _ .vmem, ⟨2, _⟩ => ⟨S1152x1024, .bf16⟩
  | .local _ .vmem, ⟨3, _⟩ => ⟨S1152x1024, .bf16⟩
  | .local _ .vmem, ⟨4, _⟩ => ⟨S1024x1024, .bf16⟩
  | .local _ .vmem, ⟨5, _⟩ => ⟨S1024x1024, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceCmOutFirstDwIdeal.lean ====
abbrev S2304x1024 : Shape := ⟨2, ![2304, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S2304x1024, .bf16⟩
  | .hbm, ⟨2, _⟩ => ⟨S_, .f32⟩
  | .hbm, ⟨3, _⟩ => ⟨S1024x1024, .f32⟩
  | .hbm, ⟨4, _⟩ => ⟨S2304x1024, .f32⟩
  | .hbm, ⟨5, _⟩ => ⟨S2304x1024, .f32⟩
  | .hbm, ⟨6, _⟩ => ⟨S2304x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelCmOutFirstDx.lean ====
abbrev S2304x1024 : Shape := ⟨2, ![2304, 1024]⟩
abbrev S1024x1024 : Shape := ⟨2, ![1024, 1024]⟩
abbrev S1152x1024 : Shape := ⟨2, ![1152, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2304x1024, .bf16⟩
  | .hbm, ⟨1, _⟩ => ⟨S1024x1024, .bf16⟩
  | .hbm, ⟨2, _⟩ => ⟨S2304x1024, .f32⟩
  | .local _ .vmem, ⟨0, _⟩ => ⟨S1152x1024, .bf16⟩
  | .local _ .vmem, ⟨1, _⟩ => ⟨S1152x1024, .bf16⟩
  | .local _ .vmem, ⟨2, _⟩ => ⟨S1024x1024, .bf16⟩
  | .local _ .vmem, ⟨3, _⟩ => ⟨S1152x1024, .f32⟩
  | .local _ .vmem, ⟨4, _⟩ => ⟨S1152x1024, .f32⟩
  | .local _ .vmem, ⟨5, _⟩ => ⟨S1152x1024, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1152x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelCmOutFirstDxIdeal.lean ====
abbrev S2304x1024 : Shape := ⟨2, ![2304, 1024]⟩
abbrev S1024x1024 : Shape := ⟨2, ![1024, 1024]⟩
abbrev S1152x1024 : Shape := ⟨2, ![1152, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2304x1024, .bf16⟩
  | .hbm, ⟨1, _⟩ => ⟨S1024x1024, .bf16⟩
  | .hbm, ⟨2, _⟩ => ⟨S2304x1024, .f32⟩
  | .local _ .vmem, ⟨0, _⟩ => ⟨S1152x1024, .bf16⟩
  | .local _ .vmem, ⟨1, _⟩ => ⟨S1152x1024, .bf16⟩
  | .local _ .vmem, ⟨2, _⟩ => ⟨S1024x1024, .bf16⟩
  | .local _ .vmem, ⟨3, _⟩ => ⟨S1152x1024, .f32⟩
  | .local _ .vmem, ⟨4, _⟩ => ⟨S1152x1024, .f32⟩
  | .local _ .vmem, ⟨5, _⟩ => ⟨S1152x1024, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1152x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceCmOutFirstDxIdeal.lean ====
abbrev S2304x1024 : Shape := ⟨2, ![2304, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S1024x1024, .bf16⟩
  | .hbm, ⟨2, _⟩ => ⟨S_, .f32⟩
  | .hbm, ⟨3, _⟩ => ⟨S2304x1024, .f32⟩
  | .hbm, ⟨4, _⟩ => ⟨S1024x1024, .f32⟩
  | .hbm, ⟨5, _⟩ => ⟨S2304x1024, .f32⟩
  | .hbm, ⟨6, _⟩ => ⟨S2304x1024, .f32⟩
  | .hbm, ⟨7, _⟩ => ⟨S2304x1024, .f32⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelQkv.lean ====
abbrev S2304x1024 : Shape := ⟨2, ![2304, 1024]⟩
abbrev S1024x1536 : Shape := ⟨2, ![1024, 1536]⟩
abbrev S2304x1536 : Shape := ⟨2, ![2304, 1536]⟩
abbrev S1152x1024 : Shape := ⟨2, ![1152, 1024]⟩
abbrev S1024x768 : Shape := ⟨2, ![1024, 768]⟩
abbrev S1152x768 : Shape := ⟨2, ![1152, 768]⟩

abbrev nBuf : Space → Nat
  | .hbm => 3
  | .vmem => 7
  | .smem => 0
  | _ => 0

abbrev bufTy : (tb : Table) → Fin (tcTables nBuf tb) → BufTy
  | .hbm, ⟨0, _⟩ => ⟨S2304x1024, .bf16⟩
  | .hbm, ⟨1, _⟩ => ⟨S1024x1536, .bf16⟩
  | .hbm, ⟨2, _⟩ => ⟨S2304x1536, .f32⟩
  | .local _ .vmem, ⟨0, _⟩ => ⟨S1152x1024, .bf16⟩
  | .local _ .vmem, ⟨1, _⟩ => ⟨S1152x1024, .bf16⟩
  | .local _ .vmem, ⟨2, _⟩ => ⟨S1024x768, .bf16⟩
  | .local _ .vmem, ⟨3, _⟩ => ⟨S1024x768, .bf16⟩
  | .local _ .vmem, ⟨4, _⟩ => ⟨S1152x768, .f32⟩
  | .local _ .vmem, ⟨5, _⟩ => ⟨S1152x768, .f32⟩
  | .local _ .vmem, ⟨6, _⟩ => ⟨S1152x768, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelQkvIdeal.lean ====
abbrev S2304x1024 : Shape := ⟨2, ![2304, 1024]⟩
abbrev S1024x1536 : Shape := ⟨2, ![1024, 1536]⟩
abbrev S2304x1536 : Shape := ⟨2, ![2304, 1536]⟩
abbrev S1152x1024 : Shape := ⟨2, ![1152, 1024]⟩
abbrev S1024x768 : Shape := ⟨2, ![1024, 768]⟩
abbrev S1152x768 : Shape := ⟨2, ![1152, 768]⟩

abbrev nBuf : Space → Nat
  | .hbm => 3
  | .vmem => 7
  | .smem => 0
  | _ => 0

abbrev bufTy : (tb : Table) → Fin (tcTables nBuf tb) → BufTy
  | .hbm, ⟨0, _⟩ => ⟨S2304x1024, .bf16⟩
  | .hbm, ⟨1, _⟩ => ⟨S1024x1536, .bf16⟩
  | .hbm, ⟨2, _⟩ => ⟨S2304x1536, .f32⟩
  | .local _ .vmem, ⟨0, _⟩ => ⟨S1152x1024, .bf16⟩
  | .local _ .vmem, ⟨1, _⟩ => ⟨S1152x1024, .bf16⟩
  | .local _ .vmem, ⟨2, _⟩ => ⟨S1024x768, .bf16⟩
  | .local _ .vmem, ⟨3, _⟩ => ⟨S1024x768, .bf16⟩
  | .local _ .vmem, ⟨4, _⟩ => ⟨S1152x768, .f32⟩
  | .local _ .vmem, ⟨5, _⟩ => ⟨S1152x768, .f32⟩
  | .local _ .vmem, ⟨6, _⟩ => ⟨S1152x768, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceQkvIdeal.lean ====
abbrev S2304x1024 : Shape := ⟨2, ![2304, 1024]⟩
abbrev S1024x1536 : Shape := ⟨2, ![1024, 1536]⟩
abbrev S2304x1536 : Shape := ⟨2, ![2304, 1536]⟩

abbrev nBuf : Space → Nat
  | .hbm => 5
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S1024x1536, .bf16⟩
  | .hbm, ⟨2, _⟩ => ⟨S2304x1024, .f32⟩
  | .hbm, ⟨3, _⟩ => ⟨S1024x1536, .f32⟩
  | .hbm, ⟨4, _⟩ => ⟨S2304x1536, .f32⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelQkvDw.lean ====
abbrev S2304x1024 : Shape := ⟨2, ![2304, 1024]⟩
abbrev S2304x1536 : Shape := ⟨2, ![2304, 1536]⟩
abbrev S1024x1536 : Shape := ⟨2, ![1024, 1536]⟩
abbrev S1152x1024 : Shape := ⟨2, ![1152, 1024]⟩
abbrev S1152x768 : Shape := ⟨2, ![1152, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S2304x1024, .bf16⟩
  | .hbm, ⟨1, _⟩ => ⟨S2304x1536, .bf16⟩
  | .hbm, ⟨2, _⟩ => ⟨S1024x1536, .bf16⟩
  | .local _ .vmem, ⟨0, _⟩ => ⟨S1152x1024, .bf16⟩
  | .local _ .vmem, ⟨1, _⟩ => ⟨S1152x1024, .bf16⟩
  | .local _ .vmem, ⟨2, _⟩ => ⟨S1152x768, .bf16⟩
  | .local _ .vmem, ⟨3, _⟩ => ⟨S1152x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelQkvDwIdeal.lean ====
abbrev S2304x1024 : Shape := ⟨2, ![2304, 1024]⟩
abbrev S2304x1536 : Shape := ⟨2, ![2304, 1536]⟩
abbrev S1024x1536 : Shape := ⟨2, ![1024, 1536]⟩
abbrev S1152x1024 : Shape := ⟨2, ![1152, 1024]⟩
abbrev S1152x768 : Shape := ⟨2, ![1152, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S2304x1024, .bf16⟩
  | .hbm, ⟨1, _⟩ => ⟨S2304x1536, .bf16⟩
  | .hbm, ⟨2, _⟩ => ⟨S1024x1536, .bf16⟩
  | .local _ .vmem, ⟨0, _⟩ => ⟨S1152x1024, .bf16⟩
  | .local _ .vmem, ⟨1, _⟩ => ⟨S1152x1024, .bf16⟩
  | .local _ .vmem, ⟨2, _⟩ => ⟨S1152x768, .bf16⟩
  | .local _ .vmem, ⟨3, _⟩ => ⟨S1152x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceQkvDwIdeal.lean ====
abbrev S2304x1024 : Shape := ⟨2, ![2304, 1024]⟩
abbrev S2304x1536 : Shape := ⟨2, ![2304, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S2304x1536, .bf16⟩
  | .hbm, ⟨2, _⟩ => ⟨S_, .f32⟩
  | .hbm, ⟨3, _⟩ => ⟨S1024x1536, .f32⟩
  | .hbm, ⟨4, _⟩ => ⟨S2304x1024, .f32⟩
  | .hbm, ⟨5, _⟩ => ⟨S2304x1536, .f32⟩
  | .hbm, ⟨6, _⟩ => ⟨S2304x1536, .f32⟩
  | .hbm, ⟨7, _⟩ => ⟨S1536x1024, .f32⟩
  | .hbm, ⟨8, _⟩ => ⟨S1024x1536, .f32⟩
  | .hbm, ⟨9, _⟩ => ⟨S1024x1536, .bf16⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelQkvDx.lean ====
abbrev S2304x1536 : Shape := ⟨2, ![2304, 1536]⟩
abbrev S1024x1536 : Shape := ⟨2, ![1024, 1536]⟩
abbrev S2304x1024 : Shape := ⟨2, ![2304, 1024]⟩
abbrev S1152x1536 : Shape := ⟨2, ![1152, 1536]⟩
abbrev S1152x1024 : Shape := ⟨2, ![1152, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2304x1536, .bf16⟩
  | .hbm, ⟨1, _⟩ => ⟨S1024x1536, .bf16⟩
  | .hbm, ⟨2, _⟩ => ⟨S2304x1024, .f32⟩
  | .local _ .vmem, ⟨0, _⟩ => ⟨S1152x1536, .bf16⟩
  | .local _ .vmem, ⟨1, _⟩ => ⟨S1152x1536, .bf16⟩
  | .local _ .vmem, ⟨2, _⟩ => ⟨S1024x1536, .bf16⟩
  | .local _ .vmem, ⟨3, _⟩ => ⟨S1152x1024, .f32⟩
  | .local _ .vmem, ⟨4, _⟩ => ⟨S1152x1024, .f32⟩
  | .local _ .vmem, ⟨5, _⟩ => ⟨S1152x1024, .f32⟩
  | _, _ => ⟨S2304x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1152x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelQkvDxIdeal.lean ====
abbrev S2304x1536 : Shape := ⟨2, ![2304, 1536]⟩
abbrev S1024x1536 : Shape := ⟨2, ![1024, 1536]⟩
abbrev S2304x1024 : Shape := ⟨2, ![2304, 1024]⟩
abbrev S1152x1536 : Shape := ⟨2, ![1152, 1536]⟩
abbrev S1152x1024 : Shape := ⟨2, ![1152, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2304x1536, .bf16⟩
  | .hbm, ⟨1, _⟩ => ⟨S1024x1536, .bf16⟩
  | .hbm, ⟨2, _⟩ => ⟨S2304x1024, .f32⟩
  | .local _ .vmem, ⟨0, _⟩ => ⟨S1152x1536, .bf16⟩
  | .local _ .vmem, ⟨1, _⟩ => ⟨S1152x1536, .bf16⟩
  | .local _ .vmem, ⟨2, _⟩ => ⟨S1024x1536, .bf16⟩
  | .local _ .vmem, ⟨3, _⟩ => ⟨S1152x1024, .f32⟩
  | .local _ .vmem, ⟨4, _⟩ => ⟨S1152x1024, .f32⟩
  | .local _ .vmem, ⟨5, _⟩ => ⟨S1152x1024, .f32⟩
  | _, _ => ⟨S2304x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1152x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceQkvDxIdeal.lean ====
abbrev S2304x1536 : Shape := ⟨2, ![2304, 1536]⟩
abbrev S1024x1536 : Shape := ⟨2, ![1024, 1536]⟩
abbrev S_ : Shape := ⟨0, ![]⟩
abbrev S2304x1024 : Shape := ⟨2, ![2304, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2304x1536, .bf16⟩
  | .hbm, ⟨1, _⟩ => ⟨S1024x1536, .bf16⟩
  | .hbm, ⟨2, _⟩ => ⟨S_, .f32⟩
  | .hbm, ⟨3, _⟩ => ⟨S2304x1024, .f32⟩
  | .hbm, ⟨4, _⟩ => ⟨S1024x1536, .f32⟩
  | .hbm, ⟨5, _⟩ => ⟨S2304x1536, .f32⟩
  | .hbm, ⟨6, _⟩ => ⟨S2304x1536, .f32⟩
  | .hbm, ⟨7, _⟩ => ⟨S2304x1024, .f32⟩
  | _, _ => ⟨S2304x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelGmIn.lean ====
abbrev S2048x1024 : Shape := ⟨2, ![2048, 1024]⟩
abbrev S1024x4096 : Shape := ⟨2, ![1024, 4096]⟩
abbrev S2048x4096 : Shape := ⟨2, ![2048, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .bf16⟩
  | .hbm, ⟨2, _⟩ => ⟨S2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelGmInIdeal.lean ====
abbrev S2048x1024 : Shape := ⟨2, ![2048, 1024]⟩
abbrev S1024x4096 : Shape := ⟨2, ![1024, 4096]⟩
abbrev S2048x4096 : Shape := ⟨2, ![2048, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .bf16⟩
  | .hbm, ⟨2, _⟩ => ⟨S2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGmInIdeal.lean ====
abbrev S2048x1024 : Shape := ⟨2, ![2048, 1024]⟩
abbrev S1024x4096 : Shape := ⟨2, ![1024, 4096]⟩
abbrev S2048x4096 : Shape := ⟨2, ![2048, 4096]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .bf16⟩
  | .hbm, ⟨2, _⟩ => ⟨S2048x1024, .f32⟩
  | .hbm, ⟨3, _⟩ => ⟨S1024x4096, .f32⟩
  | .hbm, ⟨4, _⟩ => ⟨S2048x4096, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelGmInDw.lean ====
abbrev S2048x1024 : Shape := ⟨2, ![2048, 1024]⟩
abbrev S2048x4096 : Shape := ⟨2, ![2048, 4096]⟩
abbrev S1024x4096 : Shape := ⟨2, ![1024, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S1024x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelGmInDwIdeal.lean ====
abbrev S2048x1024 : Shape := ⟨2, ![2048, 1024]⟩
abbrev S2048x4096 : Shape := ⟨2, ![2048, 4096]⟩
abbrev S1024x4096 : Shape := ⟨2, ![1024, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S1024x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGmInDwIdeal.lean ====
abbrev S2048x1024 : Shape := ⟨2, ![2048, 1024]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S_, .f32⟩
  | .hbm, ⟨3, _⟩ => ⟨S1024x4096, .f32⟩
  | .hbm, ⟨4, _⟩ => ⟨S2048x1024, .f32⟩
  | .hbm, ⟨5, _⟩ => ⟨S2048x4096, .f32⟩
  | .hbm, ⟨6, _⟩ => ⟨S2048x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelGmInDx.lean ====
abbrev S2048x4096 : Shape := ⟨2, ![2048, 4096]⟩
abbrev S1024x4096 : Shape := ⟨2, ![1024, 4096]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S1024x4096, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelGmInDxIdeal.lean ====
abbrev S2048x4096 : Shape := ⟨2, ![2048, 4096]⟩
abbrev S1024x4096 : Shape := ⟨2, ![1024, 4096]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S1024x4096, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGmInDxIdeal.lean ====
abbrev S2048x4096 : Shape := ⟨2, ![2048, 4096]⟩
abbrev S1024x4096 : Shape := ⟨2, ![1024, 4096]⟩
abbrev S_ : Shape := ⟨0, ![]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S1024x4096, .bf16⟩
  | .hbm, ⟨2, _⟩ => ⟨S_, .f32⟩
  | .hbm, ⟨3, _⟩ => ⟨S2048x1024, .f32⟩
  | .hbm, ⟨4, _⟩ => ⟨S1024x4096, .f32⟩
  | .hbm, ⟨5, _⟩ => ⟨S2048x4096, .f32⟩
  | .hbm, ⟨6, _⟩ => ⟨S2048x4096, .f32⟩
  | .hbm, ⟨7, _⟩ => ⟨S2048x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelGmOut.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelGmOutIdeal.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGmOutIdeal.lean ====
abbrev S2048x2048 : Shape := ⟨2, ![2048, 2048]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x2048, .f32⟩
  | .hbm, ⟨3, _⟩ => ⟨S2048x1024, .f32⟩
  | .hbm, ⟨4, _⟩ => ⟨S2048x1024, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelGmOutDw.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelGmOutDwIdeal.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGmOutDwIdeal.lean ====
abbrev S2048x2048 : Shape := ⟨2, ![2048, 2048]⟩
abbrev S2048x1024 : Shape := ⟨2, ![2048, 1024]⟩
abbrev S_ : Shape := ⟨0, ![]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S_, .f32⟩
  | .hbm, ⟨3, _⟩ => ⟨S2048x1024, .f32⟩
  | .hbm, ⟨4, _⟩ => ⟨S2048x2048, .f32⟩
  | .hbm, ⟨5, _⟩ => ⟨S2048x1024, .f32⟩
  | .hbm, ⟨6, _⟩ => ⟨S2048x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelGmOutDx.lean ====
abbrev S2048x1024 : Shape := ⟨2, ![2048, 1024]⟩
abbrev S2048x2048 : Shape := ⟨2, ![2048, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelGmOutDxIdeal.lean ====
abbrev S2048x1024 : Shape := ⟨2, ![2048, 1024]⟩
abbrev S2048x2048 : Shape := ⟨2, ![2048, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGmOutDxIdeal.lean ====
abbrev S2048x1024 : Shape := ⟨2, ![2048, 1024]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S2048x2048, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x2048, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelAttnOutDx.lean ====
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceAttnOutDxIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S_, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelPre.lean ====
abbrev S2048x1024 : Shape := ⟨2, ![2048, 1024]⟩
abbrev S6x1024 : Shape := ⟨2, ![6, 1024]⟩
abbrev S1024 : Shape := ⟨1, ![1024]⟩
abbrev S1x6x1024 : Shape := ⟨3, ![1, 6, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1x1x1024 : Shape := ⟨3, ![1, 1, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S6x1024, .f32⟩
  | .hbm, ⟨2, _⟩ => ⟨S1024, .f32⟩
  | .hbm, ⟨3, _⟩ => ⟨S1x6x1024, .f32⟩
  | .hbm, ⟨4, _⟩ => ⟨S1x1024, .f32⟩
  | .hbm, ⟨5, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x1024, .f32⟩
  | .local _ .vmem, ⟨4, _⟩ => ⟨S256x1024, .bf16⟩
  | .local _ .vmem, ⟨5, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferencePreIdeal.lean ====
abbrev S2048x1024 : Shape := ⟨2, ![2048, 1024]⟩
abbrev S6x1024 : Shape := ⟨2, ![6, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S6x1024, .f32⟩
  | .hbm, ⟨2, _⟩ => ⟨S1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== KernelPost.lean ====
abbrev S2048x1024 : Shape := ⟨2, ![2048, 1024]⟩
abbrev S6x1024 : Shape := ⟨2, ![6, 1024]⟩
abbrev S1024 : Shape := ⟨1, ![1024]⟩
abbrev S_ : Shape := ⟨0, ![]⟩
abbrev S1x1024 : Shape := ⟨2, ![1, 1024]⟩
abbrev S1x6x1024 : Shape := ⟨3, ![1, 6, 1024]⟩
abbrev S256x1024 : Shape := ⟨2, ![256, 1024]⟩
abbrev S256 : Shape := ⟨1, ![256]⟩
abbrev S256x1 : Shape := ⟨2, ![256, 1]⟩
abbrev S1x1x1024 : Shape := ⟨3, ![1, 1, 1024]⟩

abbrev nBuf : Space → Nat
  | .hbm => 9
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S6x1024, .f32⟩
  | .hbm, ⟨3, _⟩ => ⟨S1024, .f32⟩
  | .hbm, ⟨4, _⟩ => ⟨S_, .f32⟩
  | .hbm, ⟨5, _⟩ => ⟨S1x1024, .f32⟩
  | .hbm, ⟨6, _⟩ => ⟨S1x6x1024, .f32⟩
  | .hbm, ⟨7, _⟩ => ⟨S1x1024, .f32⟩
  | .hbm, ⟨8, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x6x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x6x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferencePostIdeal.lean ====
abbrev S2048x1024 : Shape := ⟨2, ![2048, 1024]⟩
abbrev S6x1024 : Shape := ⟨2, ![6, 1024]⟩
abbrev S1024 : Shape := ⟨1, ![1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S6x1024, .f32⟩
  | .hbm, ⟨3, _⟩ => ⟨S1024, .f32⟩
  | .hbm, ⟨4, _⟩ => ⟨S1x1024, .f32⟩
  | .hbm, ⟨5, _⟩ => ⟨S1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== KernelLnSilu.lean ====
abbrev S2048x1024 : Shape := ⟨2, ![2048, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1x1024, .f32⟩
  | .hbm, ⟨4, _⟩ => ⟨S1x1024, .f32⟩
  | .hbm, ⟨5, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S256x1024, .bf16⟩
  | .local _ .vmem, ⟨5, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceLnSiluIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== KernelGmlp.lean ====
abbrev S2048x4096 : Shape := ⟨2, ![2048, 4096]⟩
abbrev S4096 : Shape := ⟨1, ![4096]⟩
abbrev S2048 : Shape := ⟨1, ![2048]⟩
abbrev S16x128x128 : Shape := ⟨3, ![16, 128, 128]⟩
abbrev S16x128 : Shape := ⟨2, ![16, 128]⟩
abbrev S1x4096 : Shape := ⟨2, ![1, 4096]⟩
abbrev S1x2048 : Shape := ⟨2, ![1, 2048]⟩
abbrev S16x128x1 : Shape := ⟨3, ![16, 128, 1]⟩
abbrev S2048x2048 : Shape := ⟨2, ![2048, 2048]⟩
abbrev S128x4096 : Shape := ⟨2, ![128, 4096]⟩
abbrev S128x2048 : Shape := ⟨2, ![128, 2048]⟩
abbrev S128 : Shape := ⟨1, ![128]⟩
abbrev S128x1 : Shape := ⟨2, ![128, 1]⟩
abbrev S1x128x128 : Shape := ⟨3, ![1, 128, 128]⟩
abbrev S128x128 : Shape := ⟨2, ![128, 128]⟩
abbrev S1x128x1 : Shape := ⟨3, ![1, 128, 1]⟩

abbrev nBuf : Space → Nat
  | .hbm => 12
  | .vmem => 9
  | .smem => 0
  | _ => 0

abbrev bufTy : (tb : Table) → Fin (tcTables nBuf tb) → BufTy
  | .hbm, ⟨0, _⟩ => ⟨S2048x4096, .f32⟩
  | .hbm, ⟨1, _⟩ => ⟨S4096, .f32⟩
  | .hbm, ⟨2, _⟩ => ⟨S2048, .f32⟩
  | .hbm, ⟨3, _⟩ => ⟨S2048, .f32⟩
  | .hbm, ⟨4, _⟩ => ⟨S16x128x128, .f32⟩
  | .hbm, ⟨5, _⟩ => ⟨S16x128, .f32⟩
  | .hbm, ⟨6, _⟩ => ⟨S1x4096, .f32⟩
  | .hbm, ⟨7, _⟩ => ⟨S1x2048, .f32⟩
  | .hbm, ⟨8, _⟩ => ⟨S1x2048, .f32⟩
  | .hbm, ⟨9, _⟩ => ⟨S16x128x128, .bf16⟩
  | .hbm, ⟨10, _⟩ => ⟨S16x128x1, .f32⟩
  | .hbm, ⟨11, _⟩ => ⟨S2048x2048, .bf16⟩
  | .local _ .vmem, ⟨0, _⟩ => ⟨S128x4096, .f32⟩
  | .local _ .vmem, ⟨1, _⟩ => ⟨S128x4096, .f32⟩
  | .local _ .vmem, ⟨2, _⟩ => ⟨S1x4096, .f32⟩
  | .local _ .vmem, ⟨3, _⟩ => ⟨S1x2048, .f32⟩
  | .local _ .vmem, ⟨4, _⟩ => ⟨S1x2048, .f32⟩
  | .local _ .vmem, ⟨5, _⟩ => ⟨S16x128x128, .bf16⟩
  | .local _ .vmem, ⟨6, _⟩ => ⟨S16x128x1, .f32⟩
  | .local _ .vmem, ⟨7, _⟩ => ⟨S128x2048, .bf16⟩
  | .local _ .vmem, ⟨8, _⟩ => ⟨S128x2048, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceGmlpIdeal.lean ====
abbrev S2048x4096 : Shape := ⟨2, ![2048, 4096]⟩
abbrev S4096 : Shape := ⟨1, ![4096]⟩
abbrev S2048 : Shape := ⟨1, ![2048]⟩
abbrev S16x128x128 : Shape := ⟨3, ![16, 128, 128]⟩
abbrev S16x128 : Shape := ⟨2, ![16, 128]⟩
abbrev S1x4096 : Shape := ⟨2, ![1, 4096]⟩
abbrev S_ : Shape := ⟨0, ![]⟩
abbrev S2048x2048 : Shape := ⟨2, ![2048, 2048]⟩
abbrev S2048x1 : Shape := ⟨2, ![2048, 1]⟩
abbrev S1x2048 : Shape := ⟨2, ![1, 2048]⟩
abbrev S16x128x16x128 : Shape := ⟨4, ![16, 128, 16, 128]⟩
abbrev S16x16x128x128 : Shape := ⟨4, ![16, 16, 128, 128]⟩
abbrev S128x16 : Shape := ⟨2, ![128, 16]⟩
abbrev S1x128x16x1 : Shape := ⟨4, ![1, 128, 16, 1]⟩

abbrev nBuf : Space → Nat
  | .hbm => 67
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096, .f32⟩
  | .hbm, ⟨2, _⟩ => ⟨S2048, .f32⟩
  | .hbm, ⟨3, _⟩ => ⟨S2048, .f32⟩
  | .hbm, ⟨4, _⟩ => ⟨S16x128x128, .f32⟩
  | .hbm, ⟨5, _⟩ => ⟨S16x128, .f32⟩
  | .hbm, ⟨6, _⟩ => ⟨S1x4096, .f32⟩
  | .hbm, ⟨7, _⟩ => ⟨S2048x4096, .f32⟩
  | .hbm, ⟨8, _⟩ => ⟨S2048x4096, .f32⟩
  | .hbm, ⟨9, _⟩ => ⟨S2048x4096, .f32⟩
  | .hbm, ⟨10, _⟩ => ⟨S2048x4096, .f32⟩
  | .hbm, ⟨11, _⟩ => ⟨S_, .f32⟩
  | .hbm, ⟨12, _⟩ => ⟨S2048x4096, .f32⟩
  | .hbm, ⟨13, _⟩ => ⟨S2048x4096, .f32⟩
  | .hbm, ⟨14, _⟩ => ⟨S2048x4096, .f32⟩
  | .hbm, ⟨15, _⟩ => ⟨S_, .f32⟩
  | .hbm, ⟨16, _⟩ => ⟨S2048x4096, .f32⟩
  | .hbm, ⟨17, _⟩ => ⟨S2048x4096, .f32⟩
  | .hbm, ⟨18, _⟩ => ⟨S2048x4096, .f32⟩
  | .hbm, ⟨19, _⟩ => ⟨S_, .f32⟩
  | .hbm, ⟨20, _⟩ => ⟨S2048x4096, .f32⟩
  | .hbm, ⟨21, _⟩ => ⟨S2048x4096, .f32⟩
  | .hbm, ⟨22, _⟩ => ⟨S_, .f32⟩
  | .hbm, ⟨23, _⟩ => ⟨S2048x4096, .f32⟩
  | .hbm, ⟨24, _⟩ => ⟨S2048x4096, .f32⟩
  | .hbm, ⟨25, _⟩ => ⟨S2048x4096, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S2048x2048, .f32⟩
  | .hbm, ⟨44, _⟩ => ⟨S2048x2048, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S2048x1, .f32⟩
  | .hbm, ⟨49, _⟩ => ⟨S2048x2048, .f32⟩
  | .hbm, ⟨50, _⟩ => ⟨S2048x2048, .f32⟩
  | .hbm, ⟨51, _⟩ => ⟨S1x2048, .f32⟩
  | .hbm, ⟨52, _⟩ => ⟨S2048x2048, .f32⟩
  | .hbm, ⟨53, _⟩ => ⟨S2048x2048, .f32⟩
  | .hbm, ⟨54, _⟩ => ⟨S1x2048, .f32⟩
  | .hbm, ⟨55, _⟩ => ⟨S2048x2048, .f32⟩
  | .hbm, ⟨56, _⟩ => ⟨S2048x2048, .f32⟩
  | .hbm, ⟨57, _⟩ => ⟨S16x128x16x128, .f32⟩
  | .hbm, ⟨58, _⟩ => ⟨S16x16x128x128, .f32⟩
  | .hbm, ⟨59, _⟩ => ⟨S16x128x16x128, .f32⟩
  | .hbm, ⟨60, _⟩ => ⟨S128x16, .f32⟩
  | .hbm, ⟨61, _⟩ => ⟨S1x128x16x1, .f32⟩
  | .hbm, ⟨62, _⟩ => ⟨S16x128x16x128, .f32⟩
  | .hbm, ⟨63, _⟩ => ⟨S16x128x16x128, .f32⟩
  | .hbm, ⟨64, _⟩ => ⟨S2048x2048, .f32⟩
  | .hbm, ⟨65, _⟩ => ⟨S2048x2048, .f32⟩
  | .hbm, ⟨66, _⟩ => ⟨S2048x2048, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]
-- ==== KernelRope.lean ====
abbrev S2304x1536 : Shape := ⟨2, ![2304, 1536]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S2048x1280 : Shape := ⟨2, ![2048, 1280]⟩
abbrev S2048x256 : Shape := ⟨2, ![2048, 256]⟩
abbrev S256x1536 : Shape := ⟨2, ![256, 1536]⟩
abbrev S256x128 : Shape := ⟨2, ![256, 128]⟩
abbrev S256x1280 : Shape := ⟨2, ![256, 1280]⟩
abbrev S256x256 : Shape := ⟨2, ![256, 256]⟩

abbrev nBuf : Space → Nat
  | .hbm => 11
  | .vmem => 10
  | .smem => 0
  | _ => 0

abbrev bufTy : (tb : Table) → Fin (tcTables nBuf tb) → BufTy
  | .hbm, ⟨0, _⟩ => ⟨S2304x1536, .f32⟩
  | .hbm, ⟨1, _⟩ => ⟨S2048x64, .f32⟩
  | .hbm, ⟨2, _⟩ => ⟨S2048x64, .f32⟩
  | .hbm, ⟨3, _⟩ => ⟨S1x2048x1x64, .f32⟩
  | .hbm, ⟨4, _⟩ => ⟨S1x2048x2x64, .f32⟩
  | .hbm, ⟨5, _⟩ => ⟨S2048x128, .f32⟩
  | .hbm, ⟨6, _⟩ => ⟨S1x2048x1x64, .f32⟩
  | .hbm, ⟨7, _⟩ => ⟨S1x2048x2x64, .f32⟩
  | .hbm, ⟨8, _⟩ => ⟨S2048x128, .f32⟩
  | .hbm, ⟨9, _⟩ => ⟨S2048x1280, .bf16⟩
  | .hbm, ⟨10, _⟩ => ⟨S2048x256, .bf16⟩
  | .local _ .vmem, ⟨0, _⟩ => ⟨S256x1536, .f32⟩
  | .local _ .vmem, ⟨1, _⟩ => ⟨S256x1536, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x1280, .bf16⟩
  | .local _ .vmem, ⟨7, _⟩ => ⟨S256x1280, .bf16⟩
  | .local _ .vmem, ⟨8, _⟩ => ⟨S256x256, .bf16⟩
  | .local _ .vmem, ⟨9, _⟩ => ⟨S256x256, .bf16⟩
  | _, _ => ⟨S2304x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceRopeIdeal.lean ====
abbrev S2304x1536 : Shape := ⟨2, ![2304, 1536]⟩
abbrev S2048x64 : Shape := ⟨2, ![2048, 64]⟩
abbrev S2048x1536 : Shape := ⟨2, ![2048, 1536]⟩
abbrev S2048x1024 : Shape := ⟨2, ![2048, 1024]⟩
abbrev S2048x256 : Shape := ⟨2, ![2048, 256]⟩
abbrev S2048x16x64 : Shape := ⟨3, ![2048, 16, 64]⟩
abbrev S2048x16x32 : Shape := ⟨3, ![2048, 16, 32]⟩
abbrev S2048x16x16 : Shape := ⟨3, ![2048, 16, 16]⟩
abbrev S2048x1x64 : Shape := ⟨3, ![2048, 1, 64]⟩
abbrev S2048x4x64 : Shape := ⟨3, ![2048, 4, 64]⟩
abbrev S2048x4x32 : Shape := ⟨3, ![2048, 4, 32]⟩
abbrev S2048x4x16 : Shape := ⟨3, ![2048, 4, 16]⟩
abbrev S2048x1280 : Shape := ⟨2, ![2048, 1280]⟩

abbrev nBuf : Space → Nat
  | .hbm => 50
  | .vmem => 0
  | .smem => 0
  | _ => 0

abbrev bufTy : (tb : Table) → Fin (tcTables nBuf tb) → BufTy
  | .hbm, ⟨0, _⟩ => ⟨S2304x1536, .f32⟩
  | .hbm, ⟨1, _⟩ => ⟨S2048x64, .f32⟩
  | .hbm, ⟨2, _⟩ => ⟨S2048x64, .f32⟩
  | .hbm, ⟨3, _⟩ => ⟨S2048x1536, .f32⟩
  | .hbm, ⟨4, _⟩ => ⟨S2048x1024, .f32⟩
  | .hbm, ⟨5, _⟩ => ⟨S2048x256, .f32⟩
  | .hbm, ⟨6, _⟩ => ⟨S2048x256, .f32⟩
  | .hbm, ⟨7, _⟩ => ⟨S2048x16x64, .f32⟩
  | .hbm, ⟨8, _⟩ => ⟨S2048x16x32, .f32⟩
  | .hbm, ⟨9, _⟩ => ⟨S2048x16x32, .f32⟩
  | .hbm, ⟨10, _⟩ => ⟨S2048x16x16, .f32⟩
  | .hbm, ⟨11, _⟩ => ⟨S2048x16x16, .f32⟩
  | .hbm, ⟨12, _⟩ => ⟨S2048x16x16, .f32⟩
  | .hbm, ⟨13, _⟩ => ⟨S2048x16x32, .f32⟩
  | .hbm, ⟨14, _⟩ => ⟨S2048x16x16, .f32⟩
  | .hbm, ⟨15, _⟩ => ⟨S2048x16x16, .f32⟩
  | .hbm, ⟨16, _⟩ => ⟨S2048x16x16, .f32⟩
  | .hbm, ⟨17, _⟩ => ⟨S2048x16x32, .f32⟩
  | .hbm, ⟨18, _⟩ => ⟨S2048x16x64, .f32⟩
  | .hbm, ⟨19, _⟩ => ⟨S2048x1x64, .f32⟩
  | .hbm, ⟨20, _⟩ => ⟨S2048x16x64, .f32⟩
  | .hbm, ⟨21, _⟩ => ⟨S2048x16x64, .f32⟩
  | .hbm, ⟨22, _⟩ => ⟨S2048x1x64, .f32⟩
  | .hbm, ⟨23, _⟩ => ⟨S2048x16x64, .f32⟩
  | .hbm, ⟨24, _⟩ => ⟨S2048x16x64, .f32⟩
  | .hbm, ⟨25, _⟩ => ⟨S2048x16x64, .f32⟩
  | .hbm, ⟨26, _⟩ => ⟨S2048x4x64, .f32⟩
  | .hbm, ⟨27, _⟩ => ⟨S2048x4x32, .f32⟩
  | .hbm, ⟨28, _⟩ => ⟨S2048x4x32, .f32⟩
  | .hbm, ⟨29, _⟩ => ⟨S2048x4x16, .f32⟩
  | .hbm, ⟨30, _⟩ => ⟨S2048x4x16, .f32⟩
  | .hbm, ⟨31, _⟩ => ⟨S2048x4x16, .f32⟩
  | .hbm, ⟨32, _⟩ => ⟨S2048x4x32, .f32⟩
  | .hbm, ⟨33, _⟩ => ⟨S2048x4x16, .f32⟩
  | .hbm, ⟨34, _⟩ => ⟨S2048x4x16, .f32⟩
  | .hbm, ⟨35, _⟩ => ⟨S2048x4x16, .f32⟩
  | .hbm, ⟨36, _⟩ => ⟨S2048x4x32, .f32⟩
  | .hbm, ⟨37, _⟩ => ⟨S2048x4x64, .f32⟩
  | .hbm, ⟨38, _⟩ => ⟨S2048x1x64, .f32⟩
  | .hbm, ⟨39, _⟩ => ⟨S2048x4x64, .f32⟩
  | .hbm, ⟨40, _⟩ => ⟨S2048x4x64, .f32⟩
  | .hbm, ⟨41, _⟩ => ⟨S2048x1x64, .f32⟩
  | .hbm, ⟨42, _⟩ => ⟨S2048x4x64, .f32⟩
  | .hbm, ⟨43, _⟩ => ⟨S2048x4x64, .f32⟩
  | .hbm, ⟨44, _⟩ => ⟨S2048x4x64, .f32⟩
  | .hbm, ⟨45, _⟩ => ⟨S2048x1024, .f32⟩
  | .hbm, ⟨46, _⟩ => ⟨S2048x256, .f32⟩
  | .hbm, ⟨47, _⟩ => ⟨S2048x1280, .f32⟩
  | .hbm, ⟨48, _⟩ => ⟨S2048x1280, .bf16⟩
  | .hbm, ⟨49, _⟩ => ⟨S2048x256, .bf16⟩
  | _, _ => ⟨S2304x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩

abbrev nD : Nat := 1
abbrev τ : Topo := Topo.v7x

variable {F : FTy → Type} [FloatOps F]
-- ==== KernelAda.lean ====
abbrev S16x1024 : Shape := ⟨2, ![16, 1024]⟩
abbrev S4x1024x1536 : Shape := ⟨3, ![4, 1024, 1536]⟩
abbrev S4x1536 : Shape := ⟨2, ![4, 1536]⟩
abbrev S4x1x1536 : Shape := ⟨3, ![4, 1, 1536]⟩
abbrev S4x16x1536 : Shape := ⟨3, ![4, 16, 1536]⟩
abbrev S1x1024x768 : Shape := ⟨3, ![1, 1024, 768]⟩
abbrev S1x1x768 : Shape := ⟨3, ![1, 1, 768]⟩
abbrev S1x16x768 : Shape := ⟨3, ![1, 16, 768]⟩
abbrev S1024x768 : Shape := ⟨2, ![1024, 768]⟩
abbrev S16x768 : Shape := ⟨2, ![16, 768]⟩
abbrev S1x768 : Shape := ⟨2, ![1, 768]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S4x1024x1536, .f32⟩
  | .hbm, ⟨2, _⟩ => ⟨S4x1536, .f32⟩
  | .hbm, ⟨3, _⟩ => ⟨S4x1x1536, .f32⟩
  | .hbm, ⟨4, _⟩ => ⟨S4x16x1536, .f32⟩
  | .local _ .vmem, ⟨0, _⟩ => ⟨S16x1024, .f32⟩
  | .local _ .vmem, ⟨1, _⟩ => ⟨S1x1024x768, .f32⟩
  | .local _ .vmem, ⟨2, _⟩ => ⟨S1x1024x768, .f32⟩
  | .local _ .vmem, ⟨3, _⟩ => ⟨S1x1x768, .f32⟩
  | .local _ .vmem, ⟨4, _⟩ => ⟨S1x1x768, .f32⟩
  | .local _ .vmem, ⟨5, _⟩ => ⟨S1x16x768, .f32⟩
  | .local _ .vmem, ⟨6, _⟩ => ⟨S1x16x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceAdaIdeal.lean ====
abbrev S16x1024 : Shape := ⟨2, ![16, 1024]⟩
abbrev S4x1024x1536 : Shape := ⟨3, ![4, 1024, 1536]⟩
abbrev S4x1536 : Shape := ⟨2, ![4, 1536]⟩
abbrev S_ : Shape := ⟨0, ![]⟩
abbrev S1x1024x1536 : Shape := ⟨3, ![1, 1024, 1536]⟩
abbrev S1024x1536 : Shape := ⟨2, ![1024, 1536]⟩
abbrev S16x1536 : Shape := ⟨2, ![16, 1536]⟩
abbrev S1x1536 : Shape := ⟨2, ![1, 1536]⟩
abbrev S1536 : Shape := ⟨1, ![1536]⟩
abbrev S1x16x1536 : Shape := ⟨3, ![1, 16, 1536]⟩
abbrev S4x16x1536 : Shape := ⟨3, ![4, 16, 1536]⟩

abbrev nBuf : Space → Nat
  | .hbm => 76
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x1024x1536, .f32⟩
  | .hbm, ⟨2, _⟩ => ⟨S4x1536, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1x1024x1536, .f32⟩
  | .hbm, ⟨13, _⟩ => ⟨S1024x1536, .f32⟩
  | .hbm, ⟨14, _⟩ => ⟨S16x1536, .f32⟩
  | .hbm, ⟨15, _⟩ => ⟨S1x1536, .f32⟩
  | .hbm, ⟨16, _⟩ => ⟨S1536, .f32⟩
  | .hbm, ⟨17, _⟩ => ⟨S1x1536, .f32⟩
  | .hbm, ⟨18, _⟩ => ⟨S16x1536, .f32⟩
  | .hbm, ⟨19, _⟩ => ⟨S16x1536, .f32⟩
  | .hbm, ⟨20, _⟩ => ⟨S16x1024, .f32⟩
  | .hbm, ⟨21, _⟩ => ⟨S16x1024, .f32⟩
  | .hbm, ⟨22, _⟩ => ⟨S_, .f32⟩
  | .hbm, ⟨23, _⟩ => ⟨S16x1024, .f32⟩
  | .hbm, ⟨24, _⟩ => ⟨S16x1024, .f32⟩
  | .hbm, ⟨25, _⟩ => ⟨S_, .f32⟩
  | .hbm, ⟨26, _⟩ => ⟨S16x1024, .f32⟩
  | .hbm, ⟨27, _⟩ => ⟨S16x1024, .f32⟩
  | .hbm, ⟨28, _⟩ => ⟨S16x1024, .f32⟩
  | .hbm, ⟨29, _⟩ => ⟨S1x1024x1536, .f32⟩
  | .hbm, ⟨30, _⟩ => ⟨S1024x1536, .f32⟩
  | .hbm, ⟨31, _⟩ => ⟨S16x1536, .f32⟩
  | .hbm, ⟨32, _⟩ => ⟨S1x1536, .f32⟩
  | .hbm, ⟨33, _⟩ => ⟨S1536, .f32⟩
  | .hbm, ⟨34, _⟩ => ⟨S1x1536, .f32⟩
  | .hbm, ⟨35, _⟩ => ⟨S16x1536, .f32⟩
  | .hbm, ⟨36, _⟩ => ⟨S16x1536, .f32⟩
  | .hbm, ⟨37, _⟩ => ⟨S16x1024, .f32⟩
  | .hbm, ⟨38, _⟩ => ⟨S16x1024, .f32⟩
  | .hbm, ⟨39, _⟩ => ⟨S_, .f32⟩
  | .hbm, ⟨40, _⟩ => ⟨S16x1024, .f32⟩
  | .hbm, ⟨41, _⟩ => ⟨S16x1024, .f32⟩
  | .hbm, ⟨42, _⟩ => ⟨S_, .f32⟩
  | .hbm, ⟨43, _⟩ => ⟨S16x1024, .f32⟩
  | .hbm, ⟨44, _⟩ => ⟨S16x1024, .f32⟩
  | .hbm, ⟨45, _⟩ => ⟨S16x1024, .f32⟩
  | .hbm, ⟨46, _⟩ => ⟨S1x1024x1536, .f32⟩
  | .hbm, ⟨47, _⟩ => ⟨S1024x1536, .f32⟩
  | .hbm, ⟨48, _⟩ => ⟨S16x1536, .f32⟩
  | .hbm, ⟨49, _⟩ => ⟨S1x1536, .f32⟩
  | .hbm, ⟨50, _⟩ => ⟨S1536, .f32⟩
  | .hbm, ⟨51, _⟩ => ⟨S1x1536, .f32⟩
  | .hbm, ⟨52, _⟩ => ⟨S16x1536, .f32⟩
  | .hbm, ⟨53, _⟩ => ⟨S16x1536, .f32⟩
  | .hbm, ⟨54, _⟩ => ⟨S16x1024, .f32⟩
  | .hbm, ⟨55, _⟩ => ⟨S16x1024, .f32⟩
  | .hbm, ⟨56, _⟩ => ⟨S_, .f32⟩
  | .hbm, ⟨57, _⟩ => ⟨S16x1024, .f32⟩
  | .hbm, ⟨58, _⟩ => ⟨S16x1024, .f32⟩
  | .hbm, ⟨59, _⟩ => ⟨S_, .f32⟩
  | .hbm, ⟨60, _⟩ => ⟨S16x1024, .f32⟩
  | .hbm, ⟨61, _⟩ => ⟨S16x1024, .f32⟩
  | .hbm, ⟨62, _⟩ => ⟨S16x1024, .f32⟩
  | .hbm, ⟨63, _⟩ => ⟨S1x1024x1536, .f32⟩
  | .hbm, ⟨64, _⟩ => ⟨S1024x1536, .f32⟩
  | .hbm, ⟨65, _⟩ => ⟨S16x1536, .f32⟩
  | .hbm, ⟨66, _⟩ => ⟨S1x1536, .f32⟩
  | .hbm, ⟨67, _⟩ => ⟨S1536, .f32⟩
  | .hbm, ⟨68, _⟩ => ⟨S1x1536, .f32⟩
  | .hbm, ⟨69, _⟩ => ⟨S16x1536, .f32⟩
  | .hbm, ⟨70, _⟩ => ⟨S16x1536, .f32⟩
  | .hbm, ⟨71, _⟩ => ⟨S1x16x1536, .f32⟩
  | .hbm, ⟨72, _⟩ => ⟨S1x16x1536, .f32⟩
  | .hbm, ⟨73, _⟩ => ⟨S1x16x1536, .f32⟩
  | .hbm, ⟨74, _⟩ => ⟨S1x16x1536, .f32⟩
  | .hbm, ⟨75, _⟩ => ⟨S4x16x1536, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_call2_v0 : Ref sig .tc := ⟨.hbm, 37, rfl⟩
abbrev main_call2_v1 : Ref sig .tc := ⟨.hbm, 38, rfl⟩
abbrev main_call2_cst : Ref sig .tc := ⟨.hbm, 39, rfl⟩
abbrev main_call2_v2 : Ref sig .tc := ⟨.hbm, 40, rfl⟩
abbrev main_call2_v3 : Ref sig .tc := ⟨.hbm, 41, rfl⟩
abbrev main_call2_cst_0 : Ref sig .tc := ⟨.hbm, 42, rfl⟩
abbrev main_call2_v4 : Ref sig .tc := ⟨.hbm, 43, rfl⟩
abbrev main_call2_v5 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_call3_v0 : Ref sig .tc := ⟨.hbm, 54, rfl⟩
abbrev main_call3_v1 : Ref sig .tc := ⟨.hbm, 55, rfl⟩
abbrev main_call3_cst : Ref sig .tc := ⟨.hbm, 56, rfl⟩
abbrev main_call3_v2 : Ref sig .tc := ⟨.hbm, 57, rfl⟩
abbrev main_call3_v3 : Ref sig .tc := ⟨.hbm, 58, rfl⟩
abbrev main_call3_cst_0 : Ref sig .tc := ⟨.hbm, 59, rfl⟩
abbrev main_call3_v4 : Ref sig .tc := ⟨.hbm, 60, rfl⟩
abbrev main_call3_v5 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩

abbrev nD : Nat := 1
abbrev τ : Topo := Topo.v7x

variable {F : FTy → Type} [FloatOps F]
-- ==== Proof.Blocks.lean ====
/- An index of a matrix is a row and a column. -/
module

public import Idealize.ShloMosaic.Lib.Pipeline.Value
public import Idealize.ShloMosaic.Lib.Pipeline.ValueKit.Acc
public import Idealize.ShloMosaic.Lib.Pointwise
public import Idealize.ShloMosaic.Lib.ValueIdx

@[expose] public section

namespace Cert.Blocks

open Idealize.ShloMosaic

theorem idx2 {a b : ℕ} (y : (⟨2, ![a, b]⟩ : Shape).Idx) : ∃ (p : Fin a) (q : Fin b), y = (ix2 p q : (⟨2, ![a, b]⟩ : Shape).Idx) :=
  ⟨y 0, y 1, funext fun i => match i with
  | ⟨0, _⟩ => rfl
  | ⟨1, _⟩ => rfl⟩

end Cert.Blocks

end
-- ==== Proof.Up.lean ====
/- The call computing the rows times the weights, 2048x1024 by 1024x5632: its one step of the inner axis fills a block of
   the result, and the blocks are the whole product. -/
module

public import proofs.«01_k».proof.Defs
public import proofs.«01_k».proof.Proof.Blocks
public import proofs.«01_k».proof.Proof.Gen.KernelUp.Frame
public import proofs.«01_k».proof.Proof.Gen.KernelUpIdeal.Value
public import proofs.«01_k».proof.Proof.Gen.ReferenceUpIdeal.Read
public import Idealize.ShloMosaic.Adequacy
public import Idealize.ShloMosaic.Init

@[expose] public section

set_option maxRecDepth 16384

noncomputable section

namespace Cert.KernelUpIdeal

open Idealize.ShloMosaic Idealize.ShloMosaic.TcCoe Idealize.SL.Sem Cert.Blocks Cert.KernelUpIdeal.Gen
  Cert.ReferenceUpIdeal.Read

/-- A point of the grid is a block of rows, a block of columns and a step of the inner axis. -/
def bi (t : Fin grid0.N) : Fin 2 := grid0.coords t 0
def bj (t : Fin grid0.N) : Fin 4 := grid0.coords t 1
def bk (t : Fin grid0.N) : Fin 1 := grid0.coords t 2
theorem step_lt : ∀ (t : Fin grid0.N) (s : Fin 1), 1 * (t.val / 1) + s.val < grid0.N := by decide +kernel
/-- The steps of a point's block. -/
def st (t : Fin grid0.N) (s : Fin 1) : Fin grid0.N := ⟨1 * (t.val / 1) + s.val, step_lt t s⟩
theorem run_steps : ∀ (t : Fin grid0.N) (s : Fin 1), bi (st t s) = bi t ∧ bj (st t s) = bj t ∧ bk (st t s) = s := by decide +kernel

/-- An index of the array, from its block's number and the index there. -/
def atI (n : Fin 2) (x : Fin 1024) : Fin 2048 := ⟨n.val * 1024 + x.val, by omega⟩
def atJ (n : Fin 4) (x : Fin 1408) : Fin 5632 := ⟨n.val * 1408 + x.val, by omega⟩
def atK (n : Fin 1) (x : Fin 1024) : Fin 1024 := ⟨n.val * 1024 + x.val, by omega⟩

theorem index : ∀ t : Fin grid0.N,
    (∀ a, win0_0.index t a = (![(bi t).val, (bk t).val] : Fin 2 → Nat) a) ∧
    (∀ a, win0_1.index t a = (![(bk t).val, (bj t).val] : Fin 2 → Nat) a) ∧
    (∀ a, win0_2.index t a = (![(bi t).val, (bj t).val] : Fin 2 → Nat) a) := by decide +kernel

theorem place0 (t : Fin cfg0.N) (x : Fin 1024) (y : Fin 1024) :
    (win0_0.rect t).emb (ix2 x y : S1024x1024.Idx) = (ix2 (atI (bi t) x) (atK (bk t) y) : S2048x1024.Idx) := by
  refine funext fun a => Fin.ext ((win0_0.rect_emb_val t _ a).trans ?_)
  rw [(index t).1 a]
  match a with
  | ⟨0, _⟩ => rfl
  | ⟨1, _⟩ => rfl
theorem place1 (t : Fin cfg0.N) (x : Fin 1024) (y : Fin 1408) :
    (win0_1.rect t).emb (ix2 x y : S1024x1408.Idx) = (ix2 (atK (bk t) x) (atJ (bj t) y) : S1024x5632.Idx) := by
  refine funext fun a => Fin.ext ((win0_1.rect_emb_val t _ a).trans ?_)
  rw [(index t).2.1 a]
  match a with
  | ⟨0, _⟩ => rfl
  | ⟨1, _⟩ => rfl
theorem place2 (t : Fin cfg0.N) (x : Fin 1024) (y : Fin 1408) :
    (win0_2.rect t).emb (ix2 x y : S1024x1408.Idx) = (ix2 (atI (bi t) x) (atJ (bj t) y) : S2048x5632.Idx) := by
  refine funext fun a => Fin.ext ((win0_2.rect_emb_val t _ a).trans ?_)
  rw [(index t).2.2 a]
  match a with
  | ⟨0, _⟩ => rfl
  | ⟨1, _⟩ => rfl

/-- A step adds its part of the inner axis to what the block holds. -/
theorem step_apply (acc : Vec Ideal S1024x1408 .f32) (A : Vec Ideal S1024x1024 .bf16) (B : Vec Ideal S1024x1408 .bf16) (p : Fin 1024) (q : Fin 1408) :
    k0_pay2 (F := Ideal) acc A B (ix2 p q) = acc (ix2 p q) + ∑ k : Fin 1024, A (ix2 p k) * B (ix2 k q) := by
  pointwise [k0_pay2]

/-- The block is cleared before the first step. -/
theorem clear_apply (p : Fin 1024) (q : Fin 1408) : k0_pay1 (F := Ideal) (ix2 p q) = 0 := by
  pointwise [k0_pay1]

variable (m : (ℓ : Loc nD τ sig) → Buf (Elt Ideal) ℓ) (c : Dev nD)

/-- The two arrays the call is given, and their blocks at a point. -/
def arrA : S2048x1024.Idx → EReal := m ((c : Thread nD τ).loc main_arg0)
def arrB : S1024x5632.Idx → EReal := m ((c : Thread nD τ).loc main_arg1)
def blkA (t : Fin cfg0.N) : S1024x1024.Idx → EReal := iblk m c 0 t
def blkB (t : Fin cfg0.N) : S1024x1408.Idx → EReal := iblk m c 1 t

theorem blkA_apply (t : Fin cfg0.N) (x : Fin 1024) (y : Fin 1024) : blkA m c t (ix2 x y) = arrA m c (ix2 (atI (bi t) x) (atK (bk t) y)) :=
  congrArg (arrA m c) (place0 t x y)

theorem blkB_apply (t : Fin cfg0.N) (x : Fin 1024) (y : Fin 1408) : blkB m c t (ix2 x y) = arrB m c (ix2 (atK (bk t) x) (atJ (bj t) y)) :=
  congrArg (arrB m c) (place1 t x y)

/-- What the step of point `t` adds at a place of the block. -/
def part (t : Fin cfg0.N) (y : S1024x1408.Idx) : EReal := ∑ k : Fin 1024, blkA m c t (ix2 (y 0) k) * blkB m c t (ix2 k (y 1))

/-- What the block holds when it is written back. -/
theorem after_eq (t : Fin cfg0.N) (p : Fin 1024) (q : Fin 1408) :
    (dats m 0 c).after 2 t (ix2 p q : S1024x1408.Idx) = ∑ s : Fin 1, part m c (st t s) (ix2 p q) := by
  have e : ∀ s : Fin 1, st t s = t := fun s => Fin.ext (by show 1 * (t.val / 1) + s.val = t.val; omega)
  rw [after0_2, Fin.sum_univ_one, e]
  unfold outsAt0
  frame_out
  rw [step_apply, clear_apply, zero_add]
  rfl

/-- The product of the two arrays. -/
def whole (y : S2048x5632.Idx) : EReal := ∑ k : Fin 1024, arrA m c (ix2 (y 0) k) * arrB m c (ix2 k (y 1))

theorem left (t : Fin cfg0.N) (hf : (cfg0.win 2).flush t = true) (y : S1024x1408.Idx) :
    (dats m 0 c).after 2 t y = whole m c ((win0_2.rect t).emb y) := by
  obtain ⟨p, q, rfl⟩ := idx2 y
  rw [place2]
  refine (after_eq m c t p q).trans ?_
  refine Fin.sum_mul_add_congr (F := fun s k => blkA m c (st t s) (ix2 p k)
    * blkB m c (st t s) (ix2 k q)) (fun s k hl => ?_)
  obtain ⟨e1, e2, e3⟩ := run_steps t s
  show blkA m c _ _ * blkB m c _ _ = _
  rw [blkA_apply, blkB_apply, e1, e2, e3]
  rfl

/-- Every place of the result is in some point's block. -/
theorem onto : ∀ (i : Fin 2) (j : Fin 4), ∃ t, win0_2.flush t = true ∧ bi t = i ∧ bj t = j := by decide +kernel

theorem cover (y : S2048x5632.Idx) : ∃ t, (cfg0.win 2).flush t = true ∧ y ∈ ((cfg0.win 2).blk t).view.set := by
  obtain ⟨r, s, rfl⟩ := idx2 y
  obtain ⟨i, p, rfl⟩ : ∃ i p, r = atI i p :=
    ⟨⟨r.val / 1024, by omega⟩, ⟨r.val % 1024, by omega⟩, Fin.ext (show r.val = r.val / 1024 * 1024 + r.val % 1024 by omega)⟩
  obtain ⟨j, q, rfl⟩ : ∃ j q, s = atJ j q :=
    ⟨⟨s.val / 1408, by omega⟩, ⟨s.val % 1408, by omega⟩, Fin.ext (show s.val = s.val / 1408 * 1408 + s.val % 1408 by omega)⟩
  obtain ⟨t, h, rfl, rfl⟩ := onto i j
  exact ⟨t, h, (place2 t p q) ▸ View.emb_mem_set _ _⟩

/-- The array the call leaves. -/
theorem end_eq : (dats m 0 c).arrAt 2 cfg0.N = whole m c :=
  (dats m 0 c).arrAt_eq_of_cover 2 (whole m c) (fun t hf => funext fun y => left m c t hf y) cover

/-- The reference's result is the same product. -/
theorem ref_eq (A : ReferenceUpIdeal.S2048x1024.Idx → EReal) (B : ReferenceUpIdeal.S1024x5632.Idx → EReal) (hA : A = arrA m c) (hB : B = arrB m c) :
    val_main_v2 (F := Ideal) A B = whole m c := by
  subst hA hB
  funext y
  obtain ⟨p, q, rfl⟩ := idx2 y
  pointwise [val_main_v0, val_main_v1, val_main_v2]
  rfl

end Cert.KernelUpIdeal

namespace Cert

open Idealize.ShloMosaic Idealize.SL.Sem

/-- Over the reals the call's result is the reference's. -/
theorem algebraic_Up : algebraic_KernelUpIdeal_ReferenceUpIdeal (hKernelUpIdeal := KernelUpIdeal.Gen.facts)
    (hReferenceUpIdeal := ReferenceUpIdeal.Gen.facts) :=
  fun m g m' g' _ hargs => ⟨fun c => KernelUpIdeal.whole m c,
    (θ_run _ _ _).mono (fun _ h c => ⟨(h c).1.trans (KernelUpIdeal.end_eq m c), (h c).2⟩) (KernelUpIdeal.Value.run_blocks m g),
    (θ_run _ _ _).mono (fun _ h c => ⟨(h c).1.trans (KernelUpIdeal.ref_eq m c _ _ (hargs c).1 (hargs c).2), (h c).2⟩)
      (ReferenceUpIdeal.Value.run m' g')⟩

/-- The reference leaves its arguments and all semaphores as they were. -/
theorem frame_ReferenceUpIdeal : quiescent_ReferenceUpIdeal (hReferenceUpIdeal := ReferenceUpIdeal.Gen.facts) :=
  fun m g _ => (θ_run _ _ _).mono (fun _ h => ⟨fun c => (h c).2, sem_eq_zero_of_no_sems (by decide) _⟩) (ReferenceUpIdeal.Value.run m g)

end Cert

end
-- ==== Proof.UpDw.lean ====
/- The call computing the gradient of the product by its weights, 2048x1024 by 2048x5632: the 2 steps of the inner axis add up in a block of
   the result, and the blocks are the whole product. -/
module

public import proofs.«01_k».proof.Defs
public import proofs.«01_k».proof.Proof.Blocks
public import proofs.«01_k».proof.Proof.Gen.KernelUpDw.Frame
public import proofs.«01_k».proof.Proof.Gen.KernelUpDwIdeal.Value
public import proofs.«01_k».proof.Proof.Gen.ReferenceUpDwIdeal.Read
public import Idealize.ShloMosaic.Adequacy
public import Idealize.ShloMosaic.Init

@[expose] public section

set_option maxRecDepth 16384

noncomputable section

namespace Cert.KernelUpDwIdeal

open Idealize.ShloMosaic Idealize.ShloMosaic.TcCoe Idealize.SL.Sem Cert.Blocks Cert.KernelUpDwIdeal.Gen
  Cert.ReferenceUpDwIdeal.Read

/-- A point of the grid is a block of rows, a block of columns and a step of the inner axis. -/
def bi (t : Fin grid0.N) : Fin 1 := grid0.coords t 0
def bj (t : Fin grid0.N) : Fin 4 := grid0.coords t 1
def bk (t : Fin grid0.N) : Fin 2 := grid0.coords t 2
theorem step_lt : ∀ (t : Fin grid0.N) (s : Fin 2), 2 * (t.val / 2) + s.val < grid0.N := by decide +kernel
/-- The steps of a point's block. -/
def st (t : Fin grid0.N) (s : Fin 2) : Fin grid0.N := ⟨2 * (t.val / 2) + s.val, step_lt t s⟩
theorem run_steps : ∀ (t : Fin grid0.N) (s : Fin 2), bi (st t s) = bi t ∧ bj (st t s) = bj t ∧ bk (st t s) = s := by decide +kernel

/-- An index of the array, from its block's number and the index there. -/
def atI (n : Fin 1) (x : Fin 1024) : Fin 1024 := ⟨n.val * 1024 + x.val, by omega⟩
def atJ (n : Fin 4) (x : Fin 1408) : Fin 5632 := ⟨n.val * 1408 + x.val, by omega⟩
def atK (n : Fin 2) (x : Fin 1024) : Fin 2048 := ⟨n.val * 1024 + x.val, by omega⟩

theorem index : ∀ t : Fin grid0.N,
    (∀ a, win0_0.index t a = (![(bk t).val, (bi t).val] : Fin 2 → Nat) a) ∧
    (∀ a, win0_1.index t a = (![(bk t).val, (bj t).val] : Fin 2 → Nat) a) ∧
    (∀ a, win0_2.index t a = (![(bi t).val, (bj t).val] : Fin 2 → Nat) a) := by decide +kernel

theorem place0 (t : Fin cfg0.N) (x : Fin 1024) (y : Fin 1024) :
    (win0_0.rect t).emb (ix2 x y : S1024x1024.Idx) = (ix2 (atK (bk t) x) (atI (bi t) y) : S2048x1024.Idx) := by
  refine funext fun a => Fin.ext ((win0_0.rect_emb_val t _ a).trans ?_)
  rw [(index t).1 a]
  match a with
  | ⟨0, _⟩ => rfl
  | ⟨1, _⟩ => rfl
theorem place1 (t : Fin cfg0.N) (x : Fin 1024) (y : Fin 1408) :
    (win0_1.rect t).emb (ix2 x y : S1024x1408.Idx) = (ix2 (atK (bk t) x) (atJ (bj t) y) : S2048x5632.Idx) := by
  refine funext fun a => Fin.ext ((win0_1.rect_emb_val t _ a).trans ?_)
  rw [(index t).2.1 a]
  match a with
  | ⟨0, _⟩ => rfl
  | ⟨1, _⟩ => rfl
theorem place2 (t : Fin cfg0.N) (x : Fin 1024) (y : Fin 1408) :
    (win0_2.rect t).emb (ix2 x y : S1024x1408.Idx) = (ix2 (atI (bi t) x) (atJ (bj t) y) : S1024x5632.Idx) := by
  refine funext fun a => Fin.ext ((win0_2.rect_emb_val t _ a).trans ?_)
  rw [(index t).2.2 a]
  match a with
  | ⟨0, _⟩ => rfl
  | ⟨1, _⟩ => rfl

/-- A step adds its part of the inner axis to what the block holds. -/
theorem step_apply (acc : Vec Ideal S1024x1408 .f32) (A : Vec Ideal S1024x1024 .bf16) (B : Vec Ideal S1024x1408 .bf16) (p : Fin 1024) (q : Fin 1408) :
    k0_pay2 (F := Ideal) acc A B (ix2 p q) = acc (ix2 p q) + ∑ k : Fin 1024, A (ix2 k p) * B (ix2 k q) := by
  pointwise [k0_pay2]

/-- The block is cleared before the first step. -/
theorem clear_apply (p : Fin 1024) (q : Fin 1408) : k0_pay1 (F := Ideal) (ix2 p q) = 0 := by
  pointwise [k0_pay1]

/-- The cast of the finished block. -/
theorem cast_apply (X : Vec Ideal S1024x1408 .f32) (p : Fin 1024) (q : Fin 1408) : k0_pay3 (F := Ideal) X (ix2 p q) = X (ix2 p q) := by
  pointwise [k0_pay3]

variable (m : (ℓ : Loc nD τ sig) → Buf (Elt Ideal) ℓ) (c : Dev nD)

/-- The two arrays the call is given, and their blocks at a point. -/
def arrA : S2048x1024.Idx → EReal := m ((c : Thread nD τ).loc main_arg0)
def arrB : S2048x5632.Idx → EReal := m ((c : Thread nD τ).loc main_arg1)
def blkA (t : Fin cfg0.N) : S1024x1024.Idx → EReal := iblk m c 0 t
def blkB (t : Fin cfg0.N) : S1024x1408.Idx → EReal := iblk m c 1 t

theorem blkA_apply (t : Fin cfg0.N) (x : Fin 1024) (y : Fin 1024) : blkA m c t (ix2 x y) = arrA m c (ix2 (atK (bk t) x) (atI (bi t) y)) :=
  congrArg (arrA m c) (place0 t x y)

theorem blkB_apply (t : Fin cfg0.N) (x : Fin 1024) (y : Fin 1408) : blkB m c t (ix2 x y) = arrB m c (ix2 (atK (bk t) x) (atJ (bj t) y)) :=
  congrArg (arrB m c) (place1 t x y)

/-- What the step of point `t` adds at a place of the block. -/
def part (t : Fin cfg0.N) (y : S1024x1408.Idx) : EReal := ∑ k : Fin 1024, blkA m c t (ix2 k (y 0)) * blkB m c t (ix2 k (y 1))

theorem first (t : Fin cfg0.N) (h : t.val % 2 = 0) (y : S1024x1408.Idx) : (outsAt0 m c t.val t.isLt).2 y = 0 + part m c t y := by
  obtain ⟨p, q, rfl⟩ := idx2 y
  rw [outsAt0_A m c t h (by omega)]
  frame_out
  rw [step_apply, clear_apply]
  rfl

theorem next (t : Fin cfg0.N) (h : ¬t.val % 2 = 0) (y : S1024x1408.Idx) : (outsAt0 m c t.val t.isLt).2 y
    = (outsAt0 m c (t.val - 1) (Nat.lt_of_le_of_lt (Nat.sub_le _ _) t.isLt)).2 y + part m c t y := by
  obtain ⟨p, q, rfl⟩ := idx2 y
  rw [outsAt0_B m c t h (by omega)]
  frame_out
  rw [step_apply]
  exact congrArg₂ (fun x y : EReal => x + y) (congrFun ((Memref.isWhole_whole cc0_scratch0).read_unread _) _) rfl

/-- The last step hands the finished sum out. -/
theorem last (t : Fin cfg0.N) (h : t.val % 2 = 1) (p : Fin 1024) (q : Fin 1408) :
    (outsAt0 m c t.val t.isLt).1 (ix2 p q) = (outsAt0 m c t.val t.isLt).2 (ix2 p q) := by
  rw [outsAt0_B m c t (by omega) h]
  frame_out
  rw [cast_apply]

/-- What the block holds when it is written back. -/
theorem after_eq (t : Fin cfg0.N) (h : t.val % 2 = 1) (p : Fin 1024) (q : Fin 1408) :
    (dats m 0 c).after 2 t (ix2 p q : S1024x1408.Idx)
      = ∑ s : Fin 2, part m c (st t s) (ix2 p q) := by
  rw [after0_2]
  refine (last m c t h p q).trans ?_
  refine (Pipeline.eq_sum_fin_of_reset_step_apply_of_flush (fun n h => (outsAt0 m c n h).2) 2 (fun _ => 0) (part m c)
    (first m c) (next m c) t h _).trans ?_
  exact zero_add _

/-- The product of the two arrays. -/
def whole (y : S1024x5632.Idx) : EReal := ∑ k : Fin 2048, arrA m c (ix2 k (y 0)) * arrB m c (ix2 k (y 1))

theorem left (t : Fin cfg0.N) (hf : (cfg0.win 2).flush t = true) (y : S1024x1408.Idx) :
    (dats m 0 c).after 2 t y = whole m c ((win0_2.rect t).emb y) := by
  obtain ⟨p, q, rfl⟩ := idx2 y
  rw [place2]
  refine (after_eq m c t ((flush0_2 t).mp hf) p q).trans ?_
  refine Fin.sum_mul_add_congr (F := fun s k => blkA m c (st t s) (ix2 k p)
    * blkB m c (st t s) (ix2 k q)) (fun s k hl => ?_)
  obtain ⟨e1, e2, e3⟩ := run_steps t s
  show blkA m c _ _ * blkB m c _ _ = _
  rw [blkA_apply, blkB_apply, e1, e2, e3]
  rfl

/-- The array the call leaves. -/
theorem end_eq : (dats m 0 c).arrAt 2 cfg0.N = whole m c :=
  (dats m 0 c).arrAt_eq_of_cover 2 (whole m c) (fun t hf => funext fun y => left m c t hf y)
    fun i => (Value.covered_iff2 i).2 ⟨Nat.zero_le _, (i 0).isLt, Nat.zero_le _, (i 1).isLt⟩

/-- The reference's result is the same product. -/
theorem ref_eq (A : ReferenceUpDwIdeal.S2048x1024.Idx → EReal) (B : ReferenceUpDwIdeal.S2048x5632.Idx → EReal) (hA : A = arrA m c) (hB : B = arrB m c) :
    val_main_v6 (F := Ideal) A B = whole m c := by
  subst hA hB
  funext y
  obtain ⟨p, q, rfl⟩ := idx2 y
  pointwise [val_main_v1, val_main_v3, val_main_v4, val_main_v5, val_main_v6]
  exact Finset.sum_congr rfl fun k _ => mul_comm _ _

end Cert.KernelUpDwIdeal

namespace Cert

open Idealize.ShloMosaic Idealize.SL.Sem

/-- Over the reals the call's result is the reference's. -/
theorem algebraic_UpDw : algebraic_KernelUpDwIdeal_ReferenceUpDwIdeal (hKernelUpDwIdeal := KernelUpDwIdeal.Gen.facts)
    (hReferenceUpDwIdeal := ReferenceUpDwIdeal.Gen.facts) :=
  fun m g m' g' _ hargs => ⟨fun c => KernelUpDwIdeal.whole m c,
    (θ_run _ _ _).mono (fun _ h c => ⟨(h c).1.trans (KernelUpDwIdeal.end_eq m c), (h c).2⟩) (KernelUpDwIdeal.Value.run_blocks m g),
    (θ_run _ _ _).mono (fun _ h c => ⟨(h c).1.trans (KernelUpDwIdeal.ref_eq m c _ _ (hargs c).1 (hargs c).2), (h c).2⟩)
      (ReferenceUpDwIdeal.Value.run m' g')⟩

/-- The reference leaves its arguments and all semaphores as they were. -/
theorem frame_ReferenceUpDwIdeal : quiescent_ReferenceUpDwIdeal (hReferenceUpDwIdeal := ReferenceUpDwIdeal.Gen.facts) :=
  fun m g _ => (θ_run _ _ _).mono (fun _ h => ⟨fun c => (h c).2, sem_eq_zero_of_no_sems (by decide) _⟩) (ReferenceUpDwIdeal.Value.run m g)

end Cert

end
-- ==== Proof.UpDx.lean ====
/- The call computing the gradient of the product by its rows, 2048x5632 by 1024x5632: the 4 steps of the inner axis add up in a block of
   the result, and the blocks are the whole product. -/
module

public import proofs.«01_k».proof.Defs
public import proofs.«01_k».proof.Proof.Blocks
public import proofs.«01_k».proof.Proof.Gen.KernelUpDx.Frame
public import proofs.«01_k».proof.Proof.Gen.KernelUpDxIdeal.Value
public import proofs.«01_k».proof.Proof.Gen.ReferenceUpDxIdeal.Read
public import Idealize.ShloMosaic.Adequacy
public import Idealize.ShloMosaic.Init

@[expose] public section

set_option maxRecDepth 16384

noncomputable section

namespace Cert.KernelUpDxIdeal

open Idealize.ShloMosaic Idealize.ShloMosaic.TcCoe Idealize.SL.Sem Cert.Blocks Cert.KernelUpDxIdeal.Gen
  Cert.ReferenceUpDxIdeal.Read

/-- A point of the grid is a block of rows, a block of columns and a step of the inner axis. -/
def bi (t : Fin grid0.N) : Fin 2 := grid0.coords t 0
def bj (t : Fin grid0.N) : Fin 1 := grid0.coords t 1
def bk (t : Fin grid0.N) : Fin 4 := grid0.coords t 2
theorem step_lt : ∀ (t : Fin grid0.N) (s : Fin 4), 4 * (t.val / 4) + s.val < grid0.N := by decide +kernel
/-- The steps of a point's block. -/
def st (t : Fin grid0.N) (s : Fin 4) : Fin grid0.N := ⟨4 * (t.val / 4) + s.val, step_lt t s⟩
theorem run_steps : ∀ (t : Fin grid0.N) (s : Fin 4), bi (st t s) = bi t ∧ bj (st t s) = bj t ∧ bk (st t s) = s := by decide +kernel

/-- An index of the array, from its block's number and the index there. -/
def atI (n : Fin 2) (x : Fin 1024) : Fin 2048 := ⟨n.val * 1024 + x.val, by omega⟩
def atJ (n : Fin 1) (x : Fin 1024) : Fin 1024 := ⟨n.val * 1024 + x.val, by omega⟩
def atK (n : Fin 4) (x : Fin 1408) : Fin 5632 := ⟨n.val * 1408 + x.val, by omega⟩

theorem index : ∀ t : Fin grid0.N,
    (∀ a, win0_0.index t a = (![(bi t).val, (bk t).val] : Fin 2 → Nat) a) ∧
    (∀ a, win0_1.index t a = (![(bj t).val, (bk t).val] : Fin 2 → Nat) a) ∧
    (∀ a, win0_2.index t a = (![(bi t).val, (bj t).val] : Fin 2 → Nat) a) := by decide +kernel

theorem place0 (t : Fin cfg0.N) (x : Fin 1024) (y : Fin 1408) :
    (win0_0.rect t).emb (ix2 x y : S1024x1408.Idx) = (ix2 (atI (bi t) x) (atK (bk t) y) : S2048x5632.Idx) := by
  refine funext fun a => Fin.ext ((win0_0.rect_emb_val t _ a).trans ?_)
  rw [(index t).1 a]
  match a with
  | ⟨0, _⟩ => rfl
  | ⟨1, _⟩ => rfl
theorem place1 (t : Fin cfg0.N) (x : Fin 1024) (y : Fin 1408) :
    (win0_1.rect t).emb (ix2 x y : S1024x1408.Idx) = (ix2 (atJ (bj t) x) (atK (bk t) y) : S1024x5632.Idx) := by
  refine funext fun a => Fin.ext ((win0_1.rect_emb_val t _ a).trans ?_)
  rw [(index t).2.1 a]
  match a with
  | ⟨0, _⟩ => rfl
  | ⟨1, _⟩ => rfl
theorem place2 (t : Fin cfg0.N) (x : Fin 1024) (y : Fin 1024) :
    (win0_2.rect t).emb (ix2 x y : S1024x1024.Idx) = (ix2 (atI (bi t) x) (atJ (bj t) y) : S2048x1024.Idx) := by
  refine funext fun a => Fin.ext ((win0_2.rect_emb_val t _ a).trans ?_)
  rw [(index t).2.2 a]
  match a with
  | ⟨0, _⟩ => rfl
  | ⟨1, _⟩ => rfl

/-- A step adds its part of the inner axis to what the block holds. -/
theorem step_apply (acc : Vec Ideal S1024x1024 .f32) (A : Vec Ideal S1024x1408 .bf16) (B : Vec Ideal S1024x1408 .bf16) (p : Fin 1024) (q : Fin 1024) :
    k0_pay2 (F := Ideal) acc A B (ix2 p q) = acc (ix2 p q) + ∑ k : Fin 1408, A (ix2 p k) * B (ix2 q k) := by
  pointwise [k0_pay2]

/-- The block is cleared before the first step. -/
theorem clear_apply (p : Fin 1024) (q : Fin 1024) : k0_pay1 (F := Ideal) (ix2 p q) = 0 := by
  pointwise [k0_pay1]

variable (m : (ℓ : Loc nD τ sig) → Buf (Elt Ideal) ℓ) (c : Dev nD)

/-- The two arrays the call is given, and their blocks at a point. -/
def arrA : S2048x5632.Idx → EReal := m ((c : Thread nD τ).loc main_arg0)
def arrB : S1024x5632.Idx → EReal := m ((c : Thread nD τ).loc main_arg1)
def blkA (t : Fin cfg0.N) : S1024x1408.Idx → EReal := iblk m c 0 t
def blkB (t : Fin cfg0.N) : S1024x1408.Idx → EReal := iblk m c 1 t

theorem blkA_apply (t : Fin cfg0.N) (x : Fin 1024) (y : Fin 1408) : blkA m c t (ix2 x y) = arrA m c (ix2 (atI (bi t) x) (atK (bk t) y)) :=
  congrArg (arrA m c) (place0 t x y)

theorem blkB_apply (t : Fin cfg0.N) (x : Fin 1024) (y : Fin 1408) : blkB m c t (ix2 x y) = arrB m c (ix2 (atJ (bj t) x) (atK (bk t) y)) :=
  congrArg (arrB m c) (place1 t x y)

/-- What the step of point `t` adds at a place of the block. -/
def part (t : Fin cfg0.N) (y : S1024x1024.Idx) : EReal := ∑ k : Fin 1408, blkA m c t (ix2 (y 0) k) * blkB m c t (ix2 (y 1) k)

theorem first (t : Fin cfg0.N) (h : t.val % 4 = 0) (y : S1024x1024.Idx) : (outsAt0 m c t.val t.isLt).2 y = 0 + part m c t y := by
  obtain ⟨p, q, rfl⟩ := idx2 y
  rw [outsAt0_A m c t h (by omega)]
  frame_out
  rw [step_apply, clear_apply]
  rfl

theorem next (t : Fin cfg0.N) (h : ¬t.val % 4 = 0) (y : S1024x1024.Idx) : (outsAt0 m c t.val t.isLt).2 y
    = (outsAt0 m c (t.val - 1) (Nat.lt_of_le_of_lt (Nat.sub_le _ _) t.isLt)).2 y + part m c t y := by
  obtain ⟨p, q, rfl⟩ := idx2 y
  by_cases h' : t.val % 4 = 3
  · rw [outsAt0_C m c t h h']
    frame_out
    rw [step_apply]
    exact congrArg₂ (fun x y : EReal => x + y) (congrFun ((Memref.isWhole_whole cc0_scratch0).read_unread _) _) rfl
  · rw [outsAt0_B m c t h h']
    frame_out
    rw [step_apply]
    exact congrArg₂ (fun x y : EReal => x + y) (congrFun ((Memref.isWhole_whole cc0_scratch0).read_unread _) _) rfl

/-- The last step hands the finished sum out. -/
theorem last (t : Fin cfg0.N) (h : t.val % 4 = 3) (p : Fin 1024) (q : Fin 1024) :
    (outsAt0 m c t.val t.isLt).1 (ix2 p q) = (outsAt0 m c t.val t.isLt).2 (ix2 p q) := by
  rw [outsAt0_C m c t (by omega) h]
  frame_out
  try rfl

/-- What the block holds when it is written back. -/
theorem after_eq (t : Fin cfg0.N) (h : t.val % 4 = 3) (p : Fin 1024) (q : Fin 1024) :
    (dats m 0 c).after 2 t (ix2 p q : S1024x1024.Idx)
      = ∑ s : Fin 4, part m c (st t s) (ix2 p q) := by
  rw [after0_2]
  refine (last m c t h p q).trans ?_
  refine (Pipeline.eq_sum_fin_of_reset_step_apply_of_flush (fun n h => (outsAt0 m c n h).2) 4 (fun _ => 0) (part m c)
    (first m c) (next m c) t h _).trans ?_
  exact zero_add _

/-- The product of the two arrays. -/
def whole (y : S2048x1024.Idx) : EReal := ∑ k : Fin 5632, arrA m c (ix2 (y 0) k) * arrB m c (ix2 (y 1) k)

theorem left (t : Fin cfg0.N) (hf : (cfg0.win 2).flush t = true) (y : S1024x1024.Idx) :
    (dats m 0 c).after 2 t y = whole m c ((win0_2.rect t).emb y) := by
  obtain ⟨p, q, rfl⟩ := idx2 y
  rw [place2]
  refine (after_eq m c t ((flush0_2 t).mp hf) p q).trans ?_
  refine Fin.sum_mul_add_congr (F := fun s k => blkA m c (st t s) (ix2 p k)
    * blkB m c (st t s) (ix2 q k)) (fun s k hl => ?_)
  obtain ⟨e1, e2, e3⟩ := run_steps t s
  show blkA m c _ _ * blkB m c _ _ = _
  rw [blkA_apply, blkB_apply, e1, e2, e3]
  rfl

/-- The array the call leaves. -/
theorem end_eq : (dats m 0 c).arrAt 2 cfg0.N = whole m c :=
  (dats m 0 c).arrAt_eq_of_cover 2 (whole m c) (fun t hf => funext fun y => left m c t hf y)
    fun i => (Value.covered_iff2 i).2 ⟨Nat.zero_le _, (i 0).isLt, Nat.zero_le _, (i 1).isLt⟩

/-- The reference's result is the same product. -/
theorem ref_eq (A : ReferenceUpDxIdeal.S2048x5632.Idx → EReal) (B : ReferenceUpDxIdeal.S1024x5632.Idx → EReal) (hA : A = arrA m c) (hB : B = arrB m c) :
    val_main_v4 (F := Ideal) A B = whole m c := by
  subst hA hB
  funext y
  obtain ⟨p, q, rfl⟩ := idx2 y
  pointwise [val_main_v1, val_main_v3, val_main_v4]
  rfl

end Cert.KernelUpDxIdeal

namespace Cert

open Idealize.ShloMosaic Idealize.SL.Sem

/-- Over the reals the call's result is the reference's. -/
theorem algebraic_UpDx : algebraic_KernelUpDxIdeal_ReferenceUpDxIdeal (hKernelUpDxIdeal := KernelUpDxIdeal.Gen.facts)
    (hReferenceUpDxIdeal := ReferenceUpDxIdeal.Gen.facts) :=
  fun m g m' g' _ hargs => ⟨fun c => KernelUpDxIdeal.whole m c,
    (θ_run _ _ _).mono (fun _ h c => ⟨(h c).1.trans (KernelUpDxIdeal.end_eq m c), (h c).2⟩) (KernelUpDxIdeal.Value.run_blocks m g),
    (θ_run _ _ _).mono (fun _ h c => ⟨(h c).1.trans (KernelUpDxIdeal.ref_eq m c _ _ (hargs c).1 (hargs c).2), (h c).2⟩)
      (ReferenceUpDxIdeal.Value.run m' g')⟩

/-- The reference leaves its arguments and all semaphores as they were. -/
theorem frame_ReferenceUpDxIdeal : quiescent_ReferenceUpDxIdeal (hReferenceUpDxIdeal := ReferenceUpDxIdeal.Gen.facts) :=
  fun m g _ => (θ_run _ _ _).mono (fun _ h => ⟨fun c => (h c).2, sem_eq_zero_of_no_sems (by decide) _⟩) (ReferenceUpDxIdeal.Value.run m g)

end Cert

end
-- ==== Proof.Down.lean ====
/- The call computing the rows times the weights, 2048x2816 by 2816x1024: the 2 steps of the inner axis add up in a block of
   the result, and the blocks are the whole product. -/
module

public import proofs.«01_k».proof.Defs
public import proofs.«01_k».proof.Proof.Blocks
public import proofs.«01_k».proof.Proof.Gen.KernelDown.Frame
public import proofs.«01_k».proof.Proof.Gen.KernelDownIdeal.Value
public import proofs.«01_k».proof.Proof.Gen.ReferenceDownIdeal.Read
public import Idealize.ShloMosaic.Adequacy
public import Idealize.ShloMosaic.Init

@[expose] public section

set_option maxRecDepth 16384

noncomputable section

namespace Cert.KernelDownIdeal

open Idealize.ShloMosaic Idealize.ShloMosaic.TcCoe Idealize.SL.Sem Cert.Blocks Cert.KernelDownIdeal.Gen
  Cert.ReferenceDownIdeal.Read

/-- A point of the grid is a block of rows, a block of columns and a step of the inner axis. -/
def bi (t : Fin grid0.N) : Fin 2 := grid0.coords t 0
def bj (t : Fin grid0.N) : Fin 1 := grid0.coords t 1
def bk (t : Fin grid0.N) : Fin 2 := grid0.coords t 2
theorem step_lt : ∀ (t : Fin grid0.N) (s : Fin 2), 2 * (t.val / 2) + s.val < grid0.N := by decide +kernel
/-- The steps of a point's block. -/
def st (t : Fin grid0.N) (s : Fin 2) : Fin grid0.N := ⟨2 * (t.val / 2) + s.val, step_lt t s⟩
theorem run_steps : ∀ (t : Fin grid0.N) (s : Fin 2), bi (st t s) = bi t ∧ bj (st t s) = bj t ∧ bk (st t s) = s := by decide +kernel

/-- An index of the array, from its block's number and the index there. -/
def atI (n : Fin 2) (x : Fin 1024) : Fin 2048 := ⟨n.val * 1024 + x.val, by omega⟩
def atJ (n : Fin 1) (x : Fin 1024) : Fin 1024 := ⟨n.val * 1024 + x.val, by omega⟩
def atK (n : Fin 2) (x : Fin 1408) : Fin 2816 := ⟨n.val * 1408 + x.val, by omega⟩

theorem index : ∀ t : Fin grid0.N,
    (∀ a, win0_0.index t a = (![(bi t).val, (bk t).val] : Fin 2 → Nat) a) ∧
    (∀ a, win0_1.index t a = (![(bk t).val, (bj t).val] : Fin 2 → Nat) a) ∧
    (∀ a, win0_2.index t a = (![(bi t).val, (bj t).val] : Fin 2 → Nat) a) := by decide +kernel

theorem place0 (t : Fin cfg0.N) (x : Fin 1024) (y : Fin 1408) :
    (win0_0.rect t).emb (ix2 x y : S1024x1408.Idx) = (ix2 (atI (bi t) x) (atK (bk t) y) : S2048x2816.Idx) := by
  refine funext fun a => Fin.ext ((win0_0.rect_emb_val t _ a).trans ?_)
  rw [(index t).1 a]
  match a with
  | ⟨0, _⟩ => rfl
  | ⟨1, _⟩ => rfl
theorem place1 (t : Fin cfg0.N) (x : Fin 1408) (y : Fin 1024) :
    (win0_1.rect t).emb (ix2 x y : S1408x1024.Idx) = (ix2 (atK (bk t) x) (atJ (bj t) y) : S2816x1024.Idx) := by
  refine funext fun a => Fin.ext ((win0_1.rect_emb_val t _ a).trans ?_)
  rw [(index t).2.1 a]
  match a with
  | ⟨0, _⟩ => rfl
  | ⟨1, _⟩ => rfl
theorem place2 (t : Fin cfg0.N) (x : Fin 1024) (y : Fin 1024) :
    (win0_2.rect t).emb (ix2 x y : S1024x1024.Idx) = (ix2 (atI (bi t) x) (atJ (bj t) y) : S2048x1024.Idx) := by
  refine funext fun a => Fin.ext ((win0_2.rect_emb_val t _ a).trans ?_)
  rw [(index t).2.2 a]
  match a with
  | ⟨0, _⟩ => rfl
  | ⟨1, _⟩ => rfl

/-- A step adds its part of the inner axis to what the block holds. -/
theorem step_apply (acc : Vec Ideal S1024x1024 .f32) (A : Vec Ideal S1024x1408 .bf16) (B : Vec Ideal S1408x1024 .bf16) (p : Fin 1024) (q : Fin 1024) :
    k0_pay2 (F := Ideal) acc A B (ix2 p q) = acc (ix2 p q) + ∑ k : Fin 1408, A (ix2 p k) * B (ix2 k q) := by
  pointwise [k0_pay2]

/-- The block is cleared before the first step. -/
theorem clear_apply (p : Fin 1024) (q : Fin 1024) : k0_pay1 (F := Ideal) (ix2 p q) = 0 := by
  pointwise [k0_pay1]

variable (m : (ℓ : Loc nD τ sig) → Buf (Elt Ideal) ℓ) (c : Dev nD)

/-- The two arrays the call is given, and their blocks at a point. -/
def arrA : S2048x2816.Idx → EReal := m ((c : Thread nD τ).loc main_arg0)
def arrB : S2816x1024.Idx → EReal := m ((c : Thread nD τ).loc main_arg1)
def blkA (t : Fin cfg0.N) : S1024x1408.Idx → EReal := iblk m c 0 t
def blkB (t : Fin cfg0.N) : S1408x1024.Idx → EReal := iblk m c 1 t

theorem blkA_apply (t : Fin cfg0.N) (x : Fin 1024) (y : Fin 1408) : blkA m c t (ix2 x y) = arrA m c (ix2 (atI (bi t) x) (atK (bk t) y)) :=
  congrArg (arrA m c) (place0 t x y)

theorem blkB_apply (t : Fin cfg0.N) (x : Fin 1408) (y : Fin 1024) : blkB m c t (ix2 x y) = arrB m c (ix2 (atK (bk t) x) (atJ (bj t) y)) :=
  congrArg (arrB m c) (place1 t x y)

/-- What the step of point `t` adds at a place of the block. -/
def part (t : Fin cfg0.N) (y : S1024x1024.Idx) : EReal := ∑ k : Fin 1408, blkA m c t (ix2 (y 0) k) * blkB m c t (ix2 k (y 1))

theorem first (t : Fin cfg0.N) (h : t.val % 2 = 0) (y : S1024x1024.Idx) : (outsAt0 m c t.val t.isLt).2 y = 0 + part m c t y := by
  obtain ⟨p, q, rfl⟩ := idx2 y
  rw [outsAt0_A m c t h (by omega)]
  frame_out
  rw [step_apply, clear_apply]
  rfl

theorem next (t : Fin cfg0.N) (h : ¬t.val % 2 = 0) (y : S1024x1024.Idx) : (outsAt0 m c t.val t.isLt).2 y
    = (outsAt0 m c (t.val - 1) (Nat.lt_of_le_of_lt (Nat.sub_le _ _) t.isLt)).2 y + part m c t y := by
  obtain ⟨p, q, rfl⟩ := idx2 y
  rw [outsAt0_B m c t h (by omega)]
  frame_out
  rw [step_apply]
  exact congrArg₂ (fun x y : EReal => x + y) (congrFun ((Memref.isWhole_whole cc0_scratch0).read_unread _) _) rfl

/-- The last step hands the finished sum out. -/
theorem last (t : Fin cfg0.N) (h : t.val % 2 = 1) (p : Fin 1024) (q : Fin 1024) :
    (outsAt0 m c t.val t.isLt).1 (ix2 p q) = (outsAt0 m c t.val t.isLt).2 (ix2 p q) := by
  rw [outsAt0_B m c t (by omega) h]
  frame_out
  try rfl

/-- What the block holds when it is written back. -/
theorem after_eq (t : Fin cfg0.N) (h : t.val % 2 = 1) (p : Fin 1024) (q : Fin 1024) :
    (dats m 0 c).after 2 t (ix2 p q : S1024x1024.Idx)
      = ∑ s : Fin 2, part m c (st t s) (ix2 p q) := by
  rw [after0_2]
  refine (last m c t h p q).trans ?_
  refine (Pipeline.eq_sum_fin_of_reset_step_apply_of_flush (fun n h => (outsAt0 m c n h).2) 2 (fun _ => 0) (part m c)
    (first m c) (next m c) t h _).trans ?_
  exact zero_add _

/-- The product of the two arrays. -/
def whole (y : S2048x1024.Idx) : EReal := ∑ k : Fin 2816, arrA m c (ix2 (y 0) k) * arrB m c (ix2 k (y 1))

theorem left (t : Fin cfg0.N) (hf : (cfg0.win 2).flush t = true) (y : S1024x1024.Idx) :
    (dats m 0 c).after 2 t y = whole m c ((win0_2.rect t).emb y) := by
  obtain ⟨p, q, rfl⟩ := idx2 y
  rw [place2]
  refine (after_eq m c t ((flush0_2 t).mp hf) p q).trans ?_
  refine Fin.sum_mul_add_congr (F := fun s k => blkA m c (st t s) (ix2 p k)
    * blkB m c (st t s) (ix2 k q)) (fun s k hl => ?_)
  obtain ⟨e1, e2, e3⟩ := run_steps t s
  show blkA m c _ _ * blkB m c _ _ = _
  rw [blkA_apply, blkB_apply, e1, e2, e3]
  rfl

/-- The array the call leaves. -/
theorem end_eq : (dats m 0 c).arrAt 2 cfg0.N = whole m c :=
  (dats m 0 c).arrAt_eq_of_cover 2 (whole m c) (fun t hf => funext fun y => left m c t hf y)
    fun i => (Value.covered_iff2 i).2 ⟨Nat.zero_le _, (i 0).isLt, Nat.zero_le _, (i 1).isLt⟩

/-- The reference's result is the same product. -/
theorem ref_eq (A : ReferenceDownIdeal.S2048x2816.Idx → EReal) (B : ReferenceDownIdeal.S2816x1024.Idx → EReal) (hA : A = arrA m c) (hB : B = arrB m c) :
    val_main_v2 (F := Ideal) A B = whole m c := by
  subst hA hB
  funext y
  obtain ⟨p, q, rfl⟩ := idx2 y
  pointwise [val_main_v0, val_main_v1, val_main_v2]
  rfl

end Cert.KernelDownIdeal

namespace Cert

open Idealize.ShloMosaic Idealize.SL.Sem

/-- Over the reals the call's result is the reference's. -/
theorem algebraic_Down : algebraic_KernelDownIdeal_ReferenceDownIdeal (hKernelDownIdeal := KernelDownIdeal.Gen.facts)
    (hReferenceDownIdeal := ReferenceDownIdeal.Gen.facts) :=
  fun m g m' g' _ hargs => ⟨fun c => KernelDownIdeal.whole m c,
    (θ_run _ _ _).mono (fun _ h c => ⟨(h c).1.trans (KernelDownIdeal.end_eq m c), (h c).2⟩) (KernelDownIdeal.Value.run_blocks m g),
    (θ_run _ _ _).mono (fun _ h c => ⟨(h c).1.trans (KernelDownIdeal.ref_eq m c _ _ (hargs c).1 (hargs c).2), (h c).2⟩)
      (ReferenceDownIdeal.Value.run m' g')⟩

/-- The reference leaves its arguments and all semaphores as they were. -/
theorem frame_ReferenceDownIdeal : quiescent_ReferenceDownIdeal (hReferenceDownIdeal := ReferenceDownIdeal.Gen.facts) :=
  fun m g _ => (θ_run _ _ _).mono (fun _ h => ⟨fun c => (h c).2, sem_eq_zero_of_no_sems (by decide) _⟩) (ReferenceDownIdeal.Value.run m g)

end Cert

end
-- ==== Proof.DownDw.lean ====
/- The call computing the gradient of the product by its weights, 2048x2816 by 2048x1024: the 2 steps of the inner axis add up in a block of
   the result, and the blocks are the whole product. -/
module

public import proofs.«01_k».proof.Defs
public import proofs.«01_k».proof.Proof.Blocks
public import proofs.«01_k».proof.Proof.Gen.KernelDownDw.Frame
public import proofs.«01_k».proof.Proof.Gen.KernelDownDwIdeal.Value
public import proofs.«01_k».proof.Proof.Gen.ReferenceDownDwIdeal.Read
public import Idealize.ShloMosaic.Adequacy
public import Idealize.ShloMosaic.Init

@[expose] public section

set_option maxRecDepth 16384

noncomputable section

namespace Cert.KernelDownDwIdeal

open Idealize.ShloMosaic Idealize.ShloMosaic.TcCoe Idealize.SL.Sem Cert.Blocks Cert.KernelDownDwIdeal.Gen
  Cert.ReferenceDownDwIdeal.Read

/-- A point of the grid is a block of rows, a block of columns and a step of the inner axis. -/
def bi (t : Fin grid0.N) : Fin 2 := grid0.coords t 0
def bj (t : Fin grid0.N) : Fin 1 := grid0.coords t 1
def bk (t : Fin grid0.N) : Fin 2 := grid0.coords t 2
theorem step_lt : ∀ (t : Fin grid0.N) (s : Fin 2), 2 * (t.val / 2) + s.val < grid0.N := by decide +kernel
/-- The steps of a point's block. -/
def st (t : Fin grid0.N) (s : Fin 2) : Fin grid0.N := ⟨2 * (t.val / 2) + s.val, step_lt t s⟩
theorem run_steps : ∀ (t : Fin grid0.N) (s : Fin 2), bi (st t s) = bi t ∧ bj (st t s) = bj t ∧ bk (st t s) = s := by decide +kernel

/-- An index of the array, from its block's number and the index there. -/
def atI (n : Fin 2) (x : Fin 1408) : Fin 2816 := ⟨n.val * 1408 + x.val, by omega⟩
def atJ (n : Fin 1) (x : Fin 1024) : Fin 1024 := ⟨n.val * 1024 + x.val, by omega⟩
def atK (n : Fin 2) (x : Fin 1024) : Fin 2048 := ⟨n.val * 1024 + x.val, by omega⟩

theorem index : ∀ t : Fin grid0.N,
    (∀ a, win0_0.index t a = (![(bk t).val, (bi t).val] : Fin 2 → Nat) a) ∧
    (∀ a, win0_1.index t a = (![(bk t).val, (bj t).val] : Fin 2 → Nat) a) ∧
    (∀ a, win0_2.index t a = (![(bi t).val, (bj t).val] : Fin 2 → Nat) a) := by decide +kernel

theorem place0 (t : Fin cfg0.N) (x : Fin 1024) (y : Fin 1408) :
    (win0_0.rect t).emb (ix2 x y : S1024x1408.Idx) = (ix2 (atK (bk t) x) (atI (bi t) y) : S2048x2816.Idx) := by
  refine funext fun a => Fin.ext ((win0_0.rect_emb_val t _ a).trans ?_)
  rw [(index t).1 a]
  match a with
  | ⟨0, _⟩ => rfl
  | ⟨1, _⟩ => rfl
theorem place1 (t : Fin cfg0.N) (x : Fin 1024) (y : Fin 1024) :
    (win0_1.rect t).emb (ix2 x y : S1024x1024.Idx) = (ix2 (atK (bk t) x) (atJ (bj t) y) : S2048x1024.Idx) := by
  refine funext fun a => Fin.ext ((win0_1.rect_emb_val t _ a).trans ?_)
  rw [(index t).2.1 a]
  match a with
  | ⟨0, _⟩ => rfl
  | ⟨1, _⟩ => rfl
theorem place2 (t : Fin cfg0.N) (x : Fin 1408) (y : Fin 1024) :
    (win0_2.rect t).emb (ix2 x y : S1408x1024.Idx) = (ix2 (atI (bi t) x) (atJ (bj t) y) : S2816x1024.Idx) := by
  refine funext fun a => Fin.ext ((win0_2.rect_emb_val t _ a).trans ?_)
  rw [(index t).2.2 a]
  match a with
  | ⟨0, _⟩ => rfl
  | ⟨1, _⟩ => rfl

/-- A step adds its part of the inner axis to what the block holds. -/
theorem step_apply (acc : Vec Ideal S1408x1024 .f32) (A : Vec Ideal S1024x1408 .bf16) (B : Vec Ideal S1024x1024 .bf16) (p : Fin 1408) (q : Fin 1024) :
    k0_pay2 (F := Ideal) acc A B (ix2 p q) = acc (ix2 p q) + ∑ k : Fin 1024, A (ix2 k p) * B (ix2 k q) := by
  pointwise [k0_pay2]

/-- The block is cleared before the first step. -/
theorem clear_apply (p : Fin 1408) (q : Fin 1024) : k0_pay1 (F := Ideal) (ix2 p q) = 0 := by
  pointwise [k0_pay1]

/-- The cast of the finished block. -/
theorem cast_apply (X : Vec Ideal S1408x1024 .f32) (p : Fin 1408) (q : Fin 1024) : k0_pay3 (F := Ideal) X (ix2 p q) = X (ix2 p q) := by
  pointwise [k0_pay3]

variable (m : (ℓ : Loc nD τ sig) → Buf (Elt Ideal) ℓ) (c : Dev nD)

/-- The two arrays the call is given, and their blocks at a point. -/
def arrA : S2048x2816.Idx → EReal := m ((c : Thread nD τ).loc main_arg0)
def arrB : S2048x1024.Idx → EReal := m ((c : Thread nD τ).loc main_arg1)
def blkA (t : Fin cfg0.N) : S1024x1408.Idx → EReal := iblk m c 0 t
def blkB (t : Fin cfg0.N) : S1024x1024.Idx → EReal := iblk m c 1 t

theorem blkA_apply (t : Fin cfg0.N) (x : Fin 1024) (y : Fin 1408) : blkA m c t (ix2 x y) = arrA m c (ix2 (atK (bk t) x) (atI (bi t) y)) :=
  congrArg (arrA m c) (place0 t x y)

theorem blkB_apply (t : Fin cfg0.N) (x : Fin 1024) (y : Fin 1024) : blkB m c t (ix2 x y) = arrB m c (ix2 (atK (bk t) x) (atJ (bj t) y)) :=
  congrArg (arrB m c) (place1 t x y)

/-- What the step of point `t` adds at a place of the block. -/
def part (t : Fin cfg0.N) (y : S1408x1024.Idx) : EReal := ∑ k : Fin 1024, blkA m c t (ix2 k (y 0)) * blkB m c t (ix2 k (y 1))

theorem first (t : Fin cfg0.N) (h : t.val % 2 = 0) (y : S1408x1024.Idx) : (outsAt0 m c t.val t.isLt).2 y = 0 + part m c t y := by
  obtain ⟨p, q, rfl⟩ := idx2 y
  rw [outsAt0_A m c t h (by omega)]
  frame_out
  rw [step_apply, clear_apply]
  rfl

theorem next (t : Fin cfg0.N) (h : ¬t.val % 2 = 0) (y : S1408x1024.Idx) : (outsAt0 m c t.val t.isLt).2 y
    = (outsAt0 m c (t.val - 1) (Nat.lt_of_le_of_lt (Nat.sub_le _ _) t.isLt)).2 y + part m c t y := by
  obtain ⟨p, q, rfl⟩ := idx2 y
  rw [outsAt0_B m c t h (by omega)]
  frame_out
  rw [step_apply]
  exact congrArg₂ (fun x y : EReal => x + y) (congrFun ((Memref.isWhole_whole cc0_scratch0).read_unread _) _) rfl

/-- The last step hands the finished sum out. -/
theorem last (t : Fin cfg0.N) (h : t.val % 2 = 1) (p : Fin 1408) (q : Fin 1024) :
    (outsAt0 m c t.val t.isLt).1 (ix2 p q) = (outsAt0 m c t.val t.isLt).2 (ix2 p q) := by
  rw [outsAt0_B m c t (by omega) h]
  frame_out
  rw [cast_apply]

/-- What the block holds when it is written back. -/
theorem after_eq (t : Fin cfg0.N) (h : t.val % 2 = 1) (p : Fin 1408) (q : Fin 1024) :
    (dats m 0 c).after 2 t (ix2 p q : S1408x1024.Idx)
      = ∑ s : Fin 2, part m c (st t s) (ix2 p q) := by
  rw [after0_2]
  refine (last m c t h p q).trans ?_
  refine (Pipeline.eq_sum_fin_of_reset_step_apply_of_flush (fun n h => (outsAt0 m c n h).2) 2 (fun _ => 0) (part m c)
    (first m c) (next m c) t h _).trans ?_
  exact zero_add _

/-- The product of the two arrays. -/
def whole (y : S2816x1024.Idx) : EReal := ∑ k : Fin 2048, arrA m c (ix2 k (y 0)) * arrB m c (ix2 k (y 1))

theorem left (t : Fin cfg0.N) (hf : (cfg0.win 2).flush t = true) (y : S1408x1024.Idx) :
    (dats m 0 c).after 2 t y = whole m c ((win0_2.rect t).emb y) := by
  obtain ⟨p, q, rfl⟩ := idx2 y
  rw [place2]
  refine (after_eq m c t ((flush0_2 t).mp hf) p q).trans ?_
  refine Fin.sum_mul_add_congr (F := fun s k => blkA m c (st t s) (ix2 k p)
    * blkB m c (st t s) (ix2 k q)) (fun s k hl => ?_)
  obtain ⟨e1, e2, e3⟩ := run_steps t s
  show blkA m c _ _ * blkB m c _ _ = _
  rw [blkA_apply, blkB_apply, e1, e2, e3]
  rfl

/-- The array the call leaves. -/
theorem end_eq : (dats m 0 c).arrAt 2 cfg0.N = whole m c :=
  (dats m 0 c).arrAt_eq_of_cover 2 (whole m c) (fun t hf => funext fun y => left m c t hf y)
    fun i => (Value.covered_iff2 i).2 ⟨Nat.zero_le _, (i 0).isLt, Nat.zero_le _, (i 1).isLt⟩

/-- The reference's result is the same product. -/
theorem ref_eq (A : ReferenceDownDwIdeal.S2048x2816.Idx → EReal) (B : ReferenceDownDwIdeal.S2048x1024.Idx → EReal) (hA : A = arrA m c) (hB : B = arrB m c) :
    val_main_v6 (F := Ideal) A B = whole m c := by
  subst hA hB
  funext y
  obtain ⟨p, q, rfl⟩ := idx2 y
  pointwise [val_main_v1, val_main_v3, val_main_v4, val_main_v5, val_main_v6]
  exact Finset.sum_congr rfl fun k _ => mul_comm _ _

end Cert.KernelDownDwIdeal

namespace Cert

open Idealize.ShloMosaic Idealize.SL.Sem

/-- Over the reals the call's result is the reference's. -/
theorem algebraic_DownDw : algebraic_KernelDownDwIdeal_ReferenceDownDwIdeal (hKernelDownDwIdeal := KernelDownDwIdeal.Gen.facts)
    (hReferenceDownDwIdeal := ReferenceDownDwIdeal.Gen.facts) :=
  fun m g m' g' _ hargs => ⟨fun c => KernelDownDwIdeal.whole m c,
    (θ_run _ _ _).mono (fun _ h c => ⟨(h c).1.trans (KernelDownDwIdeal.end_eq m c), (h c).2⟩) (KernelDownDwIdeal.Value.run_blocks m g),
    (θ_run _ _ _).mono (fun _ h c => ⟨(h c).1.trans (KernelDownDwIdeal.ref_eq m c _ _ (hargs c).1 (hargs c).2), (h c).2⟩)
      (ReferenceDownDwIdeal.Value.run m' g')⟩

/-- The reference leaves its arguments and all semaphores as they were. -/
theorem frame_ReferenceDownDwIdeal : quiescent_ReferenceDownDwIdeal (hReferenceDownDwIdeal := ReferenceDownDwIdeal.Gen.facts) :=
  fun m g _ => (θ_run _ _ _).mono (fun _ h => ⟨fun c => (h c).2, sem_eq_zero_of_no_sems (by decide) _⟩) (ReferenceDownDwIdeal.Value.run m g)

end Cert

end
-- ==== Proof.DownDx.lean ====
/- The call computing the gradient of the product by its rows, 2048x1024 by 2816x1024: its one step of the inner axis fills a block of
   the result, and the blocks are the whole product. -/
module

public import proofs.«01_k».proof.Defs
public import proofs.«01_k».proof.Proof.Blocks
public import proofs.«01_k».proof.Proof.Gen.KernelDownDx.Frame
public import proofs.«01_k».proof.Proof.Gen.KernelDownDxIdeal.Value
public import proofs.«01_k».proof.Proof.Gen.ReferenceDownDxIdeal.Read
public import Idealize.ShloMosaic.Adequacy
public import Idealize.ShloMosaic.Init

@[expose] public section

set_option maxRecDepth 16384

noncomputable section

namespace Cert.KernelDownDxIdeal

open Idealize.ShloMosaic Idealize.ShloMosaic.TcCoe Idealize.SL.Sem Cert.Blocks Cert.KernelDownDxIdeal.Gen
  Cert.ReferenceDownDxIdeal.Read

/-- A point of the grid is a block of rows, a block of columns and a step of the inner axis. -/
def bi (t : Fin grid0.N) : Fin 2 := grid0.coords t 0
def bj (t : Fin grid0.N) : Fin 2 := grid0.coords t 1
def bk (t : Fin grid0.N) : Fin 1 := grid0.coords t 2
theorem step_lt : ∀ (t : Fin grid0.N) (s : Fin 1), 1 * (t.val / 1) + s.val < grid0.N := by decide +kernel
/-- The steps of a point's block. -/
def st (t : Fin grid0.N) (s : Fin 1) : Fin grid0.N := ⟨1 * (t.val / 1) + s.val, step_lt t s⟩
theorem run_steps : ∀ (t : Fin grid0.N) (s : Fin 1), bi (st t s) = bi t ∧ bj (st t s) = bj t ∧ bk (st t s) = s := by decide +kernel

/-- An index of the array, from its block's number and the index there. -/
def atI (n : Fin 2) (x : Fin 1024) : Fin 2048 := ⟨n.val * 1024 + x.val, by omega⟩
def atJ (n : Fin 2) (x : Fin 1408) : Fin 2816 := ⟨n.val * 1408 + x.val, by omega⟩
def atK (n : Fin 1) (x : Fin 1024) : Fin 1024 := ⟨n.val * 1024 + x.val, by omega⟩

theorem index : ∀ t : Fin grid0.N,
    (∀ a, win0_0.index t a = (![(bi t).val, (bk t).val] : Fin 2 → Nat) a) ∧
    (∀ a, win0_1.index t a = (![(bj t).val, (bk t).val] : Fin 2 → Nat) a) ∧
    (∀ a, win0_2.index t a = (![(bi t).val, (bj t).val] : Fin 2 → Nat) a) := by decide +kernel

theorem place0 (t : Fin cfg0.N) (x : Fin 1024) (y : Fin 1024) :
    (win0_0.rect t).emb (ix2 x y : S1024x1024.Idx) = (ix2 (atI (bi t) x) (atK (bk t) y) : S2048x1024.Idx) := by
  refine funext fun a => Fin.ext ((win0_0.rect_emb_val t _ a).trans ?_)
  rw [(index t).1 a]
  match a with
  | ⟨0, _⟩ => rfl
  | ⟨1, _⟩ => rfl
theorem place1 (t : Fin cfg0.N) (x : Fin 1408) (y : Fin 1024) :
    (win0_1.rect t).emb (ix2 x y : S1408x1024.Idx) = (ix2 (atJ (bj t) x) (atK (bk t) y) : S2816x1024.Idx) := by
  refine funext fun a => Fin.ext ((win0_1.rect_emb_val t _ a).trans ?_)
  rw [(index t).2.1 a]
  match a with
  | ⟨0, _⟩ => rfl
  | ⟨1, _⟩ => rfl
theorem place2 (t : Fin cfg0.N) (x : Fin 1024) (y : Fin 1408) :
    (win0_2.rect t).emb (ix2 x y : S1024x1408.Idx) = (ix2 (atI (bi t) x) (atJ (bj t) y) : S2048x2816.Idx) := by
  refine funext fun a => Fin.ext ((win0_2.rect_emb_val t _ a).trans ?_)
  rw [(index t).2.2 a]
  match a with
  | ⟨0, _⟩ => rfl
  | ⟨1, _⟩ => rfl

/-- A step adds its part of the inner axis to what the block holds. -/
theorem step_apply (acc : Vec Ideal S1024x1408 .f32) (A : Vec Ideal S1024x1024 .bf16) (B : Vec Ideal S1408x1024 .bf16) (p : Fin 1024) (q : Fin 1408) :
    k0_pay2 (F := Ideal) acc A B (ix2 p q) = acc (ix2 p q) + ∑ k : Fin 1024, A (ix2 p k) * B (ix2 q k) := by
  pointwise [k0_pay2]

/-- The block is cleared before the first step. -/
theorem clear_apply (p : Fin 1024) (q : Fin 1408) : k0_pay1 (F := Ideal) (ix2 p q) = 0 := by
  pointwise [k0_pay1]

variable (m : (ℓ : Loc nD τ sig) → Buf (Elt Ideal) ℓ) (c : Dev nD)

/-- The two arrays the call is given, and their blocks at a point. -/
def arrA : S2048x1024.Idx → EReal := m ((c : Thread nD τ).loc main_arg0)
def arrB : S2816x1024.Idx → EReal := m ((c : Thread nD τ).loc main_arg1)
def blkA (t : Fin cfg0.N) : S1024x1024.Idx → EReal := iblk m c 0 t
def blkB (t : Fin cfg0.N) : S1408x1024.Idx → EReal := iblk m c 1 t

theorem blkA_apply (t : Fin cfg0.N) (x : Fin 1024) (y : Fin 1024) : blkA m c t (ix2 x y) = arrA m c (ix2 (atI (bi t) x) (atK (bk t) y)) :=
  congrArg (arrA m c) (place0 t x y)

theorem blkB_apply (t : Fin cfg0.N) (x : Fin 1408) (y : Fin 1024) : blkB m c t (ix2 x y) = arrB m c (ix2 (atJ (bj t) x) (atK (bk t) y)) :=
  congrArg (arrB m c) (place1 t x y)

/-- What the step of point `t` adds at a place of the block. -/
def part (t : Fin cfg0.N) (y : S1024x1408.Idx) : EReal := ∑ k : Fin 1024, blkA m c t (ix2 (y 0) k) * blkB m c t (ix2 (y 1) k)

/-- What the block holds when it is written back. -/
theorem after_eq (t : Fin cfg0.N) (p : Fin 1024) (q : Fin 1408) :
    (dats m 0 c).after 2 t (ix2 p q : S1024x1408.Idx) = ∑ s : Fin 1, part m c (st t s) (ix2 p q) := by
  have e : ∀ s : Fin 1, st t s = t := fun s => Fin.ext (by show 1 * (t.val / 1) + s.val = t.val; omega)
  rw [after0_2, Fin.sum_univ_one, e]
  unfold outsAt0
  frame_out
  rw [step_apply, clear_apply, zero_add]
  rfl

/-- The product of the two arrays. -/
def whole (y : S2048x2816.Idx) : EReal := ∑ k : Fin 1024, arrA m c (ix2 (y 0) k) * arrB m c (ix2 (y 1) k)

theorem left (t : Fin cfg0.N) (hf : (cfg0.win 2).flush t = true) (y : S1024x1408.Idx) :
    (dats m 0 c).after 2 t y = whole m c ((win0_2.rect t).emb y) := by
  obtain ⟨p, q, rfl⟩ := idx2 y
  rw [place2]
  refine (after_eq m c t p q).trans ?_
  refine Fin.sum_mul_add_congr (F := fun s k => blkA m c (st t s) (ix2 p k)
    * blkB m c (st t s) (ix2 q k)) (fun s k hl => ?_)
  obtain ⟨e1, e2, e3⟩ := run_steps t s
  show blkA m c _ _ * blkB m c _ _ = _
  rw [blkA_apply, blkB_apply, e1, e2, e3]
  rfl

/-- Every place of the result is in some point's block. -/
theorem onto : ∀ (i : Fin 2) (j : Fin 2), ∃ t, win0_2.flush t = true ∧ bi t = i ∧ bj t = j := by decide +kernel

theorem cover (y : S2048x2816.Idx) : ∃ t, (cfg0.win 2).flush t = true ∧ y ∈ ((cfg0.win 2).blk t).view.set := by
  obtain ⟨r, s, rfl⟩ := idx2 y
  obtain ⟨i, p, rfl⟩ : ∃ i p, r = atI i p :=
    ⟨⟨r.val / 1024, by omega⟩, ⟨r.val % 1024, by omega⟩, Fin.ext (show r.val = r.val / 1024 * 1024 + r.val % 1024 by omega)⟩
  obtain ⟨j, q, rfl⟩ : ∃ j q, s = atJ j q :=
    ⟨⟨s.val / 1408, by omega⟩, ⟨s.val % 1408, by omega⟩, Fin.ext (show s.val = s.val / 1408 * 1408 + s.val % 1408 by omega)⟩
  obtain ⟨t, h, rfl, rfl⟩ := onto i j
  exact ⟨t, h, (place2 t p q) ▸ View.emb_mem_set _ _⟩

/-- The array the call leaves. -/
theorem end_eq : (dats m 0 c).arrAt 2 cfg0.N = whole m c :=
  (dats m 0 c).arrAt_eq_of_cover 2 (whole m c) (fun t hf => funext fun y => left m c t hf y) cover

/-- The reference's result is the same product. -/
theorem ref_eq (A : ReferenceDownDxIdeal.S2048x1024.Idx → EReal) (B : ReferenceDownDxIdeal.S2816x1024.Idx → EReal) (hA : A = arrA m c) (hB : B = arrB m c) :
    val_main_v4 (F := Ideal) A B = whole m c := by
  subst hA hB
  funext y
  obtain ⟨p, q, rfl⟩ := idx2 y
  pointwise [val_main_v1, val_main_v3, val_main_v4]
  rfl

end Cert.KernelDownDxIdeal

namespace Cert

open Idealize.ShloMosaic Idealize.SL.Sem

/-- Over the reals the call's result is the reference's. -/
theorem algebraic_DownDx : algebraic_KernelDownDxIdeal_ReferenceDownDxIdeal (hKernelDownDxIdeal := KernelDownDxIdeal.Gen.facts)
    (hReferenceDownDxIdeal := ReferenceDownDxIdeal.Gen.facts) :=
  fun m g m' g' _ hargs => ⟨fun c => KernelDownDxIdeal.whole m c,
    (θ_run _ _ _).mono (fun _ h c => ⟨(h c).1.trans (KernelDownDxIdeal.end_eq m c), (h c).2⟩) (KernelDownDxIdeal.Value.run_blocks m g),
    (θ_run _ _ _).mono (fun _ h c => ⟨(h c).1.trans (KernelDownDxIdeal.ref_eq m c _ _ (hargs c).1 (hargs c).2), (h c).2⟩)
      (ReferenceDownDxIdeal.Value.run m' g')⟩

/-- The reference leaves its arguments and all semaphores as they were. -/
theorem frame_ReferenceDownDxIdeal : quiescent_ReferenceDownDxIdeal (hReferenceDownDxIdeal := ReferenceDownDxIdeal.Gen.facts) :=
  fun m g _ => (θ_run _ _ _).mono (fun _ h => ⟨fun c => (h c).2, sem_eq_zero_of_no_sems (by decide) _⟩) (ReferenceDownDxIdeal.Value.run m g)

end Cert

end
-- ==== Proof.UpFirst.lean ====
/- The call computing the rows times the weights, 2304x1024 by 1024x5632: its one step of the inner axis fills a block of
   the result, and the blocks are the whole product. -/
module

public import proofs.«01_k».proof.Defs
public import proofs.«01_k».proof.Proof.Blocks
public import proofs.«01_k».proof.Proof.Gen.KernelUpFirst.Frame
public import proofs.«01_k».proof.Proof.Gen.KernelUpFirstIdeal.Value
public import proofs.«01_k».proof.Proof.Gen.ReferenceUpFirstIdeal.Read
public import Idealize.ShloMosaic.Adequacy
public import Idealize.ShloMosaic.Init

@[expose] public section

set_option maxRecDepth 16384

noncomputable section

namespace Cert.KernelUpFirstIdeal

open Idealize.ShloMosaic Idealize.ShloMosaic.TcCoe Idealize.SL.Sem Cert.Blocks Cert.KernelUpFirstIdeal.Gen
  Cert.ReferenceUpFirstIdeal.Read

/-- A point of the grid is a block of rows, a block of columns and a step of the inner axis. -/
def bi (t : Fin grid0.N) : Fin 2 := grid0.coords t 0
def bj (t : Fin grid0.N) : Fin 4 := grid0.coords t 1
def bk (t : Fin grid0.N) : Fin 1 := grid0.coords t 2
theorem step_lt : ∀ (t : Fin grid0.N) (s : Fin 1), 1 * (t.val / 1) + s.val < grid0.N := by decide +kernel
/-- The steps of a point's block. -/
def st (t : Fin grid0.N) (s : Fin 1) : Fin grid0.N := ⟨1 * (t.val / 1) + s.val, step_lt t s⟩
theorem run_steps : ∀ (t : Fin grid0.N) (s : Fin 1), bi (st t s) = bi t ∧ bj (st t s) = bj t ∧ bk (st t s) = s := by decide +kernel

/-- An index of the array, from its block's number and the index there. -/
def atI (n : Fin 2) (x : Fin 1152) : Fin 2304 := ⟨n.val * 1152 + x.val, by omega⟩
def atJ (n : Fin 4) (x : Fin 1408) : Fin 5632 := ⟨n.val * 1408 + x.val, by omega⟩
def atK (n : Fin 1) (x : Fin 1024) : Fin 1024 := ⟨n.val * 1024 + x.val, by omega⟩

theorem index : ∀ t : Fin grid0.N,
    (∀ a, win0_0.index t a = (![(bi t).val, (bk t).val] : Fin 2 → Nat) a) ∧
    (∀ a, win0_1.index t a = (![(bk t).val, (bj t).val] : Fin 2 → Nat) a) ∧
    (∀ a, win0_2.index t a = (![(bi t).val, (bj t).val] : Fin 2 → Nat) a) := by decide +kernel

theorem place0 (t : Fin cfg0.N) (x : Fin 1152) (y : Fin 1024) :
    (win0_0.rect t).emb (ix2 x y : S1152x1024.Idx) = (ix2 (atI (bi t) x) (atK (bk t) y) : S2304x1024.Idx) := by
  refine funext fun a => Fin.ext ((win0_0.rect_emb_val t _ a).trans ?_)
  rw [(index t).1 a]
  match a with
  | ⟨0, _⟩ => rfl
  | ⟨1, _⟩ => rfl
theorem place1 (t : Fin cfg0.N) (x : Fin 1024) (y : Fin 1408) :
    (win0_1.rect t).emb (ix2 x y : S1024x1408.Idx) = (ix2 (atK (bk t) x) (atJ (bj t) y) : S1024x5632.Idx) := by
  refine funext fun a => Fin.ext ((win0_1.rect_emb_val t _ a).trans ?_)
  rw [(index t).2.1 a]
  match a with
  | ⟨0, _⟩ => rfl
  | ⟨1, _⟩ => rfl
theorem place2 (t : Fin cfg0.N) (x : Fin 1152) (y : Fin 1408) :
    (win0_2.rect t).emb (ix2 x y : S1152x1408.Idx) = (ix2 (atI (bi t) x) (atJ (bj t) y) : S2304x5632.Idx) := by
  refine funext fun a => Fin.ext ((win0_2.rect_emb_val t _ a).trans ?_)
  rw [(index t).2.2 a]
  match a with
  | ⟨0, _⟩ => rfl
  | ⟨1, _⟩ => rfl

/-- A step adds its part of the inner axis to what the block holds. -/
theorem step_apply (acc : Vec Ideal S1152x1408 .f32) (A : Vec Ideal S1152x1024 .bf16) (B : Vec Ideal S1024x1408 .bf16) (p : Fin 1152) (q : Fin 1408) :
    k0_pay2 (F := Ideal) acc A B (ix2 p q) = acc (ix2 p q) + ∑ k : Fin 1024, A (ix2 p k) * B (ix2 k q) := by
  pointwise [k0_pay2]

/-- The block is cleared before the first step. -/
theorem clear_apply (p : Fin 1152) (q : Fin 1408) : k0_pay1 (F := Ideal) (ix2 p q) = 0 := by
  pointwise [k0_pay1]

variable (m : (ℓ : Loc nD τ sig) → Buf (Elt Ideal) ℓ) (c : Dev nD)

/-- The two arrays the call is given, and their blocks at a point. -/
def arrA : S2304x1024.Idx → EReal := m ((c : Thread nD τ).loc main_arg0)
def arrB : S1024x5632.Idx → EReal := m ((c : Thread nD τ).loc main_arg1)
def blkA (t : Fin cfg0.N) : S1152x1024.Idx → EReal := iblk m c 0 t
def blkB (t : Fin cfg0.N) : S1024x1408.Idx → EReal := iblk m c 1 t

theorem blkA_apply (t : Fin cfg0.N) (x : Fin 1152) (y : Fin 1024) : blkA m c t (ix2 x y) = arrA m c (ix2 (atI (bi t) x) (atK (bk t) y)) :=
  congrArg (arrA m c) (place0 t x y)

theorem blkB_apply (t : Fin cfg0.N) (x : Fin 1024) (y : Fin 1408) : blkB m c t (ix2 x y) = arrB m c (ix2 (atK (bk t) x) (atJ (bj t) y)) :=
  congrArg (arrB m c) (place1 t x y)

/-- What the step of point `t` adds at a place of the block. -/
def part (t : Fin cfg0.N) (y : S1152x1408.Idx) : EReal := ∑ k : Fin 1024, blkA m c t (ix2 (y 0) k) * blkB m c t (ix2 k (y 1))

/-- What the block holds when it is written back. -/
theorem after_eq (t : Fin cfg0.N) (p : Fin 1152) (q : Fin 1408) :
    (dats m 0 c).after 2 t (ix2 p q : S1152x1408.Idx) = ∑ s : Fin 1, part m c (st t s) (ix2 p q) := by
  have e : ∀ s : Fin 1, st t s = t := fun s => Fin.ext (by show 1 * (t.val / 1) + s.val = t.val; omega)
  rw [after0_2, Fin.sum_univ_one, e]
  unfold outsAt0
  frame_out
  rw [step_apply, clear_apply, zero_add]
  rfl

/-- The product of the two arrays. -/
def whole (y : S2304x5632.Idx) : EReal := ∑ k : Fin 1024, arrA m c (ix2 (y 0) k) * arrB m c (ix2 k (y 1))

theorem left (t : Fin cfg0.N) (hf : (cfg0.win 2).flush t = true) (y : S1152x1408.Idx) :
    (dats m 0 c).after 2 t y = whole m c ((win0_2.rect t).emb y) := by
  obtain ⟨p, q, rfl⟩ := idx2 y
  rw [place2]
  refine (after_eq m c t p q).trans ?_
  refine Fin.sum_mul_add_congr (F := fun s k => blkA m c (st t s) (ix2 p k)
    * blkB m c (st t s) (ix2 k q)) (fun s k hl => ?_)
  obtain ⟨e1, e2, e3⟩ := run_steps t s
  show blkA m c _ _ * blkB m c _ _ = _
  rw [blkA_apply, blkB_apply, e1, e2, e3]
  rfl

/-- Every place of the result is in some point's block. -/
theorem onto : ∀ (i : Fin 2) (j : Fin 4), ∃ t, win0_2.flush t = true ∧ bi t = i ∧ bj t = j := by decide +kernel

theorem cover (y : S2304x5632.Idx) : ∃ t, (cfg0.win 2).flush t = true ∧ y ∈ ((cfg0.win 2).blk t).view.set := by
  obtain ⟨r, s, rfl⟩ := idx2 y
  obtain ⟨i, p, rfl⟩ : ∃ i p, r = atI i p :=
    ⟨⟨r.val / 1152, by omega⟩, ⟨r.val % 1152, by omega⟩, Fin.ext (show r.val = r.val / 1152 * 1152 + r.val % 1152 by omega)⟩
  obtain ⟨j, q, rfl⟩ : ∃ j q, s = atJ j q :=
    ⟨⟨s.val / 1408, by omega⟩, ⟨s.val % 1408, by omega⟩, Fin.ext (show s.val = s.val / 1408 * 1408 + s.val % 1408 by omega)⟩
  obtain ⟨t, h, rfl, rfl⟩ := onto i j
  exact ⟨t, h, (place2 t p q) ▸ View.emb_mem_set _ _⟩

/-- The array the call leaves. -/
theorem end_eq : (dats m 0 c).arrAt 2 cfg0.N = whole m c :=
  (dats m 0 c).arrAt_eq_of_cover 2 (whole m c) (fun t hf => funext fun y => left m c t hf y) cover

/-- The reference's result is the same product. -/
theorem ref_eq (A : ReferenceUpFirstIdeal.S2304x1024.Idx → EReal) (B : ReferenceUpFirstIdeal.S1024x5632.Idx → EReal) (hA : A = arrA m c) (hB : B = arrB m c) :
    val_main_v2 (F := Ideal) A B = whole m c := by
  subst hA hB
  funext y
  obtain ⟨p, q, rfl⟩ := idx2 y
  pointwise [val_main_v0, val_main_v1, val_main_v2]
  rfl

end Cert.KernelUpFirstIdeal

namespace Cert

open Idealize.ShloMosaic Idealize.SL.Sem

/-- Over the reals the call's result is the reference's. -/
theorem algebraic_UpFirst : algebraic_KernelUpFirstIdeal_ReferenceUpFirstIdeal (hKernelUpFirstIdeal := KernelUpFirstIdeal.Gen.facts)
    (hReferenceUpFirstIdeal := ReferenceUpFirstIdeal.Gen.facts) :=
  fun m g m' g' _ hargs => ⟨fun c => KernelUpFirstIdeal.whole m c,
    (θ_run _ _ _).mono (fun _ h c => ⟨(h c).1.trans (KernelUpFirstIdeal.end_eq m c), (h c).2⟩) (KernelUpFirstIdeal.Value.run_blocks m g),
    (θ_run _ _ _).mono (fun _ h c => ⟨(h c).1.trans (KernelUpFirstIdeal.ref_eq m c _ _ (hargs c).1 (hargs c).2), (h c).2⟩)
      (ReferenceUpFirstIdeal.Value.run m' g')⟩

/-- The reference leaves its arguments and all semaphores as they were. -/
theorem frame_ReferenceUpFirstIdeal : quiescent_ReferenceUpFirstIdeal (hReferenceUpFirstIdeal := ReferenceUpFirstIdeal.Gen.facts) :=
  fun m g _ => (θ_run _ _ _).mono (fun _ h => ⟨fun c => (h c).2, sem_eq_zero_of_no_sems (by decide) _⟩) (ReferenceUpFirstIdeal.Value.run m g)

end Cert

end
-- ==== Proof.UpFirstDw.lean ====
/- The call computing the gradient of the product by its weights, 2304x1024 by 2304x5632: the 2 steps of the inner axis add up in a block of
   the result, and the blocks are the whole product. -/
module

public import proofs.«01_k».proof.Defs
public import proofs.«01_k».proof.Proof.Blocks
public import proofs.«01_k».proof.Proof.Gen.KernelUpFirstDw.Frame
public import proofs.«01_k».proof.Proof.Gen.KernelUpFirstDwIdeal.Value
public import proofs.«01_k».proof.Proof.Gen.ReferenceUpFirstDwIdeal.Read
public import Idealize.ShloMosaic.Adequacy
public import Idealize.ShloMosaic.Init

@[expose] public section

set_option maxRecDepth 16384

noncomputable section

namespace Cert.KernelUpFirstDwIdeal

open Idealize.ShloMosaic Idealize.ShloMosaic.TcCoe Idealize.SL.Sem Cert.Blocks Cert.KernelUpFirstDwIdeal.Gen
  Cert.ReferenceUpFirstDwIdeal.Read

/-- A point of the grid is a block of rows, a block of columns and a step of the inner axis. -/
def bi (t : Fin grid0.N) : Fin 1 := grid0.coords t 0
def bj (t : Fin grid0.N) : Fin 4 := grid0.coords t 1
def bk (t : Fin grid0.N) : Fin 2 := grid0.coords t 2
theorem step_lt : ∀ (t : Fin grid0.N) (s : Fin 2), 2 * (t.val / 2) + s.val < grid0.N := by decide +kernel
/-- The steps of a point's block. -/
def st (t : Fin grid0.N) (s : Fin 2) : Fin grid0.N := ⟨2 * (t.val / 2) + s.val, step_lt t s⟩
theorem run_steps : ∀ (t : Fin grid0.N) (s : Fin 2), bi (st t s) = bi t ∧ bj (st t s) = bj t ∧ bk (st t s) = s := by decide +kernel

/-- An index of the array, from its block's number and the index there. -/
def atI (n : Fin 1) (x : Fin 1024) : Fin 1024 := ⟨n.val * 1024 + x.val, by omega⟩
def atJ (n : Fin 4) (x : Fin 1408) : Fin 5632 := ⟨n.val * 1408 + x.val, by omega⟩
def atK (n : Fin 2) (x : Fin 1152) : Fin 2304 := ⟨n.val * 1152 + x.val, by omega⟩

theorem index : ∀ t : Fin grid0.N,
    (∀ a, win0_0.index t a = (![(bk t).val, (bi t).val] : Fin 2 → Nat) a) ∧
    (∀ a, win0_1.index t a = (![(bk t).val, (bj t).val] : Fin 2 → Nat) a) ∧
    (∀ a, win0_2.index t a = (![(bi t).val, (bj t).val] : Fin 2 → Nat) a) := by decide +kernel

theorem place0 (t : Fin cfg0.N) (x : Fin 1152) (y : Fin 1024) :
    (win0_0.rect t).emb (ix2 x y : S1152x1024.Idx) = (ix2 (atK (bk t) x) (atI (bi t) y) : S2304x1024.Idx) := by
  refine funext fun a => Fin.ext ((win0_0.rect_emb_val t _ a).trans ?_)
  rw [(index t).1 a]
  match a with
  | ⟨0, _⟩ => rfl
  | ⟨1, _⟩ => rfl
theorem place1 (t : Fin cfg0.N) (x : Fin 1152) (y : Fin 1408) :
    (win0_1.rect t).emb (ix2 x y : S1152x1408.Idx) = (ix2 (atK (bk t) x) (atJ (bj t) y) : S2304x5632.Idx) := by
  refine funext fun a => Fin.ext ((win0_1.rect_emb_val t _ a).trans ?_)
  rw [(index t).2.1 a]
  match a with
  | ⟨0, _⟩ => rfl
  | ⟨1, _⟩ => rfl
theorem place2 (t : Fin cfg0.N) (x : Fin 1024) (y : Fin 1408) :
    (win0_2.rect t).emb (ix2 x y : S1024x1408.Idx) = (ix2 (atI (bi t) x) (atJ (bj t) y) : S1024x5632.Idx) := by
  refine funext fun a => Fin.ext ((win0_2.rect_emb_val t _ a).trans ?_)
  rw [(index t).2.2 a]
  match a with
  | ⟨0, _⟩ => rfl
  | ⟨1, _⟩ => rfl

/-- A step adds its part of the inner axis to what the block holds. -/
theorem step_apply (acc : Vec Ideal S1024x1408 .f32) (A : Vec Ideal S1152x1024 .bf16) (B : Vec Ideal S1152x1408 .bf16) (p : Fin 1024) (q : Fin 1408) :
    k0_pay2 (F := Ideal) acc A B (ix2 p q) = acc (ix2 p q) + ∑ k : Fin 1152, A (ix2 k p) * B (ix2 k q) := by
  pointwise [k0_pay2]

/-- The block is cleared before the first step. -/
theorem clear_apply (p : Fin 1024) (q : Fin 1408) : k0_pay1 (F := Ideal) (ix2 p q) = 0 := by
  pointwise [k0_pay1]

/-- The cast of the finished block. -/
theorem cast_apply (X : Vec Ideal S1024x1408 .f32) (p : Fin 1024) (q : Fin 1408) : k0_pay3 (F := Ideal) X (ix2 p q) = X (ix2 p q) := by
  pointwise [k0_pay3]

variable (m : (ℓ : Loc nD τ sig) → Buf (Elt Ideal) ℓ) (c : Dev nD)

/-- The two arrays the call is given, and their blocks at a point. -/
def arrA : S2304x1024.Idx → EReal := m ((c : Thread nD τ).loc main_arg0)
def arrB : S2304x5632.Idx → EReal := m ((c : Thread nD τ).loc main_arg1)
def blkA (t : Fin cfg0.N) : S1152x1024.Idx → EReal := iblk m c 0 t
def blkB (t : Fin cfg0.N) : S1152x1408.Idx → EReal := iblk m c 1 t

theorem blkA_apply (t : Fin cfg0.N) (x : Fin 1152) (y : Fin 1024) : blkA m c t (ix2 x y) = arrA m c (ix2 (atK (bk t) x) (atI (bi t) y)) :=
  congrArg (arrA m c) (place0 t x y)

theorem blkB_apply (t : Fin cfg0.N) (x : Fin 1152) (y : Fin 1408) : blkB m c t (ix2 x y) = arrB m c (ix2 (atK (bk t) x) (atJ (bj t) y)) :=
  congrArg (arrB m c) (place1 t x y)

/-- What the step of point `t` adds at a place of the block. -/
def part (t : Fin cfg0.N) (y : S1024x1408.Idx) : EReal := ∑ k : Fin 1152, blkA m c t (ix2 k (y 0)) * blkB m c t (ix2 k (y 1))

theorem first (t : Fin cfg0.N) (h : t.val % 2 = 0) (y : S1024x1408.Idx) : (outsAt0 m c t.val t.isLt).2 y = 0 + part m c t y := by
  obtain ⟨p, q, rfl⟩ := idx2 y
  rw [outsAt0_A m c t h (by omega)]
  frame_out
  rw [step_apply, clear_apply]
  rfl

theorem next (t : Fin cfg0.N) (h : ¬t.val % 2 = 0) (y : S1024x1408.Idx) : (outsAt0 m c t.val t.isLt).2 y
    = (outsAt0 m c (t.val - 1) (Nat.lt_of_le_of_lt (Nat.sub_le _ _) t.isLt)).2 y + part m c t y := by
  obtain ⟨p, q, rfl⟩ := idx2 y
  rw [outsAt0_B m c t h (by omega)]
  frame_out
  rw [step_apply]
  exact congrArg₂ (fun x y : EReal => x + y) (congrFun ((Memref.isWhole_whole cc0_scratch0).read_unread _) _) rfl

/-- The last step hands the finished sum out. -/
theorem last (t : Fin cfg0.N) (h : t.val % 2 = 1) (p : Fin 1024) (q : Fin 1408) :
    (outsAt0 m c t.val t.isLt).1 (ix2 p q) = (outsAt0 m c t.val t.isLt).2 (ix2 p q) := by
  rw [outsAt0_B m c t (by omega) h]
  frame_out
  rw [cast_apply]

/-- What the block holds when it is written back. -/
theorem after_eq (t : Fin cfg0.N) (h : t.val % 2 = 1) (p : Fin 1024) (q : Fin 1408) :
    (dats m 0 c).after 2 t (ix2 p q : S1024x1408.Idx)
      = ∑ s : Fin 2, part m c (st t s) (ix2 p q) := by
  rw [after0_2]
  refine (last m c t h p q).trans ?_
  refine (Pipeline.eq_sum_fin_of_reset_step_apply_of_flush (fun n h => (outsAt0 m c n h).2) 2 (fun _ => 0) (part m c)
    (first m c) (next m c) t h _).trans ?_
  exact zero_add _

/-- The product of the two arrays. -/
def whole (y : S1024x5632.Idx) : EReal := ∑ k : Fin 2304, arrA m c (ix2 k (y 0)) * arrB m c (ix2 k (y 1))

theorem left (t : Fin cfg0.N) (hf : (cfg0.win 2).flush t = true) (y : S1024x1408.Idx) :
    (dats m 0 c).after 2 t y = whole m c ((win0_2.rect t).emb y) := by
  obtain ⟨p, q, rfl⟩ := idx2 y
  rw [place2]
  refine (after_eq m c t ((flush0_2 t).mp hf) p q).trans ?_
  refine Fin.sum_mul_add_congr (F := fun s k => blkA m c (st t s) (ix2 k p)
    * blkB m c (st t s) (ix2 k q)) (fun s k hl => ?_)
  obtain ⟨e1, e2, e3⟩ := run_steps t s
  show blkA m c _ _ * blkB m c _ _ = _
  rw [blkA_apply, blkB_apply, e1, e2, e3]
  rfl

/-- The array the call leaves. -/
theorem end_eq : (dats m 0 c).arrAt 2 cfg0.N = whole m c :=
  (dats m 0 c).arrAt_eq_of_cover 2 (whole m c) (fun t hf => funext fun y => left m c t hf y)
    fun i => (Value.covered_iff2 i).2 ⟨Nat.zero_le _, (i 0).isLt, Nat.zero_le _, (i 1).isLt⟩

/-- The reference's result is the same product. -/
theorem ref_eq (A : ReferenceUpFirstDwIdeal.S2304x1024.Idx → EReal) (B : ReferenceUpFirstDwIdeal.S2304x5632.Idx → EReal) (hA : A = arrA m c) (hB : B = arrB m c) :
    val_main_v6 (F := Ideal) A B = whole m c := by
  subst hA hB
  funext y
  obtain ⟨p, q, rfl⟩ := idx2 y
  pointwise [val_main_v1, val_main_v3, val_main_v4, val_main_v5, val_main_v6]
  exact Finset.sum_congr rfl fun k _ => mul_comm _ _

end Cert.KernelUpFirstDwIdeal

namespace Cert

open Idealize.ShloMosaic Idealize.SL.Sem

/-- Over the reals the call's result is the reference's. -/
theorem algebraic_UpFirstDw : algebraic_KernelUpFirstDwIdeal_ReferenceUpFirstDwIdeal (hKernelUpFirstDwIdeal := KernelUpFirstDwIdeal.Gen.facts)
    (hReferenceUpFirstDwIdeal := ReferenceUpFirstDwIdeal.Gen.facts) :=
  fun m g m' g' _ hargs => ⟨fun c => KernelUpFirstDwIdeal.whole m c,
    (θ_run _ _ _).mono (fun _ h c => ⟨(h c).1.trans (KernelUpFirstDwIdeal.end_eq m c), (h c).2⟩) (KernelUpFirstDwIdeal.Value.run_blocks m g),
    (θ_run _ _ _).mono (fun _ h c => ⟨(h c).1.trans (KernelUpFirstDwIdeal.ref_eq m c _ _ (hargs c).1 (hargs c).2), (h c).2⟩)
      (ReferenceUpFirstDwIdeal.Value.run m' g')⟩

/-- The reference leaves its arguments and all semaphores as they were. -/
theorem frame_ReferenceUpFirstDwIdeal : quiescent_ReferenceUpFirstDwIdeal (hReferenceUpFirstDwIdeal := ReferenceUpFirstDwIdeal.Gen.facts) :=
  fun m g _ => (θ_run _ _ _).mono (fun _ h => ⟨fun c => (h c).2, sem_eq_zero_of_no_sems (by decide) _⟩) (ReferenceUpFirstDwIdeal.Value.run m g)

end Cert

end
-- ==== Proof.UpFirstDx.lean ====
/- The call computing the gradient of the product by its rows, 2304x5632 by 1024x5632: the 4 steps of the inner axis add up in a block of
   the result, and the blocks are the whole product. -/
module

public import proofs.«01_k».proof.Defs
public import proofs.«01_k».proof.Proof.Blocks
public import proofs.«01_k».proof.Proof.Gen.KernelUpFirstDx.Frame
public import proofs.«01_k».proof.Proof.Gen.KernelUpFirstDxIdeal.Value
public import proofs.«01_k».proof.Proof.Gen.ReferenceUpFirstDxIdeal.Read
public import Idealize.ShloMosaic.Adequacy
public import Idealize.ShloMosaic.Init

@[expose] public section

set_option maxRecDepth 16384

noncomputable section

namespace Cert.KernelUpFirstDxIdeal

open Idealize.ShloMosaic Idealize.ShloMosaic.TcCoe Idealize.SL.Sem Cert.Blocks Cert.KernelUpFirstDxIdeal.Gen
  Cert.ReferenceUpFirstDxIdeal.Read

/-- A point of the grid is a block of rows, a block of columns and a step of the inner axis. -/
def bi (t : Fin grid0.N) : Fin 2 := grid0.coords t 0
def bj (t : Fin grid0.N) : Fin 1 := grid0.coords t 1
def bk (t : Fin grid0.N) : Fin 4 := grid0.coords t 2
theorem step_lt : ∀ (t : Fin grid0.N) (s : Fin 4), 4 * (t.val / 4) + s.val < grid0.N := by decide +kernel
/-- The steps of a point's block. -/
def st (t : Fin grid0.N) (s : Fin 4) : Fin grid0.N := ⟨4 * (t.val / 4) + s.val, step_lt t s⟩
theorem run_steps : ∀ (t : Fin grid0.N) (s : Fin 4), bi (st t s) = bi t ∧ bj (st t s) = bj t ∧ bk (st t s) = s := by decide +kernel

/-- An index of the array, from its block's number and the index there. -/
def atI (n : Fin 2) (x : Fin 1152) : Fin 2304 := ⟨n.val * 1152 + x.val, by omega⟩
def atJ (n : Fin 1) (x : Fin 1024) : Fin 1024 := ⟨n.val * 1024 + x.val, by omega⟩
def atK (n : Fin 4) (x : Fin 1408) : Fin 5632 := ⟨n.val * 1408 + x.val, by omega⟩

theorem index : ∀ t : Fin grid0.N,
    (∀ a, win0_0.index t a = (![(bi t).val, (bk t).val] : Fin 2 → Nat) a) ∧
    (∀ a, win0_1.index t a = (![(bj t).val, (bk t).val] : Fin 2 → Nat) a) ∧
    (∀ a, win0_2.index t a = (![(bi t).val, (bj t).val] : Fin 2 → Nat) a) := by decide +kernel

theorem place0 (t : Fin cfg0.N) (x : Fin 1152) (y : Fin 1408) :
    (win0_0.rect t).emb (ix2 x y : S1152x1408.Idx) = (ix2 (atI (bi t) x) (atK (bk t) y) : S2304x5632.Idx) := by
  refine funext fun a => Fin.ext ((win0_0.rect_emb_val t _ a).trans ?_)
  rw [(index t).1 a]
  match a with
  | ⟨0, _⟩ => rfl
  | ⟨1, _⟩ => rfl
theorem place1 (t : Fin cfg0.N) (x : Fin 1024) (y : Fin 1408) :
    (win0_1.rect t).emb (ix2 x y : S1024x1408.Idx) = (ix2 (atJ (bj t) x) (atK (bk t) y) : S1024x5632.Idx) := by
  refine funext fun a => Fin.ext ((win0_1.rect_emb_val t _ a).trans ?_)
  rw [(index t).2.1 a]
  match a with
  | ⟨0, _⟩ => rfl
  | ⟨1, _⟩ => rfl
theorem place2 (t : Fin cfg0.N) (x : Fin 1152) (y : Fin 1024) :
    (win0_2.rect t).emb (ix2 x y : S1152x1024.Idx) = (ix2 (atI (bi t) x) (atJ (bj t) y) : S2304x1024.Idx) := by
  refine funext fun a => Fin.ext ((win0_2.rect_emb_val t _ a).trans ?_)
  rw [(index t).2.2 a]
  match a with
  | ⟨0, _⟩ => rfl
  | ⟨1, _⟩ => rfl

/-- A step adds its part of the inner axis to what the block holds. -/
theorem step_apply (acc : Vec Ideal S1152x1024 .f32) (A : Vec Ideal S1152x1408 .bf16) (B : Vec Ideal S1024x1408 .bf16) (p : Fin 1152) (q : Fin 1024) :
    k0_pay2 (F := Ideal) acc A B (ix2 p q) = acc (ix2 p q) + ∑ k : Fin 1408, A (ix2 p k) * B (ix2 q k) := by
  pointwise [k0_pay2]

/-- The block is cleared before the first step. -/
theorem clear_apply (p : Fin 1152) (q : Fin 1024) : k0_pay1 (F := Ideal) (ix2 p q) = 0 := by
  pointwise [k0_pay1]

variable (m : (ℓ : Loc nD τ sig) → Buf (Elt Ideal) ℓ) (c : Dev nD)

/-- The two arrays the call is given, and their blocks at a point. -/
def arrA : S2304x5632.Idx → EReal := m ((c : Thread nD τ).loc main_arg0)
def arrB : S1024x5632.Idx → EReal := m ((c : Thread nD τ).loc main_arg1)
def blkA (t : Fin cfg0.N) : S1152x1408.Idx → EReal := iblk m c 0 t
def blkB (t : Fin cfg0.N) : S1024x1408.Idx → EReal := iblk m c 1 t

theorem blkA_apply (t : Fin cfg0.N) (x : Fin 1152) (y : Fin 1408) : blkA m c t (ix2 x y) = arrA m c (ix2 (atI (bi t) x) (atK (bk t) y)) :=
  congrArg (arrA m c) (place0 t x y)

theorem blkB_apply (t : Fin cfg0.N) (x : Fin 1024) (y : Fin 1408) : blkB m c t (ix2 x y) = arrB m c (ix2 (atJ (bj t) x) (atK (bk t) y)) :=
  congrArg (arrB m c) (place1 t x y)

/-- What the step of point `t` adds at a place of the block. -/
def part (t : Fin cfg0.N) (y : S1152x1024.Idx) : EReal := ∑ k : Fin 1408, blkA m c t (ix2 (y 0) k) * blkB m c t (ix2 (y 1) k)

theorem first (t : Fin cfg0.N) (h : t.val % 4 = 0) (y : S1152x1024.Idx) : (outsAt0 m c t.val t.isLt).2 y = 0 + part m c t y := by
  obtain ⟨p, q, rfl⟩ := idx2 y
  rw [outsAt0_A m c t h (by omega)]
  frame_out
  rw [step_apply, clear_apply]
  rfl

theorem next (t : Fin cfg0.N) (h : ¬t.val % 4 = 0) (y : S1152x1024.Idx) : (outsAt0 m c t.val t.isLt).2 y
    = (outsAt0 m c (t.val - 1) (Nat.lt_of_le_of_lt (Nat.sub_le _ _) t.isLt)).2 y + part m c t y := by
  obtain ⟨p, q, rfl⟩ := idx2 y
  by_cases h' : t.val % 4 = 3
  · rw [outsAt0_C m c t h h']
    frame_out
    rw [step_apply]
    exact congrArg₂ (fun x y : EReal => x + y) (congrFun ((Memref.isWhole_whole cc0_scratch0).read_unread _) _) rfl
  · rw [outsAt0_B m c t h h']
    frame_out
    rw [step_apply]
    exact congrArg₂ (fun x y : EReal => x + y) (congrFun ((Memref.isWhole_whole cc0_scratch0).read_unread _) _) rfl

/-- The last step hands the finished sum out. -/
theorem last (t : Fin cfg0.N) (h : t.val % 4 = 3) (p : Fin 1152) (q : Fin 1024) :
    (outsAt0 m c t.val t.isLt).1 (ix2 p q) = (outsAt0 m c t.val t.isLt).2 (ix2 p q) := by
  rw [outsAt0_C m c t (by omega) h]
  frame_out
  try rfl

/-- What the block holds when it is written back. -/
theorem after_eq (t : Fin cfg0.N) (h : t.val % 4 = 3) (p : Fin 1152) (q : Fin 1024) :
    (dats m 0 c).after 2 t (ix2 p q : S1152x1024.Idx)
      = ∑ s : Fin 4, part m c (st t s) (ix2 p q) := by
  rw [after0_2]
  refine (last m c t h p q).trans ?_
  refine (Pipeline.eq_sum_fin_of_reset_step_apply_of_flush (fun n h => (outsAt0 m c n h).2) 4 (fun _ => 0) (part m c)
    (first m c) (next m c) t h _).trans ?_
  exact zero_add _

/-- The product of the two arrays. -/
def whole (y : S2304x1024.Idx) : EReal := ∑ k : Fin 5632, arrA m c (ix2 (y 0) k) * arrB m c (ix2 (y 1) k)

theorem left (t : Fin cfg0.N) (hf : (cfg0.win 2).flush t = true) (y : S1152x1024.Idx) :
    (dats m 0 c).after 2 t y = whole m c ((win0_2.rect t).emb y) := by
  obtain ⟨p, q, rfl⟩ := idx2 y
  rw [place2]
  refine (after_eq m c t ((flush0_2 t).mp hf) p q).trans ?_
  refine Fin.sum_mul_add_congr (F := fun s k => blkA m c (st t s) (ix2 p k)
    * blkB m c (st t s) (ix2 q k)) (fun s k hl => ?_)
  obtain ⟨e1, e2, e3⟩ := run_steps t s
  show blkA m c _ _ * blkB m c _ _ = _
  rw [blkA_apply, blkB_apply, e1, e2, e3]
  rfl

/-- The array the call leaves. -/
theorem end_eq : (dats m 0 c).arrAt 2 cfg0.N = whole m c :=
  (dats m 0 c).arrAt_eq_of_cover 2 (whole m c) (fun t hf => funext fun y => left m c t hf y)
    fun i => (Value.covered_iff2 i).2 ⟨Nat.zero_le _, (i 0).isLt, Nat.zero_le _, (i 1).isLt⟩

/-- The reference's result is the same product. -/
theorem ref_eq (A : ReferenceUpFirstDxIdeal.S2304x5632.Idx → EReal) (B : ReferenceUpFirstDxIdeal.S1024x5632.Idx → EReal) (hA : A = arrA m c) (hB : B = arrB m c) :
    val_main_v4 (F := Ideal) A B = whole m c := by
  subst hA hB
  funext y
  obtain ⟨p, q, rfl⟩ := idx2 y
  pointwise [val_main_v1, val_main_v3, val_main_v4]
  rfl

end Cert.KernelUpFirstDxIdeal

namespace Cert

open Idealize.ShloMosaic Idealize.SL.Sem

/-- Over the reals the call's result is the reference's. -/
theorem algebraic_UpFirstDx : algebraic_KernelUpFirstDxIdeal_ReferenceUpFirstDxIdeal (hKernelUpFirstDxIdeal := KernelUpFirstDxIdeal.Gen.facts)
    (hReferenceUpFirstDxIdeal := ReferenceUpFirstDxIdeal.Gen.facts) :=
  fun m g m' g' _ hargs => ⟨fun c => KernelUpFirstDxIdeal.whole m c,
    (θ_run _ _ _).mono (fun _ h c => ⟨(h c).1.trans (KernelUpFirstDxIdeal.end_eq m c), (h c).2⟩) (KernelUpFirstDxIdeal.Value.run_blocks m g),
    (θ_run _ _ _).mono (fun _ h c => ⟨(h c).1.trans (KernelUpFirstDxIdeal.ref_eq m c _ _ (hargs c).1 (hargs c).2), (h c).2⟩)
      (ReferenceUpFirstDxIdeal.Value.run m' g')⟩

/-- The reference leaves its arguments and all semaphores as they were. -/
theorem frame_ReferenceUpFirstDxIdeal : quiescent_ReferenceUpFirstDxIdeal (hReferenceUpFirstDxIdeal := ReferenceUpFirstDxIdeal.Gen.facts) :=
  fun m g _ => (θ_run _ _ _).mono (fun _ h => ⟨fun c => (h c).2, sem_eq_zero_of_no_sems (by decide) _⟩) (ReferenceUpFirstDxIdeal.Value.run m g)

end Cert

end
-- ==== Proof.DownFirst.lean ====
/- The call computing the rows times the weights, 2304x2816 by 2816x1024: the 2 steps of the inner axis add up in a block of
   the result, and the blocks are the whole product. -/
module

public import proofs.«01_k».proof.Defs
public import proofs.«01_k».proof.Proof.Blocks
public import proofs.«01_k».proof.Proof.Gen.KernelDownFirst.Frame
public import proofs.«01_k».proof.Proof.Gen.KernelDownFirstIdeal.Value
public import proofs.«01_k».proof.Proof.Gen.ReferenceDownFirstIdeal.Read
public import Idealize.ShloMosaic.Adequacy
public import Idealize.ShloMosaic.Init

@[expose] public section

set_option maxRecDepth 16384

noncomputable section

namespace Cert.KernelDownFirstIdeal

open Idealize.ShloMosaic Idealize.ShloMosaic.TcCoe Idealize.SL.Sem Cert.Blocks Cert.KernelDownFirstIdeal.Gen
  Cert.ReferenceDownFirstIdeal.Read

/-- A point of the grid is a block of rows, a block of columns and a step of the inner axis. -/
def bi (t : Fin grid0.N) : Fin 2 := grid0.coords t 0
def bj (t : Fin grid0.N) : Fin 1 := grid0.coords t 1
def bk (t : Fin grid0.N) : Fin 2 := grid0.coords t 2
theorem step_lt : ∀ (t : Fin grid0.N) (s : Fin 2), 2 * (t.val / 2) + s.val < grid0.N := by decide +kernel
/-- The steps of a point's block. -/
def st (t : Fin grid0.N) (s : Fin 2) : Fin grid0.N := ⟨2 * (t.val / 2) + s.val, step_lt t s⟩
theorem run_steps : ∀ (t : Fin grid0.N) (s : Fin 2), bi (st t s) = bi t ∧ bj (st t s) = bj t ∧ bk (st t s) = s := by decide +kernel

/-- An index of the array, from its block's number and the index there. -/
def atI (n : Fin 2) (x : Fin 1152) : Fin 2304 := ⟨n.val * 1152 + x.val, by omega⟩
def atJ (n : Fin 1) (x : Fin 1024) : Fin 1024 := ⟨n.val * 1024 + x.val, by omega⟩
def atK (n : Fin 2) (x : Fin 1408) : Fin 2816 := ⟨n.val * 1408 + x.val, by omega⟩

theorem index : ∀ t : Fin grid0.N,
    (∀ a, win0_0.index t a = (![(bi t).val, (bk t).val] : Fin 2 → Nat) a) ∧
    (∀ a, win0_1.index t a = (![(bk t).val, (bj t).val] : Fin 2 → Nat) a) ∧
    (∀ a, win0_2.index t a = (![(bi t).val, (bj t).val] : Fin 2 → Nat) a) := by decide +kernel

theorem place0 (t : Fin cfg0.N) (x : Fin 1152) (y : Fin 1408) :
    (win0_0.rect t).emb (ix2 x y : S1152x1408.Idx) = (ix2 (atI (bi t) x) (atK (bk t) y) : S2304x2816.Idx) := by
  refine funext fun a => Fin.ext ((win0_0.rect_emb_val t _ a).trans ?_)
  rw [(index t).1 a]
  match a with
  | ⟨0, _⟩ => rfl
  | ⟨1, _⟩ => rfl
theorem place1 (t : Fin cfg0.N) (x : Fin 1408) (y : Fin 1024) :
    (win0_1.rect t).emb (ix2 x y : S1408x1024.Idx) = (ix2 (atK (bk t) x) (atJ (bj t) y) : S2816x1024.Idx) := by
  refine funext fun a => Fin.ext ((win0_1.rect_emb_val t _ a).trans ?_)
  rw [(index t).2.1 a]
  match a with
  | ⟨0, _⟩ => rfl
  | ⟨1, _⟩ => rfl
theorem place2 (t : Fin cfg0.N) (x : Fin 1152) (y : Fin 1024) :
    (win0_2.rect t).emb (ix2 x y : S1152x1024.Idx) = (ix2 (atI (bi t) x) (atJ (bj t) y) : S2304x1024.Idx) := by
  refine funext fun a => Fin.ext ((win0_2.rect_emb_val t _ a).trans ?_)
  rw [(index t).2.2 a]
  match a with
  | ⟨0, _⟩ => rfl
  | ⟨1, _⟩ => rfl

/-- A step adds its part of the inner axis to what the block holds. -/
theorem step_apply (acc : Vec Ideal S1152x1024 .f32) (A : Vec Ideal S1152x1408 .bf16) (B : Vec Ideal S1408x1024 .bf16) (p : Fin 1152) (q : Fin 1024) :
    k0_pay2 (F := Ideal) acc A B (ix2 p q) = acc (ix2 p q) + ∑ k : Fin 1408, A (ix2 p k) * B (ix2 k q) := by
  pointwise [k0_pay2]

/-- The block is cleared before the first step. -/
theorem clear_apply (p : Fin 1152) (q : Fin 1024) : k0_pay1 (F := Ideal) (ix2 p q) = 0 := by
  pointwise [k0_pay1]

variable (m : (ℓ : Loc nD τ sig) → Buf (Elt Ideal) ℓ) (c : Dev nD)

/-- The two arrays the call is given, and their blocks at a point. -/
def arrA : S2304x2816.Idx → EReal := m ((c : Thread nD τ).loc main_arg0)
def arrB : S2816x1024.Idx → EReal := m ((c : Thread nD τ).loc main_arg1)
def blkA (t : Fin cfg0.N) : S1152x1408.Idx → EReal := iblk m c 0 t
def blkB (t : Fin cfg0.N) : S1408x1024.Idx → EReal := iblk m c 1 t

theorem blkA_apply (t : Fin cfg0.N) (x : Fin 1152) (y : Fin 1408) : blkA m c t (ix2 x y) = arrA m c (ix2 (atI (bi t) x) (atK (bk t) y)) :=
  congrArg (arrA m c) (place0 t x y)

theorem blkB_apply (t : Fin cfg0.N) (x : Fin 1408) (y : Fin 1024) : blkB m c t (ix2 x y) = arrB m c (ix2 (atK (bk t) x) (atJ (bj t) y)) :=
  congrArg (arrB m c) (place1 t x y)

/-- What the step of point `t` adds at a place of the block. -/
def part (t : Fin cfg0.N) (y : S1152x1024.Idx) : EReal := ∑ k : Fin 1408, blkA m c t (ix2 (y 0) k) * blkB m c t (ix2 k (y 1))

theorem first (t : Fin cfg0.N) (h : t.val % 2 = 0) (y : S1152x1024.Idx) : (outsAt0 m c t.val t.isLt).2 y = 0 + part m c t y := by
  obtain ⟨p, q, rfl⟩ := idx2 y
  rw [outsAt0_A m c t h (by omega)]
  frame_out
  rw [step_apply, clear_apply]
  rfl

theorem next (t : Fin cfg0.N) (h : ¬t.val % 2 = 0) (y : S1152x1024.Idx) : (outsAt0 m c t.val t.isLt).2 y
    = (outsAt0 m c (t.val - 1) (Nat.lt_of_le_of_lt (Nat.sub_le _ _) t.isLt)).2 y + part m c t y := by
  obtain ⟨p, q, rfl⟩ := idx2 y
  rw [outsAt0_B m c t h (by omega)]
  frame_out
  rw [step_apply]
  exact congrArg₂ (fun x y : EReal => x + y) (congrFun ((Memref.isWhole_whole cc0_scratch0).read_unread _) _) rfl

/-- The last step hands the finished sum out. -/
theorem last (t : Fin cfg0.N) (h : t.val % 2 = 1) (p : Fin 1152) (q : Fin 1024) :
    (outsAt0 m c t.val t.isLt).1 (ix2 p q) = (outsAt0 m c t.val t.isLt).2 (ix2 p q) := by
  rw [outsAt0_B m c t (by omega) h]
  frame_out
  try rfl

/-- What the block holds when it is written back. -/
theorem after_eq (t : Fin cfg0.N) (h : t.val % 2 = 1) (p : Fin 1152) (q : Fin 1024) :
    (dats m 0 c).after 2 t (ix2 p q : S1152x1024.Idx)
      = ∑ s : Fin 2, part m c (st t s) (ix2 p q) := by
  rw [after0_2]
  refine (last m c t h p q).trans ?_
  refine (Pipeline.eq_sum_fin_of_reset_step_apply_of_flush (fun n h => (outsAt0 m c n h).2) 2 (fun _ => 0) (part m c)
    (first m c) (next m c) t h _).trans ?_
  exact zero_add _

/-- The product of the two arrays. -/
def whole (y : S2304x1024.Idx) : EReal := ∑ k : Fin 2816, arrA m c (ix2 (y 0) k) * arrB m c (ix2 k (y 1))

theorem left (t : Fin cfg0.N) (hf : (cfg0.win 2).flush t = true) (y : S1152x1024.Idx) :
    (dats m 0 c).after 2 t y = whole m c ((win0_2.rect t).emb y) := by
  obtain ⟨p, q, rfl⟩ := idx2 y
  rw [place2]
  refine (after_eq m c t ((flush0_2 t).mp hf) p q).trans ?_
  refine Fin.sum_mul_add_congr (F := fun s k => blkA m c (st t s) (ix2 p k)
    * blkB m c (st t s) (ix2 k q)) (fun s k hl => ?_)
  obtain ⟨e1, e2, e3⟩ := run_steps t s
  show blkA m c _ _ * blkB m c _ _ = _
  rw [blkA_apply, blkB_apply, e1, e2, e3]
  rfl

/-- The array the call leaves. -/
theorem end_eq : (dats m 0 c).arrAt 2 cfg0.N = whole m c :=
  (dats m 0 c).arrAt_eq_of_cover 2 (whole m c) (fun t hf => funext fun y => left m c t hf y)
    fun i => (Value.covered_iff2 i).2 ⟨Nat.zero_le _, (i 0).isLt, Nat.zero_le _, (i 1).isLt⟩

/-- The reference's result is the same product. -/
theorem ref_eq (A : ReferenceDownFirstIdeal.S2304x2816.Idx → EReal) (B : ReferenceDownFirstIdeal.S2816x1024.Idx → EReal) (hA : A = arrA m c) (hB : B = arrB m c) :
    val_main_v2 (F := Ideal) A B = whole m c := by
  subst hA hB
  funext y
  obtain ⟨p, q, rfl⟩ := idx2 y
  pointwise [val_main_v0, val_main_v1, val_main_v2]
  rfl

end Cert.KernelDownFirstIdeal

namespace Cert

open Idealize.ShloMosaic Idealize.SL.Sem

/-- Over the reals the call's result is the reference's. -/
theorem algebraic_DownFirst : algebraic_KernelDownFirstIdeal_ReferenceDownFirstIdeal (hKernelDownFirstIdeal := KernelDownFirstIdeal.Gen.facts)
    (hReferenceDownFirstIdeal := ReferenceDownFirstIdeal.Gen.facts) :=
  fun m g m' g' _ hargs => ⟨fun c => KernelDownFirstIdeal.whole m c,
    (θ_run _ _ _).mono (fun _ h c => ⟨(h c).1.trans (KernelDownFirstIdeal.end_eq m c), (h c).2⟩) (KernelDownFirstIdeal.Value.run_blocks m g),
    (θ_run _ _ _).mono (fun _ h c => ⟨(h c).1.trans (KernelDownFirstIdeal.ref_eq m c _ _ (hargs c).1 (hargs c).2), (h c).2⟩)
      (ReferenceDownFirstIdeal.Value.run m' g')⟩

/-- The reference leaves its arguments and all semaphores as they were. -/
theorem frame_ReferenceDownFirstIdeal : quiescent_ReferenceDownFirstIdeal (hReferenceDownFirstIdeal := ReferenceDownFirstIdeal.Gen.facts) :=
  fun m g _ => (θ_run _ _ _).mono (fun _ h => ⟨fun c => (h c).2, sem_eq_zero_of_no_sems (by decide) _⟩) (ReferenceDownFirstIdeal.Value.run m g)

end Cert

end
-- ==== Proof.DownFirstDw.lean ====
/- The call computing the gradient of the product by its weights, 2304x2816 by 2304x1024: the 2 steps of the inner axis add up in a block of
   the result, and the blocks are the whole product. -/
module

public import proofs.«01_k».proof.Defs
public import proofs.«01_k».proof.Proof.Blocks
public import proofs.«01_k».proof.Proof.Gen.KernelDownFirstDw.Frame
public import proofs.«01_k».proof.Proof.Gen.KernelDownFirstDwIdeal.Value
public import proofs.«01_k».proof.Proof.Gen.ReferenceDownFirstDwIdeal.Read
public import Idealize.ShloMosaic.Adequacy
public import Idealize.ShloMosaic.Init

@[expose] public section

set_option maxRecDepth 16384

noncomputable section

namespace Cert.KernelDownFirstDwIdeal

open Idealize.ShloMosaic Idealize.ShloMosaic.TcCoe Idealize.SL.Sem Cert.Blocks Cert.KernelDownFirstDwIdeal.Gen
  Cert.ReferenceDownFirstDwIdeal.Read

/-- A point of the grid is a block of rows, a block of columns and a step of the inner axis. -/
def bi (t : Fin grid0.N) : Fin 2 := grid0.coords t 0
def bj (t : Fin grid0.N) : Fin 1 := grid0.coords t 1
def bk (t : Fin grid0.N) : Fin 2 := grid0.coords t 2
theorem step_lt : ∀ (t : Fin grid0.N) (s : Fin 2), 2 * (t.val / 2) + s.val < grid0.N := by decide +kernel
/-- The steps of a point's block. -/
def st (t : Fin grid0.N) (s : Fin 2) : Fin grid0.N := ⟨2 * (t.val / 2) + s.val, step_lt t s⟩
theorem run_steps : ∀ (t : Fin grid0.N) (s : Fin 2), bi (st t s) = bi t ∧ bj (st t s) = bj t ∧ bk (st t s) = s := by decide +kernel

/-- An index of the array, from its block's number and the index there. -/
def atI (n : Fin 2) (x : Fin 1408) : Fin 2816 := ⟨n.val * 1408 + x.val, by omega⟩
def atJ (n : Fin 1) (x : Fin 1024) : Fin 1024 := ⟨n.val * 1024 + x.val, by omega⟩
def atK (n : Fin 2) (x : Fin 1152) : Fin 2304 := ⟨n.val * 1152 + x.val, by omega⟩

theorem index : ∀ t : Fin grid0.N,
    (∀ a, win0_0.index t a = (![(bk t).val, (bi t).val] : Fin 2 → Nat) a) ∧
    (∀ a, win0_1.index t a = (![(bk t).val, (bj t).val] : Fin 2 → Nat) a) ∧
    (∀ a, win0_2.index t a = (![(bi t).val, (bj t).val] : Fin 2 → Nat) a) := by decide +kernel

theorem place0 (t : Fin cfg0.N) (x : Fin 1152) (y : Fin 1408) :
    (win0_0.rect t).emb (ix2 x y : S1152x1408.Idx) = (ix2 (atK (bk t) x) (atI (bi t) y) : S2304x2816.Idx) := by
  refine funext fun a => Fin.ext ((win0_0.rect_emb_val t _ a).trans ?_)
  rw [(index t).1 a]
  match a with
  | ⟨0, _⟩ => rfl
  | ⟨1, _⟩ => rfl
theorem place1 (t : Fin cfg0.N) (x : Fin 1152) (y : Fin 1024) :
    (win0_1.rect t).emb (ix2 x y : S1152x1024.Idx) = (ix2 (atK (bk t) x) (atJ (bj t) y) : S2304x1024.Idx) := by
  refine funext fun a => Fin.ext ((win0_1.rect_emb_val t _ a).trans ?_)
  rw [(index t).2.1 a]
  match a with
  | ⟨0, _⟩ => rfl
  | ⟨1, _⟩ => rfl
theorem place2 (t : Fin cfg0.N) (x : Fin 1408) (y : Fin 1024) :
    (win0_2.rect t).emb (ix2 x y : S1408x1024.Idx) = (ix2 (atI (bi t) x) (atJ (bj t) y) : S2816x1024.Idx) := by
  refine funext fun a => Fin.ext ((win0_2.rect_emb_val t _ a).trans ?_)
  rw [(index t).2.2 a]
  match a with
  | ⟨0, _⟩ => rfl
  | ⟨1, _⟩ => rfl

/-- A step adds its part of the inner axis to what the block holds. -/
theorem step_apply (acc : Vec Ideal S1408x1024 .f32) (A : Vec Ideal S1152x1408 .bf16) (B : Vec Ideal S1152x1024 .bf16) (p : Fin 1408) (q : Fin 1024) :
    k0_pay2 (F := Ideal) acc A B (ix2 p q) = acc (ix2 p q) + ∑ k : Fin 1152, A (ix2 k p) * B (ix2 k q) := by
  pointwise [k0_pay2]

/-- The block is cleared before the first step. -/
theorem clear_apply (p : Fin 1408) (q : Fin 1024) : k0_pay1 (F := Ideal) (ix2 p q) = 0 := by
  pointwise [k0_pay1]

/-- The cast of the finished block. -/
theorem cast_apply (X : Vec Ideal S1408x1024 .f32) (p : Fin 1408) (q : Fin 1024) : k0_pay3 (F := Ideal) X (ix2 p q) = X (ix2 p q) := by
  pointwise [k0_pay3]

variable (m : (ℓ : Loc nD τ sig) → Buf (Elt Ideal) ℓ) (c : Dev nD)

/-- The two arrays the call is given, and their blocks at a point. -/
def arrA : S2304x2816.Idx → EReal := m ((c : Thread nD τ).loc main_arg0)
def arrB : S2304x1024.Idx → EReal := m ((c : Thread nD τ).loc main_arg1)
def blkA (t : Fin cfg0.N) : S1152x1408.Idx → EReal := iblk m c 0 t
def blkB (t : Fin cfg0.N) : S1152x1024.Idx → EReal := iblk m c 1 t

theorem blkA_apply (t : Fin cfg0.N) (x : Fin 1152) (y : Fin 1408) : blkA m c t (ix2 x y) = arrA m c (ix2 (atK (bk t) x) (atI (bi t) y)) :=
  congrArg (arrA m c) (place0 t x y)

theorem blkB_apply (t : Fin cfg0.N) (x : Fin 1152) (y : Fin 1024) : blkB m c t (ix2 x y) = arrB m c (ix2 (atK (bk t) x) (atJ (bj t) y)) :=
  congrArg (arrB m c) (place1 t x y)

/-- What the step of point `t` adds at a place of the block. -/
def part (t : Fin cfg0.N) (y : S1408x1024.Idx) : EReal := ∑ k : Fin 1152, blkA m c t (ix2 k (y 0)) * blkB m c t (ix2 k (y 1))

theorem first (t : Fin cfg0.N) (h : t.val % 2 = 0) (y : S1408x1024.Idx) : (outsAt0 m c t.val t.isLt).2 y = 0 + part m c t y := by
  obtain ⟨p, q, rfl⟩ := idx2 y
  rw [outsAt0_A m c t h (by omega)]
  frame_out
  rw [step_apply, clear_apply]
  rfl

theorem next (t : Fin cfg0.N) (h : ¬t.val % 2 = 0) (y : S1408x1024.Idx) : (outsAt0 m c t.val t.isLt).2 y
    = (outsAt0 m c (t.val - 1) (Nat.lt_of_le_of_lt (Nat.sub_le _ _) t.isLt)).2 y + part m c t y := by
  obtain ⟨p, q, rfl⟩ := idx2 y
  rw [outsAt0_B m c t h (by omega)]
  frame_out
  rw [step_apply]
  exact congrArg₂ (fun x y : EReal => x + y) (congrFun ((Memref.isWhole_whole cc0_scratch0).read_unread _) _) rfl

/-- The last step hands the finished sum out. -/
theorem last (t : Fin cfg0.N) (h : t.val % 2 = 1) (p : Fin 1408) (q : Fin 1024) :
    (outsAt0 m c t.val t.isLt).1 (ix2 p q) = (outsAt0 m c t.val t.isLt).2 (ix2 p q) := by
  rw [outsAt0_B m c t (by omega) h]
  frame_out
  rw [cast_apply]

/-- What the block holds when it is written back. -/
theorem after_eq (t : Fin cfg0.N) (h : t.val % 2 = 1) (p : Fin 1408) (q : Fin 1024) :
    (dats m 0 c).after 2 t (ix2 p q : S1408x1024.Idx)
      = ∑ s : Fin 2, part m c (st t s) (ix2 p q) := by
  rw [after0_2]
  refine (last m c t h p q).trans ?_
  refine (Pipeline.eq_sum_fin_of_reset_step_apply_of_flush (fun n h => (outsAt0 m c n h).2) 2 (fun _ => 0) (part m c)
    (first m c) (next m c) t h _).trans ?_
  exact zero_add _

/-- The product of the two arrays. -/
def whole (y : S2816x1024.Idx) : EReal := ∑ k : Fin 2304, arrA m c (ix2 k (y 0)) * arrB m c (ix2 k (y 1))

theorem left (t : Fin cfg0.N) (hf : (cfg0.win 2).flush t = true) (y : S1408x1024.Idx) :
    (dats m 0 c).after 2 t y = whole m c ((win0_2.rect t).emb y) := by
  obtain ⟨p, q, rfl⟩ := idx2 y
  rw [place2]
  refine (after_eq m c t ((flush0_2 t).mp hf) p q).trans ?_
  refine Fin.sum_mul_add_congr (F := fun s k => blkA m c (st t s) (ix2 k p)
    * blkB m c (st t s) (ix2 k q)) (fun s k hl => ?_)
  obtain ⟨e1, e2, e3⟩ := run_steps t s
  show blkA m c _ _ * blkB m c _ _ = _
  rw [blkA_apply, blkB_apply, e1, e2, e3]
  rfl

/-- The array the call leaves. -/
theorem end_eq : (dats m 0 c).arrAt 2 cfg0.N = whole m c :=
  (dats m 0 c).arrAt_eq_of_cover 2 (whole m c) (fun t hf => funext fun y => left m c t hf y)
    fun i => (Value.covered_iff2 i).2 ⟨Nat.zero_le _, (i 0).isLt, Nat.zero_le _, (i 1).isLt⟩

/-- The reference's result is the same product. -/
theorem ref_eq (A : ReferenceDownFirstDwIdeal.S2304x2816.Idx → EReal) (B : ReferenceDownFirstDwIdeal.S2304x1024.Idx → EReal) (hA : A = arrA m c) (hB : B = arrB m c) :
    val_main_v6 (F := Ideal) A B = whole m c := by
  subst hA hB
  funext y
  obtain ⟨p, q, rfl⟩ := idx2 y
  pointwise [val_main_v1, val_main_v3, val_main_v4, val_main_v5, val_main_v6]
  exact Finset.sum_congr rfl fun k _ => mul_comm _ _

end Cert.KernelDownFirstDwIdeal

namespace Cert

open Idealize.ShloMosaic Idealize.SL.Sem

/-- Over the reals the call's result is the reference's. -/
theorem algebraic_DownFirstDw : algebraic_KernelDownFirstDwIdeal_ReferenceDownFirstDwIdeal (hKernelDownFirstDwIdeal := KernelDownFirstDwIdeal.Gen.facts)
    (hReferenceDownFirstDwIdeal := ReferenceDownFirstDwIdeal.Gen.facts) :=
  fun m g m' g' _ hargs => ⟨fun c => KernelDownFirstDwIdeal.whole m c,
    (θ_run _ _ _).mono (fun _ h c => ⟨(h c).1.trans (KernelDownFirstDwIdeal.end_eq m c), (h c).2⟩) (KernelDownFirstDwIdeal.Value.run_blocks m g),
    (θ_run _ _ _).mono (fun _ h c => ⟨(h c).1.trans (KernelDownFirstDwIdeal.ref_eq m c _ _ (hargs c).1 (hargs c).2), (h c).2⟩)
      (ReferenceDownFirstDwIdeal.Value.run m' g')⟩

/-- The reference leaves its arguments and all semaphores as they were. -/
theorem frame_ReferenceDownFirstDwIdeal : quiescent_ReferenceDownFirstDwIdeal (hReferenceDownFirstDwIdeal := ReferenceDownFirstDwIdeal.Gen.facts) :=
  fun m g _ => (θ_run _ _ _).mono (fun _ h => ⟨fun c => (h c).2, sem_eq_zero_of_no_sems (by decide) _⟩) (ReferenceDownFirstDwIdeal.Value.run m g)

end Cert

end
-- ==== Proof.DownFirstDx.lean ====
/- The call computing the gradient of the product by its rows, 2304x1024 by 2816x1024: its one step of the inner axis fills a block of
   the result, and the blocks are the whole product. -/
module

public import proofs.«01_k».proof.Defs
public import proofs.«01_k».proof.Proof.Blocks
public import proofs.«01_k».proof.Proof.Gen.KernelDownFirstDx.Frame
public import proofs.«01_k».proof.Proof.Gen.KernelDownFirstDxIdeal.Value
public import proofs.«01_k».proof.Proof.Gen.ReferenceDownFirstDxIdeal.Read
public import Idealize.ShloMosaic.Adequacy
public import Idealize.ShloMosaic.Init

@[expose] public section

set_option maxRecDepth 16384

noncomputable section

namespace Cert.KernelDownFirstDxIdeal

open Idealize.ShloMosaic Idealize.ShloMosaic.TcCoe Idealize.SL.Sem Cert.Blocks Cert.KernelDownFirstDxIdeal.Gen
  Cert.ReferenceDownFirstDxIdeal.Read

/-- A point of the grid is a block of rows, a block of columns and a step of the inner axis. -/
def bi (t : Fin grid0.N) : Fin 2 := grid0.coords t 0
def bj (t : Fin grid0.N) : Fin 2 := grid0.coords t 1
def bk (t : Fin grid0.N) : Fin 1 := grid0.coords t 2
theorem step_lt : ∀ (t : Fin grid0.N) (s : Fin 1), 1 * (t.val / 1) + s.val < grid0.N := by decide +kernel
/-- The steps of a point's block. -/
def st (t : Fin grid0.N) (s : Fin 1) : Fin grid0.N := ⟨1 * (t.val / 1) + s.val, step_lt t s⟩
theorem run_steps : ∀ (t : Fin grid0.N) (s : Fin 1), bi (st t s) = bi t ∧ bj (st t s) = bj t ∧ bk (st t s) = s := by decide +kernel

/-- An index of the array, from its block's number and the index there. -/
def atI (n : Fin 2) (x : Fin 1152) : Fin 2304 := ⟨n.val * 1152 + x.val, by omega⟩
def atJ (n : Fin 2) (x : Fin 1408) : Fin 2816 := ⟨n.val * 1408 + x.val, by omega⟩
def atK (n : Fin 1) (x : Fin 1024) : Fin 1024 := ⟨n.val * 1024 + x.val, by omega⟩

theorem index : ∀ t : Fin grid0.N,
    (∀ a, win0_0.index t a = (![(bi t).val, (bk t).val] : Fin 2 → Nat) a) ∧
    (∀ a, win0_1.index t a = (![(bj t).val, (bk t).val] : Fin 2 → Nat) a) ∧
    (∀ a, win0_2.index t a = (![(bi t).val, (bj t).val] : Fin 2 → Nat) a) := by decide +kernel

theorem place0 (t : Fin cfg0.N) (x : Fin 1152) (y : Fin 1024) :
    (win0_0.rect t).emb (ix2 x y : S1152x1024.Idx) = (ix2 (atI (bi t) x) (atK (bk t) y) : S2304x1024.Idx) := by
  refine funext fun a => Fin.ext ((win0_0.rect_emb_val t _ a).trans ?_)
  rw [(index t).1 a]
  match a with
  | ⟨0, _⟩ => rfl
  | ⟨1, _⟩ => rfl
theorem place1 (t : Fin cfg0.N) (x : Fin 1408) (y : Fin 1024) :
    (win0_1.rect t).emb (ix2 x y : S1408x1024.Idx) = (ix2 (atJ (bj t) x) (atK (bk t) y) : S2816x1024.Idx) := by
  refine funext fun a => Fin.ext ((win0_1.rect_emb_val t _ a).trans ?_)
  rw [(index t).2.1 a]
  match a with
  | ⟨0, _⟩ => rfl
  | ⟨1, _⟩ => rfl
theorem place2 (t : Fin cfg0.N) (x : Fin 1152) (y : Fin 1408) :
    (win0_2.rect t).emb (ix2 x y : S1152x1408.Idx) = (ix2 (atI (bi t) x) (atJ (bj t) y) : S2304x2816.Idx) := by
  refine funext fun a => Fin.ext ((win0_2.rect_emb_val t _ a).trans ?_)
  rw [(index t).2.2 a]
  match a with
  | ⟨0, _⟩ => rfl
  | ⟨1, _⟩ => rfl

/-- A step adds its part of the inner axis to what the block holds. -/
theorem step_apply (acc : Vec Ideal S1152x1408 .f32) (A : Vec Ideal S1152x1024 .bf16) (B : Vec Ideal S1408x1024 .bf16) (p : Fin 1152) (q : Fin 1408) :
    k0_pay2 (F := Ideal) acc A B (ix2 p q) = acc (ix2 p q) + ∑ k : Fin 1024, A (ix2 p k) * B (ix2 q k) := by
  pointwise [k0_pay2]

/-- The block is cleared before the first step. -/
theorem clear_apply (p : Fin 1152) (q : Fin 1408) : k0_pay1 (F := Ideal) (ix2 p q) = 0 := by
  pointwise [k0_pay1]

variable (m : (ℓ : Loc nD τ sig) → Buf (Elt Ideal) ℓ) (c : Dev nD)

/-- The two arrays the call is given, and their blocks at a point. -/
def arrA : S2304x1024.Idx → EReal := m ((c : Thread nD τ).loc main_arg0)
def arrB : S2816x1024.Idx → EReal := m ((c : Thread nD τ).loc main_arg1)
def blkA (t : Fin cfg0.N) : S1152x1024.Idx → EReal := iblk m c 0 t
def blkB (t : Fin cfg0.N) : S1408x1024.Idx → EReal := iblk m c 1 t

theorem blkA_apply (t : Fin cfg0.N) (x : Fin 1152) (y : Fin 1024) : blkA m c t (ix2 x y) = arrA m c (ix2 (atI (bi t) x) (atK (bk t) y)) :=
  congrArg (arrA m c) (place0 t x y)

theorem blkB_apply (t : Fin cfg0.N) (x : Fin 1408) (y : Fin 1024) : blkB m c t (ix2 x y) = arrB m c (ix2 (atJ (bj t) x) (atK (bk t) y)) :=
  congrArg (arrB m c) (place1 t x y)

/-- What the step of point `t` adds at a place of the block. -/
def part (t : Fin cfg0.N) (y : S1152x1408.Idx) : EReal := ∑ k : Fin 1024, blkA m c t (ix2 (y 0) k) * blkB m c t (ix2 (y 1) k)

/-- What the block holds when it is written back. -/
theorem after_eq (t : Fin cfg0.N) (p : Fin 1152) (q : Fin 1408) :
    (dats m 0 c).after 2 t (ix2 p q : S1152x1408.Idx) = ∑ s : Fin 1, part m c (st t s) (ix2 p q) := by
  have e : ∀ s : Fin 1, st t s = t := fun s => Fin.ext (by show 1 * (t.val / 1) + s.val = t.val; omega)
  rw [after0_2, Fin.sum_univ_one, e]
  unfold outsAt0
  frame_out
  rw [step_apply, clear_apply, zero_add]
  rfl

/-- The product of the two arrays. -/
def whole (y : S2304x2816.Idx) : EReal := ∑ k : Fin 1024, arrA m c (ix2 (y 0) k) * arrB m c (ix2 (y 1) k)

theorem left (t : Fin cfg0.N) (hf : (cfg0.win 2).flush t = true) (y : S1152x1408.Idx) :
    (dats m 0 c).after 2 t y = whole m c ((win0_2.rect t).emb y) := by
  obtain ⟨p, q, rfl⟩ := idx2 y
  rw [place2]
  refine (after_eq m c t p q).trans ?_
  refine Fin.sum_mul_add_congr (F := fun s k => blkA m c (st t s) (ix2 p k)
    * blkB m c (st t s) (ix2 q k)) (fun s k hl => ?_)
  obtain ⟨e1, e2, e3⟩ := run_steps t s
  show blkA m c _ _ * blkB m c _ _ = _
  rw [blkA_apply, blkB_apply, e1, e2, e3]
  rfl

/-- Every place of the result is in some point's block. -/
theorem onto : ∀ (i : Fin 2) (j : Fin 2), ∃ t, win0_2.flush t = true ∧ bi t = i ∧ bj t = j := by decide +kernel

theorem cover (y : S2304x2816.Idx) : ∃ t, (cfg0.win 2).flush t = true ∧ y ∈ ((cfg0.win 2).blk t).view.set := by
  obtain ⟨r, s, rfl⟩ := idx2 y
  obtain ⟨i, p, rfl⟩ : ∃ i p, r = atI i p :=
    ⟨⟨r.val / 1152, by omega⟩, ⟨r.val % 1152, by omega⟩, Fin.ext (show r.val = r.val / 1152 * 1152 + r.val % 1152 by omega)⟩
  obtain ⟨j, q, rfl⟩ : ∃ j q, s = atJ j q :=
    ⟨⟨s.val / 1408, by omega⟩, ⟨s.val % 1408, by omega⟩, Fin.ext (show s.val = s.val / 1408 * 1408 + s.val % 1408 by omega)⟩
  obtain ⟨t, h, rfl, rfl⟩ := onto i j
  exact ⟨t, h, (place2 t p q) ▸ View.emb_mem_set _ _⟩

/-- The array the call leaves. -/
theorem end_eq : (dats m 0 c).arrAt 2 cfg0.N = whole m c :=
  (dats m 0 c).arrAt_eq_of_cover 2 (whole m c) (fun t hf => funext fun y => left m c t hf y) cover

/-- The reference's result is the same product. -/
theorem ref_eq (A : ReferenceDownFirstDxIdeal.S2304x1024.Idx → EReal) (B : ReferenceDownFirstDxIdeal.S2816x1024.Idx → EReal) (hA : A = arrA m c) (hB : B = arrB m c) :
    val_main_v4 (F := Ideal) A B = whole m c := by
  subst hA hB
  funext y
  obtain ⟨p, q, rfl⟩ := idx2 y
  pointwise [val_main_v1, val_main_v3, val_main_v4]
  rfl

end Cert.KernelDownFirstDxIdeal

namespace Cert

open Idealize.ShloMosaic Idealize.SL.Sem

/-- Over the reals the call's result is the reference's. -/
theorem algebraic_DownFirstDx : algebraic_KernelDownFirstDxIdeal_ReferenceDownFirstDxIdeal (hKernelDownFirstDxIdeal := KernelDownFirstDxIdeal.Gen.facts)
    (hReferenceDownFirstDxIdeal := ReferenceDownFirstDxIdeal.Gen.facts) :=
  fun m g m' g' _ hargs => ⟨fun c => KernelDownFirstDxIdeal.whole m c,
    (θ_run _ _ _).mono (fun _ h c => ⟨(h c).1.trans (KernelDownFirstDxIdeal.end_eq m c), (h c).2⟩) (KernelDownFirstDxIdeal.Value.run_blocks m g),
    (θ_run _ _ _).mono (fun _ h c => ⟨(h c).1.trans (KernelDownFirstDxIdeal.ref_eq m c _ _ (hargs c).1 (hargs c).2), (h c).2⟩)
      (ReferenceDownFirstDxIdeal.Value.run m' g')⟩

/-- The reference leaves its arguments and all semaphores as they were. -/
theorem frame_ReferenceDownFirstDxIdeal : quiescent_ReferenceDownFirstDxIdeal (hReferenceDownFirstDxIdeal := ReferenceDownFirstDxIdeal.Gen.facts) :=
  fun m g _ => (θ_run _ _ _).mono (fun _ h => ⟨fun c => (h c).2, sem_eq_zero_of_no_sems (by decide) _⟩) (ReferenceDownFirstDxIdeal.Value.run m g)

end Cert

end
-- ==== Proof.CmIn.lean ====
/- The call computing the rows times the weights, 2048x1024 by 1024x2048: its one step of the inner axis fills a block of
   the result, and the blocks are the whole product. -/
module

public import proofs.«01_k».proof.Defs
public import proofs.«01_k».proof.Proof.Blocks
public import proofs.«01_k».proof.Proof.Gen.KernelCmIn.Frame
public import proofs.«01_k».proof.Proof.Gen.KernelCmInIdeal.Value
public import proofs.«01_k».proof.Proof.Gen.ReferenceCmInIdeal.Read
public import Idealize.ShloMosaic.Adequacy
public import Idealize.ShloMosaic.Init

@[expose] public section

set_option maxRecDepth 16384

noncomputable section

namespace Cert.KernelCmInIdeal

open Idealize.ShloMosaic Idealize.ShloMosaic.TcCoe Idealize.SL.Sem Cert.Blocks Cert.KernelCmInIdeal.Gen
  Cert.ReferenceCmInIdeal.Read

/-- A point of the grid is a block of rows, a block of columns and a step of the inner axis. -/
def bi (t : Fin grid0.N) : Fin 2 := grid0.coords t 0
def bj (t : Fin grid0.N) : Fin 2 := grid0.coords t 1
def bk (t : Fin grid0.N) : Fin 1 := grid0.coords t 2
theorem step_lt : ∀ (t : Fin grid0.N) (s : Fin 1), 1 * (t.val / 1) + s.val < grid0.N := by decide +kernel
/-- The steps of a point's block. -/
def st (t : Fin grid0.N) (s : Fin 1) : Fin grid0.N := ⟨1 * (t.val / 1) + s.val, step_lt t s⟩
theorem run_steps : ∀ (t : Fin grid0.N) (s : Fin 1), bi (st t s) = bi t ∧ bj (st t s) = bj t ∧ bk (st t s) = s := by decide +kernel

/-- An index of the array, from its block's number and the index there. -/
def atI (n : Fin 2) (x : Fin 1024) : Fin 2048 := ⟨n.val * 1024 + x.val, by omega⟩
def atJ (n : Fin 2) (x : Fin 1024) : Fin 2048 := ⟨n.val * 1024 + x.val, by omega⟩
def atK (n : Fin 1) (x : Fin 1024) : Fin 1024 := ⟨n.val * 1024 + x.val, by omega⟩

theorem index : ∀ t : Fin grid0.N,
    (∀ a, win0_0.index t a = (![(bi t).val, (bk t).val] : Fin 2 → Nat) a) ∧
    (∀ a, win0_1.index t a = (![(bk t).val, (bj t).val] : Fin 2 → Nat) a) ∧
    (∀ a, win0_2.index t a = (![(bi t).val, (bj t).val] : Fin 2 → Nat) a) := by decide +kernel

theorem place0 (t : Fin cfg0.N) (x : Fin 1024) (y : Fin 1024) :
    (win0_0.rect t).emb (ix2 x y : S1024x1024.Idx) = (ix2 (atI (bi t) x) (atK (bk t) y) : S2048x1024.Idx) := by
  refine funext fun a => Fin.ext ((win0_0.rect_emb_val t _ a).trans ?_)
  rw [(index t).1 a]
  match a with
  | ⟨0, _⟩ => rfl
  | ⟨1, _⟩ => rfl
theorem place1 (t : Fin cfg0.N) (x : Fin 1024) (y : Fin 1024) :
    (win0_1.rect t).emb (ix2 x y : S1024x1024.Idx) = (ix2 (atK (bk t) x) (atJ (bj t) y) : S1024x2048.Idx) := by
  refine funext fun a => Fin.ext ((win0_1.rect_emb_val t _ a).trans ?_)
  rw [(index t).2.1 a]
  match a with
  | ⟨0, _⟩ => rfl
  | ⟨1, _⟩ => rfl
theorem place2 (t : Fin cfg0.N) (x : Fin 1024) (y : Fin 1024) :
    (win0_2.rect t).emb (ix2 x y : S1024x1024.Idx) = (ix2 (atI (bi t) x) (atJ (bj t) y) : S2048x2048.Idx) := by
  refine funext fun a => Fin.ext ((win0_2.rect_emb_val t _ a).trans ?_)
  rw [(index t).2.2 a]
  match a with
  | ⟨0, _⟩ => rfl
  | ⟨1, _⟩ => rfl

/-- A step adds its part of the inner axis to what the block holds. -/
theorem step_apply (acc : Vec Ideal S1024x1024 .f32) (A : Vec Ideal S1024x1024 .bf16) (B : Vec Ideal S1024x1024 .bf16) (p : Fin 1024) (q : Fin 1024) :
    k0_pay2 (F := Ideal) acc A B (ix2 p q) = acc (ix2 p q) + ∑ k : Fin 1024, A (ix2 p k) * B (ix2 k q) := by
  pointwise [k0_pay2]

/-- The block is cleared before the first step. -/
theorem clear_apply (p : Fin 1024) (q : Fin 1024) : k0_pay1 (F := Ideal) (ix2 p q) = 0 := by
  pointwise [k0_pay1]

variable (m : (ℓ : Loc nD τ sig) → Buf (Elt Ideal) ℓ) (c : Dev nD)

/-- The two arrays the call is given, and their blocks at a point. -/
def arrA : S2048x1024.Idx → EReal := m ((c : Thread nD τ).loc main_arg0)
def arrB : S1024x2048.Idx → EReal := m ((c : Thread nD τ).loc main_arg1)
def blkA (t : Fin cfg0.N) : S1024x1024.Idx → EReal := iblk m c 0 t
def blkB (t : Fin cfg0.N) : S1024x1024.Idx → EReal := iblk m c 1 t

theorem blkA_apply (t : Fin cfg0.N) (x : Fin 1024) (y : Fin 1024) : blkA m c t (ix2 x y) = arrA m c (ix2 (atI (bi t) x) (atK (bk t) y)) :=
  congrArg (arrA m c) (place0 t x y)

theorem blkB_apply (t : Fin cfg0.N) (x : Fin 1024) (y : Fin 1024) : blkB m c t (ix2 x y) = arrB m c (ix2 (atK (bk t) x) (atJ (bj t) y)) :=
  congrArg (arrB m c) (place1 t x y)

/-- What the step of point `t` adds at a place of the block. -/
def part (t : Fin cfg0.N) (y : S1024x1024.Idx) : EReal := ∑ k : Fin 1024, blkA m c t (ix2 (y 0) k) * blkB m c t (ix2 k (y 1))

/-- What the block holds when it is written back. -/
theorem after_eq (t : Fin cfg0.N) (p : Fin 1024) (q : Fin 1024) :
    (dats m 0 c).after 2 t (ix2 p q : S1024x1024.Idx) = ∑ s : Fin 1, part m c (st t s) (ix2 p q) := by
  have e : ∀ s : Fin 1, st t s = t := fun s => Fin.ext (by show 1 * (t.val / 1) + s.val = t.val; omega)
  rw [after0_2, Fin.sum_univ_one, e]
  unfold outsAt0
  frame_out
  rw [step_apply, clear_apply, zero_add]
  rfl

/-- The product of the two arrays. -/
def whole (y : S2048x2048.Idx) : EReal := ∑ k : Fin 1024, arrA m c (ix2 (y 0) k) * arrB m c (ix2 k (y 1))

theorem left (t : Fin cfg0.N) (hf : (cfg0.win 2).flush t = true) (y : S1024x1024.Idx) :
    (dats m 0 c).after 2 t y = whole m c ((win0_2.rect t).emb y) := by
  obtain ⟨p, q, rfl⟩ := idx2 y
  rw [place2]
  refine (after_eq m c t p q).trans ?_
  refine Fin.sum_mul_add_congr (F := fun s k => blkA m c (st t s) (ix2 p k)
    * blkB m c (st t s) (ix2 k q)) (fun s k hl => ?_)
  obtain ⟨e1, e2, e3⟩ := run_steps t s
  show blkA m c _ _ * blkB m c _ _ = _
  rw [blkA_apply, blkB_apply, e1, e2, e3]
  rfl

/-- Every place of the result is in some point's block. -/
theorem onto : ∀ (i : Fin 2) (j : Fin 2), ∃ t, win0_2.flush t = true ∧ bi t = i ∧ bj t = j := by decide +kernel

theorem cover (y : S2048x2048.Idx) : ∃ t, (cfg0.win 2).flush t = true ∧ y ∈ ((cfg0.win 2).blk t).view.set := by
  obtain ⟨r, s, rfl⟩ := idx2 y
  obtain ⟨i, p, rfl⟩ : ∃ i p, r = atI i p :=
    ⟨⟨r.val / 1024, by omega⟩, ⟨r.val % 1024, by omega⟩, Fin.ext (show r.val = r.val / 1024 * 1024 + r.val % 1024 by omega)⟩
  obtain ⟨j, q, rfl⟩ : ∃ j q, s = atJ j q :=
    ⟨⟨s.val / 1024, by omega⟩, ⟨s.val % 1024, by omega⟩, Fin.ext (show s.val = s.val / 1024 * 1024 + s.val % 1024 by omega)⟩
  obtain ⟨t, h, rfl, rfl⟩ := onto i j
  exact ⟨t, h, (place2 t p q) ▸ View.emb_mem_set _ _⟩

/-- The array the call leaves. -/
theorem end_eq : (dats m 0 c).arrAt 2 cfg0.N = whole m c :=
  (dats m 0 c).arrAt_eq_of_cover 2 (whole m c) (fun t hf => funext fun y => left m c t hf y) cover

/-- The reference's result is the same product. -/
theorem ref_eq (A : ReferenceCmInIdeal.S2048x1024.Idx → EReal) (B : ReferenceCmInIdeal.S1024x2048.Idx → EReal) (hA : A = arrA m c) (hB : B = arrB m c) :
    val_main_v2 (F := Ideal) A B = whole m c := by
  subst hA hB
  funext y
  obtain ⟨p, q, rfl⟩ := idx2 y
  pointwise [val_main_v0, val_main_v1, val_main_v2]
  rfl

end Cert.KernelCmInIdeal

namespace Cert

open Idealize.ShloMosaic Idealize.SL.Sem

/-- Over the reals the call's result is the reference's. -/
theorem algebraic_CmIn : algebraic_KernelCmInIdeal_ReferenceCmInIdeal (hKernelCmInIdeal := KernelCmInIdeal.Gen.facts)
    (hReferenceCmInIdeal := ReferenceCmInIdeal.Gen.facts) :=
  fun m g m' g' _ hargs => ⟨fun c => KernelCmInIdeal.whole m c,
    (θ_run _ _ _).mono (fun _ h c => ⟨(h c).1.trans (KernelCmInIdeal.end_eq m c), (h c).2⟩) (KernelCmInIdeal.Value.run_blocks m g),
    (θ_run _ _ _).mono (fun _ h c => ⟨(h c).1.trans (KernelCmInIdeal.ref_eq m c _ _ (hargs c).1 (hargs c).2), (h c).2⟩)
      (ReferenceCmInIdeal.Value.run m' g')⟩

/-- The reference leaves its arguments and all semaphores as they were. -/
theorem frame_ReferenceCmInIdeal : quiescent_ReferenceCmInIdeal (hReferenceCmInIdeal := ReferenceCmInIdeal.Gen.facts) :=
  fun m g _ => (θ_run _ _ _).mono (fun _ h => ⟨fun c => (h c).2, sem_eq_zero_of_no_sems (by decide) _⟩) (ReferenceCmInIdeal.Value.run m g)

end Cert

end
-- ==== Proof.CmInDw.lean ====
/- The call computing the gradient of the product by its weights, 2048x1024 by 2048x2048: the 2 steps of the inner axis add up in a block of
   the result, and the blocks are the whole product. -/
module

public import proofs.«01_k».proof.Defs
public import proofs.«01_k».proof.Proof.Blocks
public import proofs.«01_k».proof.Proof.Gen.KernelCmInDw.Frame
public import proofs.«01_k».proof.Proof.Gen.KernelCmInDwIdeal.Value
public import proofs.«01_k».proof.Proof.Gen.ReferenceCmInDwIdeal.Read
public import Idealize.ShloMosaic.Adequacy
public import Idealize.ShloMosaic.Init

@[expose] public section

set_option maxRecDepth 16384

noncomputable section

namespace Cert.KernelCmInDwIdeal

open Idealize.ShloMosaic Idealize.ShloMosaic.TcCoe Idealize.SL.Sem Cert.Blocks Cert.KernelCmInDwIdeal.Gen
  Cert.ReferenceCmInDwIdeal.Read

/-- A point of the grid is a block of rows, a block of columns and a step of the inner axis. -/
def bi (t : Fin grid0.N) : Fin 1 := grid0.coords t 0
def bj (t : Fin grid0.N) : Fin 2 := grid0.coords t 1
def bk (t : Fin grid0.N) : Fin 2 := grid0.coords t 2
theorem step_lt : ∀ (t : Fin grid0.N) (s : Fin 2), 2 * (t.val / 2) + s.val < grid0.N := by decide +kernel
/-- The steps of a point's block. -/
def st (t : Fin grid0.N) (s : Fin 2) : Fin grid0.N := ⟨2 * (t.val / 2) + s.val, step_lt t s⟩
theorem run_steps : ∀ (t : Fin grid0.N) (s : Fin 2), bi (st t s) = bi t ∧ bj (st t s) = bj t ∧ bk (st t s) = s := by decide +kernel

/-- An index of the array, from its block's number and the index there. -/
def atI (n : Fin 1) (x : Fin 1024) : Fin 1024 := ⟨n.val * 1024 + x.val, by omega⟩
def atJ (n : Fin 2) (x : Fin 1024) : Fin 2048 := ⟨n.val * 1024 + x.val, by omega⟩
def atK (n : Fin 2) (x : Fin 1024) : Fin 2048 := ⟨n.val * 1024 + x.val, by omega⟩

theorem index : ∀ t : Fin grid0.N,
    (∀ a, win0_0.index t a = (![(bk t).val, (bi t).val] : Fin 2 → Nat) a) ∧
    (∀ a, win0_1.index t a = (![(bk t).val, (bj t).val] : Fin 2 → Nat) a) ∧
    (∀ a, win0_2.index t a = (![(bi t).val, (bj t).val] : Fin 2 → Nat) a) := by decide +kernel

theorem place0 (t : Fin cfg0.N) (x : Fin 1024) (y : Fin 1024) :
    (win0_0.rect t).emb (ix2 x y : S1024x1024.Idx) = (ix2 (atK (bk t) x) (atI (bi t) y) : S2048x1024.Idx) := by
  refine funext fun a => Fin.ext ((win0_0.rect_emb_val t _ a).trans ?_)
  rw [(index t).1 a]
  match a with
  | ⟨0, _⟩ => rfl
  | ⟨1, _⟩ => rfl
theorem place1 (t : Fin cfg0.N) (x : Fin 1024) (y : Fin 1024) :
    (win0_1.rect t).emb (ix2 x y : S1024x1024.Idx) = (ix2 (atK (bk t) x) (atJ (bj t) y) : S2048x2048.Idx) := by
  refine funext fun a => Fin.ext ((win0_1.rect_emb_val t _ a).trans ?_)
  rw [(index t).2.1 a]
  match a with
  | ⟨0, _⟩ => rfl
  | ⟨1, _⟩ => rfl
theorem place2 (t : Fin cfg0.N) (x : Fin 1024) (y : Fin 1024) :
    (win0_2.rect t).emb (ix2 x y : S1024x1024.Idx) = (ix2 (atI (bi t) x) (atJ (bj t) y) : S1024x2048.Idx) := by
  refine funext fun a => Fin.ext ((win0_2.rect_emb_val t _ a).trans ?_)
  rw [(index t).2.2 a]
  match a with
  | ⟨0, _⟩ => rfl
  | ⟨1, _⟩ => rfl

/-- A step adds its part of the inner axis to what the block holds. -/
theorem step_apply (acc : Vec Ideal S1024x1024 .f32) (A : Vec Ideal S1024x1024 .bf16) (B : Vec Ideal S1024x1024 .bf16) (p : Fin 1024) (q : Fin 1024) :
    k0_pay2 (F := Ideal) acc A B (ix2 p q) = acc (ix2 p q) + ∑ k : Fin 1024, A (ix2 k p) * B (ix2 k q) := by
  pointwise [k0_pay2]

/-- The block is cleared before the first step. -/
theorem clear_apply (p : Fin 1024) (q : Fin 1024) : k0_pay1 (F := Ideal) (ix2 p q) = 0 := by
  pointwise [k0_pay1]

/-- The cast of the finished block. -/
theorem cast_apply (X : Vec Ideal S1024x1024 .f32) (p : Fin 1024) (q : Fin 1024) : k0_pay3 (F := Ideal) X (ix2 p q) = X (ix2 p q) := by
  pointwise [k0_pay3]

variable (m : (ℓ : Loc nD τ sig) → Buf (Elt Ideal) ℓ) (c : Dev nD)

/-- The two arrays the call is given, and their blocks at a point. -/
def arrA : S2048x1024.Idx → EReal := m ((c : Thread nD τ).loc main_arg0)
def arrB : S2048x2048.Idx → EReal := m ((c : Thread nD τ).loc main_arg1)
def blkA (t : Fin cfg0.N) : S1024x1024.Idx → EReal := iblk m c 0 t
def blkB (t : Fin cfg0.N) : S1024x1024.Idx → EReal := iblk m c 1 t

theorem blkA_apply (t : Fin cfg0.N) (x : Fin 1024) (y : Fin 1024) : blkA m c t (ix2 x y) = arrA m c (ix2 (atK (bk t) x) (atI (bi t) y)) :=
  congrArg (arrA m c) (place0 t x y)

theorem blkB_apply (t : Fin cfg0.N) (x : Fin 1024) (y : Fin 1024) : blkB m c t (ix2 x y) = arrB m c (ix2 (atK (bk t) x) (atJ (bj t) y)) :=
  congrArg (arrB m c) (place1 t x y)

/-- What the step of point `t` adds at a place of the block. -/
def part (t : Fin cfg0.N) (y : S1024x1024.Idx) : EReal := ∑ k : Fin 1024, blkA m c t (ix2 k (y 0)) * blkB m c t (ix2 k (y 1))

theorem first (t : Fin cfg0.N) (h : t.val % 2 = 0) (y : S1024x1024.Idx) : (outsAt0 m c t.val t.isLt).2 y = 0 + part m c t y := by
  obtain ⟨p, q, rfl⟩ := idx2 y
  rw [outsAt0_A m c t h (by omega)]
  frame_out
  rw [step_apply, clear_apply]
  rfl

theorem next (t : Fin cfg0.N) (h : ¬t.val % 2 = 0) (y : S1024x1024.Idx) : (outsAt0 m c t.val t.isLt).2 y
    = (outsAt0 m c (t.val - 1) (Nat.lt_of_le_of_lt (Nat.sub_le _ _) t.isLt)).2 y + part m c t y := by
  obtain ⟨p, q, rfl⟩ := idx2 y
  rw [outsAt0_B m c t h (by omega)]
  frame_out
  rw [step_apply]
  exact congrArg₂ (fun x y : EReal => x + y) (congrFun ((Memref.isWhole_whole cc0_scratch0).read_unread _) _) rfl

/-- The last step hands the finished sum out. -/
theorem last (t : Fin cfg0.N) (h : t.val % 2 = 1) (p : Fin 1024) (q : Fin 1024) :
    (outsAt0 m c t.val t.isLt).1 (ix2 p q) = (outsAt0 m c t.val t.isLt).2 (ix2 p q) := by
  rw [outsAt0_B m c t (by omega) h]
  frame_out
  rw [cast_apply]

/-- What the block holds when it is written back. -/
theorem after_eq (t : Fin cfg0.N) (h : t.val % 2 = 1) (p : Fin 1024) (q : Fin 1024) :
    (dats m 0 c).after 2 t (ix2 p q : S1024x1024.Idx)
      = ∑ s : Fin 2, part m c (st t s) (ix2 p q) := by
  rw [after0_2]
  refine (last m c t h p q).trans ?_
  refine (Pipeline.eq_sum_fin_of_reset_step_apply_of_flush (fun n h => (outsAt0 m c n h).2) 2 (fun _ => 0) (part m c)
    (first m c) (next m c) t h _).trans ?_
  exact zero_add _

/-- The product of the two arrays. -/
def whole (y : S1024x2048.Idx) : EReal := ∑ k : Fin 2048, arrA m c (ix2 k (y 0)) * arrB m c (ix2 k (y 1))

theorem left (t : Fin cfg0.N) (hf : (cfg0.win 2).flush t = true) (y : S1024x1024.Idx) :
    (dats m 0 c).after 2 t y = whole m c ((win0_2.rect t).emb y) := by
  obtain ⟨p, q, rfl⟩ := idx2 y
  rw [place2]
  refine (after_eq m c t ((flush0_2 t).mp hf) p q).trans ?_
  refine Fin.sum_mul_add_congr (F := fun s k => blkA m c (st t s) (ix2 k p)
    * blkB m c (st t s) (ix2 k q)) (fun s k hl => ?_)
  obtain ⟨e1, e2, e3⟩ := run_steps t s
  show blkA m c _ _ * blkB m c _ _ = _
  rw [blkA_apply, blkB_apply, e1, e2, e3]
  rfl

/-- The array the call leaves. -/
theorem end_eq : (dats m 0 c).arrAt 2 cfg0.N = whole m c :=
  (dats m 0 c).arrAt_eq_of_cover 2 (whole m c) (fun t hf => funext fun y => left m c t hf y)
    fun i => (Value.covered_iff2 i).2 ⟨Nat.zero_le _, (i 0).isLt, Nat.zero_le _, (i 1).isLt⟩

/-- The reference's result is the same product. -/
theorem ref_eq (A : ReferenceCmInDwIdeal.S2048x1024.Idx → EReal) (B : ReferenceCmInDwIdeal.S2048x2048.Idx → EReal) (hA : A = arrA m c) (hB : B = arrB m c) :
    val_main_v6 (F := Ideal) A B = whole m c := by
  subst hA hB
  funext y
  obtain ⟨p, q, rfl⟩ := idx2 y
  pointwise [val_main_v1, val_main_v3, val_main_v4, val_main_v5, val_main_v6]
  exact Finset.sum_congr rfl fun k _ => mul_comm _ _

end Cert.KernelCmInDwIdeal

namespace Cert

open Idealize.ShloMosaic Idealize.SL.Sem

/-- Over the reals the call's result is the reference's. -/
theorem algebraic_CmInDw : algebraic_KernelCmInDwIdeal_ReferenceCmInDwIdeal (hKernelCmInDwIdeal := KernelCmInDwIdeal.Gen.facts)
    (hReferenceCmInDwIdeal := ReferenceCmInDwIdeal.Gen.facts) :=
  fun m g m' g' _ hargs => ⟨fun c => KernelCmInDwIdeal.whole m c,
    (θ_run _ _ _).mono (fun _ h c => ⟨(h c).1.trans (KernelCmInDwIdeal.end_eq m c), (h c).2⟩) (KernelCmInDwIdeal.Value.run_blocks m g),
    (θ_run _ _ _).mono (fun _ h c => ⟨(h c).1.trans (KernelCmInDwIdeal.ref_eq m c _ _ (hargs c).1 (hargs c).2), (h c).2⟩)
      (ReferenceCmInDwIdeal.Value.run m' g')⟩

/-- The reference leaves its arguments and all semaphores as they were. -/
theorem frame_ReferenceCmInDwIdeal : quiescent_ReferenceCmInDwIdeal (hReferenceCmInDwIdeal := ReferenceCmInDwIdeal.Gen.facts) :=
  fun m g _ => (θ_run _ _ _).mono (fun _ h => ⟨fun c => (h c).2, sem_eq_zero_of_no_sems (by decide) _⟩) (ReferenceCmInDwIdeal.Value.run m g)

end Cert

end
-- ==== Proof.CmInDx.lean ====
/- The call computing the gradient of the product by its rows, 2048x2048 by 1024x2048: the 2 steps of the inner axis add up in a block of
   the result, and the blocks are the whole product. -/
module

public import proofs.«01_k».proof.Defs
public import proofs.«01_k».proof.Proof.Blocks
public import proofs.«01_k».proof.Proof.Gen.KernelCmInDx.Frame
public import proofs.«01_k».proof.Proof.Gen.KernelCmInDxIdeal.Value
public import proofs.«01_k».proof.Proof.Gen.ReferenceCmInDxIdeal.Read
public import Idealize.ShloMosaic.Adequacy
public import Idealize.ShloMosaic.Init

@[expose] public section

set_option maxRecDepth 16384

noncomputable section

namespace Cert.KernelCmInDxIdeal

open Idealize.ShloMosaic Idealize.ShloMosaic.TcCoe Idealize.SL.Sem Cert.Blocks Cert.KernelCmInDxIdeal.Gen
  Cert.ReferenceCmInDxIdeal.Read

/-- A point of the grid is a block of rows, a block of columns and a step of the inner axis. -/
def bi (t : Fin grid0.N) : Fin 2 := grid0.coords t 0
def bj (t : Fin grid0.N) : Fin 1 := grid0.coords t 1
def bk (t : Fin grid0.N) : Fin 2 := grid0.coords t 2
theorem step_lt : ∀ (t : Fin grid0.N) (s : Fin 2), 2 * (t.val / 2) + s.val < grid0.N := by decide +kernel
/-- The steps of a point's block. -/
def st (t : Fin grid0.N) (s : Fin 2) : Fin grid0.N := ⟨2 * (t.val / 2) + s.val, step_lt t s⟩
theorem run_steps : ∀ (t : Fin grid0.N) (s : Fin 2), bi (st t s) = bi t ∧ bj (st t s) = bj t ∧ bk (st t s) = s := by decide +kernel

/-- An index of the array, from its block's number and the index there. -/
def atI (n : Fin 2) (x : Fin 1024) : Fin 2048 := ⟨n.val * 1024 + x.val, by omega⟩
def atJ (n : Fin 1) (x : Fin 1024) : Fin 1024 := ⟨n.val * 1024 + x.val, by omega⟩
def atK (n : Fin 2) (x : Fin 1024) : Fin 2048 := ⟨n.val * 1024 + x.val, by omega⟩

theorem index : ∀ t : Fin grid0.N,
    (∀ a, win0_0.index t a = (![(bi t).val, (bk t).val] : Fin 2 → Nat) a) ∧
    (∀ a, win0_1.index t a = (![(bj t).val, (bk t).val] : Fin 2 → Nat) a) ∧
    (∀ a, win0_2.index t a = (![(bi t).val, (bj t).val] : Fin 2 → Nat) a) := by decide +kernel

theorem place0 (t : Fin cfg0.N) (x : Fin 1024) (y : Fin 1024) :
    (win0_0.rect t).emb (ix2 x y : S1024x1024.Idx) = (ix2 (atI (bi t) x) (atK (bk t) y) : S2048x2048.Idx) := by
  refine funext fun a => Fin.ext ((win0_0.rect_emb_val t _ a).trans ?_)
  rw [(index t).1 a]
  match a with
  | ⟨0, _⟩ => rfl
  | ⟨1, _⟩ => rfl
theorem place1 (t : Fin cfg0.N) (x : Fin 1024) (y : Fin 1024) :
    (win0_1.rect t).emb (ix2 x y : S1024x1024.Idx) = (ix2 (atJ (bj t) x) (atK (bk t) y) : S1024x2048.Idx) := by
  refine funext fun a => Fin.ext ((win0_1.rect_emb_val t _ a).trans ?_)
  rw [(index t).2.1 a]
  match a with
  | ⟨0, _⟩ => rfl
  | ⟨1, _⟩ => rfl
theorem place2 (t : Fin cfg0.N) (x : Fin 1024) (y : Fin 1024) :
    (win0_2.rect t).emb (ix2 x y : S1024x1024.Idx) = (ix2 (atI (bi t) x) (atJ (bj t) y) : S2048x1024.Idx) := by
  refine funext fun a => Fin.ext ((win0_2.rect_emb_val t _ a).trans ?_)
  rw [(index t).2.2 a]
  match a with
  | ⟨0, _⟩ => rfl
  | ⟨1, _⟩ => rfl

/-- A step adds its part of the inner axis to what the block holds. -/
theorem step_apply (acc : Vec Ideal S1024x1024 .f32) (A : Vec Ideal S1024x1024 .bf16) (B : Vec Ideal S1024x1024 .bf16) (p : Fin 1024) (q : Fin 1024) :
    k0_pay2 (F := Ideal) acc A B (ix2 p q) = acc (ix2 p q) + ∑ k : Fin 1024, A (ix2 p k) * B (ix2 q k) := by
  pointwise [k0_pay2]

/-- The block is cleared before the first step. -/
theorem clear_apply (p : Fin 1024) (q : Fin 1024) : k0_pay1 (F := Ideal) (ix2 p q) = 0 := by
  pointwise [k0_pay1]

variable (m : (ℓ : Loc nD τ sig) → Buf (Elt Ideal) ℓ) (c : Dev nD)

/-- The two arrays the call is given, and their blocks at a point. -/
def arrA : S2048x2048.Idx → EReal := m ((c : Thread nD τ).loc main_arg0)
def arrB : S1024x2048.Idx → EReal := m ((c : Thread nD τ).loc main_arg1)
def blkA (t : Fin cfg0.N) : S1024x1024.Idx → EReal := iblk m c 0 t
def blkB (t : Fin cfg0.N) : S1024x1024.Idx → EReal := iblk m c 1 t

theorem blkA_apply (t : Fin cfg0.N) (x : Fin 1024) (y : Fin 1024) : blkA m c t (ix2 x y) = arrA m c (ix2 (atI (bi t) x) (atK (bk t) y)) :=
  congrArg (arrA m c) (place0 t x y)

theorem blkB_apply (t : Fin cfg0.N) (x : Fin 1024) (y : Fin 1024) : blkB m c t (ix2 x y) = arrB m c (ix2 (atJ (bj t) x) (atK (bk t) y)) :=
  congrArg (arrB m c) (place1 t x y)

/-- What the step of point `t` adds at a place of the block. -/
def part (t : Fin cfg0.N) (y : S1024x1024.Idx) : EReal := ∑ k : Fin 1024, blkA m c t (ix2 (y 0) k) * blkB m c t (ix2 (y 1) k)

theorem first (t : Fin cfg0.N) (h : t.val % 2 = 0) (y : S1024x1024.Idx) : (outsAt0 m c t.val t.isLt).2 y = 0 + part m c t y := by
  obtain ⟨p, q, rfl⟩ := idx2 y
  rw [outsAt0_A m c t h (by omega)]
  frame_out
  rw [step_apply, clear_apply]
  rfl

theorem next (t : Fin cfg0.N) (h : ¬t.val % 2 = 0) (y : S1024x1024.Idx) : (outsAt0 m c t.val t.isLt).2 y
    = (outsAt0 m c (t.val - 1) (Nat.lt_of_le_of_lt (Nat.sub_le _ _) t.isLt)).2 y + part m c t y := by
  obtain ⟨p, q, rfl⟩ := idx2 y
  rw [outsAt0_B m c t h (by omega)]
  frame_out
  rw [step_apply]
  exact congrArg₂ (fun x y : EReal => x + y) (congrFun ((Memref.isWhole_whole cc0_scratch0).read_unread _) _) rfl

/-- The last step hands the finished sum out. -/
theorem last (t : Fin cfg0.N) (h : t.val % 2 = 1) (p : Fin 1024) (q : Fin 1024) :
    (outsAt0 m c t.val t.isLt).1 (ix2 p q) = (outsAt0 m c t.val t.isLt).2 (ix2 p q) := by
  rw [outsAt0_B m c t (by omega) h]
  frame_out
  try rfl

/-- What the block holds when it is written back. -/
theorem after_eq (t : Fin cfg0.N) (h : t.val % 2 = 1) (p : Fin 1024) (q : Fin 1024) :
    (dats m 0 c).after 2 t (ix2 p q : S1024x1024.Idx)
      = ∑ s : Fin 2, part m c (st t s) (ix2 p q) := by
  rw [after0_2]
  refine (last m c t h p q).trans ?_
  refine (Pipeline.eq_sum_fin_of_reset_step_apply_of_flush (fun n h => (outsAt0 m c n h).2) 2 (fun _ => 0) (part m c)
    (first m c) (next m c) t h _).trans ?_
  exact zero_add _

/-- The product of the two arrays. -/
def whole (y : S2048x1024.Idx) : EReal := ∑ k : Fin 2048, arrA m c (ix2 (y 0) k) * arrB m c (ix2 (y 1) k)

theorem left (t : Fin cfg0.N) (hf : (cfg0.win 2).flush t = true) (y : S1024x1024.Idx) :
    (dats m 0 c).after 2 t y = whole m c ((win0_2.rect t).emb y) := by
  obtain ⟨p, q, rfl⟩ := idx2 y
  rw [place2]
  refine (after_eq m c t ((flush0_2 t).mp hf) p q).trans ?_
  refine Fin.sum_mul_add_congr (F := fun s k => blkA m c (st t s) (ix2 p k)
    * blkB m c (st t s) (ix2 q k)) (fun s k hl => ?_)
  obtain ⟨e1, e2, e3⟩ := run_steps t s
  show blkA m c _ _ * blkB m c _ _ = _
  rw [blkA_apply, blkB_apply, e1, e2, e3]
  rfl

/-- The array the call leaves. -/
theorem end_eq : (dats m 0 c).arrAt 2 cfg0.N = whole m c :=
  (dats m 0 c).arrAt_eq_of_cover 2 (whole m c) (fun t hf => funext fun y => left m c t hf y)
    fun i => (Value.covered_iff2 i).2 ⟨Nat.zero_le _, (i 0).isLt, Nat.zero_le _, (i 1).isLt⟩

/-- The reference's result is the same product. -/
theorem ref_eq (A : ReferenceCmInDxIdeal.S2048x2048.Idx → EReal) (B : ReferenceCmInDxIdeal.S1024x2048.Idx → EReal) (hA : A = arrA m c) (hB : B = arrB m c) :
    val_main_v4 (F := Ideal) A B = whole m c := by
  subst hA hB
  funext y
  obtain ⟨p, q, rfl⟩ := idx2 y
  pointwise [val_main_v1, val_main_v3, val_main_v4]
  rfl

end Cert.KernelCmInDxIdeal

namespace Cert

open Idealize.ShloMosaic Idealize.SL.Sem

/-- Over the reals the call's result is the reference's. -/
theorem algebraic_CmInDx : algebraic_KernelCmInDxIdeal_ReferenceCmInDxIdeal (hKernelCmInDxIdeal := KernelCmInDxIdeal.Gen.facts)
    (hReferenceCmInDxIdeal := ReferenceCmInDxIdeal.Gen.facts) :=
  fun m g m' g' _ hargs => ⟨fun c => KernelCmInDxIdeal.whole m c,
    (θ_run _ _ _).mono (fun _ h c => ⟨(h c).1.trans (KernelCmInDxIdeal.end_eq m c), (h c).2⟩) (KernelCmInDxIdeal.Value.run_blocks m g),
    (θ_run _ _ _).mono (fun _ h c => ⟨(h c).1.trans (KernelCmInDxIdeal.ref_eq m c _ _ (hargs c).1 (hargs c).2), (h c).2⟩)
      (ReferenceCmInDxIdeal.Value.run m' g')⟩

/-- The reference leaves its arguments and all semaphores as they were. -/
theorem frame_ReferenceCmInDxIdeal : quiescent_ReferenceCmInDxIdeal (hReferenceCmInDxIdeal := ReferenceCmInDxIdeal.Gen.facts) :=
  fun m g _ => (θ_run _ _ _).mono (fun _ h => ⟨fun c => (h c).2, sem_eq_zero_of_no_sems (by decide) _⟩) (ReferenceCmInDxIdeal.Value.run m g)

end Cert

end
-- ==== Proof.CmOut.lean ====
/- The call computing the rows times the weights, 2048x1024 by 1024x1024: its one step of the inner axis fills a block of
   the result, and the blocks are the whole product. -/
module

public import proofs.«01_k».proof.Defs
public import proofs.«01_k».proof.Proof.Blocks
public import proofs.«01_k».proof.Proof.Gen.KernelCmOut.Frame
public import proofs.«01_k».proof.Proof.Gen.KernelCmOutIdeal.Value
public import proofs.«01_k».proof.Proof.Gen.ReferenceCmOutIdeal.Read
public import Idealize.ShloMosaic.Adequacy
public import Idealize.ShloMosaic.Init

@[expose] public section

set_option maxRecDepth 16384

noncomputable section

namespace Cert.KernelCmOutIdeal

open Idealize.ShloMosaic Idealize.ShloMosaic.TcCoe Idealize.SL.Sem Cert.Blocks Cert.KernelCmOutIdeal.Gen
  Cert.ReferenceCmOutIdeal.Read

/-- A point of the grid is a block of rows, a block of columns and a step of the inner axis. -/
def bi (t : Fin grid0.N) : Fin 2 := grid0.coords t 0
def bj (t : Fin grid0.N) : Fin 1 := grid0.coords t 1
def bk (t : Fin grid0.N) : Fin 1 := grid0.coords t 2
theorem step_lt : ∀ (t : Fin grid0.N) (s : Fin 1), 1 * (t.val / 1) + s.val < grid0.N := by decide +kernel
/-- The steps of a point's block. -/
def st (t : Fin grid0.N) (s : Fin 1) : Fin grid0.N := ⟨1 * (t.val / 1) + s.val, step_lt t s⟩
theorem run_steps : ∀ (t : Fin grid0.N) (s : Fin 1), bi (st t s) = bi t ∧ bj (st t s) = bj t ∧ bk (st t s) = s := by decide +kernel

/-- An index of the array, from its block's number and the index there. -/
def atI (n : Fin 2) (x : Fin 1024) : Fin 2048 := ⟨n.val * 1024 + x.val, by omega⟩
def atJ (n : Fin 1) (x : Fin 1024) : Fin 1024 := ⟨n.val * 1024 + x.val, by omega⟩
def atK (n : Fin 1) (x : Fin 1024) : Fin 1024 := ⟨n.val * 1024 + x.val, by omega⟩

theorem index : ∀ t : Fin grid0.N,
    (∀ a, win0_0.index t a = (![(bi t).val, (bk t).val] : Fin 2 → Nat) a) ∧
    (∀ a, win0_1.index t a = (![(bk t).val, (bj t).val] : Fin 2 → Nat) a) ∧
    (∀ a, win0_2.index t a = (![(bi t).val, (bj t).val] : Fin 2 → Nat) a) := by decide +kernel

theorem place0 (t : Fin cfg0.N) (x : Fin 1024) (y : Fin 1024) :
    (win0_0.rect t).emb (ix2 x y : S1024x1024.Idx) = (ix2 (atI (bi t) x) (atK (bk t) y) : S2048x1024.Idx) := by
  refine funext fun a => Fin.ext ((win0_0.rect_emb_val t _ a).trans ?_)
  rw [(index t).1 a]
  match a with
  | ⟨0, _⟩ => rfl
  | ⟨1, _⟩ => rfl
theorem place1 (t : Fin cfg0.N) (x : Fin 1024) (y : Fin 1024) :
    (win0_1.rect t).emb (ix2 x y : S1024x1024.Idx) = (ix2 (atK (bk t) x) (atJ (bj t) y) : S1024x1024.Idx) := by
  refine funext fun a => Fin.ext ((win0_1.rect_emb_val t _ a).trans ?_)
  rw [(index t).2.1 a]
  match a with
  | ⟨0, _⟩ => rfl
  | ⟨1, _⟩ => rfl
theorem place2 (t : Fin cfg0.N) (x : Fin 1024) (y : Fin 1024) :
    (win0_2.rect t).emb (ix2 x y : S1024x1024.Idx) = (ix2 (atI (bi t) x) (atJ (bj t) y) : S2048x1024.Idx) := by
  refine funext fun a => Fin.ext ((win0_2.rect_emb_val t _ a).trans ?_)
  rw [(index t).2.2 a]
  match a with
  | ⟨0, _⟩ => rfl
  | ⟨1, _⟩ => rfl

/-- A step adds its part of the inner axis to what the block holds. -/
theorem step_apply (acc : Vec Ideal S1024x1024 .f32) (A : Vec Ideal S1024x1024 .bf16) (B : Vec Ideal S1024x1024 .bf16) (p : Fin 1024) (q : Fin 1024) :
    k0_pay2 (F := Ideal) acc A B (ix2 p q) = acc (ix2 p q) + ∑ k : Fin 1024, A (ix2 p k) * B (ix2 k q) := by
  pointwise [k0_pay2]

/-- The block is cleared before the first step. -/
theorem clear_apply (p : Fin 1024) (q : Fin 1024) : k0_pay1 (F := Ideal) (ix2 p q) = 0 := by
  pointwise [k0_pay1]

variable (m : (ℓ : Loc nD τ sig) → Buf (Elt Ideal) ℓ) (c : Dev nD)

/-- The two arrays the call is given, and their blocks at a point. -/
def arrA : S2048x1024.Idx → EReal := m ((c : Thread nD τ).loc main_arg0)
def arrB : S1024x1024.Idx → EReal := m ((c : Thread nD τ).loc main_arg1)
def blkA (t : Fin cfg0.N) : S1024x1024.Idx → EReal := iblk m c 0 t
def blkB (t : Fin cfg0.N) : S1024x1024.Idx → EReal := iblk m c 1 t

theorem blkA_apply (t : Fin cfg0.N) (x : Fin 1024) (y : Fin 1024) : blkA m c t (ix2 x y) = arrA m c (ix2 (atI (bi t) x) (atK (bk t) y)) :=
  congrArg (arrA m c) (place0 t x y)

theorem blkB_apply (t : Fin cfg0.N) (x : Fin 1024) (y : Fin 1024) : blkB m c t (ix2 x y) = arrB m c (ix2 (atK (bk t) x) (atJ (bj t) y)) :=
  congrArg (arrB m c) (place1 t x y)

/-- What the step of point `t` adds at a place of the block. -/
def part (t : Fin cfg0.N) (y : S1024x1024.Idx) : EReal := ∑ k : Fin 1024, blkA m c t (ix2 (y 0) k) * blkB m c t (ix2 k (y 1))

/-- What the block holds when it is written back. -/
theorem after_eq (t : Fin cfg0.N) (p : Fin 1024) (q : Fin 1024) :
    (dats m 0 c).after 2 t (ix2 p q : S1024x1024.Idx) = ∑ s : Fin 1, part m c (st t s) (ix2 p q) := by
  have e : ∀ s : Fin 1, st t s = t := fun s => Fin.ext (by show 1 * (t.val / 1) + s.val = t.val; omega)
  rw [after0_2, Fin.sum_univ_one, e]
  unfold outsAt0
  frame_out
  rw [step_apply, clear_apply, zero_add]
  rfl

/-- The product of the two arrays. -/
def whole (y : S2048x1024.Idx) : EReal := ∑ k : Fin 1024, arrA m c (ix2 (y 0) k) * arrB m c (ix2 k (y 1))

theorem left (t : Fin cfg0.N) (hf : (cfg0.win 2).flush t = true) (y : S1024x1024.Idx) :
    (dats m 0 c).after 2 t y = whole m c ((win0_2.rect t).emb y) := by
  obtain ⟨p, q, rfl⟩ := idx2 y
  rw [place2]
  refine (after_eq m c t p q).trans ?_
  refine Fin.sum_mul_add_congr (F := fun s k => blkA m c (st t s) (ix2 p k)
    * blkB m c (st t s) (ix2 k q)) (fun s k hl => ?_)
  obtain ⟨e1, e2, e3⟩ := run_steps t s
  show blkA m c _ _ * blkB m c _ _ = _
  rw [blkA_apply, blkB_apply, e1, e2, e3]
  rfl

/-- Every place of the result is in some point's block. -/
theorem onto : ∀ (i : Fin 2) (j : Fin 1), ∃ t, win0_2.flush t = true ∧ bi t = i ∧ bj t = j := by decide +kernel

theorem cover (y : S2048x1024.Idx) : ∃ t, (cfg0.win 2).flush t = true ∧ y ∈ ((cfg0.win 2).blk t).view.set := by
  obtain ⟨r, s, rfl⟩ := idx2 y
  obtain ⟨i, p, rfl⟩ : ∃ i p, r = atI i p :=
    ⟨⟨r.val / 1024, by omega⟩, ⟨r.val % 1024, by omega⟩, Fin.ext (show r.val = r.val / 1024 * 1024 + r.val % 1024 by omega)⟩
  obtain ⟨j, q, rfl⟩ : ∃ j q, s = atJ j q :=
    ⟨⟨s.val / 1024, by omega⟩, ⟨s.val % 1024, by omega⟩, Fin.ext (show s.val = s.val / 1024 * 1024 + s.val % 1024 by omega)⟩
  obtain ⟨t, h, rfl, rfl⟩ := onto i j
  exact ⟨t, h, (place2 t p q) ▸ View.emb_mem_set _ _⟩

/-- The array the call leaves. -/
theorem end_eq : (dats m 0 c).arrAt 2 cfg0.N = whole m c :=
  (dats m 0 c).arrAt_eq_of_cover 2 (whole m c) (fun t hf => funext fun y => left m c t hf y) cover

/-- The reference's result is the same product. -/
theorem ref_eq (A : ReferenceCmOutIdeal.S2048x1024.Idx → EReal) (B : ReferenceCmOutIdeal.S1024x1024.Idx → EReal) (hA : A = arrA m c) (hB : B = arrB m c) :
    val_main_v2 (F := Ideal) A B = whole m c := by
  subst hA hB
  funext y
  obtain ⟨p, q, rfl⟩ := idx2 y
  pointwise [val_main_v0, val_main_v1, val_main_v2]
  rfl

end Cert.KernelCmOutIdeal

namespace Cert

open Idealize.ShloMosaic Idealize.SL.Sem

/-- Over the reals the call's result is the reference's. -/
theorem algebraic_CmOut : algebraic_KernelCmOutIdeal_ReferenceCmOutIdeal (hKernelCmOutIdeal := KernelCmOutIdeal.Gen.facts)
    (hReferenceCmOutIdeal := ReferenceCmOutIdeal.Gen.facts) :=
  fun m g m' g' _ hargs => ⟨fun c => KernelCmOutIdeal.whole m c,
    (θ_run _ _ _).mono (fun _ h c => ⟨(h c).1.trans (KernelCmOutIdeal.end_eq m c), (h c).2⟩) (KernelCmOutIdeal.Value.run_blocks m g),
    (θ_run _ _ _).mono (fun _ h c => ⟨(h c).1.trans (KernelCmOutIdeal.ref_eq m c _ _ (hargs c).1 (hargs c).2), (h c).2⟩)
      (ReferenceCmOutIdeal.Value.run m' g')⟩

/-- The reference leaves its arguments and all semaphores as they were. -/
theorem frame_ReferenceCmOutIdeal : quiescent_ReferenceCmOutIdeal (hReferenceCmOutIdeal := ReferenceCmOutIdeal.Gen.facts) :=
  fun m g _ => (θ_run _ _ _).mono (fun _ h => ⟨fun c => (h c).2, sem_eq_zero_of_no_sems (by decide) _⟩) (ReferenceCmOutIdeal.Value.run m g)

end Cert

end
-- ==== Proof.CmOutDw.lean ====
/- The call computing the gradient of the product by its weights, 2048x1024 by 2048x1024: the 2 steps of the inner axis add up in a block of
   the result, and the blocks are the whole product. -/
module

public import proofs.«01_k».proof.Defs
public import proofs.«01_k».proof.Proof.Blocks
public import proofs.«01_k».proof.Proof.Gen.KernelCmOutDw.Frame
public import proofs.«01_k».proof.Proof.Gen.KernelCmOutDwIdeal.Value
public import proofs.«01_k».proof.Proof.Gen.ReferenceCmOutDwIdeal.Read
public import Idealize.ShloMosaic.Adequacy
public import Idealize.ShloMosaic.Init

@[expose] public section

set_option maxRecDepth 16384

noncomputable section

namespace Cert.KernelCmOutDwIdeal

open Idealize.ShloMosaic Idealize.ShloMosaic.TcCoe Idealize.SL.Sem Cert.Blocks Cert.KernelCmOutDwIdeal.Gen
  Cert.ReferenceCmOutDwIdeal.Read

/-- A point of the grid is a block of rows, a block of columns and a step of the inner axis. -/
def bi (t : Fin grid0.N) : Fin 1 := grid0.coords t 0
def bj (t : Fin grid0.N) : Fin 1 := grid0.coords t 1
def bk (t : Fin grid0.N) : Fin 2 := grid0.coords t 2
theorem step_lt : ∀ (t : Fin grid0.N) (s : Fin 2), 2 * (t.val / 2) + s.val < grid0.N := by decide +kernel
/-- The steps of a point's block. -/
def st (t : Fin grid0.N) (s : Fin 2) : Fin grid0.N := ⟨2 * (t.val / 2) + s.val, step_lt t s⟩
theorem run_steps : ∀ (t : Fin grid0.N) (s : Fin 2), bi (st t s) = bi t ∧ bj (st t s) = bj t ∧ bk (st t s) = s := by decide +kernel

/-- An index of the array, from its block's number and the index there. -/
def atI (n : Fin 1) (x : Fin 1024) : Fin 1024 := ⟨n.val * 1024 + x.val, by omega⟩
def atJ (n : Fin 1) (x : Fin 1024) : Fin 1024 := ⟨n.val * 1024 + x.val, by omega⟩
def atK (n : Fin 2) (x : Fin 1024) : Fin 2048 := ⟨n.val * 1024 + x.val, by omega⟩

theorem index : ∀ t : Fin grid0.N,
    (∀ a, win0_0.index t a = (![(bk t).val, (bi t).val] : Fin 2 → Nat) a) ∧
    (∀ a, win0_1.index t a = (![(bk t).val, (bj t).val] : Fin 2 → Nat) a) ∧
    (∀ a, win0_2.index t a = (![(bi t).val, (bj t).val] : Fin 2 → Nat) a) := by decide +kernel

theorem place0 (t : Fin cfg0.N) (x : Fin 1024) (y : Fin 1024) :
    (win0_0.rect t).emb (ix2 x y : S1024x1024.Idx) = (ix2 (atK (bk t) x) (atI (bi t) y) : S2048x1024.Idx) := by
  refine funext fun a => Fin.ext ((win0_0.rect_emb_val t _ a).trans ?_)
  rw [(index t).1 a]
  match a with
  | ⟨0, _⟩ => rfl
  | ⟨1, _⟩ => rfl
theorem place1 (t : Fin cfg0.N) (x : Fin 1024) (y : Fin 1024) :
    (win0_1.rect t).emb (ix2 x y : S1024x1024.Idx) = (ix2 (atK (bk t) x) (atJ (bj t) y) : S2048x1024.Idx) := by
  refine funext fun a => Fin.ext ((win0_1.rect_emb_val t _ a).trans ?_)
  rw [(index t).2.1 a]
  match a with
  | ⟨0, _⟩ => rfl
  | ⟨1, _⟩ => rfl
theorem place2 (t : Fin cfg0.N) (x : Fin 1024) (y : Fin 1024) :
    (win0_2.rect t).emb (ix2 x y : S1024x1024.Idx) = (ix2 (atI (bi t) x) (atJ (bj t) y) : S1024x1024.Idx) := by
  refine funext fun a => Fin.ext ((win0_2.rect_emb_val t _ a).trans ?_)
  rw [(index t).2.2 a]
  match a with
  | ⟨0, _⟩ => rfl
  | ⟨1, _⟩ => rfl

/-- A step adds its part of the inner axis to what the block holds. -/
theorem step_apply (acc : Vec Ideal S1024x1024 .f32) (A : Vec Ideal S1024x1024 .bf16) (B : Vec Ideal S1024x1024 .bf16) (p : Fin 1024) (q : Fin 1024) :
    k0_pay2 (F := Ideal) acc A B (ix2 p q) = acc (ix2 p q) + ∑ k : Fin 1024, A (ix2 k p) * B (ix2 k q) := by
  pointwise [k0_pay2]

/-- The block is cleared before the first step. -/
theorem clear_apply (p : Fin 1024) (q : Fin 1024) : k0_pay1 (F := Ideal) (ix2 p q) = 0 := by
  pointwise [k0_pay1]

/-- The cast of the finished block. -/
theorem cast_apply (X : Vec Ideal S1024x1024 .f32) (p : Fin 1024) (q : Fin 1024) : k0_pay3 (F := Ideal) X (ix2 p q) = X (ix2 p q) := by
  pointwise [k0_pay3]

variable (m : (ℓ : Loc nD τ sig) → Buf (Elt Ideal) ℓ) (c : Dev nD)

/-- The two arrays the call is given, and their blocks at a point. -/
def arrA : S2048x1024.Idx → EReal := m ((c : Thread nD τ).loc main_arg0)
def arrB : S2048x1024.Idx → EReal := m ((c : Thread nD τ).loc main_arg1)
def blkA (t : Fin cfg0.N) : S1024x1024.Idx → EReal := iblk m c 0 t
def blkB (t : Fin cfg0.N) : S1024x1024.Idx → EReal := iblk m c 1 t

theorem blkA_apply (t : Fin cfg0.N) (x : Fin 1024) (y : Fin 1024) : blkA m c t (ix2 x y) = arrA m c (ix2 (atK (bk t) x) (atI (bi t) y)) :=
  congrArg (arrA m c) (place0 t x y)

theorem blkB_apply (t : Fin cfg0.N) (x : Fin 1024) (y : Fin 1024) : blkB m c t (ix2 x y) = arrB m c (ix2 (atK (bk t) x) (atJ (bj t) y)) :=
  congrArg (arrB m c) (place1 t x y)

/-- What the step of point `t` adds at a place of the block. -/
def part (t : Fin cfg0.N) (y : S1024x1024.Idx) : EReal := ∑ k : Fin 1024, blkA m c t (ix2 k (y 0)) * blkB m c t (ix2 k (y 1))

theorem first (t : Fin cfg0.N) (h : t.val % 2 = 0) (y : S1024x1024.Idx) : (outsAt0 m c t.val t.isLt).2 y = 0 + part m c t y := by
  obtain ⟨p, q, rfl⟩ := idx2 y
  rw [outsAt0_A m c t h (by omega)]
  frame_out
  rw [step_apply, clear_apply]
  rfl

theorem next (t : Fin cfg0.N) (h : ¬t.val % 2 = 0) (y : S1024x1024.Idx) : (outsAt0 m c t.val t.isLt).2 y
    = (outsAt0 m c (t.val - 1) (Nat.lt_of_le_of_lt (Nat.sub_le _ _) t.isLt)).2 y + part m c t y := by
  obtain ⟨p, q, rfl⟩ := idx2 y
  rw [outsAt0_B m c t h (by omega)]
  frame_out
  rw [step_apply]
  exact congrArg₂ (fun x y : EReal => x + y) (congrFun ((Memref.isWhole_whole cc0_scratch0).read_unread _) _) rfl

/-- The last step hands the finished sum out. -/
theorem last (t : Fin cfg0.N) (h : t.val % 2 = 1) (p : Fin 1024) (q : Fin 1024) :
    (outsAt0 m c t.val t.isLt).1 (ix2 p q) = (outsAt0 m c t.val t.isLt).2 (ix2 p q) := by
  rw [outsAt0_B m c t (by omega) h]
  frame_out
  rw [cast_apply]

/-- What the block holds when it is written back. -/
theorem after_eq (t : Fin cfg0.N) (h : t.val % 2 = 1) (p : Fin 1024) (q : Fin 1024) :
    (dats m 0 c).after 2 t (ix2 p q : S1024x1024.Idx)
      = ∑ s : Fin 2, part m c (st t s) (ix2 p q) := by
  rw [after0_2]
  refine (last m c t h p q).trans ?_
  refine (Pipeline.eq_sum_fin_of_reset_step_apply_of_flush (fun n h => (outsAt0 m c n h).2) 2 (fun _ => 0) (part m c)
    (first m c) (next m c) t h _).trans ?_
  exact zero_add _

/-- The product of the two arrays. -/
def whole (y : S1024x1024.Idx) : EReal := ∑ k : Fin 2048, arrA m c (ix2 k (y 0)) * arrB m c (ix2 k (y 1))

theorem left (t : Fin cfg0.N) (hf : (cfg0.win 2).flush t = true) (y : S1024x1024.Idx) :
    (dats m 0 c).after 2 t y = whole m c ((win0_2.rect t).emb y) := by
  obtain ⟨p, q, rfl⟩ := idx2 y
  rw [place2]
  refine (after_eq m c t ((flush0_2 t).mp hf) p q).trans ?_
  refine Fin.sum_mul_add_congr (F := fun s k => blkA m c (st t s) (ix2 k p)
    * blkB m c (st t s) (ix2 k q)) (fun s k hl => ?_)
  obtain ⟨e1, e2, e3⟩ := run_steps t s
  show blkA m c _ _ * blkB m c _ _ = _
  rw [blkA_apply, blkB_apply, e1, e2, e3]
  rfl

/-- The array the call leaves. -/
theorem end_eq : (dats m 0 c).arrAt 2 cfg0.N = whole m c :=
  (dats m 0 c).arrAt_eq_of_cover 2 (whole m c) (fun t hf => funext fun y => left m c t hf y)
    fun i => (Value.covered_iff2 i).2 ⟨Nat.zero_le _, (i 0).isLt, Nat.zero_le _, (i 1).isLt⟩

/-- The reference's result is the same product. -/
theorem ref_eq (A : ReferenceCmOutDwIdeal.S2048x1024.Idx → EReal) (B : ReferenceCmOutDwIdeal.S2048x1024.Idx → EReal) (hA : A = arrA m c) (hB : B = arrB m c) :
    val_main_v6 (F := Ideal) A B = whole m c := by
  subst hA hB
  funext y
  obtain ⟨p, q, rfl⟩ := idx2 y
  pointwise [val_main_v1, val_main_v3, val_main_v4, val_main_v5, val_main_v6]
  exact Finset.sum_congr rfl fun k _ => mul_comm _ _

end Cert.KernelCmOutDwIdeal

namespace Cert

open Idealize.ShloMosaic Idealize.SL.Sem

/-- Over the reals the call's result is the reference's. -/
theorem algebraic_CmOutDw : algebraic_KernelCmOutDwIdeal_ReferenceCmOutDwIdeal (hKernelCmOutDwIdeal := KernelCmOutDwIdeal.Gen.facts)
    (hReferenceCmOutDwIdeal := ReferenceCmOutDwIdeal.Gen.facts) :=
  fun m g m' g' _ hargs => ⟨fun c => KernelCmOutDwIdeal.whole m c,
    (θ_run _ _ _).mono (fun _ h c => ⟨(h c).1.trans (KernelCmOutDwIdeal.end_eq m c), (h c).2⟩) (KernelCmOutDwIdeal.Value.run_blocks m g),
    (θ_run _ _ _).mono (fun _ h c => ⟨(h c).1.trans (KernelCmOutDwIdeal.ref_eq m c _ _ (hargs c).1 (hargs c).2), (h c).2⟩)
      (ReferenceCmOutDwIdeal.Value.run m' g')⟩

/-- The reference leaves its arguments and all semaphores as they were. -/
theorem frame_ReferenceCmOutDwIdeal : quiescent_ReferenceCmOutDwIdeal (hReferenceCmOutDwIdeal := ReferenceCmOutDwIdeal.Gen.facts) :=
  fun m g _ => (θ_run _ _ _).mono (fun _ h => ⟨fun c => (h c).2, sem_eq_zero_of_no_sems (by decide) _⟩) (ReferenceCmOutDwIdeal.Value.run m g)

end Cert

end
-- ==== Proof.CmOutDx.lean ====
/- The call computing the gradient of the product by its rows, 2048x1024 by 1024x1024: its one step of the inner axis fills a block of
   the result, and the blocks are the whole product. -/
module

public import proofs.«01_k».proof.Defs
public import proofs.«01_k».proof.Proof.Blocks
public import proofs.«01_k».proof.Proof.Gen.KernelCmOutDx.Frame
public import proofs.«01_k».proof.Proof.Gen.KernelCmOutDxIdeal.Value
public import proofs.«01_k».proof.Proof.Gen.ReferenceCmOutDxIdeal.Read
public import Idealize.ShloMosaic.Adequacy
public import Idealize.ShloMosaic.Init

@[expose] public section

set_option maxRecDepth 16384

noncomputable section

namespace Cert.KernelCmOutDxIdeal

open Idealize.ShloMosaic Idealize.ShloMosaic.TcCoe Idealize.SL.Sem Cert.Blocks Cert.KernelCmOutDxIdeal.Gen
  Cert.ReferenceCmOutDxIdeal.Read

/-- A point of the grid is a block of rows, a block of columns and a step of the inner axis. -/
def bi (t : Fin grid0.N) : Fin 2 := grid0.coords t 0
def bj (t : Fin grid0.N) : Fin 1 := grid0.coords t 1
def bk (t : Fin grid0.N) : Fin 1 := grid0.coords t 2
theorem step_lt : ∀ (t : Fin grid0.N) (s : Fin 1), 1 * (t.val / 1) + s.val < grid0.N := by decide +kernel
/-- The steps of a point's block. -/
def st (t : Fin grid0.N) (s : Fin 1) : Fin grid0.N := ⟨1 * (t.val / 1) + s.val, step_lt t s⟩
theorem run_steps : ∀ (t : Fin grid0.N) (s : Fin 1), bi (st t s) = bi t ∧ bj (st t s) = bj t ∧ bk (st t s) = s := by decide +kernel

/-- An index of the array, from its block's number and the index there. -/
def atI (n : Fin 2) (x : Fin 1024) : Fin 2048 := ⟨n.val * 1024 + x.val, by omega⟩
def atJ (n : Fin 1) (x : Fin 1024) : Fin 1024 := ⟨n.val * 1024 + x.val, by omega⟩
def atK (n : Fin 1) (x : Fin 1024) : Fin 1024 := ⟨n.val * 1024 + x.val, by omega⟩

theorem index : ∀ t : Fin grid0.N,
    (∀ a, win0_0.index t a = (![(bi t).val, (bk t).val] : Fin 2 → Nat) a) ∧
    (∀ a, win0_1.index t a = (![(bj t).val, (bk t).val] : Fin 2 → Nat) a) ∧
    (∀ a, win0_2.index t a = (![(bi t).val, (bj t).val] : Fin 2 → Nat) a) := by decide +kernel

theorem place0 (t : Fin cfg0.N) (x : Fin 1024) (y : Fin 1024) :
    (win0_0.rect t).emb (ix2 x y : S1024x1024.Idx) = (ix2 (atI (bi t) x) (atK (bk t) y) : S2048x1024.Idx) := by
  refine funext fun a => Fin.ext ((win0_0.rect_emb_val t _ a).trans ?_)
  rw [(index t).1 a]
  match a with
  | ⟨0, _⟩ => rfl
  | ⟨1, _⟩ => rfl
theorem place1 (t : Fin cfg0.N) (x : Fin 1024) (y : Fin 1024) :
    (win0_1.rect t).emb (ix2 x y : S1024x1024.Idx) = (ix2 (atJ (bj t) x) (atK (bk t) y) : S1024x1024.Idx) := by
  refine funext fun a => Fin.ext ((win0_1.rect_emb_val t _ a).trans ?_)
  rw [(index t).2.1 a]
  match a with
  | ⟨0, _⟩ => rfl
  | ⟨1, _⟩ => rfl
theorem place2 (t : Fin cfg0.N) (x : Fin 1024) (y : Fin 1024) :
    (win0_2.rect t).emb (ix2 x y : S1024x1024.Idx) = (ix2 (atI (bi t) x) (atJ (bj t) y) : S2048x1024.Idx) := by
  refine funext fun a => Fin.ext ((win0_2.rect_emb_val t _ a).trans ?_)
  rw [(index t).2.2 a]
  match a with
  | ⟨0, _⟩ => rfl
  | ⟨1, _⟩ => rfl

/-- A step adds its part of the inner axis to what the block holds. -/
theorem step_apply (acc : Vec Ideal S1024x1024 .f32) (A : Vec Ideal S1024x1024 .bf16) (B : Vec Ideal S1024x1024 .bf16) (p : Fin 1024) (q : Fin 1024) :
    k0_pay2 (F := Ideal) acc A B (ix2 p q) = acc (ix2 p q) + ∑ k : Fin 1024, A (ix2 p k) * B (ix2 q k) := by
  pointwise [k0_pay2]

/-- The block is cleared before the first step. -/
theorem clear_apply (p : Fin 1024) (q : Fin 1024) : k0_pay1 (F := Ideal) (ix2 p q) = 0 := by
  pointwise [k0_pay1]

variable (m : (ℓ : Loc nD τ sig) → Buf (Elt Ideal) ℓ) (c : Dev nD)

/-- The two arrays the call is given, and their blocks at a point. -/
def arrA : S2048x1024.Idx → EReal := m ((c : Thread nD τ).loc main_arg0)
def arrB : S1024x1024.Idx → EReal := m ((c : Thread nD τ).loc main_arg1)
def blkA (t : Fin cfg0.N) : S1024x1024.Idx → EReal := iblk m c 0 t
def blkB (t : Fin cfg0.N) : S1024x1024.Idx → EReal := iblk m c 1 t

theorem blkA_apply (t : Fin cfg0.N) (x : Fin 1024) (y : Fin 1024) : blkA m c t (ix2 x y) = arrA m c (ix2 (atI (bi t) x) (atK (bk t) y)) :=
  congrArg (arrA m c) (place0 t x y)

theorem blkB_apply (t : Fin cfg0.N) (x : Fin 1024) (y : Fin 1024) : blkB m c t (ix2 x y) = arrB m c (ix2 (atJ (bj t) x) (atK (bk t) y)) :=
  congrArg (arrB m c) (place1 t x y)

/-- What the step of point `t` adds at a place of the block. -/
def part (t : Fin cfg0.N) (y : S1024x1024.Idx) : EReal := ∑ k : Fin 1024, blkA m c t (ix2 (y 0) k) * blkB m c t (ix2 (y 1) k)

/-- What the block holds when it is written back. -/
theorem after_eq (t : Fin cfg0.N) (p : Fin 1024) (q : Fin 1024) :
    (dats m 0 c).after 2 t (ix2 p q : S1024x1024.Idx) = ∑ s : Fin 1, part m c (st t s) (ix2 p q) := by
  have e : ∀ s : Fin 1, st t s = t := fun s => Fin.ext (by show 1 * (t.val / 1) + s.val = t.val; omega)
  rw [after0_2, Fin.sum_univ_one, e]
  unfold outsAt0
  frame_out
  rw [step_apply, clear_apply, zero_add]
  rfl

/-- The product of the two arrays. -/
def whole (y : S2048x1024.Idx) : EReal := ∑ k : Fin 1024, arrA m c (ix2 (y 0) k) * arrB m c (ix2 (y 1) k)

theorem left (t : Fin cfg0.N) (hf : (cfg0.win 2).flush t = true) (y : S1024x1024.Idx) :
    (dats m 0 c).after 2 t y = whole m c ((win0_2.rect t).emb y) := by
  obtain ⟨p, q, rfl⟩ := idx2 y
  rw [place2]
  refine (after_eq m c t p q).trans ?_
  refine Fin.sum_mul_add_congr (F := fun s k => blkA m c (st t s) (ix2 p k)
    * blkB m c (st t s) (ix2 q k)) (fun s k hl => ?_)
  obtain ⟨e1, e2, e3⟩ := run_steps t s
  show blkA m c _ _ * blkB m c _ _ = _
  rw [blkA_apply, blkB_apply, e1, e2, e3]
  rfl

/-- Every place of the result is in some point's block. -/
theorem onto : ∀ (i : Fin 2) (j : Fin 1), ∃ t, win0_2.flush t = true ∧ bi t = i ∧ bj t = j := by decide +kernel

theorem cover (y : S2048x1024.Idx) : ∃ t, (cfg0.win 2).flush t = true ∧ y ∈ ((cfg0.win 2).blk t).view.set := by
  obtain ⟨r, s, rfl⟩ := idx2 y
  obtain ⟨i, p, rfl⟩ : ∃ i p, r = atI i p :=
    ⟨⟨r.val / 1024, by omega⟩, ⟨r.val % 1024, by omega⟩, Fin.ext (show r.val = r.val / 1024 * 1024 + r.val % 1024 by omega)⟩
  obtain ⟨j, q, rfl⟩ : ∃ j q, s = atJ j q :=
    ⟨⟨s.val / 1024, by omega⟩, ⟨s.val % 1024, by omega⟩, Fin.ext (show s.val = s.val / 1024 * 1024 + s.val % 1024 by omega)⟩
  obtain ⟨t, h, rfl, rfl⟩ := onto i j
  exact ⟨t, h, (place2 t p q) ▸ View.emb_mem_set _ _⟩

/-- The array the call leaves. -/
theorem end_eq : (dats m 0 c).arrAt 2 cfg0.N = whole m c :=
  (dats m 0 c).arrAt_eq_of_cover 2 (whole m c) (fun t hf => funext fun y => left m c t hf y) cover

/-- The reference's result is the same product. -/
theorem ref_eq (A : ReferenceCmOutDxIdeal.S2048x1024.Idx → EReal) (B : ReferenceCmOutDxIdeal.S1024x1024.Idx → EReal) (hA : A = arrA m c) (hB : B = arrB m c) :
    val_main_v4 (F := Ideal) A B = whole m c := by
  subst hA hB
  funext y
  obtain ⟨p, q, rfl⟩ := idx2 y
  pointwise [val_main_v1, val_main_v3, val_main_v4]
  rfl

end Cert.KernelCmOutDxIdeal

namespace Cert

open Idealize.ShloMosaic Idealize.SL.Sem

/-- Over the reals the call's result is the reference's. -/
theorem algebraic_CmOutDx : algebraic_KernelCmOutDxIdeal_ReferenceCmOutDxIdeal (hKernelCmOutDxIdeal := KernelCmOutDxIdeal.Gen.facts)
    (hReferenceCmOutDxIdeal := ReferenceCmOutDxIdeal.Gen.facts) :=
  fun m g m' g' _ hargs => ⟨fun c => KernelCmOutDxIdeal.whole m c,
    (θ_run _ _ _).mono (fun _ h c => ⟨(h c).1.trans (KernelCmOutDxIdeal.end_eq m c), (h c).2⟩) (KernelCmOutDxIdeal.Value.run_blocks m g),
    (θ_run _ _ _).mono (fun _ h c => ⟨(h c).1.trans (KernelCmOutDxIdeal.ref_eq m c _ _ (hargs c).1 (hargs c).2), (h c).2⟩)
      (ReferenceCmOutDxIdeal.Value.run m' g')⟩

/-- The reference leaves its arguments and all semaphores as they were. -/
theorem frame_ReferenceCmOutDxIdeal : quiescent_ReferenceCmOutDxIdeal (hReferenceCmOutDxIdeal := ReferenceCmOutDxIdeal.Gen.facts) :=
  fun m g _ => (θ_run _ _ _).mono (fun _ h => ⟨fun c => (h c).2, sem_eq_zero_of_no_sems (by decide) _⟩) (ReferenceCmOutDxIdeal.Value.run m g)

end Cert

end
-- ==== Proof.CmInFirst.lean ====
/- The call computing the rows times the weights, 2304x1024 by 1024x2048: its one step of the inner axis fills a block of
   the result, and the blocks are the whole product. -/
module

public import proofs.«01_k».proof.Defs
public import proofs.«01_k».proof.Proof.Blocks
public import proofs.«01_k».proof.Proof.Gen.KernelCmInFirst.Frame
public import proofs.«01_k».proof.Proof.Gen.KernelCmInFirstIdeal.Value
public import proofs.«01_k».proof.Proof.Gen.ReferenceCmInFirstIdeal.Read
public import Idealize.ShloMosaic.Adequacy
public import Idealize.ShloMosaic.Init

@[expose] public section

set_option maxRecDepth 16384

noncomputable section

namespace Cert.KernelCmInFirstIdeal

open Idealize.ShloMosaic Idealize.ShloMosaic.TcCoe Idealize.SL.Sem Cert.Blocks Cert.KernelCmInFirstIdeal.Gen
  Cert.ReferenceCmInFirstIdeal.Read

/-- A point of the grid is a block of rows, a block of columns and a step of the inner axis. -/
def bi (t : Fin grid0.N) : Fin 2 := grid0.coords t 0
def bj (t : Fin grid0.N) : Fin 2 := grid0.coords t 1
def bk (t : Fin grid0.N) : Fin 1 := grid0.coords t 2
theorem step_lt : ∀ (t : Fin grid0.N) (s : Fin 1), 1 * (t.val / 1) + s.val < grid0.N := by decide +kernel
/-- The steps of a point's block. -/
def st (t : Fin grid0.N) (s : Fin 1) : Fin grid0.N := ⟨1 * (t.val / 1) + s.val, step_lt t s⟩
theorem run_steps : ∀ (t : Fin grid0.N) (s : Fin 1), bi (st t s) = bi t ∧ bj (st t s) = bj t ∧ bk (st t s) = s := by decide +kernel

/-- An index of the array, from its block's number and the index there. -/
def atI (n : Fin 2) (x : Fin 1152) : Fin 2304 := ⟨n.val * 1152 + x.val, by omega⟩
def atJ (n : Fin 2) (x : Fin 1024) : Fin 2048 := ⟨n.val * 1024 + x.val, by omega⟩
def atK (n : Fin 1) (x : Fin 1024) : Fin 1024 := ⟨n.val * 1024 + x.val, by omega⟩

theorem index : ∀ t : Fin grid0.N,
    (∀ a, win0_0.index t a = (![(bi t).val, (bk t).val] : Fin 2 → Nat) a) ∧
    (∀ a, win0_1.index t a = (![(bk t).val, (bj t).val] : Fin 2 → Nat) a) ∧
    (∀ a, win0_2.index t a = (![(bi t).val, (bj t).val] : Fin 2 → Nat) a) := by decide +kernel

theorem place0 (t : Fin cfg0.N) (x : Fin 1152) (y : Fin 1024) :
    (win0_0.rect t).emb (ix2 x y : S1152x1024.Idx) = (ix2 (atI (bi t) x) (atK (bk t) y) : S2304x1024.Idx) := by
  refine funext fun a => Fin.ext ((win0_0.rect_emb_val t _ a).trans ?_)
  rw [(index t).1 a]
  match a with
  | ⟨0, _⟩ => rfl
  | ⟨1, _⟩ => rfl
theorem place1 (t : Fin cfg0.N) (x : Fin 1024) (y : Fin 1024) :
    (win0_1.rect t).emb (ix2 x y : S1024x1024.Idx) = (ix2 (atK (bk t) x) (atJ (bj t) y) : S1024x2048.Idx) := by
  refine funext fun a => Fin.ext ((win0_1.rect_emb_val t _ a).trans ?_)
  rw [(index t).2.1 a]
  match a with
  | ⟨0, _⟩ => rfl
  | ⟨1, _⟩ => rfl
theorem place2 (t : Fin cfg0.N) (x : Fin 1152) (y : Fin 1024) :
    (win0_2.rect t).emb (ix2 x y : S1152x1024.Idx) = (ix2 (atI (bi t) x) (atJ (bj t) y) : S2304x2048.Idx) := by
  refine funext fun a => Fin.ext ((win0_2.rect_emb_val t _ a).trans ?_)
  rw [(index t).2.2 a]
  match a with
  | ⟨0, _⟩ => rfl
  | ⟨1, _⟩ => rfl

/-- A step adds its part of the inner axis to what the block holds. -/
theorem step_apply (acc : Vec Ideal S1152x1024 .f32) (A : Vec Ideal S1152x1024 .bf16) (B : Vec Ideal S1024x1024 .bf16) (p : Fin 1152) (q : Fin 1024) :
    k0_pay2 (F := Ideal) acc A B (ix2 p q) = acc (ix2 p q) + ∑ k : Fin 1024, A (ix2 p k) * B (ix2 k q) := by
  pointwise [k0_pay2]

/-- The block is cleared before the first step. -/
theorem clear_apply (p : Fin 1152) (q : Fin 1024) : k0_pay1 (F := Ideal) (ix2 p q) = 0 := by
  pointwise [k0_pay1]

variable (m : (ℓ : Loc nD τ sig) → Buf (Elt Ideal) ℓ) (c : Dev nD)

/-- The two arrays the call is given, and their blocks at a point. -/
def arrA : S2304x1024.Idx → EReal := m ((c : Thread nD τ).loc main_arg0)
def arrB : S1024x2048.Idx → EReal := m ((c : Thread nD τ).loc main_arg1)
def blkA (t : Fin cfg0.N) : S1152x1024.Idx → EReal := iblk m c 0 t
def blkB (t : Fin cfg0.N) : S1024x1024.Idx → EReal := iblk m c 1 t

theorem blkA_apply (t : Fin cfg0.N) (x : Fin 1152) (y : Fin 1024) : blkA m c t (ix2 x y) = arrA m c (ix2 (atI (bi t) x) (atK (bk t) y)) :=
  congrArg (arrA m c) (place0 t x y)

theorem blkB_apply (t : Fin cfg0.N) (x : Fin 1024) (y : Fin 1024) : blkB m c t (ix2 x y) = arrB m c (ix2 (atK (bk t) x) (atJ (bj t) y)) :=
  congrArg (arrB m c) (place1 t x y)

/-- What the step of point `t` adds at a place of the block. -/
def part (t : Fin cfg0.N) (y : S1152x1024.Idx) : EReal := ∑ k : Fin 1024, blkA m c t (ix2 (y 0) k) * blkB m c t (ix2 k (y 1))

/-- What the block holds when it is written back. -/
theorem after_eq (t : Fin cfg0.N) (p : Fin 1152) (q : Fin 1024) :
    (dats m 0 c).after 2 t (ix2 p q : S1152x1024.Idx) = ∑ s : Fin 1, part m c (st t s) (ix2 p q) := by
  have e : ∀ s : Fin 1, st t s = t := fun s => Fin.ext (by show 1 * (t.val / 1) + s.val = t.val; omega)
  rw [after0_2, Fin.sum_univ_one, e]
  unfold outsAt0
  frame_out
  rw [step_apply, clear_apply, zero_add]
  rfl

/-- The product of the two arrays. -/
def whole (y : S2304x2048.Idx) : EReal := ∑ k : Fin 1024, arrA m c (ix2 (y 0) k) * arrB m c (ix2 k (y 1))

theorem left (t : Fin cfg0.N) (hf : (cfg0.win 2).flush t = true) (y : S1152x1024.Idx) :
    (dats m 0 c).after 2 t y = whole m c ((win0_2.rect t).emb y) := by
  obtain ⟨p, q, rfl⟩ := idx2 y
  rw [place2]
  refine (after_eq m c t p q).trans ?_
  refine Fin.sum_mul_add_congr (F := fun s k => blkA m c (st t s) (ix2 p k)
    * blkB m c (st t s) (ix2 k q)) (fun s k hl => ?_)
  obtain ⟨e1, e2, e3⟩ := run_steps t s
  show blkA m c _ _ * blkB m c _ _ = _
  rw [blkA_apply, blkB_apply, e1, e2, e3]
  rfl

/-- Every place of the result is in some point's block. -/
theorem onto : ∀ (i : Fin 2) (j : Fin 2), ∃ t, win0_2.flush t = true ∧ bi t = i ∧ bj t = j := by decide +kernel

theorem cover (y : S2304x2048.Idx) : ∃ t, (cfg0.win 2).flush t = true ∧ y ∈ ((cfg0.win 2).blk t).view.set := by
  obtain ⟨r, s, rfl⟩ := idx2 y
  obtain ⟨i, p, rfl⟩ : ∃ i p, r = atI i p :=
    ⟨⟨r.val / 1152, by omega⟩, ⟨r.val % 1152, by omega⟩, Fin.ext (show r.val = r.val / 1152 * 1152 + r.val % 1152 by omega)⟩
  obtain ⟨j, q, rfl⟩ : ∃ j q, s = atJ j q :=
    ⟨⟨s.val / 1024, by omega⟩, ⟨s.val % 1024, by omega⟩, Fin.ext (show s.val = s.val / 1024 * 1024 + s.val % 1024 by omega)⟩
  obtain ⟨t, h, rfl, rfl⟩ := onto i j
  exact ⟨t, h, (place2 t p q) ▸ View.emb_mem_set _ _⟩

/-- The array the call leaves. -/
theorem end_eq : (dats m 0 c).arrAt 2 cfg0.N = whole m c :=
  (dats m 0 c).arrAt_eq_of_cover 2 (whole m c) (fun t hf => funext fun y => left m c t hf y) cover

/-- The reference's result is the same product. -/
theorem ref_eq (A : ReferenceCmInFirstIdeal.S2304x1024.Idx → EReal) (B : ReferenceCmInFirstIdeal.S1024x2048.Idx → EReal) (hA : A = arrA m c) (hB : B = arrB m c) :
    val_main_v2 (F := Ideal) A B = whole m c := by
  subst hA hB
  funext y
  obtain ⟨p, q, rfl⟩ := idx2 y
  pointwise [val_main_v0, val_main_v1, val_main_v2]
  rfl

end Cert.KernelCmInFirstIdeal

namespace Cert

open Idealize.ShloMosaic Idealize.SL.Sem

/-- Over the reals the call's result is the reference's. -/
theorem algebraic_CmInFirst : algebraic_KernelCmInFirstIdeal_ReferenceCmInFirstIdeal (hKernelCmInFirstIdeal := KernelCmInFirstIdeal.Gen.facts)
    (hReferenceCmInFirstIdeal := ReferenceCmInFirstIdeal.Gen.facts) :=
  fun m g m' g' _ hargs => ⟨fun c => KernelCmInFirstIdeal.whole m c,
    (θ_run _ _ _).mono (fun _ h c => ⟨(h c).1.trans (KernelCmInFirstIdeal.end_eq m c), (h c).2⟩) (KernelCmInFirstIdeal.Value.run_blocks m g),
    (θ_run _ _ _).mono (fun _ h c => ⟨(h c).1.trans (KernelCmInFirstIdeal.ref_eq m c _ _ (hargs c).1 (hargs c).2), (h c).2⟩)
      (ReferenceCmInFirstIdeal.Value.run m' g')⟩

/-- The reference leaves its arguments and all semaphores as they were. -/
theorem frame_ReferenceCmInFirstIdeal : quiescent_ReferenceCmInFirstIdeal (hReferenceCmInFirstIdeal := ReferenceCmInFirstIdeal.Gen.facts) :=
  fun m g _ => (θ_run _ _ _).mono (fun _ h => ⟨fun c => (h c).2, sem_eq_zero_of_no_sems (by decide) _⟩) (ReferenceCmInFirstIdeal.Value.run m g)

end Cert

end
-- ==== Proof.CmInFirstDw.lean ====
/- The call computing the gradient of the product by its weights, 2304x1024 by 2304x2048: the 2 steps of the inner axis add up in a block of
   the result, and the blocks are the whole product. -/
module

public import proofs.«01_k».proof.Defs
public import proofs.«01_k».proof.Proof.Blocks
public import proofs.«01_k».proof.Proof.Gen.KernelCmInFirstDw.Frame
public import proofs.«01_k».proof.Proof.Gen.KernelCmInFirstDwIdeal.Value
public import proofs.«01_k».proof.Proof.Gen.ReferenceCmInFirstDwIdeal.Read
public import Idealize.ShloMosaic.Adequacy
public import Idealize.ShloMosaic.Init

@[expose] public section

set_option maxRecDepth 16384

noncomputable section

namespace Cert.KernelCmInFirstDwIdeal

open Idealize.ShloMosaic Idealize.ShloMosaic.TcCoe Idealize.SL.Sem Cert.Blocks Cert.KernelCmInFirstDwIdeal.Gen
  Cert.ReferenceCmInFirstDwIdeal.Read

/-- A point of the grid is a block of rows, a block of columns and a step of the inner axis. -/
def bi (t : Fin grid0.N) : Fin 1 := grid0.coords t 0
def bj (t : Fin grid0.N) : Fin 2 := grid0.coords t 1
def bk (t : Fin grid0.N) : Fin 2 := grid0.coords t 2
theorem step_lt : ∀ (t : Fin grid0.N) (s : Fin 2), 2 * (t.val / 2) + s.val < grid0.N := by decide +kernel
/-- The steps of a point's block. -/
def st (t : Fin grid0.N) (s : Fin 2) : Fin grid0.N := ⟨2 * (t.val / 2) + s.val, step_lt t s⟩
theorem run_steps : ∀ (t : Fin grid0.N) (s : Fin 2), bi (st t s) = bi t ∧ bj (st t s) = bj t ∧ bk (st t s) = s := by decide +kernel

/-- An index of the array, from its block's number and the index there. -/
def atI (n : Fin 1) (x : Fin 1024) : Fin 1024 := ⟨n.val * 1024 + x.val, by omega⟩
def atJ (n : Fin 2) (x : Fin 1024) : Fin 2048 := ⟨n.val * 1024 + x.val, by omega⟩
def atK (n : Fin 2) (x : Fin 1152) : Fin 2304 := ⟨n.val * 1152 + x.val, by omega⟩

theorem index : ∀ t : Fin grid0.N,
    (∀ a, win0_0.index t a = (![(bk t).val, (bi t).val] : Fin 2 → Nat) a) ∧
    (∀ a, win0_1.index t a = (![(bk t).val, (bj t).val] : Fin 2 → Nat) a) ∧
    (∀ a, win0_2.index t a = (![(bi t).val, (bj t).val] : Fin 2 → Nat) a) := by decide +kernel

theorem place0 (t : Fin cfg0.N) (x : Fin 1152) (y : Fin 1024) :
    (win0_0.rect t).emb (ix2 x y : S1152x1024.Idx) = (ix2 (atK (bk t) x) (atI (bi t) y) : S2304x1024.Idx) := by
  refine funext fun a => Fin.ext ((win0_0.rect_emb_val t _ a).trans ?_)
  rw [(index t).1 a]
  match a with
  | ⟨0, _⟩ => rfl
  | ⟨1, _⟩ => rfl
theorem place1 (t : Fin cfg0.N) (x : Fin 1152) (y : Fin 1024) :
    (win0_1.rect t).emb (ix2 x y : S1152x1024.Idx) = (ix2 (atK (bk t) x) (atJ (bj t) y) : S2304x2048.Idx) := by
  refine funext fun a => Fin.ext ((win0_1.rect_emb_val t _ a).trans ?_)
  rw [(index t).2.1 a]
  match a with
  | ⟨0, _⟩ => rfl
  | ⟨1, _⟩ => rfl
theorem place2 (t : Fin cfg0.N) (x : Fin 1024) (y : Fin 1024) :
    (win0_2.rect t).emb (ix2 x y : S1024x1024.Idx) = (ix2 (atI (bi t) x) (atJ (bj t) y) : S1024x2048.Idx) := by
  refine funext fun a => Fin.ext ((win0_2.rect_emb_val t _ a).trans ?_)
  rw [(index t).2.2 a]
  match a with
  | ⟨0, _⟩ => rfl
  | ⟨1, _⟩ => rfl

/-- A step adds its part of the inner axis to what the block holds. -/
theorem step_apply (acc : Vec Ideal S1024x1024 .f32) (A : Vec Ideal S1152x1024 .bf16) (B : Vec Ideal S1152x1024 .bf16) (p : Fin 1024) (q : Fin 1024) :
    k0_pay2 (F := Ideal) acc A B (ix2 p q) = acc (ix2 p q) + ∑ k : Fin 1152, A (ix2 k p) * B (ix2 k q) := by
  pointwise [k0_pay2]

/-- The block is cleared before the first step. -/
theorem clear_apply (p : Fin 1024) (q : Fin 1024) : k0_pay1 (F := Ideal) (ix2 p q) = 0 := by
  pointwise [k0_pay1]

/-- The cast of the finished block. -/
theorem cast_apply (X : Vec Ideal S1024x1024 .f32) (p : Fin 1024) (q : Fin 1024) : k0_pay3 (F := Ideal) X (ix2 p q) = X (ix2 p q) := by
  pointwise [k0_pay3]

variable (m : (ℓ : Loc nD τ sig) → Buf (Elt Ideal) ℓ) (c : Dev nD)

/-- The two arrays the call is given, and their blocks at a point. -/
def arrA : S2304x1024.Idx → EReal := m ((c : Thread nD τ).loc main_arg0)
def arrB : S2304x2048.Idx → EReal := m ((c : Thread nD τ).loc main_arg1)
def blkA (t : Fin cfg0.N) : S1152x1024.Idx → EReal := iblk m c 0 t
def blkB (t : Fin cfg0.N) : S1152x1024.Idx → EReal := iblk m c 1 t

theorem blkA_apply (t : Fin cfg0.N) (x : Fin 1152) (y : Fin 1024) : blkA m c t (ix2 x y) = arrA m c (ix2 (atK (bk t) x) (atI (bi t) y)) :=
  congrArg (arrA m c) (place0 t x y)

theorem blkB_apply (t : Fin cfg0.N) (x : Fin 1152) (y : Fin 1024) : blkB m c t (ix2 x y) = arrB m c (ix2 (atK (bk t) x) (atJ (bj t) y)) :=
  congrArg (arrB m c) (place1 t x y)

/-- What the step of point `t` adds at a place of the block. -/
def part (t : Fin cfg0.N) (y : S1024x1024.Idx) : EReal := ∑ k : Fin 1152, blkA m c t (ix2 k (y 0)) * blkB m c t (ix2 k (y 1))

theorem first (t : Fin cfg0.N) (h : t.val % 2 = 0) (y : S1024x1024.Idx) : (outsAt0 m c t.val t.isLt).2 y = 0 + part m c t y := by
  obtain ⟨p, q, rfl⟩ := idx2 y
  rw [outsAt0_A m c t h (by omega)]
  frame_out
  rw [step_apply, clear_apply]
  rfl

theorem next (t : Fin cfg0.N) (h : ¬t.val % 2 = 0) (y : S1024x1024.Idx) : (outsAt0 m c t.val t.isLt).2 y
    = (outsAt0 m c (t.val - 1) (Nat.lt_of_le_of_lt (Nat.sub_le _ _) t.isLt)).2 y + part m c t y := by
  obtain ⟨p, q, rfl⟩ := idx2 y
  rw [outsAt0_B m c t h (by omega)]
  frame_out
  rw [step_apply]
  exact congrArg₂ (fun x y : EReal => x + y) (congrFun ((Memref.isWhole_whole cc0_scratch0).read_unread _) _) rfl

/-- The last step hands the finished sum out. -/
theorem last (t : Fin cfg0.N) (h : t.val % 2 = 1) (p : Fin 1024) (q : Fin 1024) :
    (outsAt0 m c t.val t.isLt).1 (ix2 p q) = (outsAt0 m c t.val t.isLt).2 (ix2 p q) := by
  rw [outsAt0_B m c t (by omega) h]
  frame_out
  rw [cast_apply]

/-- What the block holds when it is written back. -/
theorem after_eq (t : Fin cfg0.N) (h : t.val % 2 = 1) (p : Fin 1024) (q : Fin 1024) :
    (dats m 0 c).after 2 t (ix2 p q : S1024x1024.Idx)
      = ∑ s : Fin 2, part m c (st t s) (ix2 p q) := by
  rw [after0_2]
  refine (last m c t h p q).trans ?_
  refine (Pipeline.eq_sum_fin_of_reset_step_apply_of_flush (fun n h => (outsAt0 m c n h).2) 2 (fun _ => 0) (part m c)
    (first m c) (next m c) t h _).trans ?_
  exact zero_add _

/-- The product of the two arrays. -/
def whole (y : S1024x2048.Idx) : EReal := ∑ k : Fin 2304, arrA m c (ix2 k (y 0)) * arrB m c (ix2 k (y 1))

theorem left (t : Fin cfg0.N) (hf : (cfg0.win 2).flush t = true) (y : S1024x1024.Idx) :
    (dats m 0 c).after 2 t y = whole m c ((win0_2.rect t).emb y) := by
  obtain ⟨p, q, rfl⟩ := idx2 y
  rw [place2]
  refine (after_eq m c t ((flush0_2 t).mp hf) p q).trans ?_
  refine Fin.sum_mul_add_congr (F := fun s k => blkA m c (st t s) (ix2 k p)
    * blkB m c (st t s) (ix2 k q)) (fun s k hl => ?_)
  obtain ⟨e1, e2, e3⟩ := run_steps t s
  show blkA m c _ _ * blkB m c _ _ = _
  rw [blkA_apply, blkB_apply, e1, e2, e3]
  rfl

/-- The array the call leaves. -/
theorem end_eq : (dats m 0 c).arrAt 2 cfg0.N = whole m c :=
  (dats m 0 c).arrAt_eq_of_cover 2 (whole m c) (fun t hf => funext fun y => left m c t hf y)
    fun i => (Value.covered_iff2 i).2 ⟨Nat.zero_le _, (i 0).isLt, Nat.zero_le _, (i 1).isLt⟩

/-- The reference's result is the same product. -/
theorem ref_eq (A : ReferenceCmInFirstDwIdeal.S2304x1024.Idx → EReal) (B : ReferenceCmInFirstDwIdeal.S2304x2048.Idx → EReal) (hA : A = arrA m c) (hB : B = arrB m c) :
    val_main_v6 (F := Ideal) A B = whole m c := by
  subst hA hB
  funext y
  obtain ⟨p, q, rfl⟩ := idx2 y
  pointwise [val_main_v1, val_main_v3, val_main_v4, val_main_v5, val_main_v6]
  exact Finset.sum_congr rfl fun k _ => mul_comm _ _

end Cert.KernelCmInFirstDwIdeal

namespace Cert

open Idealize.ShloMosaic Idealize.SL.Sem

/-- Over the reals the call's result is the reference's. -/
theorem algebraic_CmInFirstDw : algebraic_KernelCmInFirstDwIdeal_ReferenceCmInFirstDwIdeal (hKernelCmInFirstDwIdeal := KernelCmInFirstDwIdeal.Gen.facts)
    (hReferenceCmInFirstDwIdeal := ReferenceCmInFirstDwIdeal.Gen.facts) :=
  fun m g m' g' _ hargs => ⟨fun c => KernelCmInFirstDwIdeal.whole m c,
    (θ_run _ _ _).mono (fun _ h c => ⟨(h c).1.trans (KernelCmInFirstDwIdeal.end_eq m c), (h c).2⟩) (KernelCmInFirstDwIdeal.Value.run_blocks m g),
    (θ_run _ _ _).mono (fun _ h c => ⟨(h c).1.trans (KernelCmInFirstDwIdeal.ref_eq m c _ _ (hargs c).1 (hargs c).2), (h c).2⟩)
      (ReferenceCmInFirstDwIdeal.Value.run m' g')⟩

/-- The reference leaves its arguments and all semaphores as they were. -/
theorem frame_ReferenceCmInFirstDwIdeal : quiescent_ReferenceCmInFirstDwIdeal (hReferenceCmInFirstDwIdeal := ReferenceCmInFirstDwIdeal.Gen.facts) :=
  fun m g _ => (θ_run _ _ _).mono (fun _ h => ⟨fun c => (h c).2, sem_eq_zero_of_no_sems (by decide) _⟩) (ReferenceCmInFirstDwIdeal.Value.run m g)

end Cert

end
-- ==== Proof.CmInFirstDx.lean ====
/- The call computing the gradient of the product by its rows, 2304x2048 by 1024x2048: the 2 steps of the inner axis add up in a block of
   the result, and the blocks are the whole product. -/
module

public import proofs.«01_k».proof.Defs
public import proofs.«01_k».proof.Proof.Blocks
public import proofs.«01_k».proof.Proof.Gen.KernelCmInFirstDx.Frame
public import proofs.«01_k».proof.Proof.Gen.KernelCmInFirstDxIdeal.Value
public import proofs.«01_k».proof.Proof.Gen.ReferenceCmInFirstDxIdeal.Read
public import Idealize.ShloMosaic.Adequacy
public import Idealize.ShloMosaic.Init

@[expose] public section

set_option maxRecDepth 16384

noncomputable section

namespace Cert.KernelCmInFirstDxIdeal

open Idealize.ShloMosaic Idealize.ShloMosaic.TcCoe Idealize.SL.Sem Cert.Blocks Cert.KernelCmInFirstDxIdeal.Gen
  Cert.ReferenceCmInFirstDxIdeal.Read

/-- A point of the grid is a block of rows, a block of columns and a step of the inner axis. -/
def bi (t : Fin grid0.N) : Fin 2 := grid0.coords t 0
def bj (t : Fin grid0.N) : Fin 1 := grid0.coords t 1
def bk (t : Fin grid0.N) : Fin 2 := grid0.coords t 2
theorem step_lt : ∀ (t : Fin grid0.N) (s : Fin 2), 2 * (t.val / 2) + s.val < grid0.N := by decide +kernel
/-- The steps of a point's block. -/
def st (t : Fin grid0.N) (s : Fin 2) : Fin grid0.N := ⟨2 * (t.val / 2) + s.val, step_lt t s⟩
theorem run_steps : ∀ (t : Fin grid0.N) (s : Fin 2), bi (st t s) = bi t ∧ bj (st t s) = bj t ∧ bk (st t s) = s := by decide +kernel

/-- An index of the array, from its block's number and the index there. -/
def atI (n : Fin 2) (x : Fin 1152) : Fin 2304 := ⟨n.val * 1152 + x.val, by omega⟩
def atJ (n : Fin 1) (x : Fin 1024) : Fin 1024 := ⟨n.val * 1024 + x.val, by omega⟩
def atK (n : Fin 2) (x : Fin 1024) : Fin 2048 := ⟨n.val * 1024 + x.val, by omega⟩

theorem index : ∀ t : Fin grid0.N,
    (∀ a, win0_0.index t a = (![(bi t).val, (bk t).val] : Fin 2 → Nat) a) ∧
    (∀ a, win0_1.index t a = (![(bj t).val, (bk t).val] : Fin 2 → Nat) a) ∧
    (∀ a, win0_2.index t a = (![(bi t).val, (bj t).val] : Fin 2 → Nat) a) := by decide +kernel

theorem place0 (t : Fin cfg0.N) (x : Fin 1152) (y : Fin 1024) :
    (win0_0.rect t).emb (ix2 x y : S1152x1024.Idx) = (ix2 (atI (bi t) x) (atK (bk t) y) : S2304x2048.Idx) := by
  refine funext fun a => Fin.ext ((win0_0.rect_emb_val t _ a).trans ?_)
  rw [(index t).1 a]
  match a with
  | ⟨0, _⟩ => rfl
  | ⟨1, _⟩ => rfl
theorem place1 (t : Fin cfg0.N) (x : Fin 1024) (y : Fin 1024) :
    (win0_1.rect t).emb (ix2 x y : S1024x1024.Idx) = (ix2 (atJ (bj t) x) (atK (bk t) y) : S1024x2048.Idx) := by
  refine funext fun a => Fin.ext ((win0_1.rect_emb_val t _ a).trans ?_)
  rw [(index t).2.1 a]
  match a with
  | ⟨0, _⟩ => rfl
  | ⟨1, _⟩ => rfl
theorem place2 (t : Fin cfg0.N) (x : Fin 1152) (y : Fin 1024) :
    (win0_2.rect t).emb (ix2 x y : S1152x1024.Idx) = (ix2 (atI (bi t) x) (atJ (bj t) y) : S2304x1024.Idx) := by
  refine funext fun a => Fin.ext ((win0_2.rect_emb_val t _ a).trans ?_)
  rw [(index t).2.2 a]
  match a with
  | ⟨0, _⟩ => rfl
  | ⟨1, _⟩ => rfl

/-- A step adds its part of the inner axis to what the block holds. -/
theorem step_apply (acc : Vec Ideal S1152x1024 .f32) (A : Vec Ideal S1152x1024 .bf16) (B : Vec Ideal S1024x1024 .bf16) (p : Fin 1152) (q : Fin 1024) :
    k0_pay2 (F := Ideal) acc A B (ix2 p q) = acc (ix2 p q) + ∑ k : Fin 1024, A (ix2 p k) * B (ix2 q k) := by
  pointwise [k0_pay2]

/-- The block is cleared before the first step. -/
theorem clear_apply (p : Fin 1152) (q : Fin 1024) : k0_pay1 (F := Ideal) (ix2 p q) = 0 := by
  pointwise [k0_pay1]

variable (m : (ℓ : Loc nD τ sig) → Buf (Elt Ideal) ℓ) (c : Dev nD)

/-- The two arrays the call is given, and their blocks at a point. -/
def arrA : S2304x2048.Idx → EReal := m ((c : Thread nD τ).loc main_arg0)
def arrB : S1024x2048.Idx → EReal := m ((c : Thread nD τ).loc main_arg1)
def blkA (t : Fin cfg0.N) : S1152x1024.Idx → EReal := iblk m c 0 t
def blkB (t : Fin cfg0.N) : S1024x1024.Idx → EReal := iblk m c 1 t

theorem blkA_apply (t : Fin cfg0.N) (x : Fin 1152) (y : Fin 1024) : blkA m c t (ix2 x y) = arrA m c (ix2 (atI (bi t) x) (atK (bk t) y)) :=
  congrArg (arrA m c) (place0 t x y)

theorem blkB_apply (t : Fin cfg0.N) (x : Fin 1024) (y : Fin 1024) : blkB m c t (ix2 x y) = arrB m c (ix2 (atJ (bj t) x) (atK (bk t) y)) :=
  congrArg (arrB m c) (place1 t x y)

/-- What the step of point `t` adds at a place of the block. -/
def part (t : Fin cfg0.N) (y : S1152x1024.Idx) : EReal := ∑ k : Fin 1024, blkA m c t (ix2 (y 0) k) * blkB m c t (ix2 (y 1) k)

theorem first (t : Fin cfg0.N) (h : t.val % 2 = 0) (y : S1152x1024.Idx) : (outsAt0 m c t.val t.isLt).2 y = 0 + part m c t y := by
  obtain ⟨p, q, rfl⟩ := idx2 y
  rw [outsAt0_A m c t h (by omega)]
  frame_out
  rw [step_apply, clear_apply]
  rfl

theorem next (t : Fin cfg0.N) (h : ¬t.val % 2 = 0) (y : S1152x1024.Idx) : (outsAt0 m c t.val t.isLt).2 y
    = (outsAt0 m c (t.val - 1) (Nat.lt_of_le_of_lt (Nat.sub_le _ _) t.isLt)).2 y + part m c t y := by
  obtain ⟨p, q, rfl⟩ := idx2 y
  rw [outsAt0_B m c t h (by omega)]
  frame_out
  rw [step_apply]
  exact congrArg₂ (fun x y : EReal => x + y) (congrFun ((Memref.isWhole_whole cc0_scratch0).read_unread _) _) rfl

/-- The last step hands the finished sum out. -/
theorem last (t : Fin cfg0.N) (h : t.val % 2 = 1) (p : Fin 1152) (q : Fin 1024) :
    (outsAt0 m c t.val t.isLt).1 (ix2 p q) = (outsAt0 m c t.val t.isLt).2 (ix2 p q) := by
  rw [outsAt0_B m c t (by omega) h]
  frame_out
  try rfl

/-- What the block holds when it is written back. -/
theorem after_eq (t : Fin cfg0.N) (h : t.val % 2 = 1) (p : Fin 1152) (q : Fin 1024) :
    (dats m 0 c).after 2 t (ix2 p q : S1152x1024.Idx)
      = ∑ s : Fin 2, part m c (st t s) (ix2 p q) := by
  rw [after0_2]
  refine (last m c t h p q).trans ?_
  refine (Pipeline.eq_sum_fin_of_reset_step_apply_of_flush (fun n h => (outsAt0 m c n h).2) 2 (fun _ => 0) (part m c)
    (first m c) (next m c) t h _).trans ?_
  exact zero_add _

/-- The product of the two arrays. -/
def whole (y : S2304x1024.Idx) : EReal := ∑ k : Fin 2048, arrA m c (ix2 (y 0) k) * arrB m c (ix2 (y 1) k)

theorem left (t : Fin cfg0.N) (hf : (cfg0.win 2).flush t = true) (y : S1152x1024.Idx) :
    (dats m 0 c).after 2 t y = whole m c ((win0_2.rect t).emb y) := by
  obtain ⟨p, q, rfl⟩ := idx2 y
  rw [place2]
  refine (after_eq m c t ((flush0_2 t).mp hf) p q).trans ?_
  refine Fin.sum_mul_add_congr (F := fun s k => blkA m c (st t s) (ix2 p k)
    * blkB m c (st t s) (ix2 q k)) (fun s k hl => ?_)
  obtain ⟨e1, e2, e3⟩ := run_steps t s
  show blkA m c _ _ * blkB m c _ _ = _
  rw [blkA_apply, blkB_apply, e1, e2, e3]
  rfl

/-- The array the call leaves. -/
theorem end_eq : (dats m 0 c).arrAt 2 cfg0.N = whole m c :=
  (dats m 0 c).arrAt_eq_of_cover 2 (whole m c) (fun t hf => funext fun y => left m c t hf y)
    fun i => (Value.covered_iff2 i).2 ⟨Nat.zero_le _, (i 0).isLt, Nat.zero_le _, (i 1).isLt⟩

/-- The reference's result is the same product. -/
theorem ref_eq (A : ReferenceCmInFirstDxIdeal.S2304x2048.Idx → EReal) (B : ReferenceCmInFirstDxIdeal.S1024x2048.Idx → EReal) (hA : A = arrA m c) (hB : B = arrB m c) :
    val_main_v4 (F := Ideal) A B = whole m c := by
  subst hA hB
  funext y
  obtain ⟨p, q, rfl⟩ := idx2 y
  pointwise [val_main_v1, val_main_v3, val_main_v4]
  rfl

end Cert.KernelCmInFirstDxIdeal

namespace Cert

open Idealize.ShloMosaic Idealize.SL.Sem

/-- Over the reals the call's result is the reference's. -/
theorem algebraic_CmInFirstDx : algebraic_KernelCmInFirstDxIdeal_ReferenceCmInFirstDxIdeal (hKernelCmInFirstDxIdeal := KernelCmInFirstDxIdeal.Gen.facts)
    (hReferenceCmInFirstDxIdeal := ReferenceCmInFirstDxIdeal.Gen.facts) :=
  fun m g m' g' _ hargs => ⟨fun c => KernelCmInFirstDxIdeal.whole m c,
    (θ_run _ _ _).mono (fun _ h c => ⟨(h c).1.trans (KernelCmInFirstDxIdeal.end_eq m c), (h c).2⟩) (KernelCmInFirstDxIdeal.Value.run_blocks m g),
    (θ_run _ _ _).mono (fun _ h c => ⟨(h c).1.trans (KernelCmInFirstDxIdeal.ref_eq m c _ _ (hargs c).1 (hargs c).2), (h c).2⟩)
      (ReferenceCmInFirstDxIdeal.Value.run m' g')⟩

/-- The reference leaves its arguments and all semaphores as they were. -/
theorem frame_ReferenceCmInFirstDxIdeal : quiescent_ReferenceCmInFirstDxIdeal (hReferenceCmInFirstDxIdeal := ReferenceCmInFirstDxIdeal.Gen.facts) :=
  fun m g _ => (θ_run _ _ _).mono (fun _ h => ⟨fun c => (h c).2, sem_eq_zero_of_no_sems (by decide) _⟩) (ReferenceCmInFirstDxIdeal.Value.run m g)

end Cert

end
-- ==== Proof.CmOutFirst.lean ====
/- The call computing the rows times the weights, 2304x1024 by 1024x1024: its one step of the inner axis fills a block of
   the result, and the blocks are the whole product. -/
module

public import proofs.«01_k».proof.Defs
public import proofs.«01_k».proof.Proof.Blocks
public import proofs.«01_k».proof.Proof.Gen.KernelCmOutFirst.Frame
public import proofs.«01_k».proof.Proof.Gen.KernelCmOutFirstIdeal.Value
public import proofs.«01_k».proof.Proof.Gen.ReferenceCmOutFirstIdeal.Read
public import Idealize.ShloMosaic.Adequacy
public import Idealize.ShloMosaic.Init

@[expose] public section

set_option maxRecDepth 16384

noncomputable section

namespace Cert.KernelCmOutFirstIdeal

open Idealize.ShloMosaic Idealize.ShloMosaic.TcCoe Idealize.SL.Sem Cert.Blocks Cert.KernelCmOutFirstIdeal.Gen
  Cert.ReferenceCmOutFirstIdeal.Read

/-- A point of the grid is a block of rows, a block of columns and a step of the inner axis. -/
def bi (t : Fin grid0.N) : Fin 2 := grid0.coords t 0
def bj (t : Fin grid0.N) : Fin 1 := grid0.coords t 1
def bk (t : Fin grid0.N) : Fin 1 := grid0.coords t 2
theorem step_lt : ∀ (t : Fin grid0.N) (s : Fin 1), 1 * (t.val / 1) + s.val < grid0.N := by decide +kernel
/-- The steps of a point's block. -/
def st (t : Fin grid0.N) (s : Fin 1) : Fin grid0.N := ⟨1 * (t.val / 1) + s.val, step_lt t s⟩
theorem run_steps : ∀ (t : Fin grid0.N) (s : Fin 1), bi (st t s) = bi t ∧ bj (st t s) = bj t ∧ bk (st t s) = s := by decide +kernel

/-- An index of the array, from its block's number and the index there. -/
def atI (n : Fin 2) (x : Fin 1152) : Fin 2304 := ⟨n.val * 1152 + x.val, by omega⟩
def atJ (n : Fin 1) (x : Fin 1024) : Fin 1024 := ⟨n.val * 1024 + x.val, by omega⟩
def atK (n : Fin 1) (x : Fin 1024) : Fin 1024 := ⟨n.val * 1024 + x.val, by omega⟩

theorem index : ∀ t : Fin grid0.N,
    (∀ a, win0_0.index t a = (![(bi t).val, (bk t).val] : Fin 2 → Nat) a) ∧
    (∀ a, win0_1.index t a = (![(bk t).val, (bj t).val] : Fin 2 → Nat) a) ∧
    (∀ a, win0_2.index t a = (![(bi t).val, (bj t).val] : Fin 2 → Nat) a) := by decide +kernel

theorem place0 (t : Fin cfg0.N) (x : Fin 1152) (y : Fin 1024) :
    (win0_0.rect t).emb (ix2 x y : S1152x1024.Idx) = (ix2 (atI (bi t) x) (atK (bk t) y) : S2304x1024.Idx) := by
  refine funext fun a => Fin.ext ((win0_0.rect_emb_val t _ a).trans ?_)
  rw [(index t).1 a]
  match a with
  | ⟨0, _⟩ => rfl
  | ⟨1, _⟩ => rfl
theorem place1 (t : Fin cfg0.N) (x : Fin 1024) (y : Fin 1024) :
    (win0_1.rect t).emb (ix2 x y : S1024x1024.Idx) = (ix2 (atK (bk t) x) (atJ (bj t) y) : S1024x1024.Idx) := by
  refine funext fun a => Fin.ext ((win0_1.rect_emb_val t _ a).trans ?_)
  rw [(index t).2.1 a]
  match a with
  | ⟨0, _⟩ => rfl
  | ⟨1, _⟩ => rfl
theorem place2 (t : Fin cfg0.N) (x : Fin 1152) (y : Fin 1024) :
    (win0_2.rect t).emb (ix2 x y : S1152x1024.Idx) = (ix2 (atI (bi t) x) (atJ (bj t) y) : S2304x1024.Idx) := by
  refine funext fun a => Fin.ext ((win0_2.rect_emb_val t _ a).trans ?_)
  rw [(index t).2.2 a]
  match a with
  | ⟨0, _⟩ => rfl
  | ⟨1, _⟩ => rfl

/-- A step adds its part of the inner axis to what the block holds. -/
theorem step_apply (acc : Vec Ideal S1152x1024 .f32) (A : Vec Ideal S1152x1024 .bf16) (B : Vec Ideal S1024x1024 .bf16) (p : Fin 1152) (q : Fin 1024) :
    k0_pay2 (F := Ideal) acc A B (ix2 p q) = acc (ix2 p q) + ∑ k : Fin 1024, A (ix2 p k) * B (ix2 k q) := by
  pointwise [k0_pay2]

/-- The block is cleared before the first step. -/
theorem clear_apply (p : Fin 1152) (q : Fin 1024) : k0_pay1 (F := Ideal) (ix2 p q) = 0 := by
  pointwise [k0_pay1]

variable (m : (ℓ : Loc nD τ sig) → Buf (Elt Ideal) ℓ) (c : Dev nD)

/-- The two arrays the call is given, and their blocks at a point. -/
def arrA : S2304x1024.Idx → EReal := m ((c : Thread nD τ).loc main_arg0)
def arrB : S1024x1024.Idx → EReal := m ((c : Thread nD τ).loc main_arg1)
def blkA (t : Fin cfg0.N) : S1152x1024.Idx → EReal := iblk m c 0 t
def blkB (t : Fin cfg0.N) : S1024x1024.Idx → EReal := iblk m c 1 t

theorem blkA_apply (t : Fin cfg0.N) (x : Fin 1152) (y : Fin 1024) : blkA m c t (ix2 x y) = arrA m c (ix2 (atI (bi t) x) (atK (bk t) y)) :=
  congrArg (arrA m c) (place0 t x y)

theorem blkB_apply (t : Fin cfg0.N) (x : Fin 1024) (y : Fin 1024) : blkB m c t (ix2 x y) = arrB m c (ix2 (atK (bk t) x) (atJ (bj t) y)) :=
  congrArg (arrB m c) (place1 t x y)

/-- What the step of point `t` adds at a place of the block. -/
def part (t : Fin cfg0.N) (y : S1152x1024.Idx) : EReal := ∑ k : Fin 1024, blkA m c t (ix2 (y 0) k) * blkB m c t (ix2 k (y 1))

/-- What the block holds when it is written back. -/
theorem after_eq (t : Fin cfg0.N) (p : Fin 1152) (q : Fin 1024) :
    (dats m 0 c).after 2 t (ix2 p q : S1152x1024.Idx) = ∑ s : Fin 1, part m c (st t s) (ix2 p q) := by
  have e : ∀ s : Fin 1, st t s = t := fun s => Fin.ext (by show 1 * (t.val / 1) + s.val = t.val; omega)
  rw [after0_2, Fin.sum_univ_one, e]
  unfold outsAt0
  frame_out
  rw [step_apply, clear_apply, zero_add]
  rfl

/-- The product of the two arrays. -/
def whole (y : S2304x1024.Idx) : EReal := ∑ k : Fin 1024, arrA m c (ix2 (y 0) k) * arrB m c (ix2 k (y 1))

theorem left (t : Fin cfg0.N) (hf : (cfg0.win 2).flush t = true) (y : S1152x1024.Idx) :
    (dats m 0 c).after 2 t y = whole m c ((win0_2.rect t).emb y) := by
  obtain ⟨p, q, rfl⟩ := idx2 y
  rw [place2]
  refine (after_eq m c t p q).trans ?_
  refine Fin.sum_mul_add_congr (F := fun s k => blkA m c (st t s) (ix2 p k)
    * blkB m c (st t s) (ix2 k q)) (fun s k hl => ?_)
  obtain ⟨e1, e2, e3⟩ := run_steps t s
  show blkA m c _ _ * blkB m c _ _ = _
  rw [blkA_apply, blkB_apply, e1, e2, e3]
  rfl

/-- Every place of the result is in some point's block. -/
theorem onto : ∀ (i : Fin 2) (j : Fin 1), ∃ t, win0_2.flush t = true ∧ bi t = i ∧ bj t = j := by decide +kernel

theorem cover (y : S2304x1024.Idx) : ∃ t, (cfg0.win 2).flush t = true ∧ y ∈ ((cfg0.win 2).blk t).view.set := by
  obtain ⟨r, s, rfl⟩ := idx2 y
  obtain ⟨i, p, rfl⟩ : ∃ i p, r = atI i p :=
    ⟨⟨r.val / 1152, by omega⟩, ⟨r.val % 1152, by omega⟩, Fin.ext (show r.val = r.val / 1152 * 1152 + r.val % 1152 by omega)⟩
  obtain ⟨j, q, rfl⟩ : ∃ j q, s = atJ j q :=
    ⟨⟨s.val / 1024, by omega⟩, ⟨s.val % 1024, by omega⟩, Fin.ext (show s.val = s.val / 1024 * 1024 + s.val % 1024 by omega)⟩
  obtain ⟨t, h, rfl, rfl⟩ := onto i j
  exact ⟨t, h, (place2 t p q) ▸ View.emb_mem_set _ _⟩

/-- The array the call leaves. -/
theorem end_eq : (dats m 0 c).arrAt 2 cfg0.N = whole m c :=
  (dats m 0 c).arrAt_eq_of_cover 2 (whole m c) (fun t hf => funext fun y => left m c t hf y) cover

/-- The reference's result is the same product. -/
theorem ref_eq (A : ReferenceCmOutFirstIdeal.S2304x1024.Idx → EReal) (B : ReferenceCmOutFirstIdeal.S1024x1024.Idx → EReal) (hA : A = arrA m c) (hB : B = arrB m c) :
    val_main_v2 (F := Ideal) A B = whole m c := by
  subst hA hB
  funext y
  obtain ⟨p, q, rfl⟩ := idx2 y
  pointwise [val_main_v0, val_main_v1, val_main_v2]
  rfl

end Cert.KernelCmOutFirstIdeal

namespace Cert

open Idealize.ShloMosaic Idealize.SL.Sem

/-- Over the reals the call's result is the reference's. -/
theorem algebraic_CmOutFirst : algebraic_KernelCmOutFirstIdeal_ReferenceCmOutFirstIdeal (hKernelCmOutFirstIdeal := KernelCmOutFirstIdeal.Gen.facts)
    (hReferenceCmOutFirstIdeal := ReferenceCmOutFirstIdeal.Gen.facts) :=
  fun m g m' g' _ hargs => ⟨fun c => KernelCmOutFirstIdeal.whole m c,
    (θ_run _ _ _).mono (fun _ h c => ⟨(h c).1.trans (KernelCmOutFirstIdeal.end_eq m c), (h c).2⟩) (KernelCmOutFirstIdeal.Value.run_blocks m g),
    (θ_run _ _ _).mono (fun _ h c => ⟨(h c).1.trans (KernelCmOutFirstIdeal.ref_eq m c _ _ (hargs c).1 (hargs c).2), (h c).2⟩)
      (ReferenceCmOutFirstIdeal.Value.run m' g')⟩

/-- The reference leaves its arguments and all semaphores as they were. -/
theorem frame_ReferenceCmOutFirstIdeal : quiescent_ReferenceCmOutFirstIdeal (hReferenceCmOutFirstIdeal := ReferenceCmOutFirstIdeal.Gen.facts) :=
  fun m g _ => (θ_run _ _ _).mono (fun _ h => ⟨fun c => (h c).2, sem_eq_zero_of_no_sems (by decide) _⟩) (ReferenceCmOutFirstIdeal.Value.run m g)

end Cert

end
-- ==== Proof.CmOutFirstDw.lean ====
/- The call computing the gradient of the product by its weights, 2304x1024 by 2304x1024: the 2 steps of the inner axis add up in a block of
   the result, and the blocks are the whole product. -/
module

public import proofs.«01_k».proof.Defs
public import proofs.«01_k».proof.Proof.Blocks
public import proofs.«01_k».proof.Proof.Gen.KernelCmOutFirstDw.Frame
public import proofs.«01_k».proof.Proof.Gen.KernelCmOutFirstDwIdeal.Value
public import proofs.«01_k».proof.Proof.Gen.ReferenceCmOutFirstDwIdeal.Read
public import Idealize.ShloMosaic.Adequacy
public import Idealize.ShloMosaic.Init

@[expose] public section

set_option maxRecDepth 16384

noncomputable section

namespace Cert.KernelCmOutFirstDwIdeal

open Idealize.ShloMosaic Idealize.ShloMosaic.TcCoe Idealize.SL.Sem Cert.Blocks Cert.KernelCmOutFirstDwIdeal.Gen
  Cert.ReferenceCmOutFirstDwIdeal.Read

/-- A point of the grid is a block of rows, a block of columns and a step of the inner axis. -/
def bi (t : Fin grid0.N) : Fin 1 := grid0.coords t 0
def bj (t : Fin grid0.N) : Fin 1 := grid0.coords t 1
def bk (t : Fin grid0.N) : Fin 2 := grid0.coords t 2
theorem step_lt : ∀ (t : Fin grid0.N) (s : Fin 2), 2 * (t.val / 2) + s.val < grid0.N := by decide +kernel
/-- The steps of a point's block. -/
def st (t : Fin grid0.N) (s : Fin 2) : Fin grid0.N := ⟨2 * (t.val / 2) + s.val, step_lt t s⟩
theorem run_steps : ∀ (t : Fin grid0.N) (s : Fin 2), bi (st t s) = bi t ∧ bj (st t s) = bj t ∧ bk (st t s) = s := by decide +kernel

/-- An index of the array, from its block's number and the index there. -/
def atI (n : Fin 1) (x : Fin 1024) : Fin 1024 := ⟨n.val * 1024 + x.val, by omega⟩
def atJ (n : Fin 1) (x : Fin 1024) : Fin 1024 := ⟨n.val * 1024 + x.val, by omega⟩
def atK (n : Fin 2) (x : Fin 1152) : Fin 2304 := ⟨n.val * 1152 + x.val, by omega⟩

theorem index : ∀ t : Fin grid0.N,
    (∀ a, win0_0.index t a = (![(bk t).val, (bi t).val] : Fin 2 → Nat) a) ∧
    (∀ a, win0_1.index t a = (![(bk t).val, (bj t).val] : Fin 2 → Nat) a) ∧
    (∀ a, win0_2.index t a = (![(bi t).val, (bj t).val] : Fin 2 → Nat) a) := by decide +kernel

theorem place0 (t : Fin cfg0.N) (x : Fin 1152) (y : Fin 1024) :
    (win0_0.rect t).emb (ix2 x y : S1152x1024.Idx) = (ix2 (atK (bk t) x) (atI (bi t) y) : S2304x1024.Idx) := by
  refine funext fun a => Fin.ext ((win0_0.rect_emb_val t _ a).trans ?_)
  rw [(index t).1 a]
  match a with
  | ⟨0, _⟩ => rfl
  | ⟨1, _⟩ => rfl
theorem place1 (t : Fin cfg0.N) (x : Fin 1152) (y : Fin 1024) :
    (win0_1.rect t).emb (ix2 x y : S1152x1024.Idx) = (ix2 (atK (bk t) x) (atJ (bj t) y) : S2304x1024.Idx) := by
  refine funext fun a => Fin.ext ((win0_1.rect_emb_val t _ a).trans ?_)
  rw [(index t).2.1 a]
  match a with
  | ⟨0, _⟩ => rfl
  | ⟨1, _⟩ => rfl
theorem place2 (t : Fin cfg0.N) (x : Fin 1024) (y : Fin 1024) :
    (win0_2.rect t).emb (ix2 x y : S1024x1024.Idx) = (ix2 (atI (bi t) x) (atJ (bj t) y) : S1024x1024.Idx) := by
  refine funext fun a => Fin.ext ((win0_2.rect_emb_val t _ a).trans ?_)
  rw [(index t).2.2 a]
  match a with
  | ⟨0, _⟩ => rfl
  | ⟨1, _⟩ => rfl

/-- A step adds its part of the inner axis to what the block holds. -/
theorem step_apply (acc : Vec Ideal S1024x1024 .f32) (A : Vec Ideal S1152x1024 .bf16) (B : Vec Ideal S1152x1024 .bf16) (p : Fin 1024) (q : Fin 1024) :
    k0_pay2 (F := Ideal) acc A B (ix2 p q) = acc (ix2 p q) + ∑ k : Fin 1152, A (ix2 k p) * B (ix2 k q) := by
  pointwise [k0_pay2]

/-- The block is cleared before the first step. -/
theorem clear_apply (p : Fin 1024) (q : Fin 1024) : k0_pay1 (F := Ideal) (ix2 p q) = 0 := by
  pointwise [k0_pay1]

/-- The cast of the finished block. -/
theorem cast_apply (X : Vec Ideal S1024x1024 .f32) (p : Fin 1024) (q : Fin 1024) : k0_pay3 (F := Ideal) X (ix2 p q) = X (ix2 p q) := by
  pointwise [k0_pay3]

variable (m : (ℓ : Loc nD τ sig) → Buf (Elt Ideal) ℓ) (c : Dev nD)

/-- The two arrays the call is given, and their blocks at a point. -/
def arrA : S2304x1024.Idx → EReal := m ((c : Thread nD τ).loc main_arg0)
def arrB : S2304x1024.Idx → EReal := m ((c : Thread nD τ).loc main_arg1)
def blkA (t : Fin cfg0.N) : S1152x1024.Idx → EReal := iblk m c 0 t
def blkB (t : Fin cfg0.N) : S1152x1024.Idx → EReal := iblk m c 1 t

theorem blkA_apply (t : Fin cfg0.N) (x : Fin 1152) (y : Fin 1024) : blkA m c t (ix2 x y) = arrA m c (ix2 (atK (bk t) x) (atI (bi t) y)) :=
  congrArg (arrA m c) (place0 t x y)

theorem blkB_apply (t : Fin cfg0.N) (x : Fin 1152) (y : Fin 1024) : blkB m c t (ix2 x y) = arrB m c (ix2 (atK (bk t) x) (atJ (bj t) y)) :=
  congrArg (arrB m c) (place1 t x y)

/-- What the step of point `t` adds at a place of the block. -/
def part (t : Fin cfg0.N) (y : S1024x1024.Idx) : EReal := ∑ k : Fin 1152, blkA m c t (ix2 k (y 0)) * blkB m c t (ix2 k (y 1))

theorem first (t : Fin cfg0.N) (h : t.val % 2 = 0) (y : S1024x1024.Idx) : (outsAt0 m c t.val t.isLt).2 y = 0 + part m c t y := by
  obtain ⟨p, q, rfl⟩ := idx2 y
  rw [outsAt0_A m c t h (by omega)]
  frame_out
  rw [step_apply, clear_apply]
  rfl

theorem next (t : Fin cfg0.N) (h : ¬t.val % 2 = 0) (y : S1024x1024.Idx) : (outsAt0 m c t.val t.isLt).2 y
    = (outsAt0 m c (t.val - 1) (Nat.lt_of_le_of_lt (Nat.sub_le _ _) t.isLt)).2 y + part m c t y := by
  obtain ⟨p, q, rfl⟩ := idx2 y
  rw [outsAt0_B m c t h (by omega)]
  frame_out
  rw [step_apply]
  exact congrArg₂ (fun x y : EReal => x + y) (congrFun ((Memref.isWhole_whole cc0_scratch0).read_unread _) _) rfl

/-- The last step hands the finished sum out. -/
theorem last (t : Fin cfg0.N) (h : t.val % 2 = 1) (p : Fin 1024) (q : Fin 1024) :
    (outsAt0 m c t.val t.isLt).1 (ix2 p q) = (outsAt0 m c t.val t.isLt).2 (ix2 p q) := by
  rw [outsAt0_B m c t (by omega) h]
  frame_out
  rw [cast_apply]

/-- What the block holds when it is written back. -/
theorem after_eq (t : Fin cfg0.N) (h : t.val % 2 = 1) (p : Fin 1024) (q : Fin 1024) :
    (dats m 0 c).after 2 t (ix2 p q : S1024x1024.Idx)
      = ∑ s : Fin 2, part m c (st t s) (ix2 p q) := by
  rw [after0_2]
  refine (last m c t h p q).trans ?_
  refine (Pipeline.eq_sum_fin_of_reset_step_apply_of_flush (fun n h => (outsAt0 m c n h).2) 2 (fun _ => 0) (part m c)
    (first m c) (next m c) t h _).trans ?_
  exact zero_add _

/-- The product of the two arrays. -/
def whole (y : S1024x1024.Idx) : EReal := ∑ k : Fin 2304, arrA m c (ix2 k (y 0)) * arrB m c (ix2 k (y 1))

theorem left (t : Fin cfg0.N) (hf : (cfg0.win 2).flush t = true) (y : S1024x1024.Idx) :
    (dats m 0 c).after 2 t y = whole m c ((win0_2.rect t).emb y) := by
  obtain ⟨p, q, rfl⟩ := idx2 y
  rw [place2]
  refine (after_eq m c t ((flush0_2 t).mp hf) p q).trans ?_
  refine Fin.sum_mul_add_congr (F := fun s k => blkA m c (st t s) (ix2 k p)
    * blkB m c (st t s) (ix2 k q)) (fun s k hl => ?_)
  obtain ⟨e1, e2, e3⟩ := run_steps t s
  show blkA m c _ _ * blkB m c _ _ = _
  rw [blkA_apply, blkB_apply, e1, e2, e3]
  rfl

/-- The array the call leaves. -/
theorem end_eq : (dats m 0 c).arrAt 2 cfg0.N = whole m c :=
  (dats m 0 c).arrAt_eq_of_cover 2 (whole m c) (fun t hf => funext fun y => left m c t hf y)
    fun i => (Value.covered_iff2 i).2 ⟨Nat.zero_le _, (i 0).isLt, Nat.zero_le _, (i 1).isLt⟩

/-- The reference's result is the same product. -/
theorem ref_eq (A : ReferenceCmOutFirstDwIdeal.S2304x1024.Idx → EReal) (B : ReferenceCmOutFirstDwIdeal.S2304x1024.Idx → EReal) (hA : A = arrA m c) (hB : B = arrB m c) :
    val_main_v6 (F := Ideal) A B = whole m c := by
  subst hA hB
  funext y
  obtain ⟨p, q, rfl⟩ := idx2 y
  pointwise [val_main_v1, val_main_v3, val_main_v4, val_main_v5, val_main_v6]
  exact Finset.sum_congr rfl fun k _ => mul_comm _ _

end Cert.KernelCmOutFirstDwIdeal

namespace Cert

open Idealize.ShloMosaic Idealize.SL.Sem

/-- Over the reals the call's result is the reference's. -/
theorem algebraic_CmOutFirstDw : algebraic_KernelCmOutFirstDwIdeal_ReferenceCmOutFirstDwIdeal (hKernelCmOutFirstDwIdeal := KernelCmOutFirstDwIdeal.Gen.facts)
    (hReferenceCmOutFirstDwIdeal := ReferenceCmOutFirstDwIdeal.Gen.facts) :=
  fun m g m' g' _ hargs => ⟨fun c => KernelCmOutFirstDwIdeal.whole m c,
    (θ_run _ _ _).mono (fun _ h c => ⟨(h c).1.trans (KernelCmOutFirstDwIdeal.end_eq m c), (h c).2⟩) (KernelCmOutFirstDwIdeal.Value.run_blocks m g),
    (θ_run _ _ _).mono (fun _ h c => ⟨(h c).1.trans (KernelCmOutFirstDwIdeal.ref_eq m c _ _ (hargs c).1 (hargs c).2), (h c).2⟩)
      (ReferenceCmOutFirstDwIdeal.Value.run m' g')⟩

/-- The reference leaves its arguments and all semaphores as they were. -/
theorem frame_ReferenceCmOutFirstDwIdeal : quiescent_ReferenceCmOutFirstDwIdeal (hReferenceCmOutFirstDwIdeal := ReferenceCmOutFirstDwIdeal.Gen.facts) :=
  fun m g _ => (θ_run _ _ _).mono (fun _ h => ⟨fun c => (h c).2, sem_eq_zero_of_no_sems (by decide) _⟩) (ReferenceCmOutFirstDwIdeal.Value.run m g)

end Cert

end
-- ==== Proof.CmOutFirstDx.lean ====
/- The call computing the gradient of the product by its rows, 2304x1024 by 1024x1024: its one step of the inner axis fills a block of
   the result, and the blocks are the whole product. -/
module

public import proofs.«01_k».proof.Defs
public import proofs.«01_k».proof.Proof.Blocks
public import proofs.«01_k».proof.Proof.Gen.KernelCmOutFirstDx.Frame
public import proofs.«01_k».proof.Proof.Gen.KernelCmOutFirstDxIdeal.Value
public import proofs.«01_k».proof.Proof.Gen.ReferenceCmOutFirstDxIdeal.Read
public import Idealize.ShloMosaic.Adequacy
public import Idealize.ShloMosaic.Init

@[expose] public section

set_option maxRecDepth 16384

noncomputable section

namespace Cert.KernelCmOutFirstDxIdeal

open Idealize.ShloMosaic Idealize.ShloMosaic.TcCoe Idealize.SL.Sem Cert.Blocks Cert.KernelCmOutFirstDxIdeal.Gen
  Cert.ReferenceCmOutFirstDxIdeal.Read

/-- A point of the grid is a block of rows, a block of columns and a step of the inner axis. -/
def bi (t : Fin grid0.N) : Fin 2 := grid0.coords t 0
def bj (t : Fin grid0.N) : Fin 1 := grid0.coords t 1
def bk (t : Fin grid0.N) : Fin 1 := grid0.coords t 2
theorem step_lt : ∀ (t : Fin grid0.N) (s : Fin 1), 1 * (t.val / 1) + s.val < grid0.N := by decide +kernel
/-- The steps of a point's block. -/
def st (t : Fin grid0.N) (s : Fin 1) : Fin grid0.N := ⟨1 * (t.val / 1) + s.val, step_lt t s⟩
theorem run_steps : ∀ (t : Fin grid0.N) (s : Fin 1), bi (st t s) = bi t ∧ bj (st t s) = bj t ∧ bk (st t s) = s := by decide +kernel

/-- An index of the array, from its block's number and the index there. -/
def atI (n : Fin 2) (x : Fin 1152) : Fin 2304 := ⟨n.val * 1152 + x.val, by omega⟩
def atJ (n : Fin 1) (x : Fin 1024) : Fin 1024 := ⟨n.val * 1024 + x.val, by omega⟩
def atK (n : Fin 1) (x : Fin 1024) : Fin 1024 := ⟨n.val * 1024 + x.val, by omega⟩

theorem index : ∀ t : Fin grid0.N,
    (∀ a, win0_0.index t a = (![(bi t).val, (bk t).val] : Fin 2 → Nat) a) ∧
    (∀ a, win0_1.index t a = (![(bj t).val, (bk t).val] : Fin 2 → Nat) a) ∧
    (∀ a, win0_2.index t a = (![(bi t).val, (bj t).val] : Fin 2 → Nat) a) := by decide +kernel

theorem place0 (t : Fin cfg0.N) (x : Fin 1152) (y : Fin 1024) :
    (win0_0.rect t).emb (ix2 x y : S1152x1024.Idx) = (ix2 (atI (bi t) x) (atK (bk t) y) : S2304x1024.Idx) := by
  refine funext fun a => Fin.ext ((win0_0.rect_emb_val t _ a).trans ?_)
  rw [(index t).1 a]
  match a with
  | ⟨0, _⟩ => rfl
  | ⟨1, _⟩ => rfl
theorem place1 (t : Fin cfg0.N) (x : Fin 1024) (y : Fin 1024) :
    (win0_1.rect t).emb (ix2 x y : S1024x1024.Idx) = (ix2 (atJ (bj t) x) (atK (bk t) y) : S1024x1024.Idx) := by
  refine funext fun a => Fin.ext ((win0_1.rect_emb_val t _ a).trans ?_)
  rw [(index t).2.1 a]
  match a with
  | ⟨0, _⟩ => rfl
  | ⟨1, _⟩ => rfl
theorem place2 (t : Fin cfg0.N) (x : Fin 1152) (y : Fin 1024) :
    (win0_2.rect t).emb (ix2 x y : S1152x1024.Idx) = (ix2 (atI (bi t) x) (atJ (bj t) y) : S2304x1024.Idx) := by
  refine funext fun a => Fin.ext ((win0_2.rect_emb_val t _ a).trans ?_)
  rw [(index t).2.2 a]
  match a with
  | ⟨0, _⟩ => rfl
  | ⟨1, _⟩ => rfl

/-- A step adds its part of the inner axis to what the block holds. -/
theorem step_apply (acc : Vec Ideal S1152x1024 .f32) (A : Vec Ideal S1152x1024 .bf16) (B : Vec Ideal S1024x1024 .bf16) (p : Fin 1152) (q : Fin 1024) :
    k0_pay2 (F := Ideal) acc A B (ix2 p q) = acc (ix2 p q) + ∑ k : Fin 1024, A (ix2 p k) * B (ix2 q k) := by
  pointwise [k0_pay2]

/-- The block is cleared before the first step. -/
theorem clear_apply (p : Fin 1152) (q : Fin 1024) : k0_pay1 (F := Ideal) (ix2 p q) = 0 := by
  pointwise [k0_pay1]

variable (m : (ℓ : Loc nD τ sig) → Buf (Elt Ideal) ℓ) (c : Dev nD)

/-- The two arrays the call is given, and their blocks at a point. -/
def arrA : S2304x1024.Idx → EReal := m ((c : Thread nD τ).loc main_arg0)
def arrB : S1024x1024.Idx → EReal := m ((c : Thread nD τ).loc main_arg1)
def blkA (t : Fin cfg0.N) : S1152x1024.Idx → EReal := iblk m c 0 t
def blkB (t : Fin cfg0.N) : S1024x1024.Idx → EReal := iblk m c 1 t

theorem blkA_apply (t : Fin cfg0.N) (x : Fin 1152) (y : Fin 1024) : blkA m c t (ix2 x y) = arrA m c (ix2 (atI (bi t) x) (atK (bk t) y)) :=
  congrArg (arrA m c) (place0 t x y)

theorem blkB_apply (t : Fin cfg0.N) (x : Fin 1024) (y : Fin 1024) : blkB m c t (ix2 x y) = arrB m c (ix2 (atJ (bj t) x) (atK (bk t) y)) :=
  congrArg (arrB m c) (place1 t x y)

/-- What the step of point `t` adds at a place of the block. -/
def part (t : Fin cfg0.N) (y : S1152x1024.Idx) : EReal := ∑ k : Fin 1024, blkA m c t (ix2 (y 0) k) * blkB m c t (ix2 (y 1) k)

/-- What the block holds when it is written back. -/
theorem after_eq (t : Fin cfg0.N) (p : Fin 1152) (q : Fin 1024) :
    (dats m 0 c).after 2 t (ix2 p q : S1152x1024.Idx) = ∑ s : Fin 1, part m c (st t s) (ix2 p q) := by
  have e : ∀ s : Fin 1, st t s = t := fun s => Fin.ext (by show 1 * (t.val / 1) + s.val = t.val; omega)
  rw [after0_2, Fin.sum_univ_one, e]
  unfold outsAt0
  frame_out
  rw [step_apply, clear_apply, zero_add]
  rfl

/-- The product of the two arrays. -/
def whole (y : S2304x1024.Idx) : EReal := ∑ k : Fin 1024, arrA m c (ix2 (y 0) k) * arrB m c (ix2 (y 1) k)

theorem left (t : Fin cfg0.N) (hf : (cfg0.win 2).flush t = true) (y : S1152x1024.Idx) :
    (dats m 0 c).after 2 t y = whole m c ((win0_2.rect t).emb y) := by
  obtain ⟨p, q, rfl⟩ := idx2 y
  rw [place2]
  refine (after_eq m c t p q).trans ?_
  refine Fin.sum_mul_add_congr (F := fun s k => blkA m c (st t s) (ix2 p k)
    * blkB m c (st t s) (ix2 q k)) (fun s k hl => ?_)
  obtain ⟨e1, e2, e3⟩ := run_steps t s
  show blkA m c _ _ * blkB m c _ _ = _
  rw [blkA_apply, blkB_apply, e1, e2, e3]
  rfl

/-- Every place of the result is in some point's block. -/
theorem onto : ∀ (i : Fin 2) (j : Fin 1), ∃ t, win0_2.flush t = true ∧ bi t = i ∧ bj t = j := by decide +kernel

theorem cover (y : S2304x1024.Idx) : ∃ t, (cfg0.win 2).flush t = true ∧ y ∈ ((cfg0.win 2).blk t).view.set := by
  obtain ⟨r, s, rfl⟩ := idx2 y
  obtain ⟨i, p, rfl⟩ : ∃ i p, r = atI i p :=
    ⟨⟨r.val / 1152, by omega⟩, ⟨r.val % 1152, by omega⟩, Fin.ext (show r.val = r.val / 1152 * 1152 + r.val % 1152 by omega)⟩
  obtain ⟨j, q, rfl⟩ : ∃ j q, s = atJ j q :=
    ⟨⟨s.val / 1024, by omega⟩, ⟨s.val % 1024, by omega⟩, Fin.ext (show s.val = s.val / 1024 * 1024 + s.val % 1024 by omega)⟩
  obtain ⟨t, h, rfl, rfl⟩ := onto i j
  exact ⟨t, h, (place2 t p q) ▸ View.emb_mem_set _ _⟩

/-- The array the call leaves. -/
theorem end_eq : (dats m 0 c).arrAt 2 cfg0.N = whole m c :=
  (dats m 0 c).arrAt_eq_of_cover 2 (whole m c) (fun t hf => funext fun y => left m c t hf y) cover

/-- The reference's result is the same product. -/
theorem ref_eq (A : ReferenceCmOutFirstDxIdeal.S2304x1024.Idx → EReal) (B : ReferenceCmOutFirstDxIdeal.S1024x1024.Idx → EReal) (hA : A = arrA m c) (hB : B = arrB m c) :
    val_main_v4 (F := Ideal) A B = whole m c := by
  subst hA hB
  funext y
  obtain ⟨p, q, rfl⟩ := idx2 y
  pointwise [val_main_v1, val_main_v3, val_main_v4]
  rfl

end Cert.KernelCmOutFirstDxIdeal

namespace Cert

open Idealize.ShloMosaic Idealize.SL.Sem

/-- Over the reals the call's result is the reference's. -/
theorem algebraic_CmOutFirstDx : algebraic_KernelCmOutFirstDxIdeal_ReferenceCmOutFirstDxIdeal (hKernelCmOutFirstDxIdeal := KernelCmOutFirstDxIdeal.Gen.facts)
    (hReferenceCmOutFirstDxIdeal := ReferenceCmOutFirstDxIdeal.Gen.facts) :=
  fun m g m' g' _ hargs => ⟨fun c => KernelCmOutFirstDxIdeal.whole m c,
    (θ_run _ _ _).mono (fun _ h c => ⟨(h c).1.trans (KernelCmOutFirstDxIdeal.end_eq m c), (h c).2⟩) (KernelCmOutFirstDxIdeal.Value.run_blocks m g),
    (θ_run _ _ _).mono (fun _ h c => ⟨(h c).1.trans (KernelCmOutFirstDxIdeal.ref_eq m c _ _ (hargs c).1 (hargs c).2), (h c).2⟩)
      (ReferenceCmOutFirstDxIdeal.Value.run m' g')⟩

/-- The reference leaves its arguments and all semaphores as they were. -/
theorem frame_ReferenceCmOutFirstDxIdeal : quiescent_ReferenceCmOutFirstDxIdeal (hReferenceCmOutFirstDxIdeal := ReferenceCmOutFirstDxIdeal.Gen.facts) :=
  fun m g _ => (θ_run _ _ _).mono (fun _ h => ⟨fun c => (h c).2, sem_eq_zero_of_no_sems (by decide) _⟩) (ReferenceCmOutFirstDxIdeal.Value.run m g)

end Cert

end
-- ==== Proof.Qkv.lean ====
/- The call computing the rows times the weights, 2304x1024 by 1024x1536: its one step of the inner axis fills a block of
   the result, and the blocks are the whole product. -/
module

public import proofs.«01_k».proof.Defs
public import proofs.«01_k».proof.Proof.Blocks
public import proofs.«01_k».proof.Proof.Gen.KernelQkv.Frame
public import proofs.«01_k».proof.Proof.Gen.KernelQkvIdeal.Value
public import proofs.«01_k».proof.Proof.Gen.ReferenceQkvIdeal.Read
public import Idealize.ShloMosaic.Adequacy
public import Idealize.ShloMosaic.Init

@[expose] public section

set_option maxRecDepth 16384

noncomputable section

namespace Cert.KernelQkvIdeal

open Idealize.ShloMosaic Idealize.ShloMosaic.TcCoe Idealize.SL.Sem Cert.Blocks Cert.KernelQkvIdeal.Gen
  Cert.ReferenceQkvIdeal.Read

/-- A point of the grid is a block of rows, a block of columns and a step of the inner axis. -/
def bi (t : Fin grid0.N) : Fin 2 := grid0.coords t 0
def bj (t : Fin grid0.N) : Fin 2 := grid0.coords t 1
def bk (t : Fin grid0.N) : Fin 1 := grid0.coords t 2
theorem step_lt : ∀ (t : Fin grid0.N) (s : Fin 1), 1 * (t.val / 1) + s.val < grid0.N := by decide +kernel
/-- The steps of a point's block. -/
def st (t : Fin grid0.N) (s : Fin 1) : Fin grid0.N := ⟨1 * (t.val / 1) + s.val, step_lt t s⟩
theorem run_steps : ∀ (t : Fin grid0.N) (s : Fin 1), bi (st t s) = bi t ∧ bj (st t s) = bj t ∧ bk (st t s) = s := by decide +kernel

/-- An index of the array, from its block's number and the index there. -/
def atI (n : Fin 2) (x : Fin 1152) : Fin 2304 := ⟨n.val * 1152 + x.val, by omega⟩
def atJ (n : Fin 2) (x : Fin 768) : Fin 1536 := ⟨n.val * 768 + x.val, by omega⟩
def atK (n : Fin 1) (x : Fin 1024) : Fin 1024 := ⟨n.val * 1024 + x.val, by omega⟩

theorem index : ∀ t : Fin grid0.N,
    (∀ a, win0_0.index t a = (![(bi t).val, (bk t).val] : Fin 2 → Nat) a) ∧
    (∀ a, win0_1.index t a = (![(bk t).val, (bj t).val] : Fin 2 → Nat) a) ∧
    (∀ a, win0_2.index t a = (![(bi t).val, (bj t).val] : Fin 2 → Nat) a) := by decide +kernel

theorem place0 (t : Fin cfg0.N) (x : Fin 1152) (y : Fin 1024) :
    (win0_0.rect t).emb (ix2 x y : S1152x1024.Idx) = (ix2 (atI (bi t) x) (atK (bk t) y) : S2304x1024.Idx) := by
  refine funext fun a => Fin.ext ((win0_0.rect_emb_val t _ a).trans ?_)
  rw [(index t).1 a]
  match a with
  | ⟨0, _⟩ => rfl
  | ⟨1, _⟩ => rfl
theorem place1 (t : Fin cfg0.N) (x : Fin 1024) (y : Fin 768) :
    (win0_1.rect t).emb (ix2 x y : S1024x768.Idx) = (ix2 (atK (bk t) x) (atJ (bj t) y) : S1024x1536.Idx) := by
  refine funext fun a => Fin.ext ((win0_1.rect_emb_val t _ a).trans ?_)
  rw [(index t).2.1 a]
  match a with
  | ⟨0, _⟩ => rfl
  | ⟨1, _⟩ => rfl
theorem place2 (t : Fin cfg0.N) (x : Fin 1152) (y : Fin 768) :
    (win0_2.rect t).emb (ix2 x y : S1152x768.Idx) = (ix2 (atI (bi t) x) (atJ (bj t) y) : S2304x1536.Idx) := by
  refine funext fun a => Fin.ext ((win0_2.rect_emb_val t _ a).trans ?_)
  rw [(index t).2.2 a]
  match a with
  | ⟨0, _⟩ => rfl
  | ⟨1, _⟩ => rfl

/-- A step adds its part of the inner axis to what the block holds. -/
theorem step_apply (acc : Vec Ideal S1152x768 .f32) (A : Vec Ideal S1152x1024 .bf16) (B : Vec Ideal S1024x768 .bf16) (p : Fin 1152) (q : Fin 768) :
    k0_pay2 (F := Ideal) acc A B (ix2 p q) = acc (ix2 p q) + ∑ k : Fin 1024, A (ix2 p k) * B (ix2 k q) := by
  pointwise [k0_pay2]

/-- The block is cleared before the first step. -/
theorem clear_apply (p : Fin 1152) (q : Fin 768) : k0_pay1 (F := Ideal) (ix2 p q) = 0 := by
  pointwise [k0_pay1]

variable (m : (ℓ : Loc nD τ sig) → Buf (Elt Ideal) ℓ) (c : Dev nD)

/-- The two arrays the call is given, and their blocks at a point. -/
def arrA : S2304x1024.Idx → EReal := m ((c : Thread nD τ).loc main_arg0)
def arrB : S1024x1536.Idx → EReal := m ((c : Thread nD τ).loc main_arg1)
def blkA (t : Fin cfg0.N) : S1152x1024.Idx → EReal := iblk m c 0 t
def blkB (t : Fin cfg0.N) : S1024x768.Idx → EReal := iblk m c 1 t

theorem blkA_apply (t : Fin cfg0.N) (x : Fin 1152) (y : Fin 1024) : blkA m c t (ix2 x y) = arrA m c (ix2 (atI (bi t) x) (atK (bk t) y)) :=
  congrArg (arrA m c) (place0 t x y)

theorem blkB_apply (t : Fin cfg0.N) (x : Fin 1024) (y : Fin 768) : blkB m c t (ix2 x y) = arrB m c (ix2 (atK (bk t) x) (atJ (bj t) y)) :=
  congrArg (arrB m c) (place1 t x y)

/-- What the step of point `t` adds at a place of the block. -/
def part (t : Fin cfg0.N) (y : S1152x768.Idx) : EReal := ∑ k : Fin 1024, blkA m c t (ix2 (y 0) k) * blkB m c t (ix2 k (y 1))

/-- What the block holds when it is written back. -/
theorem after_eq (t : Fin cfg0.N) (p : Fin 1152) (q : Fin 768) :
    (dats m 0 c).after 2 t (ix2 p q : S1152x768.Idx) = ∑ s : Fin 1, part m c (st t s) (ix2 p q) := by
  have e : ∀ s : Fin 1, st t s = t := fun s => Fin.ext (by show 1 * (t.val / 1) + s.val = t.val; omega)
  rw [after0_2, Fin.sum_univ_one, e]
  unfold outsAt0
  frame_out
  rw [step_apply, clear_apply, zero_add]
  rfl

/-- The product of the two arrays. -/
def whole (y : S2304x1536.Idx) : EReal := ∑ k : Fin 1024, arrA m c (ix2 (y 0) k) * arrB m c (ix2 k (y 1))

theorem left (t : Fin cfg0.N) (hf : (cfg0.win 2).flush t = true) (y : S1152x768.Idx) :
    (dats m 0 c).after 2 t y = whole m c ((win0_2.rect t).emb y) := by
  obtain ⟨p, q, rfl⟩ := idx2 y
  rw [place2]
  refine (after_eq m c t p q).trans ?_
  refine Fin.sum_mul_add_congr (F := fun s k => blkA m c (st t s) (ix2 p k)
    * blkB m c (st t s) (ix2 k q)) (fun s k hl => ?_)
  obtain ⟨e1, e2, e3⟩ := run_steps t s
  show blkA m c _ _ * blkB m c _ _ = _
  rw [blkA_apply, blkB_apply, e1, e2, e3]
  rfl

/-- Every place of the result is in some point's block. -/
theorem onto : ∀ (i : Fin 2) (j : Fin 2), ∃ t, win0_2.flush t = true ∧ bi t = i ∧ bj t = j := by decide +kernel

theorem cover (y : S2304x1536.Idx) : ∃ t, (cfg0.win 2).flush t = true ∧ y ∈ ((cfg0.win 2).blk t).view.set := by
  obtain ⟨r, s, rfl⟩ := idx2 y
  obtain ⟨i, p, rfl⟩ : ∃ i p, r = atI i p :=
    ⟨⟨r.val / 1152, by omega⟩, ⟨r.val % 1152, by omega⟩, Fin.ext (show r.val = r.val / 1152 * 1152 + r.val % 1152 by omega)⟩
  obtain ⟨j, q, rfl⟩ : ∃ j q, s = atJ j q :=
    ⟨⟨s.val / 768, by omega⟩, ⟨s.val % 768, by omega⟩, Fin.ext (show s.val = s.val / 768 * 768 + s.val % 768 by omega)⟩
  obtain ⟨t, h, rfl, rfl⟩ := onto i j
  exact ⟨t, h, (place2 t p q) ▸ View.emb_mem_set _ _⟩

/-- The array the call leaves. -/
theorem end_eq : (dats m 0 c).arrAt 2 cfg0.N = whole m c :=
  (dats m 0 c).arrAt_eq_of_cover 2 (whole m c) (fun t hf => funext fun y => left m c t hf y) cover

/-- The reference's result is the same product. -/
theorem ref_eq (A : ReferenceQkvIdeal.S2304x1024.Idx → EReal) (B : ReferenceQkvIdeal.S1024x1536.Idx → EReal) (hA : A = arrA m c) (hB : B = arrB m c) :
    val_main_v2 (F := Ideal) A B = whole m c := by
  subst hA hB
  funext y
  obtain ⟨p, q, rfl⟩ := idx2 y
  pointwise [val_main_v0, val_main_v1, val_main_v2]
  rfl

end Cert.KernelQkvIdeal

namespace Cert

open Idealize.ShloMosaic Idealize.SL.Sem

/-- Over the reals the call's result is the reference's. -/
theorem algebraic_Qkv : algebraic_KernelQkvIdeal_ReferenceQkvIdeal (hKernelQkvIdeal := KernelQkvIdeal.Gen.facts)
    (hReferenceQkvIdeal := ReferenceQkvIdeal.Gen.facts) :=
  fun m g m' g' _ hargs => ⟨fun c => KernelQkvIdeal.whole m c,
    (θ_run _ _ _).mono (fun _ h c => ⟨(h c).1.trans (KernelQkvIdeal.end_eq m c), (h c).2⟩) (KernelQkvIdeal.Value.run_blocks m g),
    (θ_run _ _ _).mono (fun _ h c => ⟨(h c).1.trans (KernelQkvIdeal.ref_eq m c _ _ (hargs c).1 (hargs c).2), (h c).2⟩)
      (ReferenceQkvIdeal.Value.run m' g')⟩

/-- The reference leaves its arguments and all semaphores as they were. -/
theorem frame_ReferenceQkvIdeal : quiescent_ReferenceQkvIdeal (hReferenceQkvIdeal := ReferenceQkvIdeal.Gen.facts) :=
  fun m g _ => (θ_run _ _ _).mono (fun _ h => ⟨fun c => (h c).2, sem_eq_zero_of_no_sems (by decide) _⟩) (ReferenceQkvIdeal.Value.run m g)

end Cert

end
-- ==== Proof.QkvDw.lean ====
/- The call computing the gradient of the product by its weights, 2304x1024 by 2304x1536: the 2 steps of the inner axis add up in a block of
   the result, and the blocks are the whole product. -/
module

public import proofs.«01_k».proof.Defs
public import proofs.«01_k».proof.Proof.Blocks
public import proofs.«01_k».proof.Proof.Gen.KernelQkvDw.Frame
public import proofs.«01_k».proof.Proof.Gen.KernelQkvDwIdeal.Value
public import proofs.«01_k».proof.Proof.Gen.ReferenceQkvDwIdeal.Read
public import Idealize.ShloMosaic.Adequacy
public import Idealize.ShloMosaic.Init

@[expose] public section

set_option maxRecDepth 16384

noncomputable section

namespace Cert.KernelQkvDwIdeal

open Idealize.ShloMosaic Idealize.ShloMosaic.TcCoe Idealize.SL.Sem Cert.Blocks Cert.KernelQkvDwIdeal.Gen
  Cert.ReferenceQkvDwIdeal.Read

/-- A point of the grid is a block of rows, a block of columns and a step of the inner axis. -/
def bi (t : Fin grid0.N) : Fin 1 := grid0.coords t 0
def bj (t : Fin grid0.N) : Fin 2 := grid0.coords t 1
def bk (t : Fin grid0.N) : Fin 2 := grid0.coords t 2
theorem step_lt : ∀ (t : Fin grid0.N) (s : Fin 2), 2 * (t.val / 2) + s.val < grid0.N := by decide +kernel
/-- The steps of a point's block. -/
def st (t : Fin grid0.N) (s : Fin 2) : Fin grid0.N := ⟨2 * (t.val / 2) + s.val, step_lt t s⟩
theorem run_steps : ∀ (t : Fin grid0.N) (s : Fin 2), bi (st t s) = bi t ∧ bj (st t s) = bj t ∧ bk (st t s) = s := by decide +kernel

/-- An index of the array, from its block's number and the index there. -/
def atI (n : Fin 1) (x : Fin 1024) : Fin 1024 := ⟨n.val * 1024 + x.val, by omega⟩
def atJ (n : Fin 2) (x : Fin 768) : Fin 1536 := ⟨n.val * 768 + x.val, by omega⟩
def atK (n : Fin 2) (x : Fin 1152) : Fin 2304 := ⟨n.val * 1152 + x.val, by omega⟩

theorem index : ∀ t : Fin grid0.N,
    (∀ a, win0_0.index t a = (![(bk t).val, (bi t).val] : Fin 2 → Nat) a) ∧
    (∀ a, win0_1.index t a = (![(bk t).val, (bj t).val] : Fin 2 → Nat) a) ∧
    (∀ a, win0_2.index t a = (![(bi t).val, (bj t).val] : Fin 2 → Nat) a) := by decide +kernel

theorem place0 (t : Fin cfg0.N) (x : Fin 1152) (y : Fin 1024) :
    (win0_0.rect t).emb (ix2 x y : S1152x1024.Idx) = (ix2 (atK (bk t) x) (atI (bi t) y) : S2304x1024.Idx) := by
  refine funext fun a => Fin.ext ((win0_0.rect_emb_val t _ a).trans ?_)
  rw [(index t).1 a]
  match a with
  | ⟨0, _⟩ => rfl
  | ⟨1, _⟩ => rfl
theorem place1 (t : Fin cfg0.N) (x : Fin 1152) (y : Fin 768) :
    (win0_1.rect t).emb (ix2 x y : S1152x768.Idx) = (ix2 (atK (bk t) x) (atJ (bj t) y) : S2304x1536.Idx) := by
  refine funext fun a => Fin.ext ((win0_1.rect_emb_val t _ a).trans ?_)
  rw [(index t).2.1 a]
  match a with
  | ⟨0, _⟩ => rfl
  | ⟨1, _⟩ => rfl
theorem place2 (t : Fin cfg0.N) (x : Fin 1024) (y : Fin 768) :
    (win0_2.rect t).emb (ix2 x y : S1024x768.Idx) = (ix2 (atI (bi t) x) (atJ (bj t) y) : S1024x1536.Idx) := by
  refine funext fun a => Fin.ext ((win0_2.rect_emb_val t _ a).trans ?_)
  rw [(index t).2.2 a]
  match a with
  | ⟨0, _⟩ => rfl
  | ⟨1, _⟩ => rfl

/-- A step adds its part of the inner axis to what the block holds. -/
theorem step_apply (acc : Vec Ideal S1024x768 .f32) (A : Vec Ideal S1152x1024 .bf16) (B : Vec Ideal S1152x768 .bf16) (p : Fin 1024) (q : Fin 768) :
    k0_pay2 (F := Ideal) acc A B (ix2 p q) = acc (ix2 p q) + ∑ k : Fin 1152, A (ix2 k p) * B (ix2 k q) := by
  pointwise [k0_pay2]

/-- The block is cleared before the first step. -/
theorem clear_apply (p : Fin 1024) (q : Fin 768) : k0_pay1 (F := Ideal) (ix2 p q) = 0 := by
  pointwise [k0_pay1]

/-- The cast of the finished block. -/
theorem cast_apply (X : Vec Ideal S1024x768 .f32) (p : Fin 1024) (q : Fin 768) : k0_pay3 (F := Ideal) X (ix2 p q) = X (ix2 p q) := by
  pointwise [k0_pay3]

variable (m : (ℓ : Loc nD τ sig) → Buf (Elt Ideal) ℓ) (c : Dev nD)

/-- The two arrays the call is given, and their blocks at a point. -/
def arrA : S2304x1024.Idx → EReal := m ((c : Thread nD τ).loc main_arg0)
def arrB : S2304x1536.Idx → EReal := m ((c : Thread nD τ).loc main_arg1)
def blkA (t : Fin cfg0.N) : S1152x1024.Idx → EReal := iblk m c 0 t
def blkB (t : Fin cfg0.N) : S1152x768.Idx → EReal := iblk m c 1 t

theorem blkA_apply (t : Fin cfg0.N) (x : Fin 1152) (y : Fin 1024) : blkA m c t (ix2 x y) = arrA m c (ix2 (atK (bk t) x) (atI (bi t) y)) :=
  congrArg (arrA m c) (place0 t x y)

theorem blkB_apply (t : Fin cfg0.N) (x : Fin 1152) (y : Fin 768) : blkB m c t (ix2 x y) = arrB m c (ix2 (atK (bk t) x) (atJ (bj t) y)) :=
  congrArg (arrB m c) (place1 t x y)

/-- What the step of point `t` adds at a place of the block. -/
def part (t : Fin cfg0.N) (y : S1024x768.Idx) : EReal := ∑ k : Fin 1152, blkA m c t (ix2 k (y 0)) * blkB m c t (ix2 k (y 1))

theorem first (t : Fin cfg0.N) (h : t.val % 2 = 0) (y : S1024x768.Idx) : (outsAt0 m c t.val t.isLt).2 y = 0 + part m c t y := by
  obtain ⟨p, q, rfl⟩ := idx2 y
  rw [outsAt0_A m c t h (by omega)]
  frame_out
  rw [step_apply, clear_apply]
  rfl

theorem next (t : Fin cfg0.N) (h : ¬t.val % 2 = 0) (y : S1024x768.Idx) : (outsAt0 m c t.val t.isLt).2 y
    = (outsAt0 m c (t.val - 1) (Nat.lt_of_le_of_lt (Nat.sub_le _ _) t.isLt)).2 y + part m c t y := by
  obtain ⟨p, q, rfl⟩ := idx2 y
  rw [outsAt0_B m c t h (by omega)]
  frame_out
  rw [step_apply]
  exact congrArg₂ (fun x y : EReal => x + y) (congrFun ((Memref.isWhole_whole cc0_scratch0).read_unread _) _) rfl

/-- The last step hands the finished sum out. -/
theorem last (t : Fin cfg0.N) (h : t.val % 2 = 1) (p : Fin 1024) (q : Fin 768) :
    (outsAt0 m c t.val t.isLt).1 (ix2 p q) = (outsAt0 m c t.val t.isLt).2 (ix2 p q) := by
  rw [outsAt0_B m c t (by omega) h]
  frame_out
  rw [cast_apply]

/-- What the block holds when it is written back. -/
theorem after_eq (t : Fin cfg0.N) (h : t.val % 2 = 1) (p : Fin 1024) (q : Fin 768) :
    (dats m 0 c).after 2 t (ix2 p q : S1024x768.Idx)
      = ∑ s : Fin 2, part m c (st t s) (ix2 p q) := by
  rw [after0_2]
  refine (last m c t h p q).trans ?_
  refine (Pipeline.eq_sum_fin_of_reset_step_apply_of_flush (fun n h => (outsAt0 m c n h).2) 2 (fun _ => 0) (part m c)
    (first m c) (next m c) t h _).trans ?_
  exact zero_add _

/-- The product of the two arrays. -/
def whole (y : S1024x1536.Idx) : EReal := ∑ k : Fin 2304, arrA m c (ix2 k (y 0)) * arrB m c (ix2 k (y 1))

theorem left (t : Fin cfg0.N) (hf : (cfg0.win 2).flush t = true) (y : S1024x768.Idx) :
    (dats m 0 c).after 2 t y = whole m c ((win0_2.rect t).emb y) := by
  obtain ⟨p, q, rfl⟩ := idx2 y
  rw [place2]
  refine (after_eq m c t ((flush0_2 t).mp hf) p q).trans ?_
  refine Fin.sum_mul_add_congr (F := fun s k => blkA m c (st t s) (ix2 k p)
    * blkB m c (st t s) (ix2 k q)) (fun s k hl => ?_)
  obtain ⟨e1, e2, e3⟩ := run_steps t s
  show blkA m c _ _ * blkB m c _ _ = _
  rw [blkA_apply, blkB_apply, e1, e2, e3]
  rfl

/-- The array the call leaves. -/
theorem end_eq : (dats m 0 c).arrAt 2 cfg0.N = whole m c :=
  (dats m 0 c).arrAt_eq_of_cover 2 (whole m c) (fun t hf => funext fun y => left m c t hf y)
    fun i => (Value.covered_iff2 i).2 ⟨Nat.zero_le _, (i 0).isLt, Nat.zero_le _, (i 1).isLt⟩

/-- The reference's result is the same product. -/
theorem ref_eq (A : ReferenceQkvDwIdeal.S2304x1024.Idx → EReal) (B : ReferenceQkvDwIdeal.S2304x1536.Idx → EReal) (hA : A = arrA m c) (hB : B = arrB m c) :
    val_main_v6 (F := Ideal) A B = whole m c := by
  subst hA hB
  funext y
  obtain ⟨p, q, rfl⟩ := idx2 y
  pointwise [val_main_v1, val_main_v3, val_main_v4, val_main_v5, val_main_v6]
  exact Finset.sum_congr rfl fun k _ => mul_comm _ _

end Cert.KernelQkvDwIdeal

namespace Cert

open Idealize.ShloMosaic Idealize.SL.Sem

/-- Over the reals the call's result is the reference's. -/
theorem algebraic_QkvDw : algebraic_KernelQkvDwIdeal_ReferenceQkvDwIdeal (hKernelQkvDwIdeal := KernelQkvDwIdeal.Gen.facts)
    (hReferenceQkvDwIdeal := ReferenceQkvDwIdeal.Gen.facts) :=
  fun m g m' g' _ hargs => ⟨fun c => KernelQkvDwIdeal.whole m c,
    (θ_run _ _ _).mono (fun _ h c => ⟨(h c).1.trans (KernelQkvDwIdeal.end_eq m c), (h c).2⟩) (KernelQkvDwIdeal.Value.run_blocks m g),
    (θ_run _ _ _).mono (fun _ h c => ⟨(h c).1.trans (KernelQkvDwIdeal.ref_eq m c _ _ (hargs c).1 (hargs c).2), (h c).2⟩)
      (ReferenceQkvDwIdeal.Value.run m' g')⟩

/-- The reference leaves its arguments and all semaphores as they were. -/
theorem frame_ReferenceQkvDwIdeal : quiescent_ReferenceQkvDwIdeal (hReferenceQkvDwIdeal := ReferenceQkvDwIdeal.Gen.facts) :=
  fun m g _ => (θ_run _ _ _).mono (fun _ h => ⟨fun c => (h c).2, sem_eq_zero_of_no_sems (by decide) _⟩) (ReferenceQkvDwIdeal.Value.run m g)

end Cert

end
-- ==== Proof.QkvDx.lean ====
/- The call computing the gradient of the product by its rows, 2304x1536 by 1024x1536: its one step of the inner axis fills a block of
   the result, and the blocks are the whole product. -/
module

public import proofs.«01_k».proof.Defs
public import proofs.«01_k».proof.Proof.Blocks
public import proofs.«01_k».proof.Proof.Gen.KernelQkvDx.Frame
public import proofs.«01_k».proof.Proof.Gen.KernelQkvDxIdeal.Value
public import proofs.«01_k».proof.Proof.Gen.ReferenceQkvDxIdeal.Read
public import Idealize.ShloMosaic.Adequacy
public import Idealize.ShloMosaic.Init

@[expose] public section

set_option maxRecDepth 16384

noncomputable section

namespace Cert.KernelQkvDxIdeal

open Idealize.ShloMosaic Idealize.ShloMosaic.TcCoe Idealize.SL.Sem Cert.Blocks Cert.KernelQkvDxIdeal.Gen
  Cert.ReferenceQkvDxIdeal.Read

/-- A point of the grid is a block of rows, a block of columns and a step of the inner axis. -/
def bi (t : Fin grid0.N) : Fin 2 := grid0.coords t 0
def bj (t : Fin grid0.N) : Fin 1 := grid0.coords t 1
def bk (t : Fin grid0.N) : Fin 1 := grid0.coords t 2
theorem step_lt : ∀ (t : Fin grid0.N) (s : Fin 1), 1 * (t.val / 1) + s.val < grid0.N := by decide +kernel
/-- The steps of a point's block. -/
def st (t : Fin grid0.N) (s : Fin 1) : Fin grid0.N := ⟨1 * (t.val / 1) + s.val, step_lt t s⟩
theorem run_steps : ∀ (t : Fin grid0.N) (s : Fin 1), bi (st t s) = bi t ∧ bj (st t s) = bj t ∧ bk (st t s) = s := by decide +kernel

/-- An index of the array, from its block's number and the index there. -/
def atI (n : Fin 2) (x : Fin 1152) : Fin 2304 := ⟨n.val * 1152 + x.val, by omega⟩
def atJ (n : Fin 1) (x : Fin 1024) : Fin 1024 := ⟨n.val * 1024 + x.val, by omega⟩
def atK (n : Fin 1) (x : Fin 1536) : Fin 1536 := ⟨n.val * 1536 + x.val, by omega⟩

theorem index : ∀ t : Fin grid0.N,
    (∀ a, win0_0.index t a = (![(bi t).val, (bk t).val] : Fin 2 → Nat) a) ∧
    (∀ a, win0_1.index t a = (![(bj t).val, (bk t).val] : Fin 2 → Nat) a) ∧
    (∀ a, win0_2.index t a = (![(bi t).val, (bj t).val] : Fin 2 → Nat) a) := by decide +kernel

theorem place0 (t : Fin cfg0.N) (x : Fin 1152) (y : Fin 1536) :
    (win0_0.rect t).emb (ix2 x y : S1152x1536.Idx) = (ix2 (atI (bi t) x) (atK (bk t) y) : S2304x1536.Idx) := by
  refine funext fun a => Fin.ext ((win0_0.rect_emb_val t _ a).trans ?_)
  rw [(index t).1 a]
  match a with
  | ⟨0, _⟩ => rfl
  | ⟨1, _⟩ => rfl
theorem place1 (t : Fin cfg0.N) (x : Fin 1024) (y : Fin 1536) :
    (win0_1.rect t).emb (ix2 x y : S1024x1536.Idx) = (ix2 (atJ (bj t) x) (atK (bk t) y) : S1024x1536.Idx) := by
  refine funext fun a => Fin.ext ((win0_1.rect_emb_val t _ a).trans ?_)
  rw [(index t).2.1 a]
  match a with
  | ⟨0, _⟩ => rfl
  | ⟨1, _⟩ => rfl
theorem place2 (t : Fin cfg0.N) (x : Fin 1152) (y : Fin 1024) :
    (win0_2.rect t).emb (ix2 x y : S1152x1024.Idx) = (ix2 (atI (bi t) x) (atJ (bj t) y) : S2304x1024.Idx) := by
  refine funext fun a => Fin.ext ((win0_2.rect_emb_val t _ a).trans ?_)
  rw [(index t).2.2 a]
  match a with
  | ⟨0, _⟩ => rfl
  | ⟨1, _⟩ => rfl

/-- A step adds its part of the inner axis to what the block holds. -/
theorem step_apply (acc : Vec Ideal S1152x1024 .f32) (A : Vec Ideal S1152x1536 .bf16) (B : Vec Ideal S1024x1536 .bf16) (p : Fin 1152) (q : Fin 1024) :
    k0_pay2 (F := Ideal) acc A B (ix2 p q) = acc (ix2 p q) + ∑ k : Fin 1536, A (ix2 p k) * B (ix2 q k) := by
  pointwise [k0_pay2]

/-- The block is cleared before the first step. -/
theorem clear_apply (p : Fin 1152) (q : Fin 1024) : k0_pay1 (F := Ideal) (ix2 p q) = 0 := by
  pointwise [k0_pay1]

variable (m : (ℓ : Loc nD τ sig) → Buf (Elt Ideal) ℓ) (c : Dev nD)

/-- The two arrays the call is given, and their blocks at a point. -/
def arrA : S2304x1536.Idx → EReal := m ((c : Thread nD τ).loc main_arg0)
def arrB : S1024x1536.Idx → EReal := m ((c : Thread nD τ).loc main_arg1)
def blkA (t : Fin cfg0.N) : S1152x1536.Idx → EReal := iblk m c 0 t
def blkB (t : Fin cfg0.N) : S1024x1536.Idx → EReal := iblk m c 1 t

theorem blkA_apply (t : Fin cfg0.N) (x : Fin 1152) (y : Fin 1536) : blkA m c t (ix2 x y) = arrA m c (ix2 (atI (bi t) x) (atK (bk t) y)) :=
  congrArg (arrA m c) (place0 t x y)

theorem blkB_apply (t : Fin cfg0.N) (x : Fin 1024) (y : Fin 1536) : blkB m c t (ix2 x y) = arrB m c (ix2 (atJ (bj t) x) (atK (bk t) y)) :=
  congrArg (arrB m c) (place1 t x y)

/-- What the step of point `t` adds at a place of the block. -/
def part (t : Fin cfg0.N) (y : S1152x1024.Idx) : EReal := ∑ k : Fin 1536, blkA m c t (ix2 (y 0) k) * blkB m c t (ix2 (y 1) k)

/-- What the block holds when it is written back. -/
theorem after_eq (t : Fin cfg0.N) (p : Fin 1152) (q : Fin 1024) :
    (dats m 0 c).after 2 t (ix2 p q : S1152x1024.Idx) = ∑ s : Fin 1, part m c (st t s) (ix2 p q) := by
  have e : ∀ s : Fin 1, st t s = t := fun s => Fin.ext (by show 1 * (t.val / 1) + s.val = t.val; omega)
  rw [after0_2, Fin.sum_univ_one, e]
  unfold outsAt0
  frame_out
  rw [step_apply, clear_apply, zero_add]
  rfl

/-- The product of the two arrays. -/
def whole (y : S2304x1024.Idx) : EReal := ∑ k : Fin 1536, arrA m c (ix2 (y 0) k) * arrB m c (ix2 (y 1) k)

theorem left (t : Fin cfg0.N) (hf : (cfg0.win 2).flush t = true) (y : S1152x1024.Idx) :
    (dats m 0 c).after 2 t y = whole m c ((win0_2.rect t).emb y) := by
  obtain ⟨p, q, rfl⟩ := idx2 y
  rw [place2]
  refine (after_eq m c t p q).trans ?_
  refine Fin.sum_mul_add_congr (F := fun s k => blkA m c (st t s) (ix2 p k)
    * blkB m c (st t s) (ix2 q k)) (fun s k hl => ?_)
  obtain ⟨e1, e2, e3⟩ := run_steps t s
  show blkA m c _ _ * blkB m c _ _ = _
  rw [blkA_apply, blkB_apply, e1, e2, e3]
  rfl

/-- Every place of the result is in some point's block. -/
theorem onto : ∀ (i : Fin 2) (j : Fin 1), ∃ t, win0_2.flush t = true ∧ bi t = i ∧ bj t = j := by decide +kernel

theorem cover (y : S2304x1024.Idx) : ∃ t, (cfg0.win 2).flush t = true ∧ y ∈ ((cfg0.win 2).blk t).view.set := by
  obtain ⟨r, s, rfl⟩ := idx2 y
  obtain ⟨i, p, rfl⟩ : ∃ i p, r = atI i p :=
    ⟨⟨r.val / 1152, by omega⟩, ⟨r.val % 1152, by omega⟩, Fin.ext (show r.val = r.val / 1152 * 1152 + r.val % 1152 by omega)⟩
  obtain ⟨j, q, rfl⟩ : ∃ j q, s = atJ j q :=
    ⟨⟨s.val / 1024, by omega⟩, ⟨s.val % 1024, by omega⟩, Fin.ext (show s.val = s.val / 1024 * 1024 + s.val % 1024 by omega)⟩
  obtain ⟨t, h, rfl, rfl⟩ := onto i j
  exact ⟨t, h, (place2 t p q) ▸ View.emb_mem_set _ _⟩

/-- The array the call leaves. -/
theorem end_eq : (dats m 0 c).arrAt 2 cfg0.N = whole m c :=
  (dats m 0 c).arrAt_eq_of_cover 2 (whole m c) (fun t hf => funext fun y => left m c t hf y) cover

/-- The reference's result is the same product. -/
theorem ref_eq (A : ReferenceQkvDxIdeal.S2304x1536.Idx → EReal) (B : ReferenceQkvDxIdeal.S1024x1536.Idx → EReal) (hA : A = arrA m c) (hB : B = arrB m c) :
    val_main_v4 (F := Ideal) A B = whole m c := by
  subst hA hB
  funext y
  obtain ⟨p, q, rfl⟩ := idx2 y
  pointwise [val_main_v1, val_main_v3, val_main_v4]
  rfl

end Cert.KernelQkvDxIdeal

namespace Cert

open Idealize.ShloMosaic Idealize.SL.Sem

/-- Over the reals the call's result is the reference's. -/
theorem algebraic_QkvDx : algebraic_KernelQkvDxIdeal_ReferenceQkvDxIdeal (hKernelQkvDxIdeal := KernelQkvDxIdeal.Gen.facts)
    (hReferenceQkvDxIdeal := ReferenceQkvDxIdeal.Gen.facts) :=
  fun m g m' g' _ hargs => ⟨fun c => KernelQkvDxIdeal.whole m c,
    (θ_run _ _ _).mono (fun _ h c => ⟨(h c).1.trans (KernelQkvDxIdeal.end_eq m c), (h c).2⟩) (KernelQkvDxIdeal.Value.run_blocks m g),
    (θ_run _ _ _).mono (fun _ h c => ⟨(h c).1.trans (KernelQkvDxIdeal.ref_eq m c _ _ (hargs c).1 (hargs c).2), (h c).2⟩)
      (ReferenceQkvDxIdeal.Value.run m' g')⟩

/-- The reference leaves its arguments and all semaphores as they were. -/
theorem frame_ReferenceQkvDxIdeal : quiescent_ReferenceQkvDxIdeal (hReferenceQkvDxIdeal := ReferenceQkvDxIdeal.Gen.facts) :=
  fun m g _ => (θ_run _ _ _).mono (fun _ h => ⟨fun c => (h c).2, sem_eq_zero_of_no_sems (by decide) _⟩) (ReferenceQkvDxIdeal.Value.run m g)

end Cert

end
-- ==== Proof.GmIn.lean ====
/- The call computing the rows times the weights, 2048x1024 by 1024x4096: its one step of the inner axis fills a block of
   the result, and the blocks are the whole product. -/
module

public import proofs.«01_k».proof.Defs
public import proofs.«01_k».proof.Proof.Blocks
public import proofs.«01_k».proof.Proof.Gen.KernelGmIn.Frame
public import proofs.«01_k».proof.Proof.Gen.KernelGmInIdeal.Value
public import proofs.«01_k».proof.Proof.Gen.ReferenceGmInIdeal.Read
public import Idealize.ShloMosaic.Adequacy
public import Idealize.ShloMosaic.Init

@[expose] public section

set_option maxRecDepth 16384

noncomputable section

namespace Cert.KernelGmInIdeal

open Idealize.ShloMosaic Idealize.ShloMosaic.TcCoe Idealize.SL.Sem Cert.Blocks Cert.KernelGmInIdeal.Gen
  Cert.ReferenceGmInIdeal.Read

/-- A point of the grid is a block of rows, a block of columns and a step of the inner axis. -/
def bi (t : Fin grid0.N) : Fin 2 := grid0.coords t 0
def bj (t : Fin grid0.N) : Fin 4 := grid0.coords t 1
def bk (t : Fin grid0.N) : Fin 1 := grid0.coords t 2
theorem step_lt : ∀ (t : Fin grid0.N) (s : Fin 1), 1 * (t.val / 1) + s.val < grid0.N := by decide +kernel
/-- The steps of a point's block. -/
def st (t : Fin grid0.N) (s : Fin 1) : Fin grid0.N := ⟨1 * (t.val / 1) + s.val, step_lt t s⟩
theorem run_steps : ∀ (t : Fin grid0.N) (s : Fin 1), bi (st t s) = bi t ∧ bj (st t s) = bj t ∧ bk (st t s) = s := by decide +kernel

/-- An index of the array, from its block's number and the index there. -/
def atI (n : Fin 2) (x : Fin 1024) : Fin 2048 := ⟨n.val * 1024 + x.val, by omega⟩
def atJ (n : Fin 4) (x : Fin 1024) : Fin 4096 := ⟨n.val * 1024 + x.val, by omega⟩
def atK (n : Fin 1) (x : Fin 1024) : Fin 1024 := ⟨n.val * 1024 + x.val, by omega⟩

theorem index : ∀ t : Fin grid0.N,
    (∀ a, win0_0.index t a = (![(bi t).val, (bk t).val] : Fin 2 → Nat) a) ∧
    (∀ a, win0_1.index t a = (![(bk t).val, (bj t).val] : Fin 2 → Nat) a) ∧
    (∀ a, win0_2.index t a = (![(bi t).val, (bj t).val] : Fin 2 → Nat) a) := by decide +kernel

theorem place0 (t : Fin cfg0.N) (x : Fin 1024) (y : Fin 1024) :
    (win0_0.rect t).emb (ix2 x y : S1024x1024.Idx) = (ix2 (atI (bi t) x) (atK (bk t) y) : S2048x1024.Idx) := by
  refine funext fun a => Fin.ext ((win0_0.rect_emb_val t _ a).trans ?_)
  rw [(index t).1 a]
  match a with
  | ⟨0, _⟩ => rfl
  | ⟨1, _⟩ => rfl
theorem place1 (t : Fin cfg0.N) (x : Fin 1024) (y : Fin 1024) :
    (win0_1.rect t).emb (ix2 x y : S1024x1024.Idx) = (ix2 (atK (bk t) x) (atJ (bj t) y) : S1024x4096.Idx) := by
  refine funext fun a => Fin.ext ((win0_1.rect_emb_val t _ a).trans ?_)
  rw [(index t).2.1 a]
  match a with
  | ⟨0, _⟩ => rfl
  | ⟨1, _⟩ => rfl
theorem place2 (t : Fin cfg0.N) (x : Fin 1024) (y : Fin 1024) :
    (win0_2.rect t).emb (ix2 x y : S1024x1024.Idx) = (ix2 (atI (bi t) x) (atJ (bj t) y) : S2048x4096.Idx) := by
  refine funext fun a => Fin.ext ((win0_2.rect_emb_val t _ a).trans ?_)
  rw [(index t).2.2 a]
  match a with
  | ⟨0, _⟩ => rfl
  | ⟨1, _⟩ => rfl

/-- A step adds its part of the inner axis to what the block holds. -/
theorem step_apply (acc : Vec Ideal S1024x1024 .f32) (A : Vec Ideal S1024x1024 .bf16) (B : Vec Ideal S1024x1024 .bf16) (p : Fin 1024) (q : Fin 1024) :
    k0_pay2 (F := Ideal) acc A B (ix2 p q) = acc (ix2 p q) + ∑ k : Fin 1024, A (ix2 p k) * B (ix2 k q) := by
  pointwise [k0_pay2]

/-- The block is cleared before the first step. -/
theorem clear_apply (p : Fin 1024) (q : Fin 1024) : k0_pay1 (F := Ideal) (ix2 p q) = 0 := by
  pointwise [k0_pay1]

variable (m : (ℓ : Loc nD τ sig) → Buf (Elt Ideal) ℓ) (c : Dev nD)

/-- The two arrays the call is given, and their blocks at a point. -/
def arrA : S2048x1024.Idx → EReal := m ((c : Thread nD τ).loc main_arg0)
def arrB : S1024x4096.Idx → EReal := m ((c : Thread nD τ).loc main_arg1)
def blkA (t : Fin cfg0.N) : S1024x1024.Idx → EReal := iblk m c 0 t
def blkB (t : Fin cfg0.N) : S1024x1024.Idx → EReal := iblk m c 1 t

theorem blkA_apply (t : Fin cfg0.N) (x : Fin 1024) (y : Fin 1024) : blkA m c t (ix2 x y) = arrA m c (ix2 (atI (bi t) x) (atK (bk t) y)) :=
  congrArg (arrA m c) (place0 t x y)

theorem blkB_apply (t : Fin cfg0.N) (x : Fin 1024) (y : Fin 1024) : blkB m c t (ix2 x y) = arrB m c (ix2 (atK (bk t) x) (atJ (bj t) y)) :=
  congrArg (arrB m c) (place1 t x y)

/-- What the step of point `t` adds at a place of the block. -/
def part (t : Fin cfg0.N) (y : S1024x1024.Idx) : EReal := ∑ k : Fin 1024, blkA m c t (ix2 (y 0) k) * blkB m c t (ix2 k (y 1))

/-- What the block holds when it is written back. -/
theorem after_eq (t : Fin cfg0.N) (p : Fin 1024) (q : Fin 1024) :
    (dats m 0 c).after 2 t (ix2 p q : S1024x1024.Idx) = ∑ s : Fin 1, part m c (st t s) (ix2 p q) := by
  have e : ∀ s : Fin 1, st t s = t := fun s => Fin.ext (by show 1 * (t.val / 1) + s.val = t.val; omega)
  rw [after0_2, Fin.sum_univ_one, e]
  unfold outsAt0
  frame_out
  rw [step_apply, clear_apply, zero_add]
  rfl

/-- The product of the two arrays. -/
def whole (y : S2048x4096.Idx) : EReal := ∑ k : Fin 1024, arrA m c (ix2 (y 0) k) * arrB m c (ix2 k (y 1))

theorem left (t : Fin cfg0.N) (hf : (cfg0.win 2).flush t = true) (y : S1024x1024.Idx) :
    (dats m 0 c).after 2 t y = whole m c ((win0_2.rect t).emb y) := by
  obtain ⟨p, q, rfl⟩ := idx2 y
  rw [place2]
  refine (after_eq m c t p q).trans ?_
  refine Fin.sum_mul_add_congr (F := fun s k => blkA m c (st t s) (ix2 p k)
    * blkB m c (st t s) (ix2 k q)) (fun s k hl => ?_)
  obtain ⟨e1, e2, e3⟩ := run_steps t s
  show blkA m c _ _ * blkB m c _ _ = _
  rw [blkA_apply, blkB_apply, e1, e2, e3]
  rfl

/-- Every place of the result is in some point's block. -/
theorem onto : ∀ (i : Fin 2) (j : Fin 4), ∃ t, win0_2.flush t = true ∧ bi t = i ∧ bj t = j := by decide +kernel

theorem cover (y : S2048x4096.Idx) : ∃ t, (cfg0.win 2).flush t = true ∧ y ∈ ((cfg0.win 2).blk t).view.set := by
  obtain ⟨r, s, rfl⟩ := idx2 y
  obtain ⟨i, p, rfl⟩ : ∃ i p, r = atI i p :=
    ⟨⟨r.val / 1024, by omega⟩, ⟨r.val % 1024, by omega⟩, Fin.ext (show r.val = r.val / 1024 * 1024 + r.val % 1024 by omega)⟩
  obtain ⟨j, q, rfl⟩ : ∃ j q, s = atJ j q :=
    ⟨⟨s.val / 1024, by omega⟩, ⟨s.val % 1024, by omega⟩, Fin.ext (show s.val = s.val / 1024 * 1024 + s.val % 1024 by omega)⟩
  obtain ⟨t, h, rfl, rfl⟩ := onto i j
  exact ⟨t, h, (place2 t p q) ▸ View.emb_mem_set _ _⟩

/-- The array the call leaves. -/
theorem end_eq : (dats m 0 c).arrAt 2 cfg0.N = whole m c :=
  (dats m 0 c).arrAt_eq_of_cover 2 (whole m c) (fun t hf => funext fun y => left m c t hf y) cover

/-- The reference's result is the same product. -/
theorem ref_eq (A : ReferenceGmInIdeal.S2048x1024.Idx → EReal) (B : ReferenceGmInIdeal.S1024x4096.Idx → EReal) (hA : A = arrA m c) (hB : B = arrB m c) :
    val_main_v2 (F := Ideal) A B = whole m c := by
  subst hA hB
  funext y
  obtain ⟨p, q, rfl⟩ := idx2 y
  pointwise [val_main_v0, val_main_v1, val_main_v2]
  rfl

end Cert.KernelGmInIdeal

namespace Cert

open Idealize.ShloMosaic Idealize.SL.Sem

/-- Over the reals the call's result is the reference's. -/
theorem algebraic_GmIn : algebraic_KernelGmInIdeal_ReferenceGmInIdeal (hKernelGmInIdeal := KernelGmInIdeal.Gen.facts)
    (hReferenceGmInIdeal := ReferenceGmInIdeal.Gen.facts) :=
  fun m g m' g' _ hargs => ⟨fun c => KernelGmInIdeal.whole m c,
    (θ_run _ _ _).mono (fun _ h c => ⟨(h c).1.trans (KernelGmInIdeal.end_eq m c), (h c).2⟩) (KernelGmInIdeal.Value.run_blocks m g),
    (θ_run _ _ _).mono (fun _ h c => ⟨(h c).1.trans (KernelGmInIdeal.ref_eq m c _ _ (hargs c).1 (hargs c).2), (h c).2⟩)
      (ReferenceGmInIdeal.Value.run m' g')⟩

/-- The reference leaves its arguments and all semaphores as they were. -/
theorem frame_ReferenceGmInIdeal : quiescent_ReferenceGmInIdeal (hReferenceGmInIdeal := ReferenceGmInIdeal.Gen.facts) :=
  fun m g _ => (θ_run _ _ _).mono (fun _ h => ⟨fun c => (h c).2, sem_eq_zero_of_no_sems (by decide) _⟩) (ReferenceGmInIdeal.Value.run m g)

end Cert

end
-- ==== Proof.GmInDw.lean ====
/- The call computing the gradient of the product by its weights, 2048x1024 by 2048x4096: the 2 steps of the inner axis add up in a block of
   the result, and the blocks are the whole product. -/
module

public import proofs.«01_k».proof.Defs
public import proofs.«01_k».proof.Proof.Blocks
public import proofs.«01_k».proof.Proof.Gen.KernelGmInDw.Frame
public import proofs.«01_k».proof.Proof.Gen.KernelGmInDwIdeal.Value
public import proofs.«01_k».proof.Proof.Gen.ReferenceGmInDwIdeal.Read
public import Idealize.ShloMosaic.Adequacy
public import Idealize.ShloMosaic.Init

@[expose] public section

set_option maxRecDepth 16384

noncomputable section

namespace Cert.KernelGmInDwIdeal

open Idealize.ShloMosaic Idealize.ShloMosaic.TcCoe Idealize.SL.Sem Cert.Blocks Cert.KernelGmInDwIdeal.Gen
  Cert.ReferenceGmInDwIdeal.Read

/-- A point of the grid is a block of rows, a block of columns and a step of the inner axis. -/
def bi (t : Fin grid0.N) : Fin 1 := grid0.coords t 0
def bj (t : Fin grid0.N) : Fin 4 := grid0.coords t 1
def bk (t : Fin grid0.N) : Fin 2 := grid0.coords t 2
theorem step_lt : ∀ (t : Fin grid0.N) (s : Fin 2), 2 * (t.val / 2) + s.val < grid0.N := by decide +kernel
/-- The steps of a point's block. -/
def st (t : Fin grid0.N) (s : Fin 2) : Fin grid0.N := ⟨2 * (t.val / 2) + s.val, step_lt t s⟩
theorem run_steps : ∀ (t : Fin grid0.N) (s : Fin 2), bi (st t s) = bi t ∧ bj (st t s) = bj t ∧ bk (st t s) = s := by decide +kernel

/-- An index of the array, from its block's number and the index there. -/
def atI (n : Fin 1) (x : Fin 1024) : Fin 1024 := ⟨n.val * 1024 + x.val, by omega⟩
def atJ (n : Fin 4) (x : Fin 1024) : Fin 4096 := ⟨n.val * 1024 + x.val, by omega⟩
def atK (n : Fin 2) (x : Fin 1024) : Fin 2048 := ⟨n.val * 1024 + x.val, by omega⟩

theorem index : ∀ t : Fin grid0.N,
    (∀ a, win0_0.index t a = (![(bk t).val, (bi t).val] : Fin 2 → Nat) a) ∧
    (∀ a, win0_1.index t a = (![(bk t).val, (bj t).val] : Fin 2 → Nat) a) ∧
    (∀ a, win0_2.index t a = (![(bi t).val, (bj t).val] : Fin 2 → Nat) a) := by decide +kernel

theorem place0 (t : Fin cfg0.N) (x : Fin 1024) (y : Fin 1024) :
    (win0_0.rect t).emb (ix2 x y : S1024x1024.Idx) = (ix2 (atK (bk t) x) (atI (bi t) y) : S2048x1024.Idx) := by
  refine funext fun a => Fin.ext ((win0_0.rect_emb_val t _ a).trans ?_)
  rw [(index t).1 a]
  match a with
  | ⟨0, _⟩ => rfl
  | ⟨1, _⟩ => rfl
theorem place1 (t : Fin cfg0.N) (x : Fin 1024) (y : Fin 1024) :
    (win0_1.rect t).emb (ix2 x y : S1024x1024.Idx) = (ix2 (atK (bk t) x) (atJ (bj t) y) : S2048x4096.Idx) := by
  refine funext fun a => Fin.ext ((win0_1.rect_emb_val t _ a).trans ?_)
  rw [(index t).2.1 a]
  match a with
  | ⟨0, _⟩ => rfl
  | ⟨1, _⟩ => rfl
theorem place2 (t : Fin cfg0.N) (x : Fin 1024) (y : Fin 1024) :
    (win0_2.rect t).emb (ix2 x y : S1024x1024.Idx) = (ix2 (atI (bi t) x) (atJ (bj t) y) : S1024x4096.Idx) := by
  refine funext fun a => Fin.ext ((win0_2.rect_emb_val t _ a).trans ?_)
  rw [(index t).2.2 a]
  match a with
  | ⟨0, _⟩ => rfl
  | ⟨1, _⟩ => rfl

/-- A step adds its part of the inner axis to what the block holds. -/
theorem step_apply (acc : Vec Ideal S1024x1024 .f32) (A : Vec Ideal S1024x1024 .bf16) (B : Vec Ideal S1024x1024 .bf16) (p : Fin 1024) (q : Fin 1024) :
    k0_pay2 (F := Ideal) acc A B (ix2 p q) = acc (ix2 p q) + ∑ k : Fin 1024, A (ix2 k p) * B (ix2 k q) := by
  pointwise [k0_pay2]

/-- The block is cleared before the first step. -/
theorem clear_apply (p : Fin 1024) (q : Fin 1024) : k0_pay1 (F := Ideal) (ix2 p q) = 0 := by
  pointwise [k0_pay1]

/-- The cast of the finished block. -/
theorem cast_apply (X : Vec Ideal S1024x1024 .f32) (p : Fin 1024) (q : Fin 1024) : k0_pay3 (F := Ideal) X (ix2 p q) = X (ix2 p q) := by
  pointwise [k0_pay3]

variable (m : (ℓ : Loc nD τ sig) → Buf (Elt Ideal) ℓ) (c : Dev nD)

/-- The two arrays the call is given, and their blocks at a point. -/
def arrA : S2048x1024.Idx → EReal := m ((c : Thread nD τ).loc main_arg0)
def arrB : S2048x4096.Idx → EReal := m ((c : Thread nD τ).loc main_arg1)
def blkA (t : Fin cfg0.N) : S1024x1024.Idx → EReal := iblk m c 0 t
def blkB (t : Fin cfg0.N) : S1024x1024.Idx → EReal := iblk m c 1 t

theorem blkA_apply (t : Fin cfg0.N) (x : Fin 1024) (y : Fin 1024) : blkA m c t (ix2 x y) = arrA m c (ix2 (atK (bk t) x) (atI (bi t) y)) :=
  congrArg (arrA m c) (place0 t x y)

theorem blkB_apply (t : Fin cfg0.N) (x : Fin 1024) (y : Fin 1024) : blkB m c t (ix2 x y) = arrB m c (ix2 (atK (bk t) x) (atJ (bj t) y)) :=
  congrArg (arrB m c) (place1 t x y)

/-- What the step of point `t` adds at a place of the block. -/
def part (t : Fin cfg0.N) (y : S1024x1024.Idx) : EReal := ∑ k : Fin 1024, blkA m c t (ix2 k (y 0)) * blkB m c t (ix2 k (y 1))

theorem first (t : Fin cfg0.N) (h : t.val % 2 = 0) (y : S1024x1024.Idx) : (outsAt0 m c t.val t.isLt).2 y = 0 + part m c t y := by
  obtain ⟨p, q, rfl⟩ := idx2 y
  rw [outsAt0_A m c t h (by omega)]
  frame_out
  rw [step_apply, clear_apply]
  rfl

theorem next (t : Fin cfg0.N) (h : ¬t.val % 2 = 0) (y : S1024x1024.Idx) : (outsAt0 m c t.val t.isLt).2 y
    = (outsAt0 m c (t.val - 1) (Nat.lt_of_le_of_lt (Nat.sub_le _ _) t.isLt)).2 y + part m c t y := by
  obtain ⟨p, q, rfl⟩ := idx2 y
  rw [outsAt0_B m c t h (by omega)]
  frame_out
  rw [step_apply]
  exact congrArg₂ (fun x y : EReal => x + y) (congrFun ((Memref.isWhole_whole cc0_scratch0).read_unread _) _) rfl

/-- The last step hands the finished sum out. -/
theorem last (t : Fin cfg0.N) (h : t.val % 2 = 1) (p : Fin 1024) (q : Fin 1024) :
    (outsAt0 m c t.val t.isLt).1 (ix2 p q) = (outsAt0 m c t.val t.isLt).2 (ix2 p q) := by
  rw [outsAt0_B m c t (by omega) h]
  frame_out
  rw [cast_apply]

/-- What the block holds when it is written back. -/
theorem after_eq (t : Fin cfg0.N) (h : t.val % 2 = 1) (p : Fin 1024) (q : Fin 1024) :
    (dats m 0 c).after 2 t (ix2 p q : S1024x1024.Idx)
      = ∑ s : Fin 2, part m c (st t s) (ix2 p q) := by
  rw [after0_2]
  refine (last m c t h p q).trans ?_
  refine (Pipeline.eq_sum_fin_of_reset_step_apply_of_flush (fun n h => (outsAt0 m c n h).2) 2 (fun _ => 0) (part m c)
    (first m c) (next m c) t h _).trans ?_
  exact zero_add _

/-- The product of the two arrays. -/
def whole (y : S1024x4096.Idx) : EReal := ∑ k : Fin 2048, arrA m c (ix2 k (y 0)) * arrB m c (ix2 k (y 1))

theorem left (t : Fin cfg0.N) (hf : (cfg0.win 2).flush t = true) (y : S1024x1024.Idx) :
    (dats m 0 c).after 2 t y = whole m c ((win0_2.rect t).emb y) := by
  obtain ⟨p, q, rfl⟩ := idx2 y
  rw [place2]
  refine (after_eq m c t ((flush0_2 t).mp hf) p q).trans ?_
  refine Fin.sum_mul_add_congr (F := fun s k => blkA m c (st t s) (ix2 k p)
    * blkB m c (st t s) (ix2 k q)) (fun s k hl => ?_)
  obtain ⟨e1, e2, e3⟩ := run_steps t s
  show blkA m c _ _ * blkB m c _ _ = _
  rw [blkA_apply, blkB_apply, e1, e2, e3]
  rfl

/-- The array the call leaves. -/
theorem end_eq : (dats m 0 c).arrAt 2 cfg0.N = whole m c :=
  (dats m 0 c).arrAt_eq_of_cover 2 (whole m c) (fun t hf => funext fun y => left m c t hf y)
    fun i => (Value.covered_iff2 i).2 ⟨Nat.zero_le _, (i 0).isLt, Nat.zero_le _, (i 1).isLt⟩

/-- The reference's result is the same product. -/
theorem ref_eq (A : ReferenceGmInDwIdeal.S2048x1024.Idx → EReal) (B : ReferenceGmInDwIdeal.S2048x4096.Idx → EReal) (hA : A = arrA m c) (hB : B = arrB m c) :
    val_main_v6 (F := Ideal) A B = whole m c := by
  subst hA hB
  funext y
  obtain ⟨p, q, rfl⟩ := idx2 y
  pointwise [val_main_v1, val_main_v3, val_main_v4, val_main_v5, val_main_v6]
  exact Finset.sum_congr rfl fun k _ => mul_comm _ _

end Cert.KernelGmInDwIdeal

namespace Cert

open Idealize.ShloMosaic Idealize.SL.Sem

/-- Over the reals the call's result is the reference's. -/
theorem algebraic_GmInDw : algebraic_KernelGmInDwIdeal_ReferenceGmInDwIdeal (hKernelGmInDwIdeal := KernelGmInDwIdeal.Gen.facts)
    (hReferenceGmInDwIdeal := ReferenceGmInDwIdeal.Gen.facts) :=
  fun m g m' g' _ hargs => ⟨fun c => KernelGmInDwIdeal.whole m c,
    (θ_run _ _ _).mono (fun _ h c => ⟨(h c).1.trans (KernelGmInDwIdeal.end_eq m c), (h c).2⟩) (KernelGmInDwIdeal.Value.run_blocks m g),
    (θ_run _ _ _).mono (fun _ h c => ⟨(h c).1.trans (KernelGmInDwIdeal.ref_eq m c _ _ (hargs c).1 (hargs c).2), (h c).2⟩)
      (ReferenceGmInDwIdeal.Value.run m' g')⟩

/-- The reference leaves its arguments and all semaphores as they were. -/
theorem frame_ReferenceGmInDwIdeal : quiescent_ReferenceGmInDwIdeal (hReferenceGmInDwIdeal := ReferenceGmInDwIdeal.Gen.facts) :=
  fun m g _ => (θ_run _ _ _).mono (fun _ h => ⟨fun c => (h c).2, sem_eq_zero_of_no_sems (by decide) _⟩) (ReferenceGmInDwIdeal.Value.run m g)

end Cert

end
-- ==== Proof.GmInDx.lean ====
/- The call computing the gradient of the product by its rows, 2048x4096 by 1024x4096: the 4 steps of the inner axis add up in a block of
   the result, and the blocks are the whole product. -/
module

public import proofs.«01_k».proof.Defs
public import proofs.«01_k».proof.Proof.Blocks
public import proofs.«01_k».proof.Proof.Gen.KernelGmInDx.Frame
public import proofs.«01_k».proof.Proof.Gen.KernelGmInDxIdeal.Value
public import proofs.«01_k».proof.Proof.Gen.ReferenceGmInDxIdeal.Read
public import Idealize.ShloMosaic.Adequacy
public import Idealize.ShloMosaic.Init

@[expose] public section

set_option maxRecDepth 16384

noncomputable section

namespace Cert.KernelGmInDxIdeal

open Idealize.ShloMosaic Idealize.ShloMosaic.TcCoe Idealize.SL.Sem Cert.Blocks Cert.KernelGmInDxIdeal.Gen
  Cert.ReferenceGmInDxIdeal.Read

/-- A point of the grid is a block of rows, a block of columns and a step of the inner axis. -/
def bi (t : Fin grid0.N) : Fin 2 := grid0.coords t 0
def bj (t : Fin grid0.N) : Fin 1 := grid0.coords t 1
def bk (t : Fin grid0.N) : Fin 4 := grid0.coords t 2
theorem step_lt : ∀ (t : Fin grid0.N) (s : Fin 4), 4 * (t.val / 4) + s.val < grid0.N := by decide +kernel
/-- The steps of a point's block. -/
def st (t : Fin grid0.N) (s : Fin 4) : Fin grid0.N := ⟨4 * (t.val / 4) + s.val, step_lt t s⟩
theorem run_steps : ∀ (t : Fin grid0.N) (s : Fin 4), bi (st t s) = bi t ∧ bj (st t s) = bj t ∧ bk (st t s) = s := by decide +kernel

/-- An index of the array, from its block's number and the index there. -/
def atI (n : Fin 2) (x : Fin 1024) : Fin 2048 := ⟨n.val * 1024 + x.val, by omega⟩
def atJ (n : Fin 1) (x : Fin 1024) : Fin 1024 := ⟨n.val * 1024 + x.val, by omega⟩
def atK (n : Fin 4) (x : Fin 1024) : Fin 4096 := ⟨n.val * 1024 + x.val, by omega⟩

theorem index : ∀ t : Fin grid0.N,
    (∀ a, win0_0.index t a = (![(bi t).val, (bk t).val] : Fin 2 → Nat) a) ∧
    (∀ a, win0_1.index t a = (![(bj t).val, (bk t).val] : Fin 2 → Nat) a) ∧
    (∀ a, win0_2.index t a = (![(bi t).val, (bj t).val] : Fin 2 → Nat) a) := by decide +kernel

theorem place0 (t : Fin cfg0.N) (x : Fin 1024) (y : Fin 1024) :
    (win0_0.rect t).emb (ix2 x y : S1024x1024.Idx) = (ix2 (atI (bi t) x) (atK (bk t) y) : S2048x4096.Idx) := by
  refine funext fun a => Fin.ext ((win0_0.rect_emb_val t _ a).trans ?_)
  rw [(index t).1 a]
  match a with
  | ⟨0, _⟩ => rfl
  | ⟨1, _⟩ => rfl
theorem place1 (t : Fin cfg0.N) (x : Fin 1024) (y : Fin 1024) :
    (win0_1.rect t).emb (ix2 x y : S1024x1024.Idx) = (ix2 (atJ (bj t) x) (atK (bk t) y) : S1024x4096.Idx) := by
  refine funext fun a => Fin.ext ((win0_1.rect_emb_val t _ a).trans ?_)
  rw [(index t).2.1 a]
  match a with
  | ⟨0, _⟩ => rfl
  | ⟨1, _⟩ => rfl
theorem place2 (t : Fin cfg0.N) (x : Fin 1024) (y : Fin 1024) :
    (win0_2.rect t).emb (ix2 x y : S1024x1024.Idx) = (ix2 (atI (bi t) x) (atJ (bj t) y) : S2048x1024.Idx) := by
  refine funext fun a => Fin.ext ((win0_2.rect_emb_val t _ a).trans ?_)
  rw [(index t).2.2 a]
  match a with
  | ⟨0, _⟩ => rfl
  | ⟨1, _⟩ => rfl

/-- A step adds its part of the inner axis to what the block holds. -/
theorem step_apply (acc : Vec Ideal S1024x1024 .f32) (A : Vec Ideal S1024x1024 .bf16) (B : Vec Ideal S1024x1024 .bf16) (p : Fin 1024) (q : Fin 1024) :
    k0_pay2 (F := Ideal) acc A B (ix2 p q) = acc (ix2 p q) + ∑ k : Fin 1024, A (ix2 p k) * B (ix2 q k) := by
  pointwise [k0_pay2]

/-- The block is cleared before the first step. -/
theorem clear_apply (p : Fin 1024) (q : Fin 1024) : k0_pay1 (F := Ideal) (ix2 p q) = 0 := by
  pointwise [k0_pay1]

variable (m : (ℓ : Loc nD τ sig) → Buf (Elt Ideal) ℓ) (c : Dev nD)

/-- The two arrays the call is given, and their blocks at a point. -/
def arrA : S2048x4096.Idx → EReal := m ((c : Thread nD τ).loc main_arg0)
def arrB : S1024x4096.Idx → EReal := m ((c : Thread nD τ).loc main_arg1)
def blkA (t : Fin cfg0.N) : S1024x1024.Idx → EReal := iblk m c 0 t
def blkB (t : Fin cfg0.N) : S1024x1024.Idx → EReal := iblk m c 1 t

theorem blkA_apply (t : Fin cfg0.N) (x : Fin 1024) (y : Fin 1024) : blkA m c t (ix2 x y) = arrA m c (ix2 (atI (bi t) x) (atK (bk t) y)) :=
  congrArg (arrA m c) (place0 t x y)

theorem blkB_apply (t : Fin cfg0.N) (x : Fin 1024) (y : Fin 1024) : blkB m c t (ix2 x y) = arrB m c (ix2 (atJ (bj t) x) (atK (bk t) y)) :=
  congrArg (arrB m c) (place1 t x y)

/-- What the step of point `t` adds at a place of the block. -/
def part (t : Fin cfg0.N) (y : S1024x1024.Idx) : EReal := ∑ k : Fin 1024, blkA m c t (ix2 (y 0) k) * blkB m c t (ix2 (y 1) k)

theorem first (t : Fin cfg0.N) (h : t.val % 4 = 0) (y : S1024x1024.Idx) : (outsAt0 m c t.val t.isLt).2 y = 0 + part m c t y := by
  obtain ⟨p, q, rfl⟩ := idx2 y
  rw [outsAt0_A m c t h (by omega)]
  frame_out
  rw [step_apply, clear_apply]
  rfl

theorem next (t : Fin cfg0.N) (h : ¬t.val % 4 = 0) (y : S1024x1024.Idx) : (outsAt0 m c t.val t.isLt).2 y
    = (outsAt0 m c (t.val - 1) (Nat.lt_of_le_of_lt (Nat.sub_le _ _) t.isLt)).2 y + part m c t y := by
  obtain ⟨p, q, rfl⟩ := idx2 y
  by_cases h' : t.val % 4 = 3
  · rw [outsAt0_C m c t h h']
    frame_out
    rw [step_apply]
    exact congrArg₂ (fun x y : EReal => x + y) (congrFun ((Memref.isWhole_whole cc0_scratch0).read_unread _) _) rfl
  · rw [outsAt0_B m c t h h']
    frame_out
    rw [step_apply]
    exact congrArg₂ (fun x y : EReal => x + y) (congrFun ((Memref.isWhole_whole cc0_scratch0).read_unread _) _) rfl

/-- The last step hands the finished sum out. -/
theorem last (t : Fin cfg0.N) (h : t.val % 4 = 3) (p : Fin 1024) (q : Fin 1024) :
    (outsAt0 m c t.val t.isLt).1 (ix2 p q) = (outsAt0 m c t.val t.isLt).2 (ix2 p q) := by
  rw [outsAt0_C m c t (by omega) h]
  frame_out
  try rfl

/-- What the block holds when it is written back. -/
theorem after_eq (t : Fin cfg0.N) (h : t.val % 4 = 3) (p : Fin 1024) (q : Fin 1024) :
    (dats m 0 c).after 2 t (ix2 p q : S1024x1024.Idx)
      = ∑ s : Fin 4, part m c (st t s) (ix2 p q) := by
  rw [after0_2]
  refine (last m c t h p q).trans ?_
  refine (Pipeline.eq_sum_fin_of_reset_step_apply_of_flush (fun n h => (outsAt0 m c n h).2) 4 (fun _ => 0) (part m c)
    (first m c) (next m c) t h _).trans ?_
  exact zero_add _

/-- The product of the two arrays. -/
def whole (y : S2048x1024.Idx) : EReal := ∑ k : Fin 4096, arrA m c (ix2 (y 0) k) * arrB m c (ix2 (y 1) k)

theorem left (t : Fin cfg0.N) (hf : (cfg0.win 2).flush t = true) (y : S1024x1024.Idx) :
    (dats m 0 c).after 2 t y = whole m c ((win0_2.rect t).emb y) := by
  obtain ⟨p, q, rfl⟩ := idx2 y
  rw [place2]
  refine (after_eq m c t ((flush0_2 t).mp hf) p q).trans ?_
  refine Fin.sum_mul_add_congr (F := fun s k => blkA m c (st t s) (ix2 p k)
    * blkB m c (st t s) (ix2 q k)) (fun s k hl => ?_)
  obtain ⟨e1, e2, e3⟩ := run_steps t s
  show blkA m c _ _ * blkB m c _ _ = _
  rw [blkA_apply, blkB_apply, e1, e2, e3]
  rfl

/-- The array the call leaves. -/
theorem end_eq : (dats m 0 c).arrAt 2 cfg0.N = whole m c :=
  (dats m 0 c).arrAt_eq_of_cover 2 (whole m c) (fun t hf => funext fun y => left m c t hf y)
    fun i => (Value.covered_iff2 i).2 ⟨Nat.zero_le _, (i 0).isLt, Nat.zero_le _, (i 1).isLt⟩

/-- The reference's result is the same product. -/
theorem ref_eq (A : ReferenceGmInDxIdeal.S2048x4096.Idx → EReal) (B : ReferenceGmInDxIdeal.S1024x4096.Idx → EReal) (hA : A = arrA m c) (hB : B = arrB m c) :
    val_main_v4 (F := Ideal) A B = whole m c := by
  subst hA hB
  funext y
  obtain ⟨p, q, rfl⟩ := idx2 y
  pointwise [val_main_v1, val_main_v3, val_main_v4]
  rfl

end Cert.KernelGmInDxIdeal

namespace Cert

open Idealize.ShloMosaic Idealize.SL.Sem

/-- Over the reals the call's result is the reference's. -/
theorem algebraic_GmInDx : algebraic_KernelGmInDxIdeal_ReferenceGmInDxIdeal (hKernelGmInDxIdeal := KernelGmInDxIdeal.Gen.facts)
    (hReferenceGmInDxIdeal := ReferenceGmInDxIdeal.Gen.facts) :=
  fun m g m' g' _ hargs => ⟨fun c => KernelGmInDxIdeal.whole m c,
    (θ_run _ _ _).mono (fun _ h c => ⟨(h c).1.trans (KernelGmInDxIdeal.end_eq m c), (h c).2⟩) (KernelGmInDxIdeal.Value.run_blocks m g),
    (θ_run _ _ _).mono (fun _ h c => ⟨(h c).1.trans (KernelGmInDxIdeal.ref_eq m c _ _ (hargs c).1 (hargs c).2), (h c).2⟩)
      (ReferenceGmInDxIdeal.Value.run m' g')⟩

/-- The reference leaves its arguments and all semaphores as they were. -/
theorem frame_ReferenceGmInDxIdeal : quiescent_ReferenceGmInDxIdeal (hReferenceGmInDxIdeal := ReferenceGmInDxIdeal.Gen.facts) :=
  fun m g _ => (θ_run _ _ _).mono (fun _ h => ⟨fun c => (h c).2, sem_eq_zero_of_no_sems (by decide) _⟩) (ReferenceGmInDxIdeal.Value.run m g)

end Cert

end
-- ==== Proof.GmOut.lean ====
/- The call computing the rows times the weights, 2048x2048 by 2048x1024: the 2 steps of the inner axis add up in a block of
   the result, and the blocks are the whole product. -/
module

public import proofs.«01_k».proof.Defs
public import proofs.«01_k».proof.Proof.Blocks
public import proofs.«01_k».proof.Proof.Gen.KernelGmOut.Frame
public import proofs.«01_k».proof.Proof.Gen.KernelGmOutIdeal.Value
public import proofs.«01_k».proof.Proof.Gen.ReferenceGmOutIdeal.Read
public import Idealize.ShloMosaic.Adequacy
public import Idealize.ShloMosaic.Init

@[expose] public section

set_option maxRecDepth 16384

noncomputable section

namespace Cert.KernelGmOutIdeal

open Idealize.ShloMosaic Idealize.ShloMosaic.TcCoe Idealize.SL.Sem Cert.Blocks Cert.KernelGmOutIdeal.Gen
  Cert.ReferenceGmOutIdeal.Read

/-- A point of the grid is a block of rows, a block of columns and a step of the inner axis. -/
def bi (t : Fin grid0.N) : Fin 2 := grid0.coords t 0
def bj (t : Fin grid0.N) : Fin 1 := grid0.coords t 1
def bk (t : Fin grid0.N) : Fin 2 := grid0.coords t 2
theorem step_lt : ∀ (t : Fin grid0.N) (s : Fin 2), 2 * (t.val / 2) + s.val < grid0.N := by decide +kernel
/-- The steps of a point's block. -/
def st (t : Fin grid0.N) (s : Fin 2) : Fin grid0.N := ⟨2 * (t.val / 2) + s.val, step_lt t s⟩
theorem run_steps : ∀ (t : Fin grid0.N) (s : Fin 2), bi (st t s) = bi t ∧ bj (st t s) = bj t ∧ bk (st t s) = s := by decide +kernel

/-- An index of the array, from its block's number and the index there. -/
def atI (n : Fin 2) (x : Fin 1024) : Fin 2048 := ⟨n.val * 1024 + x.val, by omega⟩
def atJ (n : Fin 1) (x : Fin 1024) : Fin 1024 := ⟨n.val * 1024 + x.val, by omega⟩
def atK (n : Fin 2) (x : Fin 1024) : Fin 2048 := ⟨n.val * 1024 + x.val, by omega⟩

theorem index : ∀ t : Fin grid0.N,
    (∀ a, win0_0.index t a = (![(bi t).val, (bk t).val] : Fin 2 → Nat) a) ∧
    (∀ a, win0_1.index t a = (![(bk t).val, (bj t).val] : Fin 2 → Nat) a) ∧
    (∀ a, win0_2.index t a = (![(bi t).val, (bj t).val] : Fin 2 → Nat) a) := by decide +kernel

theorem place0 (t : Fin cfg0.N) (x : Fin 1024) (y : Fin 1024) :
    (win0_0.rect t).emb (ix2 x y : S1024x1024.Idx) = (ix2 (atI (bi t) x) (atK (bk t) y) : S2048x2048.Idx) := by
  refine funext fun a => Fin.ext ((win0_0.rect_emb_val t _ a).trans ?_)
  rw [(index t).1 a]
  match a with
  | ⟨0, _⟩ => rfl
  | ⟨1, _⟩ => rfl
theorem place1 (t : Fin cfg0.N) (x : Fin 1024) (y : Fin 1024) :
    (win0_1.rect t).emb (ix2 x y : S1024x1024.Idx) = (ix2 (atK (bk t) x) (atJ (bj t) y) : S2048x1024.Idx) := by
  refine funext fun a => Fin.ext ((win0_1.rect_emb_val t _ a).trans ?_)
  rw [(index t).2.1 a]
  match a with
  | ⟨0, _⟩ => rfl
  | ⟨1, _⟩ => rfl
theorem place2 (t : Fin cfg0.N) (x : Fin 1024) (y : Fin 1024) :
    (win0_2.rect t).emb (ix2 x y : S1024x1024.Idx) = (ix2 (atI (bi t) x) (atJ (bj t) y) : S2048x1024.Idx) := by
  refine funext fun a => Fin.ext ((win0_2.rect_emb_val t _ a).trans ?_)
  rw [(index t).2.2 a]
  match a with
  | ⟨0, _⟩ => rfl
  | ⟨1, _⟩ => rfl

/-- A step adds its part of the inner axis to what the block holds. -/
theorem step_apply (acc : Vec Ideal S1024x1024 .f32) (A : Vec Ideal S1024x1024 .bf16) (B : Vec Ideal S1024x1024 .bf16) (p : Fin 1024) (q : Fin 1024) :
    k0_pay2 (F := Ideal) acc A B (ix2 p q) = acc (ix2 p q) + ∑ k : Fin 1024, A (ix2 p k) * B (ix2 k q) := by
  pointwise [k0_pay2]

/-- The block is cleared before the first step. -/
theorem clear_apply (p : Fin 1024) (q : Fin 1024) : k0_pay1 (F := Ideal) (ix2 p q) = 0 := by
  pointwise [k0_pay1]

variable (m : (ℓ : Loc nD τ sig) → Buf (Elt Ideal) ℓ) (c : Dev nD)

/-- The two arrays the call is given, and their blocks at a point. -/
def arrA : S2048x2048.Idx → EReal := m ((c : Thread nD τ).loc main_arg0)
def arrB : S2048x1024.Idx → EReal := m ((c : Thread nD τ).loc main_arg1)
def blkA (t : Fin cfg0.N) : S1024x1024.Idx → EReal := iblk m c 0 t
def blkB (t : Fin cfg0.N) : S1024x1024.Idx → EReal := iblk m c 1 t

theorem blkA_apply (t : Fin cfg0.N) (x : Fin 1024) (y : Fin 1024) : blkA m c t (ix2 x y) = arrA m c (ix2 (atI (bi t) x) (atK (bk t) y)) :=
  congrArg (arrA m c) (place0 t x y)

theorem blkB_apply (t : Fin cfg0.N) (x : Fin 1024) (y : Fin 1024) : blkB m c t (ix2 x y) = arrB m c (ix2 (atK (bk t) x) (atJ (bj t) y)) :=
  congrArg (arrB m c) (place1 t x y)

/-- What the step of point `t` adds at a place of the block. -/
def part (t : Fin cfg0.N) (y : S1024x1024.Idx) : EReal := ∑ k : Fin 1024, blkA m c t (ix2 (y 0) k) * blkB m c t (ix2 k (y 1))

theorem first (t : Fin cfg0.N) (h : t.val % 2 = 0) (y : S1024x1024.Idx) : (outsAt0 m c t.val t.isLt).2 y = 0 + part m c t y := by
  obtain ⟨p, q, rfl⟩ := idx2 y
  rw [outsAt0_A m c t h (by omega)]
  frame_out
  rw [step_apply, clear_apply]
  rfl

theorem next (t : Fin cfg0.N) (h : ¬t.val % 2 = 0) (y : S1024x1024.Idx) : (outsAt0 m c t.val t.isLt).2 y
    = (outsAt0 m c (t.val - 1) (Nat.lt_of_le_of_lt (Nat.sub_le _ _) t.isLt)).2 y + part m c t y := by
  obtain ⟨p, q, rfl⟩ := idx2 y
  rw [outsAt0_B m c t h (by omega)]
  frame_out
  rw [step_apply]
  exact congrArg₂ (fun x y : EReal => x + y) (congrFun ((Memref.isWhole_whole cc0_scratch0).read_unread _) _) rfl

/-- The last step hands the finished sum out. -/
theorem last (t : Fin cfg0.N) (h : t.val % 2 = 1) (p : Fin 1024) (q : Fin 1024) :
    (outsAt0 m c t.val t.isLt).1 (ix2 p q) = (outsAt0 m c t.val t.isLt).2 (ix2 p q) := by
  rw [outsAt0_B m c t (by omega) h]
  frame_out
  try rfl

/-- What the block holds when it is written back. -/
theorem after_eq (t : Fin cfg0.N) (h : t.val % 2 = 1) (p : Fin 1024) (q : Fin 1024) :
    (dats m 0 c).after 2 t (ix2 p q : S1024x1024.Idx)
      = ∑ s : Fin 2, part m c (st t s) (ix2 p q) := by
  rw [after0_2]
  refine (last m c t h p q).trans ?_
  refine (Pipeline.eq_sum_fin_of_reset_step_apply_of_flush (fun n h => (outsAt0 m c n h).2) 2 (fun _ => 0) (part m c)
    (first m c) (next m c) t h _).trans ?_
  exact zero_add _

/-- The product of the two arrays. -/
def whole (y : S2048x1024.Idx) : EReal := ∑ k : Fin 2048, arrA m c (ix2 (y 0) k) * arrB m c (ix2 k (y 1))

theorem left (t : Fin cfg0.N) (hf : (cfg0.win 2).flush t = true) (y : S1024x1024.Idx) :
    (dats m 0 c).after 2 t y = whole m c ((win0_2.rect t).emb y) := by
  obtain ⟨p, q, rfl⟩ := idx2 y
  rw [place2]
  refine (after_eq m c t ((flush0_2 t).mp hf) p q).trans ?_
  refine Fin.sum_mul_add_congr (F := fun s k => blkA m c (st t s) (ix2 p k)
    * blkB m c (st t s) (ix2 k q)) (fun s k hl => ?_)
  obtain ⟨e1, e2, e3⟩ := run_steps t s
  show blkA m c _ _ * blkB m c _ _ = _
  rw [blkA_apply, blkB_apply, e1, e2, e3]
  rfl

/-- The array the call leaves. -/
theorem end_eq : (dats m 0 c).arrAt 2 cfg0.N = whole m c :=
  (dats m 0 c).arrAt_eq_of_cover 2 (whole m c) (fun t hf => funext fun y => left m c t hf y)
    fun i => (Value.covered_iff2 i).2 ⟨Nat.zero_le _, (i 0).isLt, Nat.zero_le _, (i 1).isLt⟩

/-- The reference's result is the same product. -/
theorem ref_eq (A : ReferenceGmOutIdeal.S2048x2048.Idx → EReal) (B : ReferenceGmOutIdeal.S2048x1024.Idx → EReal) (hA : A = arrA m c) (hB : B = arrB m c) :
    val_main_v2 (F := Ideal) A B = whole m c := by
  subst hA hB
  funext y
  obtain ⟨p, q, rfl⟩ := idx2 y
  pointwise [val_main_v0, val_main_v1, val_main_v2]
  rfl

end Cert.KernelGmOutIdeal

namespace Cert

open Idealize.ShloMosaic Idealize.SL.Sem

/-- Over the reals the call's result is the reference's. -/
theorem algebraic_GmOut : algebraic_KernelGmOutIdeal_ReferenceGmOutIdeal (hKernelGmOutIdeal := KernelGmOutIdeal.Gen.facts)
    (hReferenceGmOutIdeal := ReferenceGmOutIdeal.Gen.facts) :=
  fun m g m' g' _ hargs => ⟨fun c => KernelGmOutIdeal.whole m c,
    (θ_run _ _ _).mono (fun _ h c => ⟨(h c).1.trans (KernelGmOutIdeal.end_eq m c), (h c).2⟩) (KernelGmOutIdeal.Value.run_blocks m g),
    (θ_run _ _ _).mono (fun _ h c => ⟨(h c).1.trans (KernelGmOutIdeal.ref_eq m c _ _ (hargs c).1 (hargs c).2), (h c).2⟩)
      (ReferenceGmOutIdeal.Value.run m' g')⟩

/-- The reference leaves its arguments and all semaphores as they were. -/
theorem frame_ReferenceGmOutIdeal : quiescent_ReferenceGmOutIdeal (hReferenceGmOutIdeal := ReferenceGmOutIdeal.Gen.facts) :=
  fun m g _ => (θ_run _ _ _).mono (fun _ h => ⟨fun c => (h c).2, sem_eq_zero_of_no_sems (by decide) _⟩) (ReferenceGmOutIdeal.Value.run m g)

end Cert

end
-- ==== Proof.GmOutDw.lean ====
/- The call computing the gradient of the product by its weights, 2048x2048 by 2048x1024: the 2 steps of the inner axis add up in a block of
   the result, and the blocks are the whole product. -/
module

public import proofs.«01_k».proof.Defs
public import proofs.«01_k».proof.Proof.Blocks
public import proofs.«01_k».proof.Proof.Gen.KernelGmOutDw.Frame
public import proofs.«01_k».proof.Proof.Gen.KernelGmOutDwIdeal.Value
public import proofs.«01_k».proof.Proof.Gen.ReferenceGmOutDwIdeal.Read
public import Idealize.ShloMosaic.Adequacy
public import Idealize.ShloMosaic.Init

@[expose] public section

set_option maxRecDepth 16384

noncomputable section

namespace Cert.KernelGmOutDwIdeal

open Idealize.ShloMosaic Idealize.ShloMosaic.TcCoe Idealize.SL.Sem Cert.Blocks Cert.KernelGmOutDwIdeal.Gen
  Cert.ReferenceGmOutDwIdeal.Read

/-- A point of the grid is a block of rows, a block of columns and a step of the inner axis. -/
def bi (t : Fin grid0.N) : Fin 2 := grid0.coords t 0
def bj (t : Fin grid0.N) : Fin 1 := grid0.coords t 1
def bk (t : Fin grid0.N) : Fin 2 := grid0.coords t 2
theorem step_lt : ∀ (t : Fin grid0.N) (s : Fin 2), 2 * (t.val / 2) + s.val < grid0.N := by decide +kernel
/-- The steps of a point's block. -/
def st (t : Fin grid0.N) (s : Fin 2) : Fin grid0.N := ⟨2 * (t.val / 2) + s.val, step_lt t s⟩
theorem run_steps : ∀ (t : Fin grid0.N) (s : Fin 2), bi (st t s) = bi t ∧ bj (st t s) = bj t ∧ bk (st t s) = s := by decide +kernel

/-- An index of the array, from its block's number and the index there. -/
def atI (n : Fin 2) (x : Fin 1024) : Fin 2048 := ⟨n.val * 1024 + x.val, by omega⟩
def atJ (n : Fin 1) (x : Fin 1024) : Fin 1024 := ⟨n.val * 1024 + x.val, by omega⟩
def atK (n : Fin 2) (x : Fin 1024) : Fin 2048 := ⟨n.val * 1024 + x.val, by omega⟩

theorem index : ∀ t : Fin grid0.N,
    (∀ a, win0_0.index t a = (![(bk t).val, (bi t).val] : Fin 2 → Nat) a) ∧
    (∀ a, win0_1.index t a = (![(bk t).val, (bj t).val] : Fin 2 → Nat) a) ∧
    (∀ a, win0_2.index t a = (![(bi t).val, (bj t).val] : Fin 2 → Nat) a) := by decide +kernel

theorem place0 (t : Fin cfg0.N) (x : Fin 1024) (y : Fin 1024) :
    (win0_0.rect t).emb (ix2 x y : S1024x1024.Idx) = (ix2 (atK (bk t) x) (atI (bi t) y) : S2048x2048.Idx) := by
  refine funext fun a => Fin.ext ((win0_0.rect_emb_val t _ a).trans ?_)
  rw [(index t).1 a]
  match a with
  | ⟨0, _⟩ => rfl
  | ⟨1, _⟩ => rfl
theorem place1 (t : Fin cfg0.N) (x : Fin 1024) (y : Fin 1024) :
    (win0_1.rect t).emb (ix2 x y : S1024x1024.Idx) = (ix2 (atK (bk t) x) (atJ (bj t) y) : S2048x1024.Idx) := by
  refine funext fun a => Fin.ext ((win0_1.rect_emb_val t _ a).trans ?_)
  rw [(index t).2.1 a]
  match a with
  | ⟨0, _⟩ => rfl
  | ⟨1, _⟩ => rfl
theorem place2 (t : Fin cfg0.N) (x : Fin 1024) (y : Fin 1024) :
    (win0_2.rect t).emb (ix2 x y : S1024x1024.Idx) = (ix2 (atI (bi t) x) (atJ (bj t) y) : S2048x1024.Idx) := by
  refine funext fun a => Fin.ext ((win0_2.rect_emb_val t _ a).trans ?_)
  rw [(index t).2.2 a]
  match a with
  | ⟨0, _⟩ => rfl
  | ⟨1, _⟩ => rfl

/-- A step adds its part of the inner axis to what the block holds. -/
theorem step_apply (acc : Vec Ideal S1024x1024 .f32) (A : Vec Ideal S1024x1024 .bf16) (B : Vec Ideal S1024x1024 .bf16) (p : Fin 1024) (q : Fin 1024) :
    k0_pay2 (F := Ideal) acc A B (ix2 p q) = acc (ix2 p q) + ∑ k : Fin 1024, A (ix2 k p) * B (ix2 k q) := by
  pointwise [k0_pay2]

/-- The block is cleared before the first step. -/
theorem clear_apply (p : Fin 1024) (q : Fin 1024) : k0_pay1 (F := Ideal) (ix2 p q) = 0 := by
  pointwise [k0_pay1]

/-- The cast of the finished block. -/
theorem cast_apply (X : Vec Ideal S1024x1024 .f32) (p : Fin 1024) (q : Fin 1024) : k0_pay3 (F := Ideal) X (ix2 p q) = X (ix2 p q) := by
  pointwise [k0_pay3]

variable (m : (ℓ : Loc nD τ sig) → Buf (Elt Ideal) ℓ) (c : Dev nD)

/-- The two arrays the call is given, and their blocks at a point. -/
def arrA : S2048x2048.Idx → EReal := m ((c : Thread nD τ).loc main_arg0)
def arrB : S2048x1024.Idx → EReal := m ((c : Thread nD τ).loc main_arg1)
def blkA (t : Fin cfg0.N) : S1024x1024.Idx → EReal := iblk m c 0 t
def blkB (t : Fin cfg0.N) : S1024x1024.Idx → EReal := iblk m c 1 t

theorem blkA_apply (t : Fin cfg0.N) (x : Fin 1024) (y : Fin 1024) : blkA m c t (ix2 x y) = arrA m c (ix2 (atK (bk t) x) (atI (bi t) y)) :=
  congrArg (arrA m c) (place0 t x y)

theorem blkB_apply (t : Fin cfg0.N) (x : Fin 1024) (y : Fin 1024) : blkB m c t (ix2 x y) = arrB m c (ix2 (atK (bk t) x) (atJ (bj t) y)) :=
  congrArg (arrB m c) (place1 t x y)

/-- What the step of point `t` adds at a place of the block. -/
def part (t : Fin cfg0.N) (y : S1024x1024.Idx) : EReal := ∑ k : Fin 1024, blkA m c t (ix2 k (y 0)) * blkB m c t (ix2 k (y 1))

theorem first (t : Fin cfg0.N) (h : t.val % 2 = 0) (y : S1024x1024.Idx) : (outsAt0 m c t.val t.isLt).2 y = 0 + part m c t y := by
  obtain ⟨p, q, rfl⟩ := idx2 y
  rw [outsAt0_A m c t h (by omega)]
  frame_out
  rw [step_apply, clear_apply]
  rfl

theorem next (t : Fin cfg0.N) (h : ¬t.val % 2 = 0) (y : S1024x1024.Idx) : (outsAt0 m c t.val t.isLt).2 y
    = (outsAt0 m c (t.val - 1) (Nat.lt_of_le_of_lt (Nat.sub_le _ _) t.isLt)).2 y + part m c t y := by
  obtain ⟨p, q, rfl⟩ := idx2 y
  rw [outsAt0_B m c t h (by omega)]
  frame_out
  rw [step_apply]
  exact congrArg₂ (fun x y : EReal => x + y) (congrFun ((Memref.isWhole_whole cc0_scratch0).read_unread _) _) rfl

/-- The last step hands the finished sum out. -/
theorem last (t : Fin cfg0.N) (h : t.val % 2 = 1) (p : Fin 1024) (q : Fin 1024) :
    (outsAt0 m c t.val t.isLt).1 (ix2 p q) = (outsAt0 m c t.val t.isLt).2 (ix2 p q) := by
  rw [outsAt0_B m c t (by omega) h]
  frame_out
  rw [cast_apply]

/-- What the block holds when it is written back. -/
theorem after_eq (t : Fin cfg0.N) (h : t.val % 2 = 1) (p : Fin 1024) (q : Fin 1024) :
    (dats m 0 c).after 2 t (ix2 p q : S1024x1024.Idx)
      = ∑ s : Fin 2, part m c (st t s) (ix2 p q) := by
  rw [after0_2]
  refine (last m c t h p q).trans ?_
  refine (Pipeline.eq_sum_fin_of_reset_step_apply_of_flush (fun n h => (outsAt0 m c n h).2) 2 (fun _ => 0) (part m c)
    (first m c) (next m c) t h _).trans ?_
  exact zero_add _

/-- The product of the two arrays. -/
def whole (y : S2048x1024.Idx) : EReal := ∑ k : Fin 2048, arrA m c (ix2 k (y 0)) * arrB m c (ix2 k (y 1))

theorem left (t : Fin cfg0.N) (hf : (cfg0.win 2).flush t = true) (y : S1024x1024.Idx) :
    (dats m 0 c).after 2 t y = whole m c ((win0_2.rect t).emb y) := by
  obtain ⟨p, q, rfl⟩ := idx2 y
  rw [place2]
  refine (after_eq m c t ((flush0_2 t).mp hf) p q).trans ?_
  refine Fin.sum_mul_add_congr (F := fun s k => blkA m c (st t s) (ix2 k p)
    * blkB m c (st t s) (ix2 k q)) (fun s k hl => ?_)
  obtain ⟨e1, e2, e3⟩ := run_steps t s
  show blkA m c _ _ * blkB m c _ _ = _
  rw [blkA_apply, blkB_apply, e1, e2, e3]
  rfl

/-- The array the call leaves. -/
theorem end_eq : (dats m 0 c).arrAt 2 cfg0.N = whole m c :=
  (dats m 0 c).arrAt_eq_of_cover 2 (whole m c) (fun t hf => funext fun y => left m c t hf y)
    fun i => (Value.covered_iff2 i).2 ⟨Nat.zero_le _, (i 0).isLt, Nat.zero_le _, (i 1).isLt⟩

/-- The reference's result is the same product. -/
theorem ref_eq (A : ReferenceGmOutDwIdeal.S2048x2048.Idx → EReal) (B : ReferenceGmOutDwIdeal.S2048x1024.Idx → EReal) (hA : A = arrA m c) (hB : B = arrB m c) :
    val_main_v6 (F := Ideal) A B = whole m c := by
  subst hA hB
  funext y
  obtain ⟨p, q, rfl⟩ := idx2 y
  pointwise [val_main_v1, val_main_v3, val_main_v4, val_main_v5, val_main_v6]
  exact Finset.sum_congr rfl fun k _ => mul_comm _ _

end Cert.KernelGmOutDwIdeal

namespace Cert

open Idealize.ShloMosaic Idealize.SL.Sem

/-- Over the reals the call's result is the reference's. -/
theorem algebraic_GmOutDw : algebraic_KernelGmOutDwIdeal_ReferenceGmOutDwIdeal (hKernelGmOutDwIdeal := KernelGmOutDwIdeal.Gen.facts)
    (hReferenceGmOutDwIdeal := ReferenceGmOutDwIdeal.Gen.facts) :=
  fun m g m' g' _ hargs => ⟨fun c => KernelGmOutDwIdeal.whole m c,
    (θ_run _ _ _).mono (fun _ h c => ⟨(h c).1.trans (KernelGmOutDwIdeal.end_eq m c), (h c).2⟩) (KernelGmOutDwIdeal.Value.run_blocks m g),
    (θ_run _ _ _).mono (fun _ h c => ⟨(h c).1.trans (KernelGmOutDwIdeal.ref_eq m c _ _ (hargs c).1 (hargs c).2), (h c).2⟩)
      (ReferenceGmOutDwIdeal.Value.run m' g')⟩

/-- The reference leaves its arguments and all semaphores as they were. -/
theorem frame_ReferenceGmOutDwIdeal : quiescent_ReferenceGmOutDwIdeal (hReferenceGmOutDwIdeal := ReferenceGmOutDwIdeal.Gen.facts) :=
  fun m g _ => (θ_run _ _ _).mono (fun _ h => ⟨fun c => (h c).2, sem_eq_zero_of_no_sems (by decide) _⟩) (ReferenceGmOutDwIdeal.Value.run m g)

end Cert

end
-- ==== Proof.GmOutDx.lean ====
/- The call computing the gradient of the product by its rows, 2048x1024 by 2048x1024: its one step of the inner axis fills a block of
   the result, and the blocks are the whole product. -/
module

public import proofs.«01_k».proof.Defs
public import proofs.«01_k».proof.Proof.Blocks
public import proofs.«01_k».proof.Proof.Gen.KernelGmOutDx.Frame
public import proofs.«01_k».proof.Proof.Gen.KernelGmOutDxIdeal.Value
public import proofs.«01_k».proof.Proof.Gen.ReferenceGmOutDxIdeal.Read
public import Idealize.ShloMosaic.Adequacy
public import Idealize.ShloMosaic.Init

@[expose] public section

set_option maxRecDepth 16384

noncomputable section

namespace Cert.KernelGmOutDxIdeal

open Idealize.ShloMosaic Idealize.ShloMosaic.TcCoe Idealize.SL.Sem Cert.Blocks Cert.KernelGmOutDxIdeal.Gen
  Cert.ReferenceGmOutDxIdeal.Read

/-- A point of the grid is a block of rows, a block of columns and a step of the inner axis. -/
def bi (t : Fin grid0.N) : Fin 2 := grid0.coords t 0
def bj (t : Fin grid0.N) : Fin 2 := grid0.coords t 1
def bk (t : Fin grid0.N) : Fin 1 := grid0.coords t 2
theorem step_lt : ∀ (t : Fin grid0.N) (s : Fin 1), 1 * (t.val / 1) + s.val < grid0.N := by decide +kernel
/-- The steps of a point's block. -/
def st (t : Fin grid0.N) (s : Fin 1) : Fin grid0.N := ⟨1 * (t.val / 1) + s.val, step_lt t s⟩
theorem run_steps : ∀ (t : Fin grid0.N) (s : Fin 1), bi (st t s) = bi t ∧ bj (st t s) = bj t ∧ bk (st t s) = s := by decide +kernel

/-- An index of the array, from its block's number and the index there. -/
def atI (n : Fin 2) (x : Fin 1024) : Fin 2048 := ⟨n.val * 1024 + x.val, by omega⟩
def atJ (n : Fin 2) (x : Fin 1024) : Fin 2048 := ⟨n.val * 1024 + x.val, by omega⟩
def atK (n : Fin 1) (x : Fin 1024) : Fin 1024 := ⟨n.val * 1024 + x.val, by omega⟩

theorem index : ∀ t : Fin grid0.N,
    (∀ a, win0_0.index t a = (![(bi t).val, (bk t).val] : Fin 2 → Nat) a) ∧
    (∀ a, win0_1.index t a = (![(bj t).val, (bk t).val] : Fin 2 → Nat) a) ∧
    (∀ a, win0_2.index t a = (![(bi t).val, (bj t).val] : Fin 2 → Nat) a) := by decide +kernel

theorem place0 (t : Fin cfg0.N) (x : Fin 1024) (y : Fin 1024) :
    (win0_0.rect t).emb (ix2 x y : S1024x1024.Idx) = (ix2 (atI (bi t) x) (atK (bk t) y) : S2048x1024.Idx) := by
  refine funext fun a => Fin.ext ((win0_0.rect_emb_val t _ a).trans ?_)
  rw [(index t).1 a]
  match a with
  | ⟨0, _⟩ => rfl
  | ⟨1, _⟩ => rfl
theorem place1 (t : Fin cfg0.N) (x : Fin 1024) (y : Fin 1024) :
    (win0_1.rect t).emb (ix2 x y : S1024x1024.Idx) = (ix2 (atJ (bj t) x) (atK (bk t) y) : S2048x1024.Idx) := by
  refine funext fun a => Fin.ext ((win0_1.rect_emb_val t _ a).trans ?_)
  rw [(index t).2.1 a]
  match a with
  | ⟨0, _⟩ => rfl
  | ⟨1, _⟩ => rfl
theorem place2 (t : Fin cfg0.N) (x : Fin 1024) (y : Fin 1024) :
    (win0_2.rect t).emb (ix2 x y : S1024x1024.Idx) = (ix2 (atI (bi t) x) (atJ (bj t) y) : S2048x2048.Idx) := by
  refine funext fun a => Fin.ext ((win0_2.rect_emb_val t _ a).trans ?_)
  rw [(index t).2.2 a]
  match a with
  | ⟨0, _⟩ => rfl
  | ⟨1, _⟩ => rfl

/-- A step adds its part of the inner axis to what the block holds. -/
theorem step_apply (acc : Vec Ideal S1024x1024 .f32) (A : Vec Ideal S1024x1024 .bf16) (B : Vec Ideal S1024x1024 .bf16) (p : Fin 1024) (q : Fin 1024) :
    k0_pay2 (F := Ideal) acc A B (ix2 p q) = acc (ix2 p q) + ∑ k : Fin 1024, A (ix2 p k) * B (ix2 q k) := by
  pointwise [k0_pay2]

/-- The block is cleared before the first step. -/
theorem clear_apply (p : Fin 1024) (q : Fin 1024) : k0_pay1 (F := Ideal) (ix2 p q) = 0 := by
  pointwise [k0_pay1]

variable (m : (ℓ : Loc nD τ sig) → Buf (Elt Ideal) ℓ) (c : Dev nD)

/-- The two arrays the call is given, and their blocks at a point. -/
def arrA : S2048x1024.Idx → EReal := m ((c : Thread nD τ).loc main_arg0)
def arrB : S2048x1024.Idx → EReal := m ((c : Thread nD τ).loc main_arg1)
def blkA (t : Fin cfg0.N) : S1024x1024.Idx → EReal := iblk m c 0 t
def blkB (t : Fin cfg0.N) : S1024x1024.Idx → EReal := iblk m c 1 t

theorem blkA_apply (t : Fin cfg0.N) (x : Fin 1024) (y : Fin 1024) : blkA m c t (ix2 x y) = arrA m c (ix2 (atI (bi t) x) (atK (bk t) y)) :=
  congrArg (arrA m c) (place0 t x y)

theorem blkB_apply (t : Fin cfg0.N) (x : Fin 1024) (y : Fin 1024) : blkB m c t (ix2 x y) = arrB m c (ix2 (atJ (bj t) x) (atK (bk t) y)) :=
  congrArg (arrB m c) (place1 t x y)

/-- What the step of point `t` adds at a place of the block. -/
def part (t : Fin cfg0.N) (y : S1024x1024.Idx) : EReal := ∑ k : Fin 1024, blkA m c t (ix2 (y 0) k) * blkB m c t (ix2 (y 1) k)

/-- What the block holds when it is written back. -/
theorem after_eq (t : Fin cfg0.N) (p : Fin 1024) (q : Fin 1024) :
    (dats m 0 c).after 2 t (ix2 p q : S1024x1024.Idx) = ∑ s : Fin 1, part m c (st t s) (ix2 p q) := by
  have e : ∀ s : Fin 1, st t s = t := fun s => Fin.ext (by show 1 * (t.val / 1) + s.val = t.val; omega)
  rw [after0_2, Fin.sum_univ_one, e]
  unfold outsAt0
  frame_out
  rw [step_apply, clear_apply, zero_add]
  rfl

/-- The product of the two arrays. -/
def whole (y : S2048x2048.Idx) : EReal := ∑ k : Fin 1024, arrA m c (ix2 (y 0) k) * arrB m c (ix2 (y 1) k)

theorem left (t : Fin cfg0.N) (hf : (cfg0.win 2).flush t = true) (y : S1024x1024.Idx) :
    (dats m 0 c).after 2 t y = whole m c ((win0_2.rect t).emb y) := by
  obtain ⟨p, q, rfl⟩ := idx2 y
  rw [place2]
  refine (after_eq m c t p q).trans ?_
  refine Fin.sum_mul_add_congr (F := fun s k => blkA m c (st t s) (ix2 p k)
    * blkB m c (st t s) (ix2 q k)) (fun s k hl => ?_)
  obtain ⟨e1, e2, e3⟩ := run_steps t s
  show blkA m c _ _ * blkB m c _ _ = _
  rw [blkA_apply, blkB_apply, e1, e2, e3]
  rfl

/-- Every place of the result is in some point's block. -/
theorem onto : ∀ (i : Fin 2) (j : Fin 2), ∃ t, win0_2.flush t = true ∧ bi t = i ∧ bj t = j := by decide +kernel

theorem cover (y : S2048x2048.Idx) : ∃ t, (cfg0.win 2).flush t = true ∧ y ∈ ((cfg0.win 2).blk t).view.set := by
  obtain ⟨r, s, rfl⟩ := idx2 y
  obtain ⟨i, p, rfl⟩ : ∃ i p, r = atI i p :=
    ⟨⟨r.val / 1024, by omega⟩, ⟨r.val % 1024, by omega⟩, Fin.ext (show r.val = r.val / 1024 * 1024 + r.val % 1024 by omega)⟩
  obtain ⟨j, q, rfl⟩ : ∃ j q, s = atJ j q :=
    ⟨⟨s.val / 1024, by omega⟩, ⟨s.val % 1024, by omega⟩, Fin.ext (show s.val = s.val / 1024 * 1024 + s.val % 1024 by omega)⟩
  obtain ⟨t, h, rfl, rfl⟩ := onto i j
  exact ⟨t, h, (place2 t p q) ▸ View.emb_mem_set _ _⟩

/-- The array the call leaves. -/
theorem end_eq : (dats m 0 c).arrAt 2 cfg0.N = whole m c :=
  (dats m 0 c).arrAt_eq_of_cover 2 (whole m c) (fun t hf => funext fun y => left m c t hf y) cover

/-- The reference's result is the same product. -/
theorem ref_eq (A : ReferenceGmOutDxIdeal.S2048x1024.Idx → EReal) (B : ReferenceGmOutDxIdeal.S2048x1024.Idx → EReal) (hA : A = arrA m c) (hB : B = arrB m c) :
    val_main_v4 (F := Ideal) A B = whole m c := by
  subst hA hB
  funext y
  obtain ⟨p, q, rfl⟩ := idx2 y
  pointwise [val_main_v1, val_main_v3, val_main_v4]
  rfl

end Cert.KernelGmOutDxIdeal

namespace Cert

open Idealize.ShloMosaic Idealize.SL.Sem

/-- Over the reals the call's result is the reference's. -/
theorem algebraic_GmOutDx : algebraic_KernelGmOutDxIdeal_ReferenceGmOutDxIdeal (hKernelGmOutDxIdeal := KernelGmOutDxIdeal.Gen.facts)
    (hReferenceGmOutDxIdeal := ReferenceGmOutDxIdeal.Gen.facts) :=
  fun m g m' g' _ hargs => ⟨fun c => KernelGmOutDxIdeal.whole m c,
    (θ_run _ _ _).mono (fun _ h c => ⟨(h c).1.trans (KernelGmOutDxIdeal.end_eq m c), (h c).2⟩) (KernelGmOutDxIdeal.Value.run_blocks m g),
    (θ_run _ _ _).mono (fun _ h c => ⟨(h c).1.trans (KernelGmOutDxIdeal.ref_eq m c _ _ (hargs c).1 (hargs c).2), (h c).2⟩)
      (ReferenceGmOutDxIdeal.Value.run m' g')⟩

/-- The reference leaves its arguments and all semaphores as they were. -/
theorem frame_ReferenceGmOutDxIdeal : quiescent_ReferenceGmOutDxIdeal (hReferenceGmOutDxIdeal := ReferenceGmOutDxIdeal.Gen.facts) :=
  fun m g _ => (θ_run _ _ _).mono (fun _ h => ⟨fun c => (h c).2, sem_eq_zero_of_no_sems (by decide) _⟩) (ReferenceGmOutDxIdeal.Value.run m g)

end Cert

end
-- ==== Proof.AttnOutDx.lean ====
/- The call computing the gradient of the product by its rows, 2048x1024 by 1024x1024: its one step of the inner axis fills a block of
   the result, and the blocks are the whole product. -/
module

public import proofs.«01_k».proof.Defs
public import proofs.«01_k».proof.Proof.Blocks
public import proofs.«01_k».proof.Proof.Gen.KernelAttnOutDx.Frame
public import proofs.«01_k».proof.Proof.Gen.KernelAttnOutDxIdeal.Value
public import proofs.«01_k».proof.Proof.Gen.ReferenceAttnOutDxIdeal.Read
public import Idealize.ShloMosaic.Adequacy
public import Idealize.ShloMosaic.Init

@[expose] public section

set_option maxRecDepth 16384

noncomputable section

namespace Cert.KernelAttnOutDxIdeal

open Idealize.ShloMosaic Idealize.ShloMosaic.TcCoe Idealize.SL.Sem Cert.Blocks Cert.KernelAttnOutDxIdeal.Gen
  Cert.ReferenceAttnOutDxIdeal.Read

/-- A point of the grid is a block of rows, a block of columns and a step of the inner axis. -/
def bi (t : Fin grid0.N) : Fin 2 := grid0.coords t 0
def bj (t : Fin grid0.N) : Fin 1 := grid0.coords t 1
def bk (t : Fin grid0.N) : Fin 1 := grid0.coords t 2
theorem step_lt : ∀ (t : Fin grid0.N) (s : Fin 1), 1 * (t.val / 1) + s.val < grid0.N := by decide +kernel
/-- The steps of a point's block. -/
def st (t : Fin grid0.N) (s : Fin 1) : Fin grid0.N := ⟨1 * (t.val / 1) + s.val, step_lt t s⟩
theorem run_steps : ∀ (t : Fin grid0.N) (s : Fin 1), bi (st t s) = bi t ∧ bj (st t s) = bj t ∧ bk (st t s) = s := by decide +kernel

/-- An index of the array, from its block's number and the index there. -/
def atI (n : Fin 2) (x : Fin 1024) : Fin 2048 := ⟨n.val * 1024 + x.val, by omega⟩
def atJ (n : Fin 1) (x : Fin 1024) : Fin 1024 := ⟨n.val * 1024 + x.val, by omega⟩
def atK (n : Fin 1) (x : Fin 1024) : Fin 1024 := ⟨n.val * 1024 + x.val, by omega⟩

theorem index : ∀ t : Fin grid0.N,
    (∀ a, win0_0.index t a = (![(bi t).val, (bk t).val] : Fin 2 → Nat) a) ∧
    (∀ a, win0_1.index t a = (![(bj t).val, (bk t).val] : Fin 2 → Nat) a) ∧
    (∀ a, win0_2.index t a = (![(bi t).val, (bj t).val] : Fin 2 → Nat) a) := by decide +kernel

theorem place0 (t : Fin cfg0.N) (x : Fin 1024) (y : Fin 1024) :
    (win0_0.rect t).emb (ix2 x y : S1024x1024.Idx) = (ix2 (atI (bi t) x) (atK (bk t) y) : S2048x1024.Idx) := by
  refine funext fun a => Fin.ext ((win0_0.rect_emb_val t _ a).trans ?_)
  rw [(index t).1 a]
  match a with
  | ⟨0, _⟩ => rfl
  | ⟨1, _⟩ => rfl
theorem place1 (t : Fin cfg0.N) (x : Fin 1024) (y : Fin 1024) :
    (win0_1.rect t).emb (ix2 x y : S1024x1024.Idx) = (ix2 (atJ (bj t) x) (atK (bk t) y) : S1024x1024.Idx) := by
  refine funext fun a => Fin.ext ((win0_1.rect_emb_val t _ a).trans ?_)
  rw [(index t).2.1 a]
  match a with
  | ⟨0, _⟩ => rfl
  | ⟨1, _⟩ => rfl
theorem place2 (t : Fin cfg0.N) (x : Fin 1024) (y : Fin 1024) :
    (win0_2.rect t).emb (ix2 x y : S1024x1024.Idx) = (ix2 (atI (bi t) x) (atJ (bj t) y) : S2048x1024.Idx) := by
  refine funext fun a => Fin.ext ((win0_2.rect_emb_val t _ a).trans ?_)
  rw [(index t).2.2 a]
  match a with
  | ⟨0, _⟩ => rfl
  | ⟨1, _⟩ => rfl

/-- A step adds its part of the inner axis to what the block holds. -/
theorem step_apply (acc : Vec Ideal S1024x1024 .f32) (A : Vec Ideal S1024x1024 .bf16) (B : Vec Ideal S1024x1024 .bf16) (p : Fin 1024) (q : Fin 1024) :
    k0_pay2 (F := Ideal) acc A B (ix2 p q) = acc (ix2 p q) + ∑ k : Fin 1024, A (ix2 p k) * B (ix2 q k) := by
  pointwise [k0_pay2]

/-- The block is cleared before the first step. -/
theorem clear_apply (p : Fin 1024) (q : Fin 1024) : k0_pay1 (F := Ideal) (ix2 p q) = 0 := by
  pointwise [k0_pay1]

/-- The cast of the finished block. -/
theorem cast_apply (X : Vec Ideal S1024x1024 .f32) (p : Fin 1024) (q : Fin 1024) : k0_pay3 (F := Ideal) X (ix2 p q) = X (ix2 p q) := by
  pointwise [k0_pay3]

variable (m : (ℓ : Loc nD τ sig) → Buf (Elt Ideal) ℓ) (c : Dev nD)

/-- The two arrays the call is given, and their blocks at a point. -/
def arrA : S2048x1024.Idx → EReal := m ((c : Thread nD τ).loc main_arg0)
def arrB : S1024x1024.Idx → EReal := m ((c : Thread nD τ).loc main_arg1)
def blkA (t : Fin cfg0.N) : S1024x1024.Idx → EReal := iblk m c 0 t
def blkB (t : Fin cfg0.N) : S1024x1024.Idx → EReal := iblk m c 1 t

theorem blkA_apply (t : Fin cfg0.N) (x : Fin 1024) (y : Fin 1024) : blkA m c t (ix2 x y) = arrA m c (ix2 (atI (bi t) x) (atK (bk t) y)) :=
  congrArg (arrA m c) (place0 t x y)

theorem blkB_apply (t : Fin cfg0.N) (x : Fin 1024) (y : Fin 1024) : blkB m c t (ix2 x y) = arrB m c (ix2 (atJ (bj t) x) (atK (bk t) y)) :=
  congrArg (arrB m c) (place1 t x y)

/-- What the step of point `t` adds at a place of the block. -/
def part (t : Fin cfg0.N) (y : S1024x1024.Idx) : EReal := ∑ k : Fin 1024, blkA m c t (ix2 (y 0) k) * blkB m c t (ix2 (y 1) k)

/-- What the block holds when it is written back. -/
theorem after_eq (t : Fin cfg0.N) (p : Fin 1024) (q : Fin 1024) :
    (dats m 0 c).after 2 t (ix2 p q : S1024x1024.Idx) = ∑ s : Fin 1, part m c (st t s) (ix2 p q) := by
  have e : ∀ s : Fin 1, st t s = t := fun s => Fin.ext (by show 1 * (t.val / 1) + s.val = t.val; omega)
  rw [after0_2, Fin.sum_univ_one, e]
  unfold outsAt0
  frame_out
  rw [cast_apply]; rw [step_apply, clear_apply, zero_add]
  rfl

/-- The product of the two arrays. -/
def whole (y : S2048x1024.Idx) : EReal := ∑ k : Fin 1024, arrA m c (ix2 (y 0) k) * arrB m c (ix2 (y 1) k)

theorem left (t : Fin cfg0.N) (hf : (cfg0.win 2).flush t = true) (y : S1024x1024.Idx) :
    (dats m 0 c).after 2 t y = whole m c ((win0_2.rect t).emb y) := by
  obtain ⟨p, q, rfl⟩ := idx2 y
  rw [place2]
  refine (after_eq m c t p q).trans ?_
  refine Fin.sum_mul_add_congr (F := fun s k => blkA m c (st t s) (ix2 p k)
    * blkB m c (st t s) (ix2 q k)) (fun s k hl => ?_)
  obtain ⟨e1, e2, e3⟩ := run_steps t s
  show blkA m c _ _ * blkB m c _ _ = _
  rw [blkA_apply, blkB_apply, e1, e2, e3]
  rfl

/-- Every place of the result is in some point's block. -/
theorem onto : ∀ (i : Fin 2) (j : Fin 1), ∃ t, win0_2.flush t = true ∧ bi t = i ∧ bj t = j := by decide +kernel

theorem cover (y : S2048x1024.Idx) : ∃ t, (cfg0.win 2).flush t = true ∧ y ∈ ((cfg0.win 2).blk t).view.set := by
  obtain ⟨r, s, rfl⟩ := idx2 y
  obtain ⟨i, p, rfl⟩ : ∃ i p, r = atI i p :=
    ⟨⟨r.val / 1024, by omega⟩, ⟨r.val % 1024, by omega⟩, Fin.ext (show r.val = r.val / 1024 * 1024 + r.val % 1024 by omega)⟩
  obtain ⟨j, q, rfl⟩ : ∃ j q, s = atJ j q :=
    ⟨⟨s.val / 1024, by omega⟩, ⟨s.val % 1024, by omega⟩, Fin.ext (show s.val = s.val / 1024 * 1024 + s.val % 1024 by omega)⟩
  obtain ⟨t, h, rfl, rfl⟩ := onto i j
  exact ⟨t, h, (place2 t p q) ▸ View.emb_mem_set _ _⟩

/-- The array the call leaves. -/
theorem end_eq : (dats m 0 c).arrAt 2 cfg0.N = whole m c :=
  (dats m 0 c).arrAt_eq_of_cover 2 (whole m c) (fun t hf => funext fun y => left m c t hf y) cover

/-- The reference's result is the same product. -/
theorem ref_eq (A : ReferenceAttnOutDxIdeal.S2048x1024.Idx → EReal) (B : ReferenceAttnOutDxIdeal.S1024x1024.Idx → EReal) (hA : A = arrA m c) (hB : B = arrB m c) :
    val_main_v5 (F := Ideal) A B = whole m c := by
  subst hA hB
  funext y
  obtain ⟨p, q, rfl⟩ := idx2 y
  pointwise [val_main_v1, val_main_v3, val_main_v4, val_main_v5]
  rfl

end Cert.KernelAttnOutDxIdeal

namespace Cert

open Idealize.ShloMosaic Idealize.SL.Sem

/-- Over the reals the call's result is the reference's. -/
theorem algebraic_AttnOutDx : algebraic_KernelAttnOutDxIdeal_ReferenceAttnOutDxIdeal (hKernelAttnOutDxIdeal := KernelAttnOutDxIdeal.Gen.facts)
    (hReferenceAttnOutDxIdeal := ReferenceAttnOutDxIdeal.Gen.facts) :=
  fun m g m' g' _ hargs => ⟨fun c => KernelAttnOutDxIdeal.whole m c,
    (θ_run _ _ _).mono (fun _ h c => ⟨(h c).1.trans (KernelAttnOutDxIdeal.end_eq m c), (h c).2⟩) (KernelAttnOutDxIdeal.Value.run_blocks m g),
    (θ_run _ _ _).mono (fun _ h c => ⟨(h c).1.trans (KernelAttnOutDxIdeal.ref_eq m c _ _ (hargs c).1 (hargs c).2), (h c).2⟩)
      (ReferenceAttnOutDxIdeal.Value.run m' g')⟩

/-- The reference leaves its arguments and all semaphores as they were. -/
theorem frame_ReferenceAttnOutDxIdeal : quiescent_ReferenceAttnOutDxIdeal (hReferenceAttnOutDxIdeal := ReferenceAttnOutDxIdeal.Gen.facts) :=
  fun m g _ => (θ_run _ _ _).mono (fun _ h => ⟨fun c => (h c).2, sem_eq_zero_of_no_sems (by decide) _⟩) (ReferenceAttnOutDxIdeal.Value.run m g)

end Cert

end
-- ==== Proof.Pre.lean ====
/- The norm before a layer's mixing, with the conditioning's scale and shift: each point of the grid norms a block of rows,
   and the blocks are the reference's result. -/
module

public import proofs.«01_k».proof.Defs
public import proofs.«01_k».proof.Proof.Blocks
public import proofs.«01_k».proof.Proof.Gen.KernelPre.Frame
public import proofs.«01_k».proof.Proof.Gen.KernelPreIdeal.Value
public import proofs.«01_k».proof.Proof.Gen.ReferencePreIdeal.Read
public import Idealize.ShloMosaic.Adequacy
public import Idealize.ShloMosaic.Init

@[expose] public section

set_option maxRecDepth 16384

noncomputable section

namespace Cert.KernelPreIdeal

open Idealize.ShloMosaic Idealize.ShloMosaic.TcCoe Idealize.SL.Sem Cert.Blocks Cert.KernelPreIdeal.Gen
  Cert.ReferencePreIdeal.Read

/-- The block a point of the grid works on. -/
def bI (t : Fin grid0.N) : Fin 8 := grid0.coords t 0

/-- An index of the array, from its block's number and the index there. -/
def atI (n : Fin 8) (x : Fin 256) : Fin 2048 := ⟨n.val * 256 + x.val, by omega⟩

theorem index : ∀ t : Fin grid0.N,
    (∀ a, win0_0.index t a = (![(bI t).val, 0] : Fin 2 → Nat) a) ∧
    (∀ a, win0_1.index t a = (![0, 0, 0] : Fin 3 → Nat) a) ∧
    (∀ a, win0_2.index t a = (![0, 0] : Fin 2 → Nat) a) ∧
    (∀ a, win0_3.index t a = (![(bI t).val, 0] : Fin 2 → Nat) a) := by decide +kernel

theorem place0 (t : Fin cfg0.N) (x : Fin 256) (y : Fin 1024) :
    (win0_0.rect t).emb (ix2 x y : S256x1024.Idx) = (ix2 (atI (bI t) x) y : S2048x1024.Idx) := by
  refine funext fun a => Fin.ext ((win0_0.rect_emb_val t _ a).trans ?_)
  rw [(index t).1 a]
  match a with
  | ⟨0, _⟩ => rfl
  | ⟨1, _⟩ => exact (congrArg (· + y.val) (Nat.zero_mul 1024)).trans (Nat.zero_add _)
theorem place1 (t : Fin cfg0.N) (x : Fin 1) (y : Fin 6) (z : Fin 1024) :
    (win0_1.rect t).emb (ix3 x y z : S1x6x1024.Idx) = (ix3 x y z : S1x6x1024.Idx) := by
  refine funext fun a => Fin.ext ((win0_1.rect_emb_val t _ a).trans ?_)
  rw [(index t).2.1 a]
  match a with
  | ⟨0, _⟩ => exact (congrArg (· + x.val) (Nat.zero_mul 1)).trans (Nat.zero_add _)
  | ⟨1, _⟩ => exact (congrArg (· + y.val) (Nat.zero_mul 6)).trans (Nat.zero_add _)
  | ⟨2, _⟩ => exact (congrArg (· + z.val) (Nat.zero_mul 1024)).trans (Nat.zero_add _)
theorem place2 (t : Fin cfg0.N) (x : Fin 1) (y : Fin 1024) :
    (win0_2.rect t).emb (ix2 x y : S1x1024.Idx) = (ix2 x y : S1x1024.Idx) := by
  refine funext fun a => Fin.ext ((win0_2.rect_emb_val t _ a).trans ?_)
  rw [(index t).2.2.1 a]
  match a with
  | ⟨0, _⟩ => exact (congrArg (· + x.val) (Nat.zero_mul 1)).trans (Nat.zero_add _)
  | ⟨1, _⟩ => exact (congrArg (· + y.val) (Nat.zero_mul 1024)).trans (Nat.zero_add _)
theorem place3 (t : Fin cfg0.N) (x : Fin 256) (y : Fin 1024) :
    (win0_3.rect t).emb (ix2 x y : S256x1024.Idx) = (ix2 (atI (bI t) x) y : S2048x1024.Idx) := by
  refine funext fun a => Fin.ext ((win0_3.rect_emb_val t _ a).trans ?_)
  rw [(index t).2.2.2 a]
  match a with
  | ⟨0, _⟩ => rfl
  | ⟨1, _⟩ => exact (congrArg (· + y.val) (Nat.zero_mul 1024)).trans (Nat.zero_add _)

/-- A row scaled to mean square one, times a gain, and then scaled and shifted as the conditioning says. -/
def row (h : Fin 1024 → EReal) (g : EReal) (mod : Fin 6 → EReal) (q : Fin 1024) : EReal :=
  h q * Ideal.rsqrt (Ideal.div (∑ x, h x * h x) (Ideal.ofBits .f32 0x44800000#32) + Ideal.ofBits .f32 0x358637BD#32) * g
    * (1 + mod 1) + mod 0

/-- What the body makes of its blocks. -/
theorem body_apply (x0 : Vec Ideal S256x1024 .f32) (x1 : Vec Ideal S1x6x1024 .f32) (x2 : Vec Ideal S1x1024 .f32) (p : Fin 256) (q : Fin 1024) :
    out0_3 (F := Ideal) x0 x1 x2 (ix2 p q) = row (fun k => x0 (ix2 p k)) (x2 (ix2 0 q)) (fun r => x1 (ix3 0 r q)) q := by
  unfold out0_3
  frame_out
  pointwise [k0_pay1]
  rfl

variable (m : (ℓ : Loc nD τ sig) → Buf (Elt Ideal) ℓ) (c : Dev nD)

/-- The arrays the call is given, and their blocks at a point. -/
def arrH : S2048x1024.Idx → EReal := m ((c : Thread nD τ).loc main_arg0)
def arrM : S6x1024.Idx → EReal := m ((c : Thread nD τ).loc main_arg1)
def arrG : S1024.Idx → EReal := m ((c : Thread nD τ).loc main_arg2)
def blk0 (t : Fin cfg0.N) : S256x1024.Idx → EReal := iblk m c 0 t
theorem blk0_apply (t : Fin cfg0.N) (x : Fin 256) (y : Fin 1024) : blk0 m c t (ix2 x y) = arrH m c (ix2 (atI (bI t) x) y) :=
  congrArg (arrH m c) (place0 t x y)
def blk1 (t : Fin cfg0.N) : S1x6x1024.Idx → EReal := iblk m c 1 t
theorem blk1_apply (t : Fin cfg0.N) (r : Fin 6) (q : Fin 1024) : blk1 m c t (ix3 0 r q) = arrM m c (ix2 r q) := by
  have e : (V m c main_v0 : S1x6x1024.Idx → EReal) = broadcastInDim S1x6x1024 ![1, 2] bcast_S6x1024_S1x6x1024_1_2 (arrM m c) := by
    simp only [V, StableHlo.after_cons, StableHlo.after_nil, hostOps0]
    rfl
  show (V m c main_v0 : S1x6x1024.Idx → EReal) ((win0_1.rect t).emb (ix3 0 r q : S1x6x1024.Idx)) = _
  rw [place1, e]
  pointwise
def blk2 (t : Fin cfg0.N) : S1x1024.Idx → EReal := iblk m c 2 t
theorem blk2_apply (t : Fin cfg0.N) (q : Fin 1024) : blk2 m c t (ix2 0 q) = arrG m c (ix1 q) := by
  have e : (V m c main_v1 : S1x1024.Idx → EReal) = shapeCast S1x1024 (arrG m c) shapeCasts_S1024_S1x1024 := by
    simp only [V, StableHlo.after_cons, StableHlo.after_nil, hostOps0]
    rfl
  show (V m c main_v1 : S1x1024.Idx → EReal) ((win0_2.rect t).emb (ix2 0 q : S1x1024.Idx)) = _
  rw [place2, e]
  pointwise

/-- The norm of every row. -/
def whole (y : S2048x1024.Idx) : EReal := row (fun k => arrH m c (ix2 (y 0) k)) (arrG m c (ix1 (y 1))) (fun r => arrM m c (ix2 r (y 1))) (y 1)

/-- Every place of the result is in some point's block. -/
theorem onto : ∀ i : Fin 8, ∃ t, win0_3.flush t = true ∧ bI t = i := by decide +kernel

theorem cover (y : S2048x1024.Idx) : ∃ t, (cfg0.win 3).flush t = true ∧ y ∈ ((cfg0.win 3).blk t).view.set := by
  obtain ⟨r, s, rfl⟩ := idx2 y
  obtain ⟨i, p, rfl⟩ : ∃ i p, r = atI i p :=
    ⟨⟨r.val / 256, by omega⟩, ⟨r.val % 256, by omega⟩, Fin.ext (show r.val = r.val / 256 * 256 + r.val % 256 by omega)⟩
  obtain ⟨t, h, rfl⟩ := onto i
  exact ⟨t, h, (place3 t p s) ▸ View.emb_mem_set _ _⟩

theorem left (t : Fin cfg0.N) (y : S256x1024.Idx) :
    (dats m 0 c).after 3 t y = whole m c ((win0_3.rect t).emb y) := by
  obtain ⟨p, q, rfl⟩ := idx2 y
  rw [place3, after0_3]
  refine (body_apply _ _ _ p q).trans ?_
  show row (fun k => blk0 m c t (ix2 p k)) (blk2 m c t (ix2 0 q)) (fun r => blk1 m c t (ix3 0 r q)) q = _
  simp only [blk0_apply, blk1_apply, blk2_apply]
  rfl

/-- The array the call leaves. -/
theorem end_eq : (dats m 0 c).arrAt 3 cfg0.N = whole m c :=
  (dats m 0 c).arrAt_eq_of_cover 3 (whole m c) (fun t _ => funext fun y => left m c t y) cover

/-- The reference's result is the same. -/
theorem ref_eq (A : ReferencePreIdeal.S2048x1024.Idx → EReal) (B : ReferencePreIdeal.S6x1024.Idx → EReal) (G : ReferencePreIdeal.S1024.Idx → EReal) (hA : A = arrH m c) (hB : B = arrM m c) (hG : G = arrG m c) :
    val_main_v25 (F := Ideal) A B G = whole m c := by
  subst hA hB hG
  funext y
  obtain ⟨p, q, rfl⟩ := idx2 y
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_cst_2, val_main_v15, val_main_v16, val_main_v17, val_main_v18, val_main_v19, val_main_v20, val_main_v21, val_main_v22, val_main_v23, val_main_v24, val_main_v25]
  rfl

end Cert.KernelPreIdeal

namespace Cert

open Idealize.ShloMosaic Idealize.SL.Sem

/-- Over the reals the call's result is the reference's. -/
theorem algebraic_Pre : algebraic_KernelPreIdeal_ReferencePreIdeal (hKernelPreIdeal := KernelPreIdeal.Gen.facts)
    (hReferencePreIdeal := ReferencePreIdeal.Gen.facts) :=
  fun m g m' g' _ hargs => ⟨fun c => KernelPreIdeal.whole m c,
    (θ_run _ _ _).mono (fun _ h c => ⟨(h c).1.trans (KernelPreIdeal.end_eq m c), (h c).2⟩) (KernelPreIdeal.Value.run_blocks m g),
    (θ_run _ _ _).mono (fun _ h c => ⟨(h c).1.trans (KernelPreIdeal.ref_eq m c _ _ _ (hargs c).1 (hargs c).2.1 (hargs c).2.2), (h c).2⟩)
      (ReferencePreIdeal.Value.run m' g')⟩

/-- The reference leaves its arguments and all semaphores as they were. -/
theorem frame_ReferencePreIdeal : quiescent_ReferencePreIdeal (hReferencePreIdeal := ReferencePreIdeal.Gen.facts) :=
  fun m g _ => (θ_run _ _ _).mono (fun _ h => ⟨fun c => (h c).2, sem_eq_zero_of_no_sems (by decide) _⟩) (ReferencePreIdeal.Value.run m g)

end Cert

end
-- ==== Proof.Post.lean ====
/- The norm after a layer's mixing, gated by the conditioning and added to the layer's input: each point of the grid norms a
   block of rows, and the blocks are the reference's result. The bias the call adds is zero. -/
module

public import proofs.«01_k».proof.Defs
public import proofs.«01_k».proof.Proof.Blocks
public import proofs.«01_k».proof.Proof.Gen.KernelPost.Frame
public import proofs.«01_k».proof.Proof.Gen.KernelPostIdeal.Value
public import proofs.«01_k».proof.Proof.Gen.ReferencePostIdeal.Read
public import Idealize.ShloMosaic.Adequacy
public import Idealize.ShloMosaic.Init

@[expose] public section

set_option maxRecDepth 16384

noncomputable section

namespace Cert.KernelPostIdeal

open Idealize.ShloMosaic Idealize.ShloMosaic.TcCoe Idealize.SL.Sem Cert.Blocks Cert.KernelPostIdeal.Gen
  Cert.ReferencePostIdeal.Read

/-- The block a point of the grid works on. -/
def bI (t : Fin grid0.N) : Fin 8 := grid0.coords t 0

/-- An index of the array, from its block's number and the index there. -/
def atI (n : Fin 8) (x : Fin 256) : Fin 2048 := ⟨n.val * 256 + x.val, by omega⟩

theorem index : ∀ t : Fin grid0.N,
    (∀ a, win0_0.index t a = (![(bI t).val, 0] : Fin 2 → Nat) a) ∧
    (∀ a, win0_1.index t a = (![(bI t).val, 0] : Fin 2 → Nat) a) ∧
    (∀ a, win0_2.index t a = (![0, 0] : Fin 2 → Nat) a) ∧
    (∀ a, win0_3.index t a = (![0, 0, 0] : Fin 3 → Nat) a) ∧
    (∀ a, win0_4.index t a = (![0, 0] : Fin 2 → Nat) a) ∧
    (∀ a, win0_5.index t a = (![(bI t).val, 0] : Fin 2 → Nat) a) := by decide +kernel

theorem place0 (t : Fin cfg0.N) (x : Fin 256) (y : Fin 1024) :
    (win0_0.rect t).emb (ix2 x y : S256x1024.Idx) = (ix2 (atI (bI t) x) y : S2048x1024.Idx) := by
  refine funext fun a => Fin.ext ((win0_0.rect_emb_val t _ a).trans ?_)
  rw [(index t).1 a]
  match a with
  | ⟨0, _⟩ => rfl
  | ⟨1, _⟩ => exact (congrArg (· + y.val) (Nat.zero_mul 1024)).trans (Nat.zero_add _)
theorem place1 (t : Fin cfg0.N) (x : Fin 256) (y : Fin 1024) :
    (win0_1.rect t).emb (ix2 x y : S256x1024.Idx) = (ix2 (atI (bI t) x) y : S2048x1024.Idx) := by
  refine funext fun a => Fin.ext ((win0_1.rect_emb_val t _ a).trans ?_)
  rw [(index t).2.1 a]
  match a with
  | ⟨0, _⟩ => rfl
  | ⟨1, _⟩ => exact (congrArg (· + y.val) (Nat.zero_mul 1024)).trans (Nat.zero_add _)
theorem place2 (t : Fin cfg0.N) (x : Fin 1) (y : Fin 1024) :
    (win0_2.rect t).emb (ix2 x y : S1x1024.Idx) = (ix2 x y : S1x1024.Idx) := by
  refine funext fun a => Fin.ext ((win0_2.rect_emb_val t _ a).trans ?_)
  rw [(index t).2.2.1 a]
  match a with
  | ⟨0, _⟩ => exact (congrArg (· + x.val) (Nat.zero_mul 1)).trans (Nat.zero_add _)
  | ⟨1, _⟩ => exact (congrArg (· + y.val) (Nat.zero_mul 1024)).trans (Nat.zero_add _)
theorem place3 (t : Fin cfg0.N) (x : Fin 1) (y : Fin 6) (z : Fin 1024) :
    (win0_3.rect t).emb (ix3 x y z : S1x6x1024.Idx) = (ix3 x y z : S1x6x1024.Idx) := by
  refine funext fun a => Fin.ext ((win0_3.rect_emb_val t _ a).trans ?_)
  rw [(index t).2.2.2.1 a]
  match a with
  | ⟨0, _⟩ => exact (congrArg (· + x.val) (Nat.zero_mul 1)).trans (Nat.zero_add _)
  | ⟨1, _⟩ => exact (congrArg (· + y.val) (Nat.zero_mul 6)).trans (Nat.zero_add _)
  | ⟨2, _⟩ => exact (congrArg (· + z.val) (Nat.zero_mul 1024)).trans (Nat.zero_add _)
theorem place4 (t : Fin cfg0.N) (x : Fin 1) (y : Fin 1024) :
    (win0_4.rect t).emb (ix2 x y : S1x1024.Idx) = (ix2 x y : S1x1024.Idx) := by
  refine funext fun a => Fin.ext ((win0_4.rect_emb_val t _ a).trans ?_)
  rw [(index t).2.2.2.2.1 a]
  match a with
  | ⟨0, _⟩ => exact (congrArg (· + x.val) (Nat.zero_mul 1)).trans (Nat.zero_add _)
  | ⟨1, _⟩ => exact (congrArg (· + y.val) (Nat.zero_mul 1024)).trans (Nat.zero_add _)
theorem place5 (t : Fin cfg0.N) (x : Fin 256) (y : Fin 1024) :
    (win0_5.rect t).emb (ix2 x y : S256x1024.Idx) = (ix2 (atI (bI t) x) y : S2048x1024.Idx) := by
  refine funext fun a => Fin.ext ((win0_5.rect_emb_val t _ a).trans ?_)
  rw [(index t).2.2.2.2.2 a]
  match a with
  | ⟨0, _⟩ => rfl
  | ⟨1, _⟩ => exact (congrArg (· + y.val) (Nat.zero_mul 1024)).trans (Nat.zero_add _)

/-- A row scaled to mean square one, times a gain and a gate, added to an element. -/
def row (h : EReal) (y : Fin 1024 → EReal) (gate g : EReal) (q : Fin 1024) : EReal :=
  h + gate * (y q * Ideal.rsqrt (Ideal.div (∑ x, y x * y x) (Ideal.ofBits .f32 0x44800000#32) + Ideal.ofBits .f32 0x358637BD#32) * g)

/-- What the body makes of its blocks. -/
theorem body_apply (x0 x1 : Vec Ideal S256x1024 .f32) (x2 : Vec Ideal S1x1024 .f32) (x3 : Vec Ideal S1x6x1024 .f32) (x4 : Vec Ideal S1x1024 .f32) (p : Fin 256) (q : Fin 1024) :
    out0_5 (F := Ideal) x0 x1 x2 x3 x4 (ix2 p q) = row (x0 (ix2 p q)) (fun k => x1 (ix2 p k) + x2 (ix2 0 k)) (x3 (ix3 0 2 q)) (x4 (ix2 0 q)) q := by
  unfold out0_5
  frame_out
  pointwise [k0_pay1]
  rfl

variable (m : (ℓ : Loc nD τ sig) → Buf (Elt Ideal) ℓ) (c : Dev nD)

/-- The arrays the call is given, and their blocks at a point. -/
def arrH : S2048x1024.Idx → EReal := m ((c : Thread nD τ).loc main_arg0)
def arrY : S2048x1024.Idx → EReal := m ((c : Thread nD τ).loc main_arg1)
def arrM : S6x1024.Idx → EReal := m ((c : Thread nD τ).loc main_arg2)
def arrG : S1024.Idx → EReal := m ((c : Thread nD τ).loc main_arg3)
def blk0 (t : Fin cfg0.N) : S256x1024.Idx → EReal := iblk m c 0 t
theorem blk0_apply (t : Fin cfg0.N) (x : Fin 256) (y : Fin 1024) : blk0 m c t (ix2 x y) = arrH m c (ix2 (atI (bI t) x) y) :=
  congrArg (arrH m c) (place0 t x y)
def blk1 (t : Fin cfg0.N) : S256x1024.Idx → EReal := iblk m c 1 t
theorem blk1_apply (t : Fin cfg0.N) (x : Fin 256) (y : Fin 1024) : blk1 m c t (ix2 x y) = arrY m c (ix2 (atI (bI t) x) y) :=
  congrArg (arrY m c) (place1 t x y)
def blk2 (t : Fin cfg0.N) : S1x1024.Idx → EReal := iblk m c 2 t
theorem blk2_apply (t : Fin cfg0.N) (q : Fin 1024) : blk2 m c t (ix2 0 q) = 0 := by
  have e : (V m c main_v0 : S1x1024.Idx → EReal) = broadcastInDim S1x1024 ![] bcast_S_S1x1024 (constant (F := Ideal) S_ .f32 0x00000000#32) := by
    simp only [V, StableHlo.after_cons, StableHlo.after_nil, hostOps0]
    rfl
  show (V m c main_v0 : S1x1024.Idx → EReal) ((win0_2.rect t).emb (ix2 0 q : S1x1024.Idx)) = _
  rw [place2, e]
  pointwise
def blk3 (t : Fin cfg0.N) : S1x6x1024.Idx → EReal := iblk m c 3 t
theorem blk3_apply (t : Fin cfg0.N) (r : Fin 6) (q : Fin 1024) : blk3 m c t (ix3 0 r q) = arrM m c (ix2 r q) := by
  have e : (V m c main_v1 : S1x6x1024.Idx → EReal) = broadcastInDim S1x6x1024 ![1, 2] bcast_S6x1024_S1x6x1024_1_2 (arrM m c) := by
    simp only [V, StableHlo.after_cons, StableHlo.after_nil, hostOps0]
    rfl
  show (V m c main_v1 : S1x6x1024.Idx → EReal) ((win0_3.rect t).emb (ix3 0 r q : S1x6x1024.Idx)) = _
  rw [place3, e]
  pointwise
def blk4 (t : Fin cfg0.N) : S1x1024.Idx → EReal := iblk m c 4 t
theorem blk4_apply (t : Fin cfg0.N) (q : Fin 1024) : blk4 m c t (ix2 0 q) = arrG m c (ix1 q) := by
  have e : (V m c main_v2 : S1x1024.Idx → EReal) = shapeCast S1x1024 (arrG m c) shapeCasts_S1024_S1x1024 := by
    simp only [V, StableHlo.after_cons, StableHlo.after_nil, hostOps0]
    rfl
  show (V m c main_v2 : S1x1024.Idx → EReal) ((win0_4.rect t).emb (ix2 0 q : S1x1024.Idx)) = _
  rw [place4, e]
  pointwise

/-- The gated norm of every row. -/
def whole (y : S2048x1024.Idx) : EReal := row (arrH m c y) (fun k => arrY m c (ix2 (y 0) k)) (arrM m c (ix2 2 (y 1))) (arrG m c (ix1 (y 1))) (y 1)

/-- Every place of the result is in some point's block. -/
theorem onto : ∀ i : Fin 8, ∃ t, win0_5.flush t = true ∧ bI t = i := by decide +kernel

theorem cover (y : S2048x1024.Idx) : ∃ t, (cfg0.win 5).flush t = true ∧ y ∈ ((cfg0.win 5).blk t).view.set := by
  obtain ⟨r, s, rfl⟩ := idx2 y
  obtain ⟨i, p, rfl⟩ : ∃ i p, r = atI i p :=
    ⟨⟨r.val / 256, by omega⟩, ⟨r.val % 256, by omega⟩, Fin.ext (show r.val = r.val / 256 * 256 + r.val % 256 by omega)⟩
  obtain ⟨t, h, rfl⟩ := onto i
  exact ⟨t, h, (place5 t p s) ▸ View.emb_mem_set _ _⟩

theorem left (t : Fin cfg0.N) (y : S256x1024.Idx) :
    (dats m 0 c).after 5 t y = whole m c ((win0_5.rect t).emb y) := by
  obtain ⟨p, q, rfl⟩ := idx2 y
  rw [place5, after0_5]
  refine (body_apply _ _ _ _ _ p q).trans ?_
  show row (blk0 m c t (ix2 p q)) (fun k => blk1 m c t (ix2 p k) + blk2 m c t (ix2 0 k)) (blk3 m c t (ix3 0 2 q)) (blk4 m c t (ix2 0 q)) q = _
  simp only [blk0_apply, blk1_apply, blk2_apply, blk3_apply, blk4_apply, add_zero]
  rfl

/-- The array the call leaves. -/
theorem end_eq : (dats m 0 c).arrAt 5 cfg0.N = whole m c :=
  (dats m 0 c).arrAt_eq_of_cover 5 (whole m c) (fun t _ => funext fun y => left m c t y) cover

/-- The reference's result is the same. -/
theorem ref_eq (A B : ReferencePostIdeal.S2048x1024.Idx → EReal) (M : ReferencePostIdeal.S6x1024.Idx → EReal) (G : ReferencePostIdeal.S1024.Idx → EReal) (hA : A = arrH m c) (hB : B = arrY m c) (hM : M = arrM m c) (hG : G = arrG m c) :
    val_main_v18 (F := Ideal) A B M G = whole m c := by
  subst hA hB hM hG
  funext y
  obtain ⟨p, q, rfl⟩ := idx2 y
  pointwise [val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14, val_main_v15, val_main_v16, val_main_v17, val_main_v18]
  rfl

end Cert.KernelPostIdeal

namespace Cert

open Idealize.ShloMosaic Idealize.SL.Sem

/-- Over the reals the call's result is the reference's. -/
theorem algebraic_Post : algebraic_KernelPostIdeal_ReferencePostIdeal (hKernelPostIdeal := KernelPostIdeal.Gen.facts)
    (hReferencePostIdeal := ReferencePostIdeal.Gen.facts) :=
  fun m g m' g' _ hargs => ⟨fun c => KernelPostIdeal.whole m c,
    (θ_run _ _ _).mono (fun _ h c => ⟨(h c).1.trans (KernelPostIdeal.end_eq m c), (h c).2⟩) (KernelPostIdeal.Value.run_blocks m g),
    (θ_run _ _ _).mono (fun _ h c => ⟨(h c).1.trans (KernelPostIdeal.ref_eq m c _ _ _ _ (hargs c).1 (hargs c).2.1 (hargs c).2.2.1 (hargs c).2.2.2), (h c).2⟩)
      (ReferencePostIdeal.Value.run m' g')⟩

/-- The reference leaves its arguments and all semaphores as they were. -/
theorem frame_ReferencePostIdeal : quiescent_ReferencePostIdeal (hReferencePostIdeal := ReferencePostIdeal.Gen.facts) :=
  fun m g _ => (θ_run _ _ _).mono (fun _ h => ⟨fun c => (h c).2, sem_eq_zero_of_no_sems (by decide) _⟩) (ReferencePostIdeal.Value.run m g)

end Cert

end
-- ==== Proof.LnSilu.lean ====
/- The layer norm inside the convolution's mixing, and its activation: each point of the grid works on a block of rows,
   and the blocks are the reference's result. -/
module

public import proofs.«01_k».proof.Defs
public import proofs.«01_k».proof.Proof.Blocks
public import proofs.«01_k».proof.Proof.Gen.KernelLnSilu.Frame
public import proofs.«01_k».proof.Proof.Gen.KernelLnSiluIdeal.Value
public import proofs.«01_k».proof.Proof.Gen.ReferenceLnSiluIdeal.Read
public import Idealize.ShloMosaic.Adequacy
public import Idealize.ShloMosaic.Init

@[expose] public section

set_option maxRecDepth 16384

noncomputable section

namespace Cert.KernelLnSiluIdeal

open Idealize.ShloMosaic Idealize.ShloMosaic.TcCoe Idealize.SL.Sem Cert.Blocks Cert.KernelLnSiluIdeal.Gen
  Cert.ReferenceLnSiluIdeal.Read

/-- The block a point of the grid works on. -/
def bI (t : Fin grid0.N) : Fin 8 := grid0.coords t 0

/-- An index of the array, from its block's number and the index there. -/
def atI (n : Fin 8) (x : Fin 256) : Fin 2048 := ⟨n.val * 256 + x.val, by omega⟩

theorem index : ∀ t : Fin grid0.N,
    (∀ a, win0_0.index t a = (![(bI t).val, 0] : Fin 2 → Nat) a) ∧
    (∀ a, win0_1.index t a = (![0, 0] : Fin 2 → Nat) a) ∧
    (∀ a, win0_2.index t a = (![0, 0] : Fin 2 → Nat) a) ∧
    (∀ a, win0_3.index t a = (![(bI t).val, 0] : Fin 2 → Nat) a) := by decide +kernel

theorem place0 (t : Fin cfg0.N) (x : Fin 256) (y : Fin 1024) :
    (win0_0.rect t).emb (ix2 x y : S256x1024.Idx) = (ix2 (atI (bI t) x) y : S2048x1024.Idx) := by
  refine funext fun a => Fin.ext ((win0_0.rect_emb_val t _ a).trans ?_)
  rw [(index t).1 a]
  match a with
  | ⟨0, _⟩ => rfl
  | ⟨1, _⟩ => exact (congrArg (· + y.val) (Nat.zero_mul 1024)).trans (Nat.zero_add _)
theorem place1 (t : Fin cfg0.N) (x : Fin 1) (y : Fin 1024) :
    (win0_1.rect t).emb (ix2 x y : S1x1024.Idx) = (ix2 x y : S1x1024.Idx) := by
  refine funext fun a => Fin.ext ((win0_1.rect_emb_val t _ a).trans ?_)
  rw [(index t).2.1 a]
  match a with
  | ⟨0, _⟩ => exact (congrArg (· + x.val) (Nat.zero_mul 1)).trans (Nat.zero_add _)
  | ⟨1, _⟩ => exact (congrArg (· + y.val) (Nat.zero_mul 1024)).trans (Nat.zero_add _)
theorem place2 (t : Fin cfg0.N) (x : Fin 1) (y : Fin 1024) :
    (win0_2.rect t).emb (ix2 x y : S1x1024.Idx) = (ix2 x y : S1x1024.Idx) := by
  refine funext fun a => Fin.ext ((win0_2.rect_emb_val t _ a).trans ?_)
  rw [(index t).2.2.1 a]
  match a with
  | ⟨0, _⟩ => exact (congrArg (· + x.val) (Nat.zero_mul 1)).trans (Nat.zero_add _)
  | ⟨1, _⟩ => exact (congrArg (· + y.val) (Nat.zero_mul 1024)).trans (Nat.zero_add _)
theorem place3 (t : Fin cfg0.N) (x : Fin 256) (y : Fin 1024) :
    (win0_3.rect t).emb (ix2 x y : S256x1024.Idx) = (ix2 (atI (bI t) x) y : S2048x1024.Idx) := by
  refine funext fun a => Fin.ext ((win0_3.rect_emb_val t _ a).trans ?_)
  rw [(index t).2.2.2 a]
  match a with
  | ⟨0, _⟩ => rfl
  | ⟨1, _⟩ => exact (congrArg (· + y.val) (Nat.zero_mul 1024)).trans (Nat.zero_add _)

/-- A row less its mean. -/
def less (z : Fin 1024 → EReal) (q : Fin 1024) : EReal := z q - Ideal.div (∑ x, z x) (Ideal.ofBits .f32 0x44800000#32)
/-- The layer norm of a row. -/
def norm (z : Fin 1024 → EReal) (g b : EReal) (q : Fin 1024) : EReal :=
  less z q * Ideal.rsqrt (Ideal.div (∑ x, less z x * less z x) (Ideal.ofBits .f32 0x44800000#32) + Ideal.ofBits .f32 0x358637BD#32) * g + b
/-- A value times its logistic. -/
def silu (v : EReal) : EReal := v * Ideal.logistic v

/-- What the body makes of its blocks. -/
theorem body_apply (x0 : Vec Ideal S256x1024 .f32) (x1 x2 : Vec Ideal S1x1024 .f32) (p : Fin 256) (q : Fin 1024) :
    out0_3 (F := Ideal) x0 x1 x2 (ix2 p q) = silu (norm (fun k => x0 (ix2 p k)) (x1 (ix2 0 q)) (x2 (ix2 0 q)) q) := by
  unfold out0_3
  frame_out
  pointwise [k0_pay1]
  rfl

variable (m : (ℓ : Loc nD τ sig) → Buf (Elt Ideal) ℓ) (c : Dev nD)

/-- The arrays the call is given, and their blocks at a point. -/
def arrZ : S2048x1024.Idx → EReal := m ((c : Thread nD τ).loc main_arg0)
def arrG : S1024.Idx → EReal := m ((c : Thread nD τ).loc main_arg1)
def arrB : S1024.Idx → EReal := m ((c : Thread nD τ).loc main_arg2)
def blk0 (t : Fin cfg0.N) : S256x1024.Idx → EReal := iblk m c 0 t
theorem blk0_apply (t : Fin cfg0.N) (x : Fin 256) (y : Fin 1024) : blk0 m c t (ix2 x y) = arrZ m c (ix2 (atI (bI t) x) y) :=
  congrArg (arrZ m c) (place0 t x y)
def blk1 (t : Fin cfg0.N) : S1x1024.Idx → EReal := iblk m c 1 t
theorem blk1_apply (t : Fin cfg0.N) (q : Fin 1024) : blk1 m c t (ix2 0 q) = arrG m c (ix1 q) := by
  have e : (V m c main_v0 : S1x1024.Idx → EReal) = shapeCast S1x1024 (arrG m c) shapeCasts_S1024_S1x1024 := by
    simp only [V, StableHlo.after_cons, StableHlo.after_nil, hostOps0]
    rfl
  show (V m c main_v0 : S1x1024.Idx → EReal) ((win0_1.rect t).emb (ix2 0 q : S1x1024.Idx)) = _
  rw [place1, e]
  pointwise
def blk2 (t : Fin cfg0.N) : S1x1024.Idx → EReal := iblk m c 2 t
theorem blk2_apply (t : Fin cfg0.N) (q : Fin 1024) : blk2 m c t (ix2 0 q) = arrB m c (ix1 q) := by
  have e : (V m c main_v1 : S1x1024.Idx → EReal) = shapeCast S1x1024 (arrB m c) shapeCasts_S1024_S1x1024 := by
    simp only [V, StableHlo.after_cons, StableHlo.after_nil, hostOps0]
    rfl
  show (V m c main_v1 : S1x1024.Idx → EReal) ((win0_2.rect t).emb (ix2 0 q : S1x1024.Idx)) = _
  rw [place2, e]
  pointwise

/-- The activation of every row's norm. -/
def whole (y : S2048x1024.Idx) : EReal := silu (norm (fun k => arrZ m c (ix2 (y 0) k)) (arrG m c (ix1 (y 1))) (arrB m c (ix1 (y 1))) (y 1))

/-- Every place of the result is in some point's block. -/
theorem onto : ∀ i : Fin 8, ∃ t, win0_3.flush t = true ∧ bI t = i := by decide +kernel

theorem cover (y : S2048x1024.Idx) : ∃ t, (cfg0.win 3).flush t = true ∧ y ∈ ((cfg0.win 3).blk t).view.set := by
  obtain ⟨r, s, rfl⟩ := idx2 y
  obtain ⟨i, p, rfl⟩ : ∃ i p, r = atI i p :=
    ⟨⟨r.val / 256, by omega⟩, ⟨r.val % 256, by omega⟩, Fin.ext (show r.val = r.val / 256 * 256 + r.val % 256 by omega)⟩
  obtain ⟨t, h, rfl⟩ := onto i
  exact ⟨t, h, (place3 t p s) ▸ View.emb_mem_set _ _⟩

theorem left (t : Fin cfg0.N) (y : S256x1024.Idx) :
    (dats m 0 c).after 3 t y = whole m c ((win0_3.rect t).emb y) := by
  obtain ⟨p, q, rfl⟩ := idx2 y
  rw [place3, after0_3]
  refine (body_apply _ _ _ p q).trans ?_
  show silu (norm (fun k => blk0 m c t (ix2 p k)) (blk1 m c t (ix2 0 q)) (blk2 m c t (ix2 0 q)) q) = _
  simp only [blk0_apply, blk1_apply, blk2_apply]
  rfl

/-- The array the call leaves. -/
theorem end_eq : (dats m 0 c).arrAt 3 cfg0.N = whole m c :=
  (dats m 0 c).arrAt_eq_of_cover 3 (whole m c) (fun t _ => funext fun y => left m c t y) cover

/-- The reference's result is the same. -/
theorem ref_eq (A : ReferenceLnSiluIdeal.S2048x1024.Idx → EReal) (G B : ReferenceLnSiluIdeal.S1024.Idx → EReal) (hA : A = arrZ m c) (hG : G = arrG m c) (hB : B = arrB m c) :
    val_main_v25 (F := Ideal) A G B = whole m c := by
  subst hA hG hB
  funext y
  obtain ⟨p, q, rfl⟩ := idx2 y
  pointwise [val_main_cst, val_main_v0, val_main_v1, val_main_cst_0, val_main_v2, val_main_v3, val_main_v4, val_main_v5, val_main_v6, val_main_cst_1, val_main_v7, val_main_v8, val_main_cst_2, val_main_v9, val_main_v10, val_main_v11, val_main_v12, val_main_cst_3, val_main_v13, val_main_v14, val_main_v15, val_main_v16, val_main_v17, val_main_v18, val_main_v19, val_main_v20, val_main_v21, val_main_v22, val_main_v23, val_main_call0_v0, val_main_call0_v1, val_main_call0_cst, val_main_call0_v2, val_main_call0_v3, val_main_call0_cst_0, val_main_call0_v4, val_main_call0_v5, val_main_v24, val_main_v25]
  rfl

end Cert.KernelLnSiluIdeal

namespace Cert

open Idealize.ShloMosaic Idealize.SL.Sem

/-- Over the reals the call's result is the reference's. -/
theorem algebraic_LnSilu : algebraic_KernelLnSiluIdeal_ReferenceLnSiluIdeal (hKernelLnSiluIdeal := KernelLnSiluIdeal.Gen.facts)
    (hReferenceLnSiluIdeal := ReferenceLnSiluIdeal.Gen.facts) :=
  fun m g m' g' _ hargs => ⟨fun c => KernelLnSiluIdeal.whole m c,
    (θ_run _ _ _).mono (fun _ h c => ⟨(h c).1.trans (KernelLnSiluIdeal.end_eq m c), (h c).2⟩) (KernelLnSiluIdeal.Value.run_blocks m g),
    (θ_run _ _ _).mono (fun _ h c => ⟨(h c).1.trans (KernelLnSiluIdeal.ref_eq m c _ _ _ (hargs c).1 (hargs c).2.1 (hargs c).2.2), (h c).2⟩)
      (ReferenceLnSiluIdeal.Value.run m' g')⟩

/-- The reference leaves its arguments and all semaphores as they were. -/
theorem frame_ReferenceLnSiluIdeal : quiescent_ReferenceLnSiluIdeal (hReferenceLnSiluIdeal := ReferenceLnSiluIdeal.Gen.facts) :=
  fun m g _ => (θ_run _ _ _).mono (fun _ h => ⟨fun c => (h c).2, sem_eq_zero_of_no_sems (by decide) _⟩) (ReferenceLnSiluIdeal.Value.run m g)

end Cert

end
-- ==== Proof.Gmlp.lean ====
/- The chunk mixing between its two products: each point of the grid takes a chunk of positions, normalises one half of its
   activations, mixes the positions of every group of columns by the group's matrix, and gates them by the other half. The call
   leaves a chunk's groups one by one; the chunks are the reference's result. -/
module

public import proofs.«01_k».proof.Defs
public import proofs.«01_k».proof.Proof.Blocks
public import proofs.«01_k».proof.Proof.Gen.KernelGmlp.Frame
public import proofs.«01_k».proof.Proof.Gen.KernelGmlpIdeal.Value
public import proofs.«01_k».proof.Proof.Gen.ReferenceGmlpIdeal.Read
public import Idealize.ShloMosaic.Adequacy
public import Idealize.ShloMosaic.Init

@[expose] public section

set_option maxRecDepth 16384

noncomputable section

namespace Cert.KernelGmlpIdeal

open Idealize.ShloMosaic Idealize.ShloMosaic.TcCoe Idealize.SL.Sem Cert.Blocks Cert.KernelGmlpIdeal.Gen
  Cert.ReferenceGmlpIdeal.Read

/-- The block a point of the grid works on. -/
def bI (t : Fin grid0.N) : Fin 16 := grid0.coords t 0

/-- An index of the array, from its block's number and the index there. -/
def atI (n : Fin 16) (x : Fin 128) : Fin 2048 := ⟨n.val * 128 + x.val, by omega⟩

theorem index : ∀ t : Fin grid0.N,
    (∀ a, win0_0.index t a = (![(bI t).val, 0] : Fin 2 → Nat) a) ∧
    (∀ a, win0_1.index t a = (![0, 0] : Fin 2 → Nat) a) ∧
    (∀ a, win0_2.index t a = (![0, 0] : Fin 2 → Nat) a) ∧
    (∀ a, win0_3.index t a = (![0, 0] : Fin 2 → Nat) a) ∧
    (∀ a, win0_4.index t a = (![0, 0, 0] : Fin 3 → Nat) a) ∧
    (∀ a, win0_5.index t a = (![0, 0, 0] : Fin 3 → Nat) a) ∧
    (∀ a, win0_6.index t a = (![(bI t).val, 0] : Fin 2 → Nat) a) := by decide +kernel

theorem place0 (t : Fin cfg0.N) (x : Fin 128) (y : Fin 4096) :
    (win0_0.rect t).emb (ix2 x y : S128x4096.Idx) = (ix2 (atI (bI t) x) y : S2048x4096.Idx) := by
  refine funext fun a => Fin.ext ((win0_0.rect_emb_val t _ a).trans ?_)
  rw [(index t).1 a]
  match a with
  | ⟨0, _⟩ => rfl
  | ⟨1, _⟩ => exact (congrArg (· + y.val) (Nat.zero_mul 4096)).trans (Nat.zero_add _)
theorem place1 (t : Fin cfg0.N) (x : Fin 1) (y : Fin 4096) :
    (win0_1.rect t).emb (ix2 x y : S1x4096.Idx) = (ix2 x y : S1x4096.Idx) := by
  refine funext fun a => Fin.ext ((win0_1.rect_emb_val t _ a).trans ?_)
  rw [(index t).2.1 a]
  match a with
  | ⟨0, _⟩ => exact (congrArg (· + x.val) (Nat.zero_mul 1)).trans (Nat.zero_add _)
  | ⟨1, _⟩ => exact (congrArg (· + y.val) (Nat.zero_mul 4096)).trans (Nat.zero_add _)
theorem place2 (t : Fin cfg0.N) (x : Fin 1) (y : Fin 2048) :
    (win0_2.rect t).emb (ix2 x y : S1x2048.Idx) = (ix2 x y : S1x2048.Idx) := by
  refine funext fun a => Fin.ext ((win0_2.rect_emb_val t _ a).trans ?_)
  rw [(index t).2.2.1 a]
  match a with
  | ⟨0, _⟩ => exact (congrArg (· + x.val) (Nat.zero_mul 1)).trans (Nat.zero_add _)
  | ⟨1, _⟩ => exact (congrArg (· + y.val) (Nat.zero_mul 2048)).trans (Nat.zero_add _)
theorem place3 (t : Fin cfg0.N) (x : Fin 1) (y : Fin 2048) :
    (win0_3.rect t).emb (ix2 x y : S1x2048.Idx) = (ix2 x y : S1x2048.Idx) := by
  refine funext fun a => Fin.ext ((win0_3.rect_emb_val t _ a).trans ?_)
  rw [(index t).2.2.2.1 a]
  match a with
  | ⟨0, _⟩ => exact (congrArg (· + x.val) (Nat.zero_mul 1)).trans (Nat.zero_add _)
  | ⟨1, _⟩ => exact (congrArg (· + y.val) (Nat.zero_mul 2048)).trans (Nat.zero_add _)
theorem place4 (t : Fin cfg0.N) (x : Fin 16) (y : Fin 128) (z : Fin 128) :
    (win0_4.rect t).emb (ix3 x y z : S16x128x128.Idx) = (ix3 x y z : S16x128x128.Idx) := by
  refine funext fun a => Fin.ext ((win0_4.rect_emb_val t _ a).trans ?_)
  rw [(index t).2.2.2.2.1 a]
  match a with
  | ⟨0, _⟩ => exact (congrArg (· + x.val) (Nat.zero_mul 16)).trans (Nat.zero_add _)
  | ⟨1, _⟩ => exact (congrArg (· + y.val) (Nat.zero_mul 128)).trans (Nat.zero_add _)
  | ⟨2, _⟩ => exact (congrArg (· + z.val) (Nat.zero_mul 128)).trans (Nat.zero_add _)
theorem place5 (t : Fin cfg0.N) (x : Fin 16) (y : Fin 128) (z : Fin 1) :
    (win0_5.rect t).emb (ix3 x y z : S16x128x1.Idx) = (ix3 x y z : S16x128x1.Idx) := by
  refine funext fun a => Fin.ext ((win0_5.rect_emb_val t _ a).trans ?_)
  rw [(index t).2.2.2.2.2.1 a]
  match a with
  | ⟨0, _⟩ => exact (congrArg (· + x.val) (Nat.zero_mul 16)).trans (Nat.zero_add _)
  | ⟨1, _⟩ => exact (congrArg (· + y.val) (Nat.zero_mul 128)).trans (Nat.zero_add _)
  | ⟨2, _⟩ => exact (congrArg (· + z.val) (Nat.zero_mul 1)).trans (Nat.zero_add _)
theorem place6 (t : Fin cfg0.N) (x : Fin 128) (y : Fin 2048) :
    (win0_6.rect t).emb (ix2 x y : S128x2048.Idx) = (ix2 (atI (bI t) x) y : S2048x2048.Idx) := by
  refine funext fun a => Fin.ext ((win0_6.rect_emb_val t _ a).trans ?_)
  rw [(index t).2.2.2.2.2.2 a]
  match a with
  | ⟨0, _⟩ => rfl
  | ⟨1, _⟩ => exact (congrArg (· + y.val) (Nat.zero_mul 2048)).trans (Nat.zero_add _)

/-- The group of a column, and a column in either half of the activations. -/
def group (q : Fin 2048) : Fin 16 := ⟨q.val / 128, by omega⟩
def lo (q : Fin 2048) : Fin 4096 := ⟨q.val, by omega⟩
def hi (q : Fin 2048) : Fin 4096 := ⟨2048 + q.val, by omega⟩

/-- The activation, as the call and as the reference write it. -/
def inner (v : EReal) : EReal := 1 + Ideal.tanh (Ideal.ofBits .f32 0x3F4C422A#32 * (v + Ideal.ofBits .f32 0x3D372713#32 * (v * v * v)))
def gelu (v : EReal) : EReal := Ideal.ofBits .f32 0x3F000000#32 * v * inner v
def gelu' (v : EReal) : EReal := v * (Ideal.ofBits .f32 0x3F000000#32 * inner v)
theorem gelu_eq : gelu' = gelu := funext fun v => by
  unfold gelu gelu'
  rw [mul_left_comm, mul_assoc]

/-- A row less its mean, and its layer norm. -/
def less (z : Fin 2048 → EReal) (q : Fin 2048) : EReal := z q - Ideal.div (∑ x, z x) (Ideal.ofBits .f32 0x45000000#32)
def norm (z : Fin 2048 → EReal) (g b : EReal) (q : Fin 2048) : EReal :=
  less z q * Ideal.rsqrt (Ideal.div (∑ x, less z x * less z x) (Ideal.ofBits .f32 0x45000000#32) + Ideal.ofBits .f32 0x358637BD#32) * g + b

/-- The mixing of a chunk's positions, gated: `f` holds the chunk's rows before the activation `G`. -/
def mix (G : EReal → EReal) (f : Fin 128 → Fin 4096 → EReal) (g b : EReal) (w : Fin 128 → EReal) (e : EReal) (p : Fin 128) (q : Fin 2048) : EReal :=
  G (f p (lo q)) * (∑ x : Fin 128, w x * norm (fun k => G (f x (hi k))) g b q + e)

/-- What the body makes of its blocks, its activations and norms kept as they are. -/
def gated (x0 : Vec Ideal S128x4096 .f32) (x1 : Vec Ideal S1x4096 .f32) (x2 x3 : Vec Ideal S1x2048 .f32) (x4 : Vec Ideal S16x128x128 .bf16) (x5 : Vec Ideal S16x128x1 .f32) (y : S128x2048.Idx) : EReal :=
  k0_pay25 (F := Ideal) x0 x1 x2 x3 x4 x5 (ix2 (y 0) (lo (y 1))) * (∑ x : Fin 128, x4 (ix3 (group (y 1)) (y 0) x) * k0_pay27 (F := Ideal) x0 x1 x2 x3 x4 x5 (ix2 x (y 1))
    + x5 (ix3 (group (y 1)) (y 0) 0))

/-- A group's column among the results and among the activations. -/
def col (i : Fin 16) (r : Fin 128) : Fin 2048 := ⟨i.val * 128 + r.val, by omega⟩
def wide (i : Fin 16) (r : Fin 128) : Fin 4096 := ⟨i.val * 128 + r.val, by omega⟩

/-- The same at a place of a group. -/
def ofGroup (u : S128x4096.Idx → EReal) (v : S128x2048.Idx → EReal) (w : S16x128x128.Idx → EReal) (b : S16x128x1.Idx → EReal) (i : Fin 16) (p r : Fin 128) : EReal :=
  u (ix2 p (wide i r)) * (∑ x : Fin 128, w (ix3 i p x) * v (ix2 x (col i r)) + b (ix3 i p 0))

theorem piece (x0 : Vec Ideal S128x4096 .f32) (x1 : Vec Ideal S1x4096 .f32) (x2 x3 : Vec Ideal S1x2048 .f32) (x4 : Vec Ideal S16x128x128 .bf16) (x5 : Vec Ideal S16x128x1 .f32) (i : Fin 16) (p r : Fin 128) (y : S128x2048.Idx) (h0 : (y 0).val = 0 + 1 * p.val)
    (h1 : (y 1).val = i.val * 128 + 1 * r.val) :
    ofGroup (k0_pay25 (F := Ideal) x0 x1 x2 x3 x4 x5) (k0_pay27 (F := Ideal) x0 x1 x2 x3 x4 x5) x4 x5 i p r = gated x0 x1 x2 x3 x4 x5 y := by
  obtain ⟨p', q, rfl⟩ := idx2 y
  obtain rfl : p' = p := Fin.ext (h0.trans (by omega))
  obtain rfl : q = col i r := Fin.ext (h1.trans (by show _ = i.val * 128 + r.val; omega))
  have e : group (col i r) = i := Fin.ext (by show (i.val * 128 + r.val) / 128 = i.val; omega)
  unfold gated
  show _ = k0_pay25 (F := Ideal) x0 x1 x2 x3 x4 x5 (ix2 p' (lo (col i r))) * (∑ x : Fin 128, x4 (ix3 (group (col i r)) p' x)
    * k0_pay27 (F := Ideal) x0 x1 x2 x3 x4 x5 (ix2 x (col i r)) + x5 (ix3 (group (col i r)) p' 0))
  rw [e]
  rfl

theorem same (i : Fin 16) (p r : Fin 128) {a : Fin 4096} {b : Fin 2048} (ha : a.val = i.val * 128 + r.val) (hb : b.val = i.val * 128 + r.val)
    (u : S128x4096.Idx → EReal) (v : S128x2048.Idx → EReal) (w : S16x128x128.Idx → EReal) (e : S16x128x1.Idx → EReal) :
    u (ix2 p a) * (∑ x : Fin 128, w (ix3 i p x) * v (ix2 x b) + e (ix3 i p 0)) = ofGroup u v w e i p r := by
  obtain rfl : a = wide i r := Fin.ext ha
  obtain rfl : b = (col i r) := Fin.ext hb
  rfl

/-- The groups, left one by one, fill the block. -/
theorem out_apply (x0 : Vec Ideal S128x4096 .f32) (x1 : Vec Ideal S1x4096 .f32) (x2 x3 : Vec Ideal S1x2048 .f32) (x4 : Vec Ideal S16x128x128 .bf16) (x5 : Vec Ideal S16x128x1 .f32) (y : S128x2048.Idx) : out0_6 (F := Ideal) x0 x1 x2 x3 x4 x5 y = gated x0 x1 x2 x3 x4 x5 y := by
  unfold out0_6
  refine View.canon_apply_of_pieces (Val := Elt Ideal) (e := .bf16) (gated x0 x1 x2 x3 x4 x5) _ ?_ y (cover0_6 _ _ _ _ _ _ _ _ _ _ _ _ _ _ _ _ y)
  intro pc hpc
  rcases List.mem_cons.mp hpc with rfl | hpc
  · intro x
    obtain ⟨p, r, rfl⟩ := idx2 (a := 128) (b := 128) x
    refine Eq.trans ?_ (piece x0 x1 x2 x3 x4 x5 15 p r _ rfl rfl)
    dsimp only
    pointwise [k0_pay1, k0_pay24]
    exact same 15 p r (by dsimp only; omega) (by dsimp only; omega) _ _ _ _
  rcases List.mem_cons.mp hpc with rfl | hpc
  · intro x
    obtain ⟨p, r, rfl⟩ := idx2 (a := 128) (b := 128) x
    refine Eq.trans ?_ (piece x0 x1 x2 x3 x4 x5 14 p r _ rfl rfl)
    dsimp only
    pointwise [k0_pay23]
    exact same 14 p r (by dsimp only; omega) (by dsimp only; omega) _ _ _ _
  rcases List.mem_cons.mp hpc with rfl | hpc
  · intro x
    obtain ⟨p, r, rfl⟩ := idx2 (a := 128) (b := 128) x
    refine Eq.trans ?_ (piece x0 x1 x2 x3 x4 x5 13 p r _ rfl rfl)
    dsimp only
    pointwise [k0_pay22]
    exact same 13 p r (by dsimp only; omega) (by dsimp only; omega) _ _ _ _
  rcases List.mem_cons.mp hpc with rfl | hpc
  · intro x
    obtain ⟨p, r, rfl⟩ := idx2 (a := 128) (b := 128) x
    refine Eq.trans ?_ (piece x0 x1 x2 x3 x4 x5 12 p r _ rfl rfl)
    dsimp only
    pointwise [k0_pay21]
    exact same 12 p r (by dsimp only; omega) (by dsimp only; omega) _ _ _ _
  rcases List.mem_cons.mp hpc with rfl | hpc
  · intro x
    obtain ⟨p, r, rfl⟩ := idx2 (a := 128) (b := 128) x
    refine Eq.trans ?_ (piece x0 x1 x2 x3 x4 x5 11 p r _ rfl rfl)
    dsimp only
    pointwise [k0_pay20]
    exact same 11 p r (by dsimp only; omega) (by dsimp only; omega) _ _ _ _
  rcases List.mem_cons.mp hpc with rfl | hpc
  · intro x
    obtain ⟨p, r, rfl⟩ := idx2 (a := 128) (b := 128) x
    refine Eq.trans ?_ (piece x0 x1 x2 x3 x4 x5 10 p r _ rfl rfl)
    dsimp only
    pointwise [k0_pay17, k0_pay18, k0_pay19]
    exact same 10 p r (by dsimp only; omega) (by dsimp only; omega) _ _ _ _
  rcases List.mem_cons.mp hpc with rfl | hpc
  · intro x
    obtain ⟨p, r, rfl⟩ := idx2 (a := 128) (b := 128) x
    refine Eq.trans ?_ (piece x0 x1 x2 x3 x4 x5 9 p r _ rfl rfl)
    dsimp only
    pointwise [k0_pay16]
    exact same 9 p r (by dsimp only; omega) (by dsimp only; omega) _ _ _ _
  rcases List.mem_cons.mp hpc with rfl | hpc
  · intro x
    obtain ⟨p, r, rfl⟩ := idx2 (a := 128) (b := 128) x
    refine Eq.trans ?_ (piece x0 x1 x2 x3 x4 x5 8 p r _ rfl rfl)
    dsimp only
    pointwise [k0_pay15]
    exact same 8 p r (by dsimp only; omega) (by dsimp only; omega) _ _ _ _
  rcases List.mem_cons.mp hpc with rfl | hpc
  · intro x
    obtain ⟨p, r, rfl⟩ := idx2 (a := 128) (b := 128) x
    refine Eq.trans ?_ (piece x0 x1 x2 x3 x4 x5 7 p r _ rfl rfl)
    dsimp only
    pointwise [k0_pay13, k0_pay14]
    exact same 7 p r (by dsimp only; omega) (by dsimp only; omega) _ _ _ _
  rcases List.mem_cons.mp hpc with rfl | hpc
  · intro x
    obtain ⟨p, r, rfl⟩ := idx2 (a := 128) (b := 128) x
    refine Eq.trans ?_ (piece x0 x1 x2 x3 x4 x5 6 p r _ rfl rfl)
    dsimp only
    pointwise [k0_pay12]
    exact same 6 p r (by dsimp only; omega) (by dsimp only; omega) _ _ _ _
  rcases List.mem_cons.mp hpc with rfl | hpc
  · intro x
    obtain ⟨p, r, rfl⟩ := idx2 (a := 128) (b := 128) x
    refine Eq.trans ?_ (piece x0 x1 x2 x3 x4 x5 5 p r _ rfl rfl)
    dsimp only
    pointwise [k0_pay11]
    exact same 5 p r (by dsimp only; omega) (by dsimp only; omega) _ _ _ _
  rcases List.mem_cons.mp hpc with rfl | hpc
  · intro x
    obtain ⟨p, r, rfl⟩ := idx2 (a := 128) (b := 128) x
    refine Eq.trans ?_ (piece x0 x1 x2 x3 x4 x5 4 p r _ rfl rfl)
    dsimp only
    pointwise [k0_pay10]
    exact same 4 p r (by dsimp only; omega) (by dsimp only; omega) _ _ _ _
  rcases List.mem_cons.mp hpc with rfl | hpc
  · intro x
    obtain ⟨p, r, rfl⟩ := idx2 (a := 128) (b := 128) x
    refine Eq.trans ?_ (piece x0 x1 x2 x3 x4 x5 3 p r _ rfl rfl)
    dsimp only
    pointwise [k0_pay9]
    exact same 3 p r (by dsimp only; omega) (by dsimp only; omega) _ _ _ _
  rcases List.mem_cons.mp hpc with rfl | hpc
  · intro x
    obtain ⟨p, r, rfl⟩ := idx2 (a := 128) (b := 128) x
    refine Eq.trans ?_ (piece x0 x1 x2 x3 x4 x5 2 p r _ rfl rfl)
    dsimp only
    pointwise [k0_pay7, k0_pay8]
    exact same 2 p r (by dsimp only; omega) (by dsimp only; omega) _ _ _ _
  rcases List.mem_cons.mp hpc with rfl | hpc
  · intro x
    obtain ⟨p, r, rfl⟩ := idx2 (a := 128) (b := 128) x
    refine Eq.trans ?_ (piece x0 x1 x2 x3 x4 x5 1 p r _ rfl rfl)
    dsimp only
    pointwise [k0_pay6]
    exact same 1 p r (by dsimp only; omega) (by dsimp only; omega) _ _ _ _
  rcases List.mem_cons.mp hpc with rfl | hpc
  · intro x
    obtain ⟨p, r, rfl⟩ := idx2 (a := 128) (b := 128) x
    refine Eq.trans ?_ (piece x0 x1 x2 x3 x4 x5 0 p r _ rfl rfl)
    dsimp only
    pointwise [k0_pay5]
    exact same 0 p r (by dsimp only; omega) (by dsimp only; omega) _ _ _ _
  nomatch hpc

/-- The activations and the norm inside the block. -/
theorem act_apply (x0 : Vec Ideal S128x4096 .f32) (x1 : Vec Ideal S1x4096 .f32) (x2 x3 : Vec Ideal S1x2048 .f32) (x4 : Vec Ideal S16x128x128 .bf16) (x5 : Vec Ideal S16x128x1 .f32) (p : Fin 128) (q : Fin 4096) : k0_pay25 (F := Ideal) x0 x1 x2 x3 x4 x5 (ix2 p q) = gelu (x0 (ix2 p q) + x1 (ix2 0 q)) := by
  pointwise [k0_pay25, k0_pay2]
  rfl
theorem norm_apply (x0 : Vec Ideal S128x4096 .f32) (x1 : Vec Ideal S1x4096 .f32) (x2 x3 : Vec Ideal S1x2048 .f32) (x4 : Vec Ideal S16x128x128 .bf16) (x5 : Vec Ideal S16x128x1 .f32) (p : Fin 128) (q : Fin 2048) :
    k0_pay27 (F := Ideal) x0 x1 x2 x3 x4 x5 (ix2 p q) = norm (fun k => gelu (x0 (ix2 p (hi k)) + x1 (ix2 0 (hi k)))) (x2 (ix2 0 q)) (x3 (ix2 0 q)) q := by
  pointwise [k0_pay27, k0_pay4, k0_pay26, k0_pay3, k0_pay2]
  rfl

variable (m : (ℓ : Loc nD τ sig) → Buf (Elt Ideal) ℓ) (c : Dev nD)

/-- The arrays the call is given, and their blocks at a point. -/
def arrP : S2048x4096.Idx → EReal := m ((c : Thread nD τ).loc main_arg0)
def arrI : S4096.Idx → EReal := m ((c : Thread nD τ).loc main_arg1)
def arrG : S2048.Idx → EReal := m ((c : Thread nD τ).loc main_arg2)
def arrB : S2048.Idx → EReal := m ((c : Thread nD τ).loc main_arg3)
def arrW : S16x128x128.Idx → EReal := m ((c : Thread nD τ).loc main_arg4)
def arrE : S16x128.Idx → EReal := m ((c : Thread nD τ).loc main_arg5)

def blk0 (t : Fin cfg0.N) : S128x4096.Idx → EReal := iblk m c 0 t
theorem blk0_apply (t : Fin cfg0.N) (x : Fin 128) (y : Fin 4096) : blk0 m c t (ix2 x y) = arrP m c (ix2 (atI (bI t) x) y) :=
  congrArg (arrP m c) (place0 t x y)
def blk1 (t : Fin cfg0.N) : S1x4096.Idx → EReal := iblk m c 1 t
theorem blk1_apply (t : Fin cfg0.N) (q : Fin 4096) : blk1 m c t (ix2 0 q) = arrI m c (ix1 q) := by
  have e : (V m c main_v0 : S1x4096.Idx → EReal) = shapeCast S1x4096 (arrI m c) shapeCasts_S4096_S1x4096 := by
    simp only [V, StableHlo.after_cons, StableHlo.after_nil, hostOps0]
    rfl
  show (V m c main_v0 : S1x4096.Idx → EReal) ((win0_1.rect t).emb (ix2 0 q : S1x4096.Idx)) = _
  rw [place1, e]
  pointwise
def blk2 (t : Fin cfg0.N) : S1x2048.Idx → EReal := iblk m c 2 t
theorem blk2_apply (t : Fin cfg0.N) (q : Fin 2048) : blk2 m c t (ix2 0 q) = arrG m c (ix1 q) := by
  have e : (V m c main_v1 : S1x2048.Idx → EReal) = shapeCast S1x2048 (arrG m c) shapeCasts_S2048_S1x2048 := by
    simp only [V, StableHlo.after_cons, StableHlo.after_nil, hostOps0]
    rfl
  show (V m c main_v1 : S1x2048.Idx → EReal) ((win0_2.rect t).emb (ix2 0 q : S1x2048.Idx)) = _
  rw [place2, e]
  pointwise
def blk3 (t : Fin cfg0.N) : S1x2048.Idx → EReal := iblk m c 3 t
theorem blk3_apply (t : Fin cfg0.N) (q : Fin 2048) : blk3 m c t (ix2 0 q) = arrB m c (ix1 q) := by
  have e : (V m c main_v2 : S1x2048.Idx → EReal) = shapeCast S1x2048 (arrB m c) shapeCasts_S2048_S1x2048 := by
    simp only [V, StableHlo.after_cons, StableHlo.after_nil, hostOps0]
    rfl
  show (V m c main_v2 : S1x2048.Idx → EReal) ((win0_3.rect t).emb (ix2 0 q : S1x2048.Idx)) = _
  rw [place3, e]
  pointwise
def blk4 (t : Fin cfg0.N) : S16x128x128.Idx → EReal := iblk m c 4 t
theorem blk4_apply (t : Fin cfg0.N) (i : Fin 16) (x y : Fin 128) : blk4 m c t (ix3 i x y) = arrW m c (ix3 i x y) := by
  have e : (V m c main_v3 : S16x128x128.Idx → EReal) = arrW m c := by
    simp only [V, StableHlo.after_cons, StableHlo.after_nil, hostOps0]
    rfl
  show (V m c main_v3 : S16x128x128.Idx → EReal) ((win0_4.rect t).emb (ix3 i x y : S16x128x128.Idx)) = _
  rw [place4, e]
def blk5 (t : Fin cfg0.N) : S16x128x1.Idx → EReal := iblk m c 5 t
theorem blk5_apply (t : Fin cfg0.N) (i : Fin 16) (x : Fin 128) : blk5 m c t (ix3 i x 0) = arrE m c (ix2 i x) := by
  have e : (V m c main_v4 : S16x128x1.Idx → EReal) = broadcastInDim S16x128x1 ![0, 1] bcast_S16x128_S16x128x1_0_1 (arrE m c) := by
    simp only [V, StableHlo.after_cons, StableHlo.after_nil, hostOps0]
    rfl
  show (V m c main_v4 : S16x128x1.Idx → EReal) ((win0_5.rect t).emb (ix3 i x 0 : S16x128x1.Idx)) = _
  rw [place5, e]
  pointwise

/-- The gated mixing at a position of a chunk, -/
def at_ (G : EReal → EReal) (n : Fin 16) (p : Fin 128) (q : Fin 2048) : EReal :=
  mix G (fun x k => arrP m c (ix2 (atI n x) k) + arrI m c (ix1 k)) (arrG m c (ix1 q)) (arrB m c (ix1 q)) (fun x => arrW m c (ix3 (group q) p x))
    (arrE m c (ix2 (group q) p)) p q
/-- and at every position. -/
def chunk (r : Fin 2048) : Fin 16 := ⟨r.val / 128, by omega⟩
def pos (r : Fin 2048) : Fin 128 := ⟨r.val % 128, by omega⟩
def whole (y : S2048x2048.Idx) : EReal := at_ m c gelu (chunk (y 0)) (pos (y 0)) (y 1)
theorem whole_at (n : Fin 16) (p : Fin 128) (q : Fin 2048) : whole m c (ix2 (atI n p) q) = at_ m c gelu n p q := by
  show at_ m c gelu (chunk (atI n p)) (pos (atI n p)) q = _
  have e1 : chunk (atI n p) = n := Fin.ext (by show (n.val * 128 + p.val) / 128 = n.val; omega)
  have e2 : pos (atI n p) = p := Fin.ext (by show (n.val * 128 + p.val) % 128 = p.val; omega)
  rw [e1, e2]

/-- Every place of the result is in some point's block. -/
theorem onto : ∀ i : Fin 16, ∃ t, win0_6.flush t = true ∧ bI t = i := by decide +kernel

theorem row_at (r : Fin 2048) : ∃ i p, r = atI i p :=
  ⟨⟨r.val / 128, by omega⟩, ⟨r.val % 128, by omega⟩, Fin.ext (show r.val = r.val / 128 * 128 + r.val % 128 by omega)⟩

theorem cover (y : S2048x2048.Idx) : ∃ t, (cfg0.win 6).flush t = true ∧ y ∈ ((cfg0.win 6).blk t).view.set := by
  obtain ⟨r, s, rfl⟩ := idx2 y
  obtain ⟨i, p, rfl⟩ := row_at r
  obtain ⟨t, h, rfl⟩ := onto i
  exact ⟨t, h, (place6 t p s) ▸ View.emb_mem_set _ _⟩

theorem left (t : Fin cfg0.N) (y : S128x2048.Idx) : (dats m 0 c).after 6 t y = whole m c ((win0_6.rect t).emb y) := by
  obtain ⟨p, q, rfl⟩ := idx2 y
  rw [place6, after0_6, whole_at]
  refine (out_apply _ _ _ _ _ _ _).trans ?_
  unfold gated
  show k0_pay25 (F := Ideal) _ _ _ _ _ _ (ix2 p (lo q)) * (∑ x : Fin 128, blk4 m c t (ix3 (group q) p x) * k0_pay27 (F := Ideal) _ _ _ _ _ _ (ix2 x q)
    + blk5 m c t (ix3 (group q) p 0)) = _
  simp only [act_apply, norm_apply]
  show gelu (blk0 m c t (ix2 p (lo q)) + blk1 m c t (ix2 0 (lo q))) * (∑ x : Fin 128, blk4 m c t (ix3 (group q) p x)
    * norm (fun k => gelu (blk0 m c t (ix2 x (hi k)) + blk1 m c t (ix2 0 (hi k)))) (blk2 m c t (ix2 0 q)) (blk3 m c t (ix2 0 q)) q
    + blk5 m c t (ix3 (group q) p 0)) = _
  simp only [blk0_apply, blk1_apply, blk2_apply, blk3_apply, blk4_apply, blk5_apply]
  rfl

/-- The array the call leaves. -/
theorem end_eq : (dats m 0 c).arrAt 6 cfg0.N = whole m c :=
  (dats m 0 c).arrAt_eq_of_cover 6 (whole m c) (fun t _ => funext fun y => left m c t y) cover

/-- The reference's result is the same. -/
theorem ref_eq (A : ReferenceGmlpIdeal.S2048x4096.Idx → EReal) (I : ReferenceGmlpIdeal.S4096.Idx → EReal)
    (G B : ReferenceGmlpIdeal.S2048.Idx → EReal) (W : ReferenceGmlpIdeal.S16x128x128.Idx → EReal) (E : ReferenceGmlpIdeal.S16x128.Idx → EReal)
    (hA : A = arrP m c) (hI : I = arrI m c) (hG : G = arrG m c) (hB : B = arrB m c) (hW : W = arrW m c) (hE : E = arrE m c) :
    val_main_v51 (F := Ideal) A I G B W E = whole m c := by
  subst hA hI hG hB hW hE
  funext y
  obtain ⟨r, q, rfl⟩ := idx2 y
  obtain ⟨n, p, rfl⟩ := row_at r
  rw [whole_at, ← gelu_eq]
  unfold atI
  pointwise [val_main_v0, val_main_v1, val_main_v2, val_main_v3, val_main_v4, val_main_cst, val_main_v5, val_main_v6, val_main_v7, val_main_cst_0, val_main_v8, val_main_v9, val_main_v10, val_main_cst_1, val_main_v11, val_main_v12, val_main_cst_2, val_main_v13, val_main_v14, val_main_v15, val_main_v16, val_main_v17, val_main_cst_3, val_main_v18, val_main_v19, val_main_cst_4, val_main_v20, val_main_v21, val_main_v22, val_main_v23, val_main_v24, val_main_cst_5, val_main_v25, val_main_v26, val_main_cst_6, val_main_v27, val_main_v28, val_main_v29, val_main_v30, val_main_cst_7, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51]
  unfold at_ mix
  refine congrArg₂ (· * ·) rfl (congrArg₂ (· + ·) ?_ rfl)
  refine Finset.sum_congr rfl fun x _ => ?_
  rw [mul_comm]
  rfl

end Cert.KernelGmlpIdeal

namespace Cert

open Idealize.ShloMosaic Idealize.SL.Sem

/-- Over the reals the call's result is the reference's. -/
theorem algebraic_Gmlp : algebraic_KernelGmlpIdeal_ReferenceGmlpIdeal (hKernelGmlpIdeal := KernelGmlpIdeal.Gen.facts)
    (hReferenceGmlpIdeal := ReferenceGmlpIdeal.Gen.facts) :=
  fun m g m' g' _ hargs => ⟨fun c => KernelGmlpIdeal.whole m c,
    (θ_run _ _ _).mono (fun _ h c => ⟨(h c).1.trans (KernelGmlpIdeal.end_eq m c), (h c).2⟩) (KernelGmlpIdeal.Value.run_blocks m g),
    (θ_run _ _ _).mono (fun _ h c => ⟨((h c).1.trans (Cert.ReferenceGmlpIdeal.Read.val_main_v51_eq m' c)).trans
        (KernelGmlpIdeal.ref_eq m c _ _ _ _ _ _ (hargs c).1 (hargs c).2.1 (hargs c).2.2.1 (hargs c).2.2.2.1 (hargs c).2.2.2.2.1 (hargs c).2.2.2.2.2), (h c).2⟩)
      (ReferenceGmlpIdeal.Value.run m' g')⟩

/-- The reference leaves its arguments and all semaphores as they were. -/
theorem frame_ReferenceGmlpIdeal : quiescent_ReferenceGmlpIdeal (hReferenceGmlpIdeal := ReferenceGmlpIdeal.Gen.facts) :=
  fun m g _ => (θ_run _ _ _).mono (fun _ h => ⟨fun c => (h c).2, sem_eq_zero_of_no_sems (by decide) _⟩) (ReferenceGmlpIdeal.Value.run m g)

end Cert

end
-- ==== Proof.Rope.lean ====
/- The rotation of queries and keys by their positions: each point of the grid turns a block of rows and copies the values,
   and the blocks are the reference's results. The call turns a row by shifting it sixteen places either way, the reference by
   splitting every head; a place's partner is the same. -/
module

public import proofs.«01_k».proof.Defs
public import proofs.«01_k».proof.Proof.Blocks
public import proofs.«01_k».proof.Proof.Gen.KernelRope.Frame
public import proofs.«01_k».proof.Proof.Gen.KernelRopeIdeal.Value
public import proofs.«01_k».proof.Proof.Gen.ReferenceRopeIdeal.Read
public import Idealize.ShloMosaic.Adequacy
public import Idealize.ShloMosaic.Init

@[expose] public section

set_option maxRecDepth 16384

noncomputable section

namespace Cert.KernelRopeIdeal

open Idealize.ShloMosaic Idealize.ShloMosaic.TcCoe Idealize.SL.Sem Cert.Blocks Cert.KernelRopeIdeal.Gen
  Cert.ReferenceRopeIdeal.Read

/-- The block a point of the grid works on. -/
def bI (t : Fin grid0.N) : Fin 8 := grid0.coords t 0

/-- An index of the array, from its block's number and the index there. -/
def atI (n : Fin 8) (x : Fin 256) : Fin 2048 := ⟨n.val * 256 + x.val, by omega⟩

def up (p : Fin 2048) : Fin 2304 := ⟨p.val, by omega⟩

theorem index : ∀ t : Fin grid0.N,
    (∀ a, win0_0.index t a = (![(bI t).val, 0] : Fin 2 → Nat) a) ∧
    (∀ a, win0_1.index t a = (![(bI t).val, 0] : Fin 2 → Nat) a) ∧
    (∀ a, win0_2.index t a = (![(bI t).val, 0] : Fin 2 → Nat) a) ∧
    (∀ a, win0_3.index t a = (![(bI t).val, 0] : Fin 2 → Nat) a) ∧
    (∀ a, win0_4.index t a = (![(bI t).val, 0] : Fin 2 → Nat) a) := by decide +kernel

theorem place0 (t : Fin cfg0.N) (x : Fin 256) (y : Fin 1536) :
    (win0_0.rect t).emb (ix2 x y : S256x1536.Idx) = (ix2 (up (atI (bI t) x)) y : S2304x1536.Idx) := by
  refine funext fun a => Fin.ext ((win0_0.rect_emb_val t _ a).trans ?_)
  rw [(index t).1 a]
  match a with
  | ⟨0, _⟩ => rfl
  | ⟨1, _⟩ => exact (congrArg (· + y.val) (Nat.zero_mul 1536)).trans (Nat.zero_add _)
theorem place1 (t : Fin cfg0.N) (x : Fin 256) (y : Fin 128) :
    (win0_1.rect t).emb (ix2 x y : S256x128.Idx) = (ix2 (atI (bI t) x) y : S2048x128.Idx) := by
  refine funext fun a => Fin.ext ((win0_1.rect_emb_val t _ a).trans ?_)
  rw [(index t).2.1 a]
  match a with
  | ⟨0, _⟩ => rfl
  | ⟨1, _⟩ => exact (congrArg (· + y.val) (Nat.zero_mul 128)).trans (Nat.zero_add _)
theorem place2 (t : Fin cfg0.N) (x : Fin 256) (y : Fin 128) :
    (win0_2.rect t).emb (ix2 x y : S256x128.Idx) = (ix2 (atI (bI t) x) y : S2048x128.Idx) := by
  refine funext fun a => Fin.ext ((win0_2.rect_emb_val t _ a).trans ?_)
  rw [(index t).2.2.1 a]
  match a with
  | ⟨0, _⟩ => rfl
  | ⟨1, _⟩ => exact (congrArg (· + y.val) (Nat.zero_mul 128)).trans (Nat.zero_add _)
theorem place3 (t : Fin cfg0.N) (x : Fin 256) (y : Fin 1280) :
    (win0_3.rect t).emb (ix2 x y : S256x1280.Idx) = (ix2 (atI (bI t) x) y : S2048x1280.Idx) := by
  refine funext fun a => Fin.ext ((win0_3.rect_emb_val t _ a).trans ?_)
  rw [(index t).2.2.2.1 a]
  match a with
  | ⟨0, _⟩ => rfl
  | ⟨1, _⟩ => exact (congrArg (· + y.val) (Nat.zero_mul 1280)).trans (Nat.zero_add _)
theorem place4 (t : Fin cfg0.N) (x : Fin 256) (y : Fin 256) :
    (win0_4.rect t).emb (ix2 x y : S256x256.Idx) = (ix2 (atI (bI t) x) y : S2048x256.Idx) := by
  refine funext fun a => Fin.ext ((win0_4.rect_emb_val t _ a).trans ?_)
  rw [(index t).2.2.2.2 a]
  match a with
  | ⟨0, _⟩ => rfl
  | ⟨1, _⟩ => exact (congrArg (· + y.val) (Nat.zero_mul 256)).trans (Nat.zero_add _)

/-- A place of a head. -/
def lane (q : ℕ) : Fin 64 := ⟨q % 64, Nat.mod_lt _ (by decide)⟩
/-- A place among queries and keys, as a place among all columns. -/
def col (q : ℕ) : Fin 1536 := ⟨q % 1280, by omega⟩
/-- A quarter turn: the first sixteen of thirty-two places take the second ones negated, and these the first. -/
def rot (f : Fin 1536 → EReal) (q : ℕ) : EReal := if q % 32 < 16 then -f (col (q + 16)) else f (col (q - 16))
theorem rot_pos (f : Fin 1536 → EReal) (q : ℕ) (h : q % 32 < 16) : rot f q = -f (col (q + 16)) := if_pos h
theorem rot_neg (f : Fin 1536 → EReal) (q : ℕ) (h : ¬q % 32 < 16) : rot f q = f (col (q - 16)) := if_neg h
/-- A row turned by a position's angles. -/
def turn (f : Fin 1536 → EReal) (cos sin : Fin 64 → EReal) (q : ℕ) : EReal :=
  f (col q) * cos (lane q) + rot f q * sin (lane q)

/-- The mask of the call tells the first sixteen of thirty-two places. -/
theorem mask : ∀ q : Fin 1280, IntOp.cmpi CmpIPredicate.slt
      (Scalar.select
        (IntOp.andi
          (IntOp.xori
            (IntOp.cmpi CmpIPredicate.slt
              (IntOp.remsi ArithUnit.vector (BitVec.ofNat 32 q.val) (Scalar.select (Scalar.cmpi CmpIPredicate.eq 32#32 0#32) 1#32 32#32)) 0#32)
            (Scalar.cmpi CmpIPredicate.slt (Scalar.select (Scalar.cmpi CmpIPredicate.eq 32#32 0#32) 1#32 32#32) 0#32))
          (IntOp.cmpi CmpIPredicate.ne
            (IntOp.remsi ArithUnit.vector (BitVec.ofNat 32 q.val) (Scalar.select (Scalar.cmpi CmpIPredicate.eq 32#32 0#32) 1#32 32#32)) 0#32))
        (IntOp.addi
          (IntOp.remsi ArithUnit.vector (BitVec.ofNat 32 q.val) (Scalar.select (Scalar.cmpi CmpIPredicate.eq 32#32 0#32) 1#32 32#32))
          (Scalar.select (Scalar.cmpi CmpIPredicate.eq 32#32 0#32) 1#32 32#32))
        (IntOp.remsi ArithUnit.vector (BitVec.ofNat 32 q.val) (Scalar.select (Scalar.cmpi CmpIPredicate.eq 32#32 0#32) 1#32 32#32)))
      16#32
    = if q.val % 32 < 16 then 1#1 else 0#1 := by decide +kernel

/-- A case split whose two sides are the same value. -/
theorem either {p : Prop} [Decidable p] {a : p → EReal} {r : ¬p → EReal} {v : EReal} (ha : ∀ h, a h = v) (hr : ∀ h, r h = v) :
    dite p a r = v := by
  by_cases h : p
  · rw [dif_pos h, ha]
  · rw [dif_neg h, hr]

/-- What the body makes of its blocks. -/
theorem body_apply (x0 : Vec Ideal S256x1536 .f32) (x1 x2 : Vec Ideal S256x128 .f32) (p : Fin 256) (q : Fin 1280) :
    out0_3 (F := Ideal) x0 x1 x2 (ix2 p q) = x0 (ix2 p (col q.val)) * x1 (ix2 p ⟨q.val % 128, by omega⟩)
      + rot (fun k => x0 (ix2 p k)) q.val * x2 (ix2 p ⟨q.val % 128, by omega⟩) := by
  unfold out0_3
  frame_out
  pointwise [k0_pay1]
  refine congrArg₂ (· + ·) (congrArg₂ (· * ·) ?_ ?_) (congrArg₂ (· * ·) ?_ ?_)
  · exact congrArg (fun k => x0 (ix2 p k)) (Fin.ext (by simp only [col]; omega))
  · repeat' with_reducible refine either (fun _ => ?_) (fun _ => ?_)
    all_goals exact congrArg (fun k => x1 (ix2 p k)) (Fin.ext (by dsimp only; omega))
  · refine (congrArg (fun b => Scalar.select b _ _) (mask q)).trans ?_
    by_cases h : q.val % 32 < 16
    · rw [if_pos h, rot, if_pos h]
      refine Eq.trans (show _ = (0 : EReal) - x0 (ix2 p _) from rfl) ?_
      rw [zero_sub]
      exact congrArg (fun k => -x0 (ix2 p k)) (Fin.ext (by simp only [col]; omega))
    · rw [if_neg h, rot, if_neg h]
      refine Eq.trans (show _ = x0 (ix2 p _) from rfl) ?_
      exact congrArg (fun k => x0 (ix2 p k)) (Fin.ext (by simp only [col]; omega))
  · repeat' with_reducible refine either (fun _ => ?_) (fun _ => ?_)
    all_goals exact congrArg (fun k => x2 (ix2 p k)) (Fin.ext (by dsimp only; omega))

theorem copy_apply (x0 : Vec Ideal S256x1536 .f32) (x1 x2 : Vec Ideal S256x128 .f32) (p : Fin 256) (q : Fin 256) :
    out0_4 (F := Ideal) x0 x1 x2 (ix2 p q) = x0 (ix2 p ⟨1280 + q.val, by omega⟩) := by
  unfold out0_4
  frame_out
  pointwise [k0_pay2]

variable (m : (ℓ : Loc nD τ sig) → Buf (Elt Ideal) ℓ) (c : Dev nD)

/-- The arrays the call is given, and their blocks at a point. -/
def arrX : S2304x1536.Idx → EReal := m ((c : Thread nD τ).loc main_arg0)
def arrC : S2048x64.Idx → EReal := m ((c : Thread nD τ).loc main_arg1)
def arrS : S2048x64.Idx → EReal := m ((c : Thread nD τ).loc main_arg2)

def blk0 (t : Fin cfg0.N) : S256x1536.Idx → EReal := iblk m c 0 t
theorem blk0_apply (t : Fin cfg0.N) (x : Fin 256) (y : Fin 1536) : blk0 m c t (ix2 x y) = arrX m c (ix2 (up (atI (bI t) x)) y) :=
  congrArg (arrX m c) (place0 t x y)
def blk1 (t : Fin cfg0.N) : S256x128.Idx → EReal := iblk m c 1 t
theorem blk1_apply (t : Fin cfg0.N) (p : Fin 256) (q : Fin 128) : blk1 m c t (ix2 p q) = arrC m c (ix2 (atI (bI t) p) (lane q.val)) := by
  have e : (V m c main_v2 : S2048x128.Idx → EReal) = shapeCast S2048x128 (broadcastInDim S1x2048x2x64 ![0, 1, 2, 3] bcast_S1x2048x1x64_S1x2048x2x64_0_1_2_3
      (shapeCast S1x2048x1x64 (arrC m c) shapeCasts_S2048x64_S1x2048x1x64)) shapeCasts_S1x2048x2x64_S2048x128 := by
    simp only [V, StableHlo.after_cons, StableHlo.after_nil, hostOps0]
    rfl
  show (V m c main_v2 : S2048x128.Idx → EReal) ((win0_1.rect t).emb (ix2 p q : S256x128.Idx)) = _
  rw [place1, e]
  pointwise
  exact congrArg _ (congrArg₂ _ (Fin.ext rfl) (Fin.ext (by first | rfl | (simp only [lane]; omega))))
def blk2 (t : Fin cfg0.N) : S256x128.Idx → EReal := iblk m c 2 t
theorem blk2_apply (t : Fin cfg0.N) (p : Fin 256) (q : Fin 128) : blk2 m c t (ix2 p q) = arrS m c (ix2 (atI (bI t) p) (lane q.val)) := by
  have e : (V m c main_v5 : S2048x128.Idx → EReal) = shapeCast S2048x128 (broadcastInDim S1x2048x2x64 ![0, 1, 2, 3] bcast_S1x2048x1x64_S1x2048x2x64_0_1_2_3
      (shapeCast S1x2048x1x64 (arrS m c) shapeCasts_S2048x64_S1x2048x1x64)) shapeCasts_S1x2048x2x64_S2048x128 := by
    simp only [V, StableHlo.after_cons, StableHlo.after_nil, hostOps0]
    rfl
  show (V m c main_v5 : S2048x128.Idx → EReal) ((win0_2.rect t).emb (ix2 p q : S256x128.Idx)) = _
  rw [place2, e]
  pointwise
  exact congrArg _ (congrArg₂ _ (Fin.ext rfl) (Fin.ext (by first | rfl | (simp only [lane]; omega))))

/-- The rows turned, and the values. -/
def whole (y : S2048x1280.Idx) : EReal :=
  turn (fun k => arrX m c (ix2 (up (y 0)) k)) (fun k => arrC m c (ix2 (y 0) k)) (fun k => arrS m c (ix2 (y 0) k)) (y 1).val
def values (y : S2048x256.Idx) : EReal := arrX m c (ix2 (up (y 0)) ⟨1280 + (y 1).val, Nat.add_lt_add_left (y 1).isLt 1280⟩)

theorem lane_mod (q : ℕ) : lane (q % 128) = lane q := Fin.ext (by simp only [lane]; omega)

theorem onto3 : ∀ i : Fin 8, ∃ t, win0_3.flush t = true ∧ bI t = i := by decide +kernel

/-- Every place of the result is in some point's block. -/
theorem cover3 (y : S2048x1280.Idx) : ∃ t, (cfg0.win 3).flush t = true ∧ y ∈ ((cfg0.win 3).blk t).view.set := by
  obtain ⟨r, s, rfl⟩ := idx2 y
  obtain ⟨i, p, rfl⟩ : ∃ i p, r = atI i p :=
    ⟨⟨r.val / 256, by omega⟩, ⟨r.val % 256, by omega⟩, Fin.ext (show r.val = r.val / 256 * 256 + r.val % 256 by omega)⟩
  obtain ⟨t, h, rfl⟩ := onto3 i
  exact ⟨t, h, (place3 t p s) ▸ View.emb_mem_set _ _⟩

theorem onto4 : ∀ i : Fin 8, ∃ t, win0_4.flush t = true ∧ bI t = i := by decide +kernel

/-- Every place of the result is in some point's block. -/
theorem cover4 (y : S2048x256.Idx) : ∃ t, (cfg0.win 4).flush t = true ∧ y ∈ ((cfg0.win 4).blk t).view.set := by
  obtain ⟨r, s, rfl⟩ := idx2 y
  obtain ⟨i, p, rfl⟩ : ∃ i p, r = atI i p :=
    ⟨⟨r.val / 256, by omega⟩, ⟨r.val % 256, by omega⟩, Fin.ext (show r.val = r.val / 256 * 256 + r.val % 256 by omega)⟩
  obtain ⟨t, h, rfl⟩ := onto4 i
  exact ⟨t, h, (place4 t p s) ▸ View.emb_mem_set _ _⟩

theorem left3 (t : Fin cfg0.N) (y : S256x1280.Idx) : (dats m 0 c).after 3 t y = whole m c ((win0_3.rect t).emb y) := by
  obtain ⟨p, q, rfl⟩ := idx2 y
  rw [place3, after0_3]
  refine (body_apply _ _ _ p q).trans ?_
  show blk0 m c t (ix2 p (col q.val)) * blk1 m c t (ix2 p ⟨q.val % 128, by omega⟩)
      + rot (fun k => blk0 m c t (ix2 p k)) q.val * blk2 m c t (ix2 p ⟨q.val % 128, by omega⟩) = _
  simp only [blk0_apply, blk1_apply, blk2_apply, lane_mod]
  rfl

theorem left4 (t : Fin cfg0.N) (y : S256x256.Idx) : (dats m 0 c).after 4 t y = values m c ((win0_4.rect t).emb y) := by
  obtain ⟨p, q, rfl⟩ := idx2 y
  rw [place4, after0_4]
  refine (copy_apply _ _ _ p q).trans ?_
  show blk0 m c t (ix2 p ⟨1280 + q.val, by omega⟩) = _
  rw [blk0_apply]
  rfl

/-- The arrays the call leaves. -/
theorem end3 : (dats m 0 c).arrAt 3 cfg0.N = whole m c :=
  (dats m 0 c).arrAt_eq_of_cover 3 (whole m c) (fun t _ => funext fun y => left3 m c t y) cover3
theorem end4 : (dats m 0 c).arrAt 4 cfg0.N = values m c :=
  (dats m 0 c).arrAt_eq_of_cover 4 (values m c) (fun t _ => funext fun y => left4 m c t y) cover4

/-- The reference's results are the same. -/
theorem ref_eq (A : ReferenceRopeIdeal.S2304x1536.Idx → EReal) (C S : ReferenceRopeIdeal.S2048x64.Idx → EReal) (hA : A = arrX m c)
    (hC : C = arrC m c) (hS : S = arrS m c) : val_main_v45 (F := Ideal) A C S = whole m c := by
  subst hA hC hS
  funext y
  obtain ⟨p, q, rfl⟩ := idx2 y
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46]
  show _ = turn (fun k => arrX m c (ix2 (up p) k)) (fun k => arrC m c (ix2 p k)) (fun k => arrS m c (ix2 p k)) q.val
  have hX : ∀ {a b : ℕ} (h1 : a < 2304) (h2 : b < 1536) (k : Fin 1536), a = p.val → b = k.val →
      arrX m c (ix2 ⟨a, h1⟩ ⟨b, h2⟩) = arrX m c (ix2 (up p) k) := fun h1 h2 k e1 e2 =>
    congrArg (arrX m c) (congrArg₂ _ (Fin.ext e1) (Fin.ext e2))
  have hL : ∀ {a : ℕ} (h : a < 64) (f : Fin 64 → EReal), a = q.val % 64 → f ⟨a, h⟩ = f (lane q.val) := fun h f e => congrArg f (Fin.ext e)
  unfold turn
  by_cases hq : q.val < 1024
  · rw [dif_pos hq]
    refine congrArg₂ (· + ·) (congrArg₂ (· * ·) (hX _ _ _ rfl (by simp only [col]; omega)) (hL _ (fun k => arrC m c (ix2 p k)) (by omega)))
      (congrArg₂ (· * ·) ?_ (hL _ (fun k => arrS m c (ix2 p k)) (by omega)))
    by_cases h : q.val % 32 < 16
    · refine Eq.trans ?_ (rot_pos _ _ h).symm
      repeat' with_reducible refine either (fun _ => ?_) (fun _ => ?_)
      all_goals first
        | omega
        | (refine congrArg Neg.neg ?_; exact hX _ _ _ rfl (by simp only [col]; omega))
    · refine Eq.trans ?_ (rot_neg _ _ h).symm
      repeat' with_reducible refine either (fun _ => ?_) (fun _ => ?_)
      all_goals first
        | omega
        | exact hX _ _ _ rfl (by simp only [col]; omega)
  · rw [dif_neg hq]
    refine congrArg₂ (· + ·) (congrArg₂ (· * ·) (hX _ _ _ rfl (by simp only [col]; omega)) (hL _ (fun k => arrC m c (ix2 p k)) (by omega)))
      (congrArg₂ (· * ·) ?_ (hL _ (fun k => arrS m c (ix2 p k)) (by omega)))
    by_cases h : q.val % 32 < 16
    · refine Eq.trans ?_ (rot_pos _ _ h).symm
      repeat' with_reducible refine either (fun _ => ?_) (fun _ => ?_)
      all_goals first
        | omega
        | (refine congrArg Neg.neg ?_; exact hX _ _ _ rfl (by simp only [col]; omega))
    · refine Eq.trans ?_ (rot_neg _ _ h).symm
      repeat' with_reducible refine either (fun _ => ?_) (fun _ => ?_)
      all_goals first
        | omega
        | exact hX _ _ _ rfl (by simp only [col]; omega)

theorem ref_values (A : ReferenceRopeIdeal.S2304x1536.Idx → EReal) (hA : A = arrX m c) : val_main_v46 (F := Ideal) A = values m c := by
  subst hA
  funext y
  obtain ⟨p, q, rfl⟩ := idx2 y
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46]
  rfl

end Cert.KernelRopeIdeal

namespace Cert

open Idealize.ShloMosaic Idealize.SL.Sem

/-- Over the reals the call's results are the reference's. -/
theorem algebraic_Rope : algebraic_KernelRopeIdeal_ReferenceRopeIdeal (hKernelRopeIdeal := KernelRopeIdeal.Gen.facts)
    (hReferenceRopeIdeal := ReferenceRopeIdeal.Gen.facts) :=
  fun m g m' g' _ hargs => ⟨fun c => KernelRopeIdeal.whole m c, fun c => KernelRopeIdeal.values m c,
    (θ_run _ _ _).mono (fun _ h c => ⟨(h c).1.trans (KernelRopeIdeal.end3 m c), (h c).2.1.trans (KernelRopeIdeal.end4 m c), (h c).2.2⟩)
      (KernelRopeIdeal.Value.run_blocks m g),
    (θ_run _ _ _).mono (fun _ h c => ⟨((h c).1.trans (Cert.ReferenceRopeIdeal.Read.val_main_v45_eq m' c)).trans
        (KernelRopeIdeal.ref_eq m c _ _ _ (hargs c).1 (hargs c).2.1 (hargs c).2.2),
      (h c).2.1.trans (KernelRopeIdeal.ref_values m c _ (hargs c).1), (h c).2.2⟩)
      (ReferenceRopeIdeal.Value.run m' g')⟩

/-- The reference leaves its arguments and all semaphores as they were. -/
theorem frame_ReferenceRopeIdeal : quiescent_ReferenceRopeIdeal (hReferenceRopeIdeal := ReferenceRopeIdeal.Gen.facts) :=
  fun m g _ => (θ_run _ _ _).mono (fun _ h => ⟨fun c => (h c).2.2, sem_eq_zero_of_no_sems (by decide) _⟩) (ReferenceRopeIdeal.Value.run m g)

end Cert

end
-- ==== Proof.Ada.lean ====
/- The conditioning's projection to every layer's scales and shifts: each point of the grid computes a layer's block of
   columns, and the blocks are the reference's result. -/
module

public import proofs.«01_k».proof.Defs
public import proofs.«01_k».proof.Proof.Blocks
public import proofs.«01_k».proof.Proof.Gen.KernelAda.Frame
public import proofs.«01_k».proof.Proof.Gen.KernelAdaIdeal.Value
public import proofs.«01_k».proof.Proof.Gen.ReferenceAdaIdeal.Read
public import Idealize.ShloMosaic.Adequacy
public import Idealize.ShloMosaic.Init

@[expose] public section

set_option maxRecDepth 16384

noncomputable section

namespace Cert.KernelAdaIdeal

open Idealize.ShloMosaic Idealize.ShloMosaic.TcCoe Idealize.SL.Sem Cert.Blocks Cert.KernelAdaIdeal.Gen
  Cert.ReferenceAdaIdeal.Read

/-- The block a point of the grid works on. -/
def bL (t : Fin grid0.N) : Fin 4 := grid0.coords t 0
def bJ (t : Fin grid0.N) : Fin 2 := grid0.coords t 1

/-- An index of the array, from its block's number and the index there. -/
def atL (n : Fin 4) (x : Fin 1) : Fin 4 := ⟨n.val * 1 + x.val, by omega⟩
def atJ (n : Fin 2) (x : Fin 768) : Fin 1536 := ⟨n.val * 768 + x.val, by omega⟩

theorem index : ∀ t : Fin grid0.N,
    (∀ a, win0_0.index t a = (![0, 0] : Fin 2 → Nat) a) ∧
    (∀ a, win0_1.index t a = (![(bL t).val, 0, (bJ t).val] : Fin 3 → Nat) a) ∧
    (∀ a, win0_2.index t a = (![(bL t).val, 0, (bJ t).val] : Fin 3 → Nat) a) ∧
    (∀ a, win0_3.index t a = (![(bL t).val, 0, (bJ t).val] : Fin 3 → Nat) a) := by decide +kernel

theorem place0 (t : Fin cfg0.N) (x : Fin 16) (y : Fin 1024) :
    (win0_0.rect t).emb (ix2 x y : S16x1024.Idx) = (ix2 x y : S16x1024.Idx) := by
  refine funext fun a => Fin.ext ((win0_0.rect_emb_val t _ a).trans ?_)
  rw [(index t).1 a]
  match a with
  | ⟨0, _⟩ => exact (congrArg (· + x.val) (Nat.zero_mul 16)).trans (Nat.zero_add _)
  | ⟨1, _⟩ => exact (congrArg (· + y.val) (Nat.zero_mul 1024)).trans (Nat.zero_add _)
theorem place1 (t : Fin cfg0.N) (x : Fin 1) (y : Fin 1024) (z : Fin 768) :
    (win0_1.rect t).emb (ix3 x y z : S1x1024x768.Idx) = (ix3 (atL (bL t) x) y (atJ (bJ t) z) : S4x1024x1536.Idx) := by
  refine funext fun a => Fin.ext ((win0_1.rect_emb_val t _ a).trans ?_)
  rw [(index t).2.1 a]
  match a with
  | ⟨0, _⟩ => rfl
  | ⟨1, _⟩ => exact (congrArg (· + y.val) (Nat.zero_mul 1024)).trans (Nat.zero_add _)
  | ⟨2, _⟩ => rfl
theorem place2 (t : Fin cfg0.N) (x : Fin 1) (y : Fin 1) (z : Fin 768) :
    (win0_2.rect t).emb (ix3 x y z : S1x1x768.Idx) = (ix3 (atL (bL t) x) y (atJ (bJ t) z) : S4x1x1536.Idx) := by
  refine funext fun a => Fin.ext ((win0_2.rect_emb_val t _ a).trans ?_)
  rw [(index t).2.2.1 a]
  match a with
  | ⟨0, _⟩ => rfl
  | ⟨1, _⟩ => exact (congrArg (· + y.val) (Nat.zero_mul 1)).trans (Nat.zero_add _)
  | ⟨2, _⟩ => rfl
theorem place3 (t : Fin cfg0.N) (x : Fin 1) (y : Fin 16) (z : Fin 768) :
    (win0_3.rect t).emb (ix3 x y z : S1x16x768.Idx) = (ix3 (atL (bL t) x) y (atJ (bJ t) z) : S4x16x1536.Idx) := by
  refine funext fun a => Fin.ext ((win0_3.rect_emb_val t _ a).trans ?_)
  rw [(index t).2.2.2 a]
  match a with
  | ⟨0, _⟩ => rfl
  | ⟨1, _⟩ => exact (congrArg (· + y.val) (Nat.zero_mul 16)).trans (Nat.zero_add _)
  | ⟨2, _⟩ => rfl

/-- A value times its logistic. -/
def silu (v : EReal) : EReal := v * Ideal.logistic v

theorem idx3 {a b c : ℕ} (y : (⟨3, ![a, b, c]⟩ : Shape).Idx) :
    ∃ (p : Fin a) (q : Fin b) (r : Fin c), y = (ix3 p q r : (⟨3, ![a, b, c]⟩ : Shape).Idx) :=
  ⟨y 0, y 1, y 2, funext fun i => match i with
  | ⟨0, _⟩ => rfl
  | ⟨1, _⟩ => rfl
  | ⟨2, _⟩ => rfl⟩

/-- What the body makes of its blocks. -/
theorem body_apply (x0 : Vec Ideal S16x1024 .f32) (x1 : Vec Ideal S1x1024x768 .f32) (x2 : Vec Ideal S1x1x768 .f32) (p : Fin 16) (q : Fin 768) :
    out0_3 (F := Ideal) x0 x1 x2 (ix3 0 p q) = ∑ k : Fin 1024, silu (x0 (ix2 p k)) * x1 (ix3 0 k q) + x2 (ix3 0 0 q) := by
  unfold out0_3
  frame_out
  pointwise [k0_pay1]
  rfl

variable (m : (ℓ : Loc nD τ sig) → Buf (Elt Ideal) ℓ) (c : Dev nD)

/-- The arrays the call is given, and their blocks at a point. -/
def arrC : S16x1024.Idx → EReal := m ((c : Thread nD τ).loc main_arg0)
def arrW : S4x1024x1536.Idx → EReal := m ((c : Thread nD τ).loc main_arg1)
def arrB : S4x1536.Idx → EReal := m ((c : Thread nD τ).loc main_arg2)
def blk0 (t : Fin cfg0.N) : S16x1024.Idx → EReal := iblk m c 0 t
theorem blk0_apply (t : Fin cfg0.N) (x : Fin 16) (y : Fin 1024) : blk0 m c t (ix2 x y) = arrC m c (ix2 x y) :=
  congrArg (arrC m c) (place0 t x y)
def blk1 (t : Fin cfg0.N) : S1x1024x768.Idx → EReal := iblk m c 1 t
theorem blk1_apply (t : Fin cfg0.N) (x : Fin 1024) (y : Fin 768) : blk1 m c t (ix3 0 x y) = arrW m c (ix3 (atL (bL t) 0) x (atJ (bJ t) y)) := by
  show arrW m c ((win0_1.rect t).emb (ix3 0 x y : S1x1024x768.Idx)) = _
  rw [place1]
def blk2 (t : Fin cfg0.N) : S1x1x768.Idx → EReal := iblk m c 2 t
theorem blk2_apply (t : Fin cfg0.N) (q : Fin 768) : blk2 m c t (ix3 0 0 q) = arrB m c (ix2 (atL (bL t) 0) (atJ (bJ t) q)) := by
  have e : (V m c main_v0 : S4x1x1536.Idx → EReal) = broadcastInDim S4x1x1536 ![0, 2] bcast_S4x1536_S4x1x1536_0_2 (arrB m c) := by
    simp only [V, StableHlo.after_cons, StableHlo.after_nil, hostOps0]
    rfl
  show (V m c main_v0 : S4x1x1536.Idx → EReal) ((win0_2.rect t).emb (ix3 0 0 q : S1x1x768.Idx)) = _
  rw [place2, e]
  pointwise

/-- The projections of all layers. -/
def whole (y : S4x16x1536.Idx) : EReal := ∑ k : Fin 1024, silu (arrC m c (ix2 (y 1) k)) * arrW m c (ix3 (y 0) k (y 2)) + arrB m c (ix2 (y 0) (y 2))

/-- Every place of the result is in some point's block. -/
theorem onto : ∀ (l : Fin 4) (j : Fin 2), ∃ t, win0_3.flush t = true ∧ bL t = l ∧ bJ t = j := by decide +kernel

theorem cover (y : S4x16x1536.Idx) : ∃ t, (cfg0.win 3).flush t = true ∧ y ∈ ((cfg0.win 3).blk t).view.set := by
  obtain ⟨l, r, s, rfl⟩ := idx3 y
  obtain ⟨j, q, rfl⟩ : ∃ j q, s = atJ j q :=
    ⟨⟨s.val / 768, by omega⟩, ⟨s.val % 768, by omega⟩, Fin.ext (show s.val = s.val / 768 * 768 + s.val % 768 by omega)⟩
  obtain ⟨t, h, rfl, rfl⟩ := onto l j
  have e : (ix3 (bL t) r (atJ (bJ t) q) : S4x16x1536.Idx) = ix3 (atL (bL t) 0) r (atJ (bJ t) q) :=
    congrArg (fun l => (ix3 l r (atJ (bJ t) q) : S4x16x1536.Idx)) (Fin.ext (by show (bL t).val = (bL t).val * 1 + 0; omega))
  rw [e]
  exact ⟨t, h, (place3 t 0 r q) ▸ View.emb_mem_set _ _⟩

theorem left (t : Fin cfg0.N) (y : S1x16x768.Idx) : (dats m 0 c).after 3 t y = whole m c ((win0_3.rect t).emb y) := by
  obtain ⟨z, p, q, rfl⟩ := idx3 y
  obtain rfl : z = 0 := Subsingleton.elim _ _
  rw [place3, after0_3]
  refine (body_apply _ _ _ p q).trans ?_
  show ∑ k : Fin 1024, silu (blk0 m c t (ix2 p k)) * blk1 m c t (ix3 0 k q) + blk2 m c t (ix3 0 0 q) = _
  simp only [blk0_apply, blk1_apply, blk2_apply]
  rfl

/-- The array the call leaves. -/
theorem end_eq : (dats m 0 c).arrAt 3 cfg0.N = whole m c :=
  (dats m 0 c).arrAt_eq_of_cover 3 (whole m c) (fun t _ => funext fun y => left m c t y) cover

/-- The reference's result is the same. -/
theorem ref_eq (A : ReferenceAdaIdeal.S16x1024.Idx → EReal) (W : ReferenceAdaIdeal.S4x1024x1536.Idx → EReal) (B : ReferenceAdaIdeal.S4x1536.Idx → EReal) (hA : A = arrC m c) (hW : W = arrW m c)
    (hB : B = arrB m c) : val_main_v40 (F := Ideal) A W B = whole m c := by
  subst hA hW hB
  funext y
  obtain ⟨l, p, q, rfl⟩ := idx3 y
  match l with
  | 0 | 1 | 2 | 3 =>
    pointwise [val_main_call0_v0, val_main_call0_v1, val_main_call0_cst, val_main_call0_v2, val_main_call0_v3, val_main_call0_cst_0, val_main_call0_v4, val_main_call0_v5, val_main_v0, val_main_v1, val_main_v2, val_main_v3, val_main_v4, val_main_v5, val_main_v6, val_main_v7, val_main_v8, val_main_call1_v0, val_main_call1_v1, val_main_call1_cst, val_main_call1_v2, val_main_call1_v3, val_main_call1_cst_0, val_main_call1_v4, val_main_call1_v5, val_main_v9, val_main_v10, val_main_v11, val_main_v12, val_main_v13, val_main_v14, val_main_v15, val_main_v16, val_main_v17, val_main_call2_v0, val_main_call2_v1, val_main_call2_cst, val_main_call2_v2, val_main_call2_v3, val_main_call2_cst_0, val_main_call2_v4, val_main_call2_v5, val_main_v18, val_main_v19, val_main_v20, val_main_v21, val_main_v22, val_main_v23, val_main_v24, val_main_v25, val_main_v26, val_main_call3_v0, val_main_call3_v1, val_main_call3_cst, val_main_call3_v2, val_main_call3_v3, val_main_call3_cst_0, val_main_call3_v4, val_main_call3_v5, val_main_v27, val_main_v28, val_main_v29, val_main_v30, val_main_v31, val_main_v32, val_main_v33, val_main_v34, val_main_v35, val_main_v36, val_main_v37, val_main_v38, val_main_v39, val_main_v40]
    rfl

end Cert.KernelAdaIdeal

namespace Cert

open Idealize.ShloMosaic Idealize.SL.Sem

/-- Over the reals the call's result is the reference's. -/
theorem algebraic_Ada : algebraic_KernelAdaIdeal_ReferenceAdaIdeal (hKernelAdaIdeal := KernelAdaIdeal.Gen.facts)
    (hReferenceAdaIdeal := ReferenceAdaIdeal.Gen.facts) :=
  fun m g m' g' _ hargs => ⟨fun c => KernelAdaIdeal.whole m c,
    (θ_run _ _ _).mono (fun _ h c => ⟨(h c).1.trans (KernelAdaIdeal.end_eq m c), (h c).2⟩) (KernelAdaIdeal.Value.run_blocks m g),
    (θ_run _ _ _).mono (fun _ h c => ⟨(h c).1.trans (KernelAdaIdeal.ref_eq m c _ _ _ (hargs c).1 (hargs c).2.1 (hargs c).2.2), (h c).2⟩)
      (ReferenceAdaIdeal.Value.run m' g')⟩

/-- The reference leaves its arguments and all semaphores as they were. -/
theorem frame_ReferenceAdaIdeal : quiescent_ReferenceAdaIdeal (hReferenceAdaIdeal := ReferenceAdaIdeal.Gen.facts) :=
  fun m g _ => (θ_run _ _ _).mono (fun _ h => ⟨fun c => (h c).2, sem_eq_zero_of_no_sems (by decide) _⟩) (ReferenceAdaIdeal.Value.run m g)

end Cert

end
-- ==== Proof.Lift.lean ====
/- Extended reals that are numbers: sums, products, quotients and exponentials of numbers are numbers. -/
module

public import Idealize.ShloMosaic.Lib.Pointwise
public import Idealize.ShloMosaic.Lib.IdealHost

@[expose] public section

noncomputable section

namespace Cert.Attn

open Idealize.ShloMosaic

/-- A sum of numbers is the number their sum is. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, ← EReal.coe_add]

/-- A quotient of numbers, the divisor not zero. -/
theorem div_coe_coe (x : ℝ) {y : ℝ} (h : y ≠ 0) : Ideal.div (x : EReal) (y : EReal) = ((x / y : ℝ) : EReal) := by
  rw [Ideal.div_coe h, ← EReal.coe_mul, mul_one_div]

/-- The logarithm of a positive number. -/
theorem log_coe_pos {x : ℝ} (h : 0 < x) : Ideal.log (x : EReal) = ((Real.log x : ℝ) : EReal) := by
  rw [Ideal.log_coe, if_neg (not_le.mpr h)]

/-- An element that is a number or minus infinity, after its exponential. -/
theorem exp_ite (p : Prop) [Decidable p] (x : ℝ) :
    Ideal.exp (if p then (x : EReal) else ⊥) = (((if p then Real.exp x else 0) : ℝ) : EReal) := by
  split <;> simp

/-- A masked element less a number. -/
theorem masked_sub (p : Prop) [Decidable p] (x y : ℝ) :
    (if p then (x : EReal) else ⊥) - (y : EReal) = if p then ((x - y : ℝ) : EReal) else ⊥ := by
  split
  · exact (EReal.coe_sub x y).symm
  · exact EReal.bot_sub _

/-- The pattern of one eighth. -/
theorem ofBits_eighth : Ideal.ofBits .f32 0x3E000000#32 = ((1 / 8 : ℝ) : EReal) := by
  simp [Ideal.ofBits, Ideal.ieee, -EReal.coe_mul]; norm_num

/-- The pattern of minus infinity. -/
theorem ofBits_bot : Ideal.ofBits .f32 0xFF800000#32 = (⊥ : EReal) := by
  simp [Ideal.ofBits, Ideal.ieee]

/-- The greatest of finitely many elements and a start, none of them plus infinity, is not plus infinity. -/
theorem fold_max_ne_top {ι : Type*} (s : Finset ι) (b : EReal) (f : ι → EReal) (hb : b ≠ ⊤) (hf : ∀ i, f i ≠ ⊤) :
    s.fold max b f ≠ ⊤ :=
  ne_of_lt ((Finset.fold_max_lt _).mpr ⟨lt_top_iff_ne_top.mpr hb, fun i _ => lt_top_iff_ne_top.mpr (hf i)⟩)

/-- A masked number is not plus infinity. -/
theorem masked_ne_top (p : Prop) [Decidable p] (x : ℝ) : (if p then (x : EReal) else ⊥) ≠ ⊤ := by
  split
  · exact EReal.coe_ne_top x
  · exact bot_ne_top

/-- An extended real that is neither infinity is its real part. -/
theorem eq_coe_toReal {x : EReal} (ht : x ≠ ⊤) (hb : x ≠ ⊥) : x = ((x.toReal : ℝ) : EReal) :=
  (EReal.coe_toReal ht hb).symm

/-- A maximum with a number, the other side not plus infinity, is a number. -/
theorem exists_max_coe {x : EReal} (ht : x ≠ ⊤) (y : ℝ) : ∃ z : ℝ, max x (y : EReal) = (z : EReal) := by
  refine ⟨(max x y).toReal, eq_coe_toReal ?_ ?_⟩
  · rcases max_choice x (y : EReal) with h | h <;> rw [h]
    · exact ht
    · exact EReal.coe_ne_top y
  · intro h
    have : (y : EReal) ≤ ⊥ := h ▸ le_max_right x (y : EReal)
    exact EReal.coe_ne_bot y (le_bot_iff.mp this)

end Cert.Attn

end
-- ==== Proof.Row.lean ====
/- The mathematics of one query row, over the real numbers: its probabilities over the keys of its window, over the
   context and over the sink, and the gradients they carry. -/
module

public import Mathlib.Analysis.SpecialFunctions.Log.Basic

@[expose] public section

noncomputable section

namespace Cert.Attn

/-- What one query row of one head sees: the query, the output's cotangent, which of the 384 keys of the window it may
    look at, those keys and values, the 256 context keys and values, and the sink's score. -/
structure Row where
  q : Fin 64 → ℝ
  dO : Fin 64 → ℝ
  ok : Fin 384 → Prop
  dec : DecidablePred ok
  kw : Fin 384 → Fin 64 → ℝ
  vw : Fin 384 → Fin 64 → ℝ
  kc : Fin 256 → Fin 64 → ℝ
  vc : Fin 256 → Fin 64 → ℝ
  sk : ℝ

namespace Row

variable (r : Row)

instance (kk : Fin 384) : Decidable (r.ok kk) := r.dec kk

/-- The scaled score of a window key; -/
def s (kk : Fin 384) : ℝ := (∑ d, r.q d * r.kw kk d) * (1 / 8)
/-- of a context key. -/
def sc (c : Fin 256) : ℝ := (∑ d, r.q d * r.kc c d) * (1 / 8)
/-- The weight of a window key, zero outside the mask. -/
def e (kk : Fin 384) : ℝ := if r.ok kk then Real.exp (r.s kk) else 0
/-- The sum of all weights. -/
def den : ℝ := (∑ kk, r.e kk) + (∑ c, Real.exp (r.sc c)) + Real.exp r.sk
/-- The probability of a window key, of a context key, of the sink. -/
def P (kk : Fin 384) : ℝ := r.e kk / r.den
def PC (c : Fin 256) : ℝ := Real.exp (r.sc c) / r.den
def PS : ℝ := Real.exp r.sk / r.den
/-- The row's output. -/
def O (d : Fin 64) : ℝ := (∑ kk, r.P kk * r.vw kk d) + ∑ c, r.PC c * r.vc c d
/-- The logarithm of the weights' sum. -/
def lse : ℝ := Real.log r.den
/-- The cotangent along the output. -/
def delta : ℝ := ∑ d, r.dO d * r.O d
/-- The cotangents along the values. -/
def DV (kk : Fin 384) : ℝ := ∑ d, r.dO d * r.vw kk d
def DC (c : Fin 256) : ℝ := ∑ d, r.dO d * r.vc c d
/-- The scores' gradients. -/
def ds (kk : Fin 384) : ℝ := r.P kk * (r.DV kk - r.delta)
def dsc (c : Fin 256) : ℝ := r.PC c * (r.DC c - r.delta)
/-- The query's gradient. -/
def dq (d : Fin 64) : ℝ := ((∑ kk, r.ds kk * r.kw kk d) + ∑ c, r.dsc c * r.kc c d) * (1 / 8)

theorem e_nonneg (kk : Fin 384) : 0 ≤ r.e kk := by unfold e; split <;> positivity

theorem den_pos : 0 < r.den :=
  add_pos_of_nonneg_of_pos (add_nonneg (Finset.sum_nonneg fun kk _ => r.e_nonneg kk)
    (Finset.sum_nonneg fun _ _ => (Real.exp_pos _).le)) (Real.exp_pos _)

theorem den_ne : r.den ≠ 0 := r.den_pos.ne'

/-- The weights' sum with every score lessened by `m`. -/
theorem den_shift (m : ℝ) :
    (∑ kk, if r.ok kk then Real.exp (r.s kk - m) else 0) + (∑ c, Real.exp (r.sc c - m)) + Real.exp (r.sk - m)
      = r.den * Real.exp (-m) := by
  have h (x : ℝ) : Real.exp (x - m) = Real.exp x * Real.exp (-m) := by rw [sub_eq_add_neg, Real.exp_add]
  simp only [h, den, e, add_mul, Finset.sum_mul, ite_mul, zero_mul]

theorem shift_pos (m : ℝ) : 0 < r.den * Real.exp (-m) := mul_pos r.den_pos (Real.exp_pos _)

theorem P_shift (m : ℝ) (kk : Fin 384) :
    (if r.ok kk then Real.exp (r.s kk - m) else 0) * (1 / (r.den * Real.exp (-m))) = r.P kk := by
  have h := r.den_ne
  have h' := Real.exp_ne_zero (-m)
  unfold P e
  split
  · rw [sub_eq_add_neg, Real.exp_add]; field_simp
  · simp

theorem PC_shift (m : ℝ) (c : Fin 256) :
    Real.exp (r.sc c - m) * (1 / (r.den * Real.exp (-m))) = r.PC c := by
  have h := r.den_ne
  have h' := Real.exp_ne_zero (-m)
  unfold PC
  rw [sub_eq_add_neg, Real.exp_add]; field_simp

theorem PS_shift (m : ℝ) : Real.exp (r.sk - m) * (1 / (r.den * Real.exp (-m))) = r.PS := by
  have h := r.den_ne
  have h' := Real.exp_ne_zero (-m)
  unfold PS
  rw [sub_eq_add_neg, Real.exp_add]; field_simp

theorem lse_shift (m : ℝ) : m + Real.log (r.den * Real.exp (-m)) = r.lse := by
  rw [Real.log_mul r.den_ne (Real.exp_ne_zero _), Real.log_exp]; unfold lse; ring

/-- The probabilities from the logarithm of the weights' sum. -/
theorem P_lse (kk : Fin 384) : (if r.ok kk then Real.exp (r.s kk - r.lse) else 0) = r.P kk := by
  unfold P e lse
  split
  · rw [Real.exp_sub, Real.exp_log r.den_pos]
  · simp

theorem PC_lse (c : Fin 256) : Real.exp (r.sc c - r.lse) = r.PC c := by
  unfold PC lse; rw [Real.exp_sub, Real.exp_log r.den_pos]

theorem PS_lse : Real.exp (r.sk - r.lse) = r.PS := by
  unfold PS lse; rw [Real.exp_sub, Real.exp_log r.den_pos]

theorem P_of_not_ok {kk : Fin 384} (h : ¬ r.ok kk) : r.P kk = 0 := by
  unfold P e; rw [if_neg h, zero_div]

theorem ds_of_not_ok {kk : Fin 384} (h : ¬ r.ok kk) : r.ds kk = 0 := by
  unfold ds; rw [r.P_of_not_ok h, zero_mul]

theorem P_sum : (∑ kk, r.P kk) + (∑ c, r.PC c) + r.PS = 1 := by
  simp only [P, PC, PS, div_eq_mul_inv, ← Finset.sum_mul, ← add_mul]
  exact mul_inv_cancel₀ r.den_ne

/-- The probabilities weigh the values' cotangents to the output's. -/
theorem delta_eq : r.delta = (∑ kk, r.P kk * r.DV kk) + ∑ c, r.PC c * r.DC c := by
  simp only [delta, O, DV, DC, mul_add, Finset.sum_add_distrib, Finset.mul_sum]
  congr 1
  · rw [Finset.sum_comm]; exact Finset.sum_congr rfl fun _ _ => Finset.sum_congr rfl fun _ _ => by ring
  · rw [Finset.sum_comm]; exact Finset.sum_congr rfl fun _ _ => Finset.sum_congr rfl fun _ _ => by ring

/-- The same row with other keys and values outside its mask. -/
def withKV (kw' vw' : Fin 384 → Fin 64 → ℝ) : Row := { r with kw := kw', vw := vw' }

section Other

variable {kw' vw' : Fin 384 → Fin 64 → ℝ}
  (hk : ∀ kk, r.ok kk → kw' kk = r.kw kk) (hv : ∀ kk, r.ok kk → vw' kk = r.vw kk)

include hk

theorem e_withKV (kk : Fin 384) : (r.withKV kw' vw').e kk = r.e kk := by
  by_cases h : r.ok kk
  · unfold e s; rw [if_pos h, if_pos (show (r.withKV kw' vw').ok kk from h)]
    simp only [withKV, hk kk h]
  · unfold e; rw [if_neg h, if_neg (show ¬ (r.withKV kw' vw').ok kk from h)]

theorem den_withKV : (r.withKV kw' vw').den = r.den := by
  simp only [den, r.e_withKV hk]; rfl

theorem P_withKV (kk : Fin 384) : (r.withKV kw' vw').P kk = r.P kk := by
  unfold P; rw [r.e_withKV hk, r.den_withKV hk]

theorem PC_withKV (c : Fin 256) : (r.withKV kw' vw').PC c = r.PC c := by
  unfold PC; rw [r.den_withKV hk]; rfl

theorem PS_withKV : (r.withKV kw' vw').PS = r.PS := by
  unfold PS; rw [r.den_withKV hk]; rfl

include hv

theorem O_withKV (d : Fin 64) : (r.withKV kw' vw').O d = r.O d := by
  unfold O
  congr 1
  · refine Finset.sum_congr rfl fun kk _ => ?_
    rw [r.P_withKV hk]
    by_cases h : r.ok kk
    · show r.P kk * vw' kk d = _; rw [hv kk h]
    · rw [r.P_of_not_ok h, zero_mul, zero_mul]
  · refine Finset.sum_congr rfl fun c _ => ?_
    rw [r.PC_withKV hk]; rfl

theorem delta_withKV : (r.withKV kw' vw').delta = r.delta := by
  unfold delta; simp only [r.O_withKV hk hv]; rfl

theorem ds_withKV (kk : Fin 384) : (r.withKV kw' vw').ds kk = r.ds kk := by
  unfold ds
  rw [r.P_withKV hk, r.delta_withKV hk hv]
  by_cases h : r.ok kk
  · unfold DV; simp only [withKV, hv kk h]
  · rw [r.P_of_not_ok h, zero_mul, zero_mul]

theorem dsc_withKV (c : Fin 256) : (r.withKV kw' vw').dsc c = r.dsc c := by
  unfold dsc; rw [r.PC_withKV hk, r.delta_withKV hk hv]; rfl

theorem dq_withKV (d : Fin 64) : (r.withKV kw' vw').dq d = r.dq d := by
  unfold dq
  congr 2
  · refine Finset.sum_congr rfl fun kk _ => ?_
    rw [r.ds_withKV hk hv]
    by_cases h : r.ok kk
    · show r.ds kk * kw' kk d = _; rw [hk kk h]
    · rw [r.ds_of_not_ok h, zero_mul, zero_mul]
  · refine Finset.sum_congr rfl fun c _ => ?_
    rw [r.dsc_withKV hk hv]; rfl

end Other

end Row

end Cert.Attn

end
-- ==== Proof.Fwd.lean ====
/- What the forward call's body computes for one group of query rows: the rows' outputs and the logarithms of their
   weights' sums. -/
module

public import proofs.«01_k».proof.Proof.Lift
public import proofs.«01_k».proof.Proof.Row
public import proofs.«01_k».proof.Proof.Gen.KernelIdeal.Skeleton

@[expose] public section

set_option maxRecDepth 16384

noncomputable section

namespace Cert.KernelIdeal.Fwd

open Idealize.ShloMosaic Cert.Attn Cert.KernelIdeal Cert.KernelIdeal.Gen

/-- The mask's constant is minus infinity. -/
theorem mask_bot : Named.named (F := Ideal) κ "mask" (φ := .f32) 0xF149F2CA#32 = (⊥ : EReal) :=
  IdealRules.named_const.ideal_named_scalar _ _ _ _ rfl

/-- The blocks a group of 128 query rows reads hold the numbers of `rows`. -/
structure Feeds (rows : Fin 128 → Row) (K V : FVec Ideal S384x64 .bf16) (M : IVec S128x384 1)
    (Q : Vec Ideal S1x1x128x64 .bf16) (KC VC : Vec Ideal S1x256x64 .bf16) (sk : Elt Ideal .f32) : Prop where
  q : ∀ i d, Q (ix4 0 0 i d) = (((rows i).q d : ℝ) : EReal)
  k : ∀ i kk d, K (ix2 kk d) = (((rows i).kw kk d : ℝ) : EReal)
  v : ∀ i kk d, V (ix2 kk d) = (((rows i).vw kk d : ℝ) : EReal)
  kc : ∀ i c d, KC (ix3 0 c d) = (((rows i).kc c d : ℝ) : EReal)
  vc : ∀ i c d, VC (ix3 0 c d) = (((rows i).vc c d : ℝ) : EReal)
  sk : ∀ i, sk = (((rows i).sk : ℝ) : EReal)
  m : ∀ i kk, M (ix2 i kk) = BitVec.ofBool (decide ((rows i).ok kk))

variable {rows : Fin 128 → Row} {K V : FVec Ideal S384x64 .bf16} {M : IVec S128x384 1}
  {Q : Vec Ideal S1x1x128x64 .bf16} {KC VC : Vec Ideal S1x256x64 .bf16} {sk : Elt Ideal .f32}
  (h : Feeds rows K V M Q KC VC sk)

include h

theorem pay6_apply (i : Fin 128) (kk : Fin 384) :
    k0_pay6 K M Q (ix2 i kk) = if (rows i).ok kk then (((rows i).s kk : ℝ) : EReal) else ⊥ := by
  pointwise [k0_pay6, k0_pay5]
  simp only [h.q, h.k i, h.m, mask_bot, ofBits_eighth, ← EReal.coe_mul, coe_sum]
  exact Idealize.ShloMosaic.Scalar.select_decide _ _ _

theorem pay7_apply (i : Fin 128) (c : Fin 256) :
    k0_pay7 Q KC (ix2 i c) = (((rows i).sc c : ℝ) : EReal) := by
  pointwise [k0_pay7, k0_pay5]
  simp only [h.q, h.kc i, ofBits_eighth, ← EReal.coe_mul, coe_sum]
  rfl

/-- The rows' greatest scores are numbers. -/
theorem pay8_apply : ∃ m : Fin 128 → ℝ, ∀ i, k0_pay8 K M Q KC sk (ix2 i 0) = ((m i : ℝ) : EReal) := by
  suffices H : ∀ i : Fin 128, ∃ m : ℝ, k0_pay8 K M Q KC sk (ix2 i 0) = (m : EReal) from
    ⟨fun i => (H i).choose, fun i => (H i).choose_spec⟩
  intro i
  pointwise [k0_pay8]
  simp only [pay6_apply h, pay7_apply h, h.sk i, ofBits_bot]
  refine exists_max_coe (ne_of_lt (max_lt ?_ ?_)) _
  · exact lt_top_iff_ne_top.mpr (fold_max_ne_top _ _ _ bot_ne_top fun kk => masked_ne_top _ _)
  · exact lt_top_iff_ne_top.mpr (fold_max_ne_top _ _ _ bot_ne_top fun kk => EReal.coe_ne_top _)

variable {m : Fin 128 → ℝ} (hm : ∀ i, k0_pay8 K M Q KC sk (ix2 i 0) = ((m i : ℝ) : EReal))

include hm

theorem pay9_apply (i : Fin 128) (kk : Fin 384) : k0_pay9 K M Q KC sk (ix2 i kk)
    = (((if (rows i).ok kk then Real.exp ((rows i).s kk - m i) else 0 : ℝ)) : EReal) := by
  pointwise [k0_pay9]
  rw [pay6_apply h, hm, masked_sub, exp_ite]

theorem pay10_apply (i : Fin 128) (c : Fin 256) : k0_pay10 K M Q KC sk (ix2 i c)
    = ((Real.exp ((rows i).sc c - m i) : ℝ) : EReal) := by
  pointwise [k0_pay10]
  rw [pay7_apply h, hm, ← EReal.coe_sub, Ideal.exp_coe]

theorem pay11_apply (i : Fin 128) : k0_pay11 K M Q KC sk (ix2 i 0)
    = (((rows i).den * Real.exp (- m i) : ℝ) : EReal) := by
  pointwise [k0_pay11]
  simp only [pay9_apply h hm, pay10_apply h hm, hm]
  simp only [h.sk i, ← EReal.coe_sub, Ideal.exp_coe, coe_sum, ← EReal.coe_add]
  rw [(rows i).den_shift]

theorem pay12_apply (i : Fin 128) : k0_pay12 K M Q KC sk (ix2 i 0)
    = (((1 / ((rows i).den * Real.exp (- m i))) : ℝ) : EReal) := by
  pointwise [k0_pay12]
  rw [pay11_apply h hm, ← EReal.coe_one, div_coe_coe _ ((rows i).shift_pos _).ne']

theorem pay13_apply (i : Fin 128) (kk : Fin 384) : k0_pay13 K M Q KC sk (ix2 i kk) = (((rows i).P kk : ℝ) : EReal) := by
  pointwise [k0_pay13]
  rw [pay9_apply h hm, pay12_apply h hm, ← EReal.coe_mul, (rows i).P_shift]

omit hm

/-- The group's outputs. -/
theorem out_apply (i : Fin 128) (d : Fin 64) :
    k0_pay14 V (k0_pay10 K M Q KC sk) (k0_pay12 K M Q KC sk) (k0_pay13 K M Q KC sk) VC (ix4 0 0 i d)
      = (((rows i).O d : ℝ) : EReal) := by
  obtain ⟨m, hm⟩ := pay8_apply h
  pointwise [k0_pay14]
  simp only [pay10_apply h hm, pay12_apply h hm, pay13_apply h hm, h.v i, h.vc i, ← EReal.coe_mul, (rows i).PC_shift,
    coe_sum, ← EReal.coe_add]
  rfl

/-- The logarithms of the group's weights' sums. -/
theorem lse_apply (i : Fin 128) :
    k0_pay15 (k0_pay8 K M Q KC sk) (k0_pay11 K M Q KC sk) (ix4 0 0 i 0) = (((rows i).lse : ℝ) : EReal) := by
  obtain ⟨m, hm⟩ := pay8_apply h
  pointwise [k0_pay15]
  rw [hm, pay11_apply h hm, log_coe_pos ((rows i).shift_pos _), ← EReal.coe_add, (rows i).lse_shift]

end Cert.KernelIdeal.Fwd

end
-- ==== Proof.BwdQ.lean ====
/- What the backward call over the query blocks computes for one group of query rows: the queries' gradients, and what
   the group adds to the gradients of the context's keys and values and of the sink. -/
module

public import proofs.«01_k».proof.Proof.Fwd

@[expose] public section

set_option maxRecDepth 16384

noncomputable section

namespace Cert.KernelIdeal.BwdQ

open Idealize.ShloMosaic Cert.Attn Cert.KernelIdeal Cert.KernelIdeal.Gen Cert.KernelIdeal.Fwd

/-- The blocks the backward call reads beside the forward call's: the output's cotangent, the output, the logarithms. -/
structure Feeds' (rows : Fin 128 → Row) (D : Vec Ideal S1x1x128x64 .bf16) (O : Vec Ideal S1x1x128x64 .f32)
    (L : Vec Ideal S1x1x128x1 .f32) : Prop where
  d : ∀ i d, D (ix4 0 0 i d) = (((rows i).dO d : ℝ) : EReal)
  o : ∀ i d, O (ix4 0 0 i d) = (((rows i).O d : ℝ) : EReal)
  l : ∀ i, L (ix4 0 0 i 0) = (((rows i).lse : ℝ) : EReal)

variable {rows : Fin 128 → Row} {K V : FVec Ideal S384x64 .bf16} {A : IVec S128x384 32} {B : IVec S128x384 1}
  {Q : Vec Ideal S1x1x128x64 .bf16} {KC VC : Vec Ideal S1x256x64 .bf16} {sk : Elt Ideal .f32}
  {D : Vec Ideal S1x1x128x64 .bf16} {O : Vec Ideal S1x1x128x64 .f32} {L : Vec Ideal S1x1x128x1 .f32}
  (h : Feeds rows K V (k1_pay9 A B) Q KC VC sk) (h' : Feeds' rows D O L)

include h'

theorem pay13_apply (i : Fin 128) : k1_pay13 D O (ix2 i 0) = (((rows i).delta : ℝ) : EReal) := by
  pointwise [k1_pay13, k1_pay11]
  simp only [h'.d, h'.o, ← EReal.coe_mul, coe_sum]
  rfl

theorem pay17_apply (i : Fin 128) (kk : Fin 384) : k1_pay17 D O (ix2 i kk) = (((rows i).delta : ℝ) : EReal) := by
  pointwise [k1_pay17]
  exact pay13_apply h' i

include h

theorem pay16_apply (i : Fin 128) (kk : Fin 384) : k1_pay16 V D (ix2 i kk) = (((rows i).DV kk : ℝ) : EReal) := by
  pointwise [k1_pay16, k1_pay11]
  simp only [h'.d, h.v i, ← EReal.coe_mul, coe_sum]
  rfl

theorem pay14_apply (i : Fin 128) (kk : Fin 384) : k1_pay14 K A B Q L (ix2 i kk) = (((rows i).P kk : ℝ) : EReal) := by
  pointwise [k1_pay14, k1_pay10, k1_pay12]
  simp only [h.q, h.k i, h.m, mask_bot, ofBits_eighth, ← EReal.coe_mul, coe_sum, h'.l]
  rw [Idealize.ShloMosaic.Scalar.select_decide, masked_sub, exp_ite]
  exact congrArg _ ((rows i).P_lse kk)

theorem pay15_apply (i : Fin 128) (c : Fin 256) : k1_pay15 Q L KC (ix2 i c) = (((rows i).PC c : ℝ) : EReal) := by
  pointwise [k1_pay15, k1_pay10, k1_pay12]
  simp only [h.q, h.kc i, ofBits_eighth, ← EReal.coe_mul, coe_sum, h'.l, ← EReal.coe_sub, Ideal.exp_coe]
  exact congrArg _ ((rows i).PC_lse c)

theorem pay18_apply (i : Fin 128) (c : Fin 256) :
    k1_pay18 (k1_pay11 D) (k1_pay13 D O) (k1_pay15 Q L KC) VC (ix2 i c) = (((rows i).dsc c : ℝ) : EReal) := by
  pointwise [k1_pay18, k1_pay11]
  simp only [pay15_apply h h', pay13_apply h', h'.d, h.vc i, ← EReal.coe_mul, coe_sum, ← EReal.coe_sub]
  rfl

/-- The queries' gradients. -/
theorem dq_apply (i : Fin 128) (d : Fin 64) :
    k1_pay19 K (k1_pay11 D) (k1_pay13 D O) (k1_pay14 K A B Q L) (k1_pay15 Q L KC) (k1_pay16 V D) (k1_pay17 D O) VC KC
      (ix4 0 0 i d) = (((rows i).dq d : ℝ) : EReal) := by
  pointwise [k1_pay19]
  simp only [pay18_apply h h', pay14_apply h h', pay16_apply h h', pay17_apply h', h.k i, h.kc i, ofBits_eighth,
    ← EReal.coe_sub, ← EReal.coe_mul, coe_sum, ← EReal.coe_add]
  rfl

/-- What the group adds to the gradient of the context's keys, -/
theorem dkc_apply {p : Fin 256 → Fin 64 → ℝ} {X : Vec Ideal S1x256x64 .f32}
    (hX : ∀ c d, X (ix3 0 c d) = ((p c d : ℝ) : EReal)) (c : Fin 256) (d : Fin 64) :
    k1_pay20 (k1_pay10 Q) (k1_pay11 D) (k1_pay13 D O) (k1_pay15 Q L KC) VC X (ix3 0 c d)
      = ((p c d + (∑ i, (rows i).dsc c * (rows i).q d) * (1 / 8) : ℝ) : EReal) := by
  pointwise [k1_pay20, k1_pay10]
  simp only [pay18_apply h h', h.q, hX, ofBits_eighth, ← EReal.coe_mul, coe_sum, ← EReal.coe_add]

/-- of the context's values, -/
theorem dvc_apply {p : Fin 256 → Fin 64 → ℝ} {X : Vec Ideal S1x256x64 .f32}
    (hX : ∀ c d, X (ix3 0 c d) = ((p c d : ℝ) : EReal)) (c : Fin 256) (d : Fin 64) :
    k1_pay23 (k1_pay11 D) (k1_pay21 X) (k1_pay22 (k1_pay15 Q L KC)) (ix3 0 c d)
      = ((p c d + ∑ i, (rows i).PC c * (rows i).dO d : ℝ) : EReal) := by
  pointwise [k1_pay23, k1_pay21, k1_pay22, k1_pay11]
  simp only [pay15_apply h h', h'.d, hX, ← EReal.coe_mul, coe_sum, ← EReal.coe_add]

/-- and of the sink. -/
theorem dsk_apply {p : ℝ} {X : Vec Ideal S1x1x128 .f32} (l : Fin 128)
    (hX : X (ix3 0 0 l) = ((p : ℝ) : EReal)) :
    k1_pay24 (k1_pay12 L) (k1_pay13 D O) sk X (ix3 0 0 l)
      = ((p + ∑ i, -((rows i).PS * (rows i).delta) : ℝ) : EReal) := by
  pointwise [k1_pay24, k1_pay12]
  have hs : ∀ i, Ideal.exp (sk - L (ix4 0 0 i 0)) = (((rows i).PS : ℝ) : EReal) := fun i => by
    rw [h.sk i, h'.l, ← EReal.coe_sub, Ideal.exp_coe]; exact congrArg _ (rows i).PS_lse
  simp only [hs, pay13_apply h', hX, ← EReal.coe_zero, ← EReal.coe_sub, ← EReal.coe_mul, coe_sum, ← EReal.coe_add,
    zero_sub, neg_mul]

end Cert.KernelIdeal.BwdQ

end
-- ==== Proof.BwdKV.lean ====
/- What the backward call over the key blocks computes for one group of the query rows of one neighbouring block: what
   they add to the gradients of the block's keys and values. -/
module

public import proofs.«01_k».proof.Proof.BwdQ

@[expose] public section

set_option maxRecDepth 16384

noncomputable section

namespace Cert.KernelIdeal.BwdKV

open Idealize.ShloMosaic Cert.Attn Cert.KernelIdeal Cert.KernelIdeal.Gen Cert.KernelIdeal.Fwd Cert.KernelIdeal.BwdQ

/-- The blocks the call reads for one group of query rows: where the query block exists (`live`) the block's key `j` is
    key `e j` of every row's window; where it does not, the mask is empty. -/
structure FeedsK (rows : Fin 128 → Row) (live : Prop) [Decidable live] (e : Fin 128 → Fin 384) (K V : FVec Ideal S128x64 .bf16)
    (M : IVec S128x128 1) (Q : Vec Ideal S1x1x128x64 .bf16) (kr vr : Fin 128 → Fin 64 → ℝ) : Prop where
  q : ∀ i d, Q (ix4 0 0 i d) = (((rows i).q d : ℝ) : EReal)
  k : ∀ j d, K (ix2 j d) = ((kr j d : ℝ) : EReal)
  v : ∀ j d, V (ix2 j d) = ((vr j d : ℝ) : EReal)
  k' : live → ∀ i j d, kr j d = (rows i).kw (e j) d
  v' : live → ∀ i j d, vr j d = (rows i).vw (e j) d
  m : ∀ i j, M (ix2 i j) = BitVec.ofBool (decide (live ∧ (rows i).ok (e j)))

variable {rows : Fin 128 → Row} {live : Prop} [Decidable live] {e : Fin 128 → Fin 384} {K V : FVec Ideal S128x64 .bf16}
  {M : IVec S128x128 1} {Q : Vec Ideal S1x1x128x64 .bf16} {kr vr : Fin 128 → Fin 64 → ℝ}
  {D : Vec Ideal S1x1x128x64 .bf16} {O : Vec Ideal S1x1x128x64 .f32} {L : Vec Ideal S1x1x128x1 .f32}
  (h : FeedsK rows live e K V M Q kr vr) (h' : Feeds' rows D O L)

include h h'

/-- The probabilities. -/
theorem pay10_apply (i j : Fin 128) : k2_pay10 K M (k2_pay7 Q) L (ix2 i j)
    = ((if live then (rows i).P (e j) else 0 : ℝ) : EReal) := by
  pointwise [k2_pay10, k2_pay7]
  simp only [h.q, h.k, h.m, mask_bot, ofBits_eighth, ← EReal.coe_mul, coe_sum, h'.l, ← EReal.coe_sub]
  rw [Idealize.ShloMosaic.Scalar.select_decide, exp_ite]
  by_cases hl : live
  · simp only [hl, true_and, if_true, h.k' hl i]
    exact congrArg _ ((rows i).P_lse (e j))
  · simp only [hl, false_and, if_false]

/-- What the group adds to the gradient of the block's keys, -/
theorem dk_apply {a : Fin 128 → Fin 64 → ℝ} {X : FVec Ideal S128x64 .f32}
    (hX : ∀ j d, X (ix2 j d) = ((a j d : ℝ) : EReal)) (j : Fin 128) (d : Fin 64) :
    k2_pay11 K V X M (k2_pay7 Q) (k2_pay8 D) (k2_pay9 D O) L (ix2 j d)
      = ((a j d + (if live then (∑ i, (rows i).ds (e j) * (rows i).q d) * (1 / 8) else 0) : ℝ) : EReal) := by
  pointwise [k2_pay11, k2_pay7, k2_pay8, k2_pay9]
  have hp := pay10_apply h h'
  simp only [k2_pay7] at hp
  simp only [hp, h.q, h.v, h'.d, h'.o, hX, ofBits_eighth, ← EReal.coe_mul, coe_sum, ← EReal.coe_sub, ← EReal.coe_add]
  by_cases hl : live
  · have e1 : ∀ i, (rows i).ds (e j)
        = (rows i).P (e j) * ((∑ d, (rows i).dO d * vr j d) - ∑ d, (rows i).dO d * (rows i).O d) := fun i => by
      unfold Row.ds Row.DV Row.delta; simp only [h.v' hl i]
    simp only [hl, if_true, e1]
  · simp only [hl, if_false, zero_mul, Finset.sum_const_zero]

/-- and of the block's values. -/
theorem dv_apply {a : Fin 128 → Fin 64 → ℝ} {X : FVec Ideal S128x64 .f32}
    (hX : ∀ j d, X (ix2 j d) = ((a j d : ℝ) : EReal)) (j : Fin 128) (d : Fin 64) :
    k2_pay12 K X M (k2_pay7 Q) (k2_pay8 D) L (ix2 j d)
      = ((a j d + (if live then ∑ i, (rows i).P (e j) * (rows i).dO d else 0) : ℝ) : EReal) := by
  pointwise [k2_pay12, k2_pay8]
  simp only [pay10_apply h h', h'.d, hX, ← EReal.coe_mul, coe_sum, ← EReal.coe_add]
  by_cases hl : live
  · simp only [hl, if_true]
  · simp only [hl, if_false, zero_mul, Finset.sum_const_zero]

end Cert.KernelIdeal.BwdKV

end
-- ==== Proof.Mask.lean ====
/- The windows' masks as the calls compute them, in the integers of the machine, and the conditions they test. -/
module

public import proofs.«01_k».proof.Proof.BwdKV

@[expose] public section

set_option maxRecDepth 16384

noncomputable section

namespace Cert.KernelIdeal.Mask

open Idealize.ShloMosaic Cert.Attn Cert.KernelIdeal Cert.KernelIdeal.Gen

/-! Comparisons of small numbers held in 32 bits. -/

theorem toInt_ofNat (a : Nat) (h : a < 2 ^ 20) : (BitVec.ofNat 32 a).toInt = a := by
  rw [BitVec.toInt_eq_toNat_cond, BitVec.toNat_ofNat]; omega

theorem toInt_sub (a b : Nat) (ha : a < 2 ^ 20) (hb : b < 2 ^ 20) :
    (BitVec.ofNat 32 a - BitVec.ofNat 32 b).toInt = (a : Int) - b := by
  rw [BitVec.toInt_eq_toNat_cond, BitVec.toNat_sub, BitVec.toNat_ofNat, BitVec.toNat_ofNat]; omega

theorem toInt_absi (a b : Nat) (ha : a < 2 ^ 20) (hb : b < 2 ^ 20) :
    (IntOp.absi (BitVec.ofNat 32 a - BitVec.ofNat 32 b)).toInt = |(a : Int) - b| := by
  have hs := toInt_sub a b ha hb
  unfold IntOp.absi
  rw [BitVec.msb_eq_toInt, hs]
  by_cases h : (a : Int) - b < 0
  · rw [decide_eq_true h, if_pos rfl, abs_of_neg h]
    have : -(BitVec.ofNat 32 a - BitVec.ofNat 32 b) = BitVec.ofNat 32 b - BitVec.ofNat 32 a := by
      rw [BitVec.neg_sub, BitVec.sub_eq_add_neg, BitVec.add_comm]
    rw [this, toInt_sub b a hb ha]; omega
  · rw [decide_eq_false h, if_neg (by decide), abs_of_nonneg (by omega), hs]

theorem abs_le_apply (a b c : Nat) (ha : a < 2 ^ 20) (hb : b < 2 ^ 20) (hc : c < 2 ^ 20) :
    IntOp.cmpi .sle (IntOp.absi (BitVec.ofNat 32 a - BitVec.ofNat 32 b)) (BitVec.ofNat 32 c)
      = BitVec.ofBool (decide (a ≤ b + c ∧ b ≤ a + c)) := by
  unfold IntOp.cmpi
  refine congrArg BitVec.ofBool ?_
  show BitVec.sle _ _ = _
  rw [BitVec.sle, toInt_absi a b ha hb, toInt_ofNat c hc]
  refine decide_eq_decide.mpr ?_
  rw [abs_le]; omega

theorem sge_apply (a b c : Nat) (ha : a < 2 ^ 20) (hb : b < 2 ^ 20) (hc : c < 2 ^ 20) :
    IntOp.cmpi .sge (BitVec.ofNat 32 a - BitVec.ofNat 32 b) (BitVec.ofNat 32 c) = BitVec.ofBool (decide (b + c ≤ a)) := by
  unfold IntOp.cmpi
  refine congrArg BitVec.ofBool ?_
  show BitVec.sle _ _ = _
  rw [BitVec.sle, toInt_sub a b ha hb, toInt_ofNat c hc]
  refine decide_eq_decide.mpr ?_
  omega

theorem slt_apply (a b c : Nat) (ha : a < 2 ^ 20) (hb : b < 2 ^ 20) (hc : c < 2 ^ 20) :
    IntOp.cmpi .slt (BitVec.ofNat 32 a - BitVec.ofNat 32 b) (BitVec.ofNat 32 c) = BitVec.ofBool (decide (a < b + c)) := by
  unfold IntOp.cmpi
  refine congrArg BitVec.ofBool ?_
  show BitVec.slt _ _ = _
  rw [BitVec.slt, toInt_sub a b ha hb, toInt_ofNat c hc]
  refine decide_eq_decide.mpr ?_
  omega

theorem and_ofBool (p q : Prop) [Decidable p] [Decidable q] :
    BitVec.ofBool (decide p) &&& BitVec.ofBool (decide q) = BitVec.ofBool (decide (p ∧ q)) := by
  by_cases hp : p <;> by_cases hq : q <;> simp [hp, hq]

/-- The key's place: block `n`'s window begins one block before it. -/
theorem place (n j : Nat) : (BitVec.ofNat 32 n - 1#32) * 128#32 + BitVec.ofNat 32 j
    = BitVec.ofNat 32 (n * 128 + j) - BitVec.ofNat 32 128 := by
  apply BitVec.eq_of_toNat_eq
  simp only [BitVec.toNat_add, BitVec.toNat_mul, BitVec.toNat_sub, BitVec.toNat_ofNat,
    BitVec.toNat_ofNat]
  omega

/-- What the forward call's mask tests of row `i` and key `j` of the window of block `n`. -/
def inWin (n : Nat) (i : Fin 128) (j : Fin 384) : Prop :=
  i.val ≤ j.val ∧ j.val ≤ i.val + 256 ∧ 128 ≤ n * 128 + j.val ∧ n * 128 + j.val < 2176

instance (n : Nat) (i : Fin 128) (j : Fin 384) : Decidable (inWin n i j) := by unfold inWin; infer_instance

theorem win_apply (n : Nat) (hn : n < 16) (i : Fin 128) (j : Fin 384) :
    IntOp.andi (IntOp.andi (IntOp.cmpi .sle (IntOp.absi (IntOp.subi (IntOp.addi (BitVec.ofNat 32 i.val) 128#32) (BitVec.ofNat 32 j.val))) 128#32)
        (IntOp.cmpi .sge (IntOp.addi (Scalar.muli (Scalar.subi (BitVec.ofNat 32 n) 1#32) 128#32) (BitVec.ofNat 32 j.val)) 0#32))
      (IntOp.cmpi .slt (IntOp.addi (Scalar.muli (Scalar.subi (BitVec.ofNat 32 n) 1#32) 128#32) (BitVec.ofNat 32 j.val)) 2048#32)
      = BitVec.ofBool (decide (inWin n i j)) := by
  have hi := i.isLt
  have hj := j.isLt
  have e1 : IntOp.subi (IntOp.addi (BitVec.ofNat 32 i.val) 128#32) (BitVec.ofNat 32 j.val) = BitVec.ofNat 32 (i.val + 128) - BitVec.ofNat 32 j.val := by
    rw [BitVec.ofNat_add]; rfl
  have e2 : IntOp.addi (Scalar.muli (Scalar.subi (BitVec.ofNat 32 n) 1#32) 128#32) (BitVec.ofNat 32 j.val)
      = BitVec.ofNat 32 (n * 128 + j.val) - BitVec.ofNat 32 128 := place n j.val
  rw [e1, e2, abs_le_apply _ _ 128 (by omega) (by omega) (by omega), sge_apply _ _ 0 (by omega) (by omega) (by omega),
    slt_apply _ _ 2048 (by omega) (by omega) (by omega)]
  show (_ &&& _) &&& _ = _
  rw [and_ofBool, and_ofBool]
  refine congrArg BitVec.ofBool (decide_eq_decide.mpr ?_)
  unfold inWin; omega

theorem pay4_apply (n : grid0.Coords) (i : Fin 128) (j : Fin 384) :
    k0_pay4 n (ix2 i j) = BitVec.ofBool (decide (inWin (n 1).val i j)) := by
  pointwise [k0_pay4]
  exact win_apply _ (n 1).isLt i j

theorem pay9_apply (n : grid1.Coords) (i : Fin 128) (j : Fin 384) :
    k1_pay9 (k1_pay7 n) (k1_pay8 n) (ix2 i j) = BitVec.ofBool (decide (inWin (n 1).val i j)) := by
  pointwise [k1_pay9, k1_pay7, k1_pay8]
  exact win_apply _ (n 1).isLt i j

/-! The backward call over the key blocks: slot `s` holds query block `j - 1 + s`, and key `k` of block `j` is key
    `(2 - s) * 128 + k` of its window. -/

/-- Where the query block exists. -/
def live (j : Nat) (s : Fin 3) : Prop := 1 ≤ j + s.val ∧ j + s.val < 17
instance (j : Nat) (s : Fin 3) : Decidable (live j s) := by unfold live; infer_instance

/-- The key's place in the window of slot `s`. -/
def place3 (s : Fin 3) (k : Fin 128) : Fin 384 := ⟨(2 - s.val) * 128 + k.val, by have := k.isLt; omega⟩

theorem slot_apply (j : Nat) (hj : j < 16) (s : Fin 3) (o : Nat) (ho : o = (2 - s.val) * 128) (i k : Fin 128) :
    IntOp.andi
      (Scalar.andi (Scalar.cmpi .sge (Scalar.addi (Scalar.subi (BitVec.ofNat 32 j) 1#32) (BitVec.ofNat 32 s.val)) 0#32)
        (Scalar.cmpi .slt (Scalar.addi (Scalar.subi (BitVec.ofNat 32 j) 1#32) (BitVec.ofNat 32 s.val)) 16#32))
      (IntOp.cmpi .sle
        (IntOp.absi (IntOp.subi (IntOp.addi (BitVec.ofNat 32 i.val) 128#32) (IntOp.addi (BitVec.ofNat 32 o) (BitVec.ofNat 32 k.val)))) 128#32)
      = BitVec.ofBool (decide (live j s ∧ inWin (j + s.val - 1) i (place3 s k))) := by
  have hi := i.isLt
  have hk := k.isLt
  have hs := s.isLt
  have e1 : IntOp.subi (IntOp.addi (BitVec.ofNat 32 i.val) 128#32) (IntOp.addi (BitVec.ofNat 32 o) (BitVec.ofNat 32 k.val))
      = BitVec.ofNat 32 (i.val + 128) - BitVec.ofNat 32 (o + k.val) := by
    rw [BitVec.ofNat_add, BitVec.ofNat_add]; rfl
  have e2 : Scalar.addi (Scalar.subi (BitVec.ofNat 32 j) 1#32) (BitVec.ofNat 32 s.val) = BitVec.ofNat 32 (j + s.val) - BitVec.ofNat 32 1 := by
    show BitVec.ofNat 32 j - 1#32 + BitVec.ofNat 32 s.val = _
    rw [BitVec.ofNat_add, BitVec.sub_eq_add_neg, BitVec.sub_eq_add_neg, BitVec.add_assoc, BitVec.add_assoc, BitVec.add_comm (BitVec.ofNat 32 s.val)]
  have f1 := sge_apply (j + s.val) 1 0 (by omega) (by omega) (by omega)
  have f2 := slt_apply (j + s.val) 1 16 (by omega) (by omega) (by omega)
  have f3 := abs_le_apply (i.val + 128) (o + k.val) 128 (by omega) (by omega) (by omega)
  rw [e1, e2, f3]
  show ((IntOp.cmpi .sge _ _) &&& (IntOp.cmpi .slt _ _)) &&& _ = _
  rw [f1, f2, and_ofBool, and_ofBool]
  refine congrArg BitVec.ofBool (decide_eq_decide.mpr ?_)
  unfold live inWin place3
  subst ho
  show _ ↔ (_ ∧ _) ∧ i.val ≤ (2 - s.val) * 128 + k.val ∧ (2 - s.val) * 128 + k.val ≤ i.val + 256 ∧
    128 ≤ (j + s.val - 1) * 128 + ((2 - s.val) * 128 + k.val) ∧ (j + s.val - 1) * 128 + ((2 - s.val) * 128 + k.val) < 2176
  omega

/-- The three slots' masks. -/
def mask (n : grid2.Coords) : Fin 3 → IVec S128x128 1
  | 0 => k2_pay6 n
  | 1 => k2_pay33 (BitVec.ofNat 32 (n 1).val) (iota .tc S128x128 32 [0] iota_S128x128_d0_w32) (iota .tc S128x128 32 [1] iota_S128x128_d1_w32)
  | 2 => k2_pay59 (BitVec.ofNat 32 (n 1).val) (iota .tc S128x128 32 [0] iota_S128x128_d0_w32) (iota .tc S128x128 32 [1] iota_S128x128_d1_w32)

theorem mask_apply (n : grid2.Coords) (s : Fin 3) (i k : Fin 128) :
    mask n s (ix2 i k) = BitVec.ofBool (decide (live (n 1).val s ∧ inWin ((n 1).val + s.val - 1) i (place3 s k))) := by
  match s with
  | 0 =>
    show k2_pay6 n (ix2 i k) = _
    pointwise [k2_pay6]
    exact slot_apply _ (n 1).isLt 0 256 rfl i k
  | 1 =>
    show k2_pay33 _ _ _ (ix2 i k) = _
    pointwise [k2_pay33]
    exact slot_apply _ (n 1).isLt 1 128 rfl i k
  | 2 =>
    show k2_pay59 _ _ _ (ix2 i k) = _
    pointwise [k2_pay59]
    exact slot_apply _ (n 1).isLt 2 0 rfl i k

end Cert.KernelIdeal.Mask

end
-- ==== Proof.Block0.lean ====
/- What the forward call leaves in its two output blocks at one point of its grid. -/
module

public import proofs.«01_k».proof.Proof.Fwd
public import proofs.«01_k».proof.Proof.Gen.KernelIdeal.Frame.Region0
import Idealize.ShloMosaic.Lib.Pipeline.ValueKit.Acc
import Idealize.ShloMosaic.Lib.Pipeline.ValueKit.Tiles

@[expose] public section

set_option maxRecDepth 16384

noncomputable section

namespace Cert.KernelIdeal.Fwd

open Idealize.ShloMosaic Idealize.ShloMosaic.TcCoe Cert.Attn Cert.KernelIdeal Cert.KernelIdeal.Gen

/-- Group `g` of a block of query rows: 64 columns each, -/
def grp {α : Type} (X : S1x4x128x64.Idx → α) (g : Fin 4) : S1x1x128x64.Idx → α := fun y => X (ix4 0 g (y 2) (y 3))
/-- or one column. -/
def grp1 {α : Type} (X : S1x4x128x1.Idx → α) (g : Fin 4) : S1x1x128x1.Idx → α := fun y => X (ix4 0 g (y 2) 0)

theorem ld_grp {e : EltTy} (X : S1x4x128x64.Idx → Elt Ideal e) (g : Fin 4)
    (inb : ∀ a, (![0, g.val, 0, 0] : Fin 4 → Nat) a + S1x1x128x64.size a ≤ S1x4x128x64.size a) :
    View.ld X (Rect.unit (s := S1x4x128x64) ![0, g.val, 0, 0] S1x1x128x64.size inb) = grp X g := by
  funext x
  refine View.ld_unit_apply_of X _ _ inb x _ fun a => ?_
  have h0 : (x 0).val = 0 := Nat.lt_one_iff.mp (x 0).isLt
  have h1 : (x 1).val = 0 := Nat.lt_one_iff.mp (x 1).isLt
  match a with
  | ⟨0, _⟩ => show 0 = 0 + (x 0).val; omega
  | ⟨1, _⟩ => show g.val = g.val + (x 1).val; omega
  | ⟨2, _⟩ => show (x 2).val = 0 + (x 2).val; omega
  | ⟨3, _⟩ => show (x 3).val = 0 + (x 3).val; omega

theorem ld_grp1 {e : EltTy} (X : S1x4x128x1.Idx → Elt Ideal e) (g : Fin 4)
    (inb : ∀ a, (![0, g.val, 0, 0] : Fin 4 → Nat) a + S1x1x128x1.size a ≤ S1x4x128x1.size a) :
    View.ld X (Rect.unit (s := S1x4x128x1) ![0, g.val, 0, 0] S1x1x128x1.size inb) = grp1 X g := by
  funext x
  refine View.ld_unit_apply_of X _ _ inb x _ fun a => ?_
  have h0 : (x 0).val = 0 := Nat.lt_one_iff.mp (x 0).isLt
  have h1 : (x 1).val = 0 := Nat.lt_one_iff.mp (x 1).isLt
  have h3 : (x 3).val = 0 := Nat.lt_one_iff.mp (x 3).isLt
  match a with
  | ⟨0, _⟩ => show 0 = 0 + (x 0).val; omega
  | ⟨1, _⟩ => show g.val = g.val + (x 1).val; omega
  | ⟨2, _⟩ => show (x 2).val = 0 + (x 2).val; omega
  | ⟨3, _⟩ => show 0 = 0 + (x 3).val; omega

/-- Where a group's piece lies in the block. -/
theorem emb_grp (g : Fin 4) (inb : ∀ a, (![0, g.val, 0, 0] : Fin 4 → Nat) a + S1x1x128x64.size a ≤ S1x4x128x64.size a)
    (x : S1x1x128x64.Idx) :
    (Rect.unit (s := S1x4x128x64) ![0, g.val, 0, 0] S1x1x128x64.size inb).emb x = ix4 0 g (x 2) (x 3) := by
  have h0 : (x 0).val = 0 := Nat.lt_one_iff.mp (x 0).isLt
  have h1 : (x 1).val = 0 := Nat.lt_one_iff.mp (x 1).isLt
  funext a
  refine Fin.ext ?_
  rw [Rect.emb_apply]
  refine (Rect.idx_unit_val _ _ inb x a).trans ?_
  match a with
  | ⟨0, _⟩ => show 0 + (x 0).val = 0; omega
  | ⟨1, _⟩ => show g.val + (x 1).val = g.val; omega
  | ⟨2, _⟩ => show 0 + (x 2).val = (x 2).val; omega
  | ⟨3, _⟩ => show 0 + (x 3).val = (x 3).val; omega

theorem emb_grp1 (g : Fin 4) (inb : ∀ a, (![0, g.val, 0, 0] : Fin 4 → Nat) a + S1x1x128x1.size a ≤ S1x4x128x1.size a)
    (x : S1x1x128x1.Idx) :
    (Rect.unit (s := S1x4x128x1) ![0, g.val, 0, 0] S1x1x128x1.size inb).emb x = ix4 0 g (x 2) 0 := by
  have h0 : (x 0).val = 0 := Nat.lt_one_iff.mp (x 0).isLt
  have h1 : (x 1).val = 0 := Nat.lt_one_iff.mp (x 1).isLt
  have h3 : (x 3).val = 0 := Nat.lt_one_iff.mp (x 3).isLt
  funext a
  refine Fin.ext ?_
  rw [Rect.emb_apply]
  refine (Rect.idx_unit_val _ _ inb x a).trans ?_
  match a with
  | ⟨0, _⟩ => show 0 + (x 0).val = 0; omega
  | ⟨1, _⟩ => show g.val + (x 1).val = g.val; omega
  | ⟨2, _⟩ => show 0 + (x 2).val = (x 2).val; omega
  | ⟨3, _⟩ => show 0 + (x 3).val = 0; omega

theorem idx_grp (x : S1x1x128x64.Idx) : x = ix4 0 0 (x 2) (x 3) := by
  conv_lhs => rw [eq_ix4 x]
  rw [Fin.fin_one_eq_zero (x 0), Fin.fin_one_eq_zero (x 1)]
  rfl

theorem idx_grp1 (x : S1x1x128x1.Idx) : x = ix4 0 0 (x 2) 0 := by
  conv_lhs => rw [eq_ix4 x]
  rw [Fin.fin_one_eq_zero (x 0), Fin.fin_one_eq_zero (x 1), Fin.fin_one_eq_zero (x 3)]
  rfl

/-- The place of a group's sink among the sixteen. -/
def sinkIdx (h g : Fin 4) : S16.Idx := ix1 ⟨4 * h.val + g.val, by omega⟩

theorem sink_word : ∀ h g : Fin 4,
    (Scalar.indexCast (Scalar.addi (Scalar.muli (BitVec.ofNat 32 h.val) 4#32) (BitVec.ofNat 32 g.val))).toNat = 4 * h.val + g.val := by
  decide +kernel

theorem ld_sink (X : S16.Idx → Elt Ideal .f32) (h g : Fin 4) (off : Fin 1 → Nat)
    (ho : off = ![(Scalar.indexCast (Scalar.addi (Scalar.muli (BitVec.ofNat 32 h.val) 4#32) (BitVec.ofNat 32 g.val))).toNat])
    (inb : ∀ a, off a + S1.size a ≤ S16.size a) (x : S1.Idx) :
    View.ld X (Rect.unit (s := S16) off S1.size inb) x = X (sinkIdx h g) := by
  refine View.ld_unit_apply_of X _ _ inb x _ fun a => ?_
  have h0 : (x 0).val = 0 := Nat.lt_one_iff.mp (x 0).isLt
  match a with
  | ⟨0, _⟩ =>
    show 4 * h.val + g.val = off 0 + (x 0).val
    rw [ho]; show _ = (Scalar.indexCast _).toNat + _
    rw [sink_word, h0, Nat.add_zero]

variable (V : (c : Dev nD) → (b : Ref sig .tc) → Buf (Elt Ideal) ((c : Thread nD τ).loc b))

/-- What the blocks of one point hold, for the four groups' rows. -/
def Feeds0 (rows : Fin 4 → Fin 128 → Row) (c : Dev nD) (t : Fin cfg0.N) : Prop :=
  ∀ g, Feeds (rows g) (k0_pay2 (iblk0 V c 2 t) (iblk0 V c 3 t) (iblk0 V c 4 t))
    (k0_pay3 (iblk0 V c 5 t) (iblk0 V c 6 t) (iblk0 V c 7 t)) (k0_pay4 (grid0.coords t)) (grp (iblk0 V c 1 t) g)
    (iblk0 V c 8 t) (iblk0 V c 9 t) (iblk0 V c 0 t (sinkIdx (grid0.coords t 0) g))

variable {V}

/-- A group's outputs, as its piece. -/
theorem piece_o {rows : Fin 4 → Fin 128 → Row} {K W : FVec Ideal S384x64 .bf16} {M : IVec S128x384 1}
    {X : Vec Ideal S1x4x128x64 .bf16} {KC VC : Vec Ideal S1x256x64 .bf16} {sk : Elt Ideal .f32} {sk' : Elt Ideal .f32} (g : Fin 4)
    (h : Feeds (rows g) K W M (grp X g) KC VC sk) (hs : sk' = sk)
    (inb : ∀ a, (![0, g.val, 0, 0] : Fin 4 → Nat) a + S1x1x128x64.size a ≤ S1x4x128x64.size a)
    (Q : Vec Ideal S1x1x128x64 .bf16) (hQ : Q = View.ld X (Rect.unit (s := S1x4x128x64) ![0, g.val, 0, 0] S1x1x128x64.size inb))
    (x : S1x1x128x64.Idx) :
    k0_pay14 W (k0_pay10 K M Q KC sk') (k0_pay12 K M Q KC sk') (k0_pay13 K M Q KC sk') VC x
      = (fun y : S1x4x128x64.Idx => (((rows (y 1) (y 2)).O (y 3) : ℝ) : EReal))
          ((Rect.unit (s := S1x4x128x64) ![0, g.val, 0, 0] S1x1x128x64.size inb).emb x) := by
  rw [emb_grp, hQ, ld_grp, hs]
  conv_lhs => rw [idx_grp x]
  exact out_apply h _ _

theorem piece_l {rows : Fin 4 → Fin 128 → Row} {K W : FVec Ideal S384x64 .bf16} {M : IVec S128x384 1}
    {X : Vec Ideal S1x4x128x64 .bf16} {KC VC : Vec Ideal S1x256x64 .bf16} {sk : Elt Ideal .f32} {sk' : Elt Ideal .f32} (g : Fin 4)
    (h : Feeds (rows g) K W M (grp X g) KC VC sk) (hs : sk' = sk)
    (inb : ∀ a, (![0, g.val, 0, 0] : Fin 4 → Nat) a + S1x1x128x64.size a ≤ S1x4x128x64.size a)
    (inb' : ∀ a, (![0, g.val, 0, 0] : Fin 4 → Nat) a + S1x1x128x1.size a ≤ S1x4x128x1.size a)
    (Q : Vec Ideal S1x1x128x64 .bf16) (hQ : Q = View.ld X (Rect.unit (s := S1x4x128x64) ![0, g.val, 0, 0] S1x1x128x64.size inb))
    (x : S1x1x128x1.Idx) :
    k0_pay15 (k0_pay8 K M Q KC sk') (k0_pay11 K M Q KC sk') x
      = (fun y : S1x4x128x1.Idx => (((rows (y 1) (y 2)).lse : ℝ) : EReal))
          ((Rect.unit (s := S1x4x128x1) ![0, g.val, 0, 0] S1x1x128x1.size inb').emb x) := by
  rw [emb_grp1, hQ, ld_grp, hs]
  conv_lhs => rw [idx_grp1 x]
  exact lse_apply h _

theorem outs0_o {rows : Fin 4 → Fin 128 → Row} {c : Dev nD} {t : Fin cfg0.N} (hf : Feeds0 V rows c t)
    (y : S1x4x128x64.Idx) : (outsAt0 V c t).1 y = (((rows (y 1) (y 2)).O (y 3) : ℝ) : EReal) := by
  unfold outsAt0
  dsimp only
  unfold out0_A_10
  rw [View.read_writes_eq_canon _ _ _ (cover0_A_10 c _ _ _ _ _ _ _ _ _ _ _ _ _ _ _ _ _ _ _ _ _ _ _ _ _ _ _ _ _ _ _ _ _ _ _)]
  refine View.canon_apply_of_pieces (Val := Elt Ideal) (S := S1x4x128x64) (e := .f32)
    (fun y => (((rows (y 1) (y 2)).O (y 3) : ℝ) : EReal)) _ ?_ y
    (cover0_A_10 c _ _ _ _ _ _ _ _ _ _ _ _ _ _ _ _ _ _ _ _ _ _ _ _ _ _ _ _ _ _ _ _ _ _ _ y)
  frame_out
  simp only [List.forall_mem_cons, List.not_mem_nil, false_imp_iff, implies_true, and_true]
  refine ⟨?_, ?_, ?_, ?_⟩
  · exact piece_o 3 (hf 3) (ld_sink _ (grid0.coords t 0) 3 _ rfl _ _) _ _ rfl
  · exact piece_o 2 (hf 2) (ld_sink _ (grid0.coords t 0) 2 _ rfl _ _) _ _ rfl
  · exact piece_o 1 (hf 1) (ld_sink _ (grid0.coords t 0) 1 _ rfl _ _) _ _ rfl
  · exact piece_o 0 (hf 0) (ld_sink _ (grid0.coords t 0) 0 _ rfl _ _) _ _ rfl

theorem outs0_lse {rows : Fin 4 → Fin 128 → Row} {c : Dev nD} {t : Fin cfg0.N} (hf : Feeds0 V rows c t)
    (y : S1x4x128x1.Idx) : (outsAt0 V c t).2 y = (((rows (y 1) (y 2)).lse : ℝ) : EReal) := by
  unfold outsAt0
  dsimp only
  unfold out0_A_11
  rw [View.read_writes_eq_canon _ _ _ (cover0_A_11 c _ _ _ _ _ _ _ _ _ _ _ _ _ _ _ _ _ _ _ _ _ _ _ _ _ _ _ _ _ _ _ _ _ _ _)]
  refine View.canon_apply_of_pieces (Val := Elt Ideal) (S := S1x4x128x1) (e := .f32)
    (fun y => (((rows (y 1) (y 2)).lse : ℝ) : EReal)) _ ?_ y
    (cover0_A_11 c _ _ _ _ _ _ _ _ _ _ _ _ _ _ _ _ _ _ _ _ _ _ _ _ _ _ _ _ _ _ _ _ _ _ _ y)
  frame_out
  simp only [List.forall_mem_cons, List.not_mem_nil, false_imp_iff, implies_true, and_true]
  refine ⟨?_, ?_, ?_, ?_⟩
  · exact piece_l 3 (hf 3) (ld_sink _ (grid0.coords t 0) 3 _ rfl _ _) _ _ _ rfl
  · exact piece_l 2 (hf 2) (ld_sink _ (grid0.coords t 0) 2 _ rfl _ _) _ _ _ rfl
  · exact piece_l 1 (hf 1) (ld_sink _ (grid0.coords t 0) 1 _ rfl _ _) _ _ _ rfl
  · exact piece_l 0 (hf 0) (ld_sink _ (grid0.coords t 0) 0 _ rfl _ _) _ _ _ rfl

end Cert.KernelIdeal.Fwd

end
-- ==== Proof.Block1.lean ====
/- What the backward call over the query blocks leaves in its four output blocks at one point of its grid: the queries'
   gradients, and the sums over the query blocks so far. -/
module

public import proofs.«01_k».proof.Proof.BwdQ
public import proofs.«01_k».proof.Proof.Block0
public import proofs.«01_k».proof.Proof.Gen.KernelIdeal.Frame.Region1
import Idealize.ShloMosaic.Lib.Pipeline.ValueKit.Acc
import Idealize.ShloMosaic.Lib.Pipeline.ValueKit.Tiles

@[expose] public section

set_option maxRecDepth 16384

noncomputable section

namespace Cert.KernelIdeal.BwdQ

open Idealize.ShloMosaic Idealize.ShloMosaic.TcCoe Cert.Attn Cert.KernelIdeal Cert.KernelIdeal.Gen Cert.KernelIdeal.Fwd

/-- Group `g` of a block of query rows, as the call loads it. -/
theorem inb_q (g : Fin 4) (a : Fin 4) : (![0, g.val, 0, 0] : Fin 4 → Nat) a + S1x1x128x64.size a ≤ S1x4x128x64.size a := by
  match a with
  | ⟨0, _⟩ => show 0 + 1 ≤ 1; omega
  | ⟨1, _⟩ => show g.val + 1 ≤ 4; omega
  | ⟨2, _⟩ => show 0 + 128 ≤ 128; omega
  | ⟨3, _⟩ => show 0 + 64 ≤ 64; omega
theorem inb_l (g : Fin 4) (a : Fin 4) : (![0, g.val, 0, 0] : Fin 4 → Nat) a + S1x1x128x1.size a ≤ S1x4x128x1.size a := by
  match a with
  | ⟨0, _⟩ => show 0 + 1 ≤ 1; omega
  | ⟨1, _⟩ => show g.val + 1 ≤ 4; omega
  | ⟨2, _⟩ => show 0 + 128 ≤ 128; omega
  | ⟨3, _⟩ => show 0 + 1 ≤ 1; omega

def ldq {e : EltTy} (X : S1x4x128x64.Idx → Elt Ideal e) (g : Fin 4) : S1x1x128x64.Idx → Elt Ideal e :=
  View.ld X (Rect.unit (s := S1x4x128x64) ![0, g.val, 0, 0] S1x1x128x64.size (inb_q g))
def ldl {e : EltTy} (X : S1x4x128x1.Idx → Elt Ideal e) (g : Fin 4) : S1x1x128x1.Idx → Elt Ideal e :=
  View.ld X (Rect.unit (s := S1x4x128x1) ![0, g.val, 0, 0] S1x1x128x1.size (inb_l g))

theorem ldq_apply {e : EltTy} (X : S1x4x128x64.Idx → Elt Ideal e) (g : Fin 4) (i : Fin 128) (d : Fin 64) :
    ldq X g (ix4 0 0 i d) = X (ix4 0 g i d) := congrFun (ld_grp X g (inb_q g)) _
theorem ldl_apply {e : EltTy} (X : S1x4x128x1.Idx → Elt Ideal e) (g : Fin 4) (i : Fin 128) :
    ldl X g (ix4 0 0 i 0) = X (ix4 0 g i 0) := congrFun (ld_grp1 X g (inb_l g)) _

/-- The sink's score of group `g`, as the call loads it. -/
def ldsk (X : S16.Idx → Elt Ideal .f32) (i : grid1.Coords) (g : Fin 4) : Elt Ideal .f32 :=
  View.ld X (Rect.unit (s := S16) (k1_off1 i (BitVec.ofNat 32 g.val)) S1.size (k1_off1_inb i g)) (Shape.Idx.first (s := S1) (by decide))

theorem ldsk_eq (X : S16.Idx → Elt Ideal .f32) (i : grid1.Coords) (g : Fin 4) : ldsk X i g = X (sinkIdx (i 0) g) :=
  ld_sink X (i 0) g _ rfl _ _

variable (V : (c : Dev nD) → (b : Ref sig .tc) → Buf (Elt Ideal) ((c : Thread nD τ).loc b))

/-- What the blocks of one point hold, for the four groups' rows. -/
structure Feeds1 (rows : Fin 4 → Fin 128 → Row) (c : Dev nD) (t : Fin cfg1.N) : Prop where
  f : ∀ g, Feeds (rows g) (k1_pay5 (iblk1 V c 2 t) (iblk1 V c 3 t) (iblk1 V c 4 t))
    (k1_pay6 (iblk1 V c 5 t) (iblk1 V c 6 t) (iblk1 V c 7 t)) (k1_pay9 (k1_pay7 (grid1.coords t)) (k1_pay8 (grid1.coords t)))
    (ldq (iblk1 V c 1 t) g) (iblk1 V c 8 t) (iblk1 V c 9 t) (ldsk (iblk1 V c 0 t) (grid1.coords t) g)
  f' : ∀ g, Feeds' (rows g) (ldq (iblk1 V c 11 t) g) (ldq (iblk1 V c 10 t) g) (ldl (iblk1 V c 12 t) g)

variable {V} {rows : Fin 4 → Fin 128 → Row} {c : Dev nD} {t : Fin cfg1.N} (hf : Feeds1 V rows c t)

include hf

/-- A group's piece of the queries' gradients. -/
theorem piece_dq (g : Fin 4) (x : S1x1x128x64.Idx) :
    k1_pay19 (k1_pay5 (iblk1 V c 2 t) (iblk1 V c 3 t) (iblk1 V c 4 t)) (k1_pay11 (ldq (iblk1 V c 11 t) g))
        (k1_pay13 (ldq (iblk1 V c 11 t) g) (ldq (iblk1 V c 10 t) g))
        (k1_pay14 (k1_pay5 (iblk1 V c 2 t) (iblk1 V c 3 t) (iblk1 V c 4 t)) (k1_pay7 (grid1.coords t)) (k1_pay8 (grid1.coords t))
          (ldq (iblk1 V c 1 t) g) (ldl (iblk1 V c 12 t) g))
        (k1_pay15 (ldq (iblk1 V c 1 t) g) (ldl (iblk1 V c 12 t) g) (iblk1 V c 8 t))
        (k1_pay16 (k1_pay6 (iblk1 V c 5 t) (iblk1 V c 6 t) (iblk1 V c 7 t)) (ldq (iblk1 V c 11 t) g))
        (k1_pay17 (ldq (iblk1 V c 11 t) g) (ldq (iblk1 V c 10 t) g)) (iblk1 V c 9 t) (iblk1 V c 8 t) x
      = (fun y : S1x4x128x64.Idx => (((rows (y 1) (y 2)).dq (y 3) : ℝ) : EReal))
          ((Rect.unit (s := S1x4x128x64) ![0, g.val, 0, 0] S1x1x128x64.size (inb_q g)).emb x) := by
  rw [emb_grp]
  conv_lhs => rw [idx_grp x]
  exact dq_apply (hf.f g) (hf.f' g) _ _

theorem outs1_dq (y : S1x4x128x64.Idx) :
    (outsAt1 V c t.val t.isLt).1 y = (((rows (y 1) (y 2)).dq (y 3) : ℝ) : EReal) := by
  by_cases h0 : t.val % 16 = 0
  · rw [outsAt1_A V c t h0]
    dsimp only
    unfold out1_A_13
    rw [View.read_writes_eq_canon _ _ _ (cover1_A_13 c _ _ _ _ _ _ _ _ _ _ _ _ _ _ _ _ _ _ _ _ _ _ _ _ _ _ _ _ _ _ _ _ _ _ _ _ _ _ _ _ _ _ _ _ _ _ _ _ _)]
    refine View.canon_apply_of_pieces (Val := Elt Ideal) (S := S1x4x128x64) (e := .f32)
      (fun y => (((rows (y 1) (y 2)).dq (y 3) : ℝ) : EReal)) _ ?_ y
      (cover1_A_13 c _ _ _ _ _ _ _ _ _ _ _ _ _ _ _ _ _ _ _ _ _ _ _ _ _ _ _ _ _ _ _ _ _ _ _ _ _ _ _ _ _ _ _ _ _ _ _ _ _ y)
    frame_out
    simp only [List.forall_mem_cons, List.not_mem_nil, false_imp_iff, implies_true, and_true]
    exact ⟨piece_dq hf 3, piece_dq hf 2, piece_dq hf 1, piece_dq hf 0⟩
  · rw [outsAt1_B V c t h0]
    dsimp only
    unfold out1_B_13
    rw [View.read_writes_eq_canon _ _ _ (cover1_B_13 c _ _ _ _ _ _ _ _ _ _ _ _ _ _ _ _ _ _ _ _ _ _ _ _ _ _ _ _ _ _ _ _ _ _ _ _ _ _ _ _ _ _ _ _ _ _ _ _ _ _ _ _)]
    refine View.canon_apply_of_pieces (Val := Elt Ideal) (S := S1x4x128x64) (e := .f32)
      (fun y => (((rows (y 1) (y 2)).dq (y 3) : ℝ) : EReal)) _ ?_ y
      (cover1_B_13 c _ _ _ _ _ _ _ _ _ _ _ _ _ _ _ _ _ _ _ _ _ _ _ _ _ _ _ _ _ _ _ _ _ _ _ _ _ _ _ _ _ _ _ _ _ _ _ _ _ _ _ _ y)
    frame_out
    simp only [List.forall_mem_cons, List.not_mem_nil, false_imp_iff, implies_true, and_true]
    exact ⟨piece_dq hf 3, piece_dq hf 2, piece_dq hf 1, piece_dq hf 0⟩

/-- One group's share of the sums of the kept-context gradients. -/
def ctxK (rows : Fin 4 → Fin 128 → Row) (g : Fin 4) (x : Fin 256) (d : Fin 64) : ℝ :=
  (∑ i, (rows g i).dsc x * (rows g i).q d) * (1/8)
def ctxV (rows : Fin 4 → Fin 128 → Row) (g : Fin 4) (x : Fin 256) (d : Fin 64) : ℝ :=
  ∑ i, (rows g i).PC x * (rows g i).dO d

theorem outs1_dkc_A (h0 : t.val % 16 = 0) (x : Fin 256) (d : Fin 64) :
    (outsAt1 V c t.val t.isLt).2.1 (ix3 0 x d)
      = ((0 + ctxK rows 0 x d + ctxK rows 1 x d + ctxK rows 2 x d + ctxK rows 3 x d : ℝ) : EReal) := by
  rw [outsAt1_A V c t h0]
  dsimp only
  unfold out1_A_14
  rw [View.read_writes_eq_canon _ _ _ (cover1_A_14 c _ _ _ _ _ _ _ _ _ _ _ _ _ _ _ _ _ _ _ _ _ _ _ _ _ _ _ _ _ _ _ _ _ _ _ _ _ _ _ _ _ _ _ _ _ _ _ _ _)]
  frame_out
  have hz : ∀ x d, k1_pay2 (F := Ideal) (ix3 0 x d) = (((fun _ _ => 0 : Fin 256 → Fin 64 → ℝ) x d : ℝ) : EReal) :=
    fun x d => by pointwise [k1_pay2]; rfl
  exact dkc_apply (hf.f 3) (hf.f' 3) (dkc_apply (hf.f 2) (hf.f' 2) (dkc_apply (hf.f 1) (hf.f' 1)
    (dkc_apply (hf.f 0) (hf.f' 0) hz))) x d

theorem outs1_dkc_B (h0 : ¬ t.val % 16 = 0) (p : Fin 256 → Fin 64 → ℝ)
    (hp : ∀ x d, (outsAt1 V c (t.val - 1) (Nat.lt_of_le_of_lt (Nat.sub_le _ _) t.isLt)).2.1 (ix3 0 x d) = ((p x d : ℝ) : EReal))
    (x : Fin 256) (d : Fin 64) :
    (outsAt1 V c t.val t.isLt).2.1 (ix3 0 x d)
      = ((p x d + ctxK rows 0 x d + ctxK rows 1 x d + ctxK rows 2 x d + ctxK rows 3 x d : ℝ) : EReal) := by
  rw [outsAt1_B V c t h0]
  dsimp only
  unfold out1_B_14
  rw [View.read_writes_eq_canon _ _ _ (cover1_B_14 c _ _ _ _ _ _ _ _ _ _ _ _ _ _ _ _ _ _ _ _ _ _ _ _ _ _ _ _ _ _ _ _ _ _ _ _ _ _ _ _ _ _ _ _ _ _ _ _ _ _ _ _)]
  frame_out
  exact dkc_apply (hf.f 3) (hf.f' 3) (dkc_apply (hf.f 2) (hf.f' 2) (dkc_apply (hf.f 1) (hf.f' 1)
    (dkc_apply (hf.f 0) (hf.f' 0) hp))) x d

theorem outs1_dvc_A (h0 : t.val % 16 = 0) (x : Fin 256) (d : Fin 64) :
    (outsAt1 V c t.val t.isLt).2.2.1 (ix3 0 x d)
      = ((0 + ctxV rows 0 x d + ctxV rows 1 x d + ctxV rows 2 x d + ctxV rows 3 x d : ℝ) : EReal) := by
  rw [outsAt1_A V c t h0]
  dsimp only
  unfold out1_A_15
  rw [View.read_writes_eq_canon _ _ _ (cover1_A_15 c _ _ _ _ _ _ _ _ _ _ _ _ _ _ _ _ _ _ _ _ _ _ _ _ _ _ _ _ _ _ _ _ _ _ _ _ _ _ _ _ _ _ _ _ _ _ _ _ _)]
  frame_out
  have hz : ∀ x d, k1_pay3 (F := Ideal) (ix3 0 x d) = (((fun _ _ => 0 : Fin 256 → Fin 64 → ℝ) x d : ℝ) : EReal) :=
    fun x d => by pointwise [k1_pay3]; rfl
  exact dvc_apply (hf.f 3) (hf.f' 3) (dvc_apply (hf.f 2) (hf.f' 2) (dvc_apply (hf.f 1) (hf.f' 1)
    (dvc_apply (hf.f 0) (hf.f' 0) hz))) x d

theorem outs1_dvc_B (h0 : ¬ t.val % 16 = 0) (p : Fin 256 → Fin 64 → ℝ)
    (hp : ∀ x d, (outsAt1 V c (t.val - 1) (Nat.lt_of_le_of_lt (Nat.sub_le _ _) t.isLt)).2.2.1 (ix3 0 x d) = ((p x d : ℝ) : EReal))
    (x : Fin 256) (d : Fin 64) :
    (outsAt1 V c t.val t.isLt).2.2.1 (ix3 0 x d)
      = ((p x d + ctxV rows 0 x d + ctxV rows 1 x d + ctxV rows 2 x d + ctxV rows 3 x d : ℝ) : EReal) := by
  rw [outsAt1_B V c t h0]
  dsimp only
  unfold out1_B_15
  rw [View.read_writes_eq_canon _ _ _ (cover1_B_15 c _ _ _ _ _ _ _ _ _ _ _ _ _ _ _ _ _ _ _ _ _ _ _ _ _ _ _ _ _ _ _ _ _ _ _ _ _ _ _ _ _ _ _ _ _ _ _ _ _ _ _ _)]
  frame_out
  exact dvc_apply (hf.f 3) (hf.f' 3) (dvc_apply (hf.f 2) (hf.f' 2) (dvc_apply (hf.f 1) (hf.f' 1)
    (dvc_apply (hf.f 0) (hf.f' 0) hp))) x d

end Cert.KernelIdeal.BwdQ

end
-- ==== Proof.Block2.lean ====
/- What the backward call over the key blocks leaves in its two output blocks at one point of its grid: the gradients of
   the block's keys and values, summed over the query blocks that see them and over the groups. -/
module

public import proofs.«01_k».proof.Proof.Mask
public import proofs.«01_k».proof.Proof.Block1
public import proofs.«01_k».proof.Proof.Gen.KernelIdeal.Frame.Region2
import Idealize.ShloMosaic.Lib.Pipeline.ValueKit.Acc
import Idealize.ShloMosaic.Lib.Pipeline.ValueKit.Tiles

@[expose] public section

set_option maxRecDepth 16384

noncomputable section

namespace Cert.KernelIdeal.BwdKV

open Idealize.ShloMosaic Idealize.ShloMosaic.TcCoe Cert.Attn Cert.KernelIdeal Cert.KernelIdeal.Gen Cert.KernelIdeal.Fwd
  Cert.KernelIdeal.BwdQ Cert.KernelIdeal.Mask

variable (V : (c : Dev nD) → (b : Ref sig .tc) → Buf (Elt Ideal) ((c : Thread nD τ).loc b))

/-- What the blocks of one point hold, for the rows of slot `s` and group `g`. -/
structure Feeds2 (rows : Fin 3 → Fin 4 → Fin 128 → Row) (kr vr : Fin 128 → Fin 64 → ℝ) (c : Dev nD) (t : Fin cfg2.N) : Prop where
  f0 : ∀ g, FeedsK (rows 0 g) (live (grid2.coords t 1).val 0) (place3 0) (k2_pay2 (iblk2 V c 12 t)) (k2_pay3 (iblk2 V c 13 t))
    (mask (grid2.coords t) 0) (ldq (iblk2 V c 0 t) g) kr vr
  f1 : ∀ g, FeedsK (rows 1 g) (live (grid2.coords t 1).val 1) (place3 1) (k2_pay2 (iblk2 V c 12 t)) (k2_pay3 (iblk2 V c 13 t))
    (mask (grid2.coords t) 1) (ldq (iblk2 V c 1 t) g) kr vr
  f2 : ∀ g, FeedsK (rows 2 g) (live (grid2.coords t 1).val 2) (place3 2) (k2_pay2 (iblk2 V c 12 t)) (k2_pay3 (iblk2 V c 13 t))
    (mask (grid2.coords t) 2) (ldq (iblk2 V c 2 t) g) kr vr
  f0' : ∀ g, Feeds' (rows 0 g) (ldq (iblk2 V c 3 t) g) (ldq (iblk2 V c 6 t) g) (ldl (iblk2 V c 9 t) g)
  f1' : ∀ g, Feeds' (rows 1 g) (ldq (iblk2 V c 4 t) g) (ldq (iblk2 V c 7 t) g) (ldl (iblk2 V c 10 t) g)
  f2' : ∀ g, Feeds' (rows 2 g) (ldq (iblk2 V c 5 t) g) (ldq (iblk2 V c 8 t) g) (ldl (iblk2 V c 11 t) g)

/-- One slot's and group's share of the gradients of key `k` of block `j`. -/
def keyK (rows : Fin 3 → Fin 4 → Fin 128 → Row) (j : Nat) (s : Fin 3) (g : Fin 4) (k : Fin 128) (d : Fin 64) : ℝ :=
  if live j s then (∑ i, (rows s g i).ds (place3 s k) * (rows s g i).q d) * (1 / 8) else 0
def keyV (rows : Fin 3 → Fin 4 → Fin 128 → Row) (j : Nat) (s : Fin 3) (g : Fin 4) (k : Fin 128) (d : Fin 64) : ℝ :=
  if live j s then ∑ i, (rows s g i).P (place3 s k) * (rows s g i).dO d else 0

theorem pay1_of {X : FVec Ideal S128x64 .f32} {a : ℝ} {k : Fin 128} {d : Fin 64} (h : X (ix2 k d) = (a : EReal)) :
    k2_pay1 X (ix3 0 k d) = (a : EReal) := by
  rw [← h]; pointwise [k2_pay1]

variable {V} {rows : Fin 3 → Fin 4 → Fin 128 → Row} {kr vr : Fin 128 → Fin 64 → ℝ} {c : Dev nD} {t : Fin cfg2.N}
  (hf : Feeds2 V rows kr vr c t)

include hf

theorem after2_dk (k : Fin 128) (d : Fin 64) :
    (dat2 V c).after 14 t (ix3 0 k d)
      = ((∑ s, ∑ g, keyK rows (grid2.coords t 1).val s g k d : ℝ) : EReal) := by
  rw [after2_14]
  unfold_out out2_14
  frame_out
  have h0 : ∀ k d, k2_pay4 (F := Ideal) (ix2 k d) = (((fun _ _ => 0 : Fin 128 → Fin 64 → ℝ) k d : ℝ) : EReal) :=
    fun k d => by pointwise [k2_pay4]; rfl
  have a0 := dk_apply (hf.f0 3) (hf.f0' 3) (dk_apply (hf.f0 2) (hf.f0' 2) (dk_apply (hf.f0 1) (hf.f0' 1) (dk_apply (hf.f0 0) (hf.f0' 0) h0)))
  have a1 := dk_apply (hf.f1 3) (hf.f1' 3) (dk_apply (hf.f1 2) (hf.f1' 2) (dk_apply (hf.f1 1) (hf.f1' 1) (dk_apply (hf.f1 0) (hf.f1' 0) a0)))
  have a2 := dk_apply (hf.f2 3) (hf.f2' 3) (dk_apply (hf.f2 2) (hf.f2' 2) (dk_apply (hf.f2 1) (hf.f2' 1) (dk_apply (hf.f2 0) (hf.f2' 0) a1))) k d
  refine Eq.trans (pay1_of a2 :) (congrArg _ ?_)
  simp only [Fin.sum_univ_three, Fin.sum_univ_four, keyK]
  ring

theorem after2_dv (k : Fin 128) (d : Fin 64) :
    (dat2 V c).after 15 t (ix3 0 k d)
      = ((∑ s, ∑ g, keyV rows (grid2.coords t 1).val s g k d : ℝ) : EReal) := by
  rw [after2_15]
  unfold_out out2_15
  frame_out
  have h0 : ∀ k d, k2_pay5 (F := Ideal) (ix2 k d) = (((fun _ _ => 0 : Fin 128 → Fin 64 → ℝ) k d : ℝ) : EReal) :=
    fun k d => by pointwise [k2_pay5]; rfl
  have a0 := dv_apply (hf.f0 3) (hf.f0' 3) (dv_apply (hf.f0 2) (hf.f0' 2) (dv_apply (hf.f0 1) (hf.f0' 1) (dv_apply (hf.f0 0) (hf.f0' 0) h0)))
  have a1 := dv_apply (hf.f1 3) (hf.f1' 3) (dv_apply (hf.f1 2) (hf.f1' 2) (dv_apply (hf.f1 1) (hf.f1' 1) (dv_apply (hf.f1 0) (hf.f1' 0) a0)))
  have a2 := dv_apply (hf.f2 3) (hf.f2' 3) (dv_apply (hf.f2 2) (hf.f2' 2) (dv_apply (hf.f2 1) (hf.f2' 1) (dv_apply (hf.f2 0) (hf.f2' 0) a1))) k d
  refine Eq.trans (pay1_of a2 :) (congrArg _ ?_)
  simp only [Fin.sum_univ_three, Fin.sum_univ_four, keyV]
  ring

end Cert.KernelIdeal.BwdKV

end
-- ==== Proof.Place.lean ====
/- Where the calls' blocks lie in their arrays: the point of the grid is a head `h` and a block `n` of 128 rows. -/
module

public import proofs.«01_k».proof.Proof.Block2

@[expose] public section

set_option maxRecDepth 16384

noncomputable section

namespace Cert.KernelIdeal.Place

open Idealize.ShloMosaic Idealize.ShloMosaic.TcCoe Cert.Attn Cert.KernelIdeal Cert.KernelIdeal.Gen

variable (V : (c : Dev nD) → (b : Ref sig .tc) → Buf (Elt Ideal) ((c : Thread nD τ).loc b))

/-- Row `i` of block `n`. -/
def row (n : Fin 16) (i : Fin 128) : Fin 2048 := ⟨n.val * 128 + i.val, by omega⟩
/-- The three blocks around block `n`; past an end, the end. -/
def nbr (n : Fin 16) (s : Fin 3) : Fin 16 := ⟨min (n.val + s.val - 1) 15, by omega⟩

/-! Call 0. -/

/-- The point's head, -/
def hd0 (t : Fin grid0.N) : Fin 4 := grid0.coords t 0
/-- and its block. -/
def nb0 (t : Fin grid0.N) : Fin 16 := grid0.coords t 1
/-- The point of head `h` and block `n`. -/
def pt0 (h : Fin 4) (n : Fin 16) : Fin grid0.N := ⟨h.val * 16 + n.val, Nat.lt_of_lt_of_eq (by omega : h.val * 16 + n.val < 64) (by decide)⟩
theorem hd0_pt : ∀ h n, hd0 (pt0 h n) = h := by decide +kernel
theorem nb0_pt : ∀ h n, nb0 (pt0 h n) = n := by decide +kernel
theorem mod0 : ∀ t : Fin grid0.N, t.val % 16 = (nb0 t).val := by decide +kernel
theorem div0 : ∀ t : Fin grid0.N, t.val = (hd0 t).val * 16 + (nb0 t).val := by decide +kernel

theorem index0 : ∀ t : Fin grid0.N,
    (∀ a, win0_0.index t a = 0) ∧
    (∀ a, win0_1.index t a = (![(hd0 t).val, 0, (nb0 t).val, 0] : Fin 4 → Nat) a) ∧
    (∀ a, win0_2.index t a = (![(hd0 t).val, (nbr (nb0 t) 0).val, 0] : Fin 3 → Nat) a) ∧
    (∀ a, win0_3.index t a = (![(hd0 t).val, (nbr (nb0 t) 1).val, 0] : Fin 3 → Nat) a) ∧
    (∀ a, win0_4.index t a = (![(hd0 t).val, (nbr (nb0 t) 2).val, 0] : Fin 3 → Nat) a) ∧
    (∀ a, win0_5.index t a = (![(hd0 t).val, (nbr (nb0 t) 0).val, 0] : Fin 3 → Nat) a) ∧
    (∀ a, win0_6.index t a = (![(hd0 t).val, (nbr (nb0 t) 1).val, 0] : Fin 3 → Nat) a) ∧
    (∀ a, win0_7.index t a = (![(hd0 t).val, (nbr (nb0 t) 2).val, 0] : Fin 3 → Nat) a) ∧
    (∀ a, win0_8.index t a = (![(hd0 t).val, 0, 0] : Fin 3 → Nat) a) ∧
    (∀ a, win0_9.index t a = (![(hd0 t).val, 0, 0] : Fin 3 → Nat) a) ∧
    (∀ a, win0_10.index t a = (![(hd0 t).val, 0, (nb0 t).val, 0] : Fin 4 → Nat) a) ∧
    (∀ a, win0_11.index t a = (![(hd0 t).val, 0, (nb0 t).val, 0] : Fin 4 → Nat) a) := by decide +kernel

theorem place0_0 (t : Fin cfg0.N) (x : Fin 16) : (win0_0.rect t).emb (ix1 x : S16.Idx) = (ix1 x : S16.Idx) := by
  refine funext fun a => Fin.ext ?_
  refine (win0_0.rect_emb_val t _ a).trans ?_
  rw [(index0 t).1 a]
  match a with
  | ⟨0, _⟩ => show 0 * 16 + x.val = x.val; omega
theorem read0_0 (c : Dev nD) (t : Fin cfg0.N) (x : Fin 16) : iblk0 V c 0 t (ix1 x : S16.Idx) = V c main_arg5 (ix1 x : S16.Idx) := by
  show V c main_arg5 ((win0_0.rect t).emb _) = _
  rw [place0_0]

theorem place0_1 (t : Fin cfg0.N) (g : Fin 4) (i : Fin 128) (d : Fin 64) : (win0_1.rect t).emb (ix4 0 g i d : S1x4x128x64.Idx) = (ix4 (hd0 t) g (row (nb0 t) i) d : S4x4x2048x64.Idx) := by
  refine funext fun a => Fin.ext ?_
  refine (win0_1.rect_emb_val t _ a).trans ?_
  rw [(index0 t).2.1 a]
  match a with
  | ⟨0, _⟩ => show (hd0 t).val * 1 + 0 = (hd0 t).val; omega
  | ⟨1, _⟩ => show 0 * 4 + g.val = g.val; omega
  | ⟨2, _⟩ => rfl
  | ⟨3, _⟩ => show 0 * 64 + d.val = d.val; omega
theorem read0_1 (c : Dev nD) (t : Fin cfg0.N) (g : Fin 4) (i : Fin 128) (d : Fin 64) : iblk0 V c 1 t (ix4 0 g i d : S1x4x128x64.Idx) = V c main_v2 (ix4 (hd0 t) g (row (nb0 t) i) d : S4x4x2048x64.Idx) := by
  show V c main_v2 ((win0_1.rect t).emb _) = _
  rw [place0_1]

theorem place0_2 (t : Fin cfg0.N) (i : Fin 128) (d : Fin 64) : (win0_2.rect t).emb (ix3 0 i d : S1x128x64.Idx) = (ix3 (hd0 t) (row (nbr (nb0 t) 0) i) d : S4x2048x64.Idx) := by
  refine funext fun a => Fin.ext ?_
  refine (win0_2.rect_emb_val t _ a).trans ?_
  rw [(index0 t).2.2.1 a]
  match a with
  | ⟨0, _⟩ => show (hd0 t).val * 1 + 0 = (hd0 t).val; omega
  | ⟨1, _⟩ => rfl
  | ⟨2, _⟩ => show 0 * 64 + d.val = d.val; omega
theorem read0_2 (c : Dev nD) (t : Fin cfg0.N) (i : Fin 128) (d : Fin 64) : iblk0 V c 2 t (ix3 0 i d : S1x128x64.Idx) = V c main_v4 (ix3 (hd0 t) (row (nbr (nb0 t) 0) i) d : S4x2048x64.Idx) := by
  show V c main_v4 ((win0_2.rect t).emb _) = _
  rw [place0_2]

theorem place0_3 (t : Fin cfg0.N) (i : Fin 128) (d : Fin 64) : (win0_3.rect t).emb (ix3 0 i d : S1x128x64.Idx) = (ix3 (hd0 t) (row (nbr (nb0 t) 1) i) d : S4x2048x64.Idx) := by
  refine funext fun a => Fin.ext ?_
  refine (win0_3.rect_emb_val t _ a).trans ?_
  rw [(index0 t).2.2.2.1 a]
  match a with
  | ⟨0, _⟩ => show (hd0 t).val * 1 + 0 = (hd0 t).val; omega
  | ⟨1, _⟩ => rfl
  | ⟨2, _⟩ => show 0 * 64 + d.val = d.val; omega
theorem read0_3 (c : Dev nD) (t : Fin cfg0.N) (i : Fin 128) (d : Fin 64) : iblk0 V c 3 t (ix3 0 i d : S1x128x64.Idx) = V c main_v4 (ix3 (hd0 t) (row (nbr (nb0 t) 1) i) d : S4x2048x64.Idx) := by
  show V c main_v4 ((win0_3.rect t).emb _) = _
  rw [place0_3]

theorem place0_4 (t : Fin cfg0.N) (i : Fin 128) (d : Fin 64) : (win0_4.rect t).emb (ix3 0 i d : S1x128x64.Idx) = (ix3 (hd0 t) (row (nbr (nb0 t) 2) i) d : S4x2048x64.Idx) := by
  refine funext fun a => Fin.ext ?_
  refine (win0_4.rect_emb_val t _ a).trans ?_
  rw [(index0 t).2.2.2.2.1 a]
  match a with
  | ⟨0, _⟩ => show (hd0 t).val * 1 + 0 = (hd0 t).val; omega
  | ⟨1, _⟩ => rfl
  | ⟨2, _⟩ => show 0 * 64 + d.val = d.val; omega
theorem read0_4 (c : Dev nD) (t : Fin cfg0.N) (i : Fin 128) (d : Fin 64) : iblk0 V c 4 t (ix3 0 i d : S1x128x64.Idx) = V c main_v4 (ix3 (hd0 t) (row (nbr (nb0 t) 2) i) d : S4x2048x64.Idx) := by
  show V c main_v4 ((win0_4.rect t).emb _) = _
  rw [place0_4]

theorem place0_5 (t : Fin cfg0.N) (i : Fin 128) (d : Fin 64) : (win0_5.rect t).emb (ix3 0 i d : S1x128x64.Idx) = (ix3 (hd0 t) (row (nbr (nb0 t) 0) i) d : S4x2048x64.Idx) := by
  refine funext fun a => Fin.ext ?_
  refine (win0_5.rect_emb_val t _ a).trans ?_
  rw [(index0 t).2.2.2.2.2.1 a]
  match a with
  | ⟨0, _⟩ => show (hd0 t).val * 1 + 0 = (hd0 t).val; omega
  | ⟨1, _⟩ => rfl
  | ⟨2, _⟩ => show 0 * 64 + d.val = d.val; omega
theorem read0_5 (c : Dev nD) (t : Fin cfg0.N) (i : Fin 128) (d : Fin 64) : iblk0 V c 5 t (ix3 0 i d : S1x128x64.Idx) = V c main_v6 (ix3 (hd0 t) (row (nbr (nb0 t) 0) i) d : S4x2048x64.Idx) := by
  show V c main_v6 ((win0_5.rect t).emb _) = _
  rw [place0_5]

theorem place0_6 (t : Fin cfg0.N) (i : Fin 128) (d : Fin 64) : (win0_6.rect t).emb (ix3 0 i d : S1x128x64.Idx) = (ix3 (hd0 t) (row (nbr (nb0 t) 1) i) d : S4x2048x64.Idx) := by
  refine funext fun a => Fin.ext ?_
  refine (win0_6.rect_emb_val t _ a).trans ?_
  rw [(index0 t).2.2.2.2.2.2.1 a]
  match a with
  | ⟨0, _⟩ => show (hd0 t).val * 1 + 0 = (hd0 t).val; omega
  | ⟨1, _⟩ => rfl
  | ⟨2, _⟩ => show 0 * 64 + d.val = d.val; omega
theorem read0_6 (c : Dev nD) (t : Fin cfg0.N) (i : Fin 128) (d : Fin 64) : iblk0 V c 6 t (ix3 0 i d : S1x128x64.Idx) = V c main_v6 (ix3 (hd0 t) (row (nbr (nb0 t) 1) i) d : S4x2048x64.Idx) := by
  show V c main_v6 ((win0_6.rect t).emb _) = _
  rw [place0_6]

theorem place0_7 (t : Fin cfg0.N) (i : Fin 128) (d : Fin 64) : (win0_7.rect t).emb (ix3 0 i d : S1x128x64.Idx) = (ix3 (hd0 t) (row (nbr (nb0 t) 2) i) d : S4x2048x64.Idx) := by
  refine funext fun a => Fin.ext ?_
  refine (win0_7.rect_emb_val t _ a).trans ?_
  rw [(index0 t).2.2.2.2.2.2.2.1 a]
  match a with
  | ⟨0, _⟩ => show (hd0 t).val * 1 + 0 = (hd0 t).val; omega
  | ⟨1, _⟩ => rfl
  | ⟨2, _⟩ => show 0 * 64 + d.val = d.val; omega
theorem read0_7 (c : Dev nD) (t : Fin cfg0.N) (i : Fin 128) (d : Fin 64) : iblk0 V c 7 t (ix3 0 i d : S1x128x64.Idx) = V c main_v6 (ix3 (hd0 t) (row (nbr (nb0 t) 2) i) d : S4x2048x64.Idx) := by
  show V c main_v6 ((win0_7.rect t).emb _) = _
  rw [place0_7]

theorem place0_8 (t : Fin cfg0.N) (x : Fin 256) (d : Fin 64) : (win0_8.rect t).emb (ix3 0 x d : S1x256x64.Idx) = (ix3 (hd0 t) x d : S4x256x64.Idx) := by
  refine funext fun a => Fin.ext ?_
  refine (win0_8.rect_emb_val t _ a).trans ?_
  rw [(index0 t).2.2.2.2.2.2.2.2.1 a]
  match a with
  | ⟨0, _⟩ => show (hd0 t).val * 1 + 0 = (hd0 t).val; omega
  | ⟨1, _⟩ => show 0 * 256 + x.val = x.val; omega
  | ⟨2, _⟩ => show 0 * 64 + d.val = d.val; omega
theorem read0_8 (c : Dev nD) (t : Fin cfg0.N) (x : Fin 256) (d : Fin 64) : iblk0 V c 8 t (ix3 0 x d : S1x256x64.Idx) = V c main_v8 (ix3 (hd0 t) x d : S4x256x64.Idx) := by
  show V c main_v8 ((win0_8.rect t).emb _) = _
  rw [place0_8]

theorem place0_9 (t : Fin cfg0.N) (x : Fin 256) (d : Fin 64) : (win0_9.rect t).emb (ix3 0 x d : S1x256x64.Idx) = (ix3 (hd0 t) x d : S4x256x64.Idx) := by
  refine funext fun a => Fin.ext ?_
  refine (win0_9.rect_emb_val t _ a).trans ?_
  rw [(index0 t).2.2.2.2.2.2.2.2.2.1 a]
  match a with
  | ⟨0, _⟩ => show (hd0 t).val * 1 + 0 = (hd0 t).val; omega
  | ⟨1, _⟩ => show 0 * 256 + x.val = x.val; omega
  | ⟨2, _⟩ => show 0 * 64 + d.val = d.val; omega
theorem read0_9 (c : Dev nD) (t : Fin cfg0.N) (x : Fin 256) (d : Fin 64) : iblk0 V c 9 t (ix3 0 x d : S1x256x64.Idx) = V c main_v10 (ix3 (hd0 t) x d : S4x256x64.Idx) := by
  show V c main_v10 ((win0_9.rect t).emb _) = _
  rw [place0_9]

theorem place0_10 (t : Fin cfg0.N) (g : Fin 4) (i : Fin 128) (d : Fin 64) : (win0_10.rect t).emb (ix4 0 g i d : S1x4x128x64.Idx) = (ix4 (hd0 t) g (row (nb0 t) i) d : S4x4x2048x64.Idx) := by
  refine funext fun a => Fin.ext ?_
  refine (win0_10.rect_emb_val t _ a).trans ?_
  rw [(index0 t).2.2.2.2.2.2.2.2.2.2.1 a]
  match a with
  | ⟨0, _⟩ => show (hd0 t).val * 1 + 0 = (hd0 t).val; omega
  | ⟨1, _⟩ => show 0 * 4 + g.val = g.val; omega
  | ⟨2, _⟩ => rfl
  | ⟨3, _⟩ => show 0 * 64 + d.val = d.val; omega

theorem place0_11 (t : Fin cfg0.N) (g : Fin 4) (i : Fin 128) : (win0_11.rect t).emb (ix4 0 g i 0 : S1x4x128x1.Idx) = (ix4 (hd0 t) g (row (nb0 t) i) 0 : S4x4x2048x1.Idx) := by
  refine funext fun a => Fin.ext ?_
  refine (win0_11.rect_emb_val t _ a).trans ?_
  rw [(index0 t).2.2.2.2.2.2.2.2.2.2.2 a]
  match a with
  | ⟨0, _⟩ => show (hd0 t).val * 1 + 0 = (hd0 t).val; omega
  | ⟨1, _⟩ => show 0 * 4 + g.val = g.val; omega
  | ⟨2, _⟩ => rfl
  | ⟨3, _⟩ => rfl

/-! Call 1. -/

/-- The point's head, -/
def hd1 (t : Fin grid1.N) : Fin 4 := grid1.coords t 0
/-- and its block. -/
def nb1 (t : Fin grid1.N) : Fin 16 := grid1.coords t 1
/-- The point of head `h` and block `n`. -/
def pt1 (h : Fin 4) (n : Fin 16) : Fin grid1.N := ⟨h.val * 16 + n.val, Nat.lt_of_lt_of_eq (by omega : h.val * 16 + n.val < 64) (by decide)⟩
theorem hd1_pt : ∀ h n, hd1 (pt1 h n) = h := by decide +kernel
theorem nb1_pt : ∀ h n, nb1 (pt1 h n) = n := by decide +kernel
theorem mod1 : ∀ t : Fin grid1.N, t.val % 16 = (nb1 t).val := by decide +kernel
theorem div1 : ∀ t : Fin grid1.N, t.val = (hd1 t).val * 16 + (nb1 t).val := by decide +kernel

theorem index1 : ∀ t : Fin grid1.N,
    (∀ a, win1_0.index t a = 0) ∧
    (∀ a, win1_1.index t a = (![(hd1 t).val, 0, (nb1 t).val, 0] : Fin 4 → Nat) a) ∧
    (∀ a, win1_2.index t a = (![(hd1 t).val, (nbr (nb1 t) 0).val, 0] : Fin 3 → Nat) a) ∧
    (∀ a, win1_3.index t a = (![(hd1 t).val, (nbr (nb1 t) 1).val, 0] : Fin 3 → Nat) a) ∧
    (∀ a, win1_4.index t a = (![(hd1 t).val, (nbr (nb1 t) 2).val, 0] : Fin 3 → Nat) a) ∧
    (∀ a, win1_5.index t a = (![(hd1 t).val, (nbr (nb1 t) 0).val, 0] : Fin 3 → Nat) a) ∧
    (∀ a, win1_6.index t a = (![(hd1 t).val, (nbr (nb1 t) 1).val, 0] : Fin 3 → Nat) a) ∧
    (∀ a, win1_7.index t a = (![(hd1 t).val, (nbr (nb1 t) 2).val, 0] : Fin 3 → Nat) a) ∧
    (∀ a, win1_8.index t a = (![(hd1 t).val, 0, 0] : Fin 3 → Nat) a) ∧
    (∀ a, win1_9.index t a = (![(hd1 t).val, 0, 0] : Fin 3 → Nat) a) ∧
    (∀ a, win1_10.index t a = (![(hd1 t).val, 0, (nb1 t).val, 0] : Fin 4 → Nat) a) ∧
    (∀ a, win1_11.index t a = (![(hd1 t).val, 0, (nb1 t).val, 0] : Fin 4 → Nat) a) ∧
    (∀ a, win1_12.index t a = (![(hd1 t).val, 0, (nb1 t).val, 0] : Fin 4 → Nat) a) ∧
    (∀ a, win1_13.index t a = (![(hd1 t).val, 0, (nb1 t).val, 0] : Fin 4 → Nat) a) ∧
    (∀ a, win1_14.index t a = (![(hd1 t).val, 0, 0] : Fin 3 → Nat) a) ∧
    (∀ a, win1_15.index t a = (![(hd1 t).val, 0, 0] : Fin 3 → Nat) a) ∧
    (∀ a, win1_16.index t a = (![(hd1 t).val, 0, 0] : Fin 3 → Nat) a) := by decide +kernel

theorem place1_0 (t : Fin cfg1.N) (x : Fin 16) : (win1_0.rect t).emb (ix1 x : S16.Idx) = (ix1 x : S16.Idx) := by
  refine funext fun a => Fin.ext ?_
  refine (win1_0.rect_emb_val t _ a).trans ?_
  rw [(index1 t).1 a]
  match a with
  | ⟨0, _⟩ => show 0 * 16 + x.val = x.val; omega
theorem read1_0 (c : Dev nD) (t : Fin cfg1.N) (x : Fin 16) : iblk1 V c 0 t (ix1 x : S16.Idx) = V c main_arg5 (ix1 x : S16.Idx) := by
  show V c main_arg5 ((win1_0.rect t).emb _) = _
  rw [place1_0]

theorem place1_1 (t : Fin cfg1.N) (g : Fin 4) (i : Fin 128) (d : Fin 64) : (win1_1.rect t).emb (ix4 0 g i d : S1x4x128x64.Idx) = (ix4 (hd1 t) g (row (nb1 t) i) d : S4x4x2048x64.Idx) := by
  refine funext fun a => Fin.ext ?_
  refine (win1_1.rect_emb_val t _ a).trans ?_
  rw [(index1 t).2.1 a]
  match a with
  | ⟨0, _⟩ => show (hd1 t).val * 1 + 0 = (hd1 t).val; omega
  | ⟨1, _⟩ => show 0 * 4 + g.val = g.val; omega
  | ⟨2, _⟩ => rfl
  | ⟨3, _⟩ => show 0 * 64 + d.val = d.val; omega
theorem read1_1 (c : Dev nD) (t : Fin cfg1.N) (g : Fin 4) (i : Fin 128) (d : Fin 64) : iblk1 V c 1 t (ix4 0 g i d : S1x4x128x64.Idx) = V c main_v2 (ix4 (hd1 t) g (row (nb1 t) i) d : S4x4x2048x64.Idx) := by
  show V c main_v2 ((win1_1.rect t).emb _) = _
  rw [place1_1]

theorem place1_2 (t : Fin cfg1.N) (i : Fin 128) (d : Fin 64) : (win1_2.rect t).emb (ix3 0 i d : S1x128x64.Idx) = (ix3 (hd1 t) (row (nbr (nb1 t) 0) i) d : S4x2048x64.Idx) := by
  refine funext fun a => Fin.ext ?_
  refine (win1_2.rect_emb_val t _ a).trans ?_
  rw [(index1 t).2.2.1 a]
  match a with
  | ⟨0, _⟩ => show (hd1 t).val * 1 + 0 = (hd1 t).val; omega
  | ⟨1, _⟩ => rfl
  | ⟨2, _⟩ => show 0 * 64 + d.val = d.val; omega
theorem read1_2 (c : Dev nD) (t : Fin cfg1.N) (i : Fin 128) (d : Fin 64) : iblk1 V c 2 t (ix3 0 i d : S1x128x64.Idx) = V c main_v4 (ix3 (hd1 t) (row (nbr (nb1 t) 0) i) d : S4x2048x64.Idx) := by
  show V c main_v4 ((win1_2.rect t).emb _) = _
  rw [place1_2]

theorem place1_3 (t : Fin cfg1.N) (i : Fin 128) (d : Fin 64) : (win1_3.rect t).emb (ix3 0 i d : S1x128x64.Idx) = (ix3 (hd1 t) (row (nbr (nb1 t) 1) i) d : S4x2048x64.Idx) := by
  refine funext fun a => Fin.ext ?_
  refine (win1_3.rect_emb_val t _ a).trans ?_
  rw [(index1 t).2.2.2.1 a]
  match a with
  | ⟨0, _⟩ => show (hd1 t).val * 1 + 0 = (hd1 t).val; omega
  | ⟨1, _⟩ => rfl
  | ⟨2, _⟩ => show 0 * 64 + d.val = d.val; omega
theorem read1_3 (c : Dev nD) (t : Fin cfg1.N) (i : Fin 128) (d : Fin 64) : iblk1 V c 3 t (ix3 0 i d : S1x128x64.Idx) = V c main_v4 (ix3 (hd1 t) (row (nbr (nb1 t) 1) i) d : S4x2048x64.Idx) := by
  show V c main_v4 ((win1_3.rect t).emb _) = _
  rw [place1_3]

theorem place1_4 (t : Fin cfg1.N) (i : Fin 128) (d : Fin 64) : (win1_4.rect t).emb (ix3 0 i d : S1x128x64.Idx) = (ix3 (hd1 t) (row (nbr (nb1 t) 2) i) d : S4x2048x64.Idx) := by
  refine funext fun a => Fin.ext ?_
  refine (win1_4.rect_emb_val t _ a).trans ?_
  rw [(index1 t).2.2.2.2.1 a]
  match a with
  | ⟨0, _⟩ => show (hd1 t).val * 1 + 0 = (hd1 t).val; omega
  | ⟨1, _⟩ => rfl
  | ⟨2, _⟩ => show 0 * 64 + d.val = d.val; omega
theorem read1_4 (c : Dev nD) (t : Fin cfg1.N) (i : Fin 128) (d : Fin 64) : iblk1 V c 4 t (ix3 0 i d : S1x128x64.Idx) = V c main_v4 (ix3 (hd1 t) (row (nbr (nb1 t) 2) i) d : S4x2048x64.Idx) := by
  show V c main_v4 ((win1_4.rect t).emb _) = _
  rw [place1_4]

theorem place1_5 (t : Fin cfg1.N) (i : Fin 128) (d : Fin 64) : (win1_5.rect t).emb (ix3 0 i d : S1x128x64.Idx) = (ix3 (hd1 t) (row (nbr (nb1 t) 0) i) d : S4x2048x64.Idx) := by
  refine funext fun a => Fin.ext ?_
  refine (win1_5.rect_emb_val t _ a).trans ?_
  rw [(index1 t).2.2.2.2.2.1 a]
  match a with
  | ⟨0, _⟩ => show (hd1 t).val * 1 + 0 = (hd1 t).val; omega
  | ⟨1, _⟩ => rfl
  | ⟨2, _⟩ => show 0 * 64 + d.val = d.val; omega
theorem read1_5 (c : Dev nD) (t : Fin cfg1.N) (i : Fin 128) (d : Fin 64) : iblk1 V c 5 t (ix3 0 i d : S1x128x64.Idx) = V c main_v6 (ix3 (hd1 t) (row (nbr (nb1 t) 0) i) d : S4x2048x64.Idx) := by
  show V c main_v6 ((win1_5.rect t).emb _) = _
  rw [place1_5]

theorem place1_6 (t : Fin cfg1.N) (i : Fin 128) (d : Fin 64) : (win1_6.rect t).emb (ix3 0 i d : S1x128x64.Idx) = (ix3 (hd1 t) (row (nbr (nb1 t) 1) i) d : S4x2048x64.Idx) := by
  refine funext fun a => Fin.ext ?_
  refine (win1_6.rect_emb_val t _ a).trans ?_
  rw [(index1 t).2.2.2.2.2.2.1 a]
  match a with
  | ⟨0, _⟩ => show (hd1 t).val * 1 + 0 = (hd1 t).val; omega
  | ⟨1, _⟩ => rfl
  | ⟨2, _⟩ => show 0 * 64 + d.val = d.val; omega
theorem read1_6 (c : Dev nD) (t : Fin cfg1.N) (i : Fin 128) (d : Fin 64) : iblk1 V c 6 t (ix3 0 i d : S1x128x64.Idx) = V c main_v6 (ix3 (hd1 t) (row (nbr (nb1 t) 1) i) d : S4x2048x64.Idx) := by
  show V c main_v6 ((win1_6.rect t).emb _) = _
  rw [place1_6]

theorem place1_7 (t : Fin cfg1.N) (i : Fin 128) (d : Fin 64) : (win1_7.rect t).emb (ix3 0 i d : S1x128x64.Idx) = (ix3 (hd1 t) (row (nbr (nb1 t) 2) i) d : S4x2048x64.Idx) := by
  refine funext fun a => Fin.ext ?_
  refine (win1_7.rect_emb_val t _ a).trans ?_
  rw [(index1 t).2.2.2.2.2.2.2.1 a]
  match a with
  | ⟨0, _⟩ => show (hd1 t).val * 1 + 0 = (hd1 t).val; omega
  | ⟨1, _⟩ => rfl
  | ⟨2, _⟩ => show 0 * 64 + d.val = d.val; omega
theorem read1_7 (c : Dev nD) (t : Fin cfg1.N) (i : Fin 128) (d : Fin 64) : iblk1 V c 7 t (ix3 0 i d : S1x128x64.Idx) = V c main_v6 (ix3 (hd1 t) (row (nbr (nb1 t) 2) i) d : S4x2048x64.Idx) := by
  show V c main_v6 ((win1_7.rect t).emb _) = _
  rw [place1_7]

theorem place1_8 (t : Fin cfg1.N) (x : Fin 256) (d : Fin 64) : (win1_8.rect t).emb (ix3 0 x d : S1x256x64.Idx) = (ix3 (hd1 t) x d : S4x256x64.Idx) := by
  refine funext fun a => Fin.ext ?_
  refine (win1_8.rect_emb_val t _ a).trans ?_
  rw [(index1 t).2.2.2.2.2.2.2.2.1 a]
  match a with
  | ⟨0, _⟩ => show (hd1 t).val * 1 + 0 = (hd1 t).val; omega
  | ⟨1, _⟩ => show 0 * 256 + x.val = x.val; omega
  | ⟨2, _⟩ => show 0 * 64 + d.val = d.val; omega
theorem read1_8 (c : Dev nD) (t : Fin cfg1.N) (x : Fin 256) (d : Fin 64) : iblk1 V c 8 t (ix3 0 x d : S1x256x64.Idx) = V c main_v8 (ix3 (hd1 t) x d : S4x256x64.Idx) := by
  show V c main_v8 ((win1_8.rect t).emb _) = _
  rw [place1_8]

theorem place1_9 (t : Fin cfg1.N) (x : Fin 256) (d : Fin 64) : (win1_9.rect t).emb (ix3 0 x d : S1x256x64.Idx) = (ix3 (hd1 t) x d : S4x256x64.Idx) := by
  refine funext fun a => Fin.ext ?_
  refine (win1_9.rect_emb_val t _ a).trans ?_
  rw [(index1 t).2.2.2.2.2.2.2.2.2.1 a]
  match a with
  | ⟨0, _⟩ => show (hd1 t).val * 1 + 0 = (hd1 t).val; omega
  | ⟨1, _⟩ => show 0 * 256 + x.val = x.val; omega
  | ⟨2, _⟩ => show 0 * 64 + d.val = d.val; omega
theorem read1_9 (c : Dev nD) (t : Fin cfg1.N) (x : Fin 256) (d : Fin 64) : iblk1 V c 9 t (ix3 0 x d : S1x256x64.Idx) = V c main_v10 (ix3 (hd1 t) x d : S4x256x64.Idx) := by
  show V c main_v10 ((win1_9.rect t).emb _) = _
  rw [place1_9]

theorem place1_10 (t : Fin cfg1.N) (g : Fin 4) (i : Fin 128) (d : Fin 64) : (win1_10.rect t).emb (ix4 0 g i d : S1x4x128x64.Idx) = (ix4 (hd1 t) g (row (nb1 t) i) d : S4x4x2048x64.Idx) := by
  refine funext fun a => Fin.ext ?_
  refine (win1_10.rect_emb_val t _ a).trans ?_
  rw [(index1 t).2.2.2.2.2.2.2.2.2.2.1 a]
  match a with
  | ⟨0, _⟩ => show (hd1 t).val * 1 + 0 = (hd1 t).val; omega
  | ⟨1, _⟩ => show 0 * 4 + g.val = g.val; omega
  | ⟨2, _⟩ => rfl
  | ⟨3, _⟩ => show 0 * 64 + d.val = d.val; omega
theorem read1_10 (c : Dev nD) (t : Fin cfg1.N) (g : Fin 4) (i : Fin 128) (d : Fin 64) : iblk1 V c 10 t (ix4 0 g i d : S1x4x128x64.Idx) = V c main_v11_0 (ix4 (hd1 t) g (row (nb1 t) i) d : S4x4x2048x64.Idx) := by
  show V c main_v11_0 ((win1_10.rect t).emb _) = _
  rw [place1_10]

theorem place1_11 (t : Fin cfg1.N) (g : Fin 4) (i : Fin 128) (d : Fin 64) : (win1_11.rect t).emb (ix4 0 g i d : S1x4x128x64.Idx) = (ix4 (hd1 t) g (row (nb1 t) i) d : S4x4x2048x64.Idx) := by
  refine funext fun a => Fin.ext ?_
  refine (win1_11.rect_emb_val t _ a).trans ?_
  rw [(index1 t).2.2.2.2.2.2.2.2.2.2.2.1 a]
  match a with
  | ⟨0, _⟩ => show (hd1 t).val * 1 + 0 = (hd1 t).val; omega
  | ⟨1, _⟩ => show 0 * 4 + g.val = g.val; omega
  | ⟨2, _⟩ => rfl
  | ⟨3, _⟩ => show 0 * 64 + d.val = d.val; omega
theorem read1_11 (c : Dev nD) (t : Fin cfg1.N) (g : Fin 4) (i : Fin 128) (d : Fin 64) : iblk1 V c 11 t (ix4 0 g i d : S1x4x128x64.Idx) = V c main_v14 (ix4 (hd1 t) g (row (nb1 t) i) d : S4x4x2048x64.Idx) := by
  show V c main_v14 ((win1_11.rect t).emb _) = _
  rw [place1_11]

theorem place1_12 (t : Fin cfg1.N) (g : Fin 4) (i : Fin 128) : (win1_12.rect t).emb (ix4 0 g i 0 : S1x4x128x1.Idx) = (ix4 (hd1 t) g (row (nb1 t) i) 0 : S4x4x2048x1.Idx) := by
  refine funext fun a => Fin.ext ?_
  refine (win1_12.rect_emb_val t _ a).trans ?_
  rw [(index1 t).2.2.2.2.2.2.2.2.2.2.2.2.1 a]
  match a with
  | ⟨0, _⟩ => show (hd1 t).val * 1 + 0 = (hd1 t).val; omega
  | ⟨1, _⟩ => show 0 * 4 + g.val = g.val; omega
  | ⟨2, _⟩ => rfl
  | ⟨3, _⟩ => rfl
theorem read1_12 (c : Dev nD) (t : Fin cfg1.N) (g : Fin 4) (i : Fin 128) : iblk1 V c 12 t (ix4 0 g i 0 : S1x4x128x1.Idx) = V c main_v11_1 (ix4 (hd1 t) g (row (nb1 t) i) 0 : S4x4x2048x1.Idx) := by
  show V c main_v11_1 ((win1_12.rect t).emb _) = _
  rw [place1_12]

theorem place1_13 (t : Fin cfg1.N) (g : Fin 4) (i : Fin 128) (d : Fin 64) : (win1_13.rect t).emb (ix4 0 g i d : S1x4x128x64.Idx) = (ix4 (hd1 t) g (row (nb1 t) i) d : S4x4x2048x64.Idx) := by
  refine funext fun a => Fin.ext ?_
  refine (win1_13.rect_emb_val t _ a).trans ?_
  rw [(index1 t).2.2.2.2.2.2.2.2.2.2.2.2.2.1 a]
  match a with
  | ⟨0, _⟩ => show (hd1 t).val * 1 + 0 = (hd1 t).val; omega
  | ⟨1, _⟩ => show 0 * 4 + g.val = g.val; omega
  | ⟨2, _⟩ => rfl
  | ⟨3, _⟩ => show 0 * 64 + d.val = d.val; omega

theorem place1_14 (t : Fin cfg1.N) (x : Fin 256) (d : Fin 64) : (win1_14.rect t).emb (ix3 0 x d : S1x256x64.Idx) = (ix3 (hd1 t) x d : S4x256x64.Idx) := by
  refine funext fun a => Fin.ext ?_
  refine (win1_14.rect_emb_val t _ a).trans ?_
  rw [(index1 t).2.2.2.2.2.2.2.2.2.2.2.2.2.2.1 a]
  match a with
  | ⟨0, _⟩ => show (hd1 t).val * 1 + 0 = (hd1 t).val; omega
  | ⟨1, _⟩ => show 0 * 256 + x.val = x.val; omega
  | ⟨2, _⟩ => show 0 * 64 + d.val = d.val; omega

theorem place1_15 (t : Fin cfg1.N) (x : Fin 256) (d : Fin 64) : (win1_15.rect t).emb (ix3 0 x d : S1x256x64.Idx) = (ix3 (hd1 t) x d : S4x256x64.Idx) := by
  refine funext fun a => Fin.ext ?_
  refine (win1_15.rect_emb_val t _ a).trans ?_
  rw [(index1 t).2.2.2.2.2.2.2.2.2.2.2.2.2.2.2.1 a]
  match a with
  | ⟨0, _⟩ => show (hd1 t).val * 1 + 0 = (hd1 t).val; omega
  | ⟨1, _⟩ => show 0 * 256 + x.val = x.val; omega
  | ⟨2, _⟩ => show 0 * 64 + d.val = d.val; omega

theorem place1_16 (t : Fin cfg1.N) (y : Fin 8) (l : Fin 128) : (win1_16.rect t).emb (ix3 0 y l : S1x8x128.Idx) = (ix3 (hd1 t) y l : S4x8x128.Idx) := by
  refine funext fun a => Fin.ext ?_
  refine (win1_16.rect_emb_val t _ a).trans ?_
  rw [(index1 t).2.2.2.2.2.2.2.2.2.2.2.2.2.2.2.2 a]
  match a with
  | ⟨0, _⟩ => show (hd1 t).val * 1 + 0 = (hd1 t).val; omega
  | ⟨1, _⟩ => show 0 * 8 + y.val = y.val; omega
  | ⟨2, _⟩ => show 0 * 128 + l.val = l.val; omega

/-! Call 2. -/

/-- The point's head, -/
def hd2 (t : Fin grid2.N) : Fin 4 := grid2.coords t 0
/-- and its block. -/
def nb2 (t : Fin grid2.N) : Fin 16 := grid2.coords t 1
/-- The point of head `h` and block `n`. -/
def pt2 (h : Fin 4) (n : Fin 16) : Fin grid2.N := ⟨h.val * 16 + n.val, Nat.lt_of_lt_of_eq (by omega : h.val * 16 + n.val < 64) (by decide)⟩
theorem hd2_pt : ∀ h n, hd2 (pt2 h n) = h := by decide +kernel
theorem nb2_pt : ∀ h n, nb2 (pt2 h n) = n := by decide +kernel
theorem mod2 : ∀ t : Fin grid2.N, t.val % 16 = (nb2 t).val := by decide +kernel
theorem div2 : ∀ t : Fin grid2.N, t.val = (hd2 t).val * 16 + (nb2 t).val := by decide +kernel

theorem index2 : ∀ t : Fin grid2.N,
    (∀ a, win2_0.index t a = (![(hd2 t).val, 0, (nbr (nb2 t) 0).val, 0] : Fin 4 → Nat) a) ∧
    (∀ a, win2_1.index t a = (![(hd2 t).val, 0, (nbr (nb2 t) 1).val, 0] : Fin 4 → Nat) a) ∧
    (∀ a, win2_2.index t a = (![(hd2 t).val, 0, (nbr (nb2 t) 2).val, 0] : Fin 4 → Nat) a) ∧
    (∀ a, win2_3.index t a = (![(hd2 t).val, 0, (nbr (nb2 t) 0).val, 0] : Fin 4 → Nat) a) ∧
    (∀ a, win2_4.index t a = (![(hd2 t).val, 0, (nbr (nb2 t) 1).val, 0] : Fin 4 → Nat) a) ∧
    (∀ a, win2_5.index t a = (![(hd2 t).val, 0, (nbr (nb2 t) 2).val, 0] : Fin 4 → Nat) a) ∧
    (∀ a, win2_6.index t a = (![(hd2 t).val, 0, (nbr (nb2 t) 0).val, 0] : Fin 4 → Nat) a) ∧
    (∀ a, win2_7.index t a = (![(hd2 t).val, 0, (nbr (nb2 t) 1).val, 0] : Fin 4 → Nat) a) ∧
    (∀ a, win2_8.index t a = (![(hd2 t).val, 0, (nbr (nb2 t) 2).val, 0] : Fin 4 → Nat) a) ∧
    (∀ a, win2_9.index t a = (![(hd2 t).val, 0, (nbr (nb2 t) 0).val, 0] : Fin 4 → Nat) a) ∧
    (∀ a, win2_10.index t a = (![(hd2 t).val, 0, (nbr (nb2 t) 1).val, 0] : Fin 4 → Nat) a) ∧
    (∀ a, win2_11.index t a = (![(hd2 t).val, 0, (nbr (nb2 t) 2).val, 0] : Fin 4 → Nat) a) ∧
    (∀ a, win2_12.index t a = (![(hd2 t).val, (nb2 t).val, 0] : Fin 3 → Nat) a) ∧
    (∀ a, win2_13.index t a = (![(hd2 t).val, (nb2 t).val, 0] : Fin 3 → Nat) a) ∧
    (∀ a, win2_14.index t a = (![(hd2 t).val, (nb2 t).val, 0] : Fin 3 → Nat) a) ∧
    (∀ a, win2_15.index t a = (![(hd2 t).val, (nb2 t).val, 0] : Fin 3 → Nat) a) := by decide +kernel

theorem place2_0 (t : Fin cfg2.N) (g : Fin 4) (i : Fin 128) (d : Fin 64) : (win2_0.rect t).emb (ix4 0 g i d : S1x4x128x64.Idx) = (ix4 (hd2 t) g (row (nbr (nb2 t) 0) i) d : S4x4x2048x64.Idx) := by
  refine funext fun a => Fin.ext ?_
  refine (win2_0.rect_emb_val t _ a).trans ?_
  rw [(index2 t).1 a]
  match a with
  | ⟨0, _⟩ => show (hd2 t).val * 1 + 0 = (hd2 t).val; omega
  | ⟨1, _⟩ => show 0 * 4 + g.val = g.val; omega
  | ⟨2, _⟩ => rfl
  | ⟨3, _⟩ => show 0 * 64 + d.val = d.val; omega
theorem read2_0 (c : Dev nD) (t : Fin cfg2.N) (g : Fin 4) (i : Fin 128) (d : Fin 64) : iblk2 V c 0 t (ix4 0 g i d : S1x4x128x64.Idx) = V c main_v2 (ix4 (hd2 t) g (row (nbr (nb2 t) 0) i) d : S4x4x2048x64.Idx) := by
  show V c main_v2 ((win2_0.rect t).emb _) = _
  rw [place2_0]

theorem place2_1 (t : Fin cfg2.N) (g : Fin 4) (i : Fin 128) (d : Fin 64) : (win2_1.rect t).emb (ix4 0 g i d : S1x4x128x64.Idx) = (ix4 (hd2 t) g (row (nbr (nb2 t) 1) i) d : S4x4x2048x64.Idx) := by
  refine funext fun a => Fin.ext ?_
  refine (win2_1.rect_emb_val t _ a).trans ?_
  rw [(index2 t).2.1 a]
  match a with
  | ⟨0, _⟩ => show (hd2 t).val * 1 + 0 = (hd2 t).val; omega
  | ⟨1, _⟩ => show 0 * 4 + g.val = g.val; omega
  | ⟨2, _⟩ => rfl
  | ⟨3, _⟩ => show 0 * 64 + d.val = d.val; omega
theorem read2_1 (c : Dev nD) (t : Fin cfg2.N) (g : Fin 4) (i : Fin 128) (d : Fin 64) : iblk2 V c 1 t (ix4 0 g i d : S1x4x128x64.Idx) = V c main_v2 (ix4 (hd2 t) g (row (nbr (nb2 t) 1) i) d : S4x4x2048x64.Idx) := by
  show V c main_v2 ((win2_1.rect t).emb _) = _
  rw [place2_1]

theorem place2_2 (t : Fin cfg2.N) (g : Fin 4) (i : Fin 128) (d : Fin 64) : (win2_2.rect t).emb (ix4 0 g i d : S1x4x128x64.Idx) = (ix4 (hd2 t) g (row (nbr (nb2 t) 2) i) d : S4x4x2048x64.Idx) := by
  refine funext fun a => Fin.ext ?_
  refine (win2_2.rect_emb_val t _ a).trans ?_
  rw [(index2 t).2.2.1 a]
  match a with
  | ⟨0, _⟩ => show (hd2 t).val * 1 + 0 = (hd2 t).val; omega
  | ⟨1, _⟩ => show 0 * 4 + g.val = g.val; omega
  | ⟨2, _⟩ => rfl
  | ⟨3, _⟩ => show 0 * 64 + d.val = d.val; omega
theorem read2_2 (c : Dev nD) (t : Fin cfg2.N) (g : Fin 4) (i : Fin 128) (d : Fin 64) : iblk2 V c 2 t (ix4 0 g i d : S1x4x128x64.Idx) = V c main_v2 (ix4 (hd2 t) g (row (nbr (nb2 t) 2) i) d : S4x4x2048x64.Idx) := by
  show V c main_v2 ((win2_2.rect t).emb _) = _
  rw [place2_2]

theorem place2_3 (t : Fin cfg2.N) (g : Fin 4) (i : Fin 128) (d : Fin 64) : (win2_3.rect t).emb (ix4 0 g i d : S1x4x128x64.Idx) = (ix4 (hd2 t) g (row (nbr (nb2 t) 0) i) d : S4x4x2048x64.Idx) := by
  refine funext fun a => Fin.ext ?_
  refine (win2_3.rect_emb_val t _ a).trans ?_
  rw [(index2 t).2.2.2.1 a]
  match a with
  | ⟨0, _⟩ => show (hd2 t).val * 1 + 0 = (hd2 t).val; omega
  | ⟨1, _⟩ => show 0 * 4 + g.val = g.val; omega
  | ⟨2, _⟩ => rfl
  | ⟨3, _⟩ => show 0 * 64 + d.val = d.val; omega
theorem read2_3 (c : Dev nD) (t : Fin cfg2.N) (g : Fin 4) (i : Fin 128) (d : Fin 64) : iblk2 V c 3 t (ix4 0 g i d : S1x4x128x64.Idx) = V c main_v14 (ix4 (hd2 t) g (row (nbr (nb2 t) 0) i) d : S4x4x2048x64.Idx) := by
  show V c main_v14 ((win2_3.rect t).emb _) = _
  rw [place2_3]

theorem place2_4 (t : Fin cfg2.N) (g : Fin 4) (i : Fin 128) (d : Fin 64) : (win2_4.rect t).emb (ix4 0 g i d : S1x4x128x64.Idx) = (ix4 (hd2 t) g (row (nbr (nb2 t) 1) i) d : S4x4x2048x64.Idx) := by
  refine funext fun a => Fin.ext ?_
  refine (win2_4.rect_emb_val t _ a).trans ?_
  rw [(index2 t).2.2.2.2.1 a]
  match a with
  | ⟨0, _⟩ => show (hd2 t).val * 1 + 0 = (hd2 t).val; omega
  | ⟨1, _⟩ => show 0 * 4 + g.val = g.val; omega
  | ⟨2, _⟩ => rfl
  | ⟨3, _⟩ => show 0 * 64 + d.val = d.val; omega
theorem read2_4 (c : Dev nD) (t : Fin cfg2.N) (g : Fin 4) (i : Fin 128) (d : Fin 64) : iblk2 V c 4 t (ix4 0 g i d : S1x4x128x64.Idx) = V c main_v14 (ix4 (hd2 t) g (row (nbr (nb2 t) 1) i) d : S4x4x2048x64.Idx) := by
  show V c main_v14 ((win2_4.rect t).emb _) = _
  rw [place2_4]

theorem place2_5 (t : Fin cfg2.N) (g : Fin 4) (i : Fin 128) (d : Fin 64) : (win2_5.rect t).emb (ix4 0 g i d : S1x4x128x64.Idx) = (ix4 (hd2 t) g (row (nbr (nb2 t) 2) i) d : S4x4x2048x64.Idx) := by
  refine funext fun a => Fin.ext ?_
  refine (win2_5.rect_emb_val t _ a).trans ?_
  rw [(index2 t).2.2.2.2.2.1 a]
  match a with
  | ⟨0, _⟩ => show (hd2 t).val * 1 + 0 = (hd2 t).val; omega
  | ⟨1, _⟩ => show 0 * 4 + g.val = g.val; omega
  | ⟨2, _⟩ => rfl
  | ⟨3, _⟩ => show 0 * 64 + d.val = d.val; omega
theorem read2_5 (c : Dev nD) (t : Fin cfg2.N) (g : Fin 4) (i : Fin 128) (d : Fin 64) : iblk2 V c 5 t (ix4 0 g i d : S1x4x128x64.Idx) = V c main_v14 (ix4 (hd2 t) g (row (nbr (nb2 t) 2) i) d : S4x4x2048x64.Idx) := by
  show V c main_v14 ((win2_5.rect t).emb _) = _
  rw [place2_5]

theorem place2_6 (t : Fin cfg2.N) (g : Fin 4) (i : Fin 128) (d : Fin 64) : (win2_6.rect t).emb (ix4 0 g i d : S1x4x128x64.Idx) = (ix4 (hd2 t) g (row (nbr (nb2 t) 0) i) d : S4x4x2048x64.Idx) := by
  refine funext fun a => Fin.ext ?_
  refine (win2_6.rect_emb_val t _ a).trans ?_
  rw [(index2 t).2.2.2.2.2.2.1 a]
  match a with
  | ⟨0, _⟩ => show (hd2 t).val * 1 + 0 = (hd2 t).val; omega
  | ⟨1, _⟩ => show 0 * 4 + g.val = g.val; omega
  | ⟨2, _⟩ => rfl
  | ⟨3, _⟩ => show 0 * 64 + d.val = d.val; omega
theorem read2_6 (c : Dev nD) (t : Fin cfg2.N) (g : Fin 4) (i : Fin 128) (d : Fin 64) : iblk2 V c 6 t (ix4 0 g i d : S1x4x128x64.Idx) = V c main_v11_0 (ix4 (hd2 t) g (row (nbr (nb2 t) 0) i) d : S4x4x2048x64.Idx) := by
  show V c main_v11_0 ((win2_6.rect t).emb _) = _
  rw [place2_6]

theorem place2_7 (t : Fin cfg2.N) (g : Fin 4) (i : Fin 128) (d : Fin 64) : (win2_7.rect t).emb (ix4 0 g i d : S1x4x128x64.Idx) = (ix4 (hd2 t) g (row (nbr (nb2 t) 1) i) d : S4x4x2048x64.Idx) := by
  refine funext fun a => Fin.ext ?_
  refine (win2_7.rect_emb_val t _ a).trans ?_
  rw [(index2 t).2.2.2.2.2.2.2.1 a]
  match a with
  | ⟨0, _⟩ => show (hd2 t).val * 1 + 0 = (hd2 t).val; omega
  | ⟨1, _⟩ => show 0 * 4 + g.val = g.val; omega
  | ⟨2, _⟩ => rfl
  | ⟨3, _⟩ => show 0 * 64 + d.val = d.val; omega
theorem read2_7 (c : Dev nD) (t : Fin cfg2.N) (g : Fin 4) (i : Fin 128) (d : Fin 64) : iblk2 V c 7 t (ix4 0 g i d : S1x4x128x64.Idx) = V c main_v11_0 (ix4 (hd2 t) g (row (nbr (nb2 t) 1) i) d : S4x4x2048x64.Idx) := by
  show V c main_v11_0 ((win2_7.rect t).emb _) = _
  rw [place2_7]

theorem place2_8 (t : Fin cfg2.N) (g : Fin 4) (i : Fin 128) (d : Fin 64) : (win2_8.rect t).emb (ix4 0 g i d : S1x4x128x64.Idx) = (ix4 (hd2 t) g (row (nbr (nb2 t) 2) i) d : S4x4x2048x64.Idx) := by
  refine funext fun a => Fin.ext ?_
  refine (win2_8.rect_emb_val t _ a).trans ?_
  rw [(index2 t).2.2.2.2.2.2.2.2.1 a]
  match a with
  | ⟨0, _⟩ => show (hd2 t).val * 1 + 0 = (hd2 t).val; omega
  | ⟨1, _⟩ => show 0 * 4 + g.val = g.val; omega
  | ⟨2, _⟩ => rfl
  | ⟨3, _⟩ => show 0 * 64 + d.val = d.val; omega
theorem read2_8 (c : Dev nD) (t : Fin cfg2.N) (g : Fin 4) (i : Fin 128) (d : Fin 64) : iblk2 V c 8 t (ix4 0 g i d : S1x4x128x64.Idx) = V c main_v11_0 (ix4 (hd2 t) g (row (nbr (nb2 t) 2) i) d : S4x4x2048x64.Idx) := by
  show V c main_v11_0 ((win2_8.rect t).emb _) = _
  rw [place2_8]

theorem place2_9 (t : Fin cfg2.N) (g : Fin 4) (i : Fin 128) : (win2_9.rect t).emb (ix4 0 g i 0 : S1x4x128x1.Idx) = (ix4 (hd2 t) g (row (nbr (nb2 t) 0) i) 0 : S4x4x2048x1.Idx) := by
  refine funext fun a => Fin.ext ?_
  refine (win2_9.rect_emb_val t _ a).trans ?_
  rw [(index2 t).2.2.2.2.2.2.2.2.2.1 a]
  match a with
  | ⟨0, _⟩ => show (hd2 t).val * 1 + 0 = (hd2 t).val; omega
  | ⟨1, _⟩ => show 0 * 4 + g.val = g.val; omega
  | ⟨2, _⟩ => rfl
  | ⟨3, _⟩ => rfl
theorem read2_9 (c : Dev nD) (t : Fin cfg2.N) (g : Fin 4) (i : Fin 128) : iblk2 V c 9 t (ix4 0 g i 0 : S1x4x128x1.Idx) = V c main_v11_1 (ix4 (hd2 t) g (row (nbr (nb2 t) 0) i) 0 : S4x4x2048x1.Idx) := by
  show V c main_v11_1 ((win2_9.rect t).emb _) = _
  rw [place2_9]

theorem place2_10 (t : Fin cfg2.N) (g : Fin 4) (i : Fin 128) : (win2_10.rect t).emb (ix4 0 g i 0 : S1x4x128x1.Idx) = (ix4 (hd2 t) g (row (nbr (nb2 t) 1) i) 0 : S4x4x2048x1.Idx) := by
  refine funext fun a => Fin.ext ?_
  refine (win2_10.rect_emb_val t _ a).trans ?_
  rw [(index2 t).2.2.2.2.2.2.2.2.2.2.1 a]
  match a with
  | ⟨0, _⟩ => show (hd2 t).val * 1 + 0 = (hd2 t).val; omega
  | ⟨1, _⟩ => show 0 * 4 + g.val = g.val; omega
  | ⟨2, _⟩ => rfl
  | ⟨3, _⟩ => rfl
theorem read2_10 (c : Dev nD) (t : Fin cfg2.N) (g : Fin 4) (i : Fin 128) : iblk2 V c 10 t (ix4 0 g i 0 : S1x4x128x1.Idx) = V c main_v11_1 (ix4 (hd2 t) g (row (nbr (nb2 t) 1) i) 0 : S4x4x2048x1.Idx) := by
  show V c main_v11_1 ((win2_10.rect t).emb _) = _
  rw [place2_10]

theorem place2_11 (t : Fin cfg2.N) (g : Fin 4) (i : Fin 128) : (win2_11.rect t).emb (ix4 0 g i 0 : S1x4x128x1.Idx) = (ix4 (hd2 t) g (row (nbr (nb2 t) 2) i) 0 : S4x4x2048x1.Idx) := by
  refine funext fun a => Fin.ext ?_
  refine (win2_11.rect_emb_val t _ a).trans ?_
  rw [(index2 t).2.2.2.2.2.2.2.2.2.2.2.1 a]
  match a with
  | ⟨0, _⟩ => show (hd2 t).val * 1 + 0 = (hd2 t).val; omega
  | ⟨1, _⟩ => show 0 * 4 + g.val = g.val; omega
  | ⟨2, _⟩ => rfl
  | ⟨3, _⟩ => rfl
theorem read2_11 (c : Dev nD) (t : Fin cfg2.N) (g : Fin 4) (i : Fin 128) : iblk2 V c 11 t (ix4 0 g i 0 : S1x4x128x1.Idx) = V c main_v11_1 (ix4 (hd2 t) g (row (nbr (nb2 t) 2) i) 0 : S4x4x2048x1.Idx) := by
  show V c main_v11_1 ((win2_11.rect t).emb _) = _
  rw [place2_11]

theorem place2_12 (t : Fin cfg2.N) (i : Fin 128) (d : Fin 64) : (win2_12.rect t).emb (ix3 0 i d : S1x128x64.Idx) = (ix3 (hd2 t) (row (nb2 t) i) d : S4x2048x64.Idx) := by
  refine funext fun a => Fin.ext ?_
  refine (win2_12.rect_emb_val t _ a).trans ?_
  rw [(index2 t).2.2.2.2.2.2.2.2.2.2.2.2.1 a]
  match a with
  | ⟨0, _⟩ => show (hd2 t).val * 1 + 0 = (hd2 t).val; omega
  | ⟨1, _⟩ => rfl
  | ⟨2, _⟩ => show 0 * 64 + d.val = d.val; omega
theorem read2_12 (c : Dev nD) (t : Fin cfg2.N) (i : Fin 128) (d : Fin 64) : iblk2 V c 12 t (ix3 0 i d : S1x128x64.Idx) = V c main_v4 (ix3 (hd2 t) (row (nb2 t) i) d : S4x2048x64.Idx) := by
  show V c main_v4 ((win2_12.rect t).emb _) = _
  rw [place2_12]

theorem place2_13 (t : Fin cfg2.N) (i : Fin 128) (d : Fin 64) : (win2_13.rect t).emb (ix3 0 i d : S1x128x64.Idx) = (ix3 (hd2 t) (row (nb2 t) i) d : S4x2048x64.Idx) := by
  refine funext fun a => Fin.ext ?_
  refine (win2_13.rect_emb_val t _ a).trans ?_
  rw [(index2 t).2.2.2.2.2.2.2.2.2.2.2.2.2.1 a]
  match a with
  | ⟨0, _⟩ => show (hd2 t).val * 1 + 0 = (hd2 t).val; omega
  | ⟨1, _⟩ => rfl
  | ⟨2, _⟩ => show 0 * 64 + d.val = d.val; omega
theorem read2_13 (c : Dev nD) (t : Fin cfg2.N) (i : Fin 128) (d : Fin 64) : iblk2 V c 13 t (ix3 0 i d : S1x128x64.Idx) = V c main_v6 (ix3 (hd2 t) (row (nb2 t) i) d : S4x2048x64.Idx) := by
  show V c main_v6 ((win2_13.rect t).emb _) = _
  rw [place2_13]

theorem place2_14 (t : Fin cfg2.N) (i : Fin 128) (d : Fin 64) : (win2_14.rect t).emb (ix3 0 i d : S1x128x64.Idx) = (ix3 (hd2 t) (row (nb2 t) i) d : S4x2048x64.Idx) := by
  refine funext fun a => Fin.ext ?_
  refine (win2_14.rect_emb_val t _ a).trans ?_
  rw [(index2 t).2.2.2.2.2.2.2.2.2.2.2.2.2.2.1 a]
  match a with
  | ⟨0, _⟩ => show (hd2 t).val * 1 + 0 = (hd2 t).val; omega
  | ⟨1, _⟩ => rfl
  | ⟨2, _⟩ => show 0 * 64 + d.val = d.val; omega

theorem place2_15 (t : Fin cfg2.N) (i : Fin 128) (d : Fin 64) : (win2_15.rect t).emb (ix3 0 i d : S1x128x64.Idx) = (ix3 (hd2 t) (row (nb2 t) i) d : S4x2048x64.Idx) := by
  refine funext fun a => Fin.ext ?_
  refine (win2_15.rect_emb_val t _ a).trans ?_
  rw [(index2 t).2.2.2.2.2.2.2.2.2.2.2.2.2.2.2 a]
  match a with
  | ⟨0, _⟩ => show (hd2 t).val * 1 + 0 = (hd2 t).val; omega
  | ⟨1, _⟩ => rfl
  | ⟨2, _⟩ => show 0 * 64 + d.val = d.val; omega

end Cert.KernelIdeal.Place

end
-- ==== Proof.Sink1.lean ====
/- What the backward call over the query blocks leaves in the block of the sink's gradient: row `g` holds the sum of
   group `g` so far. -/
module

public import proofs.«01_k».proof.Proof.Block1
import Idealize.ShloMosaic.Lib.Pipeline.ValueKit.Acc
import Idealize.ShloMosaic.Lib.Pipeline.ValueKit.Tiles

@[expose] public section

set_option maxRecDepth 16384

noncomputable section

namespace Cert.KernelIdeal.BwdQ

open Idealize.ShloMosaic Idealize.ShloMosaic.TcCoe Cert.Attn Cert.KernelIdeal Cert.KernelIdeal.Gen Cert.KernelIdeal.Fwd

/-! Stores of single rows into a block of eight rows. -/

theorem inb_row (g : Fin 8) (a : Fin 3) : (![0, g.val, 0] : Fin 3 → Nat) a + (![1, 1, 128] : Fin 3 → Nat) a ≤ S1x8x128.size a := by
  match a with
  | ⟨0, _⟩ => show 0 + 1 ≤ 1; omega
  | ⟨1, _⟩ => show g.val + 1 ≤ 8; omega
  | ⟨2, _⟩ => show 0 + 128 ≤ 128; omega

theorem emb_row (g : Fin 8) (inb : ∀ a, (![0, g.val, 0] : Fin 3 → Nat) a + (![1, 1, 128] : Fin 3 → Nat) a ≤ S1x8x128.size a) (l : Fin 128) :
    (Rect.unit (s := S1x8x128) ![0, g.val, 0] ![1, 1, 128] inb).emb (ix3 0 0 l : S1x1x128.Idx) = (ix3 0 g l : S1x8x128.Idx) := by
  funext a
  refine Fin.ext ?_
  rw [Rect.emb_apply]
  refine (Rect.idx_unit_val _ _ inb _ a).trans ?_
  match a with
  | ⟨0, _⟩ => show 0 + 0 = 0; omega
  | ⟨1, _⟩ => show g.val + 0 = g.val; omega
  | ⟨2, _⟩ => show 0 + l.val = l.val; omega

theorem mem_row (g : Fin 8) (inb : ∀ a, (![0, g.val, 0] : Fin 3 → Nat) a + (![1, 1, 128] : Fin 3 → Nat) a ≤ S1x8x128.size a) (l : Fin 128) :
    (ix3 0 g l : S1x8x128.Idx) ∈ (Rect.unit (s := S1x8x128) ![0, g.val, 0] ![1, 1, 128] inb).set := by
  rw [← emb_row g inb l]; exact (Rect.unit (s := S1x8x128) ![0, g.val, 0] ![1, 1, 128] inb).toLoadRect.idx_mem _

theorem canon_row (g : Fin 8) (inb : ∀ a, (![0, g.val, 0] : Fin 3 → Nat) a + (![1, 1, 128] : Fin 3 → Nat) a ≤ S1x8x128.size a)
    (w : S1x1x128.Idx → Elt Ideal .f32) (L : List (View.Piece (Elt Ideal) S1x8x128 .f32)) (l : Fin 128) :
    View.canon ((⟨Rect.unit (s := S1x8x128) ![0, g.val, 0] ![1, 1, 128] inb, w⟩ : View.Piece (Elt Ideal) S1x8x128 .f32) :: L) (ix3 0 g l) = w (ix3 0 0 l) := by
  rw [← emb_row g inb l]; exact View.canon_cons_emb (Val := Elt Ideal) _ _ _ _

theorem canon_other (g g' : Fin 8) (hg : g ≠ g') (inb : ∀ a, (![0, g.val, 0] : Fin 3 → Nat) a + (![1, 1, 128] : Fin 3 → Nat) a ≤ S1x8x128.size a)
    (w : S1x1x128.Idx → Elt Ideal .f32) (L : List (View.Piece (Elt Ideal) S1x8x128 .f32)) (l : Fin 128) :
    View.canon ((⟨Rect.unit (s := S1x8x128) ![0, g.val, 0] ![1, 1, 128] inb, w⟩ : View.Piece (Elt Ideal) S1x8x128 .f32) :: L) (ix3 0 g' l)
      = View.canon L (ix3 0 g' l) := by
  refine View.canon_cons_of_not_mem _ _ fun h => hg (Fin.ext ?_)
  obtain ⟨x, hx⟩ := (Rect.unit (s := S1x8x128) ![0, g.val, 0] ![1, 1, 128] inb).exists_idx_of_mem h
  have := congrArg (fun y : S1x8x128.Idx => (y 1).val) hx
  have e : ((Rect.unit (s := S1x8x128) ![0, g.val, 0] ![1, 1, 128] inb).emb x 1 : Nat) = g.val + (x 1 : Nat) := by
    rw [Rect.emb_apply]; exact Rect.idx_unit_val _ _ inb x 1
  have hx1 : (x 1 : Nat) < 1 := (x 1).isLt
  have h2 : ((Rect.unit (s := S1x8x128) ![0, g.val, 0] ![1, 1, 128] inb).emb x 1 : Nat) = g'.val := this
  omega

theorem ld_row (X : S1x8x128.Idx → Elt Ideal .f32) (g : Fin 8) (inb : ∀ a, (![0, g.val, 0] : Fin 3 → Nat) a + (![1, 1, 128] : Fin 3 → Nat) a ≤ S1x8x128.size a) (l : Fin 128) :
    View.ld X (Rect.unit (s := S1x8x128) ![0, g.val, 0] ![1, 1, 128] inb) (ix3 0 0 l : S1x1x128.Idx) = X (ix3 0 g l) := by
  rw [← emb_row g inb l]; rfl

/-- The first store of the call fills the block with zeros; `L` ends with it. -/
theorem old_row (v : View sig .tc .vmem S1x8x128 .f32) (L : List (View.Piece (Elt Ideal) S1x8x128 .f32)) (g : Fin 8)
    (inb : ∀ a, (![0, g.val, 0] : Fin 3 → Nat) a + (![1, 1, 128] : Fin 3 → Nat) a ≤ S1x8x128.size a) (l : Fin 128)
    (h : ∃ p ∈ L, ∀ y, y ∈ p.1.set) :
    v.readCov L (Rect.unit (s := S1x8x128) ![0, g.val, 0] ![1, 1, 128] inb).toLoadRect (ix3 0 0 l : S1x1x128.Idx) = View.canon L (ix3 0 g l) := by
  rw [View.readCov_eq_canon_ld v L _ fun y => h.imp fun p hp => ⟨hp.1, hp.2 y⟩]
  exact ld_row _ g inb l

theorem canon_zero (inb : ∀ a, (![0, 0, 0] : Fin 3 → Nat) a + S1x8x128.size a ≤ S1x8x128.size a) (y : S1x8x128.Idx) :
    View.canon [(⟨Rect.unit (s := S1x8x128) ![0, 0, 0] S1x8x128.size inb, k1_pay4 (F := Ideal)⟩ : View.Piece (Elt Ideal) S1x8x128 .f32)] y
      = ((0 : ℝ) : EReal) := by
  rw [View.canon_cons_unit_lit inb _ _ (by decide)]
  pointwise [k1_pay4]
  rfl

theorem inb_whole (a : Fin 3) : (![0, 0, 0] : Fin 3 → Nat) a + S1x8x128.size a ≤ S1x8x128.size a := by
  match a with
  | ⟨0, _⟩ => show 0 + 1 ≤ 1; omega
  | ⟨1, _⟩ => show 0 + 8 ≤ 8; omega
  | ⟨2, _⟩ => show 0 + 128 ≤ 128; omega

/-- The store of zeros. -/
abbrev zeros : View.Piece (Elt Ideal) S1x8x128 .f32 := ⟨Rect.unit (s := S1x8x128) ![0, 0, 0] S1x8x128.size inb_whole, k1_pay4 (F := Ideal)⟩

theorem mem_whole (inb : ∀ a, (![0, 0, 0] : Fin 3 → Nat) a + S1x8x128.size a ≤ S1x8x128.size a) (y : S1x8x128.Idx) :
    y ∈ (Rect.unit (s := S1x8x128) ![0, 0, 0] S1x8x128.size inb).set :=
  View.mem_set_unit_zero (by decide) inb y

/-- One group's share of the sink's gradient. -/
def snk (rows : Fin 4 → Fin 128 → Row) (g : Fin 4) : ℝ := ∑ i, -((rows g i).PS * (rows g i).delta)

variable (V : (c : Dev nD) → (b : Ref sig .tc) → Buf (Elt Ideal) ((c : Thread nD τ).loc b))
variable {V} {rows : Fin 4 → Fin 128 → Row} {c : Dev nD} {t : Fin cfg1.N} (hf : Feeds1 V rows c t)

include hf

/-- The row of group `g`. -/
abbrev up (g : Fin 4) : Fin 8 := ⟨g.val, by omega⟩

theorem outs1_dsk_B (h0 : ¬ t.val % 16 = 0) (p : Fin 4 → ℝ)
    (hp : ∀ g l, (outsAt1 V c (t.val - 1) (Nat.lt_of_le_of_lt (Nat.sub_le _ _) t.isLt)).2.2.2 (ix3 0 (up g) l) = ((p g : ℝ) : EReal))
    (g : Fin 4) (l : Fin 128) :
    (outsAt1 V c t.val t.isLt).2.2.2 (ix3 0 (up g) l) = ((p g + snk rows g : ℝ) : EReal) := by
  rw [outsAt1_B V c t h0]
  dsimp only
  unfold out1_B_16
  have key : ∀ g, _ := fun g => dsk_apply (hf.f g) (hf.f' g) l ((ld_row _ (up g) (by exact inb_row (up g)) l).trans (hp g l))
  rw [View.read_writes_apply_eq_canon]
  · frame_out
    match g with
    | 3 => exact (canon_row 3 _ _ _ l).trans (key 3)
    | 2 => exact (canon_other 3 2 (by decide) _ _ _ l).trans ((canon_row 2 _ _ _ l).trans (key 2))
    | 1 => exact (canon_other 3 1 (by decide) _ _ _ l).trans ((canon_other 2 1 (by decide) _ _ _ l).trans
        ((canon_row 1 _ _ _ l).trans (key 1)))
    | 0 => exact (canon_other 3 0 (by decide) _ _ _ l).trans ((canon_other 2 0 (by decide) _ _ _ l).trans
        ((canon_other 1 0 (by decide) _ _ _ l).trans ((canon_row 0 _ _ _ l).trans (key 0))))
  · frame_out
    match g with
    | 3 => exact ⟨_, List.mem_cons_self, mem_row 3 (inb_row 3) l⟩
    | 2 => exact ⟨_, List.mem_cons_of_mem _ List.mem_cons_self, mem_row 2 (inb_row 2) l⟩
    | 1 => exact ⟨_, List.mem_cons_of_mem _ (List.mem_cons_of_mem _ List.mem_cons_self), mem_row 1 (inb_row 1) l⟩
    | 0 => exact ⟨_, List.mem_cons_of_mem _ (List.mem_cons_of_mem _ (List.mem_cons_of_mem _ List.mem_cons_self)), mem_row 0 (inb_row 0) l⟩

theorem outs1_dsk_A (h0 : t.val % 16 = 0) (g : Fin 4) (l : Fin 128) :
    (outsAt1 V c t.val t.isLt).2.2.2 (ix3 0 (up g) l) = ((0 + snk rows g : ℝ) : EReal) := by
  rw [outsAt1_A V c t h0]
  dsimp only
  unfold out1_A_16
  have key := fun (g : Fin 4) (X : Vec Ideal S1x1x128 .f32) hX => dsk_apply (hf.f g) (hf.f' g) (p := 0) (X := X) l hX
  rw [View.read_writes_apply_eq_canon]
  · frame_out
    match g with
    | 3 =>
      refine (canon_row 3 _ _ _ l).trans (key 3 _ ?_)
      refine (old_row _ _ 3 _ l ⟨zeros, List.mem_cons_of_mem _ (List.mem_cons_of_mem _ (List.mem_cons_of_mem _ (List.mem_cons_self))), mem_whole inb_whole⟩).trans ?_
      refine (canon_other 2 3 (by decide) _ _ _ l).trans ?_
      refine (canon_other 1 3 (by decide) _ _ _ l).trans ?_
      refine (canon_other 0 3 (by decide) _ _ _ l).trans ?_
      exact canon_zero _ _
    | 2 =>
      refine (canon_other 3 2 (by decide) _ _ _ l).trans ?_
      refine (canon_row 2 _ _ _ l).trans (key 2 _ ?_)
      refine (old_row _ _ 2 _ l ⟨zeros, List.mem_cons_of_mem _ (List.mem_cons_of_mem _ (List.mem_cons_self)), mem_whole inb_whole⟩).trans ?_
      refine (canon_other 1 2 (by decide) _ _ _ l).trans ?_
      refine (canon_other 0 2 (by decide) _ _ _ l).trans ?_
      exact canon_zero _ _
    | 1 =>
      refine (canon_other 3 1 (by decide) _ _ _ l).trans ?_
      refine (canon_other 2 1 (by decide) _ _ _ l).trans ?_
      refine (canon_row 1 _ _ _ l).trans (key 1 _ ?_)
      refine (old_row _ _ 1 _ l ⟨zeros, List.mem_cons_of_mem _ (List.mem_cons_self), mem_whole inb_whole⟩).trans ?_
      refine (canon_other 0 1 (by decide) _ _ _ l).trans ?_
      exact canon_zero _ _
    | 0 =>
      refine (canon_other 3 0 (by decide) _ _ _ l).trans ?_
      refine (canon_other 2 0 (by decide) _ _ _ l).trans ?_
      refine (canon_other 1 0 (by decide) _ _ _ l).trans ?_
      refine (canon_row 0 _ _ _ l).trans (key 0 _ ?_)
      refine (old_row _ _ 0 _ l ⟨zeros, List.mem_cons_self, mem_whole inb_whole⟩).trans ?_
      exact canon_zero _ _
  · frame_out
    exact ⟨zeros, List.mem_cons_of_mem _ (List.mem_cons_of_mem _ (List.mem_cons_of_mem _ (List.mem_cons_of_mem _ (List.mem_cons_self)))), mem_whole inb_whole _⟩

end Cert.KernelIdeal.BwdQ

end
-- ==== Proof.Data.lean ====
/- The arguments as real arrays, the rows they make, and what the first call's blocks hold of them. -/
module

public import proofs.«01_k».proof.Proof.Place
public import proofs.«01_k».proof.Proof.Sink1

@[expose] public section

set_option maxRecDepth 16384

noncomputable section

namespace Cert.KernelIdeal

open Idealize.ShloMosaic Idealize.ShloMosaic.TcCoe Cert.Attn Cert.KernelIdeal.Gen Cert.KernelIdeal.Mask Cert.KernelIdeal.Place

/-- The arguments by head, group, row and coordinate. -/
structure Data where
  q : Fin 4 → Fin 4 → Fin 2048 → Fin 64 → ℝ
  dO : Fin 4 → Fin 4 → Fin 2048 → Fin 64 → ℝ
  k : Fin 4 → Fin 2048 → Fin 64 → ℝ
  v : Fin 4 → Fin 2048 → Fin 64 → ℝ
  kc : Fin 4 → Fin 256 → Fin 64 → ℝ
  vc : Fin 4 → Fin 256 → Fin 64 → ℝ
  sk : Fin 4 → Fin 4 → ℝ

/-- The third of the window a key lies in, and its place there. -/
def third (kk : Fin 384) : Fin 3 := ⟨kk.val / 128, by omega⟩
def rest (kk : Fin 384) : Fin 128 := ⟨kk.val % 128, by omega⟩

/-- Row `i` of block `n`, head `h`, group `g`. -/
def Data.rows (D : Data) (h g : Fin 4) (n : Fin 16) (i : Fin 128) : Row where
  q := D.q h g (row n i)
  dO := D.dO h g (row n i)
  ok := inWin n.val i
  dec := inferInstance
  kw kk := D.k h (row (nbr n (third kk)) (rest kk))
  vw kk := D.v h (row (nbr n (third kk)) (rest kk))
  kc := D.kc h
  vc := D.vc h
  sk := D.sk h g

/-- Three blocks one after another. -/
def pick (A B C : Vec Ideal S1x128x64 .bf16) : Fin 3 → Vec Ideal S1x128x64 .bf16
  | 0 => A | 1 => B | 2 => C

theorem place_pick (A B C : Vec Ideal S1x128x64 .bf16) (kk : Fin 384) (d : Fin 64) :
    (if h : kk.val < 128 then A (ix3 0 ⟨kk.val, h⟩ d)
      else if h' : kk.val - 128 < 128 then B (ix3 0 ⟨kk.val - 128, h'⟩ d) else C (ix3 0 ⟨kk.val - 128 - 128, by omega⟩ d))
      = pick A B C (third kk) (ix3 0 (rest kk) d) := by
  have hk := kk.isLt
  split
  · rename_i h
    rw [show third kk = 0 from Fin.ext (show kk.val / 128 = 0 by omega)]
    rw [show rest kk = ⟨kk.val, h⟩ from Fin.ext (show kk.val % 128 = kk.val by omega)]
    rfl
  · split
    · rename_i h h'
      rw [show third kk = 1 from Fin.ext (show kk.val / 128 = 1 by omega)]
      rw [show rest kk = ⟨kk.val - 128, h'⟩ from Fin.ext (show kk.val % 128 = kk.val - 128 by omega)]
      rfl
    · rename_i h h'
      rw [show third kk = 2 from Fin.ext (show kk.val / 128 = 2 by omega)]
      rw [show rest kk = ⟨kk.val - 128 - 128, by omega⟩ from Fin.ext (show kk.val % 128 = kk.val - 128 - 128 by omega)]
      rfl

theorem k0_pay2_apply (A B C : Vec Ideal S1x128x64 .bf16) (kk : Fin 384) (d : Fin 64) :
    k0_pay2 A B C (ix2 kk d) = pick A B C (third kk) (ix3 0 (rest kk) d) := by
  pointwise [k0_pay2]
  exact place_pick A B C kk d

theorem k0_pay3_apply (A B C : Vec Ideal S1x128x64 .bf16) (kk : Fin 384) (d : Fin 64) :
    k0_pay3 A B C (ix2 kk d) = pick A B C (third kk) (ix3 0 (rest kk) d) := by
  pointwise [k0_pay3]
  exact place_pick A B C kk d

theorem k1_pay5_apply (A B C : Vec Ideal S1x128x64 .bf16) (kk : Fin 384) (d : Fin 64) :
    k1_pay5 A B C (ix2 kk d) = pick A B C (third kk) (ix3 0 (rest kk) d) := by
  pointwise [k1_pay5]
  exact place_pick A B C kk d

theorem k1_pay6_apply (A B C : Vec Ideal S1x128x64 .bf16) (kk : Fin 384) (d : Fin 64) :
    k1_pay6 A B C (ix2 kk d) = pick A B C (third kk) (ix3 0 (rest kk) d) := by
  pointwise [k1_pay6]
  exact place_pick A B C kk d

theorem k2_pay2_apply (A : Vec Ideal S1x128x64 .bf16) (j : Fin 128) (d : Fin 64) : k2_pay2 A (ix2 j d) = A (ix3 0 j d) := by
  pointwise [k2_pay2]

theorem k2_pay3_apply (A : Vec Ideal S1x128x64 .bf16) (j : Fin 128) (d : Fin 64) : k2_pay3 A (ix2 j d) = A (ix3 0 j d) := by
  pointwise [k2_pay3]

variable (V : (c : Dev nD) → (b : Ref sig .tc) → Buf (Elt Ideal) ((c : Thread nD τ).loc b))

/-- The arrays the first call reads hold the arguments. -/
structure Holds (c : Dev nD) (D : Data) : Prop where
  q : ∀ h g r d, V c main_v2 (ix4 h g r d : S4x4x2048x64.Idx) = ((D.q h g r d : ℝ) : EReal)
  k : ∀ h r d, V c main_v4 (ix3 h r d : S4x2048x64.Idx) = ((D.k h r d : ℝ) : EReal)
  v : ∀ h r d, V c main_v6 (ix3 h r d : S4x2048x64.Idx) = ((D.v h r d : ℝ) : EReal)
  kc : ∀ h x d, V c main_v8 (ix3 h x d : S4x256x64.Idx) = ((D.kc h x d : ℝ) : EReal)
  vc : ∀ h x d, V c main_v10 (ix3 h x d : S4x256x64.Idx) = ((D.vc h x d : ℝ) : EReal)
  sk : ∀ h g, V c main_arg5 (Fwd.sinkIdx h g) = ((D.sk h g : ℝ) : EReal)

/-- The arrays the second and third calls read besides. -/
structure Holds' (c : Dev nD) (D : Data) : Prop where
  d : ∀ h g r d, V c main_v14 (ix4 h g r d : S4x4x2048x64.Idx) = ((D.dO h g r d : ℝ) : EReal)
  o : ∀ h g n i d, V c main_v11_0 (ix4 h g (row n i) d : S4x4x2048x64.Idx) = (((D.rows h g n i).O d : ℝ) : EReal)
  l : ∀ h g n i, V c main_v11_1 (ix4 h g (row n i) 0 : S4x4x2048x1.Idx) = (((D.rows h g n i).lse : ℝ) : EReal)

variable {V} {c : Dev nD} {D : Data} (H : Holds V c D)

include H

theorem keys0 (t : Fin cfg0.N) (i : Fin 128) (d : Fin 64) : ∀ s, pick (iblk0 V c 2 t) (iblk0 V c 3 t) (iblk0 V c 4 t) s (ix3 0 i d)
    = ((D.k (hd0 t) (row (nbr (nb0 t) s) i) d : ℝ) : EReal)
  | 0 => (read0_2 V c t i d).trans (H.k _ _ _)
  | 1 => (read0_3 V c t i d).trans (H.k _ _ _)
  | 2 => (read0_4 V c t i d).trans (H.k _ _ _)

theorem vals0 (t : Fin cfg0.N) (i : Fin 128) (d : Fin 64) : ∀ s, pick (iblk0 V c 5 t) (iblk0 V c 6 t) (iblk0 V c 7 t) s (ix3 0 i d)
    = ((D.v (hd0 t) (row (nbr (nb0 t) s) i) d : ℝ) : EReal)
  | 0 => (read0_5 V c t i d).trans (H.v _ _ _)
  | 1 => (read0_6 V c t i d).trans (H.v _ _ _)
  | 2 => (read0_7 V c t i d).trans (H.v _ _ _)

/-- The first call's blocks hold the rows of the point's block. -/
theorem feeds0 (t : Fin cfg0.N) : Fwd.Feeds0 V (fun g i => D.rows (hd0 t) g (nb0 t) i) c t := fun g => {
  q := fun i d => (read0_1 V c t g i d).trans (H.q _ _ _ _)
  k := fun i kk d => (k0_pay2_apply _ _ _ kk d).trans (keys0 H t (rest kk) d (third kk))
  v := fun i kk d => (k0_pay3_apply _ _ _ kk d).trans (vals0 H t (rest kk) d (third kk))
  kc := fun i x d => (read0_8 V c t x d).trans (H.kc _ _ _)
  vc := fun i x d => (read0_9 V c t x d).trans (H.vc _ _ _)
  sk := fun i => (read0_0 V c t _).trans (H.sk _ _)
  m := fun i kk => pay4_apply (grid0.coords t) i kk }

theorem keys1 (t : Fin cfg1.N) (i : Fin 128) (d : Fin 64) : ∀ s, pick (iblk1 V c 2 t) (iblk1 V c 3 t) (iblk1 V c 4 t) s (ix3 0 i d)
    = ((D.k (hd1 t) (row (nbr (nb1 t) s) i) d : ℝ) : EReal)
  | 0 => (read1_2 V c t i d).trans (H.k _ _ _)
  | 1 => (read1_3 V c t i d).trans (H.k _ _ _)
  | 2 => (read1_4 V c t i d).trans (H.k _ _ _)

theorem vals1 (t : Fin cfg1.N) (i : Fin 128) (d : Fin 64) : ∀ s, pick (iblk1 V c 5 t) (iblk1 V c 6 t) (iblk1 V c 7 t) s (ix3 0 i d)
    = ((D.v (hd1 t) (row (nbr (nb1 t) s) i) d : ℝ) : EReal)
  | 0 => (read1_5 V c t i d).trans (H.v _ _ _)
  | 1 => (read1_6 V c t i d).trans (H.v _ _ _)
  | 2 => (read1_7 V c t i d).trans (H.v _ _ _)

variable (H' : Holds' V c D)

include H'

/-- The second call's blocks too. -/
theorem feeds1 (t : Fin cfg1.N) : BwdQ.Feeds1 V (fun g i => D.rows (hd1 t) g (nb1 t) i) c t where
  f g := {
    q := fun i d => (BwdQ.ldq_apply _ _ _ _).trans ((read1_1 V c t g i d).trans (H.q _ _ _ _))
    k := fun i kk d => (k1_pay5_apply _ _ _ kk d).trans (keys1 H t (rest kk) d (third kk))
    v := fun i kk d => (k1_pay6_apply _ _ _ kk d).trans (vals1 H t (rest kk) d (third kk))
    kc := fun i x d => (read1_8 V c t x d).trans (H.kc _ _ _)
    vc := fun i x d => (read1_9 V c t x d).trans (H.vc _ _ _)
    sk := fun i => (BwdQ.ldsk_eq _ _ _).trans ((read1_0 V c t _).trans (H.sk _ _))
    m := fun i kk => pay9_apply (grid1.coords t) i kk }
  f' g := {
    d := fun i d => (BwdQ.ldq_apply _ _ _ _).trans ((read1_11 V c t g i d).trans (H'.d _ _ _ _))
    o := fun i d => (BwdQ.ldq_apply _ _ _ _).trans ((read1_10 V c t g i d).trans (H'.o _ _ _ _ _))
    l := fun i => (BwdQ.ldl_apply _ _ _).trans ((read1_12 V c t g i).trans (H'.l _ _ _ _)) }

omit H H' in
/-- A live slot's key is key `place3` of the window of that slot's query block. -/
theorem place_live (n : Fin 16) (s : Fin 3) (hl : live n.val s) (j : Fin 128) :
    row (nbr (nbr n s) (third (place3 s j))) (rest (place3 s j)) = row n j := by
  obtain ⟨h1, h2⟩ := hl
  have hs := s.isLt
  have hj := j.isLt
  have e : ((2 - s.val) * 128 + j.val) / 128 = 2 - s.val := by omega
  have e' : ((2 - s.val) * 128 + j.val) % 128 = j.val := by omega
  refine Fin.ext ?_
  show min (min (n.val + s.val - 1) 15 + ((2 - s.val) * 128 + j.val) / 128 - 1) 15 * 128 + ((2 - s.val) * 128 + j.val) % 128
    = n.val * 128 + j.val
  rw [e, e']
  have : min (min (n.val + s.val - 1) 15 + (2 - s.val) - 1) 15 = n.val := by omega
  rw [this]

omit H H' in
theorem mask_live (t : Fin cfg2.N) (s : Fin 3) (g : Fin 4) (i j : Fin 128) :
    mask (grid2.coords t) s (ix2 i j)
      = BitVec.ofBool (decide (live (grid2.coords t 1).val s ∧ (D.rows (hd2 t) g (nbr (nb2 t) s) i).ok (place3 s j))) := by
  rw [mask_apply]
  refine congrArg BitVec.ofBool (decide_eq_decide.mpr (and_congr_right fun hl => ?_))
  obtain ⟨h1, h2⟩ := hl
  have e : (grid2.coords t 1).val + s.val - 1 = (nbr (nb2 t) s).val := by
    show (nb2 t).val + s.val - 1 = min ((nb2 t).val + s.val - 1) 15
    have : (nb2 t).val = (grid2.coords t 1).val := rfl
    omega
  rw [e]
  exact Iff.rfl

/-- And the third call's. -/
theorem feeds2 (t : Fin cfg2.N) : BwdKV.Feeds2 V (fun s g i => D.rows (hd2 t) g (nbr (nb2 t) s) i)
    (fun j => D.k (hd2 t) (row (nb2 t) j)) (fun j => D.v (hd2 t) (row (nb2 t) j)) c t where
  f0 g := {
    q := fun i d => (BwdQ.ldq_apply _ _ _ _).trans ((read2_0 V c t g i d).trans (H.q _ _ _ _))
    k := fun j d => (k2_pay2_apply _ j d).trans ((read2_12 V c t j d).trans (H.k _ _ _))
    v := fun j d => (k2_pay3_apply _ j d).trans ((read2_13 V c t j d).trans (H.v _ _ _))
    k' := fun hl i j d => congrArg (fun r => D.k (hd2 t) r d) (place_live (nb2 t) 0 hl j).symm
    v' := fun hl i j d => congrArg (fun r => D.v (hd2 t) r d) (place_live (nb2 t) 0 hl j).symm
    m := fun i j => mask_live t 0 g i j }
  f0' g := {
    d := fun i d => (BwdQ.ldq_apply _ _ _ _).trans ((read2_3 V c t g i d).trans (H'.d _ _ _ _))
    o := fun i d => (BwdQ.ldq_apply _ _ _ _).trans ((read2_6 V c t g i d).trans (H'.o _ _ _ _ _))
    l := fun i => (BwdQ.ldl_apply _ _ _).trans ((read2_9 V c t g i).trans (H'.l _ _ _ _)) }
  f1 g := {
    q := fun i d => (BwdQ.ldq_apply _ _ _ _).trans ((read2_1 V c t g i d).trans (H.q _ _ _ _))
    k := fun j d => (k2_pay2_apply _ j d).trans ((read2_12 V c t j d).trans (H.k _ _ _))
    v := fun j d => (k2_pay3_apply _ j d).trans ((read2_13 V c t j d).trans (H.v _ _ _))
    k' := fun hl i j d => congrArg (fun r => D.k (hd2 t) r d) (place_live (nb2 t) 1 hl j).symm
    v' := fun hl i j d => congrArg (fun r => D.v (hd2 t) r d) (place_live (nb2 t) 1 hl j).symm
    m := fun i j => mask_live t 1 g i j }
  f1' g := {
    d := fun i d => (BwdQ.ldq_apply _ _ _ _).trans ((read2_4 V c t g i d).trans (H'.d _ _ _ _))
    o := fun i d => (BwdQ.ldq_apply _ _ _ _).trans ((read2_7 V c t g i d).trans (H'.o _ _ _ _ _))
    l := fun i => (BwdQ.ldl_apply _ _ _).trans ((read2_10 V c t g i).trans (H'.l _ _ _ _)) }
  f2 g := {
    q := fun i d => (BwdQ.ldq_apply _ _ _ _).trans ((read2_2 V c t g i d).trans (H.q _ _ _ _))
    k := fun j d => (k2_pay2_apply _ j d).trans ((read2_12 V c t j d).trans (H.k _ _ _))
    v := fun j d => (k2_pay3_apply _ j d).trans ((read2_13 V c t j d).trans (H.v _ _ _))
    k' := fun hl i j d => congrArg (fun r => D.k (hd2 t) r d) (place_live (nb2 t) 2 hl j).symm
    v' := fun hl i j d => congrArg (fun r => D.v (hd2 t) r d) (place_live (nb2 t) 2 hl j).symm
    m := fun i j => mask_live t 2 g i j }
  f2' g := {
    d := fun i d => (BwdQ.ldq_apply _ _ _ _).trans ((read2_5 V c t g i d).trans (H'.d _ _ _ _))
    o := fun i d => (BwdQ.ldq_apply _ _ _ _).trans ((read2_8 V c t g i d).trans (H'.o _ _ _ _ _))
    l := fun i => (BwdQ.ldl_apply _ _ _).trans ((read2_11 V c t g i).trans (H'.l _ _ _ _)) }

end Cert.KernelIdeal

end
-- ==== Proof.Arrays.lean ====
/- What the result arrays hold after each call, from what the arrays it reads hold. -/
module

public import proofs.«01_k».proof.Proof.Data

@[expose] public section

set_option maxRecDepth 16384

noncomputable section

namespace Cert.KernelIdeal

open Idealize.ShloMosaic Idealize.ShloMosaic.TcCoe Cert.Attn Cert.KernelIdeal.Gen Cert.KernelIdeal.Mask Cert.KernelIdeal.Place

/-- The block of a row, and its place there. -/
def blk (r : Fin 2048) : Fin 16 := ⟨r.val / 128, by omega⟩
def off (r : Fin 2048) : Fin 128 := ⟨r.val % 128, by omega⟩

theorem row_blk (r : Fin 2048) : row (blk r) (off r) = r := Fin.ext (show r.val / 128 * 128 + r.val % 128 = r.val by omega)
theorem blk_row (n : Fin 16) (i : Fin 128) : blk (row n i) = n := Fin.ext (show (n.val * 128 + i.val) / 128 = n.val by omega)
theorem off_row (n : Fin 16) (i : Fin 128) : off (row n i) = i := Fin.ext (show (n.val * 128 + i.val) % 128 = i.val by omega)

theorem fin1 (a : Fin 1) : a = 0 := Subsingleton.elim _ _

theorem idx_q (y : S1x4x128x64.Idx) : ∃ (g : Fin 4) (i : Fin 128) (d : Fin 64), y = (ix4 0 g i d : S1x4x128x64.Idx) :=
  ⟨y 1, y 2, y 3, funext fun a => match a with
  | ⟨0, _⟩ => fin1 _
  | ⟨1, _⟩ => rfl
  | ⟨2, _⟩ => rfl
  | ⟨3, _⟩ => rfl⟩

theorem idx_l (y : S1x4x128x1.Idx) : ∃ (g : Fin 4) (i : Fin 128), y = (ix4 0 g i 0 : S1x4x128x1.Idx) :=
  ⟨y 1, y 2, funext fun a => match a with
  | ⟨0, _⟩ => fin1 _
  | ⟨1, _⟩ => rfl
  | ⟨2, _⟩ => rfl
  | ⟨3, _⟩ => fin1 _⟩

theorem idx_c (y : S1x256x64.Idx) : ∃ (x : Fin 256) (d : Fin 64), y = (ix3 0 x d : S1x256x64.Idx) :=
  ⟨y 1, y 2, funext fun a => match a with
  | ⟨0, _⟩ => fin1 _
  | ⟨1, _⟩ => rfl
  | ⟨2, _⟩ => rfl⟩

theorem idx_k (y : S1x128x64.Idx) : ∃ (k : Fin 128) (d : Fin 64), y = (ix3 0 k d : S1x128x64.Idx) :=
  ⟨y 1, y 2, funext fun a => match a with
  | ⟨0, _⟩ => fin1 _
  | ⟨1, _⟩ => rfl
  | ⟨2, _⟩ => rfl⟩

theorem idx_s (y : S1x8x128.Idx) : ∃ (k : Fin 8) (d : Fin 128), y = (ix3 0 k d : S1x8x128.Idx) :=
  ⟨y 1, y 2, funext fun a => match a with
  | ⟨0, _⟩ => fin1 _
  | ⟨1, _⟩ => rfl
  | ⟨2, _⟩ => rfl⟩

theorem idx_Q (y : S4x4x2048x64.Idx) : ∃ (h g : Fin 4) (n : Fin 16) (i : Fin 128) (d : Fin 64), y = (ix4 h g (row n i) d : S4x4x2048x64.Idx) :=
  ⟨y 0, y 1, blk (y 2), off (y 2), y 3, funext fun a => match a with
  | ⟨0, _⟩ => rfl
  | ⟨1, _⟩ => rfl
  | ⟨2, _⟩ => (row_blk _).symm
  | ⟨3, _⟩ => rfl⟩

theorem idx_L (y : S4x4x2048x1.Idx) : ∃ (h g : Fin 4) (n : Fin 16) (i : Fin 128), y = (ix4 h g (row n i) 0 : S4x4x2048x1.Idx) :=
  ⟨y 0, y 1, blk (y 2), off (y 2), funext fun a => match a with
  | ⟨0, _⟩ => rfl
  | ⟨1, _⟩ => rfl
  | ⟨2, _⟩ => (row_blk _).symm
  | ⟨3, _⟩ => fin1 _⟩

theorem idx_K (y : S4x2048x64.Idx) : ∃ (h : Fin 4) (n : Fin 16) (i : Fin 128) (d : Fin 64), y = (ix3 h (row n i) d : S4x2048x64.Idx) :=
  ⟨y 0, blk (y 1), off (y 1), y 2, funext fun a => match a with
  | ⟨0, _⟩ => rfl
  | ⟨1, _⟩ => (row_blk _).symm
  | ⟨2, _⟩ => rfl⟩

theorem idx_C (y : S4x256x64.Idx) : ∃ (h : Fin 4) (x : Fin 256) (d : Fin 64), y = (ix3 h x d : S4x256x64.Idx) :=
  ⟨y 0, y 1, y 2, funext fun a => match a with
  | ⟨0, _⟩ => rfl
  | ⟨1, _⟩ => rfl
  | ⟨2, _⟩ => rfl⟩

theorem idx_S (y : S4x8x128.Idx) : ∃ (h : Fin 4) (x : Fin 8) (d : Fin 128), y = (ix3 h x d : S4x8x128.Idx) :=
  ⟨y 0, y 1, y 2, funext fun a => match a with
  | ⟨0, _⟩ => rfl
  | ⟨1, _⟩ => rfl
  | ⟨2, _⟩ => rfl⟩

variable {V : (c : Dev nD) → (b : Ref sig .tc) → Buf (Elt Ideal) ((c : Thread nD τ).loc b)} {c : Dev nD} {D : Data}

/-- The outputs. -/
def arr_o (D : Data) (y : S4x4x2048x64.Idx) : EReal := (((D.rows (y 0) (y 1) (blk (y 2)) (off (y 2))).O (y 3) : ℝ) : EReal)

theorem left_o (H : Holds V c D) (t : Fin cfg0.N) (y : S1x4x128x64.Idx) :
    (dat0 V c).after 10 t y = arr_o D ((win0_10.rect t).emb y) := by
  obtain ⟨g, i, d, rfl⟩ := idx_q y
  rw [place0_10]
  rw [after0_10]
  refine (Fwd.outs0_o (feeds0 H t) _).trans ?_
  show (((D.rows (hd0 t) g (nb0 t) i).O d : ℝ) : EReal) = (((D.rows (hd0 t) g (blk (row (nb0 t) i)) (off (row (nb0 t) i))).O d : ℝ) : EReal)
  rw [blk_row, off_row]

theorem cover_o (y : S4x4x2048x64.Idx) : ∃ t, (cfg0.win 10).flush t = true ∧ y ∈ ((cfg0.win 10).blk t).view.set := by
  obtain ⟨h, g, n, i, d, rfl⟩ := idx_Q y
  refine ⟨pt0 h n, flush0_10 _, ?_⟩
  have h : (win0_10.rect (pt0 h n)).emb (ix4 0 g i d : S1x4x128x64.Idx) ∈ ((cfg0.win 10).blk (pt0 h n)).view.set :=
    View.emb_mem_set _ _
  rw [place0_10, hd0_pt, nb0_pt] at h
  exact h

theorem final_o (H : Holds V c D) : (dat0 V c).arrAt 10 cfg0.N = arr_o D :=
  (dat0 V c).arrAt_eq_of_cover 10 (arr_o D) (fun t _ => funext fun y => left_o H t y) cover_o

/-- The logarithms of the denominators. -/
def arr_lse (D : Data) (y : S4x4x2048x1.Idx) : EReal := (((D.rows (y 0) (y 1) (blk (y 2)) (off (y 2))).lse : ℝ) : EReal)

theorem left_lse (H : Holds V c D) (t : Fin cfg0.N) (y : S1x4x128x1.Idx) :
    (dat0 V c).after 11 t y = arr_lse D ((win0_11.rect t).emb y) := by
  obtain ⟨g, i, rfl⟩ := idx_l y
  rw [place0_11]
  rw [after0_11]
  refine (Fwd.outs0_lse (feeds0 H t) _).trans ?_
  show (((D.rows (hd0 t) g (nb0 t) i).lse : ℝ) : EReal) = (((D.rows (hd0 t) g (blk (row (nb0 t) i)) (off (row (nb0 t) i))).lse : ℝ) : EReal)
  rw [blk_row, off_row]

theorem cover_lse (y : S4x4x2048x1.Idx) : ∃ t, (cfg0.win 11).flush t = true ∧ y ∈ ((cfg0.win 11).blk t).view.set := by
  obtain ⟨h, g, n, i, rfl⟩ := idx_L y
  refine ⟨pt0 h n, flush0_11 _, ?_⟩
  have h : (win0_11.rect (pt0 h n)).emb (ix4 0 g i 0 : S1x4x128x1.Idx) ∈ ((cfg0.win 11).blk (pt0 h n)).view.set :=
    View.emb_mem_set _ _
  rw [place0_11, hd0_pt, nb0_pt] at h
  exact h

theorem final_lse (H : Holds V c D) : (dat0 V c).arrAt 11 cfg0.N = arr_lse D :=
  (dat0 V c).arrAt_eq_of_cover 11 (arr_lse D) (fun t _ => funext fun y => left_lse H t y) cover_lse

/-- The queries' gradients. -/
def arr_dq (D : Data) (y : S4x4x2048x64.Idx) : EReal := (((D.rows (y 0) (y 1) (blk (y 2)) (off (y 2))).dq (y 3) : ℝ) : EReal)

theorem left_dq (H : Holds V c D) (H' : Holds' V c D) (t : Fin cfg1.N) (y : S1x4x128x64.Idx) :
    (dat1 V c).after 13 t y = arr_dq D ((win1_13.rect t).emb y) := by
  obtain ⟨g, i, d, rfl⟩ := idx_q y
  rw [place1_13]
  rw [after1_13]
  refine (BwdQ.outs1_dq (feeds1 H H' t) _).trans ?_
  show (((D.rows (hd1 t) g (nb1 t) i).dq d : ℝ) : EReal) = (((D.rows (hd1 t) g (blk (row (nb1 t) i)) (off (row (nb1 t) i))).dq d : ℝ) : EReal)
  rw [blk_row, off_row]

theorem cover_dq (y : S4x4x2048x64.Idx) : ∃ t, (cfg1.win 13).flush t = true ∧ y ∈ ((cfg1.win 13).blk t).view.set := by
  obtain ⟨h, g, n, i, d, rfl⟩ := idx_Q y
  refine ⟨pt1 h n, flush1_13 _, ?_⟩
  have h : (win1_13.rect (pt1 h n)).emb (ix4 0 g i d : S1x4x128x64.Idx) ∈ ((cfg1.win 13).blk (pt1 h n)).view.set :=
    View.emb_mem_set _ _
  rw [place1_13, hd1_pt, nb1_pt] at h
  exact h

theorem final_dq (H : Holds V c D) (H' : Holds' V c D) : (dat1 V c).arrAt 13 cfg1.N = arr_dq D :=
  (dat1 V c).arrAt_eq_of_cover 13 (arr_dq D) (fun t _ => funext fun y => left_dq H H' t y) cover_dq

/-- A block's share of the gradients of the context keys and values, and of the sinks. -/
def Data.cK (D : Data) (h : Fin 4) (n : Fin 16) (x : Fin 256) (d : Fin 64) : ℝ := ∑ g, BwdQ.ctxK (fun g i => D.rows h g n i) g x d
def Data.cV (D : Data) (h : Fin 4) (n : Fin 16) (x : Fin 256) (d : Fin 64) : ℝ := ∑ g, BwdQ.ctxV (fun g i => D.rows h g n i) g x d
def Data.cS (D : Data) (h : Fin 4) (n : Fin 16) (g : Fin 4) : ℝ := BwdQ.snk (fun g i => D.rows h g n i) g

/-- The point before one that doesn't start a head. -/
theorem before (t : Fin cfg1.N) (n : Nat) (hn : (nb1 t).val = n + 1) :
    ¬ t.val % 16 = 0 ∧ ∃ t' : Fin cfg1.N, t'.val = t.val - 1 ∧ (nb1 t').val = n ∧ hd1 t' = hd1 t ∧ nb1 t = Fin.ofNat 16 (n + 1) := by
  have hm := mod1 t
  have hd := div1 t
  have ht := t.isLt
  have hl := (nb1 t).isLt
  refine ⟨by omega, ⟨t.val - 1, by omega⟩, rfl, ?_, Fin.ext ?_, Fin.ext ?_⟩
  · have := mod1 ⟨t.val - 1, by omega⟩
    dsimp only at this
    omega
  · have := mod1 ⟨t.val - 1, by omega⟩
    have := div1 ⟨t.val - 1, by omega⟩
    dsimp only at *
    omega
  · show (nb1 t).val = (n + 1) % 16
    omega

theorem first (t : Fin cfg1.N) (hn : (nb1 t).val = 0) : t.val % 16 = 0 ∧ nb1 t = Fin.ofNat 16 0 :=
  ⟨(mod1 t).trans hn, Fin.ext hn⟩

/-- All sixteen blocks. -/
theorem sum16 (f : Fin 16 → ℝ) : (∑ m ∈ Finset.range (15 + 1), f (Fin.ofNat 16 m)) = ∑ m, f m := by
  rw [Finset.sum_range]
  exact Finset.sum_congr rfl fun m _ => congrArg f (Fin.ext (Nat.mod_eq_of_lt m.isLt))

/-- The head a last point ends, and the last point of a head. -/
theorem last1 (t : Fin cfg1.N) (h : t.val % 16 = 15) : (nb1 t).val = 15 := (mod1 t).symm.trans h
theorem last_pt1 (h : Fin 4) : (pt1 h 15).val % 16 = 15 := by
  have := mod1 (pt1 h 15); rw [nb1_pt] at this; exact this

theorem run_dkc (H : Holds V c D) (H' : Holds' V c D) : ∀ (n : Nat) (t : Fin cfg1.N), (nb1 t).val = n → ∀ x d,
    (outsAt1 V c t.val t.isLt).2.1 (ix3 0 x d) = ((∑ m ∈ Finset.range (n + 1), D.cK (hd1 t) (Fin.ofNat 16 m) x d : ℝ) : EReal)
  | 0, t, hn, x, d => by
    obtain ⟨h0, e⟩ := first t hn
    refine (BwdQ.outs1_dkc_A (feeds1 H H' t) h0 x d).trans (congrArg _ ?_)
    rw [Finset.sum_range_one, Data.cK, Fin.sum_univ_four, ← e]
    ring
  | n + 1, t, hn, x, d => by
    obtain ⟨h0, t', ht, hn', hh, e⟩ := before t n hn
    have ih := run_dkc H H' n t' hn'
    have ih' : ∀ x d, (outsAt1 V c (t.val - 1) (Nat.lt_of_le_of_lt (Nat.sub_le _ _) t.isLt)).2.1 (ix3 0 x d)
        = ((∑ m ∈ Finset.range (n + 1), D.cK (hd1 t) (Fin.ofNat 16 m) x d : ℝ) : EReal) := by
      intro x d
      rw [← hh, ← ih x d]
      congr 3
      simp only [ht]
    refine (BwdQ.outs1_dkc_B (feeds1 H H' t) h0 _ ih' x d).trans (congrArg _ ?_)
    rw [Finset.sum_range_succ _ (n + 1), Data.cK, Fin.sum_univ_four, ← e]
    ring

/-- The context keys' gradients. -/
def arr_dkc (D : Data) (y : S4x256x64.Idx) : EReal := ((∑ n, D.cK (y 0) n (y 1) (y 2) : ℝ) : EReal)

theorem left_dkc (H : Holds V c D) (H' : Holds' V c D) (t : Fin cfg1.N) (ht : (cfg1.win 14).flush t = true) (y : S1x256x64.Idx) :
    (dat1 V c).after 14 t y = arr_dkc D ((win1_14.rect t).emb y) := by
  obtain ⟨x, d, rfl⟩ := idx_c y
  rw [place1_14]
  rw [after1_14]
  refine (run_dkc H H' 15 t (last1 t ((flush1_14 t).mp ht)) _ _).trans (congrArg _ ?_)
  exact sum16 (fun n => D.cK (hd1 t) n x d)

theorem cover_dkc (y : S4x256x64.Idx) : ∃ t, (cfg1.win 14).flush t = true ∧ y ∈ ((cfg1.win 14).blk t).view.set := by
  obtain ⟨h, x, d, rfl⟩ := idx_C y
  refine ⟨pt1 h 15, (flush1_14 _).mpr (last_pt1 _), ?_⟩
  have h : (win1_14.rect (pt1 h 15)).emb (ix3 0 x d : S1x256x64.Idx) ∈ ((cfg1.win 14).blk (pt1 h 15)).view.set :=
    View.emb_mem_set _ _
  rw [place1_14, hd1_pt] at h
  exact h

theorem final_dkc (H : Holds V c D) (H' : Holds' V c D) : (dat1 V c).arrAt 14 cfg1.N = arr_dkc D :=
  (dat1 V c).arrAt_eq_of_cover 14 (arr_dkc D) (fun t ht => funext fun y => left_dkc H H' t ht y) cover_dkc

theorem run_dvc (H : Holds V c D) (H' : Holds' V c D) : ∀ (n : Nat) (t : Fin cfg1.N), (nb1 t).val = n → ∀ x d,
    (outsAt1 V c t.val t.isLt).2.2.1 (ix3 0 x d) = ((∑ m ∈ Finset.range (n + 1), D.cV (hd1 t) (Fin.ofNat 16 m) x d : ℝ) : EReal)
  | 0, t, hn, x, d => by
    obtain ⟨h0, e⟩ := first t hn
    refine (BwdQ.outs1_dvc_A (feeds1 H H' t) h0 x d).trans (congrArg _ ?_)
    rw [Finset.sum_range_one, Data.cV, Fin.sum_univ_four, ← e]
    ring
  | n + 1, t, hn, x, d => by
    obtain ⟨h0, t', ht, hn', hh, e⟩ := before t n hn
    have ih := run_dvc H H' n t' hn'
    have ih' : ∀ x d, (outsAt1 V c (t.val - 1) (Nat.lt_of_le_of_lt (Nat.sub_le _ _) t.isLt)).2.2.1 (ix3 0 x d)
        = ((∑ m ∈ Finset.range (n + 1), D.cV (hd1 t) (Fin.ofNat 16 m) x d : ℝ) : EReal) := by
      intro x d
      rw [← hh, ← ih x d]
      congr 3
      simp only [ht]
    refine (BwdQ.outs1_dvc_B (feeds1 H H' t) h0 _ ih' x d).trans (congrArg _ ?_)
    rw [Finset.sum_range_succ _ (n + 1), Data.cV, Fin.sum_univ_four, ← e]
    ring

/-- The context values' gradients. -/
def arr_dvc (D : Data) (y : S4x256x64.Idx) : EReal := ((∑ n, D.cV (y 0) n (y 1) (y 2) : ℝ) : EReal)

theorem left_dvc (H : Holds V c D) (H' : Holds' V c D) (t : Fin cfg1.N) (ht : (cfg1.win 15).flush t = true) (y : S1x256x64.Idx) :
    (dat1 V c).after 15 t y = arr_dvc D ((win1_15.rect t).emb y) := by
  obtain ⟨x, d, rfl⟩ := idx_c y
  rw [place1_15]
  rw [after1_15]
  refine (run_dvc H H' 15 t (last1 t ((flush1_15 t).mp ht)) _ _).trans (congrArg _ ?_)
  exact sum16 (fun n => D.cV (hd1 t) n x d)

theorem cover_dvc (y : S4x256x64.Idx) : ∃ t, (cfg1.win 15).flush t = true ∧ y ∈ ((cfg1.win 15).blk t).view.set := by
  obtain ⟨h, x, d, rfl⟩ := idx_C y
  refine ⟨pt1 h 15, (flush1_15 _).mpr (last_pt1 _), ?_⟩
  have h : (win1_15.rect (pt1 h 15)).emb (ix3 0 x d : S1x256x64.Idx) ∈ ((cfg1.win 15).blk (pt1 h 15)).view.set :=
    View.emb_mem_set _ _
  rw [place1_15, hd1_pt] at h
  exact h

theorem final_dvc (H : Holds V c D) (H' : Holds' V c D) : (dat1 V c).arrAt 15 cfg1.N = arr_dvc D :=
  (dat1 V c).arrAt_eq_of_cover 15 (arr_dvc D) (fun t ht => funext fun y => left_dvc H H' t ht y) cover_dvc

theorem run_dsk (H : Holds V c D) (H' : Holds' V c D) : ∀ (n : Nat) (t : Fin cfg1.N), (nb1 t).val = n → ∀ g l,
    (outsAt1 V c t.val t.isLt).2.2.2 (ix3 0 (BwdQ.up g) l) = ((∑ m ∈ Finset.range (n + 1), D.cS (hd1 t) (Fin.ofNat 16 m) g : ℝ) : EReal)
  | 0, t, hn, g, l => by
    obtain ⟨h0, e⟩ := first t hn
    refine (BwdQ.outs1_dsk_A (feeds1 H H' t) h0 g l).trans (congrArg _ ?_)
    rw [Finset.sum_range_one, Data.cS, ← e]
    ring
  | n + 1, t, hn, g, l => by
    obtain ⟨h0, t', ht, hn', hh, e⟩ := before t n hn
    have ih := run_dsk H H' n t' hn'
    have ih' : ∀ g l, (outsAt1 V c (t.val - 1) (Nat.lt_of_le_of_lt (Nat.sub_le _ _) t.isLt)).2.2.2 (ix3 0 (BwdQ.up g) l)
        = ((∑ m ∈ Finset.range (n + 1), D.cS (hd1 t) (Fin.ofNat 16 m) g : ℝ) : EReal) := by
      intro g l
      rw [← hh, ← ih g l]
      congr 3
      simp only [ht]
    refine (BwdQ.outs1_dsk_B (feeds1 H H' t) h0 _ ih' g l).trans (congrArg _ ?_)
    rw [Finset.sum_range_succ _ (n + 1), Data.cS, ← e]

/-- The sinks' array: what the last point of each head leaves. -/
def sinks (V : (c : Dev nD) → (b : Ref sig .tc) → Buf (Elt Ideal) ((c : Thread nD τ).loc b)) (c : Dev nD) (y : S4x8x128.Idx) : EReal :=
  (outsAt1 V c (pt1 (y 0) 15).val (pt1 (y 0) 15).isLt).2.2.2 (ix3 0 (y 1) (y 2) : S1x8x128.Idx)

theorem left_dsk (t : Fin cfg1.N) (ht : (cfg1.win 16).flush t = true) (y : S1x8x128.Idx) :
    (dat1 V c).after 16 t y = sinks V c ((win1_16.rect t).emb y) := by
  obtain ⟨x, l, rfl⟩ := idx_s y
  rw [place1_16, after1_16]
  have e : t = pt1 (hd1 t) 15 := Fin.ext (by
    have := div1 t; rw [last1 t ((flush1_16 t).mp ht)] at this; exact this)
  show _ = (outsAt1 V c (pt1 (hd1 t) 15).val (pt1 (hd1 t) 15).isLt).2.2.2 (ix3 0 x l : S1x8x128.Idx)
  rw [← e]

theorem cover_dsk (y : S4x8x128.Idx) : ∃ t, (cfg1.win 16).flush t = true ∧ y ∈ ((cfg1.win 16).blk t).view.set := by
  obtain ⟨h, x, l, rfl⟩ := idx_S y
  refine ⟨pt1 h 15, (flush1_16 _).mpr (last_pt1 _), ?_⟩
  have h : (win1_16.rect (pt1 h 15)).emb (ix3 0 x l : S1x8x128.Idx) ∈ ((cfg1.win 16).blk (pt1 h 15)).view.set :=
    View.emb_mem_set _ _
  rw [place1_16, hd1_pt] at h
  exact h

/-- The sinks' gradients stand in the first four of eight rows. -/
theorem final_dsk (H : Holds V c D) (H' : Holds' V c D) (h g : Fin 4) (l : Fin 128) :
    (dat1 V c).arrAt 16 cfg1.N (ix3 h (BwdQ.up g) l : S4x8x128.Idx) = ((∑ n, D.cS h n g : ℝ) : EReal) := by
  rw [(dat1 V c).arrAt_eq_of_cover 16 (sinks V c) (fun t ht => funext fun y => left_dsk t ht y) cover_dsk]
  refine (run_dsk H H' 15 (pt1 h 15) (by rw [nb1_pt]; rfl) g l).trans (congrArg _ ?_)
  rw [hd1_pt]
  exact sum16 (fun n => D.cS h n g)

/-- The gradients of key and value `k` of block `j`: the shares of the three query blocks that see it. -/
def Data.kK (D : Data) (h : Fin 4) (j : Fin 16) (k : Fin 128) (d : Fin 64) : ℝ :=
  ∑ s, ∑ g, BwdKV.keyK (fun s g i => D.rows h g (nbr j s) i) j.val s g k d
def Data.kV (D : Data) (h : Fin 4) (j : Fin 16) (k : Fin 128) (d : Fin 64) : ℝ :=
  ∑ s, ∑ g, BwdKV.keyV (fun s g i => D.rows h g (nbr j s) i) j.val s g k d

/-- The keys' gradients. -/
def arr_dk (D : Data) (y : S4x2048x64.Idx) : EReal := ((D.kK (y 0) (blk (y 1)) (off (y 1)) (y 2) : ℝ) : EReal)

theorem left_dk (H : Holds V c D) (H' : Holds' V c D) (t : Fin cfg2.N) (y : S1x128x64.Idx) :
    (dat2 V c).after 14 t y = arr_dk D ((win2_14.rect t).emb y) := by
  obtain ⟨i, d, rfl⟩ := idx_k y
  rw [place2_14]
  refine (BwdKV.after2_dk (feeds2 H H' t) _ _).trans ?_
  show ((D.kK (hd2 t) (nb2 t) i d : ℝ) : EReal) = ((D.kK (hd2 t) (blk (row (nb2 t) i)) (off (row (nb2 t) i)) d : ℝ) : EReal)
  rw [blk_row, off_row]

theorem cover_dk (y : S4x2048x64.Idx) : ∃ t, (cfg2.win 14).flush t = true ∧ y ∈ ((cfg2.win 14).blk t).view.set := by
  obtain ⟨h, n, i, d, rfl⟩ := idx_K y
  refine ⟨pt2 h n, flush2_14 _, ?_⟩
  have h : (win2_14.rect (pt2 h n)).emb (ix3 0 i d : S1x128x64.Idx) ∈ ((cfg2.win 14).blk (pt2 h n)).view.set :=
    View.emb_mem_set _ _
  rw [place2_14, hd2_pt, nb2_pt] at h
  exact h

theorem final_dk (H : Holds V c D) (H' : Holds' V c D) : (dat2 V c).arrAt 14 cfg2.N = arr_dk D :=
  (dat2 V c).arrAt_eq_of_cover 14 (arr_dk D) (fun t _ => funext fun y => left_dk H H' t y) cover_dk

/-- The values' gradients. -/
def arr_dv (D : Data) (y : S4x2048x64.Idx) : EReal := ((D.kV (y 0) (blk (y 1)) (off (y 1)) (y 2) : ℝ) : EReal)

theorem left_dv (H : Holds V c D) (H' : Holds' V c D) (t : Fin cfg2.N) (y : S1x128x64.Idx) :
    (dat2 V c).after 15 t y = arr_dv D ((win2_15.rect t).emb y) := by
  obtain ⟨i, d, rfl⟩ := idx_k y
  rw [place2_15]
  refine (BwdKV.after2_dv (feeds2 H H' t) _ _).trans ?_
  show ((D.kV (hd2 t) (nb2 t) i d : ℝ) : EReal) = ((D.kV (hd2 t) (blk (row (nb2 t) i)) (off (row (nb2 t) i)) d : ℝ) : EReal)
  rw [blk_row, off_row]

theorem cover_dv (y : S4x2048x64.Idx) : ∃ t, (cfg2.win 15).flush t = true ∧ y ∈ ((cfg2.win 15).blk t).view.set := by
  obtain ⟨h, n, i, d, rfl⟩ := idx_K y
  refine ⟨pt2 h n, flush2_15 _, ?_⟩
  have h : (win2_15.rect (pt2 h n)).emb (ix3 0 i d : S1x128x64.Idx) ∈ ((cfg2.win 15).blk (pt2 h n)).view.set :=
    View.emb_mem_set _ _
  rw [place2_15, hd2_pt, nb2_pt] at h
  exact h

theorem final_dv (H : Holds V c D) (H' : Holds' V c D) : (dat2 V c).arrAt 15 cfg2.N = arr_dv D :=
  (dat2 V c).arrAt_eq_of_cover 15 (arr_dv D) (fun t _ => funext fun y => left_dv H H' t y) cover_dv

end Cert.KernelIdeal

end
-- ==== Proof.Host.lean ====
/- The host lines before and after the calls: the arguments cut into heads. -/
module

public import proofs.«01_k».proof.Proof.Arrays
public import proofs.«01_k».proof.Proof.Gen.KernelIdeal.Frame

@[expose] public section

set_option maxRecDepth 16384

noncomputable section

namespace Cert.KernelIdeal

open Idealize.ShloMosaic Idealize.ShloMosaic.TcCoe Cert.Attn Cert.KernelIdeal.Gen Cert.KernelIdeal.Mask Cert.KernelIdeal.Place

/-- The column of coordinate `d` of group `g` of head `h`, and of coordinate `d` of key head `h`. -/
def col (h g : Fin 4) (d : Fin 64) : Fin 1024 := ⟨(h.val * 4 + g.val) * 64 + d.val, by omega⟩
def colK (h : Fin 4) (d : Fin 64) : Fin 256 := ⟨h.val * 64 + d.val, by omega⟩

def headsQ (X : Vec Ideal S2048x1024 .bf16) : Vec Ideal S4x4x2048x64 .bf16 :=
  shapeCast S4x4x2048x64 (transpose S16x2048x64 [1, 0, 2] (shapeCast S2048x16x64 X shapeCasts_S2048x1024_S2048x16x64)
    transposes_S2048x16x64_S16x2048x64_1_0_2) shapeCasts_S16x2048x64_S4x4x2048x64
def headsK (X : Vec Ideal S2048x256 .bf16) : Vec Ideal S4x2048x64 .bf16 :=
  transpose S4x2048x64 [1, 0, 2] (shapeCast S2048x4x64 X shapeCasts_S2048x256_S2048x4x64) transposes_S2048x4x64_S4x2048x64_1_0_2
def headsC (X : Vec Ideal S256x256 .bf16) : Vec Ideal S4x256x64 .bf16 :=
  transpose S4x256x64 [1, 0, 2] (shapeCast S256x4x64 X shapeCasts_S256x256_S256x4x64) transposes_S256x4x64_S4x256x64_1_0_2

theorem headsQ_apply (X : Vec Ideal S2048x1024 .bf16) (h g : Fin 4) (r : Fin 2048) (d : Fin 64) :
    headsQ X (ix4 h g r d) = X (ix2 r (col h g d)) := by
  pointwise [headsQ]
  rfl

theorem headsK_apply (X : Vec Ideal S2048x256 .bf16) (h : Fin 4) (r : Fin 2048) (d : Fin 64) :
    headsK X (ix3 h r d) = X (ix2 r (colK h d)) := by
  pointwise [headsK]
  rfl

theorem headsC_apply (X : Vec Ideal S256x256 .bf16) (h : Fin 4) (r : Fin 256) (d : Fin 64) :
    headsC X (ix3 h r d) = X (ix2 r (colK h d)) := by
  pointwise [headsC]
  rfl

theorem real_of {x : EReal} (hb : x ≠ ⊥) (ht : x ≠ ⊤) : x = ((x.toReal : ℝ) : EReal) := (EReal.coe_toReal ht hb).symm

/-- The arguments, as real arrays by head. -/
def Data.of (q : Vec Ideal S2048x1024 .bf16) (k v : Vec Ideal S2048x256 .bf16) (kc vc : Vec Ideal S256x256 .bf16)
    (sk : Vec Ideal S16 .f32) (dO : Vec Ideal S2048x1024 .bf16) : Data where
  q h g r d := EReal.toReal (q (ix2 r (col h g d)))
  dO h g r d := EReal.toReal (dO (ix2 r (col h g d)))
  k h r d := EReal.toReal (k (ix2 r (colK h d)))
  v h r d := EReal.toReal (v (ix2 r (colK h d)))
  kc h r d := EReal.toReal (kc (ix2 r (colK h d)))
  vc h r d := EReal.toReal (vc (ix2 r (colK h d)))
  sk h g := EReal.toReal (sk (Fwd.sinkIdx h g))

/-- Every entry is a real number. -/
structure Real (q : Vec Ideal S2048x1024 .bf16) (k v : Vec Ideal S2048x256 .bf16) (kc vc : Vec Ideal S256x256 .bf16)
    (sk : Vec Ideal S16 .f32) (dO : Vec Ideal S2048x1024 .bf16) : Prop where
  q : ∀ y, q y = ((EReal.toReal (q y) : ℝ) : EReal)
  k : ∀ y, k y = ((EReal.toReal (k y) : ℝ) : EReal)
  v : ∀ y, v y = ((EReal.toReal (v y) : ℝ) : EReal)
  kc : ∀ y, kc y = ((EReal.toReal (kc y) : ℝ) : EReal)
  vc : ∀ y, vc y = ((EReal.toReal (vc y) : ℝ) : EReal)
  sk : ∀ y, sk y = ((EReal.toReal (sk y) : ℝ) : EReal)
  dO : ∀ y, dO y = ((EReal.toReal (dO y) : ℝ) : EReal)

variable (m : (ℓ : Loc nD τ sig) → Buf (Elt Ideal) ℓ) (ρ : Dev nD → PrngReg) (c : Dev nD)

/-- What a device's memory holds at launch. -/
abbrev dataOf : Data := Data.of (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
abbrev RealAt : Prop := Real (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))

theorem W1_v2 : W1 m ρ c (Proc.devRef .tc main_v2) = headsQ (m ((c : Thread nD τ).loc main_arg0)) := by
  simp only [W1, StableHlo.after_cons, StableHlo.after_nil, hostOps0]
  rfl
theorem W1_v4 : W1 m ρ c (Proc.devRef .tc main_v4) = headsK (m ((c : Thread nD τ).loc main_arg1)) := by
  simp only [W1, StableHlo.after_cons, StableHlo.after_nil, hostOps0]
  rfl
theorem W1_v6 : W1 m ρ c (Proc.devRef .tc main_v6) = headsK (m ((c : Thread nD τ).loc main_arg2)) := by
  simp only [W1, StableHlo.after_cons, StableHlo.after_nil, hostOps0]
  rfl
theorem W1_v8 : W1 m ρ c (Proc.devRef .tc main_v8) = headsC (m ((c : Thread nD τ).loc main_arg3)) := by
  simp only [W1, StableHlo.after_cons, StableHlo.after_nil, hostOps0]
  rfl
theorem W1_v10 : W1 m ρ c (Proc.devRef .tc main_v10) = headsC (m ((c : Thread nD τ).loc main_arg4)) := by
  simp only [W1, StableHlo.after_cons, StableHlo.after_nil, hostOps0]
  rfl

theorem W1_arg5 : W1 m ρ c (Proc.devRef .tc main_arg5) = m ((c : Thread nD τ).loc main_arg5) := W1_args m ρ c main_arg5 (by decide)

variable {m ρ c} (hr : RealAt m c)

include hr

/-- The first call reads the arguments by head. -/
theorem holds1 : Holds (V1 m ρ) c (dataOf m c) where
  q h g r d := by
    show W1 m ρ c (Proc.devRef .tc main_v2) _ = _
    rw [W1_v2, headsQ_apply]; exact hr.q _
  k h r d := by
    show W1 m ρ c (Proc.devRef .tc main_v4) _ = _
    rw [W1_v4, headsK_apply]; exact hr.k _
  v h r d := by
    show W1 m ρ c (Proc.devRef .tc main_v6) _ = _
    rw [W1_v6, headsK_apply]; exact hr.v _
  kc h r d := by
    show W1 m ρ c (Proc.devRef .tc main_v8) _ = _
    rw [W1_v8, headsC_apply]; exact hr.kc _
  vc h r d := by
    show W1 m ρ c (Proc.devRef .tc main_v10) _ = _
    rw [W1_v10, headsC_apply]; exact hr.vc _
  sk h g := by
    show W1 m ρ c (Proc.devRef .tc main_arg5) _ = _
    rw [W1_arg5]; exact hr.sk _

omit hr in
/-- What the first call leaves of the arrays it reads is still there for the second. -/
theorem keep3 (b : Ref sig .tc) (h1 : b ∉ hostOps1_W) (h2 : ∀ w : Fin cfg0.W, Pipeline.arrRef spec0 w = b → (cfg0.win w).isOut = false) :
    W3 m ρ c (Proc.devRef .tc b) = W1 m ρ c (Proc.devRef .tc b) :=
  (W3_of m ρ c b h1).trans (W2_of m ρ c b h2)

theorem holds3 : Holds (V3 m ρ) c (dataOf m c) where
  q h g r d := (congrFun (keep3 main_v2 (by decide) (by decide)) _).trans ((holds1 hr).q h g r d)
  k h r d := (congrFun (keep3 main_v4 (by decide) (by decide)) _).trans ((holds1 hr).k h r d)
  v h r d := (congrFun (keep3 main_v6 (by decide) (by decide)) _).trans ((holds1 hr).v h r d)
  kc h r d := (congrFun (keep3 main_v8 (by decide) (by decide)) _).trans ((holds1 hr).kc h r d)
  vc h r d := (congrFun (keep3 main_v10 (by decide) (by decide)) _).trans ((holds1 hr).vc h r d)
  sk h g := (congrFun (keep3 main_arg5 (by decide) (by decide)) _).trans ((holds1 hr).sk h g)

omit hr in
theorem W3_v14 : W3 m ρ c (Proc.devRef .tc main_v14) = headsQ (m ((c : Thread nD τ).loc main_arg6)) := by
  have h : W2 m ρ c (Proc.devRef .tc main_arg6) = m ((c : Thread nD τ).loc main_arg6) := W2_args m ρ c main_arg6 (by decide)
  simp only [W3, StableHlo.after_cons, StableHlo.after_nil, hostOps1]
  rw [← h]
  rfl

theorem holds3' : Holds' (V3 m ρ) c (dataOf m c) where
  d h g r d := by
    show W3 m ρ c (Proc.devRef .tc main_v14) _ = _
    rw [W3_v14, headsQ_apply]; exact hr.dO _
  o h g n i d := by
    have e : W3 m ρ c (Proc.devRef .tc main_v11_0) = arr_o (dataOf m c) :=
      (W3_of m ρ c main_v11_0 (by decide)).trans ((W2_arr m ρ c 10).trans (final_o (holds1 hr)))
    refine (congrFun e _).trans ?_
    show (((dataOf m c).rows h g (blk (row n i)) (off (row n i))).O d : EReal) = _
    rw [blk_row, off_row]
  l h g n i := by
    have e : W3 m ρ c (Proc.devRef .tc main_v11_1) = arr_lse (dataOf m c) :=
      (W3_of m ρ c main_v11_1 (by decide)).trans ((W2_arr m ρ c 11).trans (final_lse (holds1 hr)))
    refine (congrFun e _).trans ?_
    show (((dataOf m c).rows h g (blk (row n i)) (off (row n i))).lse : EReal) = _
    rw [blk_row, off_row]

/-- The third call reads what the second read. -/
theorem holds4 : Holds (V4 m ρ) c (dataOf m c) where
  q h g r d := (congrFun (W4_of m ρ c main_v2 (by decide)) _).trans ((holds3 hr).q h g r d)
  k h r d := (congrFun (W4_of m ρ c main_v4 (by decide)) _).trans ((holds3 hr).k h r d)
  v h r d := (congrFun (W4_of m ρ c main_v6 (by decide)) _).trans ((holds3 hr).v h r d)
  kc h r d := (congrFun (W4_of m ρ c main_v8 (by decide)) _).trans ((holds3 hr).kc h r d)
  vc h r d := (congrFun (W4_of m ρ c main_v10 (by decide)) _).trans ((holds3 hr).vc h r d)
  sk h g := (congrFun (W4_of m ρ c main_arg5 (by decide)) _).trans ((holds3 hr).sk h g)

theorem holds4' : Holds' (V4 m ρ) c (dataOf m c) where
  d h g r d := (congrFun (W4_of m ρ c main_v14 (by decide)) _).trans ((holds3' hr).d h g r d)
  o h g n i d := (congrFun (W4_of m ρ c main_v11_0 (by decide)) _).trans ((holds3' hr).o h g n i d)
  l h g n i := (congrFun (W4_of m ρ c main_v11_1 (by decide)) _).trans ((holds3' hr).l h g n i)

/-- The results' arrays at the end. -/
theorem end_dq : W6 m ρ c (Proc.devRef .tc main_v15_0) = arr_dq (dataOf m c) :=
  (W6_of m ρ c main_v15_0 (by decide)).trans ((W5_of_ne m ρ c main_v15_0 (by decide)).trans
    ((W4_arr m ρ c 13).trans (final_dq (holds3 hr) (holds3' hr))))
theorem end_dkc : W6 m ρ c (Proc.devRef .tc main_v15_1) = arr_dkc (dataOf m c) :=
  (W6_of m ρ c main_v15_1 (by decide)).trans ((W5_of_ne m ρ c main_v15_1 (by decide)).trans
    ((W4_arr m ρ c 14).trans (final_dkc (holds3 hr) (holds3' hr))))
theorem end_dvc : W6 m ρ c (Proc.devRef .tc main_v15_2) = arr_dvc (dataOf m c) :=
  (W6_of m ρ c main_v15_2 (by decide)).trans ((W5_of_ne m ρ c main_v15_2 (by decide)).trans
    ((W4_arr m ρ c 15).trans (final_dvc (holds3 hr) (holds3' hr))))
theorem end_dk : W6 m ρ c (Proc.devRef .tc main_v16_0) = arr_dk (dataOf m c) :=
  (W6_of m ρ c main_v16_0 (by decide)).trans ((W5_arr m ρ c 14).trans (final_dk (holds4 hr) (holds4' hr)))
theorem end_dv : W6 m ρ c (Proc.devRef .tc main_v16_1) = arr_dv (dataOf m c) :=
  (W6_of m ρ c main_v16_1 (by decide)).trans ((W5_arr m ρ c 15).trans (final_dv (holds4 hr) (holds4' hr)))

/-- The first column of the first four rows, flat. -/
def flat (X : Vec Ideal S4x8x128 .f32) : Vec Ideal S16 .f32 :=
  shapeCast S16 (shapeCast S4x4 (extractStridedSlice S4x4x1 ![0, 0, 0] X slices_S4x8x128_S4x4x1_0_0_0) shapeCasts_S4x4x1_S4x4) shapeCasts_S4x4_S16

omit hr in
theorem flat_apply (X : Vec Ideal S4x8x128 .f32) (h g : Fin 4) : flat X (Fwd.sinkIdx h g) = X (ix3 h (BwdQ.up g) 0) := by
  unfold Fwd.sinkIdx
  pointwise [flat]

omit hr in
theorem W6_v19 : W6 m ρ c (Proc.devRef .tc main_v19) = flat (W5 m ρ c (Proc.devRef .tc main_v15_3)) := by
  simp only [W6, StableHlo.after_cons, StableHlo.after_nil, hostOps3]
  rfl

theorem end_dsk (h g : Fin 4) : W6 m ρ c (Proc.devRef .tc main_v19) (Fwd.sinkIdx h g) = ((∑ n, (dataOf m c).cS h n g : ℝ) : EReal) := by
  rw [W6_v19, flat_apply]
  exact (congrFun ((W5_of_ne m ρ c main_v15_3 (by decide)).trans (W4_arr m ρ c 16)) _).trans (final_dsk (holds3 hr) (holds3' hr) h g 0)

end Cert.KernelIdeal

end
-- ==== Proof.KRun.lean ====
/- The whole run of the kernel's program, with its results. -/
module

public import proofs.«01_k».proof.Proof.Host

@[expose] public section

set_option maxRecDepth 16384

noncomputable section

namespace Cert.KernelIdeal

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every fair run ends, with the results at the last contents and the arguments as launched. -/
theorem run : θ_run defs (onTc (τ := τ) (main (F := Ideal))) ⟨m, fun _ => 0, ρ⟩ (fun r => ∀ c : Dev nD,
      r.2.mem ((c.tc : Thread nD τ).loc main_v15_0) = W6 m ρ c (Proc.devRef .tc main_v15_0)
      ∧ r.2.mem ((c.tc : Thread nD τ).loc main_v16_0) = W6 m ρ c (Proc.devRef .tc main_v16_0)
      ∧ r.2.mem ((c.tc : Thread nD τ).loc main_v16_1) = W6 m ρ c (Proc.devRef .tc main_v16_1)
      ∧ r.2.mem ((c.tc : Thread nD τ).loc main_v15_1) = W6 m ρ c (Proc.devRef .tc main_v15_1)
      ∧ r.2.mem ((c.tc : Thread nD τ).loc main_v15_2) = W6 m ρ c (Proc.devRef .tc main_v15_2)
      ∧ r.2.mem ((c.tc : Thread nD τ).loc main_v19) = W6 m ρ c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨h c _ (mem_uc main_v15_0 (by decide)),
       h c _ (mem_uc main_v16_0 (by decide)),
       h c _ (mem_uc main_v16_1 (by decide)),
       h c _ (mem_uc main_v15_1 (by decide)),
       h c _ (mem_uc main_v15_2 (by decide)),
       h c _ (mem_uc main_v19 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal

end
-- ==== Proof.Finite.lean ====
/- What the precondition says: every entry of every argument is a real number. -/
module

public import proofs.«01_k».proof.Defs
public import proofs.«01_k».proof.Proof.Host

@[expose] public section

set_option maxRecDepth 16384

noncomputable section

namespace Cert.KernelIdeal

open Idealize.ShloMosaic Idealize.ShloMosaic.TcCoe Cert.KernelIdeal.Gen

/-- The shape relations the precondition's operations take. -/
theorem finite_facts : Cert.Pre_finite.Facts where
  bitsLt_bf16_f32 := by decide
  bcast_S_S2048x1024 := by decide
  bcast_S_S2048x256 := by decide
  bcast_S_S256x256 := by decide
  bcast_S_S16 := by decide

/-- The pattern of plus infinity. -/
theorem ofBits_top : Ideal.ofBits .f32 0x7F800000#32 = (⊤ : EReal) := by
  simp [Ideal.ofBits, Ideal.ieee]

/-- A number whose absolute value is less than plus infinity is real. -/
theorem real_of_lt (x : EReal) (h : BitVec.ofBool (decide (max x (-x) < ⊤)) = 1#1) : x = ((EReal.toReal x : ℝ) : EReal) := by
  have hl : max x (-x) < ⊤ := by
    by_contra n
    rw [decide_eq_false n] at h
    exact absurd h (by decide)
  refine (EReal.coe_toReal (fun e => ?_) (fun e => ?_)).symm
  · rw [e] at hl; exact absurd hl (by simp)
  · rw [e] at hl; exact absurd hl (by simp)

/-- The test of one array, entry by entry. -/
theorem real_of_mask {S : Shape} {φ : FTy} (x : FVec Ideal S φ) (b : FVec Ideal S .f32) (hφ : φ.bits < FTy.bits .f32)
    (hb : ∀ y, b y = (⊤ : EReal)) (h : cmpf .olt (Host.absf (extf .f32 x hφ)) b = fun _ => 1#1) (y : S.Idx) :
    (x y : EReal) = ((EReal.toReal (x y) : ℝ) : EReal) := by
  refine real_of_lt _ (Eq.trans ?_ (congrFun h y))
  rw [← hb y]
  rfl

/-- The same of an array that is not cast first. -/
theorem real_of_mask32 {S : Shape} (x b : FVec Ideal S .f32) (hb : ∀ y, b y = (⊤ : EReal))
    (h : cmpf .olt (Host.absf x) b = fun _ => 1#1) (y : S.Idx) : (x y : EReal) = ((EReal.toReal (x y) : ℝ) : EReal) := by
  refine real_of_lt _ (Eq.trans ?_ (congrFun h y))
  rw [← hb y]
  rfl

/-- The precondition on a device: its arguments are real. -/
theorem real_of_pre (m : (ℓ : Loc nD τ sig) → Buf (Elt Ideal) ℓ) (h : Cert.Pre_KernelIdeal_finite (hPre_finite := finite_facts) m)
    (c : Dev nD) : RealAt m c := by
  obtain ⟨h0, h1, h2, h3, h4, h5, h6⟩ := h c
  exact {
    q := real_of_mask _ _ (by decide) (fun _ => ofBits_top) h0
    k := real_of_mask _ _ (by decide) (fun _ => ofBits_top) h1
    v := real_of_mask _ _ (by decide) (fun _ => ofBits_top) h2
    kc := real_of_mask _ _ (by decide) (fun _ => ofBits_top) h3
    vc := real_of_mask _ _ (by decide) (fun _ => ofBits_top) h4
    sk := real_of_mask32 _ _ (fun _ => ofBits_top) h5
    dO := real_of_mask _ _ (by decide) (fun _ => ofBits_top) h6 }

end Cert.KernelIdeal

end
-- ==== Proof.RefRow.lean ====
/- The gradients of one query row as differentiating the softmax by rule writes them: every score lessened by a number,
   and the quotient's two terms apart. -/
module

public import proofs.«01_k».proof.Proof.Row
public import proofs.«01_k».proof.Proof.Lift

@[expose] public section

noncomputable section

namespace Cert.Attn

namespace Row

variable (r : Row) (m : ℝ)

/-- The weights with every score lessened by `m`, and their sum. -/
def eW (kk : Fin 384) : ℝ := if r.ok kk then Real.exp (r.s kk - m) else 0
def eC (c : Fin 256) : ℝ := Real.exp (r.sc c - m)
def eS : ℝ := Real.exp (r.sk - m)
def dn : ℝ := (∑ kk, r.eW m kk) + (∑ c, r.eC m c) + r.eS m

theorem dn_eq : r.dn m = r.den * Real.exp (-m) := r.den_shift m

theorem dn_pos : 0 < r.dn m := by rw [dn_eq]; exact r.shift_pos m

theorem dn_ne : r.dn m ≠ 0 := (r.dn_pos m).ne'

theorem eW_eq (kk : Fin 384) : r.eW m kk = r.P kk * r.dn m := by
  have h := r.P_shift m kk
  rw [← dn_eq] at h
  rw [← h, mul_assoc, one_div, inv_mul_cancel₀ (r.dn_ne m), mul_one]; rfl

theorem eC_eq (c : Fin 256) : r.eC m c = r.PC c * r.dn m := by
  have h := r.PC_shift m c
  rw [← dn_eq] at h
  rw [← h, mul_assoc, one_div, inv_mul_cancel₀ (r.dn_ne m), mul_one]; rfl

theorem eS_eq : r.eS m = r.PS * r.dn m := by
  have h := r.PS_shift m
  rw [← dn_eq] at h
  rw [← h, mul_assoc, one_div, inv_mul_cancel₀ (r.dn_ne m), mul_one]; rfl

/-- The weights against the values' cotangents. -/
def tot : ℝ := (∑ c, r.eC m c * r.DC c) + ∑ kk, r.eW m kk * r.DV kk

theorem tot_eq : r.tot m = r.delta * r.dn m := by
  unfold tot
  rw [delta_eq, add_mul, add_comm, Finset.sum_mul, Finset.sum_mul]
  refine congr (congrArg _ ?_) ?_
  · refine Finset.sum_congr rfl fun kk _ => ?_
    rw [eW_eq]; ring
  · refine Finset.sum_congr rfl fun c _ => ?_
    rw [eC_eq]; ring

/-- What the quotient sends back to the weights' sum. -/
def back : ℝ := -(r.tot m * (1 / (r.dn m * r.dn m)))

theorem back_eq : r.back m = -(r.delta / r.dn m) := by
  have h := r.dn_ne m
  unfold back
  rw [tot_eq]
  field_simp

theorem back_eS : r.back m * r.eS m = -(r.PS * r.delta) := by
  have h := r.dn_ne m
  rw [back_eq, eS_eq]
  field_simp

theorem back_eC (c : Fin 256) : (r.DC c * (1 / r.dn m) + r.back m) * r.eC m c = r.dsc c := by
  have h := r.dn_ne m
  unfold dsc
  rw [back_eq, eC_eq]
  field_simp
  ring

theorem back_eW (kk : Fin 384) : (r.DV kk * (1 / r.dn m) + r.back m) * r.eW m kk = r.ds kk := by
  have h := r.dn_ne m
  unfold ds
  rw [back_eq, eW_eq]
  field_simp
  ring

/-- The gradients of all scores add up to nothing, so nothing goes back through the maximum. -/
theorem through_max : -(-(r.PS * r.delta)) + (∑ c, -r.dsc c) + (∑ kk, -r.ds kk) = 0 := by
  have hc : ∑ c, r.dsc c = (∑ c, r.PC c * r.DC c) - (∑ c, r.PC c) * r.delta := by
    rw [Finset.sum_mul, ← Finset.sum_sub_distrib]
    exact Finset.sum_congr rfl fun c _ => mul_sub _ _ _
  have hk : ∑ kk, r.ds kk = (∑ kk, r.P kk * r.DV kk) - (∑ kk, r.P kk) * r.delta := by
    rw [Finset.sum_mul, ← Finset.sum_sub_distrib]
    exact Finset.sum_congr rfl fun c _ => mul_sub _ _ _
  have h := congrArg (· * r.delta) r.P_sum
  have hd := r.delta_eq
  simp only [add_mul, one_mul] at h
  rw [Finset.sum_neg_distrib, Finset.sum_neg_distrib, hc, hk]
  linarith

end Row

/-- A maximum is attained, so the number of places that attain it is not zero. -/
theorem exists_fold_max {ι : Type*} [Fintype ι] [Nonempty ι] (f : ι → EReal) : ∃ i, f i = Finset.univ.fold max ⊥ f := by
  obtain ⟨i, -, hi⟩ := Finset.exists_max_image Finset.univ f Finset.univ_nonempty
  refine ⟨i, le_antisymm ?_ ?_⟩
  · exact Finset.le_fold_max (f i) |>.mpr (Or.inr ⟨i, Finset.mem_univ _, le_rfl⟩)
  · exact Finset.fold_max_le (f i) |>.mpr ⟨bot_le, fun j hj => hi j hj⟩

/-- How often a maximum is attained. -/
def ties {ι : Type*} [Fintype ι] (f : ι → EReal) : EReal :=
  ∑ i, (((Idealize.ShloMosaic.Ideal.cmp .oeq (f i) (Finset.univ.fold max ⊥ f)).toNat : ℝ) : EReal)

theorem ties_ne {ι : Type*} [Fintype ι] [Nonempty ι] (f : ι → EReal) : ties f ≠ 0 := by
  unfold ties
  rw [coe_sum]
  obtain ⟨i, hi⟩ := exists_fold_max f
  have h1 : (1 : ℝ) ≤ ∑ i, ((Idealize.ShloMosaic.Ideal.cmp .oeq (f i) (Finset.univ.fold max ⊥ f)).toNat : ℝ) := by
    refine le_trans ?_ (Finset.single_le_sum (fun j _ => Nat.cast_nonneg _) (Finset.mem_univ i))
    rw [← hi]
    simp [Idealize.ShloMosaic.Ideal.cmp]
  intro h0
  have := EReal.coe_eq_zero.mp h0
  linarith

/-- Nothing, shared among the places that attain a maximum, is nothing. -/
theorem div_ties {ι : Type*} [Fintype ι] [Nonempty ι] (f : ι → EReal) : Idealize.ShloMosaic.Ideal.div 0 (ties f) = 0 := by
  unfold Idealize.ShloMosaic.Ideal.div
  rw [if_neg (ties_ne f), zero_mul]

end Cert.Attn

end
-- ==== Proof.RefIn.lean ====
/- What the reference makes of the arguments: heads, zero-padded windows of keys and values, scores and the mask. -/
module

public import proofs.«01_k».proof.Proof.RefRow
public import proofs.«01_k».proof.Proof.Host
public import proofs.«01_k».proof.Proof.Gen.ReferenceIdeal.Run

@[expose] public section

set_option maxRecDepth 16384

noncomputable section

namespace Cert.Ref

open Idealize.ShloMosaic Idealize.ShloMosaic.TcCoe Cert.Attn Cert.ReferenceIdeal Cert.ReferenceIdeal.Gen Cert.ReferenceIdeal.Value
open Cert.KernelIdeal (Data third rest col colK)
open Cert.KernelIdeal.Mask (inWin place abs_le_apply sge_apply slt_apply and_ofBool)
open Cert.KernelIdeal.Place (row nbr)

/-- The reference's buffers hold the arguments `D`. -/
structure Reads (V : Valuation τ sig (Elt Ideal)) (D : Data) : Prop where
  q : ∀ h g r d, (V (Proc.devRef .tc main_arg0) : Vec Ideal S2048x1024 .bf16) (ix2 r (col h g d)) = ((D.q h g r d : ℝ) : EReal)
  k : ∀ h r d, (V (Proc.devRef .tc main_arg1) : Vec Ideal S2048x256 .bf16) (ix2 r (colK h d)) = ((D.k h r d : ℝ) : EReal)
  v : ∀ h r d, (V (Proc.devRef .tc main_arg2) : Vec Ideal S2048x256 .bf16) (ix2 r (colK h d)) = ((D.v h r d : ℝ) : EReal)
  kc : ∀ h r d, (V (Proc.devRef .tc main_arg3) : Vec Ideal S256x256 .bf16) (ix2 r (colK h d)) = ((D.kc h r d : ℝ) : EReal)
  vc : ∀ h r d, (V (Proc.devRef .tc main_arg4) : Vec Ideal S256x256 .bf16) (ix2 r (colK h d)) = ((D.vc h r d : ℝ) : EReal)
  sk : ∀ h g, (V (Proc.devRef .tc main_arg5) : Vec Ideal S16 .f32) (Cert.KernelIdeal.Fwd.sinkIdx h g) = ((D.sk h g : ℝ) : EReal)
  dO : ∀ h g r d, (V (Proc.devRef .tc main_arg6) : Vec Ideal S2048x1024 .bf16) (ix2 r (col h g d)) = ((D.dO h g r d : ℝ) : EReal)

/-- An array of rows with 128 rows of zeros at each end, at a row of the longer array. -/
def padK (f : Fin 2048 → Fin 64 → ℝ) (r : Nat) (d : Fin 64) : ℝ :=
  if h : 128 ≤ r ∧ r < 2176 then f ⟨r - 128, by omega⟩ d else 0

/-- A row with the keys and values of its zero-padded window. -/
def rows (D : Data) (h g : Fin 4) (n : Fin 16) (i : Fin 128) : Row :=
  (D.rows h g n i).withKV (fun kk => padK (D.k h) (n.val * 128 + kk.val)) (fun kk => padK (D.v h) (n.val * 128 + kk.val))

theorem padK_rows (f : Fin 2048 → Fin 64 → ℝ) (n : Fin 16) (i : Fin 128) (kk : Fin 384) (h : inWin n.val i kk) :
    padK f (n.val * 128 + kk.val) = f (row (nbr n (third kk)) (rest kk)) := by
  obtain ⟨-, -, h1, h2⟩ := h
  funext d
  unfold padK
  rw [dif_pos ⟨h1, h2⟩]
  refine congrFun (congrArg f (Fin.ext ?_)) d
  have hn := n.isLt
  have hk := kk.isLt
  show n.val * 128 + kk.val - 128 = (min (n.val + kk.val / 128 - 1) 15) * 128 + kk.val % 128
  omega

variable {V : Valuation τ sig (Elt Ideal)} {D : Data} (R : Reads V D)

include R

theorem v27 (n : Fin 16) (i : Fin 128) (h g : Fin 4) (d : Fin 64) :
    res_main_v27 V (ix5 n i h g d) = ((D.q h g (row n i) d : ℝ) : EReal) := by
  pointwise [res_main_v27]
  rw [← R.q h g (row n i) d]
  exact congrArg _ (congrArg (ix2 (row n i)) (Fin.ext (by show h.val * 256 + g.val * 64 + d.val = (h.val * 4 + g.val) * 64 + d.val; omega)))

theorem v152 (n : Fin 16) (i : Fin 128) (h g : Fin 4) (d : Fin 64) :
    res_main_v152 V (ix5 n i h g d) = ((D.dO h g (row n i) d : ℝ) : EReal) := by
  pointwise [res_main_v152]
  rw [← R.dO h g (row n i) d]
  exact congrArg _ (congrArg (ix2 (row n i)) (Fin.ext (by show h.val * 256 + g.val * 64 + d.val = (h.val * 4 + g.val) * 64 + d.val; omega)))

theorem v7 (x : Fin 256) (h : Fin 4) (d : Fin 64) : res_main_v7 V (ix3 x h d) = ((D.kc h x d : ℝ) : EReal) := by
  pointwise [res_main_v7]
  exact R.kc h x d

theorem v8 (x : Fin 256) (h : Fin 4) (d : Fin 64) : res_main_v8 V (ix3 x h d) = ((D.vc h x d : ℝ) : EReal) := by
  pointwise [res_main_v8]
  exact R.vc h x d

theorem v71 (h g : Fin 4) : res_main_v71 V (ix5 0 h g 0 0) = ((D.sk h g : ℝ) : EReal) := by
  pointwise [res_main_v71]
  rw [← R.sk h g]
  exact congrArg _ (congrArg ix1 (Fin.ext (by show h.val * 4 + g.val = 4 * h.val + g.val; omega)))

theorem v14 (b : Fin 18) (i : Fin 128) (h : Fin 4) (d : Fin 64) :
    res_main_v14 V (ix4 b i h d) = ((padK (D.k h) (b.val * 128 + i.val) d : ℝ) : EReal) := by
  pointwise [res_main_v14, res_main_v10]
  have hb := b.isLt
  have hi := i.isLt
  unfold padK
  split
  · rw [dif_neg (by omega)]; rfl
  · split
    · rw [dif_pos (by omega)]
      exact R.k h ⟨b.val * 128 + i.val - 128, by omega⟩ d
    · rw [dif_neg (by omega)]; rfl

theorem v18 (b : Fin 18) (i : Fin 128) (h : Fin 4) (d : Fin 64) :
    res_main_v18 V (ix4 b i h d) = ((padK (D.v h) (b.val * 128 + i.val) d : ℝ) : EReal) := by
  pointwise [res_main_v18, res_main_v10]
  have hb := b.isLt
  have hi := i.isLt
  unfold padK
  split
  · rw [dif_neg (by omega)]; rfl
  · split
    · rw [dif_pos (by omega)]
      exact R.v h ⟨b.val * 128 + i.val - 128, by omega⟩ d
    · rw [dif_neg (by omega)]; rfl

theorem v22 (n : Fin 16) (kk : Fin 384) (h : Fin 4) (d : Fin 64) :
    res_main_v22 V (ix4 n kk h d) = ((padK (D.k h) (n.val * 128 + kk.val) d : ℝ) : EReal) := by
  pointwise [res_main_v22]
  simp only [v14 R]
  split
  · rfl
  · split
    · exact congrArg (fun r => ((padK (D.k h) r d : ℝ) : EReal)) (by omega)
    · exact congrArg (fun r => ((padK (D.k h) r d : ℝ) : EReal)) (by omega)

theorem v26 (n : Fin 16) (kk : Fin 384) (h : Fin 4) (d : Fin 64) :
    res_main_v26 V (ix4 n kk h d) = ((padK (D.v h) (n.val * 128 + kk.val) d : ℝ) : EReal) := by
  pointwise [res_main_v26]
  simp only [v18 R]
  split
  · rfl
  · split
    · exact congrArg (fun r => ((padK (D.v h) r d : ℝ) : EReal)) (by omega)
    · exact congrArg (fun r => ((padK (D.v h) r d : ℝ) : EReal)) (by omega)

theorem v35 (n : Fin 16) (h g : Fin 4) (i : Fin 128) (x : Fin 256) :
    res_main_v35 V (ix5 n h g i x) = (((rows D h g n i).sc x : ℝ) : EReal) := by
  pointwise [res_main_v35]
  simp only [v7 R, v27 R, ofBits_eighth, ← EReal.coe_mul, coe_sum]
  exact congrArg _ (congrArg (· * (1 / 8 : ℝ)) (Finset.sum_congr rfl fun d _ => mul_comm _ _))

omit R in
theorem v70_1 (n : Fin 16) (h g : Fin 4) (i : Fin 128) (kk : Fin 384) :
    res_main_v70_1 V (ix5 n h g i kk) = BitVec.ofBool (decide (inWin n.val i kk)) := by
  pointwise [res_main_v70_1, res_main_v58]
  have hi := i.isLt
  have hj := kk.isLt
  have hn := n.isLt
  have e1 : IntOp.subi (IntOp.addi (BitVec.ofNat 32 i.val) 128#32) (BitVec.ofNat 32 kk.val) = BitVec.ofNat 32 (i.val + 128) - BitVec.ofNat 32 kk.val := by
    rw [BitVec.ofNat_add]; rfl
  have e2 : IntOp.addi (IntOp.muli (IntOp.subi (BitVec.ofNat 32 n.val) 1#32) 128#32) (BitVec.ofNat 32 kk.val)
      = BitVec.ofNat 32 (n.val * 128 + kk.val) - BitVec.ofNat 32 128 := place n.val kk.val
  rw [e1, e2, abs_le_apply _ _ 128 (by omega) (by omega) (by omega), sge_apply _ _ 0 (by omega) (by omega) (by omega),
    slt_apply _ _ 2048 (by omega) (by omega) (by omega)]
  show _ &&& (_ &&& _) = _
  rw [and_ofBool, and_ofBool]
  refine congrArg BitVec.ofBool (decide_eq_decide.mpr ?_)
  unfold inWin; omega

theorem v70_0 (n : Fin 16) (h g : Fin 4) (i : Fin 128) (kk : Fin 384) :
    res_main_v70_0 V (ix5 n h g i kk) = if (rows D h g n i).ok kk then (((rows D h g n i).s kk : ℝ) : EReal) else ⊥ := by
  pointwise [res_main_v70_0]
  simp only [v70_1, v22 R, v27 R, ofBits_eighth, ofBits_bot, ← EReal.coe_mul, coe_sum, Scalar.select_decide]
  refine if_congr Iff.rfl (congrArg _ (congrArg (· * (1 / 8 : ℝ)) (Finset.sum_congr rfl fun d _ => mul_comm _ _))) rfl

end Cert.Ref

end
-- ==== Proof.RefProb.lean ====
/- The reference's maxima, weights and probabilities. -/
module

public import proofs.«01_k».proof.Proof.RefIn

@[expose] public section

set_option maxRecDepth 16384

noncomputable section

namespace Cert.Ref

open Idealize.ShloMosaic Idealize.ShloMosaic.TcCoe Cert.Attn Cert.ReferenceIdeal Cert.ReferenceIdeal.Gen Cert.ReferenceIdeal.Value
open Cert.KernelIdeal (Data)
open Cert.KernelIdeal.Mask (inWin)
open Cert.KernelIdeal.Place (row)

/-- A row's masked scores, its context scores, and the greatest of all with the sink's. -/
def win (r : Row) (kk : Fin 384) : EReal := if r.ok kk then ((r.s kk : ℝ) : EReal) else ⊥
def ctx (r : Row) (x : Fin 256) : EReal := ((r.sc x : ℝ) : EReal)
def winMax (r : Row) : EReal := Finset.univ.fold max ⊥ (win r)
def ctxMax (r : Row) : EReal := Finset.univ.fold max ⊥ (ctx r)
def top (r : Row) : ℝ := (max (max (winMax r) (ctxMax r)) (r.sk : EReal)).toReal

theorem top_eq (r : Row) : max (max (winMax r) (ctxMax r)) (r.sk : EReal) = ((top r : ℝ) : EReal) := by
  have h : max (winMax r) (ctxMax r) ≠ ⊤ := by
    rcases max_choice (winMax r) (ctxMax r) with h | h <;> rw [h]
    · exact fold_max_ne_top _ _ _ bot_ne_top fun kk => masked_ne_top _ _
    · exact fold_max_ne_top _ _ _ bot_ne_top fun x => EReal.coe_ne_top _
  obtain ⟨z, hz⟩ := exists_max_coe h r.sk
  unfold top
  rw [hz, EReal.toReal_coe]

/-- The places along the last of five axes. -/
theorem fiber_last {n0 n1 n2 n3 n4 : Nat} (hr : (⟨5, ![n0, n1, n2, n3, n4]⟩ : Shape).ReducesTo [4] ⟨4, ![n0, n1, n2, n3]⟩)
    (a : Fin n0) (b : Fin n1) (c : Fin n2) (d : Fin n3) (i : (⟨5, ![n0, n1, n2, n3, n4]⟩ : Shape).Idx) :
    hr.drop i = ix4 a b c d ↔ ∃ k : Fin n4, ix5 a b c d k = i := by
  constructor
  · intro e
    refine ⟨i 4, ?_⟩
    funext x; apply Fin.ext
    match x with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => rfl
  · rintro ⟨k, rfl⟩
    funext x
    apply Fin.ext
    match x with
    | ⟨0, _⟩ => rfl
    | ⟨1, _⟩ => rfl
    | ⟨2, _⟩ => rfl
    | ⟨3, _⟩ => rfl

/-- The greatest along the last of five axes. -/
theorem max_last {n0 n1 n2 n3 n4 : Nat} (hr : (⟨5, ![n0, n1, n2, n3, n4]⟩ : Shape).ReducesTo [4] ⟨4, ![n0, n1, n2, n3]⟩)
    (a : Fin n0) (b : Fin n1) (c : Fin n2) (d : Fin n3) (f : (⟨5, ![n0, n1, n2, n3, n4]⟩ : Shape).Idx → EReal) :
    (Finset.univ.filter fun i => hr.drop i = ix4 a b c d).fold max ⊥ f
      = Finset.univ.fold max ⊥ fun k : Fin n4 => f (ix5 a b c d k) :=
  Finset.fold_filter_eq_fold_of_fiber max _ (fun k : Fin n4 => ix5 a b c d k)
    (fun _ _ e => congrFun e 4) (fiber_last hr a b c d) ⊥ f

variable {V : Valuation τ sig (Elt Ideal)} {D : Data} (R : Reads V D) (n : Fin 16) (h g : Fin 4) (i : Fin 128)

include R

theorem v72 : res_main_v72 V (ix4 n h g i) = winMax (rows D h g n i) := by
  pointwise [res_main_v72]
  rw [ofBits_bot]
  refine (max_last _ n h g i _).trans ?_
  simp only [v70_0 R]
  rfl

theorem v79 : res_main_v79 V (ix4 n h g i) = ctxMax (rows D h g n i) := by
  pointwise [res_main_v79]
  rw [ofBits_bot]
  refine (max_last _ n h g i _).trans ?_
  simp only [v35 R]
  rfl

theorem v78 : res_main_v78 V (ix5 n h g i 0) = winMax (rows D h g n i) := by
  pointwise [res_main_v78]
  exact v72 R n h g i

theorem v85 : res_main_v85 V (ix5 n h g i 0) = ctxMax (rows D h g n i) := by
  pointwise [res_main_v85]
  exact v79 R n h g i

theorem v86 : res_main_v86 V (ix5 n h g i 0) = max (winMax (rows D h g n i)) (ctxMax (rows D h g n i)) := by
  unfold res_main_v86
  rw [maximumf_apply, v78 R, v85 R, Ideal.maximumf_def]

theorem v102 : res_main_v102 V (ix5 n h g i 0) = ((top (rows D h g n i) : ℝ) : EReal) := by
  unfold res_main_v102
  rw [maximumf_apply, v86 R, Ideal.maximumf_def, ← top_eq]
  refine congrArg _ ?_
  pointwise
  exact v71 R h g

/-- The places of the maxima, counted. -/
theorem v76 (kk : Fin 384) : res_main_v76 V (ix5 n h g i kk)
    = (((Ideal.cmp .oeq (win (rows D h g n i) kk) (winMax (rows D h g n i))).toNat : ℝ) : EReal) := by
  pointwise [res_main_v76]
  rw [v70_0 R, v72 R]
  rfl

theorem v83 (x : Fin 256) : res_main_v83 V (ix5 n h g i x)
    = (((Ideal.cmp .oeq (ctx (rows D h g n i) x) (ctxMax (rows D h g n i))).toNat : ℝ) : EReal) := by
  pointwise [res_main_v83]
  rw [v35 R, v79 R]
  rfl

theorem v123 (kk : Fin 384) : res_main_v123 V (ix5 n h g i kk) = (((rows D h g n i).eW (top (rows D h g n i)) kk : ℝ) : EReal) := by
  pointwise [res_main_v123]
  rw [v70_0 R, v102 R, masked_sub, exp_ite]
  rfl

theorem v126 (x : Fin 256) : res_main_v126 V (ix5 n h g i x) = (((rows D h g n i).eC (top (rows D h g n i)) x : ℝ) : EReal) := by
  pointwise [res_main_v126]
  rw [v35 R, v102 R, ← EReal.coe_sub, Ideal.exp_coe]
  rfl

theorem v134 : res_main_v134 V (ix5 n h g i 0) = (((rows D h g n i).eS (top (rows D h g n i)) : ℝ) : EReal) := by
  pointwise [res_main_v134]
  rw [v71 R, v102 R, ← EReal.coe_sub, Ideal.exp_coe]
  rfl

theorem v135 : res_main_v135 V (ix5 n h g i 0) = (((rows D h g n i).dn (top (rows D h g n i)) : ℝ) : EReal) := by
  pointwise [res_main_v135]
  simp only [v123 R, v126 R, v134 R, coe_sum, ← EReal.coe_add]
  rfl

theorem v137 : res_main_v137 V (ix5 n h g i 0) = ((1 / (rows D h g n i).dn (top (rows D h g n i)) : ℝ) : EReal) := by
  pointwise [res_main_v137]
  rw [v135 R, ← EReal.coe_one, div_coe_coe _ (Row.dn_ne _ _)]

theorem v142 (kk : Fin 384) : res_main_v142 V (ix5 n h g i kk) = (((rows D h g n i).P kk : ℝ) : EReal) := by
  pointwise [res_main_v142]
  rw [v123 R, v137 R, ← EReal.coe_mul, Row.eW_eq, mul_assoc, mul_one_div_cancel (Row.dn_ne _ _), mul_one]

theorem v146 (x : Fin 256) : res_main_v146 V (ix5 n h g i x) = (((rows D h g n i).PC x : ℝ) : EReal) := by
  pointwise [res_main_v146]
  rw [v126 R, v137 R, ← EReal.coe_mul, Row.eC_eq, mul_assoc, mul_one_div_cancel (Row.dn_ne _ _), mul_one]

end Cert.Ref

end
-- ==== Proof.RefBack.lean ====
/- The reference's cotangents along the values, and what its quotient sends back to the weights' sum. -/
module

public import proofs.«01_k».proof.Proof.RefProb

@[expose] public section

set_option maxRecDepth 16384

noncomputable section

namespace Cert.Ref

open Idealize.ShloMosaic Idealize.ShloMosaic.TcCoe Cert.Attn Cert.ReferenceIdeal Cert.ReferenceIdeal.Gen Cert.ReferenceIdeal.Value
open Cert.KernelIdeal (Data)
open Cert.KernelIdeal.Mask (inWin)
open Cert.KernelIdeal.Place (row)

variable {V : Valuation τ sig (Elt Ideal)} {D : Data} (R : Reads V D) (n : Fin 16) (h g : Fin 4) (i : Fin 128)

include R

theorem v153 (d : Fin 64) : res_main_v153 V (ix5 h d n g i) = ((D.dO h g (row n i) d : ℝ) : EReal) := by
  pointwise [res_main_v153]
  exact v152 R n i h g d

theorem v163 (d : Fin 64) : res_main_v163 V (ix5 n h d g i) = ((D.dO h g (row n i) d : ℝ) : EReal) := by
  pointwise [res_main_v163]
  exact v152 R n i h g d

theorem v155 (x : Fin 256) : res_main_v155 V (ix5 n h g i x) = (((rows D h g n i).DC x : ℝ) : EReal) := by
  pointwise [res_main_v155]
  simp only [v153 R, v8 R, ← EReal.coe_mul, coe_sum]
  rfl

theorem v164 (kk : Fin 384) : res_main_v164 V (ix5 n h g i kk) = (((rows D h g n i).DV kk : ℝ) : EReal) := by
  pointwise [res_main_v164]
  simp only [v163 R, v26 R, ← EReal.coe_mul, coe_sum]
  rfl

theorem v176 : res_main_v176 V (ix5 n h g i 0) = (((rows D h g n i).back (top (rows D h g n i)) : ℝ) : EReal) := by
  pointwise [res_main_v176]
  simp only [v123 R, v126 R, v135 R, v155 R, v164 R, ← EReal.coe_mul, coe_sum, ← EReal.coe_add, mul_one]
  rw [← EReal.coe_one, div_coe_coe _ (mul_ne_zero (Row.dn_ne _ _) (Row.dn_ne _ _)), ← EReal.coe_mul, ← EReal.coe_neg]
  rfl

theorem v177 : res_main_v177 V (ix5 n h g i 0) = ((-((rows D h g n i).PS * (rows D h g n i).delta) : ℝ) : EReal) := by
  pointwise [res_main_v177]
  rw [v176 R, v134 R, ← EReal.coe_mul, Row.back_eS]

end Cert.Ref

end
-- ==== Proof.RefScore.lean ====
/- The reference's gradients of the scores. -/
module

public import proofs.«01_k».proof.Proof.RefBack

@[expose] public section

set_option maxRecDepth 16384

noncomputable section

namespace Cert.Ref

open Idealize.ShloMosaic Idealize.ShloMosaic.TcCoe Cert.Attn Cert.ReferenceIdeal Cert.ReferenceIdeal.Gen Cert.ReferenceIdeal.Value
open Cert.KernelIdeal (Data)
open Cert.KernelIdeal.Mask (inWin)
open Cert.KernelIdeal.Place (row)

/-- The context scores' gradients, scaled, with the share of a maximum's gradient, whatever the arrays. -/
theorem shareC (A : FVec Ideal S16x4x4x128x256 .f32) (T B : FVec Ideal S16x4x4x128x1 .f32) (C : FVec Ideal S16x4x4x128x256 .f32)
    (n : Fin 16) (h g : Fin 4) (i : Fin 128) (x : Fin 256) :
    transpose S4x256x16x128x4 [1, 4, 0, 3, 2] (mulf (addf A (mulf (broadcastInDim S16x4x4x128x256 ![0, 1, 2, 3] bcast_S16x4x4x128_S16x4x4x128x256_0_1_2_3 (Host.divf (Host.reduceAdd (mulf T B) (constant S_ .f32 0x00000000#32) reducesTo_S16x4x4x128x1_S16x4x4x128_d4 h_S_) (Host.reduceAdd C (constant S_ .f32 0x00000000#32) reducesTo_S16x4x4x128x256_S16x4x4x128_d4 h_S_))) C)) (broadcastInDim S16x4x4x128x256 ![] bcast_S_S16x4x4x128x256 (constant S_ .f32 0x3E000000#32))) transposes_S16x4x4x128x256_S4x256x16x128x4_1_4_0_3_2 (ix5 h x n i g)
      = (A (ix5 n h g i x) + Ideal.div (T (ix5 n h g i 0) * B (ix5 n h g i 0)) (∑ y, C (ix5 n h g i y)) * C (ix5 n h g i x)) * Ideal.ofBits .f32 0x3E000000#32 := by
  pointwise
  simp only [Fin.sum_univ_one, Fin.isValue]

/-- The window scores' gradients likewise, under a mask. -/
theorem shareW (M : IVec S16x4x4x128x384 1) (A : FVec Ideal S16x4x4x128x384 .f32) (T B : FVec Ideal S16x4x4x128x1 .f32) (C : FVec Ideal S16x4x4x128x384 .f32)
    (n : Fin 16) (h g : Fin 4) (i : Fin 128) (kk : Fin 384) :
    transpose S16x4x384x128x4 [0, 1, 4, 3, 2] (mulf (select M (addf A (mulf (broadcastInDim S16x4x4x128x384 ![0, 1, 2, 3] bcast_S16x4x4x128_S16x4x4x128x384_0_1_2_3 (Host.divf (Host.reduceAdd (mulf T B) (constant S_ .f32 0x00000000#32) reducesTo_S16x4x4x128x1_S16x4x4x128_d4 h_S_) (Host.reduceAdd C (constant S_ .f32 0x00000000#32) reducesTo_S16x4x4x128x384_S16x4x4x128_d4 h_S_))) C)) (broadcastInDim S16x4x4x128x384 ![] bcast_S_S16x4x4x128x384 (constant S_ .f32 0x00000000#32))) (broadcastInDim S16x4x4x128x384 ![] bcast_S_S16x4x4x128x384 (constant S_ .f32 0x3E000000#32))) transposes_S16x4x4x128x384_S16x4x384x128x4_0_1_4_3_2 (ix5 n h kk i g)
      = Scalar.select (M (ix5 n h g i kk)) (A (ix5 n h g i kk) + Ideal.div (T (ix5 n h g i 0) * B (ix5 n h g i 0)) (∑ y, C (ix5 n h g i y)) * C (ix5 n h g i kk)) 0 * Ideal.ofBits .f32 0x3E000000#32 := by
  pointwise
  simp only [Fin.sum_univ_one, Fin.isValue]

variable {V : Valuation τ sig (Elt Ideal)} {D : Data} (R : Reads V D) (n : Fin 16) (h g : Fin 4) (i : Fin 128)

include R

theorem v187 (x : Fin 256) : res_main_v187 V (ix5 n h g i x) = (((rows D h g n i).dsc x : ℝ) : EReal) := by
  pointwise [res_main_v187]
  simp only [Fin.sum_univ_one, Fin.isValue, v155 R, v137 R, v176 R, v126 R, ← EReal.coe_mul, ← EReal.coe_add]
  rw [Row.back_eC]

theorem v192 (kk : Fin 384) : res_main_v192 V (ix5 n h g i kk) = (((rows D h g n i).ds kk : ℝ) : EReal) := by
  pointwise [res_main_v192]
  simp only [Fin.sum_univ_one, Fin.isValue, v164 R, v137 R, v176 R, v123 R, ← EReal.coe_mul, ← EReal.coe_add]
  rw [Row.back_eW]

/-- Nothing goes back through the maximum. -/
theorem v196 : res_main_v196 V (ix5 n h g i 0) = (0 : EReal) := by
  pointwise [res_main_v196]
  simp only [v177 R, v187 R, v192 R, ← EReal.coe_neg, coe_sum, ← EReal.coe_add]
  rw [Row.through_max, EReal.coe_zero]

theorem v201 : res_main_v201 V (ix5 n h g i 0) = (0 : EReal) := by
  unfold res_main_v201
  rw [mulf_apply, v196 R, Ideal.mulf_def, zero_mul]

theorem v218 (x : Fin 256) : res_main_v218 V (ix5 h x n i g) = (((rows D h g n i).dsc x * (1 / 8) : ℝ) : EReal) := by
  have ht := div_ties (ctx (rows D h g n i))
  unfold res_main_v218
  rw [shareC, v201 R, zero_mul]
  simp only [v187 R, v83 R]
  unfold ties at ht
  unfold ctxMax
  rw [ht, zero_mul, add_zero, ofBits_eighth, ← EReal.coe_mul]

theorem v225 (kk : Fin 384) : res_main_v225 V (ix5 n h kk i g) = (((rows D h g n i).ds kk * (1 / 8) : ℝ) : EReal) := by
  have ht := div_ties (win (rows D h g n i))
  unfold res_main_v225
  rw [shareW, v201 R, zero_mul]
  simp only [v192 R, v76 R, v70_1]
  unfold ties at ht
  unfold winMax
  rw [ht, zero_mul, add_zero, ofBits_eighth, Scalar.select_decide]
  split
  · rw [← EReal.coe_mul]
  · rename_i hn
    rw [(rows D h g n i).ds_of_not_ok hn, zero_mul, zero_mul, EReal.coe_zero]

end Cert.Ref

end
-- ==== Proof.Contract3.lean ====
/- The reference's two products that sum over three axes, at an index. -/
module

public import proofs.«01_k».proof.Proof.RefScore

@[expose] public section

set_option maxRecDepth 16384

noncomputable section

namespace Cert.Ref

open Idealize.ShloMosaic Idealize.ShloMosaic.TcCoe Cert.ReferenceIdeal Cert.ReferenceIdeal.Gen

/-- Of three axes, the one that is neither of the first two. -/
theorem last_axis {s : Shape} (hr : s.rank = 3) {x : Fin s.rank} (e0 : ¬ x = ⟨0, by omega⟩) (e1 : ¬ x = ⟨1, by omega⟩) :
    x = ⟨2, by omega⟩ := by
  have n0 : x.val ≠ 0 := fun h => e0 (Fin.ext h)
  have n1 : x.val ≠ 1 := fun h => e1 (Fin.ext h)
  exact Fin.ext (by show x.val = 2; omega)

/-- Three coordinates as an index of three axes of those extents. -/
def three {s : Shape} {a b c : Nat} (hr : s.rank = 3) (h0 : a = s.size ⟨0, by omega⟩) (h1 : b = s.size ⟨1, by omega⟩)
    (h2 : c = s.size ⟨2, by omega⟩) (p : Fin a × Fin b × Fin c) : s.Idx := fun x =>
  if e0 : x = ⟨0, by omega⟩ then p.1.cast (by rw [e0, ← h0])
  else if e1 : x = ⟨1, by omega⟩ then p.2.1.cast (by rw [e1, ← h1])
  else p.2.2.cast (by
    have e2 := last_axis hr e0 e1
    rw [e2, ← h2])

theorem three_bijective {s : Shape} {a b c : Nat} (hr : s.rank = 3) (h0 : a = s.size ⟨0, by omega⟩) (h1 : b = s.size ⟨1, by omega⟩)
    (h2 : c = s.size ⟨2, by omega⟩) : Function.Bijective (three hr h0 h1 h2) := by
  constructor
  · rintro ⟨p0, p1, p2⟩ ⟨q0, q1, q2⟩ e
    have e0 := congrArg Fin.val (congrFun e ⟨0, by omega⟩)
    have e1 := congrArg Fin.val (congrFun e ⟨1, by omega⟩)
    have e2 := congrArg Fin.val (congrFun e ⟨2, by omega⟩)
    simp [three] at e0 e1 e2
    rw [Fin.ext e0, Fin.ext e1, Fin.ext e2]
  · intro k
    refine ⟨((k ⟨0, by omega⟩).cast h0.symm, (k ⟨1, by omega⟩).cast h1.symm, (k ⟨2, by omega⟩).cast h2.symm), ?_⟩
    funext x
    unfold three
    split
    · rename_i e; subst e; rfl
    · split
      · rename_i e; subst e; rfl
      · rename_i e0 e1
        obtain rfl := last_axis hr e0 e1
        rfl

/-- A sum over an index of three axes is the triple sum. -/
theorem sum_three {s : Shape} {a b c : Nat} (hr : s.rank = 3) (h0 : a = s.size ⟨0, by omega⟩) (h1 : b = s.size ⟨1, by omega⟩)
    (h2 : c = s.size ⟨2, by omega⟩) (f : s.Idx → EReal) :
    ∑ k, f k = ∑ x, ∑ y, ∑ z, f (three hr h0 h1 h2 (x, y, z)) := by
  rw [← Function.Bijective.sum_comp (three_bijective hr h0 h1 h2) f, Fintype.sum_prod_type]
  exact Finset.sum_congr rfl fun x _ => Fintype.sum_prod_type _

theorem dotKC (A : FVec Ideal S4x256x16x128x4 .f32) (B : FVec Ideal S16x128x4x4x64 .f32) (h : Fin 4) (x : Fin 256) (d : Fin 64) :
    Ideal.matmul dot_S4x256x16x128x4_S16x128x4x4x64_S4x256x64_234_013_1_4_0_2 A B (fun _ => 0) (ix3 h x d)
      = ∑ n, ∑ i, ∑ g, A (ix5 h x n i g) * B (ix5 n i h g d) := by
  refine (zero_add _).trans ?_
  refine (sum_three (a := 16) (b := 128) (c := 4) rfl rfl rfl rfl _).trans ?_
  refine Finset.sum_congr rfl fun n _ => Finset.sum_congr rfl fun i _ => Finset.sum_congr rfl fun g _ => ?_
  refine congr (congrArg _ (congrArg A ?_)) (congrArg B ?_)
  · funext a
    match a with
    | ⟨0, _⟩ => rfl
    | ⟨1, _⟩ => rfl
    | ⟨2, _⟩ => rfl
    | ⟨3, _⟩ => rfl
    | ⟨4, _⟩ => rfl
  · funext a
    match a with
    | ⟨0, _⟩ => rfl
    | ⟨1, _⟩ => rfl
    | ⟨2, _⟩ => rfl
    | ⟨3, _⟩ => rfl
    | ⟨4, _⟩ => rfl

theorem dotVC (A : FVec Ideal S4x64x16x4x128 .f32) (B : FVec Ideal S16x4x4x128x256 .f32) (h : Fin 4) (d : Fin 64) (x : Fin 256) :
    Ideal.matmul dot_S4x64x16x4x128_S16x4x4x128x256_S4x64x256_234_023_1_4_0_1 A B (fun _ => 0) (ix3 h d x)
      = ∑ n, ∑ g, ∑ i, A (ix5 h d n g i) * B (ix5 n h g i x) := by
  refine (zero_add _).trans ?_
  refine (sum_three (a := 16) (b := 4) (c := 128) rfl rfl rfl rfl _).trans ?_
  refine Finset.sum_congr rfl fun n _ => Finset.sum_congr rfl fun i _ => Finset.sum_congr rfl fun g _ => ?_
  refine congr (congrArg _ (congrArg A ?_)) (congrArg B ?_)
  · funext a
    match a with
    | ⟨0, _⟩ => rfl
    | ⟨1, _⟩ => rfl
    | ⟨2, _⟩ => rfl
    | ⟨3, _⟩ => rfl
    | ⟨4, _⟩ => rfl
  · funext a
    match a with
    | ⟨0, _⟩ => rfl
    | ⟨1, _⟩ => rfl
    | ⟨2, _⟩ => rfl
    | ⟨3, _⟩ => rfl
    | ⟨4, _⟩ => rfl

end Cert.Ref

end
-- ==== Proof.RefOut.lean ====
/- The reference's results at an index. -/
module

public import proofs.«01_k».proof.Proof.Contract3

@[expose] public section

set_option maxRecDepth 16384

noncomputable section

namespace Cert.Ref

open Idealize.ShloMosaic Idealize.ShloMosaic.TcCoe Cert.Attn Cert.ReferenceIdeal Cert.ReferenceIdeal.Gen Cert.ReferenceIdeal.Value
open Cert.KernelIdeal (Data)
open Cert.KernelIdeal.Mask (inWin live place3)
open Cert.KernelIdeal.Place (row nbr)

/-- The reference's results as its operations compose them. -/
def outQ (V : Valuation τ sig (Elt Ideal)) : FVec Ideal S4x4x2048x64 .f32 :=
  shapeCast _ (transpose S16x2048x64 [1, 0, 2] (shapeCast _ (shapeCast _ (addf (transpose S16x128x4x4x64 [1, 2, 0, 3, 4] (Host.dotGeneral (φ₁ := .f32) (φ₂ := .f32) dot_S4x256x16x128x4_S256x4x64_S4x16x128x4x64_1_0_234_2_0_1 none (res_main_v218 V) (res_main_v7 V)) transposes_S4x16x128x4x64_S16x128x4x4x64_1_2_0_3_4) (transpose S16x128x4x4x64 [0, 2, 1, 3, 4] (Host.dotGeneral (φ₁ := .f32) (φ₂ := .f32) dot_S16x4x384x128x4_S16x384x4x64_S16x4x128x4x64_2_1_34_3_01_02 none (res_main_v225 V) (res_main_v22 V)) transposes_S16x4x128x4x64_S16x128x4x4x64_0_2_1_3_4)) shapeCasts_S16x128x4x4x64_S2048x1024) shapeCasts_S2048x1024_S2048x16x64) transposes_S2048x16x64_S16x2048x64_1_0_2) shapeCasts_S16x2048x64_S4x4x2048x64

def outK (V : Valuation τ sig (Elt Ideal)) : FVec Ideal S4x2048x64 .f32 :=
  transpose S4x2048x64 [1, 0, 2] (shapeCast _ (shapeCast _ (extractStridedSlice S2048x4x64 ![128, 0, 0] (res_main_v252 V) slices_S2304x4x64_S2048x4x64_128_0_0) shapeCasts_S2048x4x64_S2048x256) shapeCasts_S2048x256_S2048x4x64) transposes_S2048x4x64_S4x2048x64_1_0_2

def outV (V : Valuation τ sig (Elt Ideal)) : FVec Ideal S4x2048x64 .f32 :=
  transpose S4x2048x64 [1, 0, 2] (shapeCast _ (shapeCast _ (extractStridedSlice S2048x4x64 ![128, 0, 0] (res_main_v248 V) slices_S2304x4x64_S2048x4x64_128_0_0) shapeCasts_S2048x4x64_S2048x256) shapeCasts_S2048x256_S2048x4x64) transposes_S2048x4x64_S4x2048x64_1_0_2

def outKC (V : Valuation τ sig (Elt Ideal)) : FVec Ideal S4x256x64 .f32 :=
  transpose S4x256x64 [1, 0, 2] (shapeCast _ (shapeCast _ (transpose S256x4x64 [1, 0, 2] (Host.dotGeneral (φ₁ := .f32) (φ₂ := .f32) dot_S4x256x16x128x4_S16x128x4x4x64_S4x256x64_234_013_1_4_0_2 none (res_main_v218 V) (res_main_v27 V)) transposes_S4x256x64_S256x4x64_1_0_2) shapeCasts_S256x4x64_S256x256) shapeCasts_S256x256_S256x4x64) transposes_S256x4x64_S4x256x64_1_0_2

def outVC (V : Valuation τ sig (Elt Ideal)) : FVec Ideal S4x256x64 .f32 :=
  transpose S4x256x64 [1, 0, 2] (shapeCast _ (shapeCast _ (transpose S256x4x64 [2, 0, 1] (Host.dotGeneral (φ₁ := .f32) (φ₂ := .f32) dot_S4x64x16x4x128_S16x4x4x128x256_S4x64x256_234_023_1_4_0_1 none (res_main_v153 V) (res_main_v146 V)) transposes_S4x64x256_S256x4x64_2_0_1) shapeCasts_S256x4x64_S256x256) shapeCasts_S256x256_S256x4x64) transposes_S256x4x64_S4x256x64_1_0_2

def outS (V : Valuation τ sig (Elt Ideal)) : FVec Ideal S16 .f32 :=
  shapeCast _ (Host.reduceAdd (addf (shapeCast _ (Host.reduceAdd (res_main_v177 V) (constant S_ .f32 0x00000000#32) reducesTo_S16x4x4x128x1_S4x4x1_d0_3 h_S_) shapeCasts_S4x4x1_S1x4x4x1x1) (shapeCast _ (Host.reduceAdd (mulf (res_main_v196 V) (select (cmpf .ogt (broadcastInDim S16x4x4x128x1 ![0, 1, 2, 3, 4] bcast_S1x4x4x1x1_S16x4x4x128x1_0_1_2_3_4 (res_main_v71 V)) (res_main_v86 V)) (broadcastInDim S16x4x4x128x1 ![] bcast_S_S16x4x4x128x1 (constant S_ .f32 0x3F800000#32)) (select (cmpf .oeq (broadcastInDim S16x4x4x128x1 ![0, 1, 2, 3, 4] bcast_S1x4x4x1x1_S16x4x4x128x1_0_1_2_3_4 (res_main_v71 V)) (res_main_v86 V)) (broadcastInDim S16x4x4x128x1 ![] bcast_S_S16x4x4x128x1 (constant S_ .f32 0x3F000000#32)) (broadcastInDim S16x4x4x128x1 ![] bcast_S_S16x4x4x128x1 (constant S_ .f32 0x00000000#32))))) (constant S_ .f32 0x00000000#32) reducesTo_S16x4x4x128x1_S4x4x1_d0_3 h_S_) shapeCasts_S4x4x1_S1x4x4x1x1)) (constant S_ .f32 0x00000000#32) reducesTo_S1x4x4x1x1_S4x4_d0_3_4 h_S_) shapeCasts_S4x4_S16

/-- One of the overlapping windows: its number, where there is one, else zero. -/
theorem piece (f : Fin 16 → Fin 384 → ℝ) (j : Fin 16) (s : Fin 3) (k : Fin 128) {c : Prop} [Decidable c] (b e : Nat)
    (hb : c → b < 16) (he : e < 384) (hc : c ↔ live j.val s) (eb : c → b = min (j.val + s.val - 1) 15)
    (ee : e = (2 - s.val) * 128 + k.val) :
    (if p : c then ((f ⟨b, hb p⟩ ⟨e, he⟩ : ℝ) : EReal) else 0)
      = ((if live j.val s then f (nbr j s) (place3 s k) else 0 : ℝ) : EReal) := by
  by_cases p : c
  · rw [dif_pos p, if_pos (hc.mp p)]
    exact congrArg (fun x : ℝ => (x : EReal)) (congr (congrArg f (Fin.ext (eb p))) (Fin.ext ee))
  · rw [dif_neg p, if_neg (fun q => p (hc.mpr q)), EReal.coe_zero]

/-- Three arrays of windows added where they overlap. -/
theorem overlap_apply (G : FVec Ideal S16x384x4x64 .f32) (h : Fin 4) (d : Fin 64) (b : Fin 18) (k : Fin 128) :
    (shapeCast S2304x4x64 (addf (addf (pad S18x128x4x64 ![2, 0, 0, 0] ![0, 0, 0, 0] ![0, 0, 0, 0] (extractStridedSlice S16x128x4x64 ![0, 256, 0, 0] G slices_S16x384x4x64_S16x128x4x64_0_256_0_0) (constant S_ .f32 0x00000000#32) pads_S16x128x4x64_S18x128x4x64_200_000_000_000 h_S_) (pad S18x128x4x64 ![1, 0, 0, 0] ![1, 0, 0, 0] ![0, 0, 0, 0] (extractStridedSlice S16x128x4x64 ![0, 128, 0, 0] G slices_S16x384x4x64_S16x128x4x64_0_128_0_0) (constant S_ .f32 0x00000000#32) pads_S16x128x4x64_S18x128x4x64_110_000_000_000 h_S_)) (pad S18x128x4x64 ![0, 0, 0, 0] ![2, 0, 0, 0] ![0, 0, 0, 0] (extractStridedSlice S16x128x4x64 ![0, 0, 0, 0] G slices_S16x384x4x64_S16x128x4x64_0_0_0_0) (constant S_ .f32 0x00000000#32) pads_S16x128x4x64_S18x128x4x64_020_000_000_000 h_S_)) shapeCasts_S18x128x4x64_S2304x4x64 : FVec Ideal S2304x4x64 .f32) (ix3 ⟨b.val * 128 + k.val, by omega⟩ h d)
      = (((if p : 2 ≤ b.val ∧ b.val - 2 < 16 then G (ix4 ⟨b.val - 2, p.2⟩ ⟨256 + k.val, by omega⟩ h d) else (0 : EReal))
          + (if p : 1 ≤ b.val ∧ b.val - 1 < 16 then G (ix4 ⟨b.val - 1, p.2⟩ ⟨128 + k.val, by omega⟩ h d) else (0 : EReal)))
          + (if p : b.val < 16 then G (ix4 ⟨b.val, p⟩ ⟨k.val, by omega⟩ h d) else (0 : EReal))) := by
  pointwise

theorem overlap (G : FVec Ideal S16x384x4x64 .f32) (f : Fin 16 → Fin 384 → ℝ) (h : Fin 4) (d : Fin 64)
    (hG : ∀ n kk, G (ix4 n kk h d) = ((f n kk : ℝ) : EReal)) (j : Fin 16) (k : Fin 128) :
    (shapeCast S2304x4x64 (addf (addf (pad S18x128x4x64 ![2, 0, 0, 0] ![0, 0, 0, 0] ![0, 0, 0, 0] (extractStridedSlice S16x128x4x64 ![0, 256, 0, 0] G slices_S16x384x4x64_S16x128x4x64_0_256_0_0) (constant S_ .f32 0x00000000#32) pads_S16x128x4x64_S18x128x4x64_200_000_000_000 h_S_) (pad S18x128x4x64 ![1, 0, 0, 0] ![1, 0, 0, 0] ![0, 0, 0, 0] (extractStridedSlice S16x128x4x64 ![0, 128, 0, 0] G slices_S16x384x4x64_S16x128x4x64_0_128_0_0) (constant S_ .f32 0x00000000#32) pads_S16x128x4x64_S18x128x4x64_110_000_000_000 h_S_)) (pad S18x128x4x64 ![0, 0, 0, 0] ![2, 0, 0, 0] ![0, 0, 0, 0] (extractStridedSlice S16x128x4x64 ![0, 0, 0, 0] G slices_S16x384x4x64_S16x128x4x64_0_0_0_0) (constant S_ .f32 0x00000000#32) pads_S16x128x4x64_S18x128x4x64_020_000_000_000 h_S_)) shapeCasts_S18x128x4x64_S2304x4x64 : FVec Ideal S2304x4x64 .f32)
      (ix3 ⟨(⟨j.val + 1, by omega⟩ : Fin 18).val * 128 + k.val, by omega⟩ h d)
      = ((∑ s : Fin 3, if live j.val s then f (nbr j s) (place3 s k) else 0 : ℝ) : EReal) := by
  have hj := j.isLt
  refine (overlap_apply G h d ⟨j.val + 1, by omega⟩ k).trans ?_
  simp only [hG]
  rw [Fin.sum_univ_three, EReal.coe_add, EReal.coe_add]
  exact congrArg₂ (fun x y : EReal => x + y) (congrArg₂ (fun x y : EReal => x + y)
    (piece f j 0 k (j.val + 1 - 2) (256 + k.val) (c := 2 ≤ j.val + 1 ∧ j.val + 1 - 2 < 16) (fun p => p.2) (by omega)
      (by show _ ↔ 1 ≤ j.val + 0 ∧ j.val + 0 < 17; omega)
      (fun _ => by show j.val + 1 - 2 = min (j.val + 0 - 1) 15; omega) (by show 256 + k.val = (2 - 0) * 128 + k.val; omega))
    (piece f j 1 k (j.val + 1 - 1) (128 + k.val) (c := 1 ≤ j.val + 1 ∧ j.val + 1 - 1 < 16) (fun p => p.2) (by omega)
      (by show _ ↔ 1 ≤ j.val + 1 ∧ j.val + 1 < 17; omega)
      (fun _ => by show j.val + 1 - 1 = min (j.val + 1 - 1) 15; omega) (by show 128 + k.val = (2 - 1) * 128 + k.val; omega)))
    (piece f j 2 k (j.val + 1) k.val (c := j.val + 1 < 16) (fun p => p) (by omega)
      (by show _ ↔ 1 ≤ j.val + 2 ∧ j.val + 2 < 17; omega)
      (fun _ => by show j.val + 1 = min (j.val + 2 - 1) 15; omega) (by show k.val = (2 - 2) * 128 + k.val; omega))

theorem rows_dq (D : Data) (h g : Fin 4) (n : Fin 16) (i : Fin 128) (d : Fin 64) : (rows D h g n i).dq d = (D.rows h g n i).dq d :=
  Row.dq_withKV _ (fun kk ok => padK_rows (D.k h) n i kk ok) (fun kk ok => padK_rows (D.v h) n i kk ok) d

theorem rows_ds (D : Data) (h g : Fin 4) (n : Fin 16) (i : Fin 128) (kk : Fin 384) : (rows D h g n i).ds kk = (D.rows h g n i).ds kk :=
  Row.ds_withKV _ (fun kk ok => padK_rows (D.k h) n i kk ok) (fun kk ok => padK_rows (D.v h) n i kk ok) kk

theorem rows_dsc (D : Data) (h g : Fin 4) (n : Fin 16) (i : Fin 128) (x : Fin 256) : (rows D h g n i).dsc x = (D.rows h g n i).dsc x :=
  Row.dsc_withKV _ (fun kk ok => padK_rows (D.k h) n i kk ok) (fun kk ok => padK_rows (D.v h) n i kk ok) x

theorem rows_P (D : Data) (h g : Fin 4) (n : Fin 16) (i : Fin 128) (kk : Fin 384) : (rows D h g n i).P kk = (D.rows h g n i).P kk :=
  Row.P_withKV _ (fun kk ok => padK_rows (D.k h) n i kk ok) kk

theorem rows_PC (D : Data) (h g : Fin 4) (n : Fin 16) (i : Fin 128) (x : Fin 256) : (rows D h g n i).PC x = (D.rows h g n i).PC x :=
  Row.PC_withKV _ (fun kk ok => padK_rows (D.k h) n i kk ok) x

theorem rows_PS (D : Data) (h g : Fin 4) (n : Fin 16) (i : Fin 128) : (rows D h g n i).PS = (D.rows h g n i).PS  :=
  Row.PS_withKV _ (fun kk ok => padK_rows (D.k h) n i kk ok)

theorem rows_delta (D : Data) (h g : Fin 4) (n : Fin 16) (i : Fin 128) : (rows D h g n i).delta = (D.rows h g n i).delta  :=
  Row.delta_withKV _ (fun kk ok => padK_rows (D.k h) n i kk ok) (fun kk ok => padK_rows (D.v h) n i kk ok)

theorem sum_cK (D : Data) (h : Fin 4) (n : Fin 16) (x : Fin 256) (d : Fin 64) :
    ∑ i, ∑ g, (rows D h g n i).dsc x * (1 / 8) * D.q h g (row n i) d = D.cK h n x d := by
  unfold Cert.KernelIdeal.Data.cK Cert.KernelIdeal.BwdQ.ctxK
  rw [Finset.sum_comm]
  refine Finset.sum_congr rfl fun g _ => ?_
  rw [Finset.sum_mul]
  refine Finset.sum_congr rfl fun i _ => ?_
  rw [rows_dsc]
  exact mul_right_comm _ _ _

theorem sum_cV (D : Data) (h : Fin 4) (n : Fin 16) (x : Fin 256) (d : Fin 64) :
    ∑ g, ∑ i, D.dO h g (row n i) d * (rows D h g n i).PC x = D.cV h n x d := by
  unfold Cert.KernelIdeal.Data.cV Cert.KernelIdeal.BwdQ.ctxV
  refine Finset.sum_congr rfl fun g _ => Finset.sum_congr rfl fun i _ => ?_
  rw [rows_PC]
  exact mul_comm _ _

theorem sum_kV (D : Data) (h : Fin 4) (j : Fin 16) (k : Fin 128) (d : Fin 64) :
    (∑ s : Fin 3, if live j.val s then (∑ g, ∑ i, D.dO h g (row (nbr j s) i) d * (rows D h g (nbr j s) i).P (place3 s k)) else 0)
      = D.kV h j k d := by
  unfold Cert.KernelIdeal.Data.kV Cert.KernelIdeal.BwdKV.keyV
  refine Finset.sum_congr rfl fun s _ => ?_
  split
  · refine Finset.sum_congr rfl fun g _ => Finset.sum_congr rfl fun i _ => ?_
    rw [rows_P]
    exact mul_comm _ _
  · exact Finset.sum_const_zero.symm

theorem sum_kK (D : Data) (h : Fin 4) (j : Fin 16) (k : Fin 128) (d : Fin 64) :
    (∑ s : Fin 3, if live j.val s then (∑ i, ∑ g, (rows D h g (nbr j s) i).ds (place3 s k) * (1 / 8) * D.q h g (row (nbr j s) i) d) else 0)
      = D.kK h j k d := by
  unfold Cert.KernelIdeal.Data.kK Cert.KernelIdeal.BwdKV.keyK
  refine Finset.sum_congr rfl fun s _ => ?_
  split
  · rw [Finset.sum_comm]
    refine Finset.sum_congr rfl fun g _ => ?_
    rw [Finset.sum_mul]
    refine Finset.sum_congr rfl fun i _ => ?_
    rw [rows_ds]
    exact mul_right_comm _ _ _
  · exact Finset.sum_const_zero.symm

/-- The sum over the first and the fourth of five axes, the last of extent one. -/
theorem sum_first_fourth (A : FVec Ideal S16x4x4x128x1 .f32) (h g : Fin 4) :
    Ideal.hostReduceAdd reducesTo_S16x4x4x128x1_S4x4x1_d0_3 A 0 (ix3 h g 0) = ∑ n, ∑ i, A (ix5 n h g i 0) := by
  unfold Ideal.hostReduceAdd
  rw [zero_add, ← Fintype.sum_prod_type (fun p : Fin 16 × Fin 128 => A (ix5 p.1 h g p.2 0))]
  refine Finset.sum_filter_eq_sum_of_fiber _ (fun p : Fin 16 × Fin 128 => (ix5 p.1 h g p.2 0 : S16x4x4x128x1.Idx))
    (fun _ _ e => Prod.ext (congrFun e 0) (congrFun e 3)) (fun i => ?_) A
  constructor
  · intro e
    refine ⟨(i 0, i 3), ?_⟩
    funext x; apply Fin.ext
    match x with
    | ⟨0, _⟩ => rfl
    | ⟨1, _⟩ => exact (congrArg Fin.val (congrFun e 0)).symm
    | ⟨2, _⟩ => exact (congrArg Fin.val (congrFun e 1)).symm
    | ⟨3, _⟩ => rfl
    | ⟨4, _⟩ => exact (congrArg Fin.val (congrFun e 2)).symm
  · rintro ⟨p, rfl⟩
    funext x; apply Fin.ext
    match x with
    | ⟨0, _⟩ => rfl
    | ⟨1, _⟩ => rfl
    | ⟨2, _⟩ => rfl

/-- The sum over three axes of extent one. -/
theorem sum_ones (A : FVec Ideal S1x4x4x1x1 .f32) (h g : Fin 4) :
    Ideal.hostReduceAdd reducesTo_S1x4x4x1x1_S4x4_d0_3_4 A 0 (ix2 h g) = A (ix5 0 h g 0 0) := by
  unfold Ideal.hostReduceAdd
  rw [zero_add, ← Fin.sum_univ_one (fun p : Fin 1 => A (ix5 p h g 0 0))]
  refine Finset.sum_filter_eq_sum_of_fiber _ (fun p : Fin 1 => (ix5 p h g 0 0 : S1x4x4x1x1.Idx))
    (fun _ _ e => congrFun e 0) (fun i => ?_) A
  constructor
  · intro e
    refine ⟨i 0, ?_⟩
    funext x; apply Fin.ext
    match x with
    | ⟨0, _⟩ => rfl
    | ⟨1, _⟩ => exact (congrArg Fin.val (congrFun e 0)).symm
    | ⟨2, _⟩ => exact (congrArg Fin.val (congrFun e 1)).symm
    | ⟨3, _⟩ => exact (congrArg Fin.val (Subsingleton.elim (α := Fin 1) (i 3) 0)).symm
    | ⟨4, _⟩ => exact (congrArg Fin.val (Subsingleton.elim (α := Fin 1) (i 4) 0)).symm
  · rintro ⟨p, rfl⟩
    funext x; apply Fin.ext
    match x with
    | ⟨0, _⟩ => rfl
    | ⟨1, _⟩ => rfl

/-- The sink's gradient summed over blocks and rows, with a maximum's share, whatever the arrays. -/
theorem sinkSum (A T B : FVec Ideal S16x4x4x128x1 .f32) (h g : Fin 4) (hT : ∀ n i, T (ix5 n h g i 0) = (0 : EReal)) :
    (shapeCast S16 (Host.reduceAdd (addf (shapeCast S1x4x4x1x1 (Host.reduceAdd A (constant S_ .f32 0x00000000#32) reducesTo_S16x4x4x128x1_S4x4x1_d0_3 h_S_) shapeCasts_S4x4x1_S1x4x4x1x1) (shapeCast S1x4x4x1x1 (Host.reduceAdd (mulf T B) (constant S_ .f32 0x00000000#32) reducesTo_S16x4x4x128x1_S4x4x1_d0_3 h_S_) shapeCasts_S4x4x1_S1x4x4x1x1)) (constant S_ .f32 0x00000000#32) reducesTo_S1x4x4x1x1_S4x4_d0_3_4 h_S_) shapeCasts_S4x4_S16 : FVec Ideal S16 .f32) (Cert.KernelIdeal.Fwd.sinkIdx h g) = ∑ n, ∑ i, A (ix5 n h g i 0) := by
  unfold Cert.KernelIdeal.Fwd.sinkIdx
  pointwise
  rw [sum_ones]
  pointwise
  rw [sum_first_fourth, sum_first_fourth]
  pointwise
  simp only [hT, zero_mul, Finset.sum_const_zero, add_zero]

variable {V : Valuation τ sig (Elt Ideal)} {D : Data} (R : Reads V D)

include R

theorem v166 (n : Fin 16) (kk : Fin 384) (h : Fin 4) (d : Fin 64) : res_main_v166 V (ix4 n kk h d)
    = ((∑ g, ∑ i, D.dO h g (row n i) d * (rows D h g n i).P kk : ℝ) : EReal) := by
  pointwise [res_main_v166]
  simp only [v163 R, v142 R, ← EReal.coe_mul, coe_sum]

theorem v230 (n : Fin 16) (kk : Fin 384) (h : Fin 4) (d : Fin 64) : res_main_v230 V (ix4 n kk h d)
    = ((∑ i, ∑ g, (rows D h g n i).ds kk * (1 / 8) * D.q h g (row n i) d : ℝ) : EReal) := by
  pointwise [res_main_v230]
  simp only [v225 R, v27 R, ← EReal.coe_mul, coe_sum]

theorem outQ_apply (h g : Fin 4) (n : Fin 16) (i : Fin 128) (d : Fin 64) :
    outQ V (ix4 h g (row n i) d) = (((D.rows h g n i).dq d : ℝ) : EReal) := by
  have e1 (p : (row n i).val / 128 < 16) : (⟨(row n i).val / 128, p⟩ : Fin 16) = n := Cert.KernelIdeal.blk_row n i
  have e2 (p : (row n i).val % 128 < 128) : (⟨(row n i).val % 128, p⟩ : Fin 128) = i := Cert.KernelIdeal.off_row n i
  pointwise [outQ]
  simp only [e1, e2, v218 R, v7 R, v225 R, v22 R, ← EReal.coe_mul, coe_sum, ← EReal.coe_add]
  rw [← rows_dq]
  refine congrArg _ ?_
  unfold Row.dq
  rw [add_comm, add_mul, Finset.sum_mul, Finset.sum_mul]
  exact congr (congrArg _ (Finset.sum_congr rfl fun _ _ => mul_right_comm _ _ _)) (Finset.sum_congr rfl fun _ _ => mul_right_comm _ _ _)

theorem outK_apply (h : Fin 4) (j : Fin 16) (k : Fin 128) (d : Fin 64) :
    outK V (ix3 h (row j k) d) = ((D.kK h j k d : ℝ) : EReal) := by
  have e (p : 128 + (row j k).val < 2304) : (⟨128 + (row j k).val, p⟩ : Fin 2304)
      = ⟨(⟨j.val + 1, by omega⟩ : Fin 18).val * 128 + k.val, by have := j.isLt; show (j.val + 1) * 128 + k.val < 2304; omega⟩ :=
    Fin.ext (by show 128 + (j.val * 128 + k.val) = (j.val + 1) * 128 + k.val; omega)
  pointwise [outK]
  rw [e]
  unfold res_main_v252
  exact (overlap _ _ h d (fun n kk => v230 R n kk h d) j k).trans (congrArg _ (sum_kK D h j k d))

theorem outV_apply (h : Fin 4) (j : Fin 16) (k : Fin 128) (d : Fin 64) :
    outV V (ix3 h (row j k) d) = ((D.kV h j k d : ℝ) : EReal) := by
  have e (p : 128 + (row j k).val < 2304) : (⟨128 + (row j k).val, p⟩ : Fin 2304)
      = ⟨(⟨j.val + 1, by omega⟩ : Fin 18).val * 128 + k.val, by have := j.isLt; show (j.val + 1) * 128 + k.val < 2304; omega⟩ :=
    Fin.ext (by show 128 + (j.val * 128 + k.val) = (j.val + 1) * 128 + k.val; omega)
  pointwise [outV]
  rw [e]
  unfold res_main_v248
  exact (overlap _ _ h d (fun n kk => v166 R n kk h d) j k).trans (congrArg _ (sum_kV D h j k d))

theorem outKC_apply (h : Fin 4) (x : Fin 256) (d : Fin 64) :
    outKC V (ix3 h x d) = ((∑ n, D.cK h n x d : ℝ) : EReal) := by
  pointwise [outKC]
  rw [dotKC]
  simp only [v218 R, v27 R, ← EReal.coe_mul, coe_sum, sum_cK]

theorem outVC_apply (h : Fin 4) (x : Fin 256) (d : Fin 64) :
    outVC V (ix3 h x d) = ((∑ n, D.cV h n x d : ℝ) : EReal) := by
  pointwise [outVC]
  rw [dotVC]
  simp only [v153 R, v146 R, ← EReal.coe_mul, coe_sum, sum_cV]

theorem outS_apply (h g : Fin 4) : outS V (Cert.KernelIdeal.Fwd.sinkIdx h g) = ((∑ n, D.cS h n g : ℝ) : EReal) := by
  unfold outS
  refine (sinkSum _ _ _ h g (fun n i => v196 R n h g i)).trans ?_
  simp only [v177 R, coe_sum, rows_PS, rows_delta]
  rfl

end Cert.Ref

end
-- ==== Proof.Equation.lean ====
/- The reference's results are the kernel's. -/
module

public import proofs.«01_k».proof.Proof.RefOut

@[expose] public section

set_option maxRecDepth 16384

noncomputable section

namespace Cert.Ref

open Idealize.ShloMosaic Idealize.ShloMosaic.TcCoe Cert.ReferenceIdeal Cert.ReferenceIdeal.Gen Cert.ReferenceIdeal.Value
open Cert.KernelIdeal (Data arr_dq arr_dk arr_dv arr_dkc arr_dvc blk_row off_row)

variable {V : Valuation τ sig (Elt Ideal)} {D : Data} (R : Reads V D)

include R

theorem outQ_eq : outQ V = arr_dq D := by
  funext y
  obtain ⟨h, g, n, i, d, rfl⟩ := Cert.KernelIdeal.idx_Q y
  refine (outQ_apply R h g n i d).trans ?_
  show _ = (((D.rows h g (Cert.KernelIdeal.blk (Cert.KernelIdeal.Place.row n i)) (Cert.KernelIdeal.off (Cert.KernelIdeal.Place.row n i))).dq d : ℝ) : EReal)
  rw [blk_row, off_row]

theorem outK_eq : outK V = arr_dk D := by
  funext y
  obtain ⟨h, n, i, d, rfl⟩ := Cert.KernelIdeal.idx_K y
  refine (outK_apply R h n i d).trans ?_
  show _ = ((D.kK h (Cert.KernelIdeal.blk (Cert.KernelIdeal.Place.row n i)) (Cert.KernelIdeal.off (Cert.KernelIdeal.Place.row n i)) d : ℝ) : EReal)
  rw [blk_row, off_row]

theorem outV_eq : outV V = arr_dv D := by
  funext y
  obtain ⟨h, n, i, d, rfl⟩ := Cert.KernelIdeal.idx_K y
  refine (outV_apply R h n i d).trans ?_
  show _ = ((D.kV h (Cert.KernelIdeal.blk (Cert.KernelIdeal.Place.row n i)) (Cert.KernelIdeal.off (Cert.KernelIdeal.Place.row n i)) d : ℝ) : EReal)
  rw [blk_row, off_row]

theorem outKC_eq : outKC V = arr_dkc D := by
  funext y
  obtain ⟨h, x, d, rfl⟩ := Cert.KernelIdeal.idx_C y
  exact outKC_apply R h x d

theorem outVC_eq : outVC V = arr_dvc D := by
  funext y
  obtain ⟨h, x, d, rfl⟩ := Cert.KernelIdeal.idx_C y
  exact outVC_apply R h x d

omit R in
/-- Sixteen query heads are four of each key head. -/
theorem idx_H (y : S16.Idx) : ∃ h g : Fin 4, y = Cert.KernelIdeal.Fwd.sinkIdx h g := by
  have hy : (y 0).val < 16 := (y 0).isLt
  refine ⟨⟨(y 0).val / 4, by omega⟩, ⟨(y 0).val % 4, by omega⟩, funext fun a => match a with
    | ⟨0, _⟩ => Fin.ext (by show (y 0).val = 4 * ((y 0).val / 4) + (y 0).val % 4; omega)⟩

theorem outS_eq {X : Vec Ideal S16 .f32}
    (hX : ∀ h g, X (Cert.KernelIdeal.Fwd.sinkIdx h g) = ((∑ n, D.cS h n g : ℝ) : EReal)) : outS V = X := by
  funext y
  obtain ⟨h, g, rfl⟩ := idx_H y
  exact (outS_apply R h g).trans (hX h g).symm

omit R in
/-- The reference started from a device's arguments, all real, reads what the kernel reads. -/
theorem reads (m : (ℓ : Loc Cert.KernelIdeal.nD Cert.KernelIdeal.τ Cert.KernelIdeal.sig) → Buf (Elt Ideal) ℓ)
    (m' : (ℓ : Loc nD τ sig) → Buf (Elt Ideal) ℓ) (c : Dev Cert.KernelIdeal.nD) (hr : Cert.KernelIdeal.RealAt m c)
    (e0 : m' ((c.tc : Thread nD τ).loc main_arg0) = m ((c.tc : Thread Cert.KernelIdeal.nD Cert.KernelIdeal.τ).loc Cert.KernelIdeal.main_arg0))
    (e1 : m' ((c.tc : Thread nD τ).loc main_arg1) = m ((c.tc : Thread Cert.KernelIdeal.nD Cert.KernelIdeal.τ).loc Cert.KernelIdeal.main_arg1))
    (e2 : m' ((c.tc : Thread nD τ).loc main_arg2) = m ((c.tc : Thread Cert.KernelIdeal.nD Cert.KernelIdeal.τ).loc Cert.KernelIdeal.main_arg2))
    (e3 : m' ((c.tc : Thread nD τ).loc main_arg3) = m ((c.tc : Thread Cert.KernelIdeal.nD Cert.KernelIdeal.τ).loc Cert.KernelIdeal.main_arg3))
    (e4 : m' ((c.tc : Thread nD τ).loc main_arg4) = m ((c.tc : Thread Cert.KernelIdeal.nD Cert.KernelIdeal.τ).loc Cert.KernelIdeal.main_arg4))
    (e5 : m' ((c.tc : Thread nD τ).loc main_arg5) = m ((c.tc : Thread Cert.KernelIdeal.nD Cert.KernelIdeal.τ).loc Cert.KernelIdeal.main_arg5))
    (e6 : m' ((c.tc : Thread nD τ).loc main_arg6) = m ((c.tc : Thread Cert.KernelIdeal.nD Cert.KernelIdeal.τ).loc Cert.KernelIdeal.main_arg6)) :
    Reads (StableHlo.launchContents m' c) (Cert.KernelIdeal.dataOf m c) where
  q h g r d := (congrFun e0 _).trans (hr.q _)
  k h r d := (congrFun e1 _).trans (hr.k _)
  v h r d := (congrFun e2 _).trans (hr.v _)
  kc h r d := (congrFun e3 _).trans (hr.kc _)
  vc h r d := (congrFun e4 _).trans (hr.vc _)
  sk h g := (congrFun e5 _).trans (hr.sk _)
  dO h g r d := (congrFun e6 _).trans (hr.dO _)

end Cert.Ref

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Up
public import proofs.«01_k».proof.Proof.UpDw
public import proofs.«01_k».proof.Proof.UpDx
public import proofs.«01_k».proof.Proof.Down
public import proofs.«01_k».proof.Proof.DownDw
public import proofs.«01_k».proof.Proof.DownDx
public import proofs.«01_k».proof.Proof.UpFirst
public import proofs.«01_k».proof.Proof.UpFirstDw
public import proofs.«01_k».proof.Proof.UpFirstDx
public import proofs.«01_k».proof.Proof.DownFirst
public import proofs.«01_k».proof.Proof.DownFirstDw
public import proofs.«01_k».proof.Proof.DownFirstDx
public import proofs.«01_k».proof.Proof.CmIn
public import proofs.«01_k».proof.Proof.CmInDw
public import proofs.«01_k».proof.Proof.CmInDx
public import proofs.«01_k».proof.Proof.CmOut
public import proofs.«01_k».proof.Proof.CmOutDw
public import proofs.«01_k».proof.Proof.CmOutDx
public import proofs.«01_k».proof.Proof.CmInFirst
public import proofs.«01_k».proof.Proof.CmInFirstDw
public import proofs.«01_k».proof.Proof.CmInFirstDx
public import proofs.«01_k».proof.Proof.CmOutFirst
public import proofs.«01_k».proof.Proof.CmOutFirstDw
public import proofs.«01_k».proof.Proof.CmOutFirstDx
public import proofs.«01_k».proof.Proof.Qkv
public import proofs.«01_k».proof.Proof.QkvDw
public import proofs.«01_k».proof.Proof.QkvDx
public import proofs.«01_k».proof.Proof.GmIn
public import proofs.«01_k».proof.Proof.GmInDw
public import proofs.«01_k».proof.Proof.GmInDx
public import proofs.«01_k».proof.Proof.GmOut
public import proofs.«01_k».proof.Proof.GmOutDw
public import proofs.«01_k».proof.Proof.GmOutDx
public import proofs.«01_k».proof.Proof.AttnOutDx
public import proofs.«01_k».proof.Proof.Pre
public import proofs.«01_k».proof.Proof.Post
public import proofs.«01_k».proof.Proof.LnSilu
public import proofs.«01_k».proof.Proof.Gmlp
public import proofs.«01_k».proof.Proof.Rope
public import proofs.«01_k».proof.Proof.Ada
public import proofs.«01_k».proof.Proof.KRun
public import proofs.«01_k».proof.Proof.Finite
public import proofs.«01_k».proof.Proof.Equation
public import Idealize.ShloMosaic.Adequacy
public import Idealize.ShloMosaic.Init

@[expose] public section

noncomputable section

namespace Cert.Proof

open Idealize.ShloMosaic Idealize.SL.Sem

/-- The kernel's run, over bit patterns, leaves its arguments and all semaphores as they were. -/
theorem kernel_frame : Cert.quiescent_Kernel (hKernel := Cert.Kernel.Gen.facts) :=
  fun m g _ => Cert.Kernel.Gen.frame m g

/-- The same of the idealized kernel. -/
theorem kernelIdeal_frame : Cert.quiescent_KernelIdeal (hKernelIdeal := Cert.KernelIdeal.Gen.facts) :=
  fun m g _ => Cert.KernelIdeal.Gen.frame m g

/-- The same of the reference. -/
theorem reference_frame : Cert.quiescent_ReferenceIdeal (hReferenceIdeal := Cert.ReferenceIdeal.Gen.facts) :=
  fun m g _ => (θ_run _ _ _).mono
    (fun _ h => ⟨fun c => (h c).2.2.2.2.2.2, sem_eq_zero_of_no_sems (by decide) _⟩) (Cert.ReferenceIdeal.Value.run m g)

/-- The frames under the precondition are the frames. -/
theorem kernelIdeal_frame_finite : Cert.quiescent_KernelIdeal_pre_finite (hKernelIdeal := Cert.KernelIdeal.Gen.facts)
    (hPre_finite := Cert.KernelIdeal.finite_facts) :=
  fun m g _ => Cert.KernelIdeal.Gen.frame m g

theorem reference_frame_finite : Cert.quiescent_ReferenceIdeal_pre_finite (hReferenceIdeal := Cert.ReferenceIdeal.Gen.facts)
    (hPre_finite := Cert.KernelIdeal.finite_facts) :=
  fun m g _ => reference_frame m g trivial

/-- The mask's literal is the named constant, minus infinity over the reals. -/
theorem preserves : Cert.preserves_Kernel_KernelIdeal :=
  IdealRules.named_const.statement Cert.KernelIdeal.κ "mask" .f32 0xF149F2CA#32 ⊥ rfl

/-- Over the reals the kernel's six results are the reference's, whatever real arguments it starts from. -/
theorem algebraic : Cert.algebraic_KernelIdeal_ReferenceIdeal_pre_finite (hKernelIdeal := Cert.KernelIdeal.Gen.facts)
    (hReferenceIdeal := Cert.ReferenceIdeal.Gen.facts) (hPre_finite := Cert.KernelIdeal.finite_facts) := by
  intro m g m' g' hpre hargs
  have hr := Cert.KernelIdeal.real_of_pre m hpre
  have R (c : Dev Cert.KernelIdeal.nD) : Cert.Ref.Reads (StableHlo.launchContents m' c) (Cert.KernelIdeal.dataOf m c) := by
    obtain ⟨e0, e1, e2, e3, e4, e5, e6⟩ := hargs c
    exact Cert.Ref.reads m m' c (hr c) e0 e1 e2 e3 e4 e5 e6
  refine ⟨_, _, _, _, _, _, Cert.KernelIdeal.run m g,
    (θ_run _ _ _).mono (fun r h c => ?_) (Cert.ReferenceIdeal.Value.run m' g')⟩
  obtain ⟨h0, h1, h2, h3, h4, h5, ha⟩ := h c
  exact ⟨h0.trans ((Cert.Ref.outQ_eq (R c)).trans (Cert.KernelIdeal.end_dq (hr c)).symm),
    h1.trans ((Cert.Ref.outK_eq (R c)).trans (Cert.KernelIdeal.end_dk (hr c)).symm),
    h2.trans ((Cert.Ref.outV_eq (R c)).trans (Cert.KernelIdeal.end_dv (hr c)).symm),
    h3.trans ((Cert.Ref.outKC_eq (R c)).trans (Cert.KernelIdeal.end_dkc (hr c)).symm),
    h4.trans ((Cert.Ref.outVC_eq (R c)).trans (Cert.KernelIdeal.end_dvc (hr c)).symm),
    h5.trans (Cert.Ref.outS_eq (R c) (fun p q => Cert.KernelIdeal.end_dsk (hr c) p q)), ha⟩

/-- The attention's gradient, every product of the step, and the calls between the products: each with its frames and its
    equation with its reference. A call's frames say that it leaves its arguments and all semaphores as they were, over bit
    patterns and over the reals. -/
theorem claim : Cert.Claim :=
  ⟨Cert.Kernel.Gen.facts, Cert.KernelIdeal.Gen.facts, Cert.ReferenceIdeal.Gen.facts,
    Cert.KernelUp.Gen.facts, Cert.KernelUpIdeal.Gen.facts, Cert.ReferenceUpIdeal.Gen.facts,
    Cert.KernelUpDw.Gen.facts, Cert.KernelUpDwIdeal.Gen.facts, Cert.ReferenceUpDwIdeal.Gen.facts,
    Cert.KernelUpDx.Gen.facts, Cert.KernelUpDxIdeal.Gen.facts, Cert.ReferenceUpDxIdeal.Gen.facts,
    Cert.KernelDown.Gen.facts, Cert.KernelDownIdeal.Gen.facts, Cert.ReferenceDownIdeal.Gen.facts,
    Cert.KernelDownDw.Gen.facts, Cert.KernelDownDwIdeal.Gen.facts, Cert.ReferenceDownDwIdeal.Gen.facts,
    Cert.KernelDownDx.Gen.facts, Cert.KernelDownDxIdeal.Gen.facts, Cert.ReferenceDownDxIdeal.Gen.facts,
    Cert.KernelUpFirst.Gen.facts, Cert.KernelUpFirstIdeal.Gen.facts, Cert.ReferenceUpFirstIdeal.Gen.facts,
    Cert.KernelUpFirstDw.Gen.facts, Cert.KernelUpFirstDwIdeal.Gen.facts, Cert.ReferenceUpFirstDwIdeal.Gen.facts,
    Cert.KernelUpFirstDx.Gen.facts, Cert.KernelUpFirstDxIdeal.Gen.facts, Cert.ReferenceUpFirstDxIdeal.Gen.facts,
    Cert.KernelDownFirst.Gen.facts, Cert.KernelDownFirstIdeal.Gen.facts, Cert.ReferenceDownFirstIdeal.Gen.facts,
    Cert.KernelDownFirstDw.Gen.facts, Cert.KernelDownFirstDwIdeal.Gen.facts, Cert.ReferenceDownFirstDwIdeal.Gen.facts,
    Cert.KernelDownFirstDx.Gen.facts, Cert.KernelDownFirstDxIdeal.Gen.facts, Cert.ReferenceDownFirstDxIdeal.Gen.facts,
    Cert.KernelCmIn.Gen.facts, Cert.KernelCmInIdeal.Gen.facts, Cert.ReferenceCmInIdeal.Gen.facts,
    Cert.KernelCmInDw.Gen.facts, Cert.KernelCmInDwIdeal.Gen.facts, Cert.ReferenceCmInDwIdeal.Gen.facts,
    Cert.KernelCmInDx.Gen.facts, Cert.KernelCmInDxIdeal.Gen.facts, Cert.ReferenceCmInDxIdeal.Gen.facts,
    Cert.KernelCmOut.Gen.facts, Cert.KernelCmOutIdeal.Gen.facts, Cert.ReferenceCmOutIdeal.Gen.facts,
    Cert.KernelCmOutDw.Gen.facts, Cert.KernelCmOutDwIdeal.Gen.facts, Cert.ReferenceCmOutDwIdeal.Gen.facts,
    Cert.KernelCmOutDx.Gen.facts, Cert.KernelCmOutDxIdeal.Gen.facts, Cert.ReferenceCmOutDxIdeal.Gen.facts,
    Cert.KernelCmInFirst.Gen.facts, Cert.KernelCmInFirstIdeal.Gen.facts, Cert.ReferenceCmInFirstIdeal.Gen.facts,
    Cert.KernelCmInFirstDw.Gen.facts, Cert.KernelCmInFirstDwIdeal.Gen.facts, Cert.ReferenceCmInFirstDwIdeal.Gen.facts,
    Cert.KernelCmInFirstDx.Gen.facts, Cert.KernelCmInFirstDxIdeal.Gen.facts, Cert.ReferenceCmInFirstDxIdeal.Gen.facts,
    Cert.KernelCmOutFirst.Gen.facts, Cert.KernelCmOutFirstIdeal.Gen.facts, Cert.ReferenceCmOutFirstIdeal.Gen.facts,
    Cert.KernelCmOutFirstDw.Gen.facts, Cert.KernelCmOutFirstDwIdeal.Gen.facts, Cert.ReferenceCmOutFirstDwIdeal.Gen.facts,
    Cert.KernelCmOutFirstDx.Gen.facts, Cert.KernelCmOutFirstDxIdeal.Gen.facts, Cert.ReferenceCmOutFirstDxIdeal.Gen.facts,
    Cert.KernelQkv.Gen.facts, Cert.KernelQkvIdeal.Gen.facts, Cert.ReferenceQkvIdeal.Gen.facts,
    Cert.KernelQkvDw.Gen.facts, Cert.KernelQkvDwIdeal.Gen.facts, Cert.ReferenceQkvDwIdeal.Gen.facts,
    Cert.KernelQkvDx.Gen.facts, Cert.KernelQkvDxIdeal.Gen.facts, Cert.ReferenceQkvDxIdeal.Gen.facts,
    Cert.KernelGmIn.Gen.facts, Cert.KernelGmInIdeal.Gen.facts, Cert.ReferenceGmInIdeal.Gen.facts,
    Cert.KernelGmInDw.Gen.facts, Cert.KernelGmInDwIdeal.Gen.facts, Cert.ReferenceGmInDwIdeal.Gen.facts,
    Cert.KernelGmInDx.Gen.facts, Cert.KernelGmInDxIdeal.Gen.facts, Cert.ReferenceGmInDxIdeal.Gen.facts,
    Cert.KernelGmOut.Gen.facts, Cert.KernelGmOutIdeal.Gen.facts, Cert.ReferenceGmOutIdeal.Gen.facts,
    Cert.KernelGmOutDw.Gen.facts, Cert.KernelGmOutDwIdeal.Gen.facts, Cert.ReferenceGmOutDwIdeal.Gen.facts,
    Cert.KernelGmOutDx.Gen.facts, Cert.KernelGmOutDxIdeal.Gen.facts, Cert.ReferenceGmOutDxIdeal.Gen.facts,
    Cert.KernelAttnOutDx.Gen.facts, Cert.KernelAttnOutDxIdeal.Gen.facts, Cert.ReferenceAttnOutDxIdeal.Gen.facts,
    Cert.KernelPre.Gen.facts, Cert.KernelPreIdeal.Gen.facts, Cert.ReferencePreIdeal.Gen.facts,
    Cert.KernelPost.Gen.facts, Cert.KernelPostIdeal.Gen.facts, Cert.ReferencePostIdeal.Gen.facts,
    Cert.KernelLnSilu.Gen.facts, Cert.KernelLnSiluIdeal.Gen.facts, Cert.ReferenceLnSiluIdeal.Gen.facts,
    Cert.KernelGmlp.Gen.facts, Cert.KernelGmlpIdeal.Gen.facts, Cert.ReferenceGmlpIdeal.Gen.facts,
    Cert.KernelRope.Gen.facts, Cert.KernelRopeIdeal.Gen.facts, Cert.ReferenceRopeIdeal.Gen.facts,
    Cert.KernelAda.Gen.facts, Cert.KernelAdaIdeal.Gen.facts, Cert.ReferenceAdaIdeal.Gen.facts,
    Cert.KernelIdeal.finite_facts,
    kernel_frame, kernelIdeal_frame, kernelIdeal_frame_finite, reference_frame, reference_frame_finite,
    fun m g _ => Cert.KernelUp.Gen.frame m g, fun m g _ => Cert.KernelUpIdeal.Gen.frame m g, frame_ReferenceUpIdeal,
    fun m g _ => Cert.KernelUpDw.Gen.frame m g, fun m g _ => Cert.KernelUpDwIdeal.Gen.frame m g, frame_ReferenceUpDwIdeal,
    fun m g _ => Cert.KernelUpDx.Gen.frame m g, fun m g _ => Cert.KernelUpDxIdeal.Gen.frame m g, frame_ReferenceUpDxIdeal,
    fun m g _ => Cert.KernelDown.Gen.frame m g, fun m g _ => Cert.KernelDownIdeal.Gen.frame m g, frame_ReferenceDownIdeal,
    fun m g _ => Cert.KernelDownDw.Gen.frame m g, fun m g _ => Cert.KernelDownDwIdeal.Gen.frame m g, frame_ReferenceDownDwIdeal,
    fun m g _ => Cert.KernelDownDx.Gen.frame m g, fun m g _ => Cert.KernelDownDxIdeal.Gen.frame m g, frame_ReferenceDownDxIdeal,
    fun m g _ => Cert.KernelUpFirst.Gen.frame m g, fun m g _ => Cert.KernelUpFirstIdeal.Gen.frame m g, frame_ReferenceUpFirstIdeal,
    fun m g _ => Cert.KernelUpFirstDw.Gen.frame m g, fun m g _ => Cert.KernelUpFirstDwIdeal.Gen.frame m g, frame_ReferenceUpFirstDwIdeal,
    fun m g _ => Cert.KernelUpFirstDx.Gen.frame m g, fun m g _ => Cert.KernelUpFirstDxIdeal.Gen.frame m g, frame_ReferenceUpFirstDxIdeal,
    fun m g _ => Cert.KernelDownFirst.Gen.frame m g, fun m g _ => Cert.KernelDownFirstIdeal.Gen.frame m g, frame_ReferenceDownFirstIdeal,
    fun m g _ => Cert.KernelDownFirstDw.Gen.frame m g, fun m g _ => Cert.KernelDownFirstDwIdeal.Gen.frame m g, frame_ReferenceDownFirstDwIdeal,
    fun m g _ => Cert.KernelDownFirstDx.Gen.frame m g, fun m g _ => Cert.KernelDownFirstDxIdeal.Gen.frame m g, frame_ReferenceDownFirstDxIdeal,
    fun m g _ => Cert.KernelCmIn.Gen.frame m g, fun m g _ => Cert.KernelCmInIdeal.Gen.frame m g, frame_ReferenceCmInIdeal,
    fun m g _ => Cert.KernelCmInDw.Gen.frame m g, fun m g _ => Cert.KernelCmInDwIdeal.Gen.frame m g, frame_ReferenceCmInDwIdeal,
    fun m g _ => Cert.KernelCmInDx.Gen.frame m g, fun m g _ => Cert.KernelCmInDxIdeal.Gen.frame m g, frame_ReferenceCmInDxIdeal,
    fun m g _ => Cert.KernelCmOut.Gen.frame m g, fun m g _ => Cert.KernelCmOutIdeal.Gen.frame m g, frame_ReferenceCmOutIdeal,
    fun m g _ => Cert.KernelCmOutDw.Gen.frame m g, fun m g _ => Cert.KernelCmOutDwIdeal.Gen.frame m g, frame_ReferenceCmOutDwIdeal,
    fun m g _ => Cert.KernelCmOutDx.Gen.frame m g, fun m g _ => Cert.KernelCmOutDxIdeal.Gen.frame m g, frame_ReferenceCmOutDxIdeal,
    fun m g _ => Cert.KernelCmInFirst.Gen.frame m g, fun m g _ => Cert.KernelCmInFirstIdeal.Gen.frame m g, frame_ReferenceCmInFirstIdeal,
    fun m g _ => Cert.KernelCmInFirstDw.Gen.frame m g, fun m g _ => Cert.KernelCmInFirstDwIdeal.Gen.frame m g, frame_ReferenceCmInFirstDwIdeal,
    fun m g _ => Cert.KernelCmInFirstDx.Gen.frame m g, fun m g _ => Cert.KernelCmInFirstDxIdeal.Gen.frame m g, frame_ReferenceCmInFirstDxIdeal,
    fun m g _ => Cert.KernelCmOutFirst.Gen.frame m g, fun m g _ => Cert.KernelCmOutFirstIdeal.Gen.frame m g, frame_ReferenceCmOutFirstIdeal,
    fun m g _ => Cert.KernelCmOutFirstDw.Gen.frame m g, fun m g _ => Cert.KernelCmOutFirstDwIdeal.Gen.frame m g, frame_ReferenceCmOutFirstDwIdeal,
    fun m g _ => Cert.KernelCmOutFirstDx.Gen.frame m g, fun m g _ => Cert.KernelCmOutFirstDxIdeal.Gen.frame m g, frame_ReferenceCmOutFirstDxIdeal,
    fun m g _ => Cert.KernelQkv.Gen.frame m g, fun m g _ => Cert.KernelQkvIdeal.Gen.frame m g, frame_ReferenceQkvIdeal,
    fun m g _ => Cert.KernelQkvDw.Gen.frame m g, fun m g _ => Cert.KernelQkvDwIdeal.Gen.frame m g, frame_ReferenceQkvDwIdeal,
    fun m g _ => Cert.KernelQkvDx.Gen.frame m g, fun m g _ => Cert.KernelQkvDxIdeal.Gen.frame m g, frame_ReferenceQkvDxIdeal,
    fun m g _ => Cert.KernelGmIn.Gen.frame m g, fun m g _ => Cert.KernelGmInIdeal.Gen.frame m g, frame_ReferenceGmInIdeal,
    fun m g _ => Cert.KernelGmInDw.Gen.frame m g, fun m g _ => Cert.KernelGmInDwIdeal.Gen.frame m g, frame_ReferenceGmInDwIdeal,
    fun m g _ => Cert.KernelGmInDx.Gen.frame m g, fun m g _ => Cert.KernelGmInDxIdeal.Gen.frame m g, frame_ReferenceGmInDxIdeal,
    fun m g _ => Cert.KernelGmOut.Gen.frame m g, fun m g _ => Cert.KernelGmOutIdeal.Gen.frame m g, frame_ReferenceGmOutIdeal,
    fun m g _ => Cert.KernelGmOutDw.Gen.frame m g, fun m g _ => Cert.KernelGmOutDwIdeal.Gen.frame m g, frame_ReferenceGmOutDwIdeal,
    fun m g _ => Cert.KernelGmOutDx.Gen.frame m g, fun m g _ => Cert.KernelGmOutDxIdeal.Gen.frame m g, frame_ReferenceGmOutDxIdeal,
    fun m g _ => Cert.KernelAttnOutDx.Gen.frame m g, fun m g _ => Cert.KernelAttnOutDxIdeal.Gen.frame m g, frame_ReferenceAttnOutDxIdeal,
    fun m g _ => Cert.KernelPre.Gen.frame m g, fun m g _ => Cert.KernelPreIdeal.Gen.frame m g, frame_ReferencePreIdeal,
    fun m g _ => Cert.KernelPost.Gen.frame m g, fun m g _ => Cert.KernelPostIdeal.Gen.frame m g, frame_ReferencePostIdeal,
    fun m g _ => Cert.KernelLnSilu.Gen.frame m g, fun m g _ => Cert.KernelLnSiluIdeal.Gen.frame m g, frame_ReferenceLnSiluIdeal,
    fun m g _ => Cert.KernelGmlp.Gen.frame m g, fun m g _ => Cert.KernelGmlpIdeal.Gen.frame m g, frame_ReferenceGmlpIdeal,
    fun m g _ => Cert.KernelRope.Gen.frame m g, fun m g _ => Cert.KernelRopeIdeal.Gen.frame m g, frame_ReferenceRopeIdeal,
    fun m g _ => Cert.KernelAda.Gen.frame m g, fun m g _ => Cert.KernelAdaIdeal.Gen.frame m g, frame_ReferenceAdaIdeal,
    preserves, algebraic,
    trivial, algebraic_Up,
    trivial, algebraic_UpDw,
    trivial, algebraic_UpDx,
    trivial, algebraic_Down,
    trivial, algebraic_DownDw,
    trivial, algebraic_DownDx,
    trivial, algebraic_UpFirst,
    trivial, algebraic_UpFirstDw,
    trivial, algebraic_UpFirstDx,
    trivial, algebraic_DownFirst,
    trivial, algebraic_DownFirstDw,
    trivial, algebraic_DownFirstDx,
    trivial, algebraic_CmIn,
    trivial, algebraic_CmInDw,
    trivial, algebraic_CmInDx,
    trivial, algebraic_CmOut,
    trivial, algebraic_CmOutDw,
    trivial, algebraic_CmOutDx,
    trivial, algebraic_CmInFirst,
    trivial, algebraic_CmInFirstDw,
    trivial, algebraic_CmInFirstDx,
    trivial, algebraic_CmOutFirst,
    trivial, algebraic_CmOutFirstDw,
    trivial, algebraic_CmOutFirstDx,
    trivial, algebraic_Qkv,
    trivial, algebraic_QkvDw,
    trivial, algebraic_QkvDx,
    trivial, algebraic_GmIn,
    trivial, algebraic_GmInDw,
    trivial, algebraic_GmInDx,
    trivial, algebraic_GmOut,
    trivial, algebraic_GmOutDw,
    trivial, algebraic_GmOutDx,
    trivial, algebraic_AttnOutDx,
    trivial, algebraic_Pre,
    trivial, algebraic_Post,
    trivial, algebraic_LnSilu,
    trivial, algebraic_Gmlp,
    trivial, algebraic_Rope,
    trivial, algebraic_Ada⟩

end Cert.Proof

end
